-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S22x8960x1536 : Shape := ⟨3, ![22, 8960, 1536]⟩
abbrev S22x1536x16 : Shape := ⟨3, ![22, 1536, 16]⟩
abbrev S22x16 : Shape := ⟨2, ![22, 16]⟩
abbrev S22x16x1536 : Shape := ⟨3, ![22, 16, 1536]⟩
abbrev S16x22 : Shape := ⟨2, ![16, 22]⟩
abbrev S22x16x8960 : Shape := ⟨3, ![22, 16, 8960]⟩
abbrev S1x16x8960 : Shape := ⟨3, ![1, 16, 8960]⟩
abbrev S1x16x1536 : Shape := ⟨3, ![1, 16, 1536]⟩
abbrev S2x8960x1536 : Shape := ⟨3, ![2, 8960, 1536]⟩
abbrev S6x256x1536 : Shape := ⟨3, ![6, 256, 1536]⟩
abbrev S16x1536 : Shape := ⟨2, ![16, 1536]⟩
abbrev S35x16x256 : Shape := ⟨3, ![35, 16, 256]⟩
abbrev S6 : Shape := ⟨1, ![6]⟩
abbrev S35 : Shape := ⟨1, ![35]⟩
abbrev S16 : Shape := ⟨1, ![16]⟩
abbrev S16x1 : Shape := ⟨2, ![16, 1]⟩
abbrev S1 : Shape := ⟨1, ![1]⟩
abbrev S_ : Shape := ⟨0, ![]⟩
abbrev S1x256x1536 : Shape := ⟨3, ![1, 256, 1536]⟩
abbrev S256x1536 : Shape := ⟨2, ![256, 1536]⟩
abbrev S16x256 : Shape := ⟨2, ![16, 256]⟩
abbrev S1x16x256 : Shape := ⟨3, ![1, 16, 256]⟩
abbrev S16x16 : Shape := ⟨2, ![16, 16]⟩
abbrev S16x128 : Shape := ⟨2, ![16, 128]⟩
abbrev S1x128 : Shape := ⟨2, ![1, 128]⟩
abbrev S22x8960x16 : Shape := ⟨3, ![22, 8960, 16]⟩

abbrev nBuf : Space → Nat
  | .hbm => 17
  | .vmem => 17
  | .smem => 0
  | _ => 0

abbrev bufTy : (tb : Table) → Fin (tcTables nBuf tb) → BufTy
  | .hbm, ⟨0, _⟩ => ⟨S22x8960x1536, .bf16⟩
  | .hbm, ⟨1, _⟩ => ⟨S22x8960x1536, .bf16⟩
  | .hbm, ⟨2, _⟩ => ⟨S22x1536x16, .i8⟩
  | .hbm, ⟨3, _⟩ => ⟨S22x16, .f32⟩
  | .hbm, ⟨4, _⟩ => ⟨S22x16x1536, .i8⟩
  | .hbm, ⟨5, _⟩ => ⟨S16x22, .f32⟩
  | .hbm, ⟨6, _⟩ => ⟨S22x8960x1536, .bf16⟩
  | .hbm, ⟨7, _⟩ => ⟨S22x16x8960, .f32⟩
  | .hbm, ⟨8, _⟩ => ⟨S22x16x8960, .i8⟩
  | .hbm, ⟨9, _⟩ => ⟨S16x22, .f32⟩
  | .hbm, ⟨10, _⟩ => ⟨S22x16x1536, .i8⟩
  | .hbm, ⟨11, _⟩ => ⟨S16x22, .f32⟩
  | .hbm, ⟨12, _⟩ => ⟨S22x8960x16, .f32⟩
  | .hbm, ⟨13, _⟩ => ⟨S22x8960x16, .i8⟩
  | .hbm, ⟨14, _⟩ => ⟨S22x16, .f32⟩
  | .hbm, ⟨15, _⟩ => ⟨S22x1536x16, .i8⟩
  | .hbm, ⟨16, _⟩ => ⟨S22x16, .f32⟩
  | .local _ .vmem, ⟨0, _⟩ => ⟨S22x16x1536, .i8⟩
  | .local _ .vmem, ⟨1, _⟩ => ⟨S16x22, .f32⟩
  | .local _ .vmem, ⟨2, _⟩ => ⟨S1x16x8960, .f32⟩
  | .local _ .vmem, ⟨3, _⟩ => ⟨S1x16x8960, .f32⟩
  | .local _ .vmem, ⟨4, _⟩ => ⟨S1x16x8960, .i8⟩
  | .local _ .vmem, ⟨5, _⟩ => ⟨S1x16x8960, .i8⟩
  | .local _ .vmem, ⟨6, _⟩ => ⟨S16x22, .f32⟩
  | .local _ .vmem, ⟨7, _⟩ => ⟨S1x16x1536, .i8⟩
  | .local _ .vmem, ⟨8, _⟩ => ⟨S1x16x1536, .i8⟩
  | .local _ .vmem, ⟨9, _⟩ => ⟨S16x22, .f32⟩
  | .local _ .vmem, ⟨10, _⟩ => ⟨S2x8960x1536, .bf16⟩
  | .local _ .vmem, ⟨11, _⟩ => ⟨S6x256x1536, .bf16⟩
  | .local _ .vmem, ⟨12, _⟩ => ⟨S16x1536, .bf16⟩
  | .local _ .vmem, ⟨13, _⟩ => ⟨S35x16x256, .f32⟩
  | .local _ .vmem, ⟨14, _⟩ => ⟨S35x16x256, .f32⟩
  | .local _ .vmem, ⟨15, _⟩ => ⟨S35x16x256, .bf16⟩
  | .local _ .vmem, ⟨16, _⟩ => ⟨S35x16x256, .bf16⟩
  | _, _ => ⟨S22x8960x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_mult1 : BitVec 32 :=
  let c0_i32_178 : BitVec 32 := 0#32
  c0_i32_178
def k0_mult2 : BitVec 32 :=
  let c0_i32_179 : BitVec 32 := 0#32
  c0_i32_179
def k0_off1 (c0_i32_180 : BitVec 32) : Fin 1 → Nat :=
  let c6_i32_181 : BitVec 32 := 6#32
  let v1775 : BitVec 32 := Scalar.remsi c0_i32_180 c6_i32_181
  ![v1775.toNat]
def k0_mult3 : BitVec 32 :=
  let c0_i32_186 : BitVec 32 := 0#32
  c0_i32_186
def k0_off2 (c0_i32_187 : BitVec 32) : Fin 3 → Nat :=
  let c6_i32_188 : BitVec 32 := 6#32
  let v1783 : BitVec 32 := Scalar.remsi c0_i32_187 c6_i32_188
  let c0_i32_192 : BitVec 32 := 0#32
  let c0_i32_193 : BitVec 32 := 0#32
  ![v1783.toNat, 0, 0]
def k0_mult4 : BitVec 32 :=
  let c256_i32 : BitVec 32 := 256#32
  c256_i32
def k0_mult5 : BitVec 32 :=
  let c256_i32_195 : BitVec 32 := 256#32
  c256_i32_195
def k0_mult6 : BitVec 32 :=
  let c256_i32_202 : BitVec 32 := 256#32
  c256_i32_202
def k0_mult7 : BitVec 32 :=
  let c512_i32 : BitVec 32 := 512#32
  c512_i32
def k0_mult8 : BitVec 32 :=
  let c512_i32_211 : BitVec 32 := 512#32
  c512_i32_211
def k0_mult9 : BitVec 32 :=
  let c512_i32_218 : BitVec 32 := 512#32
  c512_i32_218
def k0_mult10 : BitVec 32 :=
  let c768_i32 : BitVec 32 := 768#32
  c768_i32
def k0_mult11 : BitVec 32 :=
  let c768_i32_227 : BitVec 32 := 768#32
  c768_i32_227
def k0_mult12 : BitVec 32 :=
  let c768_i32_234 : BitVec 32 := 768#32
  c768_i32_234
def k0_mult13 : BitVec 32 :=
  let c1024_i32 : BitVec 32 := 1024#32
  c1024_i32
def k0_mult14 : BitVec 32 :=
  let c1024_i32_243 : BitVec 32 := 1024#32
  c1024_i32_243
def k0_mult15 : BitVec 32 :=
  let c1024_i32_250 : BitVec 32 := 1024#32
  c1024_i32_250
def k0_mult16 : BitVec 32 :=
  let c1280_i32 : BitVec 32 := 1280#32
  c1280_i32
def k0_mult17 : BitVec 32 :=
  let c1280_i32_259 : BitVec 32 := 1280#32
  c1280_i32_259
def k0_mult18 : BitVec 32 :=
  let c1280_i32_266 : BitVec 32 := 1280#32
  c1280_i32_266
@[reducible] def k0_t1_loop : Scf.Loop 32 :=
  let c0_i32_275 : BitVec 32 := 0#32
  let c35_i32_276 : BitVec 32 := 35#32
  let v1881 : BitVec 32 := Scalar.addi c0_i32_275 c35_i32_276
  let c1_i32_277 : BitVec 32 := 1#32
  ⟨c0_i32_275, v1881, c1_i32_277⟩
def k0_mult19 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c256_i32_381 : BitVec 32 := 256#32
  let v1990 : BitVec 32 := Scalar.muli arg21 c256_i32_381
  v1990
def k0_mult20 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c256_i32_382 : BitVec 32 := 256#32
  let v1992 : BitVec 32 := Scalar.muli arg21 c256_i32_382
  v1992
def k0_off3 (k0_t1 : Fin k0_t1_loop.trips) : Fin 1 → Nat :=
  let c0_i32_275 : BitVec 32 := 0#32
  let c1_i32_277 : BitVec 32 := 1#32
  let arg21 : BitVec 32 := Scf.iv c0_i32_275 c1_i32_277 k0_t1
  let c6_i32_383 : BitVec 32 := 6#32
  let v1994 : BitVec 32 := Scalar.remsi arg21 c6_i32_383
  ![v1994.toNat]
def k0_off4 (k0_t1 : Fin k0_t1_loop.trips) : Fin 3 → Nat :=
  let c0_i32_385 : BitVec 32 := 0#32
  let c0_i32_275 : BitVec 32 := 0#32
  let c1_i32_277 : BitVec 32 := 1#32
  let arg21 : BitVec 32 := Scf.iv c0_i32_275 c1_i32_277 k0_t1
  let c256_i32_382 : BitVec 32 := 256#32
  let v1992 : BitVec 32 := Scalar.muli arg21 c256_i32_382
  let v1993 : BitVec 32 := v1992
  let c0_i32_386 : BitVec 32 := 0#32
  ![0, v1993.toNat, 0]
def k0_off5 (k0_t1 : Fin k0_t1_loop.trips) : Fin 3 → Nat :=
  let c0_i32_384 : BitVec 32 := 0#32
  let c0_i32_275 : BitVec 32 := 0#32
  let c1_i32_277 : BitVec 32 := 1#32
  let arg21 : BitVec 32 := Scf.iv c0_i32_275 c1_i32_277 k0_t1
  let c256_i32_381 : BitVec 32 := 256#32
  let v1990 : BitVec 32 := Scalar.muli arg21 c256_i32_381
  let v1991 : BitVec 32 := v1990
  let c0_i32_387 : BitVec 32 := 0#32
  ![0, v1991.toNat, 0]
def k0_mult21 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c256_i32_388 : BitVec 32 := 256#32
  let v2001 : BitVec 32 := Scalar.muli arg21 c256_i32_388
  v2001
def k0_off6 (k0_t1 : Fin k0_t1_loop.trips) : Fin 3 → Nat :=
  let c0_i32_275 : BitVec 32 := 0#32
  let c1_i32_277 : BitVec 32 := 1#32
  let arg21 : BitVec 32 := Scf.iv c0_i32_275 c1_i32_277 k0_t1
  let c6_i32_389 : BitVec 32 := 6#32
  let v2003 : BitVec 32 := Scalar.remsi arg21 c6_i32_389
  let c0_i32_392 : BitVec 32 := 0#32
  let c0_i32_393 : BitVec 32 := 0#32
  ![v2003.toNat, 0, 0]
def k0_mult22 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c256_i32_395 : BitVec 32 := 256#32
  let v2011 : BitVec 32 := Scalar.muli arg21 c256_i32_395
  v2011
def k0_off7 (k0_t1 : Fin k0_t1_loop.trips) : Fin 3 → Nat :=
  let c0_396 : Index := 0#32
  let c0_i32_275 : BitVec 32 := 0#32
  let c1_i32_277 : BitVec 32 := 1#32
  let arg21 : BitVec 32 := Scf.iv c0_i32_275 c1_i32_277 k0_t1
  let c256_i32_395 : BitVec 32 := 256#32
  let v2011 : BitVec 32 := Scalar.muli arg21 c256_i32_395
  let v2012 : BitVec 32 := v2011
  let v2013 : Index := Scalar.indexCast v2012
  let c0_397 : Index := 0#32
  ![0, v2013.toNat, 0]
def k0_off8 (k0_t1 : Fin k0_t1_loop.trips) : Fin 3 → Nat :=
  let c0_i32_275 : BitVec 32 := 0#32
  let c1_i32_277 : BitVec 32 := 1#32
  let arg21 : BitVec 32 := Scf.iv c0_i32_275 c1_i32_277 k0_t1
  let c6_i32_398 : BitVec 32 := 6#32
  let v2016 : BitVec 32 := Scalar.remsi arg21 c6_i32_398
  let v2017 : Index := Scalar.indexCast v2016
  let c0_399 : Index := 0#32
  let c0_400 : Index := 0#32
  ![v2017.toNat, 0, 0]
def k0_mult23 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c256_i32_401 : BitVec 32 := 256#32
  let v2021 : BitVec 32 := Scalar.muli arg21 c256_i32_401
  v2021
def k0_off9 (k0_t1 : Fin k0_t1_loop.trips) : Fin 3 → Nat :=
  let c0_i32_275 : BitVec 32 := 0#32
  let c1_i32_277 : BitVec 32 := 1#32
  let arg21 : BitVec 32 := Scf.iv c0_i32_275 c1_i32_277 k0_t1
  let v2031 : Index := Scalar.indexCast arg21
  let c0_407 : Index := 0#32
  let c0_408 : Index := 0#32
  ![v2031.toNat, 0, 0]
def k0_cond2 (k0_t1 : Fin k0_t1_loop.trips) : BitVec 1 :=
  let c0_i32_275 : BitVec 32 := 0#32
  let c1_i32_277 : BitVec 32 := 1#32
  let arg21 : BitVec 32 := Scf.iv c0_i32_275 c1_i32_277 k0_t1
  let c6_i32_409 : BitVec 32 := 6#32
  let v2035 : BitVec 32 := Scalar.addi arg21 c6_i32_409
  let c35_i32_410 : BitVec 32 := 35#32
  let v2036 : BitVec 1 := Scalar.cmpi .slt v2035 c35_i32_410
  let v2037 : BitVec 32 := Scalar.extui v2036
  let c0_i32_411 : BitVec 32 := 0#32
  let v2038 : BitVec 1 := Scalar.cmpi .ne v2037 c0_i32_411
  v2038

def k0_mult24 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c6_i32_412 : BitVec 32 := 6#32
  let v2039 : BitVec 32 := Scalar.addi arg21 c6_i32_412
  let c256_i32_413 : BitVec 32 := 256#32
  let v2040 : BitVec 32 := Scalar.muli v2039 c256_i32_413
  v2040
def k0_mult25 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c6_i32_412 : BitVec 32 := 6#32
  let v2039 : BitVec 32 := Scalar.addi arg21 c6_i32_412
  let c256_i32_414 : BitVec 32 := 256#32
  let v2042 : BitVec 32 := Scalar.muli v2039 c256_i32_414
  v2042
def k0_off10 (k0_t1 : Fin k0_t1_loop.trips) : Fin 1 → Nat :=
  let c0_i32_275 : BitVec 32 := 0#32
  let c1_i32_277 : BitVec 32 := 1#32
  let arg21 : BitVec 32 := Scf.iv c0_i32_275 c1_i32_277 k0_t1
  let c6_i32_412 : BitVec 32 := 6#32
  let v2039 : BitVec 32 := Scalar.addi arg21 c6_i32_412
  let c6_i32_415 : BitVec 32 := 6#32
  let v2044 : BitVec 32 := Scalar.remsi v2039 c6_i32_415
  ![v2044.toNat]
def k0_off11 (k0_t1 : Fin k0_t1_loop.trips) : Fin 3 → Nat :=
  let c0_i32_417 : BitVec 32 := 0#32
  let c0_i32_275 : BitVec 32 := 0#32
  let c1_i32_277 : BitVec 32 := 1#32
  let arg21 : BitVec 32 := Scf.iv c0_i32_275 c1_i32_277 k0_t1
  let c6_i32_412 : BitVec 32 := 6#32
  let v2039 : BitVec 32 := Scalar.addi arg21 c6_i32_412
  let c256_i32_414 : BitVec 32 := 256#32
  let v2042 : BitVec 32 := Scalar.muli v2039 c256_i32_414
  let v2043 : BitVec 32 := v2042
  let c0_i32_418 : BitVec 32 := 0#32
  ![0, v2043.toNat, 0]
def k0_off12 (k0_t1 : Fin k0_t1_loop.trips) : Fin 3 → Nat :=
  let c0_i32_416 : BitVec 32 := 0#32
  let c0_i32_275 : BitVec 32 := 0#32
  let c1_i32_277 : BitVec 32 := 1#32
  let arg21 : BitVec 32 := Scf.iv c0_i32_275 c1_i32_277 k0_t1
  let c6_i32_412 : BitVec 32 := 6#32
  let v2039 : BitVec 32 := Scalar.addi arg21 c6_i32_412
  let c256_i32_413 : BitVec 32 := 256#32
  let v2040 : BitVec 32 := Scalar.muli v2039 c256_i32_413
  let v2041 : BitVec 32 := v2040
  let c0_i32_419 : BitVec 32 := 0#32
  ![0, v2041.toNat, 0]
def k0_mult26 (k0_t1 : Fin k0_t1_loop.trips) : BitVec 32 :=
  let c0_i32_275 : BitVec 32 := 0#32
  let c1_i32_277 : BitVec 32 := 1#32
  let arg21 : BitVec 32 := Scf.iv c0_i32_275 c1_i32_277 k0_t1
  let c6_i32_412 : BitVec 32 := 6#32
  let v2039 : BitVec 32 := Scalar.addi arg21 c6_i32_412
  let c256_i32_420 : BitVec 32 := 256#32
  let v2051 : BitVec 32 := Scalar.muli v2039 c256_i32_420
  v2051
def k0_off13 (k0_t1 : Fin k0_t1_loop.trips) : Fin 3 → Nat :=
  let c0_i32_275 : BitVec 32 := 0#32
  let c1_i32_277 : BitVec 32 := 1#32
  let arg21 : BitVec 32 := Scf.iv c0_i32_275 c1_i32_277 k0_t1
  let c6_i32_412 : BitVec 32 := 6#32
  let v2039 : BitVec 32 := Scalar.addi arg21 c6_i32_412
  let c6_i32_421 : BitVec 32 := 6#32
  let v2053 : BitVec 32 := Scalar.remsi v2039 c6_i32_421
  let c0_i32_424 : BitVec 32 := 0#32
  let c0_i32_425 : BitVec 32 := 0#32
  ![v2053.toNat, 0, 0]
def k0_mult27 : BitVec 32 :=
  let c0_i32_279 : BitVec 32 := 0#32
  c0_i32_279
def k0_mult28 : BitVec 32 :=
  let c0_i32_280 : BitVec 32 := 0#32
  c0_i32_280
def k0_mult29 : BitVec 32 :=
  let c0_i32_287 : BitVec 32 := 0#32
  c0_i32_287
def k0_mult30 : BitVec 32 :=
  let c256_i32_296 : BitVec 32 := 256#32
  c256_i32_296
def k0_mult31 : BitVec 32 :=
  let c256_i32_297 : BitVec 32 := 256#32
  c256_i32_297
def k0_mult32 : BitVec 32 :=
  let c256_i32_304 : BitVec 32 := 256#32
  c256_i32_304
def k0_mult33 : BitVec 32 :=
  let c512_i32_313 : BitVec 32 := 512#32
  c512_i32_313
def k0_mult34 : BitVec 32 :=
  let c512_i32_314 : BitVec 32 := 512#32
  c512_i32_314
def k0_mult35 : BitVec 32 :=
  let c512_i32_321 : BitVec 32 := 512#32
  c512_i32_321
def k0_mult36 : BitVec 32 :=
  let c768_i32_330 : BitVec 32 := 768#32
  c768_i32_330
def k0_mult37 : BitVec 32 :=
  let c768_i32_331 : BitVec 32 := 768#32
  c768_i32_331
def k0_mult38 : BitVec 32 :=
  let c768_i32_338 : BitVec 32 := 768#32
  c768_i32_338
def k0_mult39 : BitVec 32 :=
  let c1024_i32_347 : BitVec 32 := 1024#32
  c1024_i32_347
def k0_mult40 : BitVec 32 :=
  let c1024_i32_348 : BitVec 32 := 1024#32
  c1024_i32_348
def k0_mult41 : BitVec 32 :=
  let c1024_i32_355 : BitVec 32 := 1024#32
  c1024_i32_355
def k0_mult42 : BitVec 32 :=
  let c1280_i32_364 : BitVec 32 := 1280#32
  c1280_i32_364
def k0_mult43 : BitVec 32 :=
  let c1280_i32_365 : BitVec 32 := 1280#32
  c1280_i32_365
def k0_mult44 : BitVec 32 :=
  let c1280_i32_372 : BitVec 32 := 1280#32
  c1280_i32_372
@[reducible] def k0_t2_loop : Scf.Loop 32 :=
  let c0_i32_2 : BitVec 32 := 0#32
  let c35_i32 : BitVec 32 := 35#32
  let v8 : BitVec 32 := Scalar.addi c0_i32_2 c35_i32
  let c1_i32_3 : BitVec 32 := 1#32
  ⟨c0_i32_2, v8, c1_i32_3⟩
def k0_off14 (k0_t2 : Fin k0_t2_loop.trips) : Fin 3 → Nat :=
  let c0_i32_2 : BitVec 32 := 0#32
  let c1_i32_3 : BitVec 32 := 1#32
  let arg21 : BitVec 32 := Scf.iv c0_i32_2 c1_i32_3 k0_t2
  let v1758 : Index := Scalar.indexCast arg21
  let c0_168 : Index := 0#32
  let c0_169 : Index := 0#32
  ![v1758.toNat, 0, 0]
def k0_mult45 (k0_t2 : Fin k0_t2_loop.trips) : BitVec 32 :=
  let c0_i32_2 : BitVec 32 := 0#32
  let c1_i32_3 : BitVec 32 := 1#32
  let arg21 : BitVec 32 := Scf.iv c0_i32_2 c1_i32_3 k0_t2
  let c256_i32 : BitVec 32 := 256#32
  let v1761 : BitVec 32 := Scalar.muli arg21 c256_i32
  v1761
def k0_off15 (k0_t2 : Fin k0_t2_loop.trips) : Fin 3 → Nat :=
  let c0_170 : Index := 0#32
  let c0_171 : Index := 0#32
  let c0_i32_2 : BitVec 32 := 0#32
  let c1_i32_3 : BitVec 32 := 1#32
  let arg21 : BitVec 32 := Scf.iv c0_i32_2 c1_i32_3 k0_t2
  let c256_i32 : BitVec 32 := 256#32
  let v1761 : BitVec 32 := Scalar.muli arg21 c256_i32
  let v1762 : BitVec 32 := v1761
  let v1763 : Index := Scalar.indexCast v1762
  ![0, 0, v1763.toNat]
@[reducible] def k0_t3_loop : Scf.Loop 32 :=
  let c0_i32_5 : BitVec 32 := 0#32
  let c35_i32_6 : BitVec 32 := 35#32
  let v10 : BitVec 32 := Scalar.addi c0_i32_5 c35_i32_6
  let c1_i32_7 : BitVec 32 := 1#32
  ⟨c0_i32_5, v10, c1_i32_7⟩
def k0_off16 (k0_t3 : Fin k0_t3_loop.trips) : Fin 3 → Nat :=
  let c0_i32_5 : BitVec 32 := 0#32
  let c1_i32_7 : BitVec 32 := 1#32
  let arg21 : BitVec 32 := Scf.iv c0_i32_5 c1_i32_7 k0_t3
  let v1758 : Index := Scalar.indexCast arg21
  let c0_168 : Index := 0#32
  let c0_169 : Index := 0#32
  ![v1758.toNat, 0, 0]
@[reducible] def k0_t4_loop : Scf.Loop 32 :=
  let c0_i32_46 : BitVec 32 := 0#32
  let c35_i32_47 : BitVec 32 := 35#32
  let v835 : BitVec 32 := Scalar.addi c0_i32_46 c35_i32_47
  let c1_i32_48 : BitVec 32 := 1#32
  ⟨c0_i32_46, v835, c1_i32_48⟩
def k0_off17 (k0_t4 : Fin k0_t4_loop.trips) : Fin 3 → Nat :=
  let c0_i32_46 : BitVec 32 := 0#32
  let c1_i32_48 : BitVec 32 := 1#32
  let arg21 : BitVec 32 := Scf.iv c0_i32_46 c1_i32_48 k0_t4
  let v1758 : Index := Scalar.indexCast arg21
  let c0_168 : Index := 0#32
  let c0_169 : Index := 0#32
  ![v1758.toNat, 0, 0]
def k0_off18 (i : grid0.Coords) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let v836 : Index := Scalar.indexCast v7
  let c0 : Index := 0#32
  let c0_50 : Index := 0#32
  ![v836.toNat, 0, 0]
@[reducible] def k0_t5_loop : Scf.Loop 32 :=
  let c0_i32_58 : BitVec 32 := 0#32
  let c7_i32_59 : BitVec 32 := 7#32
  let v853 : BitVec 32 := Scalar.addi c0_i32_58 c7_i32_59
  let c1_i32_60 : BitVec 32 := 1#32
  ⟨c0_i32_58, v853, c1_i32_60⟩
def k0_cond3 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v1759 : BitVec 32 := Scalar.extui v6
  let c0_i32_169 : BitVec 32 := 0#32
  let v1760 : BitVec 1 := Scalar.cmpi .ne v1759 c0_i32_169
  v1760

def k0_mult46 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c256_i32_233 : BitVec 32 := 256#32
  let v1886 : BitVec 32 := Scalar.muli v1885 c256_i32_233
  v1886
def k0_mult47 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c256_i32_234 : BitVec 32 := 256#32
  let v1888 : BitVec 32 := Scalar.muli v1885 c256_i32_234
  v1888
def k0_off19 (k0_t5 : Fin k0_t5_loop.trips) (c0_i32_232 : BitVec 32) : Fin 1 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1885 : BitVec 32 := Scalar.addi v1758 c0_i32_232
  let c6_i32_235 : BitVec 32 := 6#32
  let v1890 : BitVec 32 := Scalar.remsi v1885 c6_i32_235
  ![v1890.toNat]
def k0_off20 (i : grid0.Coords) (k0_t5 : Fin k0_t5_loop.trips) (c0_i32_232 : BitVec 32) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1885 : BitVec 32 := Scalar.addi v1758 c0_i32_232
  let c256_i32_234 : BitVec 32 := 256#32
  let v1888 : BitVec 32 := Scalar.muli v1885 c256_i32_234
  let v1889 : BitVec 32 := v1888
  let c0_i32_236 : BitVec 32 := 0#32
  ![v1.toNat, v1889.toNat, 0]
def k0_off21 (i : grid0.Coords) (k0_t5 : Fin k0_t5_loop.trips) (c0_i32_232 : BitVec 32) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1885 : BitVec 32 := Scalar.addi v1758 c0_i32_232
  let c256_i32_233 : BitVec 32 := 256#32
  let v1886 : BitVec 32 := Scalar.muli v1885 c256_i32_233
  let v1887 : BitVec 32 := v1886
  let c0_i32_237 : BitVec 32 := 0#32
  ![v7.toNat, v1887.toNat, 0]
def k0_mult48 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c256_i32_238 : BitVec 32 := 256#32
  let v1897 : BitVec 32 := Scalar.muli v1885 c256_i32_238
  v1897
def k0_off22 (k0_t5 : Fin k0_t5_loop.trips) (c0_i32_232 : BitVec 32) : Fin 3 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1885 : BitVec 32 := Scalar.addi v1758 c0_i32_232
  let c6_i32_239 : BitVec 32 := 6#32
  let v1899 : BitVec 32 := Scalar.remsi v1885 c6_i32_239
  let c0_i32_241 : BitVec 32 := 0#32
  let c0_i32_242 : BitVec 32 := 0#32
  ![v1899.toNat, 0, 0]
def k0_mult49 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_244 : BitVec 32 := 1#32
  let v1907 : BitVec 32 := Scalar.addi v1758 c1_i32_244
  let c256_i32_245 : BitVec 32 := 256#32
  let v1908 : BitVec 32 := Scalar.muli v1907 c256_i32_245
  v1908
def k0_mult50 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_244 : BitVec 32 := 1#32
  let v1907 : BitVec 32 := Scalar.addi v1758 c1_i32_244
  let c256_i32_246 : BitVec 32 := 256#32
  let v1910 : BitVec 32 := Scalar.muli v1907 c256_i32_246
  v1910
def k0_mult51 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_244 : BitVec 32 := 1#32
  let v1907 : BitVec 32 := Scalar.addi v1758 c1_i32_244
  let c256_i32_250 : BitVec 32 := 256#32
  let v1919 : BitVec 32 := Scalar.muli v1907 c256_i32_250
  v1919
def k0_cond4 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v_true : BitVec 1 := 1#1
  let v1761 : BitVec 1 := Scalar.xori v6 v_true
  let v1762 : BitVec 32 := Scalar.extui v1761
  let c0_i32_170 : BitVec 32 := 0#32
  let v1763 : BitVec 1 := Scalar.cmpi .ne v1762 c0_i32_170
  v1763

def k0_mult52 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_233 : BitVec 32 := 0#32
  let v1886 : BitVec 32 := Scalar.addi v1758 c0_i32_233
  let c256_i32_234 : BitVec 32 := 256#32
  let v1887 : BitVec 32 := Scalar.muli v1886 c256_i32_234
  v1887
def k0_mult53 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_233 : BitVec 32 := 0#32
  let v1886 : BitVec 32 := Scalar.addi v1758 c0_i32_233
  let c256_i32_235 : BitVec 32 := 256#32
  let v1889 : BitVec 32 := Scalar.muli v1886 c256_i32_235
  v1889
def k0_off23 (k0_t5 : Fin k0_t5_loop.trips) (c0_i32_233 : BitVec 32) : Fin 1 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1886 : BitVec 32 := Scalar.addi v1758 c0_i32_233
  ![v1886.toNat]
def k0_off24 (i : grid0.Coords) (k0_t5 : Fin k0_t5_loop.trips) (c0_i32_233 : BitVec 32) : Fin 3 → Nat :=
  let arg0 : BitVec 32 := BitVec.ofNat 32 (i 0).val
  let c1_i32_232 : BitVec 32 := 1#32
  let v1885 : BitVec 32 := Scalar.subi arg0 c1_i32_232
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1886 : BitVec 32 := Scalar.addi v1758 c0_i32_233
  let c256_i32_235 : BitVec 32 := 256#32
  let v1889 : BitVec 32 := Scalar.muli v1886 c256_i32_235
  let v1890 : BitVec 32 := v1889
  let c0_i32_236 : BitVec 32 := 0#32
  ![v1885.toNat, v1890.toNat, 0]
def k0_off25 (i : grid0.Coords) (k0_t5 : Fin k0_t5_loop.trips) (c0_i32_233 : BitVec 32) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1886 : BitVec 32 := Scalar.addi v1758 c0_i32_233
  let c256_i32_234 : BitVec 32 := 256#32
  let v1887 : BitVec 32 := Scalar.muli v1886 c256_i32_234
  let v1888 : BitVec 32 := v1887
  let c0_i32_237 : BitVec 32 := 0#32
  ![v1.toNat, v1888.toNat, 0]
def k0_mult54 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_239 : BitVec 32 := 1#32
  let v1898 : BitVec 32 := Scalar.addi v1758 c1_i32_239
  let c256_i32_240 : BitVec 32 := 256#32
  let v1899 : BitVec 32 := Scalar.muli v1898 c256_i32_240
  v1899
def k0_mult55 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_239 : BitVec 32 := 1#32
  let v1898 : BitVec 32 := Scalar.addi v1758 c1_i32_239
  let c256_i32_241 : BitVec 32 := 256#32
  let v1901 : BitVec 32 := Scalar.muli v1898 c256_i32_241
  v1901
def k0_mult56 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_171 : BitVec 32 := 0#32
  let v1764 : BitVec 32 := Scalar.addi v1758 c0_i32_171
  let c256_i32 : BitVec 32 := 256#32
  let v1765 : BitVec 32 := Scalar.muli v1764 c256_i32
  v1765
def k0_off26 (i : grid0.Coords) (k0_t5 : Fin k0_t5_loop.trips) (c0_i32_171 : BitVec 32) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1767 : Index := Scalar.indexCast v1
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1764 : BitVec 32 := Scalar.addi v1758 c0_i32_171
  let c256_i32 : BitVec 32 := 256#32
  let v1765 : BitVec 32 := Scalar.muli v1764 c256_i32
  let v1766 : BitVec 32 := v1765
  let v1768 : Index := Scalar.indexCast v1766
  let c0_172 : Index := 0#32
  ![v1767.toNat, v1768.toNat, 0]
def k0_off27 (k0_t5 : Fin k0_t5_loop.trips) (c0_i32_171 : BitVec 32) : Fin 3 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let v1764 : BitVec 32 := Scalar.addi v1758 c0_i32_171
  let c6_i32_173 : BitVec 32 := 6#32
  let v1771 : BitVec 32 := Scalar.remsi v1764 c6_i32_173
  let v1772 : Index := Scalar.indexCast v1771
  let c0_174 : Index := 0#32
  let c0_175 : Index := 0#32
  ![v1772.toNat, 0, 0]
def k0_mult57 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_171 : BitVec 32 := 0#32
  let v1764 : BitVec 32 := Scalar.addi v1758 c0_i32_171
  let c256_i32_176 : BitVec 32 := 256#32
  let v1776 : BitVec 32 := Scalar.muli v1764 c256_i32_176
  v1776
def k0_off28 (k0_t5 : Fin k0_t5_loop.trips) (c2_i32_168 : BitVec 32) (c0_i32_171 : BitVec 32) : Fin 3 → Nat :=
  let c0_i32_58 : BitVec 32 := 0#32
  let c1_i32_60 : BitVec 32 := 1#32
  let arg21 : BitVec 32 := Scf.iv c0_i32_58 c1_i32_60 k0_t5
  let v1758 : BitVec 32 := Scalar.muli arg21 c2_i32_168
  let v1764 : BitVec 32 := Scalar.addi v1758 c0_i32_171
  let v1787 : Index := Scalar.indexCast v1764
  let c0_181 : Index := 0#32
  let c0_182 : Index := 0#32
  ![v1787.toNat, 0, 0]
def k0_off28_at (r : Fin 7) : BitVec 32 × BitVec 32 :=
  if r.val < 3 then
    if r.val < 1 then
      (2#32, 0#32)
    else
      if r.val < 2 then
        (2#32, 1#32)
      else
        (5#32, 0#32)
  else
    if r.val < 5 then
      if r.val < 4 then
        (5#32, 1#32)
      else
        (5#32, 2#32)
    else
      if r.val < 6 then
        (5#32, 3#32)
      else
        (5#32, 4#32)
def k0_mult58 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_183 : BitVec 32 := 1#32
  let v1791 : BitVec 32 := Scalar.addi v1758 c1_i32_183
  let c256_i32_184 : BitVec 32 := 256#32
  let v1792 : BitVec 32 := Scalar.muli v1791 c256_i32_184
  v1792
def k0_mult59 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_183 : BitVec 32 := 1#32
  let v1791 : BitVec 32 := Scalar.addi v1758 c1_i32_183
  let c256_i32_189 : BitVec 32 := 256#32
  let v1803 : BitVec 32 := Scalar.muli v1791 c256_i32_189
  v1803
def k0_mult60 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c5_i32_196 : BitVec 32 := 5#32
  let v1818 : BitVec 32 := Scalar.muli arg21 c5_i32_196
  let c0_i32_197 : BitVec 32 := 0#32
  let v1819 : BitVec 32 := Scalar.addi v1818 c0_i32_197
  let c256_i32_200 : BitVec 32 := 256#32
  let v1823 : BitVec 32 := Scalar.muli v1819 c256_i32_200
  v1823
def k0_off29 (i : grid0.Coords) (k0_t5 : Fin k0_t5_loop.trips) (c0_i32_197 : BitVec 32) : Fin 3 → Nat :=
  let arg0 : BitVec 32 := BitVec.ofNat 32 (i 0).val
  let c2_i32 : BitVec 32 := 2#32
  let v0 : BitVec 32 := Scalar.remsi arg0 c2_i32
  let v1825 : Index := Scalar.indexCast v0
  let c0_i32_58 : BitVec 32 := 0#32
  let c1_i32_60 : BitVec 32 := 1#32
  let arg21 : BitVec 32 := Scf.iv c0_i32_58 c1_i32_60 k0_t5
  let c5_i32_196 : BitVec 32 := 5#32
  let v1818 : BitVec 32 := Scalar.muli arg21 c5_i32_196
  let v1819 : BitVec 32 := Scalar.addi v1818 c0_i32_197
  let c256_i32_200 : BitVec 32 := 256#32
  let v1823 : BitVec 32 := Scalar.muli v1819 c256_i32_200
  let v1824 : BitVec 32 := v1823
  let v1826 : Index := Scalar.indexCast v1824
  let c0_201 : Index := 0#32
  ![v1825.toNat, v1826.toNat, 0]
def k0_mult61 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c5_i32_203 : BitVec 32 := 5#32
  let v1831 : BitVec 32 := Scalar.muli arg21 c5_i32_203
  let c1_i32_204 : BitVec 32 := 1#32
  let v1832 : BitVec 32 := Scalar.addi v1831 c1_i32_204
  let c256_i32_207 : BitVec 32 := 256#32
  let v1836 : BitVec 32 := Scalar.muli v1832 c256_i32_207
  v1836
def k0_mult62 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c5_i32_210 : BitVec 32 := 5#32
  let v1844 : BitVec 32 := Scalar.muli arg21 c5_i32_210
  let c2_i32_211 : BitVec 32 := 2#32
  let v1845 : BitVec 32 := Scalar.addi v1844 c2_i32_211
  let c256_i32_214 : BitVec 32 := 256#32
  let v1849 : BitVec 32 := Scalar.muli v1845 c256_i32_214
  v1849
def k0_mult63 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c5_i32_217 : BitVec 32 := 5#32
  let v1857 : BitVec 32 := Scalar.muli arg21 c5_i32_217
  let c3_i32_218 : BitVec 32 := 3#32
  let v1858 : BitVec 32 := Scalar.addi v1857 c3_i32_218
  let c256_i32_221 : BitVec 32 := 256#32
  let v1862 : BitVec 32 := Scalar.muli v1858 c256_i32_221
  v1862
def k0_mult64 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c5_i32_224 : BitVec 32 := 5#32
  let v1870 : BitVec 32 := Scalar.muli arg21 c5_i32_224
  let c4_i32_225 : BitVec 32 := 4#32
  let v1871 : BitVec 32 := Scalar.addi v1870 c4_i32_225
  let c256_i32_228 : BitVec 32 := 256#32
  let v1875 : BitVec 32 := Scalar.muli v1871 c256_i32_228
  v1875
def k0_cond5 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v1883 : BitVec 32 := Scalar.extui v6
  let c0_i32_231 : BitVec 32 := 0#32
  let v1884 : BitVec 1 := Scalar.cmpi .ne v1883 c0_i32_231
  v1884

def k0_cond6 (k0_t5 : Fin k0_t5_loop.trips) : BitVec 1 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c35_i32_234 : BitVec 32 := 35#32
  let v1887 : BitVec 1 := Scalar.cmpi .slt v1886 c35_i32_234
  let v1888 : BitVec 32 := Scalar.extui v1887
  let c0_i32_235 : BitVec 32 := 0#32
  let v1889 : BitVec 1 := Scalar.cmpi .ne v1888 c0_i32_235
  v1889

def k0_cond7 (i : grid0.Coords) : BitVec 1 :=
  let arg0 : BitVec 32 := BitVec.ofNat 32 (i 0).val
  let c0_i32_240 : BitVec 32 := 0#32
  let v1895 : BitVec 1 := Scalar.cmpi .sgt arg0 c0_i32_240
  let v1896 : BitVec 32 := Scalar.extui v1895
  let c0_i32_241 : BitVec 32 := 0#32
  let v1897 : BitVec 1 := Scalar.cmpi .ne v1896 c0_i32_241
  v1897

def k0_mult65 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_254 : BitVec 32 := 256#32
  let v1920 : BitVec 32 := Scalar.muli v1886 c256_i32_254
  v1920
def k0_mult66 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_255 : BitVec 32 := 256#32
  let v1922 : BitVec 32 := Scalar.muli v1886 c256_i32_255
  v1922
def k0_off30 (k0_t5 : Fin k0_t5_loop.trips) : Fin 1 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  ![v1886.toNat]
def k0_off31 (i : grid0.Coords) (k0_t5 : Fin k0_t5_loop.trips) : Fin 3 → Nat :=
  let arg0 : BitVec 32 := BitVec.ofNat 32 (i 0).val
  let c1_i32_253 : BitVec 32 := 1#32
  let v1919 : BitVec 32 := Scalar.subi arg0 c1_i32_253
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_255 : BitVec 32 := 256#32
  let v1922 : BitVec 32 := Scalar.muli v1886 c256_i32_255
  let v1923 : BitVec 32 := v1922
  let c0_i32_256 : BitVec 32 := 0#32
  ![v1919.toNat, v1923.toNat, 0]
def k0_off32 (i : grid0.Coords) (k0_t5 : Fin k0_t5_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_254 : BitVec 32 := 256#32
  let v1920 : BitVec 32 := Scalar.muli v1886 c256_i32_254
  let v1921 : BitVec 32 := v1920
  let c0_i32_257 : BitVec 32 := 0#32
  ![v1.toNat, v1921.toNat, 0]
def k0_mult67 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_242 : BitVec 32 := 256#32
  let v1898 : BitVec 32 := Scalar.muli v1886 c256_i32_242
  v1898
def k0_mult68 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_243 : BitVec 32 := 256#32
  let v1900 : BitVec 32 := Scalar.muli v1886 c256_i32_243
  v1900
def k0_off33 (k0_t5 : Fin k0_t5_loop.trips) : Fin 1 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c6_i32_244 : BitVec 32 := 6#32
  let v1902 : BitVec 32 := Scalar.remsi v1886 c6_i32_244
  ![v1902.toNat]
def k0_off34 (i : grid0.Coords) (k0_t5 : Fin k0_t5_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_243 : BitVec 32 := 256#32
  let v1900 : BitVec 32 := Scalar.muli v1886 c256_i32_243
  let v1901 : BitVec 32 := v1900
  let c0_i32_245 : BitVec 32 := 0#32
  ![v1.toNat, v1901.toNat, 0]
def k0_off35 (i : grid0.Coords) (k0_t5 : Fin k0_t5_loop.trips) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_242 : BitVec 32 := 256#32
  let v1898 : BitVec 32 := Scalar.muli v1886 c256_i32_242
  let v1899 : BitVec 32 := v1898
  let c0_i32_246 : BitVec 32 := 0#32
  ![v7.toNat, v1899.toNat, 0]
def k0_mult69 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c256_i32_247 : BitVec 32 := 256#32
  let v1909 : BitVec 32 := Scalar.muli v1886 c256_i32_247
  v1909
def k0_off36 (k0_t5 : Fin k0_t5_loop.trips) : Fin 3 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c0_i32_232 : BitVec 32 := 0#32
  let v1885 : BitVec 32 := Scalar.addi v1758 c0_i32_232
  let c6_i32_233 : BitVec 32 := 6#32
  let v1886 : BitVec 32 := Scalar.addi v1885 c6_i32_233
  let c6_i32_248 : BitVec 32 := 6#32
  let v1911 : BitVec 32 := Scalar.remsi v1886 c6_i32_248
  let c0_i32_250 : BitVec 32 := 0#32
  let c0_i32_251 : BitVec 32 := 0#32
  ![v1911.toNat, 0, 0]
def k0_cond8 (k0_t5 : Fin k0_t5_loop.trips) : BitVec 1 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c35_i32_238 : BitVec 32 := 35#32
  let v1892 : BitVec 1 := Scalar.cmpi .slt v1891 c35_i32_238
  let v1893 : BitVec 32 := Scalar.extui v1892
  let c0_i32_239 : BitVec 32 := 0#32
  let v1894 : BitVec 1 := Scalar.cmpi .ne v1893 c0_i32_239
  v1894

def k0_cond9 (i : grid0.Coords) : BitVec 1 :=
  let arg0 : BitVec 32 := BitVec.ofNat 32 (i 0).val
  let c0_i32_240 : BitVec 32 := 0#32
  let v1895 : BitVec 1 := Scalar.cmpi .sgt arg0 c0_i32_240
  let v1896 : BitVec 32 := Scalar.extui v1895
  let c0_i32_241 : BitVec 32 := 0#32
  let v1897 : BitVec 1 := Scalar.cmpi .ne v1896 c0_i32_241
  v1897

def k0_mult70 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_254 : BitVec 32 := 256#32
  let v1920 : BitVec 32 := Scalar.muli v1891 c256_i32_254
  v1920
def k0_mult71 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_255 : BitVec 32 := 256#32
  let v1922 : BitVec 32 := Scalar.muli v1891 c256_i32_255
  v1922
def k0_off37 (k0_t5 : Fin k0_t5_loop.trips) : Fin 1 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  ![v1891.toNat]
def k0_off38 (i : grid0.Coords) (k0_t5 : Fin k0_t5_loop.trips) : Fin 3 → Nat :=
  let arg0 : BitVec 32 := BitVec.ofNat 32 (i 0).val
  let c1_i32_253 : BitVec 32 := 1#32
  let v1919 : BitVec 32 := Scalar.subi arg0 c1_i32_253
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_255 : BitVec 32 := 256#32
  let v1922 : BitVec 32 := Scalar.muli v1891 c256_i32_255
  let v1923 : BitVec 32 := v1922
  let c0_i32_256 : BitVec 32 := 0#32
  ![v1919.toNat, v1923.toNat, 0]
def k0_off39 (i : grid0.Coords) (k0_t5 : Fin k0_t5_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_254 : BitVec 32 := 256#32
  let v1920 : BitVec 32 := Scalar.muli v1891 c256_i32_254
  let v1921 : BitVec 32 := v1920
  let c0_i32_257 : BitVec 32 := 0#32
  ![v1.toNat, v1921.toNat, 0]
def k0_mult72 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_242 : BitVec 32 := 256#32
  let v1898 : BitVec 32 := Scalar.muli v1891 c256_i32_242
  v1898
def k0_mult73 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_243 : BitVec 32 := 256#32
  let v1900 : BitVec 32 := Scalar.muli v1891 c256_i32_243
  v1900
def k0_off40 (k0_t5 : Fin k0_t5_loop.trips) : Fin 1 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c6_i32_244 : BitVec 32 := 6#32
  let v1902 : BitVec 32 := Scalar.remsi v1891 c6_i32_244
  ![v1902.toNat]
def k0_off41 (i : grid0.Coords) (k0_t5 : Fin k0_t5_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_243 : BitVec 32 := 256#32
  let v1900 : BitVec 32 := Scalar.muli v1891 c256_i32_243
  let v1901 : BitVec 32 := v1900
  let c0_i32_245 : BitVec 32 := 0#32
  ![v1.toNat, v1901.toNat, 0]
def k0_off42 (i : grid0.Coords) (k0_t5 : Fin k0_t5_loop.trips) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_242 : BitVec 32 := 256#32
  let v1898 : BitVec 32 := Scalar.muli v1891 c256_i32_242
  let v1899 : BitVec 32 := v1898
  let c0_i32_246 : BitVec 32 := 0#32
  ![v7.toNat, v1899.toNat, 0]
def k0_mult74 (k0_t5 : Fin k0_t5_loop.trips) : BitVec 32 :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c256_i32_247 : BitVec 32 := 256#32
  let v1909 : BitVec 32 := Scalar.muli v1891 c256_i32_247
  v1909
def k0_off43 (k0_t5 : Fin k0_t5_loop.trips) : Fin 3 → Nat :=
  let c0_i32_58 : BitVec 32 := 0#32
  let c1_i32_60 : BitVec 32 := 1#32
  let arg21 : BitVec 32 := Scf.iv c0_i32_58 c1_i32_60 k0_t5
  let c2_i32_168 : BitVec 32 := 2#32
  let v1758 : BitVec 32 := Scalar.muli arg21 c2_i32_168
  let c1_i32_236 : BitVec 32 := 1#32
  let v1890 : BitVec 32 := Scalar.addi v1758 c1_i32_236
  let c6_i32_237 : BitVec 32 := 6#32
  let v1891 : BitVec 32 := Scalar.addi v1890 c6_i32_237
  let c6_i32_248 : BitVec 32 := 6#32
  let v1911 : BitVec 32 := Scalar.remsi v1891 c6_i32_248
  let c0_i32_250 : BitVec 32 := 0#32
  let c0_i32_251 : BitVec 32 := 0#32
  ![v1911.toNat, 0, 0]
@[reducible] def k0_t6_loop : Scf.Loop 32 :=
  let c0_i32_62 : BitVec 32 := 0#32
  let c7_i32_63 : BitVec 32 := 7#32
  let v856 : BitVec 32 := Scalar.addi c0_i32_62 c7_i32_63
  let c1_i32_64 : BitVec 32 := 1#32
  ⟨c0_i32_62, v856, c1_i32_64⟩
def k0_cond10 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v1760 : BitVec 32 := Scalar.extui v6
  let c0_i32_170 : BitVec 32 := 0#32
  let v1761 : BitVec 1 := Scalar.cmpi .ne v1760 c0_i32_170
  v1761

def k0_mult75 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c256_i32_234 : BitVec 32 := 256#32
  let v1887 : BitVec 32 := Scalar.muli v1886 c256_i32_234
  v1887
def k0_mult76 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c256_i32_235 : BitVec 32 := 256#32
  let v1889 : BitVec 32 := Scalar.muli v1886 c256_i32_235
  v1889
def k0_off44 (k0_t6 : Fin k0_t6_loop.trips) (c0_i32_233 : BitVec 32) : Fin 1 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1886 : BitVec 32 := Scalar.addi v1759 c0_i32_233
  let c6_i32_236 : BitVec 32 := 6#32
  let v1891 : BitVec 32 := Scalar.remsi v1886 c6_i32_236
  ![v1891.toNat]
def k0_off45 (i : grid0.Coords) (k0_t6 : Fin k0_t6_loop.trips) (c0_i32_233 : BitVec 32) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1886 : BitVec 32 := Scalar.addi v1759 c0_i32_233
  let c256_i32_235 : BitVec 32 := 256#32
  let v1889 : BitVec 32 := Scalar.muli v1886 c256_i32_235
  let v1890 : BitVec 32 := v1889
  let c0_i32_237 : BitVec 32 := 0#32
  ![v1.toNat, v1890.toNat, 0]
def k0_off46 (i : grid0.Coords) (k0_t6 : Fin k0_t6_loop.trips) (c0_i32_233 : BitVec 32) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1886 : BitVec 32 := Scalar.addi v1759 c0_i32_233
  let c256_i32_234 : BitVec 32 := 256#32
  let v1887 : BitVec 32 := Scalar.muli v1886 c256_i32_234
  let v1888 : BitVec 32 := v1887
  let c0_i32_238 : BitVec 32 := 0#32
  ![v7.toNat, v1888.toNat, 0]
def k0_mult77 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c256_i32_239 : BitVec 32 := 256#32
  let v1898 : BitVec 32 := Scalar.muli v1886 c256_i32_239
  v1898
def k0_off47 (k0_t6 : Fin k0_t6_loop.trips) (c0_i32_233 : BitVec 32) : Fin 3 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1886 : BitVec 32 := Scalar.addi v1759 c0_i32_233
  let c6_i32_240 : BitVec 32 := 6#32
  let v1900 : BitVec 32 := Scalar.remsi v1886 c6_i32_240
  let c0_i32_242 : BitVec 32 := 0#32
  let c0_i32_243 : BitVec 32 := 0#32
  ![v1900.toNat, 0, 0]
def k0_mult78 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_245 : BitVec 32 := 1#32
  let v1908 : BitVec 32 := Scalar.addi v1759 c1_i32_245
  let c256_i32_246 : BitVec 32 := 256#32
  let v1909 : BitVec 32 := Scalar.muli v1908 c256_i32_246
  v1909
def k0_mult79 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_245 : BitVec 32 := 1#32
  let v1908 : BitVec 32 := Scalar.addi v1759 c1_i32_245
  let c256_i32_247 : BitVec 32 := 256#32
  let v1911 : BitVec 32 := Scalar.muli v1908 c256_i32_247
  v1911
def k0_mult80 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_245 : BitVec 32 := 1#32
  let v1908 : BitVec 32 := Scalar.addi v1759 c1_i32_245
  let c256_i32_251 : BitVec 32 := 256#32
  let v1920 : BitVec 32 := Scalar.muli v1908 c256_i32_251
  v1920
def k0_cond11 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v_true : BitVec 1 := 1#1
  let v1762 : BitVec 1 := Scalar.xori v6 v_true
  let v1763 : BitVec 32 := Scalar.extui v1762
  let c0_i32_171 : BitVec 32 := 0#32
  let v1764 : BitVec 1 := Scalar.cmpi .ne v1763 c0_i32_171
  v1764

def k0_mult81 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_234 : BitVec 32 := 0#32
  let v1887 : BitVec 32 := Scalar.addi v1759 c0_i32_234
  let c256_i32_235 : BitVec 32 := 256#32
  let v1888 : BitVec 32 := Scalar.muli v1887 c256_i32_235
  v1888
def k0_mult82 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_234 : BitVec 32 := 0#32
  let v1887 : BitVec 32 := Scalar.addi v1759 c0_i32_234
  let c256_i32_236 : BitVec 32 := 256#32
  let v1890 : BitVec 32 := Scalar.muli v1887 c256_i32_236
  v1890
def k0_off48 (k0_t6 : Fin k0_t6_loop.trips) (c0_i32_234 : BitVec 32) : Fin 1 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1887 : BitVec 32 := Scalar.addi v1759 c0_i32_234
  ![v1887.toNat]
def k0_off49 (i : grid0.Coords) (k0_t6 : Fin k0_t6_loop.trips) (c0_i32_234 : BitVec 32) : Fin 3 → Nat :=
  let arg0 : BitVec 32 := BitVec.ofNat 32 (i 0).val
  let c1_i32_233 : BitVec 32 := 1#32
  let v1886 : BitVec 32 := Scalar.subi arg0 c1_i32_233
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1887 : BitVec 32 := Scalar.addi v1759 c0_i32_234
  let c256_i32_236 : BitVec 32 := 256#32
  let v1890 : BitVec 32 := Scalar.muli v1887 c256_i32_236
  let v1891 : BitVec 32 := v1890
  let c0_i32_237 : BitVec 32 := 0#32
  ![v1886.toNat, v1891.toNat, 0]
def k0_off50 (i : grid0.Coords) (k0_t6 : Fin k0_t6_loop.trips) (c0_i32_234 : BitVec 32) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1887 : BitVec 32 := Scalar.addi v1759 c0_i32_234
  let c256_i32_235 : BitVec 32 := 256#32
  let v1888 : BitVec 32 := Scalar.muli v1887 c256_i32_235
  let v1889 : BitVec 32 := v1888
  let c0_i32_238 : BitVec 32 := 0#32
  ![v1.toNat, v1889.toNat, 0]
def k0_mult83 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_240 : BitVec 32 := 1#32
  let v1899 : BitVec 32 := Scalar.addi v1759 c1_i32_240
  let c256_i32_241 : BitVec 32 := 256#32
  let v1900 : BitVec 32 := Scalar.muli v1899 c256_i32_241
  v1900
def k0_mult84 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_240 : BitVec 32 := 1#32
  let v1899 : BitVec 32 := Scalar.addi v1759 c1_i32_240
  let c256_i32_242 : BitVec 32 := 256#32
  let v1902 : BitVec 32 := Scalar.muli v1899 c256_i32_242
  v1902
def k0_mult85 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_172 : BitVec 32 := 0#32
  let v1765 : BitVec 32 := Scalar.addi v1759 c0_i32_172
  let c256_i32 : BitVec 32 := 256#32
  let v1766 : BitVec 32 := Scalar.muli v1765 c256_i32
  v1766
def k0_off51 (i : grid0.Coords) (k0_t6 : Fin k0_t6_loop.trips) (c0_i32_172 : BitVec 32) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1768 : Index := Scalar.indexCast v1
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1765 : BitVec 32 := Scalar.addi v1759 c0_i32_172
  let c256_i32 : BitVec 32 := 256#32
  let v1766 : BitVec 32 := Scalar.muli v1765 c256_i32
  let v1767 : BitVec 32 := v1766
  let v1769 : Index := Scalar.indexCast v1767
  let c0_173 : Index := 0#32
  ![v1768.toNat, v1769.toNat, 0]
def k0_off52 (k0_t6 : Fin k0_t6_loop.trips) (c0_i32_172 : BitVec 32) : Fin 3 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1765 : BitVec 32 := Scalar.addi v1759 c0_i32_172
  let c6_i32_174 : BitVec 32 := 6#32
  let v1772 : BitVec 32 := Scalar.remsi v1765 c6_i32_174
  let v1773 : Index := Scalar.indexCast v1772
  let c0_175 : Index := 0#32
  let c0_176 : Index := 0#32
  ![v1773.toNat, 0, 0]
def k0_mult86 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_172 : BitVec 32 := 0#32
  let v1765 : BitVec 32 := Scalar.addi v1759 c0_i32_172
  let c256_i32_177 : BitVec 32 := 256#32
  let v1777 : BitVec 32 := Scalar.muli v1765 c256_i32_177
  v1777
def k0_off53 (k0_t6 : Fin k0_t6_loop.trips) (c0_i32_172 : BitVec 32) : Fin 3 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let v1765 : BitVec 32 := Scalar.addi v1759 c0_i32_172
  let v1788 : Index := Scalar.indexCast v1765
  let c0_182 : Index := 0#32
  let c0_183 : Index := 0#32
  ![v1788.toNat, 0, 0]
def k0_mult87 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_184 : BitVec 32 := 1#32
  let v1792 : BitVec 32 := Scalar.addi v1759 c1_i32_184
  let c256_i32_185 : BitVec 32 := 256#32
  let v1793 : BitVec 32 := Scalar.muli v1792 c256_i32_185
  v1793
def k0_mult88 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_184 : BitVec 32 := 1#32
  let v1792 : BitVec 32 := Scalar.addi v1759 c1_i32_184
  let c256_i32_190 : BitVec 32 := 256#32
  let v1804 : BitVec 32 := Scalar.muli v1792 c256_i32_190
  v1804
def k0_mult89 (k0_t6 : Fin k0_t6_loop.trips) : BitVec 32 :=
  let c0_i32_62 : BitVec 32 := 0#32
  let c1_i32_64 : BitVec 32 := 1#32
  let arg21 : BitVec 32 := Scf.iv c0_i32_62 c1_i32_64 k0_t6
  let c5_i32_197 : BitVec 32 := 5#32
  let v1819 : BitVec 32 := Scalar.muli arg21 c5_i32_197
  let c0_i32_198 : BitVec 32 := 0#32
  let v1820 : BitVec 32 := Scalar.addi v1819 c0_i32_198
  let c256_i32_199 : BitVec 32 := 256#32
  let v1821 : BitVec 32 := Scalar.muli v1820 c256_i32_199
  v1821
def k0_off54 (i : grid0.Coords) (k0_t6 : Fin k0_t6_loop.trips) (c0_i32_198 : BitVec 32) : Fin 3 → Nat :=
  let arg0 : BitVec 32 := BitVec.ofNat 32 (i 0).val
  let c2_i32 : BitVec 32 := 2#32
  let v0 : BitVec 32 := Scalar.remsi arg0 c2_i32
  let v1823 : Index := Scalar.indexCast v0
  let c0_i32_62 : BitVec 32 := 0#32
  let c1_i32_64 : BitVec 32 := 1#32
  let arg21 : BitVec 32 := Scf.iv c0_i32_62 c1_i32_64 k0_t6
  let c5_i32_197 : BitVec 32 := 5#32
  let v1819 : BitVec 32 := Scalar.muli arg21 c5_i32_197
  let v1820 : BitVec 32 := Scalar.addi v1819 c0_i32_198
  let c256_i32_199 : BitVec 32 := 256#32
  let v1821 : BitVec 32 := Scalar.muli v1820 c256_i32_199
  let v1822 : BitVec 32 := v1821
  let v1824 : Index := Scalar.indexCast v1822
  let c0_200 : Index := 0#32
  ![v1823.toNat, v1824.toNat, 0]
def k0_off55 (k0_t6 : Fin k0_t6_loop.trips) (c0_i32_198 : BitVec 32) : Fin 3 → Nat :=
  let c0_i32_62 : BitVec 32 := 0#32
  let c1_i32_64 : BitVec 32 := 1#32
  let arg21 : BitVec 32 := Scf.iv c0_i32_62 c1_i32_64 k0_t6
  let c5_i32_197 : BitVec 32 := 5#32
  let v1819 : BitVec 32 := Scalar.muli arg21 c5_i32_197
  let v1820 : BitVec 32 := Scalar.addi v1819 c0_i32_198
  let v1828 : Index := Scalar.indexCast v1820
  let c0_202 : Index := 0#32
  let c0_203 : Index := 0#32
  ![v1828.toNat, 0, 0]
def k0_mult90 (k0_t6 : Fin k0_t6_loop.trips) : BitVec 32 :=
  let c0_i32_62 : BitVec 32 := 0#32
  let c1_i32_64 : BitVec 32 := 1#32
  let arg21 : BitVec 32 := Scf.iv c0_i32_62 c1_i32_64 k0_t6
  let c5_i32_204 : BitVec 32 := 5#32
  let v1832 : BitVec 32 := Scalar.muli arg21 c5_i32_204
  let c1_i32_205 : BitVec 32 := 1#32
  let v1833 : BitVec 32 := Scalar.addi v1832 c1_i32_205
  let c256_i32_206 : BitVec 32 := 256#32
  let v1834 : BitVec 32 := Scalar.muli v1833 c256_i32_206
  v1834
def k0_mult91 (k0_t6 : Fin k0_t6_loop.trips) : BitVec 32 :=
  let c0_i32_62 : BitVec 32 := 0#32
  let c1_i32_64 : BitVec 32 := 1#32
  let arg21 : BitVec 32 := Scf.iv c0_i32_62 c1_i32_64 k0_t6
  let c5_i32_211 : BitVec 32 := 5#32
  let v1845 : BitVec 32 := Scalar.muli arg21 c5_i32_211
  let c2_i32_212 : BitVec 32 := 2#32
  let v1846 : BitVec 32 := Scalar.addi v1845 c2_i32_212
  let c256_i32_213 : BitVec 32 := 256#32
  let v1847 : BitVec 32 := Scalar.muli v1846 c256_i32_213
  v1847
def k0_mult92 (k0_t6 : Fin k0_t6_loop.trips) : BitVec 32 :=
  let c0_i32_62 : BitVec 32 := 0#32
  let c1_i32_64 : BitVec 32 := 1#32
  let arg21 : BitVec 32 := Scf.iv c0_i32_62 c1_i32_64 k0_t6
  let c5_i32_218 : BitVec 32 := 5#32
  let v1858 : BitVec 32 := Scalar.muli arg21 c5_i32_218
  let c3_i32_219 : BitVec 32 := 3#32
  let v1859 : BitVec 32 := Scalar.addi v1858 c3_i32_219
  let c256_i32_220 : BitVec 32 := 256#32
  let v1860 : BitVec 32 := Scalar.muli v1859 c256_i32_220
  v1860
def k0_mult93 (k0_t6 : Fin k0_t6_loop.trips) : BitVec 32 :=
  let c0_i32_62 : BitVec 32 := 0#32
  let c1_i32_64 : BitVec 32 := 1#32
  let arg21 : BitVec 32 := Scf.iv c0_i32_62 c1_i32_64 k0_t6
  let c5_i32_225 : BitVec 32 := 5#32
  let v1871 : BitVec 32 := Scalar.muli arg21 c5_i32_225
  let c4_i32_226 : BitVec 32 := 4#32
  let v1872 : BitVec 32 := Scalar.addi v1871 c4_i32_226
  let c256_i32_227 : BitVec 32 := 256#32
  let v1873 : BitVec 32 := Scalar.muli v1872 c256_i32_227
  v1873
def k0_cond12 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v1884 : BitVec 32 := Scalar.extui v6
  let c0_i32_232 : BitVec 32 := 0#32
  let v1885 : BitVec 1 := Scalar.cmpi .ne v1884 c0_i32_232
  v1885

def k0_cond13 (k0_t6 : Fin k0_t6_loop.trips) : BitVec 1 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c35_i32_235 : BitVec 32 := 35#32
  let v1888 : BitVec 1 := Scalar.cmpi .slt v1887 c35_i32_235
  let v1889 : BitVec 32 := Scalar.extui v1888
  let c0_i32_236 : BitVec 32 := 0#32
  let v1890 : BitVec 1 := Scalar.cmpi .ne v1889 c0_i32_236
  v1890

def k0_cond14 (i : grid0.Coords) : BitVec 1 :=
  let arg0 : BitVec 32 := BitVec.ofNat 32 (i 0).val
  let c0_i32_241 : BitVec 32 := 0#32
  let v1896 : BitVec 1 := Scalar.cmpi .sgt arg0 c0_i32_241
  let v1897 : BitVec 32 := Scalar.extui v1896
  let c0_i32_242 : BitVec 32 := 0#32
  let v1898 : BitVec 1 := Scalar.cmpi .ne v1897 c0_i32_242
  v1898

def k0_mult94 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_255 : BitVec 32 := 256#32
  let v1921 : BitVec 32 := Scalar.muli v1887 c256_i32_255
  v1921
def k0_mult95 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_256 : BitVec 32 := 256#32
  let v1923 : BitVec 32 := Scalar.muli v1887 c256_i32_256
  v1923
def k0_off56 (k0_t6 : Fin k0_t6_loop.trips) : Fin 1 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  ![v1887.toNat]
def k0_off57 (i : grid0.Coords) (k0_t6 : Fin k0_t6_loop.trips) : Fin 3 → Nat :=
  let arg0 : BitVec 32 := BitVec.ofNat 32 (i 0).val
  let c1_i32_254 : BitVec 32 := 1#32
  let v1920 : BitVec 32 := Scalar.subi arg0 c1_i32_254
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_256 : BitVec 32 := 256#32
  let v1923 : BitVec 32 := Scalar.muli v1887 c256_i32_256
  let v1924 : BitVec 32 := v1923
  let c0_i32_257 : BitVec 32 := 0#32
  ![v1920.toNat, v1924.toNat, 0]
def k0_off58 (i : grid0.Coords) (k0_t6 : Fin k0_t6_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_255 : BitVec 32 := 256#32
  let v1921 : BitVec 32 := Scalar.muli v1887 c256_i32_255
  let v1922 : BitVec 32 := v1921
  let c0_i32_258 : BitVec 32 := 0#32
  ![v1.toNat, v1922.toNat, 0]
def k0_mult96 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_243 : BitVec 32 := 256#32
  let v1899 : BitVec 32 := Scalar.muli v1887 c256_i32_243
  v1899
def k0_mult97 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_244 : BitVec 32 := 256#32
  let v1901 : BitVec 32 := Scalar.muli v1887 c256_i32_244
  v1901
def k0_off59 (k0_t6 : Fin k0_t6_loop.trips) : Fin 1 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c6_i32_245 : BitVec 32 := 6#32
  let v1903 : BitVec 32 := Scalar.remsi v1887 c6_i32_245
  ![v1903.toNat]
def k0_off60 (i : grid0.Coords) (k0_t6 : Fin k0_t6_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_244 : BitVec 32 := 256#32
  let v1901 : BitVec 32 := Scalar.muli v1887 c256_i32_244
  let v1902 : BitVec 32 := v1901
  let c0_i32_246 : BitVec 32 := 0#32
  ![v1.toNat, v1902.toNat, 0]
def k0_off61 (i : grid0.Coords) (k0_t6 : Fin k0_t6_loop.trips) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_243 : BitVec 32 := 256#32
  let v1899 : BitVec 32 := Scalar.muli v1887 c256_i32_243
  let v1900 : BitVec 32 := v1899
  let c0_i32_247 : BitVec 32 := 0#32
  ![v7.toNat, v1900.toNat, 0]
def k0_mult98 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c256_i32_248 : BitVec 32 := 256#32
  let v1910 : BitVec 32 := Scalar.muli v1887 c256_i32_248
  v1910
def k0_off62 (k0_t6 : Fin k0_t6_loop.trips) : Fin 3 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c0_i32_233 : BitVec 32 := 0#32
  let v1886 : BitVec 32 := Scalar.addi v1759 c0_i32_233
  let c6_i32_234 : BitVec 32 := 6#32
  let v1887 : BitVec 32 := Scalar.addi v1886 c6_i32_234
  let c6_i32_249 : BitVec 32 := 6#32
  let v1912 : BitVec 32 := Scalar.remsi v1887 c6_i32_249
  let c0_i32_251 : BitVec 32 := 0#32
  let c0_i32_252 : BitVec 32 := 0#32
  ![v1912.toNat, 0, 0]
def k0_cond15 (k0_t6 : Fin k0_t6_loop.trips) : BitVec 1 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c35_i32_239 : BitVec 32 := 35#32
  let v1893 : BitVec 1 := Scalar.cmpi .slt v1892 c35_i32_239
  let v1894 : BitVec 32 := Scalar.extui v1893
  let c0_i32_240 : BitVec 32 := 0#32
  let v1895 : BitVec 1 := Scalar.cmpi .ne v1894 c0_i32_240
  v1895

def k0_cond16 (i : grid0.Coords) : BitVec 1 :=
  let arg0 : BitVec 32 := BitVec.ofNat 32 (i 0).val
  let c0_i32_241 : BitVec 32 := 0#32
  let v1896 : BitVec 1 := Scalar.cmpi .sgt arg0 c0_i32_241
  let v1897 : BitVec 32 := Scalar.extui v1896
  let c0_i32_242 : BitVec 32 := 0#32
  let v1898 : BitVec 1 := Scalar.cmpi .ne v1897 c0_i32_242
  v1898

def k0_mult99 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_255 : BitVec 32 := 256#32
  let v1921 : BitVec 32 := Scalar.muli v1892 c256_i32_255
  v1921
def k0_mult100 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_256 : BitVec 32 := 256#32
  let v1923 : BitVec 32 := Scalar.muli v1892 c256_i32_256
  v1923
def k0_off63 (k0_t6 : Fin k0_t6_loop.trips) : Fin 1 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  ![v1892.toNat]
def k0_off64 (i : grid0.Coords) (k0_t6 : Fin k0_t6_loop.trips) : Fin 3 → Nat :=
  let arg0 : BitVec 32 := BitVec.ofNat 32 (i 0).val
  let c1_i32_254 : BitVec 32 := 1#32
  let v1920 : BitVec 32 := Scalar.subi arg0 c1_i32_254
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_256 : BitVec 32 := 256#32
  let v1923 : BitVec 32 := Scalar.muli v1892 c256_i32_256
  let v1924 : BitVec 32 := v1923
  let c0_i32_257 : BitVec 32 := 0#32
  ![v1920.toNat, v1924.toNat, 0]
def k0_off65 (i : grid0.Coords) (k0_t6 : Fin k0_t6_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_255 : BitVec 32 := 256#32
  let v1921 : BitVec 32 := Scalar.muli v1892 c256_i32_255
  let v1922 : BitVec 32 := v1921
  let c0_i32_258 : BitVec 32 := 0#32
  ![v1.toNat, v1922.toNat, 0]
def k0_mult101 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_243 : BitVec 32 := 256#32
  let v1899 : BitVec 32 := Scalar.muli v1892 c256_i32_243
  v1899
def k0_mult102 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_244 : BitVec 32 := 256#32
  let v1901 : BitVec 32 := Scalar.muli v1892 c256_i32_244
  v1901
def k0_off66 (k0_t6 : Fin k0_t6_loop.trips) : Fin 1 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c6_i32_245 : BitVec 32 := 6#32
  let v1903 : BitVec 32 := Scalar.remsi v1892 c6_i32_245
  ![v1903.toNat]
def k0_off67 (i : grid0.Coords) (k0_t6 : Fin k0_t6_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_244 : BitVec 32 := 256#32
  let v1901 : BitVec 32 := Scalar.muli v1892 c256_i32_244
  let v1902 : BitVec 32 := v1901
  let c0_i32_246 : BitVec 32 := 0#32
  ![v1.toNat, v1902.toNat, 0]
def k0_off68 (i : grid0.Coords) (k0_t6 : Fin k0_t6_loop.trips) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_243 : BitVec 32 := 256#32
  let v1899 : BitVec 32 := Scalar.muli v1892 c256_i32_243
  let v1900 : BitVec 32 := v1899
  let c0_i32_247 : BitVec 32 := 0#32
  ![v7.toNat, v1900.toNat, 0]
def k0_mult103 (k0_t6 : Fin k0_t6_loop.trips) : BitVec 32 :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c256_i32_248 : BitVec 32 := 256#32
  let v1910 : BitVec 32 := Scalar.muli v1892 c256_i32_248
  v1910
def k0_off69 (k0_t6 : Fin k0_t6_loop.trips) : Fin 3 → Nat :=
  let c14_i32_169 : BitVec 32 := 14#32
  let c0_i32_62 : BitVec 32 := 0#32
  let c1_i32_64 : BitVec 32 := 1#32
  let arg21 : BitVec 32 := Scf.iv c0_i32_62 c1_i32_64 k0_t6
  let c2_i32_168 : BitVec 32 := 2#32
  let v1758 : BitVec 32 := Scalar.muli arg21 c2_i32_168
  let v1759 : BitVec 32 := Scalar.addi c14_i32_169 v1758
  let c1_i32_237 : BitVec 32 := 1#32
  let v1891 : BitVec 32 := Scalar.addi v1759 c1_i32_237
  let c6_i32_238 : BitVec 32 := 6#32
  let v1892 : BitVec 32 := Scalar.addi v1891 c6_i32_238
  let c6_i32_249 : BitVec 32 := 6#32
  let v1912 : BitVec 32 := Scalar.remsi v1892 c6_i32_249
  let c0_i32_251 : BitVec 32 := 0#32
  let c0_i32_252 : BitVec 32 := 0#32
  ![v1912.toNat, 0, 0]
@[reducible] def k0_t7_loop : Scf.Loop 32 :=
  let c0_i32_67 : BitVec 32 := 0#32
  let c35_i32_68 : BitVec 32 := 35#32
  let v858 : BitVec 32 := Scalar.addi c0_i32_67 c35_i32_68
  let c1_i32_69 : BitVec 32 := 1#32
  ⟨c0_i32_67, v858, c1_i32_69⟩
def k0_off70 (k0_t7 : Fin k0_t7_loop.trips) : Fin 3 → Nat :=
  let c0_i32_67 : BitVec 32 := 0#32
  let c1_i32_69 : BitVec 32 := 1#32
  let arg21 : BitVec 32 := Scf.iv c0_i32_67 c1_i32_69 k0_t7
  let v1758 : Index := Scalar.indexCast arg21
  let c0_168 : Index := 0#32
  let c0_169 : Index := 0#32
  ![v1758.toNat, 0, 0]
@[reducible] def k0_t8_loop : Scf.Loop 32 :=
  let c0_i32_122 : BitVec 32 := 0#32
  let c35_i32_123 : BitVec 32 := 35#32
  let v1684 : BitVec 32 := Scalar.addi c0_i32_122 c35_i32_123
  let c1_i32_124 : BitVec 32 := 1#32
  ⟨c0_i32_122, v1684, c1_i32_124⟩
def k0_off71 (k0_t8 : Fin k0_t8_loop.trips) : Fin 3 → Nat :=
  let c0_i32_122 : BitVec 32 := 0#32
  let c1_i32_124 : BitVec 32 := 1#32
  let arg21 : BitVec 32 := Scf.iv c0_i32_122 c1_i32_124 k0_t8
  let v1758 : Index := Scalar.indexCast arg21
  let c0_168 : Index := 0#32
  let c0_169 : Index := 0#32
  ![v1758.toNat, 0, 0]
@[reducible] def k0_t9_loop : Scf.Loop 32 :=
  let c0_i32_130 : BitVec 32 := 0#32
  let c35_i32_131 : BitVec 32 := 35#32
  let v1694 : BitVec 32 := Scalar.addi c0_i32_130 c35_i32_131
  let c1_i32_132 : BitVec 32 := 1#32
  ⟨c0_i32_130, v1694, c1_i32_132⟩
def k0_off72 (k0_t9 : Fin k0_t9_loop.trips) : Fin 3 → Nat :=
  let c0_i32_130 : BitVec 32 := 0#32
  let c1_i32_132 : BitVec 32 := 1#32
  let arg21 : BitVec 32 := Scf.iv c0_i32_130 c1_i32_132 k0_t9
  let v1758 : Index := Scalar.indexCast arg21
  let c0_168 : Index := 0#32
  let c0_169 : Index := 0#32
  ![v1758.toNat, 0, 0]
def k0_mult104 (k0_t9 : Fin k0_t9_loop.trips) : BitVec 32 :=
  let c0_i32_130 : BitVec 32 := 0#32
  let c1_i32_132 : BitVec 32 := 1#32
  let arg21 : BitVec 32 := Scf.iv c0_i32_130 c1_i32_132 k0_t9
  let c256_i32 : BitVec 32 := 256#32
  let v1774 : BitVec 32 := Scalar.muli arg21 c256_i32
  v1774
def k0_off73 (k0_t9 : Fin k0_t9_loop.trips) : Fin 3 → Nat :=
  let c0_174 : Index := 0#32
  let c0_175 : Index := 0#32
  let c0_i32_130 : BitVec 32 := 0#32
  let c1_i32_132 : BitVec 32 := 1#32
  let arg21 : BitVec 32 := Scf.iv c0_i32_130 c1_i32_132 k0_t9
  let c256_i32 : BitVec 32 := 256#32
  let v1774 : BitVec 32 := Scalar.muli arg21 c256_i32
  let v1775 : BitVec 32 := v1774
  let v1776 : Index := Scalar.indexCast v1775
  ![0, 0, v1776.toNat]
@[reducible] def k0_t10_loop : Scf.Loop 32 :=
  let c0_i32_135 : BitVec 32 := 0#32
  let c7_i32_136 : BitVec 32 := 7#32
  let v1696 : BitVec 32 := Scalar.addi c0_i32_135 c7_i32_136
  let c1_i32_137 : BitVec 32 := 1#32
  ⟨c0_i32_135, v1696, c1_i32_137⟩
def k0_cond17 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v1760 : BitVec 32 := Scalar.extui v6
  let c0_i32_169 : BitVec 32 := 0#32
  let v1761 : BitVec 1 := Scalar.cmpi .ne v1760 c0_i32_169
  v1761

def k0_mult105 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c256_i32_220 : BitVec 32 := 256#32
  let v1860 : BitVec 32 := Scalar.muli v1859 c256_i32_220
  v1860
def k0_mult106 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c256_i32_221 : BitVec 32 := 256#32
  let v1862 : BitVec 32 := Scalar.muli v1859 c256_i32_221
  v1862
def k0_off74 (k0_t10 : Fin k0_t10_loop.trips) : Fin 1 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_222 : BitVec 32 := 6#32
  let v1864 : BitVec 32 := Scalar.remsi v1859 c6_i32_222
  ![v1864.toNat]
def k0_off75 (i : grid0.Coords) (k0_t10 : Fin k0_t10_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c256_i32_221 : BitVec 32 := 256#32
  let v1862 : BitVec 32 := Scalar.muli v1859 c256_i32_221
  let v1863 : BitVec 32 := v1862
  let c0_i32_223 : BitVec 32 := 0#32
  ![v1.toNat, v1863.toNat, 0]
def k0_off76 (i : grid0.Coords) (k0_t10 : Fin k0_t10_loop.trips) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c256_i32_220 : BitVec 32 := 256#32
  let v1860 : BitVec 32 := Scalar.muli v1859 c256_i32_220
  let v1861 : BitVec 32 := v1860
  let c0_i32_224 : BitVec 32 := 0#32
  ![v7.toNat, v1861.toNat, 0]
def k0_mult107 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c256_i32_225 : BitVec 32 := 256#32
  let v1871 : BitVec 32 := Scalar.muli v1859 c256_i32_225
  v1871
def k0_off77 (k0_t10 : Fin k0_t10_loop.trips) : Fin 3 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_226 : BitVec 32 := 6#32
  let v1873 : BitVec 32 := Scalar.remsi v1859 c6_i32_226
  let c0_i32_228 : BitVec 32 := 0#32
  let c0_i32_229 : BitVec 32 := 0#32
  ![v1873.toNat, 0, 0]
def k0_cond18 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v_true : BitVec 1 := 1#1
  let v1762 : BitVec 1 := Scalar.xori v6 v_true
  let v1763 : BitVec 32 := Scalar.extui v1762
  let c0_i32_170 : BitVec 32 := 0#32
  let v1764 : BitVec 1 := Scalar.cmpi .ne v1763 c0_i32_170
  v1764

def k0_mult108 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_220 : BitVec 32 := 0#32
  let v1860 : BitVec 32 := Scalar.addi v1759 c0_i32_220
  let c256_i32_221 : BitVec 32 := 256#32
  let v1861 : BitVec 32 := Scalar.muli v1860 c256_i32_221
  v1861
def k0_mult109 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_220 : BitVec 32 := 0#32
  let v1860 : BitVec 32 := Scalar.addi v1759 c0_i32_220
  let c256_i32_222 : BitVec 32 := 256#32
  let v1863 : BitVec 32 := Scalar.muli v1860 c256_i32_222
  v1863
def k0_off78 (k0_t10 : Fin k0_t10_loop.trips) : Fin 1 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_220 : BitVec 32 := 0#32
  let v1860 : BitVec 32 := Scalar.addi v1759 c0_i32_220
  ![v1860.toNat]
def k0_off79 (i : grid0.Coords) (k0_t10 : Fin k0_t10_loop.trips) : Fin 3 → Nat :=
  let arg0 : BitVec 32 := BitVec.ofNat 32 (i 0).val
  let c1_i32_219 : BitVec 32 := 1#32
  let v1859 : BitVec 32 := Scalar.subi arg0 c1_i32_219
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_220 : BitVec 32 := 0#32
  let v1860 : BitVec 32 := Scalar.addi v1759 c0_i32_220
  let c256_i32_222 : BitVec 32 := 256#32
  let v1863 : BitVec 32 := Scalar.muli v1860 c256_i32_222
  let v1864 : BitVec 32 := v1863
  let c0_i32_223 : BitVec 32 := 0#32
  ![v1859.toNat, v1864.toNat, 0]
def k0_off80 (i : grid0.Coords) (k0_t10 : Fin k0_t10_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_220 : BitVec 32 := 0#32
  let v1860 : BitVec 32 := Scalar.addi v1759 c0_i32_220
  let c256_i32_221 : BitVec 32 := 256#32
  let v1861 : BitVec 32 := Scalar.muli v1860 c256_i32_221
  let v1862 : BitVec 32 := v1861
  let c0_i32_224 : BitVec 32 := 0#32
  ![v1.toNat, v1862.toNat, 0]
def k0_mult110 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_171 : BitVec 32 := 0#32
  let v1765 : BitVec 32 := Scalar.addi v1759 c0_i32_171
  let c256_i32 : BitVec 32 := 256#32
  let v1766 : BitVec 32 := Scalar.muli v1765 c256_i32
  v1766
def k0_off81 (i : grid0.Coords) (k0_t10 : Fin k0_t10_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1768 : Index := Scalar.indexCast v1
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_171 : BitVec 32 := 0#32
  let v1765 : BitVec 32 := Scalar.addi v1759 c0_i32_171
  let c256_i32 : BitVec 32 := 256#32
  let v1766 : BitVec 32 := Scalar.muli v1765 c256_i32
  let v1767 : BitVec 32 := v1766
  let v1769 : Index := Scalar.indexCast v1767
  let c0_172 : Index := 0#32
  ![v1768.toNat, v1769.toNat, 0]
def k0_off82 (k0_t10 : Fin k0_t10_loop.trips) : Fin 3 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_171 : BitVec 32 := 0#32
  let v1765 : BitVec 32 := Scalar.addi v1759 c0_i32_171
  let c6_i32_173 : BitVec 32 := 6#32
  let v1772 : BitVec 32 := Scalar.remsi v1765 c6_i32_173
  let v1773 : Index := Scalar.indexCast v1772
  let c0_174 : Index := 0#32
  let c0_175 : Index := 0#32
  ![v1773.toNat, 0, 0]
def k0_mult111 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_171 : BitVec 32 := 0#32
  let v1765 : BitVec 32 := Scalar.addi v1759 c0_i32_171
  let c256_i32_176 : BitVec 32 := 256#32
  let v1777 : BitVec 32 := Scalar.muli v1765 c256_i32_176
  v1777
def k0_off83 (k0_t10 : Fin k0_t10_loop.trips) : Fin 3 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_171 : BitVec 32 := 0#32
  let v1765 : BitVec 32 := Scalar.addi v1759 c0_i32_171
  let v1788 : Index := Scalar.indexCast v1765
  let c0_181 : Index := 0#32
  let c0_182 : Index := 0#32
  ![v1788.toNat, 0, 0]
def k0_off84 (k0_t10 : Fin k0_t10_loop.trips) (c0_i32_184 : BitVec 32) : Fin 3 → Nat :=
  let c0_i32_135 : BitVec 32 := 0#32
  let c1_i32_137 : BitVec 32 := 1#32
  let arg21 : BitVec 32 := Scf.iv c0_i32_135 c1_i32_137 k0_t10
  let c5_i32_183 : BitVec 32 := 5#32
  let v1792 : BitVec 32 := Scalar.muli arg21 c5_i32_183
  let v1793 : BitVec 32 := Scalar.addi v1792 c0_i32_184
  let v1794 : Index := Scalar.indexCast v1793
  let c0_185 : Index := 0#32
  let c0_186 : Index := 0#32
  ![v1794.toNat, 0, 0]
def k0_mult112 (k0_t10 : Fin k0_t10_loop.trips) : BitVec 32 :=
  let c0_i32_135 : BitVec 32 := 0#32
  let c1_i32_137 : BitVec 32 := 1#32
  let arg21 : BitVec 32 := Scf.iv c0_i32_135 c1_i32_137 k0_t10
  let c5_i32_183 : BitVec 32 := 5#32
  let v1792 : BitVec 32 := Scalar.muli arg21 c5_i32_183
  let c0_i32_184 : BitVec 32 := 0#32
  let v1793 : BitVec 32 := Scalar.addi v1792 c0_i32_184
  let c256_i32_187 : BitVec 32 := 256#32
  let v1797 : BitVec 32 := Scalar.muli v1793 c256_i32_187
  v1797
def k0_off85 (i : grid0.Coords) (k0_t10 : Fin k0_t10_loop.trips) (c0_i32_184 : BitVec 32) : Fin 3 → Nat :=
  let arg0 : BitVec 32 := BitVec.ofNat 32 (i 0).val
  let c2_i32 : BitVec 32 := 2#32
  let v0 : BitVec 32 := Scalar.remsi arg0 c2_i32
  let v1799 : Index := Scalar.indexCast v0
  let c0_i32_135 : BitVec 32 := 0#32
  let c1_i32_137 : BitVec 32 := 1#32
  let arg21 : BitVec 32 := Scf.iv c0_i32_135 c1_i32_137 k0_t10
  let c5_i32_183 : BitVec 32 := 5#32
  let v1792 : BitVec 32 := Scalar.muli arg21 c5_i32_183
  let v1793 : BitVec 32 := Scalar.addi v1792 c0_i32_184
  let c256_i32_187 : BitVec 32 := 256#32
  let v1797 : BitVec 32 := Scalar.muli v1793 c256_i32_187
  let v1798 : BitVec 32 := v1797
  let v1800 : Index := Scalar.indexCast v1798
  let c0_188 : Index := 0#32
  ![v1799.toNat, v1800.toNat, 0]
def k0_mult113 (k0_t10 : Fin k0_t10_loop.trips) : BitVec 32 :=
  let c0_i32_135 : BitVec 32 := 0#32
  let c1_i32_137 : BitVec 32 := 1#32
  let arg21 : BitVec 32 := Scf.iv c0_i32_135 c1_i32_137 k0_t10
  let c5_i32_190 : BitVec 32 := 5#32
  let v1805 : BitVec 32 := Scalar.muli arg21 c5_i32_190
  let c1_i32_191 : BitVec 32 := 1#32
  let v1806 : BitVec 32 := Scalar.addi v1805 c1_i32_191
  let c256_i32_194 : BitVec 32 := 256#32
  let v1810 : BitVec 32 := Scalar.muli v1806 c256_i32_194
  v1810
def k0_mult114 (k0_t10 : Fin k0_t10_loop.trips) : BitVec 32 :=
  let c0_i32_135 : BitVec 32 := 0#32
  let c1_i32_137 : BitVec 32 := 1#32
  let arg21 : BitVec 32 := Scf.iv c0_i32_135 c1_i32_137 k0_t10
  let c5_i32_197 : BitVec 32 := 5#32
  let v1818 : BitVec 32 := Scalar.muli arg21 c5_i32_197
  let c2_i32_198 : BitVec 32 := 2#32
  let v1819 : BitVec 32 := Scalar.addi v1818 c2_i32_198
  let c256_i32_201 : BitVec 32 := 256#32
  let v1823 : BitVec 32 := Scalar.muli v1819 c256_i32_201
  v1823
def k0_mult115 (k0_t10 : Fin k0_t10_loop.trips) : BitVec 32 :=
  let c0_i32_135 : BitVec 32 := 0#32
  let c1_i32_137 : BitVec 32 := 1#32
  let arg21 : BitVec 32 := Scf.iv c0_i32_135 c1_i32_137 k0_t10
  let c5_i32_204 : BitVec 32 := 5#32
  let v1831 : BitVec 32 := Scalar.muli arg21 c5_i32_204
  let c3_i32_205 : BitVec 32 := 3#32
  let v1832 : BitVec 32 := Scalar.addi v1831 c3_i32_205
  let c256_i32_208 : BitVec 32 := 256#32
  let v1836 : BitVec 32 := Scalar.muli v1832 c256_i32_208
  v1836
def k0_mult116 (k0_t10 : Fin k0_t10_loop.trips) : BitVec 32 :=
  let c0_i32_135 : BitVec 32 := 0#32
  let c1_i32_137 : BitVec 32 := 1#32
  let arg21 : BitVec 32 := Scf.iv c0_i32_135 c1_i32_137 k0_t10
  let c5_i32_211 : BitVec 32 := 5#32
  let v1844 : BitVec 32 := Scalar.muli arg21 c5_i32_211
  let c4_i32_212 : BitVec 32 := 4#32
  let v1845 : BitVec 32 := Scalar.addi v1844 c4_i32_212
  let c256_i32_215 : BitVec 32 := 256#32
  let v1849 : BitVec 32 := Scalar.muli v1845 c256_i32_215
  v1849
def k0_cond19 (i : grid0.Coords) : BitVec 1 :=
  let arg0 : BitVec 32 := BitVec.ofNat 32 (i 0).val
  let c1_i32_0 : BitVec 32 := 1#32
  let v2 : BitVec 32 := Scalar.addi arg0 c1_i32_0
  let c22_i32 : BitVec 32 := 22#32
  let v6 : BitVec 1 := Scalar.cmpi .slt v2 c22_i32
  let v1857 : BitVec 32 := Scalar.extui v6
  let c0_i32_218 : BitVec 32 := 0#32
  let v1858 : BitVec 1 := Scalar.cmpi .ne v1857 c0_i32_218
  v1858

def k0_cond20 (k0_t10 : Fin k0_t10_loop.trips) : BitVec 1 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c35_i32_221 : BitVec 32 := 35#32
  let v1861 : BitVec 1 := Scalar.cmpi .slt v1860 c35_i32_221
  let v1862 : BitVec 32 := Scalar.extui v1861
  let c0_i32_222 : BitVec 32 := 0#32
  let v1863 : BitVec 1 := Scalar.cmpi .ne v1862 c0_i32_222
  v1863

def k0_cond21 (i : grid0.Coords) : BitVec 1 :=
  let arg0 : BitVec 32 := BitVec.ofNat 32 (i 0).val
  let c0_i32_223 : BitVec 32 := 0#32
  let v1864 : BitVec 1 := Scalar.cmpi .sgt arg0 c0_i32_223
  let v1865 : BitVec 32 := Scalar.extui v1864
  let c0_i32_224 : BitVec 32 := 0#32
  let v1866 : BitVec 1 := Scalar.cmpi .ne v1865 c0_i32_224
  v1866

def k0_mult117 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_237 : BitVec 32 := 256#32
  let v1889 : BitVec 32 := Scalar.muli v1860 c256_i32_237
  v1889
def k0_mult118 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_238 : BitVec 32 := 256#32
  let v1891 : BitVec 32 := Scalar.muli v1860 c256_i32_238
  v1891
def k0_off86 (k0_t10 : Fin k0_t10_loop.trips) : Fin 1 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  ![v1860.toNat]
def k0_off87 (i : grid0.Coords) (k0_t10 : Fin k0_t10_loop.trips) : Fin 3 → Nat :=
  let arg0 : BitVec 32 := BitVec.ofNat 32 (i 0).val
  let c1_i32_236 : BitVec 32 := 1#32
  let v1888 : BitVec 32 := Scalar.subi arg0 c1_i32_236
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_238 : BitVec 32 := 256#32
  let v1891 : BitVec 32 := Scalar.muli v1860 c256_i32_238
  let v1892 : BitVec 32 := v1891
  let c0_i32_239 : BitVec 32 := 0#32
  ![v1888.toNat, v1892.toNat, 0]
def k0_off88 (i : grid0.Coords) (k0_t10 : Fin k0_t10_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_237 : BitVec 32 := 256#32
  let v1889 : BitVec 32 := Scalar.muli v1860 c256_i32_237
  let v1890 : BitVec 32 := v1889
  let c0_i32_240 : BitVec 32 := 0#32
  ![v1.toNat, v1890.toNat, 0]
def k0_mult119 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_225 : BitVec 32 := 256#32
  let v1867 : BitVec 32 := Scalar.muli v1860 c256_i32_225
  v1867
def k0_mult120 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_226 : BitVec 32 := 256#32
  let v1869 : BitVec 32 := Scalar.muli v1860 c256_i32_226
  v1869
def k0_off89 (k0_t10 : Fin k0_t10_loop.trips) : Fin 1 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c6_i32_227 : BitVec 32 := 6#32
  let v1871 : BitVec 32 := Scalar.remsi v1860 c6_i32_227
  ![v1871.toNat]
def k0_off90 (i : grid0.Coords) (k0_t10 : Fin k0_t10_loop.trips) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_226 : BitVec 32 := 256#32
  let v1869 : BitVec 32 := Scalar.muli v1860 c256_i32_226
  let v1870 : BitVec 32 := v1869
  let c0_i32_228 : BitVec 32 := 0#32
  ![v1.toNat, v1870.toNat, 0]
def k0_off91 (i : grid0.Coords) (k0_t10 : Fin k0_t10_loop.trips) : Fin 3 → Nat :=
  let arg0 : BitVec 32 := BitVec.ofNat 32 (i 0).val
  let c1_i32_0 : BitVec 32 := 1#32
  let v2 : BitVec 32 := Scalar.addi arg0 c1_i32_0
  let c21_i32 : BitVec 32 := 21#32
  let v7 : BitVec 32 := Scalar.minsi v2 c21_i32
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_225 : BitVec 32 := 256#32
  let v1867 : BitVec 32 := Scalar.muli v1860 c256_i32_225
  let v1868 : BitVec 32 := v1867
  let c0_i32_229 : BitVec 32 := 0#32
  ![v7.toNat, v1868.toNat, 0]
def k0_mult121 (k0_t10 : Fin k0_t10_loop.trips) : BitVec 32 :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c256_i32_230 : BitVec 32 := 256#32
  let v1878 : BitVec 32 := Scalar.muli v1860 c256_i32_230
  v1878
def k0_off92 (k0_t10 : Fin k0_t10_loop.trips) : Fin 3 → Nat :=
  let c28_i32 : BitVec 32 := 28#32
  let c0_i32_135 : BitVec 32 := 0#32
  let c1_i32_137 : BitVec 32 := 1#32
  let arg21 : BitVec 32 := Scf.iv c0_i32_135 c1_i32_137 k0_t10
  let c1_i32_168 : BitVec 32 := 1#32
  let v1758 : BitVec 32 := Scalar.muli arg21 c1_i32_168
  let v1759 : BitVec 32 := Scalar.addi c28_i32 v1758
  let c0_i32_219 : BitVec 32 := 0#32
  let v1859 : BitVec 32 := Scalar.addi v1759 c0_i32_219
  let c6_i32_220 : BitVec 32 := 6#32
  let v1860 : BitVec 32 := Scalar.addi v1859 c6_i32_220
  let c6_i32_231 : BitVec 32 := 6#32
  let v1880 : BitVec 32 := Scalar.remsi v1860 c6_i32_231
  let c0_i32_233 : BitVec 32 := 0#32
  let c0_i32_234 : BitVec 32 := 0#32
  ![v1880.toNat, 0, 0]
@[reducible] def k0_t11_loop : Scf.Loop 32 :=
  let c0_i32_159 : BitVec 32 := 0#32
  let c35_i32_160 : BitVec 32 := 35#32
  let v1746 : BitVec 32 := Scalar.addi c0_i32_159 c35_i32_160
  let c1_i32_161 : BitVec 32 := 1#32
  ⟨c0_i32_159, v1746, c1_i32_161⟩
def k0_off93 (k0_t11 : Fin k0_t11_loop.trips) : Fin 3 → Nat :=
  let c0_i32_159 : BitVec 32 := 0#32
  let c1_i32_161 : BitVec 32 := 1#32
  let arg21 : BitVec 32 := Scf.iv c0_i32_159 c1_i32_161 k0_t11
  let v1758 : Index := Scalar.indexCast arg21
  let c0_168 : Index := 0#32
  let c0_169 : Index := 0#32
  ![v1758.toNat, 0, 0]
def k0_mult122 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c256_i32 : BitVec 32 := 256#32
  let v1764 : BitVec 32 := Scalar.muli arg21 c256_i32
  v1764
def k0_off94 (i : grid0.Coords) (k0_t11 : Fin k0_t11_loop.trips) : Fin 3 → Nat :=
  let arg0 : BitVec 32 := BitVec.ofNat 32 (i 0).val
  let c2_i32 : BitVec 32 := 2#32
  let v0 : BitVec 32 := Scalar.remsi arg0 c2_i32
  let v1766 : Index := Scalar.indexCast v0
  let c0_i32_159 : BitVec 32 := 0#32
  let c1_i32_161 : BitVec 32 := 1#32
  let arg21 : BitVec 32 := Scf.iv c0_i32_159 c1_i32_161 k0_t11
  let c256_i32 : BitVec 32 := 256#32
  let v1764 : BitVec 32 := Scalar.muli arg21 c256_i32
  let v1765 : BitVec 32 := v1764
  let v1767 : Index := Scalar.indexCast v1765
  let c0_171 : Index := 0#32
  ![v1766.toNat, v1767.toNat, 0]
def k0_mult123 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c256_i32_172 : BitVec 32 := 256#32
  let v1773 : BitVec 32 := Scalar.muli arg21 c256_i32_172
  v1773
def k0_cond23 (k0_t11 : Fin k0_t11_loop.trips) : BitVec 1 :=
  let c0_i32_159 : BitVec 32 := 0#32
  let c1_i32_161 : BitVec 32 := 1#32
  let arg21 : BitVec 32 := Scf.iv c0_i32_159 c1_i32_161 k0_t11
  let c0_i32_174 : BitVec 32 := 0#32
  let v1780 : BitVec 1 := Scalar.cmpi .sgt arg21 c0_i32_174
  let v1781 : BitVec 32 := Scalar.extui v1780
  let c0_i32_175 : BitVec 32 := 0#32
  let v1782 : BitVec 1 := Scalar.cmpi .ne v1781 c0_i32_175
  v1782

def k0_mult124 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c1_i32_181 : BitVec 32 := 1#32
  let v1791 : BitVec 32 := Scalar.subi arg21 c1_i32_181
  let c256_i32_182 : BitVec 32 := 256#32
  let v1792 : BitVec 32 := Scalar.muli v1791 c256_i32_182
  v1792
def k0_mult125 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c1_i32_181 : BitVec 32 := 1#32
  let v1791 : BitVec 32 := Scalar.subi arg21 c1_i32_181
  let c256_i32_183 : BitVec 32 := 256#32
  let v1794 : BitVec 32 := Scalar.muli v1791 c256_i32_183
  v1794
def k0_off95 (k0_t11 : Fin k0_t11_loop.trips) : Fin 1 → Nat :=
  let c0_i32_159 : BitVec 32 := 0#32
  let c1_i32_161 : BitVec 32 := 1#32
  let arg21 : BitVec 32 := Scf.iv c0_i32_159 c1_i32_161 k0_t11
  let c1_i32_181 : BitVec 32 := 1#32
  let v1791 : BitVec 32 := Scalar.subi arg21 c1_i32_181
  ![v1791.toNat]
def k0_off96 (i : grid0.Coords) (k0_t11 : Fin k0_t11_loop.trips) : Fin 3 → Nat :=
  let arg0 : BitVec 32 := BitVec.ofNat 32 (i 0).val
  let c0_i32_159 : BitVec 32 := 0#32
  let c1_i32_161 : BitVec 32 := 1#32
  let arg21 : BitVec 32 := Scf.iv c0_i32_159 c1_i32_161 k0_t11
  let c1_i32_181 : BitVec 32 := 1#32
  let v1791 : BitVec 32 := Scalar.subi arg21 c1_i32_181
  let c256_i32_183 : BitVec 32 := 256#32
  let v1794 : BitVec 32 := Scalar.muli v1791 c256_i32_183
  let v1795 : BitVec 32 := v1794
  let c0_i32_184 : BitVec 32 := 0#32
  ![arg0.toNat, v1795.toNat, 0]
def k0_off97 (i : grid0.Coords) (k0_t11 : Fin k0_t11_loop.trips) : Fin 3 → Nat :=
  let arg0 : BitVec 32 := BitVec.ofNat 32 (i 0).val
  let c2_i32 : BitVec 32 := 2#32
  let v0 : BitVec 32 := Scalar.remsi arg0 c2_i32
  let c0_i32_159 : BitVec 32 := 0#32
  let c1_i32_161 : BitVec 32 := 1#32
  let arg21 : BitVec 32 := Scf.iv c0_i32_159 c1_i32_161 k0_t11
  let c1_i32_181 : BitVec 32 := 1#32
  let v1791 : BitVec 32 := Scalar.subi arg21 c1_i32_181
  let c256_i32_182 : BitVec 32 := 256#32
  let v1792 : BitVec 32 := Scalar.muli v1791 c256_i32_182
  let v1793 : BitVec 32 := v1792
  let c0_i32_185 : BitVec 32 := 0#32
  ![v0.toNat, v1793.toNat, 0]
def k0_cond24 (i : grid0.Coords) (k0_t11 : Fin k0_t11_loop.trips) : BitVec 1 :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c0_i32_177 : BitVec 32 := 0#32
  let v1784 : BitVec 1 := Scalar.cmpi .sge v1783 c0_i32_177
  let c6_i32_178 : BitVec 32 := 6#32
  let v1785 : BitVec 1 := Scalar.cmpi .slt v1783 c6_i32_178
  let v1786 : BitVec 1 := Scalar.andi v1784 v1785
  let arg0 : BitVec 32 := BitVec.ofNat 32 (i 0).val
  let c2_i32_158 : BitVec 32 := 2#32
  let v1745 : BitVec 32 := Scalar.addi arg0 c2_i32_158
  let c22_i32_179 : BitVec 32 := 22#32
  let v1787 : BitVec 1 := Scalar.cmpi .slt v1745 c22_i32_179
  let v1788 : BitVec 1 := Scalar.andi v1786 v1787
  let v1789 : BitVec 32 := Scalar.extui v1788
  let c0_i32_180 : BitVec 32 := 0#32
  let v1790 : BitVec 1 := Scalar.cmpi .ne v1789 c0_i32_180
  v1790

def k0_mult126 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_181 : BitVec 32 := 256#32
  let v1791 : BitVec 32 := Scalar.muli v1783 c256_i32_181
  v1791
def k0_mult127 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_182 : BitVec 32 := 256#32
  let v1793 : BitVec 32 := Scalar.muli v1783 c256_i32_182
  v1793
def k0_off98 (k0_t11 : Fin k0_t11_loop.trips) : Fin 1 → Nat :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  ![v1783.toNat]
def k0_off99 (i : grid0.Coords) (k0_t11 : Fin k0_t11_loop.trips) : Fin 3 → Nat :=
  let arg0 : BitVec 32 := BitVec.ofNat 32 (i 0).val
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_182 : BitVec 32 := 256#32
  let v1793 : BitVec 32 := Scalar.muli v1783 c256_i32_182
  let v1794 : BitVec 32 := v1793
  let c0_i32_183 : BitVec 32 := 0#32
  ![arg0.toNat, v1794.toNat, 0]
def k0_off100 (i : grid0.Coords) (k0_t11 : Fin k0_t11_loop.trips) : Fin 3 → Nat :=
  let arg0 : BitVec 32 := BitVec.ofNat 32 (i 0).val
  let c2_i32 : BitVec 32 := 2#32
  let v0 : BitVec 32 := Scalar.remsi arg0 c2_i32
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_181 : BitVec 32 := 256#32
  let v1791 : BitVec 32 := Scalar.muli v1783 c256_i32_181
  let v1792 : BitVec 32 := v1791
  let c0_i32_184 : BitVec 32 := 0#32
  ![v0.toNat, v1792.toNat, 0]
def k0_mult128 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_185 : BitVec 32 := 256#32
  let v1801 : BitVec 32 := Scalar.muli v1783 c256_i32_185
  v1801
def k0_mult129 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_186 : BitVec 32 := 256#32
  let v1803 : BitVec 32 := Scalar.muli v1783 c256_i32_186
  v1803
def k0_off101 (k0_t11 : Fin k0_t11_loop.trips) : Fin 1 → Nat :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c6_i32_187 : BitVec 32 := 6#32
  let v1805 : BitVec 32 := Scalar.remsi v1783 c6_i32_187
  ![v1805.toNat]
def k0_off102 (i : grid0.Coords) (k0_t11 : Fin k0_t11_loop.trips) : Fin 3 → Nat :=
  let arg0 : BitVec 32 := BitVec.ofNat 32 (i 0).val
  let c2_i32_158 : BitVec 32 := 2#32
  let v1745 : BitVec 32 := Scalar.addi arg0 c2_i32_158
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_185 : BitVec 32 := 256#32
  let v1801 : BitVec 32 := Scalar.muli v1783 c256_i32_185
  let v1802 : BitVec 32 := v1801
  let c0_i32_189 : BitVec 32 := 0#32
  ![v1745.toNat, v1802.toNat, 0]
def k0_mult130 (k0_t11 : Fin k0_t11_loop.trips) : BitVec 32 :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c256_i32_190 : BitVec 32 := 256#32
  let v1812 : BitVec 32 := Scalar.muli v1783 c256_i32_190
  v1812
def k0_off103 (k0_t11 : Fin k0_t11_loop.trips) : Fin 3 → Nat :=
  let c0_i32_159 : BitVec 32 := 0#32
  let c1_i32_161 : BitVec 32 := 1#32
  let arg21 : BitVec 32 := Scf.iv c0_i32_159 c1_i32_161 k0_t11
  let c3_i32_176 : BitVec 32 := 3#32
  let v1783 : BitVec 32 := Scalar.subi arg21 c3_i32_176
  let c6_i32_191 : BitVec 32 := 6#32
  let v1814 : BitVec 32 := Scalar.remsi v1783 c6_i32_191
  let c0_i32_193 : BitVec 32 := 0#32
  let c0_i32_194 : BitVec 32 := 0#32
  ![v1814.toNat, 0, 0]
def k0_mult131 : BitVec 32 :=
  let c8704_i32 : BitVec 32 := 8704#32
  c8704_i32
def k0_mult132 : BitVec 32 :=
  let c8704_i32_163 : BitVec 32 := 8704#32
  c8704_i32_163
def k0_off104 (i : grid0.Coords) : Fin 3 → Nat :=
  let arg0 : BitVec 32 := BitVec.ofNat 32 (i 0).val
  let c8704_i32_163 : BitVec 32 := 8704#32
  let v1748 : BitVec 32 := c8704_i32_163
  let c0_i32_164 : BitVec 32 := 0#32
  ![arg0.toNat, 8704, 0]
def k0_off105 (i : grid0.Coords) : Fin 3 → Nat :=
  let arg0 : BitVec 32 := BitVec.ofNat 32 (i 0).val
  let c2_i32 : BitVec 32 := 2#32
  let v0 : BitVec 32 := Scalar.remsi arg0 c2_i32
  let c8704_i32 : BitVec 32 := 8704#32
  let v1747 : BitVec 32 := c8704_i32
  let c0_i32_165 : BitVec 32 := 0#32
  ![v0.toNat, 8704, 0]
def k0_cond25 (i : grid0.Coords) : BitVec 1 :=
  let arg0 : BitVec 32 := BitVec.ofNat 32 (i 0).val
  let c21_i32_166 : BitVec 32 := 21#32
  let v1755 : BitVec 1 := Scalar.cmpi .eq arg0 c21_i32_166
  let v1756 : BitVec 32 := Scalar.extui v1755
  let c0_i32_167 : BitVec 32 := 0#32
  let v1757 : BitVec 1 := Scalar.cmpi .ne v1756 c0_i32_167
  v1757

def k0_mult133 : BitVec 32 :=
  let c0_i32_168 : BitVec 32 := 0#32
  c0_i32_168
def k0_mult134 : BitVec 32 :=
  let c0_i32_169 : BitVec 32 := 0#32
  c0_i32_169
def k0_off106 (i : grid0.Coords) : Fin 3 → Nat :=
  let arg0 : BitVec 32 := BitVec.ofNat 32 (i 0).val
  let c0_i32_169 : BitVec 32 := 0#32
  let v1759 : BitVec 32 := c0_i32_169
  let c0_i32_171 : BitVec 32 := 0#32
  ![arg0.toNat, 0, 0]
def k0_off107 (i : grid0.Coords) : Fin 3 → Nat :=
  let arg0 : BitVec 32 := BitVec.ofNat 32 (i 0).val
  let c2_i32 : BitVec 32 := 2#32
  let v0 : BitVec 32 := Scalar.remsi arg0 c2_i32
  let c0_i32_168 : BitVec 32 := 0#32
  let v1758 : BitVec 32 := c0_i32_168
  let c0_i32_172 : BitVec 32 := 0#32
  ![v0.toNat, 0, 0]
def k0_mult135 : BitVec 32 :=
  let c256_i32 : BitVec 32 := 256#32
  c256_i32
def k0_mult136 : BitVec 32 :=
  let c256_i32_173 : BitVec 32 := 256#32
  c256_i32_173
def k0_off108 (i : grid0.Coords) : Fin 3 → Nat :=
  let arg0 : BitVec 32 := BitVec.ofNat 32 (i 0).val
  let c256_i32_173 : BitVec 32 := 256#32
  let v1767 : BitVec 32 := c256_i32_173
  let c0_i32_175 : BitVec 32 := 0#32
  ![arg0.toNat, 256, 0]
def k0_off109 (i : grid0.Coords) : Fin 3 → Nat :=
  let arg0 : BitVec 32 := BitVec.ofNat 32 (i 0).val
  let c2_i32 : BitVec 32 := 2#32
  let v0 : BitVec 32 := Scalar.remsi arg0 c2_i32
  let c256_i32 : BitVec 32 := 256#32
  let v1766 : BitVec 32 := c256_i32
  let c0_i32_176 : BitVec 32 := 0#32
  ![v0.toNat, 256, 0]
def k0_mult137 : BitVec 32 :=
  let c512_i32 : BitVec 32 := 512#32
  c512_i32
def k0_mult138 : BitVec 32 :=
  let c512_i32_177 : BitVec 32 := 512#32
  c512_i32_177
def k0_off110 (i : grid0.Coords) : Fin 3 → Nat :=
  let arg0 : BitVec 32 := BitVec.ofNat 32 (i 0).val
  let c512_i32_177 : BitVec 32 := 512#32
  let v1775 : BitVec 32 := c512_i32_177
  let c0_i32_179 : BitVec 32 := 0#32
  ![arg0.toNat, 512, 0]
def k0_off111 (i : grid0.Coords) : Fin 3 → Nat :=
  let arg0 : BitVec 32 := BitVec.ofNat 32 (i 0).val
  let c2_i32 : BitVec 32 := 2#32
  let v0 : BitVec 32 := Scalar.remsi arg0 c2_i32
  let c512_i32 : BitVec 32 := 512#32
  let v1774 : BitVec 32 := c512_i32
  let c0_i32_180 : BitVec 32 := 0#32
  ![v0.toNat, 512, 0]
def k0_mult139 : BitVec 32 :=
  let c768_i32 : BitVec 32 := 768#32
  c768_i32
def k0_mult140 : BitVec 32 :=
  let c768_i32_181 : BitVec 32 := 768#32
  c768_i32_181
def k0_off112 (i : grid0.Coords) : Fin 3 → Nat :=
  let arg0 : BitVec 32 := BitVec.ofNat 32 (i 0).val
  let c768_i32_181 : BitVec 32 := 768#32
  let v1783 : BitVec 32 := c768_i32_181
  let c0_i32_183 : BitVec 32 := 0#32
  ![arg0.toNat, 768, 0]
def k0_off113 (i : grid0.Coords) : Fin 3 → Nat :=
  let arg0 : BitVec 32 := BitVec.ofNat 32 (i 0).val
  let c2_i32 : BitVec 32 := 2#32
  let v0 : BitVec 32 := Scalar.remsi arg0 c2_i32
  let c768_i32 : BitVec 32 := 768#32
  let v1782 : BitVec 32 := c768_i32
  let c0_i32_184 : BitVec 32 := 0#32
  ![v0.toNat, 768, 0]
def k0_mult141 : BitVec 32 :=
  let c1024_i32 : BitVec 32 := 1024#32
  c1024_i32
def k0_mult142 : BitVec 32 :=
  let c1024_i32_185 : BitVec 32 := 1024#32
  c1024_i32_185
def k0_off114 (i : grid0.Coords) : Fin 3 → Nat :=
  let arg0 : BitVec 32 := BitVec.ofNat 32 (i 0).val
  let c1024_i32_185 : BitVec 32 := 1024#32
  let v1791 : BitVec 32 := c1024_i32_185
  let c0_i32_187 : BitVec 32 := 0#32
  ![arg0.toNat, 1024, 0]
def k0_off115 (i : grid0.Coords) : Fin 3 → Nat :=
  let arg0 : BitVec 32 := BitVec.ofNat 32 (i 0).val
  let c2_i32 : BitVec 32 := 2#32
  let v0 : BitVec 32 := Scalar.remsi arg0 c2_i32
  let c1024_i32 : BitVec 32 := 1024#32
  let v1790 : BitVec 32 := c1024_i32
  let c0_i32_188 : BitVec 32 := 0#32
  ![v0.toNat, 1024, 0]
def k0_mult143 : BitVec 32 :=
  let c1280_i32 : BitVec 32 := 1280#32
  c1280_i32
def k0_mult144 : BitVec 32 :=
  let c1280_i32_189 : BitVec 32 := 1280#32
  c1280_i32_189
def k0_off116 (i : grid0.Coords) : Fin 3 → Nat :=
  let arg0 : BitVec 32 := BitVec.ofNat 32 (i 0).val
  let c1280_i32_189 : BitVec 32 := 1280#32
  let v1799 : BitVec 32 := c1280_i32_189
  let c0_i32_191 : BitVec 32 := 0#32
  ![arg0.toNat, 1280, 0]
def k0_off117 (i : grid0.Coords) : Fin 3 → Nat :=
  let arg0 : BitVec 32 := BitVec.ofNat 32 (i 0).val
  let c2_i32 : BitVec 32 := 2#32
  let v0 : BitVec 32 := Scalar.remsi arg0 c2_i32
  let c1280_i32 : BitVec 32 := 1280#32
  let v1798 : BitVec 32 := c1280_i32
  let c0_i32_192 : BitVec 32 := 0#32
  ![v0.toNat, 1280, 0]
def k0_mult145 : BitVec 32 :=
  let c1536_i32 : BitVec 32 := 1536#32
  c1536_i32
def k0_mult146 : BitVec 32 :=
  let c1536_i32_193 : BitVec 32 := 1536#32
  c1536_i32_193
def k0_off118 (i : grid0.Coords) : Fin 3 → Nat :=
  let arg0 : BitVec 32 := BitVec.ofNat 32 (i 0).val
  let c1536_i32_193 : BitVec 32 := 1536#32
  let v1807 : BitVec 32 := c1536_i32_193
  let c0_i32_195 : BitVec 32 := 0#32
  ![arg0.toNat, 1536, 0]
def k0_off119 (i : grid0.Coords) : Fin 3 → Nat :=
  let arg0 : BitVec 32 := BitVec.ofNat 32 (i 0).val
  let c2_i32 : BitVec 32 := 2#32
  let v0 : BitVec 32 := Scalar.remsi arg0 c2_i32
  let c1536_i32 : BitVec 32 := 1536#32
  let v1806 : BitVec 32 := c1536_i32
  let c0_i32_196 : BitVec 32 := 0#32
  ![v0.toNat, 1536, 0]
def k0_mult147 : BitVec 32 :=
  let c1792_i32 : BitVec 32 := 1792#32
  c1792_i32
def k0_mult148 : BitVec 32 :=
  let c1792_i32_197 : BitVec 32 := 1792#32
  c1792_i32_197
def k0_off120 (i : grid0.Coords) : Fin 3 → Nat :=
  let arg0 : BitVec 32 := BitVec.ofNat 32 (i 0).val
  let c1792_i32_197 : BitVec 32 := 1792#32
  let v1815 : BitVec 32 := c1792_i32_197
  let c0_i32_199 : BitVec 32 := 0#32
  ![arg0.toNat, 1792, 0]
def k0_off121 (i : grid0.Coords) : Fin 3 → Nat :=
  let arg0 : BitVec 32 := BitVec.ofNat 32 (i 0).val
  let c2_i32 : BitVec 32 := 2#32
  let v0 : BitVec 32 := Scalar.remsi arg0 c2_i32
  let c1792_i32 : BitVec 32 := 1792#32
  let v1814 : BitVec 32 := c1792_i32
  let c0_i32_200 : BitVec 32 := 0#32
  ![v0.toNat, 1792, 0]
def k0_mult149 : BitVec 32 :=
  let c2048_i32 : BitVec 32 := 2048#32
  c2048_i32
def k0_mult150 : BitVec 32 :=
  let c2048_i32_201 : BitVec 32 := 2048#32
  c2048_i32_201
def k0_off122 (i : grid0.Coords) : Fin 3 → Nat :=
  let arg0 : BitVec 32 := BitVec.ofNat 32 (i 0).val
  let c2048_i32_201 : BitVec 32 := 2048#32
  let v1823 : BitVec 32 := c2048_i32_201
  let c0_i32_203 : BitVec 32 := 0#32
  ![arg0.toNat, 2048, 0]
def k0_off123 (i : grid0.Coords) : Fin 3 → Nat :=
  let arg0 : BitVec 32 := BitVec.ofNat 32 (i 0).val
  let c2_i32 : BitVec 32 := 2#32
  let v0 : BitVec 32 := Scalar.remsi arg0 c2_i32
  let c2048_i32 : BitVec 32 := 2048#32
  let v1822 : BitVec 32 := c2048_i32
  let c0_i32_204 : BitVec 32 := 0#32
  ![v0.toNat, 2048, 0]
def k0_mult151 : BitVec 32 :=
  let c2304_i32 : BitVec 32 := 2304#32
  c2304_i32
def k0_mult152 : BitVec 32 :=
  let c2304_i32_205 : BitVec 32 := 2304#32
  c2304_i32_205
def k0_off124 (i : grid0.Coords) : Fin 3 → Nat :=
  let arg0 : BitVec 32 := BitVec.ofNat 32 (i 0).val
  let c2304_i32_205 : BitVec 32 := 2304#32
  let v1831 : BitVec 32 := c2304_i32_205
  let c0_i32_207 : BitVec 32 := 0#32
  ![arg0.toNat, 2304, 0]
def k0_off125 (i : grid0.Coords) : Fin 3 → Nat :=
  let arg0 : BitVec 32 := BitVec.ofNat 32 (i 0).val
  let c2_i32 : BitVec 32 := 2#32
  let v0 : BitVec 32 := Scalar.remsi arg0 c2_i32
  let c2304_i32 : BitVec 32 := 2304#32
  let v1830 : BitVec 32 := c2304_i32
  let c0_i32_208 : BitVec 32 := 0#32
  ![v0.toNat, 2304, 0]
def k0_mult153 : BitVec 32 :=
  let c2560_i32 : BitVec 32 := 2560#32
  c2560_i32
def k0_mult154 : BitVec 32 :=
  let c2560_i32_209 : BitVec 32 := 2560#32
  c2560_i32_209
def k0_off126 (i : grid0.Coords) : Fin 3 → Nat :=
  let arg0 : BitVec 32 := BitVec.ofNat 32 (i 0).val
  let c2560_i32_209 : BitVec 32 := 2560#32
  let v1839 : BitVec 32 := c2560_i32_209
  let c0_i32_211 : BitVec 32 := 0#32
  ![arg0.toNat, 2560, 0]
def k0_off127 (i : grid0.Coords) : Fin 3 → Nat :=
  let arg0 : BitVec 32 := BitVec.ofNat 32 (i 0).val
  let c2_i32 : BitVec 32 := 2#32
  let v0 : BitVec 32 := Scalar.remsi arg0 c2_i32
  let c2560_i32 : BitVec 32 := 2560#32
  let v1838 : BitVec 32 := c2560_i32
  let c0_i32_212 : BitVec 32 := 0#32
  ![v0.toNat, 2560, 0]
def k0_mult155 : BitVec 32 :=
  let c2816_i32 : BitVec 32 := 2816#32
  c2816_i32
def k0_mult156 : BitVec 32 :=
  let c2816_i32_213 : BitVec 32 := 2816#32
  c2816_i32_213
def k0_off128 (i : grid0.Coords) : Fin 3 → Nat :=
  let arg0 : BitVec 32 := BitVec.ofNat 32 (i 0).val
  let c2816_i32_213 : BitVec 32 := 2816#32
  let v1847 : BitVec 32 := c2816_i32_213
  let c0_i32_215 : BitVec 32 := 0#32
  ![arg0.toNat, 2816, 0]
def k0_off129 (i : grid0.Coords) : Fin 3 → Nat :=
  let arg0 : BitVec 32 := BitVec.ofNat 32 (i 0).val
  let c2_i32 : BitVec 32 := 2#32
  let v0 : BitVec 32 := Scalar.remsi arg0 c2_i32
  let c2816_i32 : BitVec 32 := 2816#32
  let v1846 : BitVec 32 := c2816_i32
  let c0_i32_216 : BitVec 32 := 0#32
  ![v0.toNat, 2816, 0]
def k0_mult157 : BitVec 32 :=
  let c3072_i32 : BitVec 32 := 3072#32
  c3072_i32
def k0_mult158 : BitVec 32 :=
  let c3072_i32_217 : BitVec 32 := 3072#32
  c3072_i32_217
def k0_off130 (i : grid0.Coords) : Fin 3 → Nat :=
  let arg0 : BitVec 32 := BitVec.ofNat 32 (i 0).val
  let c3072_i32_217 : BitVec 32 := 3072#32
  let v1855 : BitVec 32 := c3072_i32_217
  let c0_i32_219 : BitVec 32 := 0#32
  ![arg0.toNat, 3072, 0]
def k0_off131 (i : grid0.Coords) : Fin 3 → Nat :=
  let arg0 : BitVec 32 := BitVec.ofNat 32 (i 0).val
  let c2_i32 : BitVec 32 := 2#32
  let v0 : BitVec 32 := Scalar.remsi arg0 c2_i32
  let c3072_i32 : BitVec 32 := 3072#32
  let v1854 : BitVec 32 := c3072_i32
  let c0_i32_220 : BitVec 32 := 0#32
  ![v0.toNat, 3072, 0]
def k0_mult159 : BitVec 32 :=
  let c3328_i32 : BitVec 32 := 3328#32
  c3328_i32
def k0_mult160 : BitVec 32 :=
  let c3328_i32_221 : BitVec 32 := 3328#32
  c3328_i32_221
def k0_off132 (i : grid0.Coords) : Fin 3 → Nat :=
  let arg0 : BitVec 32 := BitVec.ofNat 32 (i 0).val
  let c3328_i32_221 : BitVec 32 := 3328#32
  let v1863 : BitVec 32 := c3328_i32_221
  let c0_i32_223 : BitVec 32 := 0#32
  ![arg0.toNat, 3328, 0]
def k0_off133 (i : grid0.Coords) : Fin 3 → Nat :=
  let arg0 : BitVec 32 := BitVec.ofNat 32 (i 0).val
  let c2_i32 : BitVec 32 := 2#32
  let v0 : BitVec 32 := Scalar.remsi arg0 c2_i32
  let c3328_i32 : BitVec 32 := 3328#32
  let v1862 : BitVec 32 := c3328_i32
  let c0_i32_224 : BitVec 32 := 0#32
  ![v0.toNat, 3328, 0]
def k0_mult161 : BitVec 32 :=
  let c3584_i32 : BitVec 32 := 3584#32
  c3584_i32
def k0_mult162 : BitVec 32 :=
  let c3584_i32_225 : BitVec 32 := 3584#32
  c3584_i32_225
def k0_off134 (i : grid0.Coords) : Fin 3 → Nat :=
  let arg0 : BitVec 32 := BitVec.ofNat 32 (i 0).val
  let c3584_i32_225 : BitVec 32 := 3584#32
  let v1871 : BitVec 32 := c3584_i32_225
  let c0_i32_227 : BitVec 32 := 0#32
  ![arg0.toNat, 3584, 0]
def k0_off135 (i : grid0.Coords) : Fin 3 → Nat :=
  let arg0 : BitVec 32 := BitVec.ofNat 32 (i 0).val
  let c2_i32 : BitVec 32 := 2#32
  let v0 : BitVec 32 := Scalar.remsi arg0 c2_i32
  let c3584_i32 : BitVec 32 := 3584#32
  let v1870 : BitVec 32 := c3584_i32
  let c0_i32_228 : BitVec 32 := 0#32
  ![v0.toNat, 3584, 0]
def k0_mult163 : BitVec 32 :=
  let c3840_i32 : BitVec 32 := 3840#32
  c3840_i32
def k0_mult164 : BitVec 32 :=
  let c3840_i32_229 : BitVec 32 := 3840#32
  c3840_i32_229
def k0_off136 (i : grid0.Coords) : Fin 3 → Nat :=
  let arg0 : BitVec 32 := BitVec.ofNat 32 (i 0).val
  let c3840_i32_229 : BitVec 32 := 3840#32
  let v1879 : BitVec 32 := c3840_i32_229
  let c0_i32_231 : BitVec 32 := 0#32
  ![arg0.toNat, 3840, 0]
def k0_off137 (i : grid0.Coords) : Fin 3 → Nat :=
  let arg0 : BitVec 32 := BitVec.ofNat 32 (i 0).val
  let c2_i32 : BitVec 32 := 2#32
  let v0 : BitVec 32 := Scalar.remsi arg0 c2_i32
  let c3840_i32 : BitVec 32 := 3840#32
  let v1878 : BitVec 32 := c3840_i32
  let c0_i32_232 : BitVec 32 := 0#32
  ![v0.toNat, 3840, 0]
def k0_mult165 : BitVec 32 :=
  let c4096_i32 : BitVec 32 := 4096#32
  c4096_i32
def k0_mult166 : BitVec 32 :=
  let c4096_i32_233 : BitVec 32 := 4096#32
  c4096_i32_233
def k0_off138 (i : grid0.Coords) : Fin 3 → Nat :=
  let arg0 : BitVec 32 := BitVec.ofNat 32 (i 0).val
  let c4096_i32_233 : BitVec 32 := 4096#32
  let v1887 : BitVec 32 := c4096_i32_233
  let c0_i32_234 : BitVec 32 := 0#32
  ![arg0.toNat, 4096, 0]
def k0_off139 (i : grid0.Coords) : Fin 3 → Nat :=
  let arg0 : BitVec 32 := BitVec.ofNat 32 (i 0).val
  let c2_i32 : BitVec 32 := 2#32
  let v0 : BitVec 32 := Scalar.remsi arg0 c2_i32
  let c4096_i32 : BitVec 32 := 4096#32
  let v1886 : BitVec 32 := c4096_i32
  let c0_i32_235 : BitVec 32 := 0#32
  ![v0.toNat, 4096, 0]
def k0_mult167 : BitVec 32 :=
  let c4352_i32 : BitVec 32 := 4352#32
  c4352_i32
def k0_mult168 : BitVec 32 :=
  let c4352_i32_236 : BitVec 32 := 4352#32
  c4352_i32_236
def k0_off140 (i : grid0.Coords) : Fin 3 → Nat :=
  let arg0 : BitVec 32 := BitVec.ofNat 32 (i 0).val
  let c4352_i32_236 : BitVec 32 := 4352#32
  let v1895 : BitVec 32 := c4352_i32_236
  let c0_i32_237 : BitVec 32 := 0#32
  ![arg0.toNat, 4352, 0]
def k0_off141 (i : grid0.Coords) : Fin 3 → Nat :=
  let arg0 : BitVec 32 := BitVec.ofNat 32 (i 0).val
  let c2_i32 : BitVec 32 := 2#32
  let v0 : BitVec 32 := Scalar.remsi arg0 c2_i32
  let c4352_i32 : BitVec 32 := 4352#32
  let v1894 : BitVec 32 := c4352_i32
  let c0_i32_238 : BitVec 32 := 0#32
  ![v0.toNat, 4352, 0]
def k0_mult169 : BitVec 32 :=
  let c4608_i32 : BitVec 32 := 4608#32
  c4608_i32
def k0_mult170 : BitVec 32 :=
  let c4608_i32_239 : BitVec 32 := 4608#32
  c4608_i32_239
def k0_off142 (i : grid0.Coords) : Fin 3 → Nat :=
  let arg0 : BitVec 32 := BitVec.ofNat 32 (i 0).val
  let c4608_i32_239 : BitVec 32 := 4608#32
  let v1903 : BitVec 32 := c4608_i32_239
  let c0_i32_240 : BitVec 32 := 0#32
  ![arg0.toNat, 4608, 0]
def k0_off143 (i : grid0.Coords) : Fin 3 → Nat :=
  let arg0 : BitVec 32 := BitVec.ofNat 32 (i 0).val
  let c2_i32 : BitVec 32 := 2#32
  let v0 : BitVec 32 := Scalar.remsi arg0 c2_i32
  let c4608_i32 : BitVec 32 := 4608#32
  let v1902 : BitVec 32 := c4608_i32
  let c0_i32_241 : BitVec 32 := 0#32
  ![v0.toNat, 4608, 0]
def k0_mult171 : BitVec 32 :=
  let c4864_i32 : BitVec 32 := 4864#32
  c4864_i32
def k0_mult172 : BitVec 32 :=
  let c4864_i32_242 : BitVec 32 := 4864#32
  c4864_i32_242
def k0_off144 (i : grid0.Coords) : Fin 3 → Nat :=
  let arg0 : BitVec 32 := BitVec.ofNat 32 (i 0).val
  let c4864_i32_242 : BitVec 32 := 4864#32
  let v1911 : BitVec 32 := c4864_i32_242
  let c0_i32_243 : BitVec 32 := 0#32
  ![arg0.toNat, 4864, 0]
def k0_off145 (i : grid0.Coords) : Fin 3 → Nat :=
  let arg0 : BitVec 32 := BitVec.ofNat 32 (i 0).val
  let c2_i32 : BitVec 32 := 2#32
  let v0 : BitVec 32 := Scalar.remsi arg0 c2_i32
  let c4864_i32 : BitVec 32 := 4864#32
  let v1910 : BitVec 32 := c4864_i32
  let c0_i32_244 : BitVec 32 := 0#32
  ![v0.toNat, 4864, 0]
def k0_mult173 : BitVec 32 :=
  let c5120_i32 : BitVec 32 := 5120#32
  c5120_i32
def k0_mult174 : BitVec 32 :=
  let c5120_i32_245 : BitVec 32 := 5120#32
  c5120_i32_245
def k0_off146 (i : grid0.Coords) : Fin 3 → Nat :=
  let arg0 : BitVec 32 := BitVec.ofNat 32 (i 0).val
  let c5120_i32_245 : BitVec 32 := 5120#32
  let v1919 : BitVec 32 := c5120_i32_245
  let c0_i32_246 : BitVec 32 := 0#32
  ![arg0.toNat, 5120, 0]
def k0_off147 (i : grid0.Coords) : Fin 3 → Nat :=
  let arg0 : BitVec 32 := BitVec.ofNat 32 (i 0).val
  let c2_i32 : BitVec 32 := 2#32
  let v0 : BitVec 32 := Scalar.remsi arg0 c2_i32
  let c5120_i32 : BitVec 32 := 5120#32
  let v1918 : BitVec 32 := c5120_i32
  let c0_i32_247 : BitVec 32 := 0#32
  ![v0.toNat, 5120, 0]
def k0_mult175 : BitVec 32 :=
  let c5376_i32 : BitVec 32 := 5376#32
  c5376_i32
def k0_mult176 : BitVec 32 :=
  let c5376_i32_248 : BitVec 32 := 5376#32
  c5376_i32_248
def k0_off148 (i : grid0.Coords) : Fin 3 → Nat :=
  let arg0 : BitVec 32 := BitVec.ofNat 32 (i 0).val
  let c5376_i32_248 : BitVec 32 := 5376#32
  let v1927 : BitVec 32 := c5376_i32_248
  let c0_i32_250 : BitVec 32 := 0#32
  ![arg0.toNat, 5376, 0]
def k0_off149 (i : grid0.Coords) : Fin 3 → Nat :=
  let arg0 : BitVec 32 := BitVec.ofNat 32 (i 0).val
  let c2_i32 : BitVec 32 := 2#32
  let v0 : BitVec 32 := Scalar.remsi arg0 c2_i32
  let c5376_i32 : BitVec 32 := 5376#32
  let v1926 : BitVec 32 := c5376_i32
  let c0_i32_251 : BitVec 32 := 0#32
  ![v0.toNat, 5376, 0]
def k0_mult177 : BitVec 32 :=
  let c5632_i32 : BitVec 32 := 5632#32
  c5632_i32
def k0_mult178 : BitVec 32 :=
  let c5632_i32_252 : BitVec 32 := 5632#32
  c5632_i32_252
def k0_off150 (i : grid0.Coords) : Fin 3 → Nat :=
  let arg0 : BitVec 32 := BitVec.ofNat 32 (i 0).val
  let c5632_i32_252 : BitVec 32 := 5632#32
  let v1935 : BitVec 32 := c5632_i32_252
  let c0_i32_254 : BitVec 32 := 0#32
  ![arg0.toNat, 5632, 0]
def k0_off151 (i : grid0.Coords) : Fin 3 → Nat :=
  let arg0 : BitVec 32 := BitVec.ofNat 32 (i 0).val
  let c2_i32 : BitVec 32 := 2#32
  let v0 : BitVec 32 := Scalar.remsi arg0 c2_i32
  let c5632_i32 : BitVec 32 := 5632#32
  let v1934 : BitVec 32 := c5632_i32
  let c0_i32_255 : BitVec 32 := 0#32
  ![v0.toNat, 5632, 0]
def k0_mult179 : BitVec 32 :=
  let c5888_i32 : BitVec 32 := 5888#32
  c5888_i32
def k0_mult180 : BitVec 32 :=
  let c5888_i32_256 : BitVec 32 := 5888#32
  c5888_i32_256
def k0_off152 (i : grid0.Coords) : Fin 3 → Nat :=
  let arg0 : BitVec 32 := BitVec.ofNat 32 (i 0).val
  let c5888_i32_256 : BitVec 32 := 5888#32
  let v1943 : BitVec 32 := c5888_i32_256
  let c0_i32_257 : BitVec 32 := 0#32
  ![arg0.toNat, 5888, 0]
def k0_off153 (i : grid0.Coords) : Fin 3 → Nat :=
  let arg0 : BitVec 32 := BitVec.ofNat 32 (i 0).val
  let c2_i32 : BitVec 32 := 2#32
  let v0 : BitVec 32 := Scalar.remsi arg0 c2_i32
  let c5888_i32 : BitVec 32 := 5888#32
  let v1942 : BitVec 32 := c5888_i32
  let c0_i32_258 : BitVec 32 := 0#32
  ![v0.toNat, 5888, 0]
def k0_mult181 : BitVec 32 :=
  let c6144_i32 : BitVec 32 := 6144#32
  c6144_i32
def k0_mult182 : BitVec 32 :=
  let c6144_i32_259 : BitVec 32 := 6144#32
  c6144_i32_259
def k0_off154 (i : grid0.Coords) : Fin 3 → Nat :=
  let arg0 : BitVec 32 := BitVec.ofNat 32 (i 0).val
  let c6144_i32_259 : BitVec 32 := 6144#32
  let v1951 : BitVec 32 := c6144_i32_259
  let c0_i32_260 : BitVec 32 := 0#32
  ![arg0.toNat, 6144, 0]
def k0_off155 (i : grid0.Coords) : Fin 3 → Nat :=
  let arg0 : BitVec 32 := BitVec.ofNat 32 (i 0).val
  let c2_i32 : BitVec 32 := 2#32
  let v0 : BitVec 32 := Scalar.remsi arg0 c2_i32
  let c6144_i32 : BitVec 32 := 6144#32
  let v1950 : BitVec 32 := c6144_i32
  let c0_i32_261 : BitVec 32 := 0#32
  ![v0.toNat, 6144, 0]
def k0_mult183 : BitVec 32 :=
  let c6400_i32 : BitVec 32 := 6400#32
  c6400_i32
def k0_mult184 : BitVec 32 :=
  let c6400_i32_262 : BitVec 32 := 6400#32
  c6400_i32_262
def k0_off156 (i : grid0.Coords) : Fin 3 → Nat :=
  let arg0 : BitVec 32 := BitVec.ofNat 32 (i 0).val
  let c6400_i32_262 : BitVec 32 := 6400#32
  let v1959 : BitVec 32 := c6400_i32_262
  let c0_i32_263 : BitVec 32 := 0#32
  ![arg0.toNat, 6400, 0]
def k0_off157 (i : grid0.Coords) : Fin 3 → Nat :=
  let arg0 : BitVec 32 := BitVec.ofNat 32 (i 0).val
  let c2_i32 : BitVec 32 := 2#32
  let v0 : BitVec 32 := Scalar.remsi arg0 c2_i32
  let c6400_i32 : BitVec 32 := 6400#32
  let v1958 : BitVec 32 := c6400_i32
  let c0_i32_264 : BitVec 32 := 0#32
  ![v0.toNat, 6400, 0]
def k0_mult185 : BitVec 32 :=
  let c6656_i32 : BitVec 32 := 6656#32
  c6656_i32
def k0_mult186 : BitVec 32 :=
  let c6656_i32_265 : BitVec 32 := 6656#32
  c6656_i32_265
def k0_off158 (i : grid0.Coords) : Fin 3 → Nat :=
  let arg0 : BitVec 32 := BitVec.ofNat 32 (i 0).val
  let c6656_i32_265 : BitVec 32 := 6656#32
  let v1967 : BitVec 32 := c6656_i32_265
  let c0_i32_266 : BitVec 32 := 0#32
  ![arg0.toNat, 6656, 0]
def k0_off159 (i : grid0.Coords) : Fin 3 → Nat :=
  let arg0 : BitVec 32 := BitVec.ofNat 32 (i 0).val
  let c2_i32 : BitVec 32 := 2#32
  let v0 : BitVec 32 := Scalar.remsi arg0 c2_i32
  let c6656_i32 : BitVec 32 := 6656#32
  let v1966 : BitVec 32 := c6656_i32
  let c0_i32_267 : BitVec 32 := 0#32
  ![v0.toNat, 6656, 0]
def k0_mult187 : BitVec 32 :=
  let c6912_i32 : BitVec 32 := 6912#32
  c6912_i32
def k0_mult188 : BitVec 32 :=
  let c6912_i32_268 : BitVec 32 := 6912#32
  c6912_i32_268
def k0_off160 (i : grid0.Coords) : Fin 3 → Nat :=
  let arg0 : BitVec 32 := BitVec.ofNat 32 (i 0).val
  let c6912_i32_268 : BitVec 32 := 6912#32
  let v1975 : BitVec 32 := c6912_i32_268
  let c0_i32_269 : BitVec 32 := 0#32
  ![arg0.toNat, 6912, 0]
def k0_off161 (i : grid0.Coords) : Fin 3 → Nat :=
  let arg0 : BitVec 32 := BitVec.ofNat 32 (i 0).val
  let c2_i32 : BitVec 32 := 2#32
  let v0 : BitVec 32 := Scalar.remsi arg0 c2_i32
  let c6912_i32 : BitVec 32 := 6912#32
  let v1974 : BitVec 32 := c6912_i32
  let c0_i32_270 : BitVec 32 := 0#32
  ![v0.toNat, 6912, 0]
def k0_mult189 : BitVec 32 :=
  let c7168_i32 : BitVec 32 := 7168#32
  c7168_i32
def k0_mult190 : BitVec 32 :=
  let c7168_i32_271 : BitVec 32 := 7168#32
  c7168_i32_271
def k0_off162 (i : grid0.Coords) : Fin 3 → Nat :=
  let arg0 : BitVec 32 := BitVec.ofNat 32 (i 0).val
  let c7168_i32_271 : BitVec 32 := 7168#32
  let v1983 : BitVec 32 := c7168_i32_271
  let c0_i32_272 : BitVec 32 := 0#32
  ![arg0.toNat, 7168, 0]
def k0_off163 (i : grid0.Coords) : Fin 3 → Nat :=
  let arg0 : BitVec 32 := BitVec.ofNat 32 (i 0).val
  let c2_i32 : BitVec 32 := 2#32
  let v0 : BitVec 32 := Scalar.remsi arg0 c2_i32
  let c7168_i32 : BitVec 32 := 7168#32
  let v1982 : BitVec 32 := c7168_i32
  let c0_i32_273 : BitVec 32 := 0#32
  ![v0.toNat, 7168, 0]
def k0_mult191 : BitVec 32 :=
  let c7424_i32 : BitVec 32 := 7424#32
  c7424_i32
def k0_mult192 : BitVec 32 :=
  let c7424_i32_274 : BitVec 32 := 7424#32
  c7424_i32_274
def k0_off164 (i : grid0.Coords) : Fin 3 → Nat :=
  let arg0 : BitVec 32 := BitVec.ofNat 32 (i 0).val
  let c7424_i32_274 : BitVec 32 := 7424#32
  let v1991 : BitVec 32 := c7424_i32_274
  let c0_i32_275 : BitVec 32 := 0#32
  ![arg0.toNat, 7424, 0]
def k0_off165 (i : grid0.Coords) : Fin 3 → Nat :=
  let arg0 : BitVec 32 := BitVec.ofNat 32 (i 0).val
  let c2_i32 : BitVec 32 := 2#32
  let v0 : BitVec 32 := Scalar.remsi arg0 c2_i32
  let c7424_i32 : BitVec 32 := 7424#32
  let v1990 : BitVec 32 := c7424_i32
  let c0_i32_276 : BitVec 32 := 0#32
  ![v0.toNat, 7424, 0]
def k0_mult193 : BitVec 32 :=
  let c7680_i32 : BitVec 32 := 7680#32
  c7680_i32
def k0_mult194 : BitVec 32 :=
  let c7680_i32_277 : BitVec 32 := 7680#32
  c7680_i32_277
def k0_off166 (i : grid0.Coords) : Fin 3 → Nat :=
  let arg0 : BitVec 32 := BitVec.ofNat 32 (i 0).val
  let c7680_i32_277 : BitVec 32 := 7680#32
  let v1999 : BitVec 32 := c7680_i32_277
  let c0_i32_278 : BitVec 32 := 0#32
  ![arg0.toNat, 7680, 0]
def k0_off167 (i : grid0.Coords) : Fin 3 → Nat :=
  let arg0 : BitVec 32 := BitVec.ofNat 32 (i 0).val
  let c2_i32 : BitVec 32 := 2#32
  let v0 : BitVec 32 := Scalar.remsi arg0 c2_i32
  let c7680_i32 : BitVec 32 := 7680#32
  let v1998 : BitVec 32 := c7680_i32
  let c0_i32_279 : BitVec 32 := 0#32
  ![v0.toNat, 7680, 0]
def k0_mult195 : BitVec 32 :=
  let c7936_i32 : BitVec 32 := 7936#32
  c7936_i32
def k0_mult196 : BitVec 32 :=
  let c7936_i32_280 : BitVec 32 := 7936#32
  c7936_i32_280
def k0_off168 (i : grid0.Coords) : Fin 3 → Nat :=
  let arg0 : BitVec 32 := BitVec.ofNat 32 (i 0).val
  let c7936_i32_280 : BitVec 32 := 7936#32
  let v2007 : BitVec 32 := c7936_i32_280
  let c0_i32_281 : BitVec 32 := 0#32
  ![arg0.toNat, 7936, 0]
def k0_off169 (i : grid0.Coords) : Fin 3 → Nat :=
  let arg0 : BitVec 32 := BitVec.ofNat 32 (i 0).val
  let c2_i32 : BitVec 32 := 2#32
  let v0 : BitVec 32 := Scalar.remsi arg0 c2_i32
  let c7936_i32 : BitVec 32 := 7936#32
  let v2006 : BitVec 32 := c7936_i32
  let c0_i32_282 : BitVec 32 := 0#32
  ![v0.toNat, 7936, 0]
def k0_mult197 : BitVec 32 :=
  let c8192_i32 : BitVec 32 := 8192#32
  c8192_i32
def k0_mult198 : BitVec 32 :=
  let c8192_i32_283 : BitVec 32 := 8192#32
  c8192_i32_283
def k0_off170 (i : grid0.Coords) : Fin 3 → Nat :=
  let arg0 : BitVec 32 := BitVec.ofNat 32 (i 0).val
  let c8192_i32_283 : BitVec 32 := 8192#32
  let v2015 : BitVec 32 := c8192_i32_283
  let c0_i32_284 : BitVec 32 := 0#32
  ![arg0.toNat, 8192, 0]
def k0_off171 (i : grid0.Coords) : Fin 3 → Nat :=
  let arg0 : BitVec 32 := BitVec.ofNat 32 (i 0).val
  let c2_i32 : BitVec 32 := 2#32
  let v0 : BitVec 32 := Scalar.remsi arg0 c2_i32
  let c8192_i32 : BitVec 32 := 8192#32
  let v2014 : BitVec 32 := c8192_i32
  let c0_i32_285 : BitVec 32 := 0#32
  ![v0.toNat, 8192, 0]
def k0_mult199 : BitVec 32 :=
  let c8448_i32 : BitVec 32 := 8448#32
  c8448_i32
def k0_mult200 : BitVec 32 :=
  let c8448_i32_286 : BitVec 32 := 8448#32
  c8448_i32_286
def k0_off172 (i : grid0.Coords) : Fin 3 → Nat :=
  let arg0 : BitVec 32 := BitVec.ofNat 32 (i 0).val
  let c8448_i32_286 : BitVec 32 := 8448#32
  let v2023 : BitVec 32 := c8448_i32_286
  let c0_i32_287 : BitVec 32 := 0#32
  ![arg0.toNat, 8448, 0]
def k0_off173 (i : grid0.Coords) : Fin 3 → Nat :=
  let arg0 : BitVec 32 := BitVec.ofNat 32 (i 0).val
  let c2_i32 : BitVec 32 := 2#32
  let v0 : BitVec 32 := Scalar.remsi arg0 c2_i32
  let c8448_i32 : BitVec 32 := 8448#32
  let v2022 : BitVec 32 := c8448_i32
  let c0_i32_288 : BitVec 32 := 0#32
  ![v0.toNat, 8448, 0]
def k0_mult201 : BitVec 32 :=
  let c8704_i32_289 : BitVec 32 := 8704#32
  c8704_i32_289
def k0_mult202 : BitVec 32 :=
  let c8704_i32_290 : BitVec 32 := 8704#32
  c8704_i32_290
def k0_off174 (i : grid0.Coords) : Fin 3 → Nat :=
  let arg0 : BitVec 32 := BitVec.ofNat 32 (i 0).val
  let c8704_i32_290 : BitVec 32 := 8704#32
  let v2031 : BitVec 32 := c8704_i32_290
  let c0_i32_292 : BitVec 32 := 0#32
  ![arg0.toNat, 8704, 0]
def k0_off175 (i : grid0.Coords) : Fin 3 → Nat :=
  let arg0 : BitVec 32 := BitVec.ofNat 32 (i 0).val
  let c2_i32 : BitVec 32 := 2#32
  let v0 : BitVec 32 := Scalar.remsi arg0 c2_i32
  let c8704_i32_289 : BitVec 32 := 8704#32
  let v2030 : BitVec 32 := c8704_i32_289
  let c0_i32_293 : BitVec 32 := 0#32
  ![v0.toNat, 8704, 0]
def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S22x16x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x22 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x8960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x8960 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x22 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x1536 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x22 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S22x8960x1536 : Shape := ⟨3, ![22, 8960, 1536]⟩
abbrev S22x1536x16 : Shape := ⟨3, ![22, 1536, 16]⟩
abbrev S22x16 : Shape := ⟨2, ![22, 16]⟩
abbrev S22x8960x16 : Shape := ⟨3, ![22, 8960, 16]⟩
abbrev S22x1x16 : Shape := ⟨3, ![22, 1, 16]⟩
abbrev S22x16x16 : Shape := ⟨3, ![22, 16, 16]⟩
abbrev S22x16x1 : Shape := ⟨3, ![22, 16, 1]⟩
abbrev S22x1 : Shape := ⟨2, ![22, 1]⟩
abbrev S22x1x1 : Shape := ⟨3, ![22, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S22x8960x1536, .bf16⟩
  | .hbm, ⟨1, _⟩ => ⟨S22x8960x1536, .bf16⟩
  | .hbm, ⟨2, _⟩ => ⟨S22x1536x16, .i8⟩
  | .hbm, ⟨3, _⟩ => ⟨S22x16, .f32⟩
  | .hbm, ⟨4, _⟩ => ⟨S22x8960x1536, .bf16⟩
  | .hbm, ⟨5, _⟩ => ⟨S22x8960x16, .f32⟩
  | .hbm, ⟨6, _⟩ => ⟨S22x8960x16, .i8⟩
  | .hbm, ⟨7, _⟩ => ⟨S22x16, .f32⟩
  | .hbm, ⟨8, _⟩ => ⟨S22x1536x16, .i8⟩
  | .hbm, ⟨9, _⟩ => ⟨S22x16, .f32⟩
  | .local _ .vmem, ⟨0, _⟩ => ⟨S22x8960x1536, .bf16⟩
  | .local _ .vmem, ⟨1, _⟩ => ⟨S22x8960x1536, .bf16⟩
  | .local _ .vmem, ⟨2, _⟩ => ⟨S22x1536x16, .i8⟩
  | .local _ .vmem, ⟨3, _⟩ => ⟨S22x16, .f32⟩
  | .local _ .vmem, ⟨4, _⟩ => ⟨S22x8960x1536, .bf16⟩
  | .local _ .vmem, ⟨5, _⟩ => ⟨S22x8960x16, .f32⟩
  | .local _ .vmem, ⟨6, _⟩ => ⟨S22x8960x16, .i8⟩
  | .local _ .vmem, ⟨7, _⟩ => ⟨S22x16, .f32⟩
  | .local _ .vmem, ⟨8, _⟩ => ⟨S22x1536x16, .i8⟩
  | .local _ .vmem, ⟨9, _⟩ => ⟨S22x16, .f32⟩
  | _, _ => ⟨S22x8960x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
@[reducible] def k0_t2_loop : Scf.Loop 32 :=
  let c0_i32_20 : BitVec 32 := 0#32
  let c16_i32_21 : BitVec 32 := 16#32
  let v34 : BitVec 32 := Scalar.addi c0_i32_20 c16_i32_21
  let c1_i32_22 : BitVec 32 := 1#32
  ⟨c0_i32_20, v34, c1_i32_22⟩
abbrev stage0_0 : Fin 1 → Memref sig .tc .vmem S22x8960x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22x8960x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22x1536x16 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S22x8960x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S22x8960x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S22x8960x16 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S22x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S22x1536x16 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S22x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Steps.lean ====
/-
  Steps of a body over PIECES of memrefs: a load, a store, a local transfer and its wait, each stated over the pieces (unit rectangles)
  that it touches, every piece owned at a stated vector. The offsets of the operation need only be equal to the piece's.
-/
module

public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (Pipeline.UD sig nD τ) ℕ

/-- The piece of a memref under the unit rectangle at `off`. -/
abbrev pc {κ : Kind} {sp : Space} {s : Shape} {e : EltTy} (M : Memref sig κ sp s e) (off size : Fin s.rank → Nat)
    (inb : ∀ a, off a + size a ≤ s.size a) : Memref sig κ sp (Rect.unit (s := s) off size inb).shape e :=
  M.slice (Rect.unit (s := s) off size inb) (fun _ => rfl)

/-- The body's effects read at the frame kit's algebra. -/
abbrev WE (defs : Defs nD τ sig Val Λ) (𝒱 : Variants) (c : Thread nD τ) (bd : Option 𝒱.V) :=
  wpE (Ix := Unit) (Name := ℕ) (U := Pipeline.UD sig nD τ) (Lvl := ℕ) defs 𝒱 c bd

section Rules
variable {defs : Defs nD τ sig Val Λ} {𝒱 : Variants} {c : Thread nD τ} {bd : Option 𝒱.V}
variable {α : Type}

theorem wp_ld {Q : α → sProp 𝕄} {cs : CoreSpace} {s : Shape} {e : EltTy} {M : Memref sig c.2.kind cs s e} {off off' size : Fin s.rank → Nat}
    {inb : ∀ a, off a + size a ≤ s.size a} (inb' : ∀ a, off' a + size a ≤ s.size a) (h : off = off')
    {hl : M.view.LoadsAt (Rect.unit (s := s) off size inb).toLoadRect}
    {k : ((Rect.unit (s := s) off size inb).toLoadRect.shape.Idx → Val e) → Prog (TpuEff nD τ sig Val Λ c.2) α}
    {q : PosShare TreeShare} {v : (Rect.unit (s := s) off' size inb').shape.Idx → Val e} :
    owns c (pc M off' size inb') q v
      ⊢ iprop((owns c (pc M off' size inb') q v -∗ wp frame (WE defs 𝒱 c bd) Set.univ (k v) Q)
          -∗ wp frame (WE defs 𝒱 c bd) Set.univ (.op (.load M (Rect.unit (s := s) off size inb).toLoadRect hl) k) Q) := by
  subst h
  unfold owns
  iintro ⟨%f, %hf, H⟩ Hk
  iapply (wp_load_rect 𝒱 c bd Set.univ (m := M) (r := Rect.unit (s := s) off size inb) (q := q) (f := f) (k := k)
    (S := (pc M off size inb).view.set) (Finset.Subset.refl _)) $$ H
  iintro H
  have hf' : (M.access (Rect.unit (s := s) off size inb)).read Val f = v := hf
  rw [hf']
  iapply Hk
  iexists f
  isplitr
  · ipureintro; exact hf
  iexact H

theorem wp_st {Q : α → sProp 𝕄} {cs : CoreSpace} {s : Shape} {e : EltTy} {M : Memref sig c.2.kind cs s e} {off off' size : Fin s.rank → Nat}
    {inb : ∀ a, off a + size a ≤ s.size a} (inb' : ∀ a, off' a + size a ≤ s.size a) (h : off = off')
    {w : (Rect.unit (s := s) off size inb).shape.Idx → Val e}
    {hx : (M.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig Val Λ c.2) α}
    {v : (Rect.unit (s := s) off' size inb').shape.Idx → Val e} :
    owns c (pc M off' size inb') fullShare v
      ⊢ iprop((owns c (pc M off' size inb') fullShare w -∗ wp frame (WE defs 𝒱 c bd) Set.univ (k ⟨⟩) Q)
          -∗ wp frame (WE defs 𝒱 c bd) Set.univ (.op (.store M (Rect.unit (s := s) off size inb) w Finset.univ hx hm) k) Q) := by
  subst h
  unfold owns
  iintro ⟨%f, %hf, H⟩ Hk
  iapply (wp_store 𝒱 c bd Set.univ (m := M) (r := Rect.unit (s := s) off size inb) (f := f) (k := k) (hx := hx) (hm := hm) (w := w)
    (S := (pc M off size inb).view.set) (by rw [View.setOn_univ])) $$ H
  iintro H
  iapply Hk
  iexists _
  isplitr
  swap; · iexact H
  ipureintro
  exact View.read_write_univ _ _

/-- What a local transfer between squeezed pieces of one shape delivers, in terms of the pieces themselves. -/
theorem read_squeezed {κ κ' : Kind} {sp sp' : Space} {s₀ s : Shape} {e : EltTy}
    (V₁ : View sig κ sp s₀ e) (V₂ : View sig κ' sp' s₀ e) (h : s.numel = s₀.numel)
    (f : V₁.ty.Contents Val) (g : V₂.ty.Contents Val) :
    V₂.read Val ((V₂.reshape s h).write Val g ((V₁.reshape s h).read Val f) Finset.univ) = V₁.read Val f := by
  have key := View.read_write_univ (v := V₂.reshape s h) (Val := Val) g ((V₁.reshape s h).read Val f)
  funext x
  have := congrFun key ((Shape.reshapeEquiv h).symm x)
  have e1 : ∀ G : V₂.ty.Contents Val, (V₂.reshape s h).read Val G ((Shape.reshapeEquiv h).symm x) = V₂.read Val G x := by
    intro G
    show V₂.read Val G (Shape.reshapeEquiv h ((Shape.reshapeEquiv h).symm x)) = _
    rw [Equiv.apply_symm_apply]
  have e2 : (V₁.reshape s h).read Val f ((Shape.reshapeEquiv h).symm x) = V₁.read Val f x := by
    show V₁.read Val f (Shape.reshapeEquiv h ((Shape.reshapeEquiv h).symm x)) = _
    rw [Equiv.apply_symm_apply]
  rw [← e1, ← e2]; exact this

/-- The flight of a transfer on the cell `sm`, landing `D`. -/
abbrev Fl (c : Thread nD τ) (sm : SemLoc sig) (N : ℕ) (D : sProp 𝕄) : sProp 𝕄 :=
  Transfers.Flight (countersEmb (U := Pipeline.UD sig nD τ)) c sm () N D

theorem wp_dma {Q : α → sProp 𝕄} {sp sp' : Space} {r : ℕ} {d₁ d₂ size : Fin r → ℕ} {e : EltTy} {s : Shape}
    {M₁ : Memref sig c.2.kind sp ⟨r, d₁⟩ e} {M₂ : Memref sig c.2.kind sp' ⟨r, d₂⟩ e} {sm sm' : SemLoc sig}
    {off₁ off₁' off₂ off₂' : Fin r → ℕ}
    {inb₁ : ∀ a, off₁ a + size a ≤ d₁ a} (inb₁' : ∀ a, off₁' a + size a ≤ d₁ a) (h₁ : off₁ = off₁')
    {inb₂ : ∀ a, off₂ a + size a ≤ d₂ a} (inb₂' : ∀ a, off₂' a + size a ≤ d₂ a) (h₂ : off₂ = off₂')
    {z₁ z₂ : (⟨r, size⟩ : Shape).Squeezes s} (hsm : sm = sm') (N : ℕ)
    (hN : ((pc M₂ off₂' size inb₂').squeeze s z₂).view.amount sm' = N) (hN0 : 0 < N)
    {hsrc : ((pc M₁ off₁ size inb₁).squeeze s z₁).view.WordExact} {hdst : ((pc M₂ off₂ size inb₂).squeeze s z₂).view.WordExact}
    {hsem : DmaTarget.Typed (nD := nD) sp sm (.here ((pc M₂ off₂ size inb₂).squeeze s z₂))}
    {k : PUnit → Prog (TpuEff nD τ sig Val Λ c.2) α} {q : PosShare TreeShare} {v v' : (⟨r, size⟩ : Shape).Idx → Val e} :
    iprop(owns c (pc M₁ off₁' size inb₁') q v ∗ owns c (pc M₂ off₂' size inb₂') fullShare v' ∗ semVal (c, sm') 0)
      ⊢ iprop((Fl c sm' N iprop(owns c (pc M₂ off₂' size inb₂') fullShare v ∗ owns c (pc M₁ off₁' size inb₁') q v)
            -∗ wp frame (WE defs 𝒱 c bd) Set.univ (k ⟨⟩) Q)
          -∗ wp frame (WE defs 𝒱 c bd) Set.univ
            (.op (.enqueueDma ((pc M₁ off₁ size inb₁).squeeze s z₁) (.here ((pc M₂ off₂ size inb₂).squeeze s z₂)) sm hsrc hdst hsem) k) Q) := by
  subst h₁; subst h₂; subst hsm
  unfold owns
  iintro ⟨⟨%f, %hf, H₁⟩, ⟨%g, -, H₂⟩, Hv⟩ Hk
  iapply (Transfers.wp_dmaLocal (countersEmb (U := Pipeline.UD sig nD τ)) 𝒱 c bd (src := (pc M₁ off₁ size inb₁).squeeze s z₁)
    (dst := (pc M₂ off₂ size inb₂).squeeze s z₂) (q := q) (fs := f) (fd := g) (Sd := (pc M₂ off₂ size inb₂).view.set) () N hN hN0
    (by rw [show ((pc M₂ off₂ size inb₂).squeeze s z₂).view.set = (pc M₂ off₂ size inb₂).view.set from View.set_reshape _ _])) $$ [H₁ H₂ Hv]
  · rw [show ((pc M₁ off₁ size inb₁).squeeze s z₁).view.set = (pc M₁ off₁ size inb₁).view.set from View.set_reshape _ _]
    isplitl [H₁]; · iexact H₁
    isplitl [H₂]; · iexact H₂
    iexact Hv
  iintro HF
  iapply Hk
  iapply (Transfers.Flight_mono (countersEmb (U := Pipeline.UD sig nD τ)) c ?_) $$ HF
  rw [show ((pc M₁ off₁ size inb₁).squeeze s z₁).view.set = (pc M₁ off₁ size inb₁).view.set from View.set_reshape _ _]
  iintro ⟨H₂, H₁⟩
  isplitl [H₂]
  · iexists _
    isplitr
    swap; · iexact H₂
    ipureintro
    rw [← hf]
    exact read_squeezed (pc M₁ off₁ size inb₁).view (pc M₂ off₂ size inb₂).view z₂.numel_eq f g
  · iexists f
    isplitr
    · ipureintro; exact hf
    iexact H₁

/-- What the core owes: nothing, its waits recorded. -/
def OW (c : Thread nD τ) : sProp 𝕄 := iprop(∃ W, owes c 0 W)

theorem wp_wt {Q : α → sProp 𝕄} {sp sp' : Space} {s s' : Shape} {e e' : EltTy} {κ' : Kind} {sem sem' : DmaSem sig}
    (hsm : sem = sem')
    {srcw : Memref sig c.2.kind sp' s' e'} {dstw : Memref sig κ' sp s e} {hsrc : srcw.view.WordExact} {hdst : dstw.view.WordExact}
    {k : PUnit → Prog (TpuEff nD τ sig Val Λ c.2) α} {N : ℕ} (hN : dstw.view.dmaCredit = N) {D : sProp 𝕄} :
    iprop(Fl c (.dma sem') N D ∗ OW c)
      ⊢ iprop((iprop(D ∗ semVal (c, .dma sem') 0 ∗ OW c) -∗ wp frame (WE defs 𝒱 c bd) Set.univ (k ⟨⟩) Q)
          -∗ wp frame (WE defs 𝒱 c bd) Set.univ (.op (.waitDma2 sem srcw dstw hsrc hdst) k) Q) := by
  subst hsm
  unfold OW
  iintro ⟨HF, %W, HW⟩ Hk
  iapply (Transfers.wp_waitLocal (countersEmb (U := Pipeline.UD sig nD τ)) 𝒱 c bd (sem := sem) (srcw := srcw) (dstw := dstw) (hsrc := hsrc) (hdst := hdst)
    () hN) $$ [HF HW]
  · isplitl [HF]; · iexact HF
    iexact HW
  iintro ⟨HD, Hv, HW⟩
  iapply Hk
  isplitl [HD]; · iexact HD
  isplitl [Hv]; · iexact Hv
  iexists _; iexact HW

/-! ## Families over an interval of the naturals -/

section Ico
variable {M : Type} [URA M] (Φ : ℕ → sProp M)

/-- The conjunction of `Φ` over `[a, b)`. -/
def fam (a b : ℕ) : sProp M := bigSep (Finset.Ico a b) Φ

theorem fam_empty {a b : ℕ} (h : b ≤ a) : fam Φ a b = (iprop(emp) : sProp M) := by
  unfold fam; rw [Finset.Ico_eq_empty (by omega), bigSep_empty]; rfl

theorem fam_head {a b : ℕ} (h : a < b) : fam Φ a b = iprop(Φ a ∗ fam Φ (a + 1) b) := by
  unfold fam; rw [show Finset.Ico a b = insert a (Finset.Ico (a + 1) b) from by ext x; simp only [Finset.mem_Ico, Finset.mem_insert]; omega,
    bigSep_insert (by simp)]; rfl

theorem fam_last {a b : ℕ} (h : a ≤ b) : fam Φ a (b + 1) = iprop(Φ b ∗ fam Φ a b) := by
  unfold fam
  rw [show Finset.Ico a (b + 1) = insert b (Finset.Ico a b) from by ext x; simp only [Finset.mem_Ico, Finset.mem_insert]; omega,
    bigSep_insert (by simp)]; rfl

theorem fam_split {a b d : ℕ} (h₁ : a ≤ b) (h₂ : b ≤ d) : fam Φ a d = iprop(fam Φ a b ∗ fam Φ b d) := by
  unfold fam
  rw [← Finset.Ico_union_Ico_eq_Ico h₁ h₂, BI.bigSep_union (Finset.Ico_disjoint_Ico_consecutive a b d)]; rfl

theorem fam_mono {Φ Ψ : ℕ → sProp M} {a b : ℕ} (h : ∀ i, a ≤ i → i < b → Φ i ⊢ Ψ i) : fam Φ a b ⊢ fam Ψ a b :=
  bigSep_mono fun i hi => h i (Finset.mem_Ico.mp hi).1 (Finset.mem_Ico.mp hi).2

theorem fam_congr {Φ Ψ : ℕ → sProp M} {a b : ℕ} (h : ∀ i, a ≤ i → i < b → Φ i = Ψ i) : fam Φ a b = fam Ψ a b :=
  bigSep_congr fun i hi => h i (Finset.mem_Ico.mp hi).1 (Finset.mem_Ico.mp hi).2

/-- A family read at shifted indices. -/
theorem fam_shift (k a b : ℕ) : fam Φ (a + k) (b + k) = fam (fun i => Φ (i + k)) a b := by
  unfold fam
  rw [show Finset.Ico (a + k) (b + k) = (Finset.Ico a b).map (addRightEmbedding k) from by
    ext x; simp only [Finset.mem_map, Finset.mem_Ico, addRightEmbedding_apply]
    exact ⟨fun h => ⟨x - k, by omega, by omega⟩, fun ⟨y, h, e⟩ => by omega⟩, bigSep_map]; rfl

theorem fam_focus {a b i : ℕ} (h₁ : a ≤ i) (h₂ : i < b) : fam Φ a b ⊢ iprop(Φ i ∗ (Φ i -∗ fam Φ a b)) := by
  rw [fam_split Φ h₁ h₂.le, fam_head Φ h₂]
  iintro ⟨H₁, H₂, H₃⟩
  isplitl [H₂]; · iexact H₂
  iintro H₂
  isplitl [H₁]; · iexact H₁
  isplitl [H₂]; · iexact H₂
  iexact H₃

end Ico
end Rules
end Cert.Steps
-- ==== Proof.KernelRes.lean ====
/-
  The kernel's resources, piece by piece. The blocks of the whole run are numbered `n = 35 * batch + chunk`; every input transfer and every
  output transfer is started and waited in the order of these numbers.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Steps

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The buffers -/

abbrev gM : Memref sig .tc .hbm S22x8960x1536 .bf16 := Memref.whole main_arg0
abbrev eM : Memref sig .tc .hbm S22x8960x1536 .bf16 := Memref.whole main_arg1
abbrev oM : Memref sig .tc .hbm S22x8960x1536 .bf16 := Memref.whole main_v2_0
abbrev mM : Memref sig .tc .vmem S2x8960x1536 .bf16 := Memref.whole cc0_scratch0
abbrev stM : Memref sig .tc .vmem S6x256x1536 .bf16 := Memref.whole cc0_scratch1
abbrev bqM : Memref sig .tc .vmem S16x1536 .bf16 := Memref.whole cc0_scratch2
abbrev p1M : Memref sig .tc .vmem S35x16x256 .f32 := Memref.whole cc0_scratch3
abbrev pbM : Memref sig .tc .vmem S35x16x256 .f32 := Memref.whole cc0_scratch4
abbrev poM : Memref sig .tc .vmem S35x16x256 .bf16 := Memref.whole cc0_scratch5
abbrev pcM : Memref sig .tc .vmem S35x16x256 .bf16 := Memref.whole cc0_scratch6

/-! ## The offsets of block `n` and of chunk `c` -/

/-- Block `n` in an array of all batches. -/
abbrev Ooff (n : ℕ) : Fin 3 → ℕ := ![n / 35 % 22, 256 * (n % 35), 0]
/-- Block `n` in the two slots held on chip. -/
abbrev Moff (n : ℕ) : Fin 3 → ℕ := ![n / 35 % 2, 256 * (n % 35), 0]
/-- Chunk `c`'s staging slot. -/
abbrev Soff (c : ℕ) : Fin 3 → ℕ := ![c % 6, 0, 0]
/-- Chunk `c` of a buffer of chunks. -/
abbrev Coff (c : ℕ) : Fin 3 → ℕ := ![c % 35, 0, 0]

theorem Ooff_inb (n : ℕ) : ∀ a, Ooff n a + S1x256x1536.size a ≤ S22x8960x1536.size a := by
  intro a; fin_cases a <;> simp [Ooff] <;> omega
theorem Moff_inb (n : ℕ) : ∀ a, Moff n a + S1x256x1536.size a ≤ S2x8960x1536.size a := by
  intro a; fin_cases a <;> simp [Moff] <;> omega
theorem Soff_inb (c : ℕ) : ∀ a, Soff c a + S1x256x1536.size a ≤ S6x256x1536.size a := by
  intro a; fin_cases a <;> simp [Soff] <;> omega
theorem Coff_inb (c : ℕ) : ∀ a, Coff c a + S1x16x256.size a ≤ S35x16x256.size a := by
  intro a; fin_cases a <;> simp [Coff] <;> omega

/-- Block `n` of an array of all batches. -/
def blk (X : Vec F S22x8960x1536 .bf16) (n : ℕ) : Vec F S1x256x1536 .bf16 :=
  fun x => X ((Rect.unit (s := S22x8960x1536) (Ooff n) S1x256x1536.size (Ooff_inb n)).emb x)

/-! ## The pieces -/

variable (d : Dev nD)

abbrev gPc (n : ℕ) (v : Vec F S1x256x1536 .bf16) : sProp 𝕄 := owns (d : Thread nD τ) (pc gM (Ooff n) S1x256x1536.size (Ooff_inb n)) fullShare v
abbrev ePc (n : ℕ) (v : Vec F S1x256x1536 .bf16) : sProp 𝕄 := owns (d : Thread nD τ) (pc eM (Ooff n) S1x256x1536.size (Ooff_inb n)) fullShare v
abbrev oPc (n : ℕ) (v : Vec F S1x256x1536 .bf16) : sProp 𝕄 := owns (d : Thread nD τ) (pc oM (Ooff n) S1x256x1536.size (Ooff_inb n)) fullShare v
abbrev mPc (n : ℕ) (v : Vec F S1x256x1536 .bf16) : sProp 𝕄 := owns (d : Thread nD τ) (pc mM (Moff n) S1x256x1536.size (Moff_inb n)) fullShare v
abbrev sPc (c : ℕ) (v : Vec F S1x256x1536 .bf16) : sProp 𝕄 := owns (d : Thread nD τ) (pc stM (Soff c) S1x256x1536.size (Soff_inb c)) fullShare v
/-- A chunk of the four buffers of chunks. -/
abbrev cPc {e : EltTy} (M : Memref sig .tc .vmem S35x16x256 e) (c : ℕ) (v : Vec F S1x16x256 e) : sProp 𝕄 :=
  owns (d : Thread nD τ) (pc M (Coff c) S1x16x256.size (Coff_inb c)) fullShare v

/-! ## The cells -/

theorem g_inb (c : ℕ) : ∀ a, (![c % 6] : Fin 1 → ℕ) a + S1.size a ≤ S6.size a := by
  intro a; fin_cases a; simp; omega
theorem o_inb (c : ℕ) : ∀ a, (![c % 35] : Fin 1 → ℕ) a + S1.size a ≤ S35.size a := by
  intro a; fin_cases a; simp; omega

def gcell (c : ℕ) : DmaSem sig := ((cc0_scratch7.slice (Rect.unit (s := S6) ![c % 6] S1.size (g_inb c))).squeeze S_ squeezes_S1_S_).sem
def ecell (c : ℕ) : DmaSem sig := ((cc0_scratch8.slice (Rect.unit (s := S6) ![c % 6] S1.size (g_inb c))).squeeze S_ squeezes_S1_S_).sem
def ocell (c : ℕ) : DmaSem sig := ((cc0_scratch9.slice (Rect.unit (s := S35) ![c % 35] S1.size (o_inb c))).squeeze S_ squeezes_S1_S_).sem

theorem gcell_eq {off : Fin 1 → ℕ} {inb : ∀ a, off a + S1.size a ≤ S6.size a} {c : ℕ} (h : off = ![c % 6]) :
    ((cc0_scratch7.slice (Rect.unit (s := S6) off S1.size inb)).squeeze S_ squeezes_S1_S_).sem = gcell c := by subst h; rfl
theorem ecell_eq {off : Fin 1 → ℕ} {inb : ∀ a, off a + S1.size a ≤ S6.size a} {c : ℕ} (h : off = ![c % 6]) :
    ((cc0_scratch8.slice (Rect.unit (s := S6) off S1.size inb)).squeeze S_ squeezes_S1_S_).sem = ecell c := by subst h; rfl
theorem ocell_eq {off : Fin 1 → ℕ} {inb : ∀ a, off a + S1.size a ≤ S35.size a} {c : ℕ} (h : off = ![c % 35]) :
    ((cc0_scratch9.slice (Rect.unit (s := S35) off S1.size inb)).squeeze S_ squeezes_S1_S_).sem = ocell c := by subst h; rfl

abbrev gS0 (c : ℕ) : sProp 𝕄 := semVal ((d : Thread nD τ), .dma (gcell c)) 0
abbrev eS0 (c : ℕ) : sProp 𝕄 := semVal ((d : Thread nD τ), .dma (ecell c)) 0
abbrev oS0 (c : ℕ) : sProp 𝕄 := semVal ((d : Thread nD τ), .dma (ocell c)) 0

theorem gcell_mod {c c' : ℕ} (h : c % 6 = c' % 6) : gcell c = gcell c' := by
  unfold gcell; congr 4; simp [h]
theorem ecell_mod {c c' : ℕ} (h : c % 6 = c' % 6) : ecell c = ecell c' := by
  unfold ecell; congr 4; simp [h]
theorem ocell_mod {c c' : ℕ} (h : c % 35 = c' % 35) : ocell c = ocell c' := by
  unfold ocell; congr 4; simp [h]

/-- The credit of one block's transfer. -/
abbrev NB : ℕ := ((pc mM (Moff 0) S1x256x1536.size (Moff_inb 0)).squeeze S256x1536 squeezes_S1x256x1536_S256x1536).view.dmaCredit

theorem NB_pos : 0 < NB := by decide
theorem NB_g (n : ℕ) (c : ℕ) : ((pc mM (Moff n) S1x256x1536.size (Moff_inb n)).squeeze S256x1536 squeezes_S1x256x1536_S256x1536).view.amount (.dma (gcell c)) = NB := rfl
theorem NB_e (n : ℕ) (c : ℕ) : ((pc stM (Soff n) S1x256x1536.size (Soff_inb n)).squeeze S256x1536 squeezes_S1x256x1536_S256x1536).view.amount (.dma (ecell c)) = NB := rfl
theorem NB_o (n : ℕ) (c : ℕ) : ((pc oM (Ooff n) S1x256x1536.size (Ooff_inb n)).squeeze S256x1536 squeezes_S1x256x1536_S256x1536).view.amount (.dma (ocell c)) = NB := rfl

/-! ## Families -/

section Fams
variable (gX eX : Vec F S22x8960x1536 .bf16) (EV : ℕ → Vec F S1x256x1536 .bf16)

/-- The input blocks at home. -/
abbrev gH (n : ℕ) : sProp 𝕄 := gPc d n (blk gX n)
abbrev eH (n : ℕ) : sProp 𝕄 := ePc d n (blk eX n)
/-- The input transfers in flight, by the local chunk number. -/
def gFl (n : ℕ) : sProp 𝕄 := Fl (d : Thread nD τ) (.dma (gcell (n % 35))) NB iprop(mPc d n (blk gX n) ∗ gH d gX n)
def eFl (n : ℕ) : sProp 𝕄 := Fl (d : Thread nD τ) (.dma (ecell (n % 35))) NB iprop(sPc d (n % 35) (blk eX n) ∗ eH d eX n)
/-- The output transfer of block `n` in flight. -/
def oFl (n : ℕ) : sProp 𝕄 := Fl (d : Thread nD τ) (.dma (ocell n)) NB iprop(oPc d n (EV n) ∗ mPc d n (EV n))

/-- The first input stream while batch `N / 35` is brought in: chunks `[w, x)` in flight. -/
def GI (N w x : ℕ) : sProp 𝕄 :=
  iprop(fam (gFl d gX) (N + w) (N + x) ∗ fam (gH d gX) 0 (N + w) ∗ fam (gH d gX) (N + x) 770 ∗ fam (gS0 d) x (w + 6))
def EI (N w x : ℕ) : sProp 𝕄 :=
  iprop(fam (eFl d eX) (N + w) (N + x) ∗ fam (eH d eX) 0 (N + w) ∗ fam (eH d eX) (N + x) 770 ∗ fam (eS0 d) x (w + 6))
/-- The output stream: blocks below `w` written, `[w, a)` in flight, the others not begun. -/
def OS (w a : ℕ) : sProp 𝕄 :=
  iprop(fam (oFl d EV) w a ∗ fam (fun n => oPc d n (EV n)) 0 w ∗ fam (oS0 d) a (w + 35) ∗ fam (fun n => iprop(∃ v, oPc d n v)) a 770)

/-- Slots of the resident buffer whose contents no longer matter. -/
def MF (lo hi : ℕ) : sProp 𝕄 := fam (fun n => iprop(∃ v, mPc (F := F) d n v)) lo hi
/-- Staging slots whose contents no longer matter. -/
def SF (lo hi : ℕ) : sProp 𝕄 := fam (fun n => iprop(∃ v, sPc (F := F) d n v)) lo hi
/-- Blocks landed and not yet added (past the last batch: anything). -/
def MR (lo hi : ℕ) : sProp 𝕄 := fam (fun n => iprop(∃ v, mPc d n v ∗ ⌜n < 770 → v = blk gX n⌝)) lo hi
def SR (N lo hi : ℕ) : sProp 𝕄 := fam (fun c => iprop(∃ v, sPc d c v ∗ ⌜N + c < 770 → v = blk eX (N + c)⌝)) lo hi

end Fams

abbrev WP {α : Type} (p : Prog (TpuEff nD τ sig (Elt F) Λ₀ .tc) α) (Q : α → sProp 𝕄) : sProp 𝕄 :=
  wp frame (WE (defs₀ (F := F)) Variants.none (d : Thread nD τ) none) Set.univ p Q

section Ops
variable {d} {gX eX : Vec F S22x8960x1536 .bf16} {EV : ℕ → Vec F S1x256x1536 .bf16} {α : Type}

theorem g_start {Q : α → sProp 𝕄} {b w x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 35) (hwx : w ≤ x) (hw6 : x < w + 6) (hhi : 35 * b + x < hi)
    (h₁ : off₁ = Ooff (35 * b + x)) (h₂ : off₂ = Moff (35 * b + x)) (hs : sem = gcell x) :
    iprop(GI d gX (35 * b) w x ∗ MF d (35 * b + x) hi)
      ⊢ iprop((iprop(GI d gX (35 * b) w (x + 1) ∗ MF d (35 * b + (x + 1)) hi) -∗ WP d (k ⟨⟩) Q)
        -∗ WP d (.op (.enqueueDma ((pc gM off₁ S1x256x1536.size inb₁).squeeze S256x1536 z₁)
            (.here ((pc mM off₂ S1x256x1536.size inb₂).squeeze S256x1536 z₂)) (.dma sem) hsrc hdst hsem) k) Q) := by
  unfold GI MF
  rw [fam_head (gH d gX) (a := 35 * b + x) (by omega), fam_head (gS0 d) hw6, fam_head _ hhi]
  iintro ⟨⟨HF, HL, ⟨HG, HR⟩, HS, HC⟩, ⟨%v, HM⟩, HMR⟩ Hk
  iapply (wp_dma (M₁ := gM) (M₂ := mM) (Ooff_inb _) h₁ (Moff_inb _) h₂ (sm' := .dma (gcell x)) (by rw [hs]) NB (NB_g _ _) NB_pos) $$ [HG HM HS]
  · isplitl [HG]; · iexact HG
    isplitl [HM]; · iexact HM
    iexact HS
  iintro HF'
  iapply Hk
  rw [show 35 * b + (x + 1) = 35 * b + x + 1 by omega, fam_last (gFl d gX) (by omega : 35 * b + w ≤ 35 * b + x)]
  isplitr [HMR]; swap; · iexact HMR
  isplitl [HF' HF]
  · isplitl [HF']
    · unfold gFl; rw [show (35 * b + x) % 35 = x by omega]; iexact HF'
    iexact HF
  isplitl [HL]; · iexact HL
  isplitl [HR]; · iexact HR
  iexact HC

theorem e_start {Q : α → sProp 𝕄} {b w x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 35) (hwx : w ≤ x) (hw6 : x < w + 6) (hhi : x < hi)
    (h₁ : off₁ = Ooff (35 * b + x)) (h₂ : off₂ = Soff x) (hs : sem = ecell x) :
    iprop(EI d eX (35 * b) w x ∗ SF d x hi)
      ⊢ iprop((iprop(EI d eX (35 * b) w (x + 1) ∗ SF d (x + 1) hi) -∗ WP d (k ⟨⟩) Q)
        -∗ WP d (.op (.enqueueDma ((pc eM off₁ S1x256x1536.size inb₁).squeeze S256x1536 z₁)
            (.here ((pc stM off₂ S1x256x1536.size inb₂).squeeze S256x1536 z₂)) (.dma sem) hsrc hdst hsem) k) Q) := by
  unfold EI SF
  rw [fam_head (eH d eX) (a := 35 * b + x) (by omega), fam_head (eS0 d) hw6, fam_head _ hhi]
  iintro ⟨⟨HF, HL, ⟨HG, HR⟩, HS, HC⟩, ⟨%v, HM⟩, HMR⟩ Hk
  iapply (wp_dma (M₁ := eM) (M₂ := stM) (Ooff_inb _) h₁ (Soff_inb _) h₂ (sm' := .dma (ecell x)) (by rw [hs]) NB (NB_e _ _) NB_pos) $$ [HG HM HS]
  · isplitl [HG]; · iexact HG
    isplitl [HM]; · iexact HM
    iexact HS
  iintro HF'
  iapply Hk
  rw [show 35 * b + (x + 1) = 35 * b + x + 1 by omega, fam_last (eFl d eX) (by omega : 35 * b + w ≤ 35 * b + x)]
  isplitr [HMR]; swap; · iexact HMR
  isplitl [HF' HF]
  · isplitl [HF']
    · unfold eFl; rw [show (35 * b + x) % 35 = x by omega]; iexact HF'
    iexact HF
  isplitl [HL]; · iexact HL
  isplitl [HR]; · iexact HR
  iexact HC

theorem g_wait {Q : α → sProp 𝕄} {b u w x : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hwx : w < x) (hw : w < 35) (hu : u ≤ w) (hx6 : x ≤ w + 6) (hs : sem = gcell w)  :
    iprop(GI d gX (35 * b) w x ∗ MR d gX (35 * b + u) (35 * b + w) ∗ OW (d : Thread nD τ))
      ⊢ iprop((iprop(GI d gX (35 * b) (w + 1) x ∗ MR d gX (35 * b + u) (35 * b + (w + 1)) ∗ OW (d : Thread nD τ)) -∗ WP d (k ⟨⟩) Q)
        -∗ WP d (.op (.waitDma2 sem srcw ((pc mM offw S1x256x1536.size inbw).squeeze S256x1536 zw) hsrc hdst) k) Q) := by
  unfold GI MR
  rw [fam_head (gFl d gX) (a := 35 * b + w) (by omega)]
  iintro ⟨⟨⟨HF, HFs⟩, HL, HR, HC⟩, HM, HO⟩ Hk
  unfold gFl
  iapply (wp_wt (sem' := gcell ((35 * b + w) % 35)) (by rw [hs, show (35 * b + w) % 35 = w by omega]) rfl) $$ [HF HO]
  · isplitl [HF]; · iexact HF
    iexact HO
  iintro ⟨⟨HM', HG⟩, HS, HO⟩
  iapply Hk
  rw [show 35 * b + (w + 1) = 35 * b + w + 1 by omega, fam_last (gH d gX) (by omega : 0 ≤ 35 * b + w),
    show w + 1 + 6 = w + 6 + 1 by omega, fam_last (gS0 d) hx6,
    fam_last _ (by omega : 35 * b + u ≤ 35 * b + w)]
  isplitr [HO HM HM']
  · isplitl [HFs]; · iexact HFs
    isplitl [HG HL]
    · isplitl [HG]; · iexact HG
      iexact HL
    isplitl [HR]; · iexact HR
    isplitl [HS]
    · rw [gcell_mod (show ((35 * b + w) % 35) % 6 = (w + 6) % 6 by omega)]; iexact HS
    iexact HC
  isplitl [HM HM']
  · isplitl [HM']
    · iexists _; isplitl [HM']; · iexact HM'
      ipureintro; intro _; rfl
    iexact HM
  iexact HO

theorem e_wait {Q : α → sProp 𝕄} {b u w x : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hwx : w < x) (hw : w < 35) (hu : u ≤ w) (hx6 : x ≤ w + 6) (hs : sem = ecell w)  :
    iprop(EI d eX (35 * b) w x ∗ SR d eX (35 * b) u w ∗ OW (d : Thread nD τ))
      ⊢ iprop((iprop(EI d eX (35 * b) (w + 1) x ∗ SR d eX (35 * b) u (w + 1) ∗ OW (d : Thread nD τ)) -∗ WP d (k ⟨⟩) Q)
        -∗ WP d (.op (.waitDma2 sem srcw ((pc stM offw S1x256x1536.size inbw).squeeze S256x1536 zw) hsrc hdst) k) Q) := by
  unfold EI SR
  rw [fam_head (eFl d eX) (a := 35 * b + w) (by omega)]
  iintro ⟨⟨⟨HF, HFs⟩, HL, HR, HC⟩, HM, HO⟩ Hk
  unfold eFl
  iapply (wp_wt (sem' := ecell ((35 * b + w) % 35)) (by rw [hs, show (35 * b + w) % 35 = w by omega]) rfl) $$ [HF HO]
  · isplitl [HF]; · iexact HF
    iexact HO
  iintro ⟨⟨HM', HG⟩, HS, HO⟩
  iapply Hk
  rw [show 35 * b + (w + 1) = 35 * b + w + 1 by omega, fam_last (eH d eX) (by omega : 0 ≤ 35 * b + w),
    show w + 1 + 6 = w + 6 + 1 by omega, fam_last (eS0 d) hx6,
    fam_last _ hu]
  isplitr [HO HM HM']
  · isplitl [HFs]; · iexact HFs
    isplitl [HG HL]
    · isplitl [HG]; · iexact HG
      iexact HL
    isplitl [HR]; · iexact HR
    isplitl [HS]
    · rw [ecell_mod (show ((35 * b + w) % 35) % 6 = (w + 6) % 6 by omega)]; iexact HS
    iexact HC
  isplitl [HM HM']
  · isplitl [HM']
    · iexists _
      isplitl [HM']
      · rw [show (35 * b + w) % 35 = w by omega]; iexact HM'
      ipureintro; intro _; rfl
    iexact HM
  iexact HO

theorem mPc_mod {n n' : ℕ} (h : n / 35 % 2 = n' / 35 % 2) (h' : n % 35 = n' % 35) (v : Vec F S1x256x1536 .bf16) :
    mPc d n v = mPc d n' v := by
  have h0 : Moff n = Moff n' := by simp [Moff, h, h']
  have : ∀ (o o' : Fin 3 → ℕ) (i : ∀ a, o a + S1x256x1536.size a ≤ S2x8960x1536.size a) (i' : ∀ a, o' a + S1x256x1536.size a ≤ S2x8960x1536.size a),
      o = o' → (owns (d : Thread nD τ) (pc mM o S1x256x1536.size i) fullShare v : sProp 𝕄) = owns (d : Thread nD τ) (pc mM o' S1x256x1536.size i') fullShare v := by
    intro o o' i i' h; subst h; rfl
  exact this _ _ _ _ h0

theorem sPc_mod {n n' : ℕ} (h : n % 6 = n' % 6) (v : Vec F S1x256x1536 .bf16) :
    sPc d n v = sPc d n' v := by
  have h0 : Soff n = Soff n' := by simp [Soff, h]
  have : ∀ (o o' : Fin 3 → ℕ) (i : ∀ a, o a + S1x256x1536.size a ≤ S6x256x1536.size a) (i' : ∀ a, o' a + S1x256x1536.size a ≤ S6x256x1536.size a),
      o = o' → (owns (d : Thread nD τ) (pc stM o S1x256x1536.size i) fullShare v : sProp 𝕄) = owns (d : Thread nD τ) (pc stM o' S1x256x1536.size i') fullShare v := by
    intro o o' i i' h; subst h; rfl
  exact this _ _ _ _ h0

/-- Waiting for the oldest output transfer frees its slot of the resident buffer. -/
theorem o_wait {Q : α → sProp 𝕄} {w a lo : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hwa : w < a) (ha : a ≤ w + 35) (hlo : lo ≤ w + 70) (hs : sem = ocell w)  :
    iprop(OS d EV w a ∗ MF d lo (w + 70) ∗ OW (d : Thread nD τ))
      ⊢ iprop((iprop(OS d EV (w + 1) a ∗ MF d lo (w + 1 + 70) ∗ OW (d : Thread nD τ)) -∗ WP d (k ⟨⟩) Q)
        -∗ WP d (.op (.waitDma2 sem srcw ((pc oM offw S1x256x1536.size inbw).squeeze S256x1536 zw) hsrc hdst) k) Q) := by
  unfold OS MF
  rw [fam_head (oFl d EV) hwa]
  iintro ⟨⟨⟨HF, HFs⟩, HL, HC, HR⟩, HM, HO⟩ Hk
  unfold oFl
  iapply (wp_wt (sem' := ocell w) hs rfl) $$ [HF HO]
  · isplitl [HF]; · iexact HF
    iexact HO
  iintro ⟨⟨HG, HM'⟩, HS, HO⟩
  iapply Hk
  rw [fam_last _ (by omega : 0 ≤ w), show w + 1 + 35 = w + 35 + 1 by omega, fam_last (oS0 d) ha, show w + 1 + 70 = w + 70 + 1 by omega, fam_last _ hlo]
  isplitr [HO HM HM']
  · isplitl [HFs]; · iexact HFs
    isplitl [HG HL]
    · isplitl [HG]; · iexact HG
      iexact HL
    isplitl [HS HC]
    · isplitl [HS]
      · rw [ocell_mod (show w % 35 = (w + 35) % 35 by omega)]; iexact HS
      iexact HC
    iexact HR
  isplitl [HM HM']
  · isplitl [HM']
    · iexists _; rw [mPc_mod (n := w + 70) (n' := w) (by omega) (by omega)]; iexact HM'
    iexact HM
  iexact HO

theorem o_start {Q : α → sProp 𝕄} {w a : ℕ} {off₁ off₂ : Fin 3 → ℕ} {sem : DmaSem sig} {inb₁ inb₂ z₁ z₂ hsrc hdst hsem}
    {k : PUnit → Prog (TpuEff nD τ sig (Elt F) Λ₀ .tc) α}
    (hwa : w ≤ a) (ha : a < 770) (ha' : a < w + 35)
    (h₁ : off₁ = Moff a) (h₂ : off₂ = Ooff a) (hs : sem = ocell a) :
    iprop(OS d EV w a ∗ mPc d a (EV a))
      ⊢ iprop((OS d EV w (a + 1) -∗ WP d (k ⟨⟩) Q)
        -∗ WP d (.op (.enqueueDma ((pc mM off₁ S1x256x1536.size inb₁).squeeze S256x1536 z₁)
            (.here ((pc oM off₂ S1x256x1536.size inb₂).squeeze S256x1536 z₂)) (.dma sem) hsrc hdst hsem) k) Q) := by
  unfold OS
  rw [fam_head (oS0 d) ha', fam_head _ ha]
  iintro ⟨⟨HF, HL, ⟨HS, HC⟩, ⟨%v, HO⟩, HR⟩, HM⟩ Hk
  iapply (wp_dma (M₁ := mM) (M₂ := oM) (Moff_inb _) h₁ (Ooff_inb _) h₂ (sm' := .dma (ocell a)) (by rw [hs]) NB (NB_o _ _) NB_pos) $$ [HO HM HS]
  · isplitl [HM]; · iexact HM
    isplitl [HO]; · iexact HO
    iexact HS
  iintro HF'
  iapply Hk
  rw [fam_last (oFl d EV) hwa]
  isplitl [HF' HF]
  · isplitl [HF']
    · unfold oFl; iexact HF'
    iexact HF
  isplitl [HL]; · iexact HL
  isplitl [HC]; · iexact HC
  iexact HR

end Ops

end Cert.Kernel.Hand
-- ==== Proof.KernelVals.lean ====
/-
  What the kernel leaves in its buffers, value by value: every definition is one the program computes, read at the batch and the chunk.
-/
module

public import proofs.«01_k».proof.Proof.Gen.Kernel.Skeleton
public import proofs.«01_k».proof.Proof.KernelRes

@[expose] public section

noncomputable section

namespace Cert.Kernel.Hand

open Cert.Kernel Cert.Kernel.Gen Cert.Steps
open Idealize.ShloMosaic Idealize.ShloMosaic.TcCoe Idealize.ShloMosaic.Tactic
open Idealize.SL.Sem

variable {F : FTy → Type} [FloatOps F]

/-- The first factor's inverse as the kernel computes it from the Gram matrix, before its last step. -/
def ch1 (v11 : FVec F S16x16 .f32) : FVec F S1x128 .f32 × IVec S16x128 1 × FVec F S16x128 .f32 :=
  let v12 : IVec S16x128 32 := iota .tc S16x128 32 [0] iota_S16x128_d0_w32
  let v13 : IVec S16x128 32 := iota .tc S16x128 32 [1] iota_S16x128_d1_w32
  let v16 := k0_pay31 v11
  let v19 := k0_pay32 v11
  let v22 := k0_pay33 v11
  let v25 := k0_pay34 v11
  let v28 := k0_pay35 v11
  let v31 := k0_pay36 v11
  let v34 := k0_pay37 v11
  let v37 := k0_pay38 v11
  let v40 := k0_pay39 v11
  let v43 := k0_pay40 v11
  let v46 := k0_pay41 v11
  let v49 := k0_pay42 v11
  let v52 := k0_pay43 v11
  let v55 := k0_pay44 v11
  let v58 := k0_pay45 v11
  let v61 := k0_pay46 v11
  let v73 := k0_pay48 v12 v16
  let v83 := k0_pay49 v12 v13 v16
  let v87 := k0_pay50 v12 v16 v19
  let v91 := k0_pay51 v12 v16 v22
  let v95 := k0_pay52 v12 v16 v25
  let v99 := k0_pay53 v28 v73
  let v103 := k0_pay54 v31 v73
  let v107 := k0_pay55 v34 v73
  let v111 := k0_pay56 v37 v73
  let v115 := k0_pay57 v40 v73
  let v119 := k0_pay58 v43 v73
  let v123 := k0_pay59 v46 v73
  let v127 := k0_pay60 v49 v73
  let v131 := k0_pay61 v52 v73
  let v135 := k0_pay62 v55 v73
  let v139 := k0_pay63 v58 v73
  let v143 := k0_pay64 v61 v73
  let v151 := k0_pay66 v12 v87
  let v153 := k0_pay67 v83 v87
  let v161 := k0_pay68 v12 v83 v151 v153
  let v165 := k0_pay69 v91 v151
  let v169 := k0_pay70 v95 v151
  let v173 := k0_pay71 v99 v151
  let v177 := k0_pay72 v103 v151
  let v181 := k0_pay73 v107 v151
  let v185 := k0_pay74 v111 v151
  let v189 := k0_pay75 v115 v151
  let v193 := k0_pay76 v119 v151
  let v197 := k0_pay77 v123 v151
  let v201 := k0_pay78 v127 v151
  let v205 := k0_pay79 v131 v151
  let v209 := k0_pay80 v135 v151
  let v212 := k0_pay81 v151
  let v213 := k0_pay82 v139 v212
  let v217 := k0_pay83 v143 v151
  let v225 := k0_pay85 v12 v165
  let v235 := k0_pay86 v12 v161 v165
  let v239 := k0_pay87 v12 v165 v169
  let v243 := k0_pay88 v12 v165 v173
  let v247 := k0_pay89 v12 v165 v177
  let v251 := k0_pay90 v12 v165 v181
  let v255 := k0_pay91 v12 v165 v185
  let v259 := k0_pay92 v12 v165 v189
  let v263 := k0_pay93 v12 v165 v193
  let v267 := k0_pay94 v12 v165 v197
  let v269 := k0_pay95 v12 v165
  let v271 := k0_pay96 v201 v225 v269
  let v275 := k0_pay97 v205 v225
  let v279 := k0_pay98 v209 v225
  let v283 := k0_pay99 v213 v225
  let v287 := k0_pay100 v217 v225
  let v295 := k0_pay102 v12 v239
  let v305 := k0_pay103 v12 v235 v239
  let v309 := k0_pay104 v12 v239 v243
  let v313 := k0_pay105 v12 v239 v247
  let v317 := k0_pay106 v12 v239 v251
  let v321 := k0_pay107 v12 v239 v255
  let v325 := k0_pay108 v12 v239 v259
  let v326 := k0_pay109 v12 v239
  let v329 := k0_pay110 v263 v295 v326
  let v333 := k0_pay111 v267 v295
  let v337 := k0_pay112 v271 v295
  let v341 := k0_pay113 v275 v295
  let v345 := k0_pay114 v279 v295
  let v349 := k0_pay115 v283 v295
  let v353 := k0_pay116 v287 v295
  let v361 := k0_pay118 v12 v309
  let v371 := k0_pay119 v12 v305 v309
  let v375 := k0_pay120 v12 v309 v313
  let v379 := k0_pay121 v12 v309 v317
  let v383 := k0_pay122 v12 v309 v321
  let v387 := k0_pay123 v325 v361
  let v391 := k0_pay124 v329 v361
  let v395 := k0_pay125 v333 v361
  let v399 := k0_pay126 v337 v361
  let v403 := k0_pay127 v341 v361
  let v407 := k0_pay128 v345 v361
  let v411 := k0_pay129 v349 v361
  let v415 := k0_pay130 v353 v361
  let v423 := k0_pay132 v12 v375
  let v433 := k0_pay133 v12 v371 v375
  let v437 := k0_pay134 v12 v375 v379
  let v440 := k0_pay135 v12 v375
  let v445 := k0_pay136 v387 v423
  let v449 := k0_pay137 v391 v423
  let v453 := k0_pay138 v395 v423
  let v457 := k0_pay139 v399 v423
  let v461 := k0_pay140 v403 v423
  let v465 := k0_pay141 v407 v423
  let v469 := k0_pay142 v411 v423
  let v473 := k0_pay143 v415 v423
  let v481 := k0_pay145 v12 v437
  let v491 := k0_pay146 v12 v433 v437
  let v495 := k0_pay147 v12 v383 v437 v440
  let v497 := k0_pay148 v12 v437
  let v507 := k0_pay149 v453 v481
  let v511 := k0_pay150 v457 v481
  let v515 := k0_pay151 v461 v481
  let v519 := k0_pay152 v465 v481
  let v523 := k0_pay153 v469 v481
  let v527 := k0_pay154 v473 v481
  let v535 := k0_pay156 v12 v495
  let v545 := k0_pay157 v12 v491 v495
  let v549 := k0_pay158 v12 v445 v481 v495 v497
  let v553 := k0_pay159 v12 v449 v481 v495
  let v554 := k0_pay160 v12 v495
  let v569 := k0_pay161 v519 v535
  let v573 := k0_pay162 v523 v535
  let v577 := k0_pay163 v527 v535
  let v585 := k0_pay165 v12 v549
  let v595 := k0_pay166 v12 v545 v549
  let v599 := k0_pay167 v12 v549 v553
  let v603 := k0_pay168 v12 v507 v535 v549 v554
  let v607 := k0_pay169 v12 v511 v535 v549
  let v611 := k0_pay170 v12 v515 v535 v549
  let v641 := k0_pay173 v12 v595 v599
  let v645 := k0_pay174 v12 v599 v603
  let v649 := k0_pay175 v12 v599 v607
  let v653 := k0_pay176 v12 v599 v611
  let v657 := k0_pay177 v12 v569 v585 v599
  let v661 := k0_pay178 v12 v573 v585 v599
  let v665 := k0_pay179 v12 v577 v585 v599
  let v667 := k0_pay180 v12 v599 v603
  let c10_i32 := 10#32
  let v691 := k0_pay183 v12 v645 v653 v667 c10_i32
  let v695 := k0_pay184 v12 v645 v657 v667 c10_i32
  let v699 := k0_pay185 v12 v645 v661 v667 c10_i32
  let v703 := k0_pay186 v12 v645 v665 v667 c10_i32
  let v711 := k0_pay188 v12 v645 v649 v667 c10_i32
  let v721 := k0_pay189 v12 v641 v645 v649 v667 c10_i32
  let v722 := k0_pay190 v12 v645 v649 v667 c10_i32
  let v755 := k0_pay194 v12 v691 v711 v721 v722
  let v763 := k0_pay196 v12 v691 v699 v711 v722
  let v767 := k0_pay197 v12 v691 v703 v711 v722
  let v775 := k0_pay199 v12 v691 v695 v711 v722
  let v777 := k0_pay200 v12 v691 v695 v711 v721 v722
  let v825 := k0_pay207 v12 v755 v763 v767 v775 v777
  let v827 := k0_pay208 v12
  let v830 := k0_pay209 v12 v755 v763 v767 v775 v777
  (v825, v827, v830)

/-- The second factor's inverse, likewise. -/
def ch2 (v859 : FVec F S16x16 .f32) :
    FVec F S16x128 .f32 × FVec F S16x128 .f32 × FVec F S16x128 .f32 × FVec F S1x128 .f32 × IVec S16x128 1 × FVec F S16x128 .f32 :=
  let v860 : IVec S16x128 32 := iota .tc S16x128 32 [0] iota_S16x128_d0_w32
  let v861 : IVec S16x128 32 := iota .tc S16x128 32 [1] iota_S16x128_d1_w32
  let v864 := k0_pay220 v859
  let v867 := k0_pay221 v859
  let v870 := k0_pay222 v859
  let v873 := k0_pay223 v859
  let v876 := k0_pay224 v859
  let v879 := k0_pay225 v859
  let v882 := k0_pay226 v859
  let v885 := k0_pay227 v859
  let v888 := k0_pay228 v859
  let v891 := k0_pay229 v859
  let v894 := k0_pay230 v859
  let v897 := k0_pay231 v859
  let v900 := k0_pay232 v859
  let v903 := k0_pay233 v859
  let v906 := k0_pay234 v859
  let v909 := k0_pay235 v859
  let v913 := k0_pay236 (F := F) v860 v861
  let v915 := k0_pay237 v859
  let v917 := k0_pay238 v860
  let v918 := k0_pay239 v859
  let v921 := k0_pay240 v864 v917 v918
  let v931 := k0_pay241 v860 v864 v913 v915 v917 v918
  let v935 := k0_pay242 v864 v867 v917 v918
  let v939 := k0_pay243 v864 v870 v917 v918
  let v943 := k0_pay244 v864 v873 v917 v918
  let v947 := k0_pay245 v864 v876 v917 v918
  let v951 := k0_pay246 v864 v879 v917 v918
  let v955 := k0_pay247 v864 v882 v917 v918
  let v959 := k0_pay248 v864 v885 v917 v918
  let v963 := k0_pay249 v864 v888 v917 v918
  let v967 := k0_pay250 v864 v891 v917 v918
  let v971 := k0_pay251 v864 v894 v917 v918
  let v975 := k0_pay252 v864 v897 v917 v918
  let v976 := k0_pay253 v864 v917 v918
  let v979 := k0_pay254 v900 v921 v976
  let v983 := k0_pay255 v903 v921
  let v987 := k0_pay256 v906 v921
  let v991 := k0_pay257 v909 v921
  let v999 := k0_pay259 v860 v935
  let v1009 := k0_pay260 v860 v931 v935
  let v1013 := k0_pay261 v860 v935 v939
  let v1017 := k0_pay262 v860 v935 v943
  let v1021 := k0_pay263 v860 v935 v947
  let v1025 := k0_pay264 v860 v935 v951
  let v1029 := k0_pay265 v860 v935 v955
  let v1033 := k0_pay266 v860 v935 v959
  let v1037 := k0_pay267 v963 v999
  let v1041 := k0_pay268 v967 v999
  let v1045 := k0_pay269 v971 v999
  let v1049 := k0_pay270 v975 v999
  let v1053 := k0_pay271 v979 v999
  let v1057 := k0_pay272 v983 v999
  let v1061 := k0_pay273 v987 v999
  let v1065 := k0_pay274 v991 v999
  let v1073 := k0_pay276 v860 v1013
  let v1083 := k0_pay277 v860 v1009 v1013
  let v1087 := k0_pay278 v860 v1013 v1017
  let v1090 := k0_pay279 v860 v1013
  let v1091 := k0_pay280 v1021 v1090
  let v1095 := k0_pay281 v1025 v1073
  let v1099 := k0_pay282 v1029 v1073
  let v1103 := k0_pay283 v1033 v1073
  let v1107 := k0_pay284 v1037 v1073
  let v1111 := k0_pay285 v1041 v1073
  let v1115 := k0_pay286 v1045 v1073
  let v1119 := k0_pay287 v1049 v1073
  let v1123 := k0_pay288 v1053 v1073
  let v1127 := k0_pay289 v1057 v1073
  let v1131 := k0_pay290 v1061 v1073
  let v1135 := k0_pay291 v1065 v1073
  let v1143 := k0_pay293 v860 v1087
  let v1145 := k0_pay294 v1083 v1087
  let v1147 := k0_pay295 v860
  let v1153 := k0_pay296 v1083 v1143 v1145 v1147
  let v1157 := k0_pay297 v1091 v1143
  let v1161 := k0_pay298 v1095 v1143
  let v1165 := k0_pay299 v1099 v1143
  let v1169 := k0_pay300 v1103 v1143
  let v1173 := k0_pay301 v1107 v1143
  let v1177 := k0_pay302 v1111 v1143
  let v1181 := k0_pay303 v1115 v1143
  let v1185 := k0_pay304 v1119 v1143
  let v1189 := k0_pay305 v1123 v1143
  let v1193 := k0_pay306 v1127 v1143
  let v1197 := k0_pay307 v1131 v1143
  let v1201 := k0_pay308 v1135 v1143
  let v1203 := k0_pay309 v1091 v1143
  let v1205 := k0_pay310 v860
  let v1206 := k0_pay311 v1091 v1143
  let v1219 := k0_pay313 v860 v1153 v1157 v1203 v1205 v1206
  let v1223 := k0_pay314 v1157 v1161 v1205 v1206
  let v1227 := k0_pay315 v1157 v1165 v1205 v1206
  let v1231 := k0_pay316 v1157 v1169 v1205 v1206
  let v1235 := k0_pay317 v1157 v1173 v1205 v1206
  let v1239 := k0_pay318 v1157 v1177 v1205 v1206
  let v1243 := k0_pay319 v1157 v1181 v1205 v1206
  let v1247 := k0_pay320 v1157 v1185 v1205 v1206
  let v1251 := k0_pay321 v1157 v1189 v1205 v1206
  let v1255 := k0_pay322 v1157 v1193 v1205 v1206
  let v1259 := k0_pay323 v1157 v1197 v1205 v1206
  let v1263 := k0_pay324 v1157 v1201 v1205 v1206
  let v1264 := k0_pay325 v1157 v1161 v1205 v1206
  let v1281 := k0_pay328 v860 v1219 v1223 v1264
  let v1285 := k0_pay329 v860 v1223 v1227 v1264
  let v1289 := k0_pay330 v860 v1223 v1231 v1264
  let v1293 := k0_pay331 v860 v1223 v1235 v1264
  let v1297 := k0_pay332 v860 v1223 v1239 v1264
  let v1301 := k0_pay333 v860 v1223 v1243 v1264
  let v1305 := k0_pay334 v860 v1223 v1247 v1264
  let v1309 := k0_pay335 v860 v1223 v1251 v1264
  let v1313 := k0_pay336 v860 v1223 v1255 v1264
  let v1317 := k0_pay337 v860 v1223 v1259 v1264
  let v1321 := k0_pay338 v860 v1223 v1263 v1264
  let v1339 := k0_pay341 v860 v1281 v1285
  let v1343 := k0_pay342 v860 v1285 v1289
  let v1347 := k0_pay343 v860 v1285 v1293
  let v1351 := k0_pay344 v860 v1285 v1297
  let v1355 := k0_pay345 v860 v1285 v1301
  let v1359 := k0_pay346 v860 v1285 v1305
  let v1363 := k0_pay347 v860 v1285 v1309
  let v1367 := k0_pay348 v860 v1285 v1313
  let v1371 := k0_pay349 v860 v1285 v1317
  let v1375 := k0_pay350 v860 v1285 v1321
  let v1377 := k0_pay351 v860 v1285 v1289
  let c7_i32_94 := 7#32
  let v1393 := k0_pay353 v860 v1339 v1343 v1377 c7_i32_94
  let v1401 := k0_pay355 v860 v1343 v1351 v1377 c7_i32_94
  let v1405 := k0_pay356 v860 v1343 v1355 v1377 c7_i32_94
  let v1409 := k0_pay357 v860 v1343 v1359 v1377 c7_i32_94
  let v1413 := k0_pay358 v860 v1343 v1363 v1377 c7_i32_94
  let v1417 := k0_pay359 v860 v1343 v1367 v1377 c7_i32_94
  let v1421 := k0_pay360 v860 v1343 v1371 v1377 c7_i32_94
  let v1425 := k0_pay361 v860 v1343 v1375 v1377 c7_i32_94
  let v1427 := k0_pay362 v860 v1343 v1347 v1377 c7_i32_94
  let v1433 := k0_pay363 v860 v1343 v1347 v1377 c7_i32_94
  let v1451 := k0_pay365 v1405 v1433
  let v1455 := k0_pay366 v1409 v1433
  let v1459 := k0_pay367 v1413 v1433
  let v1463 := k0_pay368 v1417 v1433
  let v1467 := k0_pay369 v1421 v1433
  let v1471 := k0_pay370 v1425 v1433
  let v1479 := k0_pay372 v860 v1401 v1433
  let v1489 := k0_pay373 v860 v1393 v1401 v1427 v1433
  let v1509 := k0_pay375 v1467 v1479
  let v1513 := k0_pay376 v1471 v1479
  let v1521 := k0_pay378 v860 v1451 v1479
  let v1531 := k0_pay379 v860 v1451 v1479 v1489
  let v1535 := k0_pay380 v860 v1451 v1455 v1479
  let v1539 := k0_pay381 v860 v1451 v1459 v1479
  let v1543 := k0_pay382 v860 v1451 v1463 v1479
  let v1546 := k0_pay383 v860 v1451 v1479
  let v1577 := k0_pay388 v860 v1535 v1543
  let v1581 := k0_pay389 v860 v1509 v1535 v1546
  let v1585 := k0_pay390 v860 v1513 v1521 v1535
  let v1593 := k0_pay392 v860 v1535 v1539
  let v1595 := k0_pay393 v860 v1531 v1535 v1539
  let v1597 := k0_pay394 v860
  let v1600 := k0_pay395 v860 v1531 v1535 v1539
  let v1633 := k0_pay399 v860 v1577 v1593 v1595 v1597 v1600
  let v1641 := k0_pay401 v860 v1577 v1585 v1593
  let v1649 := k0_pay403 v860 v1577 v1581 v1593
  let v1651 := k0_pay404 v860 v1577 v1581 v1593 v1595 v1597 v1600
  let v1653 := k0_pay405 v860
  let v1654 := k0_pay406 v860 v1577 v1581 v1593 v1595 v1597 v1600
  (v1633, v1641, v1649, v1651, v1653, v1654)

/-- A fold over the first `n` chunks. -/
def foldN {α : Type} (f : ℕ → α → α) (a : α) : ℕ → α
  | 0 => a
  | n + 1 => f n (foldN f a n)

section Vals
variable (gX eX : Vec F S22x8960x1536 .bf16) (qX : Vec F S22x16x1536 .i8) (sX : Vec F S16x22 .f32)

theorem Qoff_inb (b : ℕ) : ∀ a, (![min b 21, 0, 0] : Fin 3 → ℕ) a + S1x16x1536.size a ≤ S22x16x1536.size a := by
  intro a; fin_cases a <;> simp <;> omega

/-- Batch `b` of the codes. -/
def qblk (b : ℕ) : Vec F S1x16x1536 .i8 :=
  fun x => qX ((Rect.unit (s := S22x16x1536) ![min b 21, 0, 0] S1x16x1536.size (Qoff_inb b)).emb x)

/-- The codes of batch `b` as floats, and its scales as a column. -/
def BQ (b : ℕ) : FVec F S16x1536 .bf16 := k0_pay211 (qblk qX b)
def QS (b : ℕ) : FVec F S16x1 .f32 := k0_pay212 (BitVec.ofNat 32 (min b 21)) sX

/-- The sum of block `n`. -/
def sumV (n : ℕ) : Vec F S1x256x1536 .bf16 := k0_pay4 (k0_pay1 (blk gX n) (blk eX n))
/-- The first product of block `n`. -/
def P1 (n : ℕ) : Vec F S1x16x256 .f32 := k0_pay5 (QS sX (n / 35)) (k0_pay1 (blk gX n) (blk eX n)) (BQ qX (n / 35))
/-- The Gram matrix of batch `b`'s first product. -/
def G1 (b : ℕ) : FVec F S16x16 .f32 := foldN (fun c a => k0_pay30 a (P1 gX eX qX sX (35 * b + c))) k0_pay29 35
def PO (n : ℕ) : Vec F S1x16x256 .bf16 :=
  k0_pay210 (ch1 (G1 gX eX qX sX (n / 35))).1 (ch1 (G1 gX eX qX sX (n / 35))).2.1 (ch1 (G1 gX eX qX sX (n / 35))).2.2 (P1 gX eX qX sX n)
/-- The second product, transposed. -/
def Q1 (b : ℕ) : FVec F S16x1536 .f32 := foldN (fun c a => k0_pay12 a (PO gX eX qX sX (35 * b + c)) (sumV gX eX (35 * b + c))) k0_pay213 35
/-- The third product of block `n`. -/
def PB (n : ℕ) : Vec F S1x16x256 .f32 := k0_pay20 (k0_pay215 (Q1 gX eX qX sX (n / 35))) (sumV gX eX n)
def G2 (b : ℕ) : FVec F S16x16 .f32 := foldN (fun c a => k0_pay219 a (PB gX eX qX sX (35 * b + c))) k0_pay218 35
/-- The rows' iota. -/
abbrev io : IVec S16x128 32 := iota .tc S16x128 32 [0] iota_S16x128_d0_w32
abbrev C2 (b : ℕ) := ch2 (G2 gX eX qX sX b)
def PX (n : ℕ) : Vec F S1x16x256 .f32 :=
  k0_pay409 io (C2 gX eX qX sX (n / 35)).1 (C2 gX eX qX sX (n / 35)).2.1 (C2 gX eX qX sX (n / 35)).2.2.1
    (C2 gX eX qX sX (n / 35)).2.2.2.1 (C2 gX eX qX sX (n / 35)).2.2.2.2.1 (C2 gX eX qX sX (n / 35)).2.2.2.2.2 (PB gX eX qX sX n)
/-- The largest magnitudes, folded over the chunks. -/
def MX (b : ℕ) : FVec F S16x256 .f32 :=
  foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 35
def PCF (n : ℕ) : Vec F S1x16x256 .bf16 := k0_pay413 (MX gX eX qX sX (n / 35)) (PX gX eX qX sX n)
def PCI (n : ℕ) : Vec F S1x16x256 .i8 := k0_pay414 (MX gX eX qX sX (n / 35)) (PX gX eX qX sX n)
/-- The scales of the third product's codes. -/
def PSc (b : ℕ) : FVec F S16x1 .f32 := k0_pay411 (MX gX eX qX sX b)
def QN (b : ℕ) : FVec F S16x1536 .f32 := foldN (fun c a => k0_pay12 a (PCF gX eX qX sX (35 * b + c)) (sumV gX eX (35 * b + c))) k0_pay415 35
def QNS (b : ℕ) : FVec F S16x1 .f32 := k0_pay418 (PSc gX eX qX sX b) (QN gX eX qX sX b)
def QNF (b : ℕ) : FVec F S16x1536 .f32 := k0_pay419 (PSc gX eX qX sX b) (QN gX eX qX sX b)
def QNC (b : ℕ) : Vec F S1x16x1536 .i8 := k0_pay420 (PSc gX eX qX sX b) (QN gX eX qX sX b)
/-- The two columns of scales, as they stand after `n` batches. -/
def PSO (n : ℕ) : Vec F S16x22 .f32 := foldN (fun b a => k0_pay423 (BitVec.ofNat 32 b) (PSc gX eX qX sX b) a) k0_pay421 n
def QNO (n : ℕ) : Vec F S16x22 .f32 := foldN (fun b a => k0_pay425 (QNS gX eX qX sX b) (k0_pay424 (BitVec.ofNat 32 b)) a) k0_pay422 n
/-- The new error of block `n`. -/
def EV (n : ℕ) : Vec F S1x256x1536 .bf16 :=
  k0_pay426 (PSc gX eX qX sX (n / 35)) (QNS gX eX qX sX (n / 35)) (QNF gX eX qX sX (n / 35)) (PCF gX eX qX sX n) (sumV gX eX n)

end Vals

/-! ## The payloads that are printed more than once -/

theorem pay2_eq : k0_pay2 (F := F) = k0_pay211 := rfl
theorem pay3_eq (s : Vec F S16x22 .f32) : k0_pay3 s = k0_pay212 0#32 s := rfl
theorem pay7_eq (v w : Vec F S1x256x1536 .bf16) : k0_pay7 v w = k0_pay4 (k0_pay1 v w) := rfl
theorem pay8_eq (q : FVec F S16x1 .f32) (v w : Vec F S1x256x1536 .bf16) (u : Vec F S16x1536 .bf16) : k0_pay8 q v w u = k0_pay5 q (k0_pay1 v w) u := rfl
theorem pay10_eq (v w : Vec F S1x256x1536 .bf16) : k0_pay10 v w = k0_pay4 (k0_pay1 v w) := rfl
theorem pay11_eq (q : FVec F S16x1 .f32) (v w : Vec F S1x256x1536 .bf16) (u : Vec F S16x1536 .bf16) : k0_pay11 q v w u = k0_pay5 q (k0_pay1 v w) u := rfl
theorem pay15_eq (v w : Vec F S1x256x1536 .bf16) : k0_pay15 v w = k0_pay4 (k0_pay1 v w) := rfl
theorem pay16_eq (q : FVec F S16x1 .f32) (v w : Vec F S1x256x1536 .bf16) (u : Vec F S16x1536 .bf16) : k0_pay16 q v w u = k0_pay5 q (k0_pay1 v w) u := rfl
theorem pay18_eq (v w : Vec F S1x256x1536 .bf16) : k0_pay18 v w = k0_pay4 (k0_pay1 v w) := rfl
theorem pay19_eq (q : FVec F S16x1 .f32) (v w : Vec F S1x256x1536 .bf16) (u : Vec F S16x1536 .bf16) : k0_pay19 q v w u = k0_pay5 q (k0_pay1 v w) u := rfl
theorem pay25_eq (v w : Vec F S1x256x1536 .bf16) : k0_pay25 v w = k0_pay4 (k0_pay1 v w) := rfl
theorem pay26_eq (q : FVec F S16x1 .f32) (v w : Vec F S1x256x1536 .bf16) (u : Vec F S16x1536 .bf16) : k0_pay26 q v w u = k0_pay5 q (k0_pay1 v w) u := rfl
theorem pay13_eq (a : FVec F S16x1536 .f32) (p₁ : Vec F S1x16x256 .bf16) (m₁ : Vec F S1x256x1536 .bf16) (p₂ : Vec F S1x16x256 .bf16) (m₂ : Vec F S1x256x1536 .bf16)
    (p₃ : Vec F S1x16x256 .bf16) (m₃ : Vec F S1x256x1536 .bf16) : k0_pay13 a p₁ m₁ p₂ m₂ p₃ m₃ = k0_pay12 (k0_pay12 (k0_pay12 a p₁ m₁) p₂ m₂) p₃ m₃ := rfl
theorem pay214_eq (a : FVec F S16x1536 .f32) (p₁ : Vec F S1x16x256 .bf16) (m₁ : Vec F S1x256x1536 .bf16) : k0_pay214 a p₁ m₁ = k0_pay12 a p₁ m₁ := rfl
theorem pay27_eq (a : FVec F S16x1536 .f32) (p₁ : Vec F S1x16x256 .bf16) (m₁ : Vec F S1x256x1536 .bf16) (p₂ : Vec F S1x16x256 .bf16) (m₂ : Vec F S1x256x1536 .bf16)
    (p₃ : Vec F S1x16x256 .bf16) (m₃ : Vec F S1x256x1536 .bf16) : k0_pay27 a p₁ m₁ p₂ m₂ p₃ m₃ = k0_pay12 (k0_pay12 (k0_pay12 a p₁ m₁) p₂ m₂) p₃ m₃ := rfl
theorem pay416_eq (a : FVec F S16x1536 .f32) (p₁ : Vec F S1x16x256 .bf16) (m₁ : Vec F S1x256x1536 .bf16) (p₂ : Vec F S1x16x256 .bf16) (m₂ : Vec F S1x256x1536 .bf16) :
    k0_pay416 a p₁ m₁ p₂ m₂ = k0_pay12 (k0_pay12 a p₁ m₁) p₂ m₂ := rfl
theorem pay21_eq : k0_pay21 (F := F) = k0_pay20 := rfl
theorem pay22_eq : k0_pay22 (F := F) = k0_pay20 := rfl
theorem pay216_eq (q : FVec F S16x1536 .bf16) (m : Vec F S1x256x1536 .bf16) : k0_pay216 (k0_pay23 q m) = k0_pay20 q m := rfl
theorem pay217_eq (q : FVec F S16x1536 .f32) (m : Vec F S1x256x1536 .bf16) : k0_pay217 q m = k0_pay20 (k0_pay215 q) m := rfl

/-! ## The conditions, by the batch -/

theorem cond1_iff : ∀ i : grid0.Coords, k0_cond1 i = 1#1 ↔ (i 0).val = 0 := by decide +kernel
theorem cond2_iff : ∀ t : Fin k0_t1_loop.trips, k0_cond2 t = 1#1 ↔ t.val + 6 < 35 := by decide +kernel
theorem cond3_iff : ∀ i : grid0.Coords, k0_cond3 i = 1#1 ↔ (i 0).val + 1 < 22 := by decide +kernel
theorem cond4_iff : ∀ i : grid0.Coords, k0_cond4 i = 1#1 ↔ ¬ (i 0).val + 1 < 22 := by decide +kernel
theorem cond5_iff : ∀ i : grid0.Coords, k0_cond5 i = 1#1 ↔ (i 0).val + 1 < 22 := by decide +kernel
theorem cond6_iff : ∀ t : Fin k0_t5_loop.trips, k0_cond6 t = 1#1 ↔ True := by decide +kernel
theorem cond7_iff : ∀ i : grid0.Coords, k0_cond7 i = 1#1 ↔ 0 < (i 0).val := by decide +kernel
theorem cond8_iff : ∀ t : Fin k0_t5_loop.trips, k0_cond8 t = 1#1 ↔ True := by decide +kernel
theorem cond9_iff : ∀ i : grid0.Coords, k0_cond9 i = 1#1 ↔ 0 < (i 0).val := by decide +kernel
theorem cond10_iff : ∀ i : grid0.Coords, k0_cond10 i = 1#1 ↔ (i 0).val + 1 < 22 := by decide +kernel
theorem cond11_iff : ∀ i : grid0.Coords, k0_cond11 i = 1#1 ↔ ¬ (i 0).val + 1 < 22 := by decide +kernel
theorem cond12_iff : ∀ i : grid0.Coords, k0_cond12 i = 1#1 ↔ (i 0).val + 1 < 22 := by decide +kernel
theorem cond13_iff : ∀ t : Fin k0_t6_loop.trips, k0_cond13 t = 1#1 ↔ True := by decide +kernel
theorem cond14_iff : ∀ i : grid0.Coords, k0_cond14 i = 1#1 ↔ 0 < (i 0).val := by decide +kernel
theorem cond15_iff : ∀ t : Fin k0_t6_loop.trips, k0_cond15 t = 1#1 ↔ True := by decide +kernel
theorem cond16_iff : ∀ i : grid0.Coords, k0_cond16 i = 1#1 ↔ 0 < (i 0).val := by decide +kernel
theorem cond17_iff : ∀ i : grid0.Coords, k0_cond17 i = 1#1 ↔ (i 0).val + 1 < 22 := by decide +kernel
theorem cond18_iff : ∀ i : grid0.Coords, k0_cond18 i = 1#1 ↔ ¬ (i 0).val + 1 < 22 := by decide +kernel
theorem cond19_iff : ∀ i : grid0.Coords, k0_cond19 i = 1#1 ↔ (i 0).val + 1 < 22 := by decide +kernel
theorem cond20_iff : ∀ t : Fin k0_t10_loop.trips, k0_cond20 t = 1#1 ↔ t.val = 0 := by decide +kernel
theorem cond21_iff : ∀ i : grid0.Coords, k0_cond21 i = 1#1 ↔ 0 < (i 0).val := by decide +kernel
theorem cond23_iff : ∀ t : Fin k0_t11_loop.trips, k0_cond23 t = 1#1 ↔ 0 < t.val := by decide +kernel
theorem cond24_iff : ∀ (i : grid0.Coords) (t : Fin k0_t11_loop.trips), k0_cond24 i t = 1#1 ↔ (3 ≤ t.val ∧ t.val < 9 ∧ (i 0).val + 2 < 22) := by decide +kernel
theorem cond25_iff : ∀ i : grid0.Coords, k0_cond25 i = 1#1 ↔ (i 0).val = 21 := by decide +kernel

/-! ## Offsets that hold under a condition -/

theorem off28a_eq : ∀ (t : Fin k0_t5_loop.trips) (r : Fin 2), k0_off28 t 2#32 (BitVec.ofNat 32 r.val) = ![2 * t.val + r.val, 0, 0] := by decide +kernel
theorem off28b_eq : ∀ (t : Fin k0_t5_loop.trips) (r : Fin 5), k0_off28 t 5#32 (BitVec.ofNat 32 r.val) = ![5 * t.val + r.val, 0, 0] := by decide +kernel
theorem off95_eq : ∀ (t : Fin k0_t11_loop.trips), 0 < t.val → k0_off95 t = ![t.val - 1] := by decide +kernel
theorem off96_eq : ∀ (i : grid0.Coords) (t : Fin k0_t11_loop.trips), 0 < t.val → k0_off96 i t = ![(i 0).val, 256 * (t.val - 1), 0] := by decide +kernel
theorem off97_eq : ∀ (i : grid0.Coords) (t : Fin k0_t11_loop.trips), 0 < t.val → k0_off97 i t = ![(i 0).val % 2, 256 * (t.val - 1), 0] := by decide +kernel
theorem off98_eq : ∀ (t : Fin k0_t11_loop.trips), 3 ≤ t.val → k0_off98 t = ![t.val - 3] := by decide +kernel
theorem off100_eq : ∀ (i : grid0.Coords) (t : Fin k0_t11_loop.trips), 3 ≤ t.val → k0_off100 i t = ![(i 0).val % 2, 256 * (t.val - 3), 0] := by decide +kernel
theorem off101_eq : ∀ (t : Fin k0_t11_loop.trips), 3 ≤ t.val → k0_off101 t = ![(t.val - 3) % 6] := by decide +kernel
theorem off102_eq : ∀ (i : grid0.Coords) (t : Fin k0_t11_loop.trips), 3 ≤ t.val → k0_off102 i t = ![(i 0).val + 2, 256 * (t.val - 3), 0] := by decide +kernel
theorem off103_eq : ∀ (t : Fin k0_t11_loop.trips), 3 ≤ t.val → k0_off103 t = ![(t.val - 3) % 6, 0, 0] := by decide +kernel
theorem off102_eq' : ∀ (i : grid0.Coords), (i 0).val < 22 := by decide +kernel

end Cert.Kernel.Hand
-- ==== Proof.KernelOps.lean ====
/-
  The steps the passes share: the first product of one block, and the reads of the resident block and of a chunk.
-/
module

public import proofs.«01_k».proof.Proof.KernelVals

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Defs
variable (d : Dev nD)
variable (gX eX : Vec F S22x8960x1536 .bf16) (qX : Vec F S22x16x1536 .i8) (sX : Vec F S16x22 .f32)

/-- Blocks added. -/
def NX (lo hi : ℕ) : sProp 𝕄 := fam (fun n => iprop(∃ v, mPc d n v ∗ ⌜n < 770 → v = sumV gX eX n⌝)) lo hi
/-- The resident batch's blocks, known. -/
def RS (lo hi : ℕ) : sProp 𝕄 := fam (fun n => mPc d n (sumV gX eX n)) lo hi
/-- The first product's chunks of the batch beginning at block `N`: those below `u` computed. -/
def PN (N u : ℕ) : sProp 𝕄 :=
  iprop(fam (fun c => iprop(∃ v, cPc d p1M c v ∗ ⌜N + c < 770 → v = P1 gX eX qX sX (N + c)⌝)) 0 u ∗ fam (fun c => iprop(∃ v, cPc d p1M c v)) u 35)
/-- A buffer of chunks, its chunks below `u` known. -/
def CN {e : EltTy} (M : Memref sig .tc .vmem S35x16x256 e) (V : ℕ → Vec F S1x16x256 e) (u : ℕ) : sProp 𝕄 :=
  iprop(fam (fun c => cPc d M c (V c)) 0 u ∗ fam (fun c => iprop(∃ v, cPc d M c v)) u 35)

abbrev bqOff_inb : ∀ a, (![0, 0] : Fin 2 → ℕ) a + S16x1536.size a ≤ S16x1536.size a := inb_S16x1536_S16x1536_0_0
abbrev bqPc (v : Vec F S16x1536 .bf16) : sProp 𝕄 := owns (d : Thread nD τ) (pc bqM ![0, 0] S16x1536.size bqOff_inb) fullShare v
/-- The codes of batch `b` as floats in their scratch. -/
def BQR (b : ℕ) : sProp 𝕄 := iprop(∃ v, bqPc d v ∗ ⌜b < 22 → v = BQ qX b⌝)

end Defs

section Ops
variable {d : Dev nD} {α : Type}
variable {gX eX : Vec F S22x8960x1536 .bf16} {qX : Vec F S22x16x1536 .i8} {sX : Vec F S16x22 .f32}

/-- The first product of one landed block. -/
theorem first_product {Q : α → sProp 𝕄} {b u hm hs x : ℕ} {o₁ o₂ o₃ o₄ : Fin 3 → ℕ} {i₁ i₂ i₃ i₄ i₅ l₁ l₂ l₃ l₅ x₄ y₄} {o₆ o₇ : Fin 3 → ℕ}
    {i₆ : ∀ a, o₆ a + S1x16x256.size a ≤ S35x16x256.size a} {l₆ : p1M.view.LoadsAt (Rect.unit (s := S35x16x256) o₆ S1x16x256.size i₆).toLoadRect}
    {i₇ : ∀ a, o₇ a + S1x16x256.size a ≤ S35x16x256.size a} {x₇}
    {y₇ : (Finset.univ : Finset (Rect.unit (s := S35x16x256) o₇ S1x16x256.size i₇).shape.Idx) = Finset.univ
      ∨ ∀ a, (Rect.unit (s := S35x16x256) o₇ S1x16x256.size i₇).stride a = 1}
    {w : Vec F S1x256x1536 .bf16 → Vec F S1x256x1536 .bf16 → Vec F S1x256x1536 .bf16}
    {z : Vec F S1x256x1536 .bf16 → Vec F S1x256x1536 .bf16 → Vec F S16x1536 .bf16 → Vec F S1x16x256 .f32}
    {k : PUnit → Prog (TpuEff nD τ sig (Elt F) Λ₀ .tc) α}
    (hu : u < 35) (hhm : 35 * b + u < hm) (hhs : u < hs) (hx : x ≤ u + 6)
    (h₁ : o₁ = Moff (35 * b + u)) (h₂ : o₂ = Soff u) (h₃ : o₃ = Moff (35 * b + u)) (h₄ : o₄ = Moff (35 * b + u))
    (h₆ : o₆ = Coff u) (h₇ : o₇ = Coff u)
    (hw : ∀ v v', w v v' = k0_pay4 (k0_pay1 v v')) {qs : FVec F S16x1 .f32} (hqs : b < 22 → qs = QS sX b)
    (hz : ∀ v v' t, z v v' t = k0_pay5 qs (k0_pay1 v v') t) :
    iprop(MR d gX (35 * b + u) hm ∗ SR d eX (35 * b) u hs ∗ NX d gX eX (35 * b) (35 * b + u) ∗ PN d gX eX qX sX (35 * b) u ∗ SF d x (u + 6) ∗ BQR d qX b)
      ⊢ iprop((iprop(MR d gX (35 * b + (u + 1)) hm ∗ SR d eX (35 * b) (u + 1) hs ∗ NX d gX eX (35 * b) (35 * b + (u + 1))
            ∗ PN d gX eX qX sX (35 * b) (u + 1) ∗ SF d x (u + 1 + 6) ∗ BQR d qX b) -∗ WP d (k ⟨⟩) Q)
        -∗ WP d (.op (.load mM (Rect.unit (s := S2x8960x1536) o₁ S1x256x1536.size i₁).toLoadRect l₁) fun v =>
          .op (.load stM (Rect.unit (s := S6x256x1536) o₂ S1x256x1536.size i₂).toLoadRect l₂) fun v' =>
          .op (.load mM (Rect.unit (s := S2x8960x1536) o₃ S1x256x1536.size i₃).toLoadRect l₃) fun _ =>
          .op (.store mM (Rect.unit (s := S2x8960x1536) o₄ S1x256x1536.size i₄) (w v v') Finset.univ x₄ y₄) fun _ =>
          .op (.load bqM (Rect.unit (s := S16x1536) ![0, 0] S16x1536.size i₅).toLoadRect l₅) fun t =>
          .op (.load p1M (Rect.unit (s := S35x16x256) o₆ S1x16x256.size i₆).toLoadRect l₆) fun _ =>
          .op (.store p1M (Rect.unit (s := S35x16x256) o₇ S1x16x256.size i₇) (z v v' t) Finset.univ x₇ y₇) k) Q) := by
  unfold MR SR NX PN SF BQR
  rw [fam_head _ hhm, fam_head _ hhs, fam_head (fun c => iprop(∃ v, cPc d p1M c v)) hu]
  iintro ⟨⟨⟨%v, HM, %hv⟩, HMs⟩, ⟨⟨%v', HS, %hv'⟩, HSs⟩, HN, ⟨HP, ⟨%p, HC⟩, HPs⟩, HF, ⟨%t, HB, %ht⟩⟩ Hk
  iapply (wp_ld (M := mM) (Moff_inb _) h₁) $$ HM
  iintro HM
  iapply (wp_ld (M := stM) (Soff_inb _) h₂) $$ HS
  iintro HS
  iapply (wp_ld (M := mM) (Moff_inb _) h₃) $$ HM
  iintro HM
  iapply (wp_st (M := mM) (Moff_inb _) h₄) $$ HM
  iintro HM
  iapply (wp_ld (M := bqM) bqOff_inb rfl) $$ HB
  iintro HB
  iapply (wp_ld (M := p1M) (Coff_inb _) h₆) $$ HC
  iintro HC
  iapply (wp_st (M := p1M) (Coff_inb _) h₇) $$ HC
  iintro HC
  iapply Hk
  rw [show 35 * b + (u + 1) = 35 * b + u + 1 by omega, fam_last _ (by omega : 35 * b ≤ 35 * b + u), fam_last _ (by omega : 0 ≤ u),
    show u + 1 + 6 = u + 6 + 1 by omega, fam_last _ hx]
  isplitl [HMs]; · iexact HMs
  isplitl [HSs]; · iexact HSs
  isplitl [HN HM]
  · isplitl [HM]
    · iexists _; isplitl [HM]; · iexact HM
      ipureintro; intro hn; rw [hw, hv hn, hv' hn]; rfl
    iexact HN
  isplitl [HP HC HPs]
  · isplitl [HP HC]
    · isplitl [HC]
      · iexists _; isplitl [HC]; · iexact HC
        ipureintro; intro hn; rw [hz, hv hn, hv' hn, ht (by omega), hqs (by omega)]
        unfold P1
        rw [show (35 * b + u) / 35 = b by omega]
      iexact HP
    iexact HPs
  isplitl [HF HS]
  · isplitl [HS]
    · iexists _; rw [sPc_mod (n := u + 6) (n' := u) (by omega)]; iexact HS
    iexact HF
  iexists _; isplitl [HB]; · iexact HB
  ipureintro; exact ht

/-- A read of a known block of the resident batch. -/
theorem rs_read {Q : α → sProp 𝕄} {lo hi n : ℕ} {o : Fin 3 → ℕ} {i l} {k : Vec F S1x256x1536 .bf16 → Prog (TpuEff nD τ sig (Elt F) Λ₀ .tc) α}
    (h₁ : lo ≤ n) (h₂ : n < hi) (h : o = Moff n) :
    RS d gX eX lo hi ⊢ iprop((RS d gX eX lo hi -∗ WP d (k (sumV gX eX n)) Q)
        -∗ WP d (.op (.load mM (Rect.unit (s := S2x8960x1536) o S1x256x1536.size i).toLoadRect l) k) Q) := by
  unfold RS
  iintro H Hk
  icases (fam_focus _ h₁ h₂) $$ H with ⟨H, Hb⟩
  iapply (wp_ld (M := mM) (Moff_inb _) h) $$ H
  iintro H
  iapply Hk
  iapply Hb; iexact H

/-- A read of a known chunk. -/
theorem cn_read {Q : α → sProp 𝕄} {e : EltTy} {M : Memref sig .tc .vmem S35x16x256 e} {V : ℕ → Vec F S1x16x256 e} {u c : ℕ} {o : Fin 3 → ℕ} {i l}
    {k : Vec F S1x16x256 e → Prog (TpuEff nD τ sig (Elt F) Λ₀ .tc) α} (h₁ : c < u) (h : o = Coff c) :
    CN d M V u ⊢ iprop((CN d M V u -∗ WP d (k (V c)) Q)
        -∗ WP d (.op (.load M (Rect.unit (s := S35x16x256) o S1x16x256.size i).toLoadRect l) k) Q) := by
  unfold CN
  iintro ⟨H, H'⟩ Hk
  icases (fam_focus _ (Nat.zero_le c) h₁) $$ H with ⟨H, Hb⟩
  iapply (wp_ld (M := M) (Coff_inb _) h) $$ H
  iintro H
  iapply Hk
  isplitl [Hb H]
  · iapply Hb; iexact H
  iexact H'

/-- The store of the next chunk, after the read the program makes of what is there. -/
theorem cn_write {Q : α → sProp 𝕄} {e : EltTy} {M : Memref sig .tc .vmem S35x16x256 e} {V : ℕ → Vec F S1x16x256 e} {u : ℕ} {o o' : Fin 3 → ℕ} {i i' l x y}
    {w : Vec F S1x16x256 e}
    {k : PUnit → Prog (TpuEff nD τ sig (Elt F) Λ₀ .tc) α} (hu : u < 35) (h : o = Coff u) (h' : o' = Coff u) (hw : w = V u) :
    CN d M V u ⊢ iprop((CN d M V (u + 1) -∗ WP d (k ⟨⟩) Q)
        -∗ WP d (.op (.load M (Rect.unit (s := S35x16x256) o S1x16x256.size i).toLoadRect l) fun _ =>
          .op (.store M (Rect.unit (s := S35x16x256) o' S1x16x256.size i') w Finset.univ x y) k) Q) := by
  unfold CN
  rw [fam_head (fun c => iprop(∃ v, cPc d M c v)) hu]
  iintro ⟨H, ⟨%v, HC⟩, H'⟩ Hk
  iapply (wp_ld (M := M) (Coff_inb _) h) $$ HC
  iintro HC
  iapply (wp_st (M := M) (Coff_inb _) h') $$ HC
  iintro HC
  iapply Hk
  rw [fam_last _ (Nat.zero_le u), hw]
  isplitl [H HC]
  · isplitl [HC]; · iexact HC
    iexact H
  iexact H'

/-- Past the guard: the loops' returns. -/
theorem wp_done {Q : α → sProp 𝕄} (a : α) : Q a ⊢ WP d (.ret a) Q := le_wp_ret _ _ _ a Q

end Ops

end Cert.Kernel.Hand
-- ==== Proof.KernelLoop1.lean ====
/-
  The loop that brings in the first batch.
-/
module

public import proofs.«01_k».proof.Proof.KernelOps

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Fill
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t1_trips : k0_t1_loop.trips = 35 := by decide +kernel

variable (d gX eX qX sX) in
/-- The first batch with `u` chunks added. -/
def FI (u : ℕ) : sProp 𝕄 :=
  iprop(GI d gX (35 * 0) u (min (u + 6) 35) ∗ EI d eX (35 * 0) u (min (u + 6) 35) ∗ MF d (35 * 0 + min (u + 6) 35) 70 ∗ SF d (min (u + 6) 35) (u + 6)
    ∗ NX d gX eX (35 * 0) (35 * 0 + u) ∗ PN d gX eX qX sX (35 * 0) u ∗ BQR d qX 0 ∗ OW (d : Thread nD τ))

theorem MR_nil (a : ℕ) : ⊢ MR d gX a a := by unfold MR; rw [fam_empty _ (Nat.le_refl a)]; exact .rfl
theorem SR_nil (N a : ℕ) : ⊢ SR d eX N a a := by unfold SR; rw [fam_empty _ (Nat.le_refl a)]; exact .rfl

theorem t1_step {i : grid0.Coords} (k0_h1 : k0_cond1 i = 1#1) (t : Fin k0_t1_loop.trips) (acc : Unit) :
    FI d gX eX qX sX t.val ⊢ WP d (k0_t1_body i gM hg eM he a3 h3 a4 h4 oM ho a6 h6 a7 h7 a8 h8 a9 h9 a10 h10 mM hm stM hst bqM hbq p1M hp1 pbM hpb poM hpo pcM hpc cc0_scratch7 cc0_scratch8 cc0_scratch9 k0_h1 (k0_pay3 sX) t acc) (fun _ => FI d gX eX qX sX (t.val + 1)) := by
  have ht : t.val < 35 := lt_of_lt_of_eq t.isLt t1_trips
  simp only [k0_t1_body, k0_part1_eq_skeleton, k0_part1_skel, Prog.bind_lift, Prog.bind_op, Prog.pure_eq_ret, Prog.bind_ret]
  unfold FI
  iintro ⟨HG, HE, HM, HS, HN, HP, HB, HO⟩
  ihave HR := (MR_nil (d := d) (gX := gX) (35 * 0 + t.val))
  ihave HR' := (SR_nil (d := d) (eX := eX) (35 * 0) t.val)
  iapply (g_wait (b := 0) (u := t.val) (w := t.val) (x := min (t.val + 6) 35) (by omega) ht (Nat.le_refl _) (by omega) (gcell_eq (by rw [k0_off3_eq]))) $$ [HG HR HO]
  · isplitl [HG]; · iexact HG
    isplitl [HR]; · iexact HR
    iexact HO
  iintro ⟨HG, HR, HO⟩
  iapply (e_wait (b := 0) (u := t.val) (w := t.val) (x := min (t.val + 6) 35) (by omega) ht (Nat.le_refl _) (by omega) (ecell_eq (by rw [k0_off3_eq]))) $$ [HE HR' HO]
  · isplitl [HE]; · iexact HE
    isplitl [HR']; · iexact HR'
    iexact HO
  iintro ⟨HE, HR', HO⟩
  iapply (first_product (b := 0) (u := t.val) (hm := 35 * 0 + (t.val + 1)) (hs := t.val + 1) (x := min (t.val + 6) 35) (eX := eX) (qs := k0_pay3 sX) ht (by omega) (by omega) (by omega) (by rw [k0_off7_eq]; simp [Moff]; omega)
    (by rw [k0_off8_eq]) (by rw [k0_off7_eq]; simp [Moff]; omega) (by rw [k0_off7_eq]; simp [Moff]; omega) (by rw [k0_off9_eq]; simp [Coff]; omega)
    (by rw [k0_off9_eq]; simp [Coff]; omega) (fun _ _ => rfl) (fun _ => pay3_eq _) (fun _ _ _ => rfl)) $$ [HR HR' HN HP HS HB]
  · isplitl [HR]; · iexact HR
    isplitl [HR']; · iexact HR'
    isplitl [HN]; · iexact HN
    isplitl [HP]; · iexact HP
    isplitl [HS]; · iexact HS
    iexact HB
  iintro ⟨HR, HR', HN, HP, HS, HB⟩
  by_cases h2 : k0_cond2 t = 1#1
  · have h2' := (cond2_iff t).mp h2
    rw [dif_pos h2, show min (t.val + 6) 35 = t.val + 6 by omega, show min (t.val + 1 + 6) 35 = t.val + 6 + 1 by omega]
    iapply (g_start (b := 0) (w := t.val + 1) (x := t.val + 6) (hi := 70) (by omega) h2' (by omega) (by omega) (by omega) (by rw [k0_off12_eq]; simp [Ooff]; omega)
      (by rw [k0_off11_eq]; simp [Moff]; omega) (gcell_eq (by rw [k0_off10_eq]))) $$ [HG HM]
    · isplitl [HG]; · iexact HG
      iexact HM
    iintro ⟨HG, HM⟩
    iapply (e_start (b := 0) (w := t.val + 1) (x := t.val + 6) (hi := t.val + 1 + 6) (by omega) h2' (by omega) (by omega) (by omega) (by rw [k0_off12_eq]; simp [Ooff]; omega)
      (by rw [k0_off13_eq]) (ecell_eq (by rw [k0_off10_eq]))) $$ [HE HS]
    · isplitl [HE]; · iexact HE
      iexact HS
    iintro ⟨HE, HS⟩
    iapply wp_done
    isplitl [HG]; · iexact HG
    isplitl [HE]; · iexact HE
    isplitl [HM]; · iexact HM
    isplitl [HS]; · iexact HS
    isplitl [HN]; · iexact HN
    isplitl [HP]; · iexact HP
    isplitl [HB]; · iexact HB
    iexact HO
  · have h2' := mt (cond2_iff t).mpr h2
    rw [dif_neg h2, show min (t.val + 6) 35 = 35 by omega, show min (t.val + 1 + 6) 35 = 35 by omega]
    iapply wp_done
    isplitl [HG]; · iexact HG
    isplitl [HE]; · iexact HE
    isplitl [HM]; · iexact HM
    isplitl [HS]; · iexact HS
    isplitl [HN]; · iexact HN
    isplitl [HP]; · iexact HP
    isplitl [HB]; · iexact HB
    iexact HO

end Fill

end Cert.Kernel.Hand
-- ==== Proof.KernelLoop2.lean ====
/-
  The streams inside a step: what is owned before each group of host operations, and the start of one pair of input transfers.
-/
module

public import proofs.«01_k».proof.Proof.KernelLoop1

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem moff_of {a c n : ℕ} (h : a = n / 35 % 2) (h' : c = 256 * (n % 35)) : (![a, c, 0] : Fin 3 → ℕ) = Moff n := by subst h; subst h'; rfl
theorem ooff_of {a c n : ℕ} (h : a = n / 35 % 22) (h' : c = 256 * (n % 35)) : (![a, c, 0] : Fin 3 → ℕ) = Ooff n := by subst h; subst h'; rfl
theorem moff_at {a c B u : ℕ} (hu : u < 35) (h : a = B % 2) (h' : c = 256 * u) : (![a, c, 0] : Fin 3 → ℕ) = Moff (35 * B + u) :=
  moff_of (by rw [show (35 * B + u) / 35 = B by omega]; exact h) (by rw [show (35 * B + u) % 35 = u by omega]; exact h')
theorem ooff_at {a c B u : ℕ} (hu : u < 35) (h : a = B % 22) (h' : c = 256 * u) : (![a, c, 0] : Fin 3 → ℕ) = Ooff (35 * B + u) :=
  ooff_of (by rw [show (35 * B + u) / 35 = B by omega]; exact h) (by rw [show (35 * B + u) % 35 = u by omega]; exact h')
theorem soff_of {a c : ℕ} (h : a = c % 6) : (![a, 0, 0] : Fin 3 → ℕ) = Soff c := by subst h; rfl
theorem coff_of {a c : ℕ} (h : a = c % 35) : (![a, 0, 0] : Fin 3 → ℕ) = Coff c := by subst h; rfl
theorem one_of {a b : ℕ} (h : a = b) : (![a] : Fin 1 → ℕ) = ![b] := by subst h; rfl

/-- An equality as an entailment. -/
theorem eqE {A B : sProp 𝕄} (h : A = B) : A ⊢ B := by subst h; exact .rfl

/-- A part of a program, then the rest. -/
theorem wp_part {d : Dev nD} {α β : Type} {p : Prog (TpuEff nD τ sig (Elt F) Λ₀ .tc) α} {k : α → Prog (TpuEff nD τ sig (Elt F) Λ₀ .tc) β} {R : α → sProp 𝕄} {Q : β → sProp 𝕄} {P : sProp 𝕄}
    (h : P ⊢ WP d p R) : P ⊢ iprop((∀ a, R a -∗ WP d (k a) Q) -∗ WP d (p >>= k) Q) := by
  unfold WP
  rw [wp_bind]
  exact h.trans (wp_wand (Fr := frame) _ _)

section Streams
variable (d : Dev nD)
variable (gX eX : Vec F S22x8960x1536 .bf16) (qX : Vec F S22x16x1536 .i8) (sX : Vec F S16x22 .f32)

/-- The output blocks waited for in step `b` once the input stream of the next batch has begun chunk `x - 1`. -/
def wo (b x : ℕ) : ℕ := if b = 0 then 0 else 35 * (b - 1) + x

/-- The streams in step `b < 21` while chunks `[w, x)` of the next batch are on their way. -/
def H1 (b w x : ℕ) : sProp 𝕄 :=
  iprop(GI d gX (35 * (b + 1)) w x ∗ EI d eX (35 * (b + 1)) w x ∗ MF d (35 * (b + 1) + x) (wo b x + 70) ∗ OS d (EV gX eX qX sX) (wo b x) (35 * b))
/-- The streams in the last step, once `w` of the output transfers of the step before are waited for. -/
def H2 (w : ℕ) : sProp 𝕄 :=
  iprop(GI d gX (35 * 22) 0 0 ∗ EI d eX (35 * 22) 0 0 ∗ OS d (EV gX eX qX sX) (700 + w) 735)
/-- The streams in step `b`, `w` chunks of the next batch received, the group begun at `u`. -/
def HS (b u w : ℕ) : sProp 𝕄 := if b < 21 then H1 d gX eX qX sX b w (min (u + 6) 35) else H2 d gX eX qX sX w
/-- The first free staging slot. -/
def xs (b u k : ℕ) : ℕ := if b < 21 then min (u + 6) 35 else u + k
/-- What a step of a pass over the next batch owns of the next batch, `u` chunks added. -/
def HB (b u : ℕ) : sProp 𝕄 :=
  iprop(HS d gX eX qX sX b u u ∗ SF d (xs b u 0) (u + 6) ∗ NX d gX eX (35 * (b + 1)) (35 * (b + 1) + u) ∗ PN d gX eX qX sX (35 * (b + 1)) u ∗ BQR d qX (b + 1) ∗ OW (d : Thread nD τ))

theorem MF_nil (a : ℕ) : ⊢ MF (F := F) d a a := by unfold MF; rw [fam_empty _ (Nat.le_refl a)]; exact .rfl
theorem SF_nil {a b : ℕ} (h : b ≤ a) : ⊢ SF (F := F) d a b := by unfold SF; rw [fam_empty _ h]; exact .rfl
/-- Past the last batch anything counts as received. -/
theorem MF_MR {a b : ℕ} (h : 770 ≤ a) : MF d a b ⊢ MR d gX a b := by
  unfold MF MR
  refine fam_mono fun n h₁ h₂ => ?_
  iintro ⟨%v, H⟩
  iexists v
  isplitl [H]; · iexact H
  ipureintro; intro; omega
theorem SF_SR {N a b : ℕ} (h : 770 ≤ N) : SF d a b ⊢ SR d eX N a b := by
  unfold SF SR
  refine fam_mono fun n h₁ h₂ => ?_
  iintro ⟨%v, H⟩
  iexists v
  isplitl [H]; · iexact H
  ipureintro; intro; omega

/-- Inside a group of host operations: `k` chunks received from `u`, the first `j` of them added. -/
def HM (b u k j : ℕ) : sProp 𝕄 :=
  iprop(HS d gX eX qX sX b u (u + k) ∗ MR d gX (35 * (b + 1) + (u + j)) (35 * (b + 1) + (u + k)) ∗ SR d eX (35 * (b + 1)) (u + j) (u + k)
    ∗ SF d (xs b u k) (u + j + 6) ∗ NX d gX eX (35 * (b + 1)) (35 * (b + 1) + (u + j)) ∗ PN d gX eX qX sX (35 * (b + 1)) (u + j) ∗ BQR d qX (b + 1) ∗ OW (d : Thread nD τ))

theorem SF_split {a b c : ℕ} (h₁ : a ≤ b) (h₂ : b ≤ c) : SF (F := F) d a c ⊢ iprop(SF d a b ∗ SF d b c) := by
  unfold SF; rw [fam_split _ h₁ h₂]

end Streams

section StartPair
variable {d : Dev nD} {α : Type}
variable {gX eX : Vec F S22x8960x1536 .bf16} {qX : Vec F S22x16x1536 .i8} {sX : Vec F S16x22 .f32}

/-- The start of chunk `x` of the next batch: after the first step, first the wait that frees its slot. -/
theorem start_pair {Q : α → sProp 𝕄} {b w x hi : ℕ} {c7 : Prop} [Decidable c7]
    {sp' : Space} {s' : Shape} {e' : EltTy} {offw : Fin 3 → ℕ} {inbw : c7 → ∀ a, offw a + S1x256x1536.size a ≤ S22x8960x1536.size a} {zw : S1x256x1536.Squeezes S256x1536} {semw : c7 → DmaSem sig}
    {srcw : c7 → Memref sig .tc sp' s' e'} {hsrcw : ∀ h, (srcw h).view.WordExact} {hdstw : ∀ h, ((pc oM offw S1x256x1536.size (inbw h)).squeeze S256x1536 zw).view.WordExact}
    {o₁ o₂ o₃ : Fin 3 → ℕ} {sg se : DmaSem sig} {inb₁ inb₂ z₁ z₂ hsrc hdst hsem inb₁' inb₂' z₁' z₂' hsrc' hdst' hsem'}
    {k : PUnit → Prog (TpuEff nD τ sig (Elt F) Λ₀ .tc) α}
    (hc7 : c7 ↔ 0 < b) (hb : b < 21) (hx : x < 35) (hwx : w ≤ x) (hw6 : x < w + 6) (hhi : x < hi)
    (hsw : ∀ h, semw h = ocell x) (h₁ : o₁ = Ooff (35 * (b + 1) + x)) (h₂ : o₂ = Moff (35 * (b + 1) + x)) (h₃ : o₃ = Soff x) (hsg : sg = gcell x) (hse : se = ecell x) :
    iprop(H1 d gX eX qX sX b w x ∗ SF d x hi ∗ OW (d : Thread nD τ))
      ⊢ iprop((iprop(H1 d gX eX qX sX b w (x + 1) ∗ SF d (x + 1) hi ∗ OW (d : Thread nD τ)) -∗ WP d (k ⟨⟩) Q)
        -∗ WP d (if h : c7 then .op (.waitDma2 (semw h) (srcw h) ((pc oM offw S1x256x1536.size (inbw h)).squeeze S256x1536 zw) (hsrcw h) (hdstw h)) fun _ =>
            .op (.enqueueDma ((pc gM o₁ S1x256x1536.size inb₁).squeeze S256x1536 z₁)
              (.here ((pc mM o₂ S1x256x1536.size inb₂).squeeze S256x1536 z₂)) (.dma sg) hsrc hdst hsem) fun _ =>
            .op (.enqueueDma ((pc eM o₁ S1x256x1536.size inb₁').squeeze S256x1536 z₁')
              (.here ((pc stM o₃ S1x256x1536.size inb₂').squeeze S256x1536 z₂')) (.dma se) hsrc' hdst' hsem') k
          else
            .op (.enqueueDma ((pc gM o₁ S1x256x1536.size inb₁).squeeze S256x1536 z₁)
              (.here ((pc mM o₂ S1x256x1536.size inb₂).squeeze S256x1536 z₂)) (.dma sg) hsrc hdst hsem) fun _ =>
            .op (.enqueueDma ((pc eM o₁ S1x256x1536.size inb₁').squeeze S256x1536 z₁')
              (.here ((pc stM o₃ S1x256x1536.size inb₂').squeeze S256x1536 z₂')) (.dma se) hsrc' hdst' hsem') k) Q) := by
  unfold H1
  iintro ⟨⟨HG, HE, HM, HZ⟩, HS, HO⟩ Hk
  by_cases h7 : c7
  · have hb0 := hc7.mp h7
    rw [dif_pos h7, show wo b x = 35 * (b - 1) + x by unfold wo; rw [if_neg (by omega)], show wo b (x + 1) = 35 * (b - 1) + x + 1 by unfold wo; rw [if_neg (by omega)]; omega]
    iapply (o_wait (w := 35 * (b - 1) + x) (a := 35 * b) (lo := 35 * (b + 1) + x) (by omega) (by omega) (by omega)
      ((hsw h7).trans (ocell_mod (by omega)))) $$ [HZ HM HO]
    · isplitl [HZ]; · iexact HZ
      isplitl [HM]; · iexact HM
      iexact HO
    iintro ⟨HZ, HM, HO⟩
    iapply (g_start (b := b + 1) (w := w) (x := x) (hi := 35 * (b - 1) + x + 1 + 70) (by omega) hx hwx hw6 (by omega) h₁ h₂ hsg) $$ [HG HM]
    · isplitl [HG]; · iexact HG
      iexact HM
    iintro ⟨HG, HM⟩
    iapply (e_start (b := b + 1) (w := w) (x := x) (hi := hi) (by omega) hx hwx hw6 hhi h₁ h₃ hse) $$ [HE HS]
    · isplitl [HE]; · iexact HE
      iexact HS
    iintro ⟨HE, HS⟩
    iapply Hk
    isplitl [HG HE HM HZ]
    · isplitl [HG]; · iexact HG
      isplitl [HE]; · iexact HE
      isplitl [HM]; · iexact HM
      iexact HZ
    isplitl [HS]; · iexact HS
    iexact HO
  · have hb0 : b = 0 := by have := mt hc7.mpr h7; omega
    rw [dif_neg h7, show wo b x = 0 by unfold wo; rw [if_pos hb0], show wo b (x + 1) = 0 by unfold wo; rw [if_pos hb0]]
    iapply (g_start (b := b + 1) (w := w) (x := x) (hi := 0 + 70) (by omega) hx hwx hw6 (by omega) h₁ h₂ hsg) $$ [HG HM]
    · isplitl [HG]; · iexact HG
      iexact HM
    iintro ⟨HG, HM⟩
    iapply (e_start (b := b + 1) (w := w) (x := x) (hi := hi) (by omega) hx hwx hw6 hhi h₁ h₃ hse) $$ [HE HS]
    · isplitl [HE]; · iexact HE
      iexact HS
    iintro ⟨HE, HS⟩
    iapply Hk
    isplitl [HG HE HM HZ]
    · isplitl [HG]; · iexact HG
      isplitl [HE]; · iexact HE
      isplitl [HM]; · iexact HM
      iexact HZ
    isplitl [HS]; · iexact HS
    iexact HO

/-- The receipt of chunk `w` of the next batch. -/
theorem wait_pair {Q : α → sProp 𝕄} {b u w x : ℕ} {sg se : DmaSem sig} {sp₁ sp₂ : Space} {s₁ s₂ : Shape} {e₁ e₂ : EltTy} {o₁ o₂ : Fin 3 → ℕ} {inb₁ z₁ inb₂ z₂}
    {src₁ : Memref sig .tc sp₁ s₁ e₁} {src₂ : Memref sig .tc sp₂ s₂ e₂} {h₁ : src₁.view.WordExact} {h₁'} {h₂ : src₂.view.WordExact} {h₂'}
    {k : PUnit → Prog (TpuEff nD τ sig (Elt F) Λ₀ .tc) α}
    (hwx : w < x) (hw : w < 35) (hu : u ≤ w) (hx6 : x ≤ w + 6) (hsg : sg = gcell w) (hse : se = ecell w) :
    iprop(H1 d gX eX qX sX b w x ∗ MR d gX (35 * (b + 1) + u) (35 * (b + 1) + w) ∗ SR d eX (35 * (b + 1)) u w ∗ OW (d : Thread nD τ))
      ⊢ iprop((iprop(H1 d gX eX qX sX b (w + 1) x ∗ MR d gX (35 * (b + 1) + u) (35 * (b + 1) + (w + 1)) ∗ SR d eX (35 * (b + 1)) u (w + 1) ∗ OW (d : Thread nD τ)) -∗ WP d (k ⟨⟩) Q)
        -∗ WP d (.op (.waitDma2 sg src₁ ((pc mM o₁ S1x256x1536.size inb₁).squeeze S256x1536 z₁) h₁ h₁') fun _ =>
          .op (.waitDma2 se src₂ ((pc stM o₂ S1x256x1536.size inb₂).squeeze S256x1536 z₂) h₂ h₂') k) Q) := by
  unfold H1
  iintro ⟨⟨HG, HE, HZ⟩, HR, HR', HO⟩ Hk
  iapply (g_wait (b := b + 1) (u := u) (w := w) (x := x) hwx hw hu hx6 hsg) $$ [HG HR HO]
  · isplitl [HG]; · iexact HG
    isplitl [HR]; · iexact HR
    iexact HO
  iintro ⟨HG, HR, HO⟩
  iapply (e_wait (b := b + 1) (u := u) (w := w) (x := x) hwx hw hu hx6 hse) $$ [HE HR' HO]
  · isplitl [HE]; · iexact HE
    isplitl [HR']; · iexact HR'
    iexact HO
  iintro ⟨HE, HR', HO⟩
  iapply Hk
  isplitl [HG HE HZ]
  · isplitl [HG]; · iexact HG
    isplitl [HE]; · iexact HE
    iexact HZ
  isplitl [HR]; · iexact HR
  isplitl [HR']; · iexact HR'
  iexact HO

/-- In the last step: the wait for an output transfer of the step before. -/
theorem last_wait {Q : α → sProp 𝕄} {u w : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hu : u ≤ w) (hw : w < 35) (hs : sem = ocell w) :
    iprop(H2 d gX eX qX sX w ∗ MF d (35 * 22 + u) (35 * 22 + w) ∗ OW (d : Thread nD τ))
      ⊢ iprop((iprop(H2 d gX eX qX sX (w + 1) ∗ MF d (35 * 22 + u) (35 * 22 + (w + 1)) ∗ OW (d : Thread nD τ)) -∗ WP d (k ⟨⟩) Q)
        -∗ WP d (.op (.waitDma2 sem srcw ((pc oM offw S1x256x1536.size inbw).squeeze S256x1536 zw) hsrc hdst) k) Q) := by
  unfold H2
  rw [show 35 * 22 + w = 700 + w + 70 by omega, show 35 * 22 + (w + 1) = 700 + w + 1 + 70 by omega, show 700 + (w + 1) = 700 + w + 1 by omega]
  iintro ⟨⟨HG, HE, HZ⟩, HM, HO⟩ Hk
  iapply (o_wait (w := 700 + w) (a := 735) (lo := 35 * 22 + u) (by omega) (by omega) (by omega) (hs.trans (ocell_mod (by omega)))) $$ [HZ HM HO]
  · isplitl [HZ]; · iexact HZ
    isplitl [HM]; · iexact HM
    iexact HO
  iintro ⟨HZ, HM, HO⟩
  iapply Hk
  isplitl [HG HE HZ]
  · isplitl [HG]; · iexact HG
    isplitl [HE]; · iexact HE
    iexact HZ
  isplitl [HM]; · iexact HM
  iexact HO

end StartPair

end Cert.Kernel.Hand
-- ==== Proof.KernelLoop3.lean ====
/-
  The second pass over the resident batch, with the first fourteen chunks of the next one.
-/
module

public import proofs.«01_k».proof.Proof.KernelLoop2

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section PassB
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t5_trips : k0_t5_loop.trips = 7 := by decide +kernel

theorem part11_ok {i : grid0.Coords} {b : ℕ} (hi : (i 0).val = b) (t : Fin k0_t5_loop.trips) {arg0 c c' v1 : BitVec 32} {v6 : BitVec 1} {v851 : FVec F S16x1 .f32}
    (hq : b + 1 < 22 → v851 = QS sX (b + 1)) :
    HB d gX eX qX sX b (2 * t.val) ⊢ WP d (k0_part11 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v1 v6 v851 c c' t) (fun _ => HM d gX eX qX sX b (2 * t.val) 2 1) := by
  have ht : t.val < 7 := lt_of_lt_of_eq t.isLt t5_trips
  have hb : b < 22 := hi ▸ off102_eq' i
  simp only [k0_part11_eq_skeleton, k0_part11_skel, k0_part10_eq_skeleton, k0_part10_skel, Prog.bind_lift, Prog.bind_op, Prog.pure_eq_ret, Prog.bind_ret]
  have h₁ : k0_off26 i t 0#32 = Moff (35 * (b + 1) + 2 * t.val) := (k0_off26_eq i t 0).trans (moff_at (by omega) (by rw [hi]; omega) (by simp; omega))
  have h₂ : k0_off27 t 0#32 = Soff (2 * t.val) := (k0_off27_eq t 0).trans (soff_of rfl)
  have h₃ : k0_off28 t 2#32 0#32 = Coff (2 * t.val) := (off28a_eq t 0).trans (coff_of (by simp; omega))
  unfold HB HM HS
  by_cases hn : b < 21
  · rw [if_pos hn, if_pos hn, dif_pos ((cond3_iff i).mpr (by omega)), dif_neg (mt (cond4_iff i).mp (by omega)), show xs b (2 * t.val) 0 = 2 * t.val + 6 by unfold xs; rw [if_pos hn]; omega,
      show xs b (2 * t.val) 2 = 2 * t.val + 6 by unfold xs; rw [if_pos hn]; omega, show min (2 * t.val + 6) 35 = 2 * t.val + 6 by omega]
    iintro ⟨HZ, HF, HN, HP, HB, HO⟩
    ihave HR := (MR_nil (d := d) (gX := gX) (35 * (b + 1) + 2 * t.val))
    ihave HR' := (SR_nil (d := d) (eX := eX) (35 * (b + 1)) (2 * t.val))
    iapply (wait_pair (b := b) (u := 2 * t.val) (w := 2 * t.val) (x := 2 * t.val + 6) (by omega) (by omega) (by omega) (by omega)
      (gcell_eq ((k0_off19_eq t 0).trans (one_of rfl))) (ecell_eq ((k0_off19_eq t 0).trans (one_of rfl)))) $$ [HZ HR HR' HO]
    · isplitl [HZ]; · iexact HZ
      isplitl [HR]; · iexact HR
      isplitl [HR']; · iexact HR'
      iexact HO
    iintro ⟨HZ, HR, HR', HO⟩
    iapply (wait_pair (b := b) (u := 2 * t.val) (w := 2 * t.val + 1) (x := 2 * t.val + 6) (by omega) (by omega) (by omega) (by omega)
      (gcell_eq ((k0_off19_eq t 1).trans (one_of rfl))) (ecell_eq ((k0_off19_eq t 1).trans (one_of rfl)))) $$ [HZ HR HR' HO]
    · isplitl [HZ]; · iexact HZ
      isplitl [HR]; · iexact HR
      isplitl [HR']; · iexact HR'
      iexact HO
    iintro ⟨HZ, HR, HR', HO⟩
    iapply (first_product (b := b + 1) (u := 2 * t.val) (hm := 35 * (b + 1) + (2 * t.val + 2)) (hs := 2 * t.val + 2) (x := 2 * t.val + 6) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  · obtain rfl : b = 21 := by omega
    rw [if_neg hn, if_neg hn, dif_neg (mt (cond3_iff i).mp (by omega)), dif_pos ((cond4_iff i).mpr (by omega)), show xs 21 (2 * t.val) 0 = 2 * t.val by rfl,
      show xs 21 (2 * t.val) 2 = 2 * t.val + 2 by rfl]
    iintro ⟨HZ, HF, HN, HP, HB, HO⟩
    ihave HM := (MF_nil (F := F) d (35 * 22 + 2 * t.val))
    iapply (last_wait (u := 2 * t.val) (w := 2 * t.val) (by omega) (by omega) (ocell_eq ((k0_off23_eq t 0).trans (one_of (by simp; omega))))) $$ [HZ HM HO]
    · isplitl [HZ]; · iexact HZ
      isplitl [HM]; · iexact HM
      iexact HO
    iintro ⟨HZ, HM, HO⟩
    iapply (last_wait (u := 2 * t.val) (w := 2 * t.val + 1) (by omega) (by omega) (ocell_eq ((k0_off23_eq t 1).trans (one_of (by simp; omega))))) $$ [HZ HM HO]
    · isplitl [HZ]; · iexact HZ
      isplitl [HM]; · iexact HM
      iexact HO
    iintro ⟨HZ, HM, HO⟩
    ihave HR := (MF_MR (d := d) (gX := gX) (by omega : 770 ≤ 35 * 22 + 2 * t.val)) $$ HM
    icases (SF_split (F := F) d (by omega : 2 * t.val ≤ 2 * t.val + 2) (by omega : 2 * t.val + 2 ≤ 2 * t.val + 6)) $$ HF with ⟨HR', HF⟩
    ihave HR' := (SF_SR (d := d) (eX := eX) (N := 35 * (21 + 1)) (a := 2 * t.val) (b := 2 * t.val + 2) (by omega)) $$ HR'
    iapply (first_product (b := 21 + 1) (u := 2 * t.val) (hm := 35 * (21 + 1) + (2 * t.val + 2)) (hs := 2 * t.val + 2) (x := 2 * t.val + 2) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO

theorem part12_ok {i : grid0.Coords} {b : ℕ} (hi : (i 0).val = b) (t : Fin k0_t5_loop.trips) {v0 v1 w₁ w₂ w₃ : BitVec 32} {v851 : FVec F S16x1 .f32} {acc : FVec F S16x1536 .f32}
    (hq : b + 1 < 22 → v851 = QS sX (b + 1)) :
    iprop(HM d gX eX qX sX b (2 * t.val) 2 1 ∗ RS d gX eX (35 * b) (35 * b + 35) ∗ CN d poM (fun c => PO gX eX qX sX (35 * b + c)) 35)
      ⊢ WP d (k0_part12 i gM hg eM he a3 h3 a4 h4 oM ho a6 h6 a7 h7 a8 h8 a9 h9 a10 h10 mM hm stM hst bqM hbq p1M hp1 pbM hpb poM hpo pcM hpc cc0_scratch7 cc0_scratch8 cc0_scratch9 v0 v1 v851 t acc w₁ w₂ w₃) (fun r => iprop(⌜r.1 = k0_pay12 acc (PO gX eX qX sX (35 * b + 5 * t.val)) (sumV gX eX (35 * b + 5 * t.val))⌝ ∗
        HM d gX eX qX sX b (2 * t.val) 2 2 ∗ RS d gX eX (35 * b) (35 * b + 35) ∗ CN d poM (fun c => PO gX eX qX sX (35 * b + c)) 35)) := by
  have ht : t.val < 7 := lt_of_lt_of_eq t.isLt t5_trips
  have hb : b < 22 := hi ▸ off102_eq' i
  simp only [k0_part12_eq_skeleton, k0_part12_skel, Prog.bind_lift, Prog.bind_op, Prog.pure_eq_ret, Prog.bind_ret]
  have h₁ : k0_off26 i t 1#32 = Moff (35 * (b + 1) + (2 * t.val + 1)) := (k0_off26_eq i t 1).trans (moff_at (by omega) (by rw [hi]; omega) (by simp; omega))
  have h₂ : k0_off27 t 1#32 = Soff (2 * t.val + 1) := (k0_off27_eq t 1).trans (soff_of rfl)
  have h₃ : k0_off28 t 2#32 1#32 = Coff (2 * t.val + 1) := (off28a_eq t 1).trans (coff_of (by simp; omega))
  have hx : xs b (2 * t.val) 2 ≤ 2 * t.val + 1 + 6 := by unfold xs; split <;> omega
  unfold HM
  iintro ⟨⟨HZ, HR, HR', HF, HN, HP, HB, HO⟩, HA, HC⟩
  iapply (first_product (b := b + 1) (u := 2 * t.val + 1) (hm := 35 * (b + 1) + (2 * t.val + 2)) (hs := 2 * t.val + 2) (x := xs b (2 * t.val) 2) (eX := eX) (qs := v851) (by omega) (by omega) (by omega) hx
    h₁ h₂ h₁ h₁ h₃ h₃ (fun _ _ => rfl) hq (fun _ _ _ => rfl)) $$ [HR HR' HN HP HF HB]
  · isplitl [HR]; · iexact HR
    isplitl [HR']; · iexact HR'
    isplitl [HN]; · iexact HN
    isplitl [HP]; · iexact HP
    isplitl [HF]; · iexact HF
    iexact HB
  iintro ⟨HR, HR', HN, HP, HF, HB⟩
  iapply (cn_read (M := poM) (c := 5 * t.val) (by omega) ((off28b_eq t 0).trans (coff_of (by simp; omega)))) $$ HC
  iintro HC
  iapply (rs_read (n := 35 * b + 5 * t.val) (by omega) (by omega) ((k0_off29_eq i t 0).trans (moff_at (by omega) (by rw [hi]) (by simp; omega)))) $$ HA
  iintro HA
  iapply wp_done
  isplitr; · ipureintro; rfl
  isplitr [HA HC]
  · isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  isplitl [HA]; · iexact HA
  iexact HC

theorem part13_ok {i : grid0.Coords} {b : ℕ} (hi : (i 0).val = b) (t : Fin k0_t5_loop.trips) {v0 w₁ w₂ w₃ : BitVec 32} {acc : FVec F S16x1536 .f32} :
    iprop(RS d gX eX (35 * b) (35 * b + 35) ∗ CN d poM (fun c => PO gX eX qX sX (35 * b + c)) 35)
      ⊢ WP d (k0_part13 i gM hg eM he a3 h3 a4 h4 oM ho a6 h6 a7 h7 a8 h8 a9 h9 a10 h10 mM hm stM hst bqM hbq p1M hp1 pbM hpb poM hpo pcM hpc cc0_scratch7 cc0_scratch8 cc0_scratch9 v0 t w₁ acc w₂ w₃) (fun r => iprop(⌜r.1 = k0_pay12 (k0_pay12 (k0_pay12 acc
            (PO gX eX qX sX (35 * b + (5 * t.val + 1))) (sumV gX eX (35 * b + (5 * t.val + 1))))
            (PO gX eX qX sX (35 * b + (5 * t.val + 2))) (sumV gX eX (35 * b + (5 * t.val + 2))))
            (PO gX eX qX sX (35 * b + (5 * t.val + 3))) (sumV gX eX (35 * b + (5 * t.val + 3)))⌝ ∗
        RS d gX eX (35 * b) (35 * b + 35) ∗ CN d poM (fun c => PO gX eX qX sX (35 * b + c)) 35)) := by
  have ht : t.val < 7 := lt_of_lt_of_eq t.isLt t5_trips
  have hb : b < 22 := hi ▸ off102_eq' i
  simp only [k0_part13_eq_skeleton, k0_part13_skel, Prog.bind_lift, Prog.bind_op, Prog.pure_eq_ret, Prog.bind_ret]
  iintro ⟨HA, HC⟩
  iapply (cn_read (M := poM) (c := 5 * t.val + 1) (by omega) ((off28b_eq t 1).trans (coff_of (by simp; omega)))) $$ HC
  iintro HC
  iapply (rs_read (n := 35 * b + (5 * t.val + 1)) (by omega) (by omega) ((k0_off29_eq i t 1).trans (moff_at (by omega) (by rw [hi]) (by simp; omega)))) $$ HA
  iintro HA
  iapply (cn_read (M := poM) (c := 5 * t.val + 2) (by omega) ((off28b_eq t 2).trans (coff_of (by simp; omega)))) $$ HC
  iintro HC
  iapply (rs_read (n := 35 * b + (5 * t.val + 2)) (by omega) (by omega) ((k0_off29_eq i t 2).trans (moff_at (by omega) (by rw [hi]) (by simp; omega)))) $$ HA
  iintro HA
  iapply (cn_read (M := poM) (c := 5 * t.val + 3) (by omega) ((off28b_eq t 3).trans (coff_of (by simp; omega)))) $$ HC
  iintro HC
  iapply (rs_read (n := 35 * b + (5 * t.val + 3)) (by omega) (by omega) ((k0_off29_eq i t 3).trans (moff_at (by omega) (by rw [hi]) (by simp; omega)))) $$ HA
  iintro HA
  iapply wp_done
  isplitr; · ipureintro; exact pay13_eq _ _ _ _ _ _ _
  isplitl [HA]; · iexact HA
  iexact HC

variable (d gX eX qX sX) in
/-- The pass after `t` groups. -/
def T5 (b t : ℕ) (acc : FVec F S16x1536 .f32) : sProp 𝕄 :=
  iprop(⌜acc = foldN (fun c a => k0_pay12 a (PO gX eX qX sX (35 * b + c)) (sumV gX eX (35 * b + c))) k0_pay213 (5 * t)⌝ ∗ HB d gX eX qX sX b (2 * t)
    ∗ RS d gX eX (35 * b) (35 * b + 35) ∗ CN d poM (fun c => PO gX eX qX sX (35 * b + c)) 35)

theorem t5_step {i : grid0.Coords} {b : ℕ} (hi : (i 0).val = b) {arg0 v0 v1 v7 : BitVec 32} {v6 : BitVec 1} {v825 v827 v830} {v846 : Vec F S16x22 .f32}
    (hq : b + 1 < 22 → k0_pay212 v7 v846 = QS sX (b + 1)) (t : Fin k0_t5_loop.trips) (acc : FVec F S16x1536 .f32) :
    T5 d gX eX qX sX b t.val acc ⊢ WP d (k0_t5_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 v846 t acc) (fun r => T5 d gX eX qX sX b (t.val + 1) r) := by
  have ht : t.val < 7 := lt_of_lt_of_eq t.isLt t5_trips
  have hb : b < 22 := hi ▸ off102_eq' i
  unfold k0_t5_body T5
  iintro ⟨%hacc, HH, HA, HC⟩
  iapply (wp_part (part11_ok (v851 := k0_pay212 v7 v846) hg he ho hm hst hbq hp1 hpb hpo hpc h3 h4 h6 h7 h8 h9 h10 hi t hq)) $$ HH
  iintro %r HH
  iapply (wp_part (part12_ok (v851 := k0_pay212 v7 v846) hg he ho hm hst hbq hp1 hpb hpo hpc h3 h4 h6 h7 h8 h9 h10 hi t hq)) $$ [HH HA HC]
  · isplitl [HH]; · iexact HH
    isplitl [HA]; · iexact HA
    iexact HC
  iintro %r₂ ⟨%hr₂, HH, HA, HC⟩
  iapply (wp_part (part13_ok hg he ho hm hst hbq hp1 hpb hpo hpc h3 h4 h6 h7 h8 h9 h10 hi t)) $$ [HA HC]
  · isplitl [HA]; · iexact HA
    iexact HC
  iintro %r₃ ⟨%hr₃, HA, HC⟩
  simp only [Prog.bind_lift, Prog.bind_op, Prog.pure_eq_ret, Prog.bind_ret]
  iapply (cn_read (M := poM) (c := 5 * t.val + 4) (by omega) ((off28b_eq t 4).trans (coff_of (by simp; omega)))) $$ HC
  iintro HC
  iapply (rs_read (n := 35 * b + (5 * t.val + 4)) (by omega) (by omega) ((k0_off29_eq i t 4).trans (moff_at (by omega) (by rw [hi]) (by simp; omega)))) $$ HA
  iintro HA
  have hres : k0_pay214 r₃.1 (PO gX eX qX sX (35 * b + (5 * t.val + 4))) (sumV gX eX (35 * b + (5 * t.val + 4)))
      = foldN (fun c a => k0_pay12 a (PO gX eX qX sX (35 * b + c)) (sumV gX eX (35 * b + c))) k0_pay213 (5 * (t.val + 1)) := by
    rw [hr₃, hr₂, hacc, pay214_eq, show 5 * (t.val + 1) = 5 * t.val + 1 + 1 + 1 + 1 + 1 by omega]
    rfl
  by_cases hn : b < 21
  · rw [dif_pos ((cond5_iff i).mpr (by omega)), dif_pos ((cond6_iff t).mpr trivial)]
    have e : HM d gX eX qX sX b (2 * t.val) 2 2 ⊢ iprop(H1 d gX eX qX sX b (2 * t.val + 2) (2 * t.val + 6) ∗ SF d (2 * t.val + 6) (2 * t.val + 2 + 6)
        ∗ (NX d gX eX (35 * (b + 1)) (35 * (b + 1) + (2 * t.val + 2)) ∗ PN d gX eX qX sX (35 * (b + 1)) (2 * t.val + 2) ∗ BQR d qX (b + 1)) ∗ OW (d : Thread nD τ)) := by
      unfold HM HS
      rw [if_pos hn, show xs b (2 * t.val) 2 = 2 * t.val + 6 by unfold xs; rw [if_pos hn]; omega, show min (2 * t.val + 6) 35 = 2 * t.val + 6 by omega]
      iintro ⟨HZ, HR, HR', HF, HN, HP, HB, HO⟩
      isplitl [HZ]; · iexact HZ
      isplitl [HF]; · iexact HF
      isplitr [HO]
      · isplitl [HN]; · iexact HN
        isplitl [HP]; · iexact HP
        iexact HB
      iexact HO
    icases e $$ HH with ⟨HZ, HF, HK, HO⟩
    iapply (start_pair (b := b) (w := 2 * t.val + 2) (x := 2 * t.val + 6) (hi := 2 * t.val + 2 + 6) ((cond7_iff i).trans (by rw [hi])) hn (by omega) (by omega) (by omega) (by omega)
      (fun _ => ocell_eq ((k0_off30_eq t).trans (one_of (by omega)))) ((k0_off35_eq i t).trans (ooff_at (by omega) (by rw [hi]; omega) (by omega)))
      ((k0_off34_eq i t).trans (moff_at (by omega) (by rw [hi]; omega) (by omega))) ((k0_off36_eq t).trans (soff_of rfl)) (gcell_eq (k0_off33_eq t)) (ecell_eq (k0_off33_eq t))) $$ [HZ HF HO]
    · isplitl [HZ]; · iexact HZ
      isplitl [HF]; · iexact HF
      iexact HO
    iintro ⟨HZ, HF, HO⟩
    rw [dif_pos ((cond8_iff t).mpr trivial)]
    iapply (start_pair (b := b) (w := 2 * t.val + 2) (x := 2 * t.val + 7) (hi := 2 * t.val + 2 + 6) ((cond9_iff i).trans (by rw [hi])) hn (by omega) (by omega) (by omega) (by omega)
      (fun _ => ocell_eq ((k0_off37_eq t).trans (one_of (by omega)))) ((k0_off42_eq i t).trans (ooff_at (by omega) (by rw [hi]; omega) (by omega)))
      ((k0_off41_eq i t).trans (moff_at (by omega) (by rw [hi]; omega) (by omega))) ((k0_off43_eq t).trans (soff_of rfl)) (gcell_eq (k0_off40_eq t)) (ecell_eq (k0_off40_eq t))) $$ [HZ HF HO]
    · isplitl [HZ]; · iexact HZ
      isplitl [HF]; · iexact HF
      iexact HO
    iintro ⟨HZ, HF, HO⟩
    iapply wp_done
    isplitr; · ipureintro; exact hres
    isplitr [HA HC]
    · unfold HB HS
      rw [if_pos hn, show xs b (2 * (t.val + 1)) 0 = 2 * t.val + 7 + 1 by unfold xs; rw [if_pos hn]; omega, show min (2 * (t.val + 1) + 6) 35 = 2 * t.val + 7 + 1 by omega,
        show 2 * (t.val + 1) = 2 * t.val + 2 by omega]
      icases HK with ⟨HN, HP, HB⟩
      isplitl [HZ]; · iexact HZ
      isplitl [HF]; · iexact HF
      isplitl [HN]; · iexact HN
      isplitl [HP]; · iexact HP
      isplitl [HB]; · iexact HB
      iexact HO
    isplitl [HA]; · iexact HA
    iexact HC
  · rw [dif_neg (mt (cond5_iff i).mp (by omega))]
    iapply wp_done
    isplitr; · ipureintro; exact hres
    isplitr [HA HC]
    · unfold HM HB HS
      rw [if_neg hn, if_neg hn, show xs b (2 * (t.val + 1)) 0 = xs b (2 * t.val) 2 by unfold xs; rw [if_neg hn, if_neg hn]; omega, show 2 * (t.val + 1) = 2 * t.val + 2 by omega]
      icases HH with ⟨HZ, HR, HR', HF, HN, HP, HB, HO⟩
      isplitl [HZ]; · iexact HZ
      isplitl [HF]; · iexact HF
      isplitl [HN]; · iexact HN
      isplitl [HP]; · iexact HP
      isplitl [HB]; · iexact HB
      iexact HO
    isplitl [HA]; · iexact HA
    iexact HC

end PassB

end Cert.Kernel.Hand
-- ==== Proof.KernelLoop4.lean ====
/-
  The third pass over the resident batch, with the next fourteen chunks of the next one.
-/
module

public import proofs.«01_k».proof.Proof.KernelLoop3

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section PassC
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t6_trips : k0_t6_loop.trips = 7 := by decide +kernel

/-- The read the program makes of a chunk before its store. -/
theorem cn_peek {α : Type} {Q : α → sProp 𝕄} {e : EltTy} {M : Memref sig .tc .vmem S35x16x256 e} {V : ℕ → Vec F S1x16x256 e} {u : ℕ} {o : Fin 3 → ℕ} {i l}
    {k : Vec F S1x16x256 e → Prog (TpuEff nD τ sig (Elt F) Λ₀ .tc) α} (hu : u < 35) (h : o = Coff u) :
    CN d M V u ⊢ iprop((∀ v, CN d M V u -∗ WP d (k v) Q)
        -∗ WP d (.op (.load M (Rect.unit (s := S35x16x256) o S1x16x256.size i).toLoadRect l) k) Q) := by
  unfold CN
  rw [fam_head (fun c => iprop(∃ v, cPc d M c v)) hu]
  iintro ⟨H, ⟨%v, HC⟩, H'⟩ Hk
  iapply (wp_ld (M := M) (Coff_inb _) h) $$ HC
  iintro HC
  iapply Hk
  isplitl [H]; · iexact H
  isplitl [HC]; · iexists v; iexact HC
  iexact H'

/-- The store of the next chunk. -/
theorem cn_store {α : Type} {Q : α → sProp 𝕄} {e : EltTy} {M : Memref sig .tc .vmem S35x16x256 e} {V : ℕ → Vec F S1x16x256 e} {u : ℕ} {o' : Fin 3 → ℕ} {i' x y}
    {w : Vec F S1x16x256 e}
    {k : PUnit → Prog (TpuEff nD τ sig (Elt F) Λ₀ .tc) α} (hu : u < 35) (h' : o' = Coff u) (hw : w = V u) :
    CN d M V u ⊢ iprop((CN d M V (u + 1) -∗ WP d (k ⟨⟩) Q)
        -∗ WP d (.op (.store M (Rect.unit (s := S35x16x256) o' S1x16x256.size i') w Finset.univ x y) k) Q) := by
  unfold CN
  rw [fam_head (fun c => iprop(∃ v, cPc d M c v)) hu]
  iintro ⟨H, ⟨%v, HC⟩, H'⟩ Hk
  iapply (wp_st (M := M) (Coff_inb _) h') $$ HC
  iintro HC
  iapply Hk
  rw [fam_last _ (Nat.zero_le u), hw]
  isplitl [H HC]
  · isplitl [HC]; · iexact HC
    iexact H
  iexact H'

theorem part15_ok {i : grid0.Coords} {b : ℕ} (hi : (i 0).val = b) (t : Fin k0_t6_loop.trips) {arg0 c c' v1 : BitVec 32} {v6 : BitVec 1} {v851 : FVec F S16x1 .f32}
    (hq : b + 1 < 22 → v851 = QS sX (b + 1)) :
    HB d gX eX qX sX b (14 + 2 * t.val) ⊢ WP d (k0_part15 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v1 v6 v851 c c' t) (fun _ => HM d gX eX qX sX b (14 + 2 * t.val) 2 1) := by
  have ht : t.val < 7 := lt_of_lt_of_eq t.isLt t6_trips
  have hb : b < 22 := hi ▸ off102_eq' i
  simp only [k0_part15_eq_skeleton, k0_part15_skel, k0_part14_eq_skeleton, k0_part14_skel, Prog.bind_lift, Prog.bind_op, Prog.pure_eq_ret, Prog.bind_ret]
  have h₁ : k0_off51 i t 0#32 = Moff (35 * (b + 1) + (14 + 2 * t.val)) := (k0_off51_eq i t 0).trans (moff_at (by omega) (by rw [hi]; omega) (by simp; omega))
  have h₂ : k0_off52 t 0#32 = Soff (14 + 2 * t.val) := (k0_off52_eq t 0).trans (soff_of (by omega))
  have h₃ : k0_off53 t 0#32 = Coff (14 + 2 * t.val) := (k0_off53_eq t 0).trans (coff_of (by simp; omega))
  unfold HB HM HS
  by_cases hn : b < 21
  · rw [if_pos hn, if_pos hn, dif_pos ((cond10_iff i).mpr (by omega)), dif_neg (mt (cond11_iff i).mp (by omega)), show xs b (14 + 2 * t.val) 0 = (14 + 2 * t.val) + 6 by unfold xs; rw [if_pos hn]; omega,
      show xs b (14 + 2 * t.val) 2 = (14 + 2 * t.val) + 6 by unfold xs; rw [if_pos hn]; omega, show min ((14 + 2 * t.val) + 6) 35 = (14 + 2 * t.val) + 6 by omega]
    iintro ⟨HZ, HF, HN, HP, HB, HO⟩
    ihave HR := (MR_nil (d := d) (gX := gX) (35 * (b + 1) + (14 + 2 * t.val)))
    ihave HR' := (SR_nil (d := d) (eX := eX) (35 * (b + 1)) (14 + 2 * t.val))
    iapply (wait_pair (b := b) (u := (14 + 2 * t.val)) (w := (14 + 2 * t.val)) (x := (14 + 2 * t.val) + 6) (by omega) (by omega) (by omega) (by omega)
      (gcell_eq ((k0_off44_eq t 0).trans (one_of (by simp; omega)))) (ecell_eq ((k0_off44_eq t 0).trans (one_of (by simp; omega))))) $$ [HZ HR HR' HO]
    · isplitl [HZ]; · iexact HZ
      isplitl [HR]; · iexact HR
      isplitl [HR']; · iexact HR'
      iexact HO
    iintro ⟨HZ, HR, HR', HO⟩
    iapply (wait_pair (b := b) (u := (14 + 2 * t.val)) (w := (14 + 2 * t.val) + 1) (x := (14 + 2 * t.val) + 6) (by omega) (by omega) (by omega) (by omega)
      (gcell_eq ((k0_off44_eq t 1).trans (one_of (by simp; omega)))) (ecell_eq ((k0_off44_eq t 1).trans (one_of (by simp; omega))))) $$ [HZ HR HR' HO]
    · isplitl [HZ]; · iexact HZ
      isplitl [HR]; · iexact HR
      isplitl [HR']; · iexact HR'
      iexact HO
    iintro ⟨HZ, HR, HR', HO⟩
    iapply (first_product (b := b + 1) (u := (14 + 2 * t.val)) (hm := 35 * (b + 1) + ((14 + 2 * t.val) + 2)) (hs := (14 + 2 * t.val) + 2) (x := (14 + 2 * t.val) + 6) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  · obtain rfl : b = 21 := by omega
    rw [if_neg hn, if_neg hn, dif_neg (mt (cond10_iff i).mp (by omega)), dif_pos ((cond11_iff i).mpr (by omega)), show xs 21 (14 + 2 * t.val) 0 = (14 + 2 * t.val) by rfl,
      show xs 21 (14 + 2 * t.val) 2 = (14 + 2 * t.val) + 2 by rfl]
    iintro ⟨HZ, HF, HN, HP, HB, HO⟩
    ihave HM := (MF_nil (F := F) d (35 * 22 + (14 + 2 * t.val)))
    iapply (last_wait (u := (14 + 2 * t.val)) (w := (14 + 2 * t.val)) (by omega) (by omega) (ocell_eq ((k0_off48_eq t 0).trans (one_of (by simp; omega))))) $$ [HZ HM HO]
    · isplitl [HZ]; · iexact HZ
      isplitl [HM]; · iexact HM
      iexact HO
    iintro ⟨HZ, HM, HO⟩
    iapply (last_wait (u := (14 + 2 * t.val)) (w := (14 + 2 * t.val) + 1) (by omega) (by omega) (ocell_eq ((k0_off48_eq t 1).trans (one_of (by simp; omega))))) $$ [HZ HM HO]
    · isplitl [HZ]; · iexact HZ
      isplitl [HM]; · iexact HM
      iexact HO
    iintro ⟨HZ, HM, HO⟩
    ihave HR := (MF_MR (d := d) (gX := gX) (by omega : 770 ≤ 35 * 22 + (14 + 2 * t.val))) $$ HM
    icases (SF_split (F := F) d (by omega : (14 + 2 * t.val) ≤ (14 + 2 * t.val) + 2) (by omega : (14 + 2 * t.val) + 2 ≤ (14 + 2 * t.val) + 6)) $$ HF with ⟨HR', HF⟩
    ihave HR' := (SF_SR (d := d) (eX := eX) (N := 35 * (21 + 1)) (a := (14 + 2 * t.val)) (b := (14 + 2 * t.val) + 2) (by omega)) $$ HR'
    iapply (first_product (b := 21 + 1) (u := (14 + 2 * t.val)) (hm := 35 * (21 + 1) + ((14 + 2 * t.val) + 2)) (hs := (14 + 2 * t.val) + 2) (x := (14 + 2 * t.val) + 2) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO

theorem part16_ok {i : grid0.Coords} {b : ℕ} (hi : (i 0).val = b) (t : Fin k0_t6_loop.trips) {v0 v1 w₁ w₂ w₃ : BitVec 32} {v851 : FVec F S16x1 .f32} {Qv : FVec F S16x1536 .f32} (hQ : Qv = Q1 gX eX qX sX b)
    (hq : b + 1 < 22 → v851 = QS sX (b + 1)) :
    iprop(HM d gX eX qX sX b (14 + 2 * t.val) 2 1 ∗ RS d gX eX (35 * b) (35 * b + 35) ∗ CN d pbM (fun c => PB gX eX qX sX (35 * b + c)) (5 * t.val))
      ⊢ WP d (k0_part16 i gM hg eM he a3 h3 a4 h4 oM ho a6 h6 a7 h7 a8 h8 a9 h9 a10 h10 mM hm stM hst bqM hbq p1M hp1 pbM hpb poM hpo pcM hpc cc0_scratch7 cc0_scratch8 cc0_scratch9 v0 v1 v851 (k0_pay215 Qv) t w₁ w₂ w₃) (fun _ => iprop(HM d gX eX qX sX b (14 + 2 * t.val) 2 2 ∗ RS d gX eX (35 * b) (35 * b + 35) ∗ CN d pbM (fun c => PB gX eX qX sX (35 * b + c)) (5 * t.val + 1))) := by
  have ht : t.val < 7 := lt_of_lt_of_eq t.isLt t6_trips
  have hb : b < 22 := hi ▸ off102_eq' i
  simp only [k0_part16_eq_skeleton, k0_part16_skel, Prog.bind_lift, Prog.bind_op, Prog.pure_eq_ret, Prog.bind_ret]
  have h₁ : k0_off51 i t 1#32 = Moff (35 * (b + 1) + ((14 + 2 * t.val) + 1)) := (k0_off51_eq i t 1).trans (moff_at (by omega) (by rw [hi]; omega) (by simp; omega))
  have h₂ : k0_off52 t 1#32 = Soff ((14 + 2 * t.val) + 1) := (k0_off52_eq t 1).trans (soff_of (by omega))
  have h₃ : k0_off53 t 1#32 = Coff ((14 + 2 * t.val) + 1) := (k0_off53_eq t 1).trans (coff_of (by simp; omega))
  have hx : xs b (14 + 2 * t.val) 2 ≤ (14 + 2 * t.val) + 1 + 6 := by unfold xs; split <;> omega
  have hPB : ∀ r n, r < 5 → n = 35 * b + (5 * t.val + r) → k0_pay20 (k0_pay215 Qv) (sumV gX eX n) = PB gX eX qX sX n := by
    intro r n hr hn
    unfold PB
    rw [hQ, show n / 35 = b by omega]
  unfold HM
  iintro ⟨⟨HZ, HR, HR', HF, HN, HP, HB, HO⟩, HA, HC⟩
  iapply (first_product (b := b + 1) (u := (14 + 2 * t.val) + 1) (hm := 35 * (b + 1) + ((14 + 2 * t.val) + 2)) (hs := (14 + 2 * t.val) + 2) (x := xs b (14 + 2 * t.val) 2) (eX := eX) (qs := v851) (by omega) (by omega) (by omega) hx
    h₁ h₂ h₁ h₁ h₃ h₃ (fun _ _ => rfl) hq (fun _ _ _ => rfl)) $$ [HR HR' HN HP HF HB]
  · isplitl [HR]; · iexact HR
    isplitl [HR']; · iexact HR'
    isplitl [HN]; · iexact HN
    isplitl [HP]; · iexact HP
    isplitl [HF]; · iexact HF
    iexact HB
  iintro ⟨HR, HR', HN, HP, HF, HB⟩
  iapply (rs_read (n := 35 * b + 5 * t.val) (by omega) (by omega) ((k0_off54_eq i t 0).trans (moff_at (by omega) (by rw [hi]) (by simp; omega)))) $$ HA
  iintro HA
  iapply (cn_write (M := pbM) (V := fun c => PB gX eX qX sX (35 * b + c)) (u := 5 * t.val) (by omega) ((k0_off55_eq t 0).trans (coff_of (by simp; omega))) ((k0_off55_eq t 0).trans (coff_of (by simp; omega))) (hPB 0 _ (by omega) rfl)) $$ HC
  iintro HC
  iapply wp_done
  isplitr [HA HC]
  · isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  isplitl [HA]; · iexact HA
  iexact HC

theorem part17_ok {i : grid0.Coords} {b : ℕ} (hi : (i 0).val = b) (t : Fin k0_t6_loop.trips) {v0 w₁ : BitVec 32} {Qv : FVec F S16x1536 .f32} (hQ : Qv = Q1 gX eX qX sX b) :
    iprop(RS d gX eX (35 * b) (35 * b + 35) ∗ CN d pbM (fun c => PB gX eX qX sX (35 * b + c)) (5 * t.val + 1))
      ⊢ WP d (k0_part17 i gM hg eM he a3 h3 a4 h4 oM ho a6 h6 a7 h7 a8 h8 a9 h9 a10 h10 mM hm stM hst bqM hbq p1M hp1 pbM hpb poM hpo pcM hpc cc0_scratch7 cc0_scratch8 cc0_scratch9 v0 (k0_pay215 Qv) t w₁) (fun r => iprop(⌜r.1 = k0_pay23 (k0_pay215 Qv) (sumV gX eX (35 * b + (5 * t.val + 3)))⌝ ∗
        RS d gX eX (35 * b) (35 * b + 35) ∗ CN d pbM (fun c => PB gX eX qX sX (35 * b + c)) (5 * t.val + 3))) := by
  have ht : t.val < 7 := lt_of_lt_of_eq t.isLt t6_trips
  have hb : b < 22 := hi ▸ off102_eq' i
  simp only [k0_part17_eq_skeleton, k0_part17_skel, Prog.bind_lift, Prog.bind_op, Prog.pure_eq_ret, Prog.bind_ret]
  have hPB : ∀ r n, r < 5 → n = 35 * b + (5 * t.val + r) → k0_pay20 (k0_pay215 Qv) (sumV gX eX n) = PB gX eX qX sX n := by
    intro r n hr hn
    unfold PB
    rw [hQ, show n / 35 = b by omega]
  iintro ⟨HA, HC⟩
  iapply (rs_read (n := 35 * b + (5 * t.val + 1)) (by omega) (by omega) ((k0_off54_eq i t 1).trans (moff_at (by omega) (by rw [hi]) (by simp; omega)))) $$ HA
  iintro HA
  iapply (cn_write (M := pbM) (V := fun c => PB gX eX qX sX (35 * b + c)) (u := 5 * t.val + 1) (by omega) ((k0_off55_eq t 1).trans (coff_of (by simp; omega))) ((k0_off55_eq t 1).trans (coff_of (by simp; omega))) (hPB 1 _ (by omega) rfl)) $$ HC
  iintro HC
  iapply (rs_read (n := 35 * b + (5 * t.val + 2)) (by omega) (by omega) ((k0_off54_eq i t 2).trans (moff_at (by omega) (by rw [hi]) (by simp; omega)))) $$ HA
  iintro HA
  iapply (cn_write (M := pbM) (V := fun c => PB gX eX qX sX (35 * b + c)) (u := 5 * t.val + 2) (by omega) ((k0_off55_eq t 2).trans (coff_of (by simp; omega))) ((k0_off55_eq t 2).trans (coff_of (by simp; omega))) (hPB 2 _ (by omega) rfl)) $$ HC
  iintro HC
  iapply (rs_read (n := 35 * b + (5 * t.val + 3)) (by omega) (by omega) ((k0_off54_eq i t 3).trans (moff_at (by omega) (by rw [hi]) (by simp; omega)))) $$ HA
  iintro HA
  iapply (cn_peek (M := pbM) (u := 5 * t.val + 3) (by omega) ((k0_off55_eq t 3).trans (coff_of (by simp; omega)))) $$ HC
  iintro %v HC
  iapply wp_done
  isplitr; · ipureintro; rfl
  isplitl [HA]; · iexact HA
  iexact HC

variable (d gX eX qX sX) in
/-- The pass after `t` groups. -/
def T6 (b t : ℕ) : sProp 𝕄 :=
  iprop(HB d gX eX qX sX b (14 + 2 * t)
    ∗ RS d gX eX (35 * b) (35 * b + 35) ∗ CN d pbM (fun c => PB gX eX qX sX (35 * b + c)) (5 * t))

theorem t6_step {i : grid0.Coords} {b : ℕ} (hi : (i 0).val = b) {arg0 v0 v1 v7 : BitVec 32} {v6 : BitVec 1} {v825 v827 v830} {v846 : Vec F S16x22 .f32}
    {Qv : FVec F S16x1536 .f32} (hQ : Qv = Q1 gX eX qX sX b)
    (hq : b + 1 < 22 → k0_pay212 v7 v846 = QS sX (b + 1)) (t : Fin k0_t6_loop.trips) (acc : Unit) :
    T6 d gX eX qX sX b t.val ⊢ WP d (k0_t6_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 v846 Qv t acc) (fun r => T6 d gX eX qX sX b (t.val + 1)) := by
  have ht : t.val < 7 := lt_of_lt_of_eq t.isLt t6_trips
  have hb : b < 22 := hi ▸ off102_eq' i
  have hPB : ∀ r n, r < 5 → n = 35 * b + (5 * t.val + r) → k0_pay20 (k0_pay215 Qv) (sumV gX eX n) = PB gX eX qX sX n := by
    intro r n hr hn
    unfold PB
    rw [hQ, show n / 35 = b by omega]
  unfold k0_t6_body T6
  iintro ⟨HH, HA, HC⟩
  iapply (wp_part (part15_ok (v851 := k0_pay212 v7 v846) hg he ho hm hst hbq hp1 hpb hpo hpc h3 h4 h6 h7 h8 h9 h10 hi t hq)) $$ HH
  iintro %r HH
  iapply (wp_part (part16_ok (v851 := k0_pay212 v7 v846) hg he ho hm hst hbq hp1 hpb hpo hpc h3 h4 h6 h7 h8 h9 h10 hi t hQ hq)) $$ [HH HA HC]
  · isplitl [HH]; · iexact HH
    isplitl [HA]; · iexact HA
    iexact HC
  iintro %r₂ ⟨HH, HA, HC⟩
  iapply (wp_part (part17_ok hg he ho hm hst hbq hp1 hpb hpo hpc h3 h4 h6 h7 h8 h9 h10 hi t hQ)) $$ [HA HC]
  · isplitl [HA]; · iexact HA
    iexact HC
  iintro %r₃ ⟨%hr₃, HA, HC⟩
  simp only [Prog.bind_lift, Prog.bind_op, Prog.pure_eq_ret, Prog.bind_ret]
  iapply (cn_store (M := pbM) (V := fun c => PB gX eX qX sX (35 * b + c)) (u := 5 * t.val + 3) (by omega) ((k0_off55_eq t 3).trans (coff_of (by simp; omega))) (by rw [hr₃, pay216_eq]; exact hPB 3 _ (by omega) rfl)) $$ HC
  iintro HC
  iapply (rs_read (n := 35 * b + (5 * t.val + 4)) (by omega) (by omega) ((k0_off54_eq i t 4).trans (moff_at (by omega) (by rw [hi]) (by simp; omega)))) $$ HA
  iintro HA
  iapply (cn_write (M := pbM) (V := fun c => PB gX eX qX sX (35 * b + c)) (u := 5 * t.val + 4) (by omega) ((k0_off55_eq t 4).trans (coff_of (by simp; omega))) ((k0_off55_eq t 4).trans (coff_of (by simp; omega))) ((pay217_eq _ _).trans (hPB 4 _ (by omega) rfl))) $$ HC
  iintro HC
  by_cases hn : b < 21
  · rw [dif_pos ((cond12_iff i).mpr (by omega)), dif_pos ((cond13_iff t).mpr trivial)]
    have e : HM d gX eX qX sX b (14 + 2 * t.val) 2 2 ⊢ iprop(H1 d gX eX qX sX b ((14 + 2 * t.val) + 2) ((14 + 2 * t.val) + 6) ∗ SF d ((14 + 2 * t.val) + 6) ((14 + 2 * t.val) + 2 + 6)
        ∗ (NX d gX eX (35 * (b + 1)) (35 * (b + 1) + ((14 + 2 * t.val) + 2)) ∗ PN d gX eX qX sX (35 * (b + 1)) ((14 + 2 * t.val) + 2) ∗ BQR d qX (b + 1)) ∗ OW (d : Thread nD τ)) := by
      unfold HM HS
      rw [if_pos hn, show xs b (14 + 2 * t.val) 2 = (14 + 2 * t.val) + 6 by unfold xs; rw [if_pos hn]; omega, show min ((14 + 2 * t.val) + 6) 35 = (14 + 2 * t.val) + 6 by omega]
      iintro ⟨HZ, HR, HR', HF, HN, HP, HB, HO⟩
      isplitl [HZ]; · iexact HZ
      isplitl [HF]; · iexact HF
      isplitr [HO]
      · isplitl [HN]; · iexact HN
        isplitl [HP]; · iexact HP
        iexact HB
      iexact HO
    icases e $$ HH with ⟨HZ, HF, HK, HO⟩
    iapply (start_pair (b := b) (w := (14 + 2 * t.val) + 2) (x := (14 + 2 * t.val) + 6) (hi := (14 + 2 * t.val) + 2 + 6) ((cond14_iff i).trans (by rw [hi])) hn (by omega) (by omega) (by omega) (by omega)
      (fun _ => ocell_eq ((k0_off56_eq t).trans (one_of (by omega)))) ((k0_off61_eq i t).trans (ooff_at (by omega) (by rw [hi]; omega) (by omega)))
      ((k0_off60_eq i t).trans (moff_at (by omega) (by rw [hi]; omega) (by omega))) ((k0_off62_eq t).trans (soff_of (by omega))) (gcell_eq ((k0_off59_eq t).trans (one_of (by omega)))) (ecell_eq ((k0_off59_eq t).trans (one_of (by omega))))) $$ [HZ HF HO]
    · isplitl [HZ]; · iexact HZ
      isplitl [HF]; · iexact HF
      iexact HO
    iintro ⟨HZ, HF, HO⟩
    rw [dif_pos ((cond15_iff t).mpr trivial)]
    iapply (start_pair (b := b) (w := (14 + 2 * t.val) + 2) (x := (14 + 2 * t.val) + 7) (hi := (14 + 2 * t.val) + 2 + 6) ((cond16_iff i).trans (by rw [hi])) hn (by omega) (by omega) (by omega) (by omega)
      (fun _ => ocell_eq ((k0_off63_eq t).trans (one_of (by omega)))) ((k0_off68_eq i t).trans (ooff_at (by omega) (by rw [hi]; omega) (by omega)))
      ((k0_off67_eq i t).trans (moff_at (by omega) (by rw [hi]; omega) (by omega))) ((k0_off69_eq t).trans (soff_of (by omega))) (gcell_eq ((k0_off66_eq t).trans (one_of (by omega)))) (ecell_eq ((k0_off66_eq t).trans (one_of (by omega))))) $$ [HZ HF HO]
    · isplitl [HZ]; · iexact HZ
      isplitl [HF]; · iexact HF
      iexact HO
    iintro ⟨HZ, HF, HO⟩
    iapply wp_done
    isplitr [HA HC]
    · unfold HB HS
      rw [if_pos hn, show xs b (14 + 2 * (t.val + 1)) 0 = (14 + 2 * t.val) + 7 + 1 by unfold xs; rw [if_pos hn]; omega, show min ((14 + 2 * (t.val + 1)) + 6) 35 = (14 + 2 * t.val) + 7 + 1 by omega,
        show (14 + 2 * (t.val + 1)) = (14 + 2 * t.val) + 2 by omega]
      icases HK with ⟨HN, HP, HB⟩
      isplitl [HZ]; · iexact HZ
      isplitl [HF]; · iexact HF
      isplitl [HN]; · iexact HN
      isplitl [HP]; · iexact HP
      isplitl [HB]; · iexact HB
      iexact HO
    isplitl [HA]; · iexact HA
    rw [show 5 * (t.val + 1) = 5 * t.val + 4 + 1 by omega]; iexact HC
  · rw [dif_neg (mt (cond12_iff i).mp (by omega))]
    iapply wp_done
    isplitr [HA HC]
    · unfold HM HB HS
      rw [if_neg hn, if_neg hn, show xs b (14 + 2 * (t.val + 1)) 0 = xs b (14 + 2 * t.val) 2 by unfold xs; rw [if_neg hn, if_neg hn]; omega, show (14 + 2 * (t.val + 1)) = (14 + 2 * t.val) + 2 by omega]
      icases HH with ⟨HZ, HR, HR', HF, HN, HP, HB, HO⟩
      isplitl [HZ]; · iexact HZ
      isplitl [HF]; · iexact HF
      isplitl [HN]; · iexact HN
      isplitl [HP]; · iexact HP
      isplitl [HB]; · iexact HB
      iexact HO
    isplitl [HA]; · iexact HA
    rw [show 5 * (t.val + 1) = 5 * t.val + 4 + 1 by omega]; iexact HC

end PassC

end Cert.Kernel.Hand
-- ==== Proof.KernelLoop5.lean ====
/-
  The fourth pass over the resident batch, with the last seven chunks of the next one.
-/
module

public import proofs.«01_k».proof.Proof.KernelLoop4

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section PassD
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t10_trips : k0_t10_loop.trips = 7 := by decide +kernel

theorem part18_ok {i : grid0.Coords} {b : ℕ} (hi : (i 0).val = b) (t : Fin k0_t10_loop.trips) {arg0 c c' v1 : BitVec 32} {v6 : BitVec 1} {v851 : FVec F S16x1 .f32}
    (hq : b + 1 < 22 → v851 = QS sX (b + 1)) :
    HB d gX eX qX sX b (28 + t.val) ⊢ WP d (k0_part18 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v1 v6 v851 c c' t) (fun _ => HM d gX eX qX sX b (28 + t.val) 1 1) := by
  have ht : t.val < 7 := lt_of_lt_of_eq t.isLt t10_trips
  have hb : b < 22 := hi ▸ off102_eq' i
  simp only [k0_part18_eq_skeleton, k0_part18_skel, Prog.bind_lift, Prog.bind_op, Prog.pure_eq_ret, Prog.bind_ret]
  have h₁ : k0_off81 i t = Moff (35 * (b + 1) + (28 + t.val)) := (k0_off81_eq i t).trans (moff_at (by omega) (by rw [hi]; omega) (by omega))
  have h₂ : k0_off82 t = Soff (28 + t.val) := (k0_off82_eq t).trans (soff_of (by omega))
  have h₃ : k0_off83 t = Coff (28 + t.val) := (k0_off83_eq t).trans (coff_of (by omega))
  unfold HB HM HS
  by_cases hn : b < 21
  · rw [if_pos hn, if_pos hn, dif_pos ((cond17_iff i).mpr (by omega)), dif_neg (mt (cond18_iff i).mp (by omega)), show xs b (28 + t.val) 0 = min (28 + t.val + 6) 35 by unfold xs; rw [if_pos hn],
      show xs b (28 + t.val) 1 = min (28 + t.val + 6) 35 by unfold xs; rw [if_pos hn]]
    iintro ⟨HZ, HF, HN, HP, HB, HO⟩
    ihave HR := (MR_nil (d := d) (gX := gX) (35 * (b + 1) + (28 + t.val)))
    ihave HR' := (SR_nil (d := d) (eX := eX) (35 * (b + 1)) (28 + t.val))
    iapply (wait_pair (b := b) (u := (28 + t.val)) (w := (28 + t.val)) (x := min (28 + t.val + 6) 35) (by omega) (by omega) (by omega) (by omega)
      (gcell_eq ((k0_off74_eq t).trans (one_of (by omega)))) (ecell_eq ((k0_off74_eq t).trans (one_of (by omega))))) $$ [HZ HR HR' HO]
    · isplitl [HZ]; · iexact HZ
      isplitl [HR]; · iexact HR
      isplitl [HR']; · iexact HR'
      iexact HO
    iintro ⟨HZ, HR, HR', HO⟩
    iapply (first_product (b := b + 1) (u := (28 + t.val)) (hm := 35 * (b + 1) + ((28 + t.val) + 1)) (hs := (28 + t.val) + 1) (x := min (28 + t.val + 6) 35) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  · obtain rfl : b = 21 := by omega
    rw [if_neg hn, if_neg hn, dif_neg (mt (cond17_iff i).mp (by omega)), dif_pos ((cond18_iff i).mpr (by omega)), show xs 21 (28 + t.val) 0 = (28 + t.val) by rfl,
      show xs 21 (28 + t.val) 1 = (28 + t.val) + 1 by rfl]
    iintro ⟨HZ, HF, HN, HP, HB, HO⟩
    ihave HM := (MF_nil (F := F) d (35 * 22 + (28 + t.val)))
    iapply (last_wait (u := (28 + t.val)) (w := (28 + t.val)) (by omega) (by omega) (ocell_eq ((k0_off78_eq t).trans (one_of (by omega))))) $$ [HZ HM HO]
    · isplitl [HZ]; · iexact HZ
      isplitl [HM]; · iexact HM
      iexact HO
    iintro ⟨HZ, HM, HO⟩
    ihave HR := (MF_MR (d := d) (gX := gX) (by omega : 770 ≤ 35 * 22 + (28 + t.val))) $$ HM
    icases (SF_split (F := F) d (by omega : (28 + t.val) ≤ (28 + t.val) + 1) (by omega : (28 + t.val) + 1 ≤ (28 + t.val) + 6)) $$ HF with ⟨HR', HF⟩
    ihave HR' := (SF_SR (d := d) (eX := eX) (N := 35 * (21 + 1)) (a := (28 + t.val)) (b := (28 + t.val) + 1) (by omega)) $$ HR'
    iapply (first_product (b := 21 + 1) (u := (28 + t.val)) (hm := 35 * (21 + 1) + ((28 + t.val) + 1)) (hs := (28 + t.val) + 1) (x := (28 + t.val) + 1) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO

theorem part19_ok {i : grid0.Coords} {b : ℕ} (hi : (i 0).val = b) (t : Fin k0_t10_loop.trips) {v0 w₁ w₂ w₃ : BitVec 32} {acc : FVec F S16x1536 .f32} :
    iprop(RS d gX eX (35 * b) (35 * b + 35) ∗ CN d pcM (fun c => PCF gX eX qX sX (35 * b + c)) 35)
      ⊢ WP d (k0_part19 i gM hg eM he a3 h3 a4 h4 oM ho a6 h6 a7 h7 a8 h8 a9 h9 a10 h10 mM hm stM hst bqM hbq p1M hp1 pbM hpb poM hpo pcM hpc cc0_scratch7 cc0_scratch8 cc0_scratch9 v0 t acc w₁ w₂ w₃) (fun r => iprop(⌜r.1 = (k0_pay12 (k0_pay12 (k0_pay12 acc (PCF gX eX qX sX (35 * b + 5 * t.val)) (sumV gX eX (35 * b + 5 * t.val))) (PCF gX eX qX sX (35 * b + (5 * t.val + 1))) (sumV gX eX (35 * b + (5 * t.val + 1)))) (PCF gX eX qX sX (35 * b + (5 * t.val + 2))) (sumV gX eX (35 * b + (5 * t.val + 2))))⌝ ∗
        RS d gX eX (35 * b) (35 * b + 35) ∗ CN d pcM (fun c => PCF gX eX qX sX (35 * b + c)) 35)) := by
  have ht : t.val < 7 := lt_of_lt_of_eq t.isLt t10_trips
  have hb : b < 22 := hi ▸ off102_eq' i
  simp only [k0_part19_eq_skeleton, k0_part19_skel, Prog.bind_lift, Prog.bind_op, Prog.pure_eq_ret, Prog.bind_ret]
  iintro ⟨HA, HC⟩
  iapply (cn_read (M := pcM) (c := 5 * t.val) (by omega) ((k0_off84_eq t 0).trans (coff_of (by simp; omega)))) $$ HC
  iintro HC
  iapply (rs_read (n := 35 * b + 5 * t.val) (by omega) (by omega) ((k0_off85_eq i t 0).trans (moff_at (by omega) (by rw [hi]) (by simp; omega)))) $$ HA
  iintro HA
  iapply (cn_read (M := pcM) (c := (5 * t.val + 1)) (by omega) ((k0_off84_eq t 1).trans (coff_of (by simp; omega)))) $$ HC
  iintro HC
  iapply (rs_read (n := 35 * b + (5 * t.val + 1)) (by omega) (by omega) ((k0_off85_eq i t 1).trans (moff_at (by omega) (by rw [hi]) (by simp; omega)))) $$ HA
  iintro HA
  iapply (cn_read (M := pcM) (c := (5 * t.val + 2)) (by omega) ((k0_off84_eq t 2).trans (coff_of (by simp; omega)))) $$ HC
  iintro HC
  iapply (rs_read (n := 35 * b + (5 * t.val + 2)) (by omega) (by omega) ((k0_off85_eq i t 2).trans (moff_at (by omega) (by rw [hi]) (by simp; omega)))) $$ HA
  iintro HA
  iapply wp_done
  isplitr; · ipureintro; exact pay27_eq _ _ _ _ _ _ _
  isplitl [HA]; · iexact HA
  iexact HC

variable (d gX eX qX sX) in
/-- The pass after `t` groups. -/
def T10 (b t : ℕ) (acc : FVec F S16x1536 .f32) : sProp 𝕄 :=
  iprop(⌜acc = foldN (fun c a => k0_pay12 a (PCF gX eX qX sX (35 * b + c)) (sumV gX eX (35 * b + c))) k0_pay415 (5 * t)⌝ ∗ HB d gX eX qX sX b (28 + t)
    ∗ RS d gX eX (35 * b) (35 * b + 35) ∗ CN d pcM (fun c => PCF gX eX qX sX (35 * b + c)) 35)

theorem t10_step {i : grid0.Coords} {b : ℕ} (hi : (i 0).val = b) {arg0 v0 v1 c : BitVec 32} {v6 : BitVec 1} {v851 v1693 : FVec F S16x1 .f32} {v1695}
    (hq : b + 1 < 22 → v851 = QS sX (b + 1)) (t : Fin k0_t10_loop.trips) (acc : FVec F S16x1536 .f32) :
    T10 d gX eX qX sX b t.val acc ⊢ WP d (k0_t10_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v851 v1693 v1695 c t acc) (fun r => T10 d gX eX qX sX b (t.val + 1) r) := by
  have ht : t.val < 7 := lt_of_lt_of_eq t.isLt t10_trips
  have hb : b < 22 := hi ▸ off102_eq' i
  unfold k0_t10_body T10
  iintro ⟨%hacc, HH, HA, HC⟩
  iapply (wp_part (part18_ok hg he ho hm hst hbq hp1 hpb hpo hpc h3 h4 h6 h7 h8 h9 h10 hi t hq)) $$ HH
  iintro %r HH
  iapply (wp_part (part19_ok hg he ho hm hst hbq hp1 hpb hpo hpc h3 h4 h6 h7 h8 h9 h10 hi t)) $$ [HA HC]
  · isplitl [HA]; · iexact HA
    iexact HC
  iintro %r₃ ⟨%hr₃, HA, HC⟩
  simp only [Prog.bind_lift, Prog.bind_op, Prog.pure_eq_ret, Prog.bind_ret]
  iapply (cn_read (M := pcM) (c := (5 * t.val + 3)) (by omega) ((k0_off84_eq t 3).trans (coff_of (by simp; omega)))) $$ HC
  iintro HC
  iapply (rs_read (n := 35 * b + (5 * t.val + 3)) (by omega) (by omega) ((k0_off85_eq i t 3).trans (moff_at (by omega) (by rw [hi]) (by simp; omega)))) $$ HA
  iintro HA
  iapply (cn_read (M := pcM) (c := (5 * t.val + 4)) (by omega) ((k0_off84_eq t 4).trans (coff_of (by simp; omega)))) $$ HC
  iintro HC
  iapply (rs_read (n := 35 * b + (5 * t.val + 4)) (by omega) (by omega) ((k0_off85_eq i t 4).trans (moff_at (by omega) (by rw [hi]) (by simp; omega)))) $$ HA
  iintro HA
  have hres : k0_pay416 r₃.1 (PCF gX eX qX sX (35 * b + (5 * t.val + 3))) (sumV gX eX (35 * b + (5 * t.val + 3))) (PCF gX eX qX sX (35 * b + (5 * t.val + 4))) (sumV gX eX (35 * b + (5 * t.val + 4)))
      = foldN (fun c a => k0_pay12 a (PCF gX eX qX sX (35 * b + c)) (sumV gX eX (35 * b + c))) k0_pay415 (5 * (t.val + 1)) := by
    rw [hr₃, hacc, pay416_eq, show 5 * (t.val + 1) = 5 * t.val + 1 + 1 + 1 + 1 + 1 by omega]
    rfl
  have e : HM d gX eX qX sX b (28 + t.val) 1 1 ⊢ iprop(HS d gX eX qX sX b (28 + t.val) (28 + t.val + 1) ∗ SF d (xs b (28 + t.val) 1) (28 + t.val + 1 + 6)
      ∗ (NX d gX eX (35 * (b + 1)) (35 * (b + 1) + (28 + t.val + 1)) ∗ PN d gX eX qX sX (35 * (b + 1)) (28 + t.val + 1) ∗ BQR d qX (b + 1)) ∗ OW (d : Thread nD τ)) := by
    unfold HM
    iintro ⟨HZ, HR, HR', HF, HN, HP, HB, HO⟩
    isplitl [HZ]; · iexact HZ
    isplitl [HF]; · iexact HF
    isplitr [HO]
    · isplitl [HN]; · iexact HN
      isplitl [HP]; · iexact HP
      iexact HB
    iexact HO
  have fin : ∀ x, x = xs b (28 + (t.val + 1)) 0 → iprop(HS d gX eX qX sX b (28 + (t.val + 1)) (28 + (t.val + 1)) ∗ SF d x (28 + t.val + 1 + 6)
      ∗ (NX d gX eX (35 * (b + 1)) (35 * (b + 1) + (28 + t.val + 1)) ∗ PN d gX eX qX sX (35 * (b + 1)) (28 + t.val + 1) ∗ BQR d qX (b + 1)) ∗ OW (d : Thread nD τ))
      ⊢ HB d gX eX qX sX b (28 + (t.val + 1)) := by
    intro x hx
    unfold HB
    rw [← hx, show 28 + t.val + 1 = 28 + (t.val + 1) by omega]
    iintro ⟨HZ, HF, ⟨HN, HP, HB⟩, HO⟩
    isplitl [HZ]; · iexact HZ
    isplitl [HF]; · iexact HF
    isplitl [HN]; · iexact HN
    isplitl [HP]; · iexact HP
    isplitl [HB]; · iexact HB
    iexact HO
  icases e $$ HH with ⟨HZ, HF, HK, HO⟩
  by_cases hn : b < 21
  · rw [dif_pos ((cond19_iff i).mpr (by omega))]
    by_cases h0 : t.val = 0
    · rw [dif_pos ((cond20_iff t).mpr h0)]
      have e₁ : HS d gX eX qX sX b (28 + t.val) (28 + t.val + 1) = H1 d gX eX qX sX b (28 + t.val + 1) 34 := by
        unfold HS; rw [if_pos hn, h0] <;> rfl
      have e₂ : xs b (28 + t.val) 1 = 34 := by unfold xs; rw [if_pos hn, h0] <;> rfl
      have e₃ : H1 d gX eX qX sX b (28 + t.val + 1) (34 + 1) = HS d gX eX qX sX b (28 + (t.val + 1)) (28 + (t.val + 1)) := by
        unfold HS; rw [if_pos hn, h0] <;> rfl
      ihave HZ := (eqE e₁) $$ HZ
      rw [e₂]
      iapply (start_pair (b := b) (w := 28 + t.val + 1) (x := 34) (hi := 28 + t.val + 1 + 6) ((cond21_iff i).trans (by rw [hi])) hn (by omega) (by omega) (by omega) (by omega)
        (fun _ => ocell_eq ((k0_off86_eq t).trans (one_of (by omega)))) ((k0_off91_eq i t).trans (ooff_at (by omega) (by rw [hi]; omega) (by omega)))
        ((k0_off90_eq i t).trans (moff_at (by omega) (by rw [hi]; omega) (by omega))) ((k0_off92_eq t).trans (soff_of (by omega)))
        (gcell_eq ((k0_off89_eq t).trans (one_of (by omega)))) (ecell_eq ((k0_off89_eq t).trans (one_of (by omega))))) $$ [HZ HF HO]
      · isplitl [HZ]; · iexact HZ
        isplitl [HF]; · iexact HF
        iexact HO
      iintro ⟨HZ, HF, HO⟩
      ihave HZ := (eqE e₃) $$ HZ
      iapply wp_done
      isplitr; · ipureintro; exact hres
      isplitr [HA HC]
      · iapply (fin (34 + 1) (by unfold xs; rw [if_pos hn, h0] <;> rfl))
        isplitl [HZ]; · iexact HZ
        isplitl [HF]; · iexact HF
        isplitl [HK]; · iexact HK
        iexact HO
      isplitl [HA]; · iexact HA
      iexact HC
    · rw [dif_neg (mt (cond20_iff t).mp h0)]
      have e₁ : HS d gX eX qX sX b (28 + t.val) (28 + t.val + 1) = HS d gX eX qX sX b (28 + (t.val + 1)) (28 + (t.val + 1)) := by
        unfold HS; rw [if_pos hn, if_pos hn, show min (28 + t.val + 6) 35 = min (28 + (t.val + 1) + 6) 35 by omega, show 28 + t.val + 1 = 28 + (t.val + 1) by omega]
      ihave HZ := (eqE e₁) $$ HZ
      iapply wp_done
      isplitr; · ipureintro; exact hres
      isplitr [HA HC]
      · iapply (fin (xs b (28 + t.val) 1) (by unfold xs; rw [if_pos hn, if_pos hn]; omega))
        isplitl [HZ]; · iexact HZ
        isplitl [HF]; · iexact HF
        isplitl [HK]; · iexact HK
        iexact HO
      isplitl [HA]; · iexact HA
      iexact HC
  · rw [dif_neg (mt (cond19_iff i).mp (by omega))]
    have e₁ : HS d gX eX qX sX b (28 + t.val) (28 + t.val + 1) = HS d gX eX qX sX b (28 + (t.val + 1)) (28 + (t.val + 1)) := by
      unfold HS; rw [if_neg hn, if_neg hn, show 28 + t.val + 1 = 28 + (t.val + 1) by omega]
    ihave HZ := (eqE e₁) $$ HZ
    iapply wp_done
    isplitr; · ipureintro; exact hres
    isplitr [HA HC]
    · iapply (fin (xs b (28 + t.val) 1) (by unfold xs; rw [if_neg hn, if_neg hn]; omega))
      isplitl [HZ]; · iexact HZ
      isplitl [HF]; · iexact HF
      isplitl [HK]; · iexact HK
      iexact HO
    isplitl [HA]; · iexact HA
    iexact HC

end PassD

end Cert.Kernel.Hand
-- ==== Proof.KernelLoop6.lean ====
/-
  The loops over chunks alone: the export of the first product, the Gram matrices, the orthogonal factors and the codes.
-/
module

public import proofs.«01_k».proof.Proof.KernelLoop5

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Window
variable (d : Dev nD)

/-- Chunk `c` of a window of a product. -/
abbrev Loff (c : ℕ) : Fin 3 → ℕ := ![0, 0, 256 * (c % 35)]
theorem Loff_inb (c : ℕ) : ∀ a, Loff c a + S1x16x256.size a ≤ S1x16x8960.size a := by
  intro a; fin_cases a <;> simp [Loff]; omega
abbrev lPc {e : EltTy} (M : Memref sig .tc .vmem S1x16x8960 e) (c : ℕ) (v : Vec F S1x16x256 e) : sProp 𝕄 :=
  owns (d : Thread nD τ) (pc M (Loff c) S1x16x256.size (Loff_inb c)) fullShare v
/-- A window, its chunks below `u` known. -/
def WN {e : EltTy} (M : Memref sig .tc .vmem S1x16x8960 e) (V : ℕ → Vec F S1x16x256 e) (u : ℕ) : sProp 𝕄 :=
  iprop(fam (fun c => lPc d M c (V c)) 0 u ∗ fam (fun c => iprop(∃ v, lPc d M c v)) u 35)

theorem loff_of {a c : ℕ} (hc : c < 35) (h : a = 256 * c) : (![0, 0, a] : Fin 3 → ℕ) = Loff c := by
  subst h; unfold Loff; rw [Nat.mod_eq_of_lt hc]

end Window

section Chunks
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem wn_write {α : Type} {Q : α → sProp 𝕄} {e : EltTy} {M : Memref sig .tc .vmem S1x16x8960 e} {V : ℕ → Vec F S1x16x256 e} {u : ℕ} {o o' : Fin 3 → ℕ} {i i' l x y}
    {w : Vec F S1x16x256 e}
    {k : PUnit → Prog (TpuEff nD τ sig (Elt F) Λ₀ .tc) α} (hu : u < 35) (h : o = Loff u) (h' : o' = Loff u) (hw : w = V u) :
    WN d M V u ⊢ iprop((WN d M V (u + 1) -∗ WP d (k ⟨⟩) Q)
        -∗ WP d (.op (.load M (Rect.unit (s := S1x16x8960) o S1x16x256.size i).toLoadRect l) fun _ =>
          .op (.store M (Rect.unit (s := S1x16x8960) o' S1x16x256.size i') w Finset.univ x y) k) Q) := by
  unfold WN
  rw [fam_head (fun c => iprop(∃ v, lPc d M c v)) hu]
  iintro ⟨H, ⟨%v, HC⟩, H'⟩ Hk
  iapply (wp_ld (M := M) (Loff_inb _) h) $$ HC
  iintro HC
  iapply (wp_st (M := M) (Loff_inb _) h') $$ HC
  iintro HC
  iapply Hk
  rw [fam_last _ (Nat.zero_le u), hw]
  isplitl [H HC]
  · isplitl [HC]; · iexact HC
    iexact H
  iexact H'

theorem t2_trips : k0_t2_loop.trips = 35 := by decide +kernel
theorem t3_trips : k0_t3_loop.trips = 35 := by decide +kernel
theorem t4_trips : k0_t4_loop.trips = 35 := by decide +kernel
theorem t7_trips : k0_t7_loop.trips = 35 := by decide +kernel
theorem t8_trips : k0_t8_loop.trips = 35 := by decide +kernel
theorem t9_trips : k0_t9_loop.trips = 35 := by decide +kernel

variable (d gX eX qX sX) in
abbrev CP1 (b : ℕ) : sProp 𝕄 := CN d p1M (fun c => P1 gX eX qX sX (35 * b + c)) 35

theorem t2_step {i : grid0.Coords} {b : ℕ} (t : Fin k0_t2_loop.trips) (acc : Unit) :
    iprop(CP1 d gX eX qX sX b ∗ WN d a6 (fun c => k0_pay28 (P1 gX eX qX sX (35 * b + c))) t.val)
      ⊢ WP d (k0_t2_body i gM hg eM he a3 h3 a4 h4 oM ho a6 h6 a7 h7 a8 h8 a9 h9 a10 h10 mM hm stM hst bqM hbq p1M hp1 pbM hpb poM hpo pcM hpc cc0_scratch7 cc0_scratch8 cc0_scratch9 t acc) (fun _ => iprop(CP1 d gX eX qX sX b ∗ WN d a6 (fun c => k0_pay28 (P1 gX eX qX sX (35 * b + c))) (t.val + 1))) := by
  have ht : t.val < 35 := lt_of_lt_of_eq t.isLt t2_trips
  simp only [k0_t2_body, Prog.bind_lift, Prog.bind_op, Prog.pure_eq_ret, Prog.bind_ret]
  iintro ⟨HC, HW⟩
  iapply (cn_read (M := p1M) (c := t.val) ht ((k0_off14_eq t).trans (coff_of (by omega)))) $$ HC
  iintro HC
  iapply (wn_write (M := a6) (V := fun c => k0_pay28 (P1 gX eX qX sX (35 * b + c))) (u := t.val) ht ((k0_off15_eq t).trans (loff_of ht rfl)) ((k0_off15_eq t).trans (loff_of ht rfl)) rfl) $$ HW
  iintro HW
  iapply wp_done
  isplitl [HC]; · iexact HC
  iexact HW

theorem t3_step {i : grid0.Coords} {b : ℕ} (t : Fin k0_t3_loop.trips) (acc : FVec F S16x16 .f32) :
    iprop(⌜acc = foldN (fun c a => k0_pay30 a (P1 gX eX qX sX (35 * b + c))) k0_pay29 t.val⌝ ∗ CP1 d gX eX qX sX b)
      ⊢ WP d (k0_t3_body i gM hg eM he a3 h3 a4 h4 oM ho a6 h6 a7 h7 a8 h8 a9 h9 a10 h10 mM hm stM hst bqM hbq p1M hp1 pbM hpb poM hpo pcM hpc cc0_scratch7 cc0_scratch8 cc0_scratch9 t acc) (fun r => iprop(⌜r = foldN (fun c a => k0_pay30 a (P1 gX eX qX sX (35 * b + c))) k0_pay29 (t.val + 1)⌝ ∗ CP1 d gX eX qX sX b)) := by
  have ht : t.val < 35 := lt_of_lt_of_eq t.isLt t3_trips
  simp only [k0_t3_body, Prog.bind_lift, Prog.bind_op, Prog.pure_eq_ret, Prog.bind_ret]
  iintro ⟨%hacc, HC⟩
  iapply (cn_read (M := p1M) (c := t.val) ht ((k0_off16_eq t).trans (coff_of (by omega)))) $$ HC
  iintro HC
  iapply wp_done
  isplitr; · ipureintro; rw [hacc]; rfl
  iexact HC

theorem t4_step {i : grid0.Coords} {b : ℕ} {v0 v1 v7 arg0 : BitVec 32} {v6 : BitVec 1} {v825 v827 v830} (hv : (v825, v827, v830) = ch1 (G1 gX eX qX sX b))
    (t : Fin k0_t4_loop.trips) (acc : Unit) :
    iprop(CP1 d gX eX qX sX b ∗ CN d poM (fun c => PO gX eX qX sX (35 * b + c)) t.val)
      ⊢ WP d (k0_t4_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 t acc) (fun _ => iprop(CP1 d gX eX qX sX b ∗ CN d poM (fun c => PO gX eX qX sX (35 * b + c)) (t.val + 1))) := by
  have ht : t.val < 35 := lt_of_lt_of_eq t.isLt t4_trips
  simp only [k0_t4_body, Prog.bind_lift, Prog.bind_op, Prog.pure_eq_ret, Prog.bind_ret]
  iintro ⟨HC, HW⟩
  iapply (cn_read (M := p1M) (c := t.val) ht ((k0_off17_eq t).trans (coff_of (by omega)))) $$ HC
  iintro HC
  iapply (cn_write (M := poM) (V := fun c => PO gX eX qX sX (35 * b + c)) (u := t.val) ht ((k0_off17_eq t).trans (coff_of (by omega))) ((k0_off17_eq t).trans (coff_of (by omega)))
    (by unfold PO; rw [show (35 * b + t.val) / 35 = b by omega, ← hv])) $$ HW
  iintro HW
  iapply wp_done
  isplitl [HC]; · iexact HC
  iexact HW

theorem t7_step {i : grid0.Coords} {b : ℕ} {v0 v1 v7 arg0 : BitVec 32} {v6 : BitVec 1} {v825 v827 v830} (t : Fin k0_t7_loop.trips) (acc : FVec F S16x16 .f32) :
    iprop(⌜acc = foldN (fun c a => k0_pay219 a (PB gX eX qX sX (35 * b + c))) k0_pay218 t.val⌝ ∗ CN d pbM (fun c => PB gX eX qX sX (35 * b + c)) 35)
      ⊢ WP d (k0_t7_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 t acc)
        (fun r => iprop(⌜r = foldN (fun c a => k0_pay219 a (PB gX eX qX sX (35 * b + c))) k0_pay218 (t.val + 1)⌝ ∗ CN d pbM (fun c => PB gX eX qX sX (35 * b + c)) 35)) := by
  have ht : t.val < 35 := lt_of_lt_of_eq t.isLt t7_trips
  simp only [k0_t7_body, Prog.bind_lift, Prog.bind_op, Prog.pure_eq_ret, Prog.bind_ret]
  iintro ⟨%hacc, HC⟩
  iapply (cn_read (M := pbM) (c := t.val) ht ((k0_off70_eq t).trans (coff_of (by omega)))) $$ HC
  iintro HC
  iapply wp_done
  isplitr; · ipureintro; rw [hacc]; rfl
  iexact HC

variable (d gX eX qX sX) in
/-- The third product, its first `t` chunks replaced by those of the orthogonal factor. -/
def C8 (b t : ℕ) : sProp 𝕄 :=
  iprop(fam (fun c => cPc d pbM c (PX gX eX qX sX (35 * b + c))) 0 t ∗ fam (fun c => cPc d pbM c (PB gX eX qX sX (35 * b + c))) t 35)

theorem t8_step {i : grid0.Coords} {b : ℕ} {v860} (h860 : v860 = io) {v1633 v1641 v1649 v1651 v1653 v1654}
    (hv : (v1633, v1641, v1649, v1651, v1653, v1654) = C2 gX eX qX sX b)
    (t : Fin k0_t8_loop.trips) (acc : FVec F S16x256 .f32) :
    iprop(⌜acc = foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 t.val⌝ ∗ C8 d gX eX qX sX b t.val)
      ⊢ WP d (k0_t8_body i gM hg eM he a3 h3 a4 h4 oM ho a6 h6 a7 h7 a8 h8 a9 h9 a10 h10 mM hm stM hst bqM hbq p1M hp1 pbM hpb poM hpo pcM hpc cc0_scratch7 cc0_scratch8 cc0_scratch9 v860 v1633 v1641 v1649 v1651 v1653 v1654 t acc)
        (fun r => iprop(⌜r = foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 (t.val + 1)⌝ ∗ C8 d gX eX qX sX b (t.val + 1))) := by
  have ht : t.val < 35 := lt_of_lt_of_eq t.isLt t8_trips
  simp only [k0_t8_body, Prog.bind_lift, Prog.bind_op, Prog.pure_eq_ret, Prog.bind_ret]
  unfold C8
  rw [fam_head (fun c => cPc d pbM c (PB gX eX qX sX (35 * b + c))) ht]
  iintro ⟨%hacc, HA, HC, HB⟩
  have hoff : k0_off71 t = Coff t.val := (k0_off71_eq t).trans (coff_of (by omega))
  iapply (wp_ld (M := pbM) (Coff_inb _) hoff) $$ HC
  iintro HC
  iapply (wp_ld (M := pbM) (Coff_inb _) hoff) $$ HC
  iintro HC
  iapply (wp_st (M := pbM) (Coff_inb _) hoff) $$ HC
  iintro HC
  iapply wp_done
  isplitr
  · ipureintro; rw [hacc, ← hv, h860]; rfl
  rw [fam_last _ (Nat.zero_le t.val)]
  isplitl [HC HA]
  · isplitl [HC]
    · unfold PX; rw [show (35 * b + t.val) / 35 = b by omega, ← hv, h860]; iexact HC
    iexact HA
  iexact HB

theorem t9_step {i : grid0.Coords} {b : ℕ} {v860 v1633 v1641 v1649 v1651 v1653 v1654} {v1685} (hM : v1685 = MX gX eX qX sX b)
    (t : Fin k0_t9_loop.trips) (acc : Unit) :
    iprop(CN d pbM (fun c => PX gX eX qX sX (35 * b + c)) 35 ∗ CN d pcM (fun c => PCF gX eX qX sX (35 * b + c)) t.val ∗ WN d a7 (fun c => PCI gX eX qX sX (35 * b + c)) t.val)
      ⊢ WP d (k0_t9_body i gM hg eM he a3 h3 a4 h4 oM ho a6 h6 a7 h7 a8 h8 a9 h9 a10 h10 mM hm stM hst bqM hbq p1M hp1 pbM hpb poM hpo pcM hpc cc0_scratch7 cc0_scratch8 cc0_scratch9 v860 v1633 v1641 v1649 v1651 v1653 v1654 v1685 t acc)
        (fun _ => iprop(CN d pbM (fun c => PX gX eX qX sX (35 * b + c)) 35 ∗ CN d pcM (fun c => PCF gX eX qX sX (35 * b + c)) (t.val + 1) ∗ WN d a7 (fun c => PCI gX eX qX sX (35 * b + c)) (t.val + 1))) := by
  have ht : t.val < 35 := lt_of_lt_of_eq t.isLt t9_trips
  simp only [k0_t9_body, Prog.bind_lift, Prog.bind_op, Prog.pure_eq_ret, Prog.bind_ret]
  iintro ⟨HC, HA, HW⟩
  iapply (cn_read (M := pbM) (c := t.val) ht ((k0_off72_eq t).trans (coff_of (by omega)))) $$ HC
  iintro HC
  iapply (cn_write (M := pcM) (V := fun c => PCF gX eX qX sX (35 * b + c)) (u := t.val) ht ((k0_off72_eq t).trans (coff_of (by omega))) ((k0_off72_eq t).trans (coff_of (by omega)))
    (by unfold PCF; rw [show (35 * b + t.val) / 35 = b by omega, ← hM])) $$ HA
  iintro HA
  iapply (wn_write (M := a7) (V := fun c => PCI gX eX qX sX (35 * b + c)) (u := t.val) ht ((k0_off73_eq t).trans (loff_of ht rfl)) ((k0_off73_eq t).trans (loff_of ht rfl))
    (by unfold PCI; rw [show (35 * b + t.val) / 35 = b by omega, ← hM])) $$ HW
  iintro HW
  iapply wp_done
  isplitl [HC]; · iexact HC
  isplitl [HA]; · iexact HA
  iexact HW

end Chunks

end Cert.Kernel.Hand
-- ==== Proof.KernelLoop7.lean ====
/-
  The loop that writes the new error back and begins the batch after next.
-/
module

public import proofs.«01_k».proof.Proof.KernelLoop6

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Back
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

/-- The copies of the batch after next that have begun before step `t` of the loop. -/
def xo (b t : ℕ) : ℕ := if b < 20 then min (t - 3) 6 else 0

variable (d gX eX qX sX) in
def S11 (b x a : ℕ) : sProp 𝕄 :=
  iprop(GI d gX (35 * min (b + 2) 22) 0 x ∗ EI d eX (35 * min (b + 2) 22) 0 x ∗ SF d x 6 ∗ OS d (EV gX eX qX sX) (35 * b + x) (35 * b + a) ∗ OW (d : Thread nD τ))

variable (d gX eX qX sX) in
def T11 (b t : ℕ) : sProp 𝕄 :=
  iprop(RS d gX eX (35 * b + t) (35 * b + 35) ∗ fam (fun n => mPc d n (EV gX eX qX sX n)) (35 * b + (t - 1)) (35 * b + t)
    ∗ CN d pcM (fun c => PCF gX eX qX sX (35 * b + c)) 35 ∗ S11 d gX eX qX sX b (xo b t) (t - 1))

theorem t11_trips : k0_t11_loop.trips = 35 := by decide +kernel

/-- The block before the present one leaves for the result. -/
theorem back_start {α : Type} {Q : α → sProp 𝕄} {b x c : ℕ} {off₁ off₂ : Fin 3 → ℕ} {sem : DmaSem sig} {inb₁ inb₂ z₁ z₂ hsrc hdst hsem}
    {k : PUnit → Prog (TpuEff nD τ sig (Elt F) Λ₀ .tc) α} (hb : b < 22) (hc : c < 35) (hx : x ≤ c)
    (h₁ : off₁ = Moff (35 * b + c)) (h₂ : off₂ = Ooff (35 * b + c)) (hs : sem = ocell (35 * b + c)) :
    iprop(S11 d gX eX qX sX b x c ∗ fam (fun n => mPc d n (EV gX eX qX sX n)) (35 * b + c) (35 * b + c + 1))
      ⊢ iprop((S11 d gX eX qX sX b x (c + 1) -∗ WP d (k ⟨⟩) Q)
        -∗ WP d (.op (.enqueueDma ((pc mM off₁ S1x256x1536.size inb₁).squeeze S256x1536 z₁)
            (.here ((pc oM off₂ S1x256x1536.size inb₂).squeeze S256x1536 z₂)) (.dma sem) hsrc hdst hsem) k) Q) := by
  unfold S11
  rw [fam_head (fun n => mPc d n (EV gX eX qX sX n)) (Nat.lt_succ_self (35 * b + c))]
  iintro ⟨⟨HG, HE, HF, HZ, HO⟩, HM, -⟩ Hk
  iapply (o_start (EV := EV gX eX qX sX) (w := 35 * b + x) (a := 35 * b + c) (by omega) (by omega) (by omega) h₁ h₂ hs) $$ [HZ HM]
  · isplitl [HZ]; · iexact HZ
    iexact HM
  iintro HZ
  iapply Hk
  isplitl [HG]; · iexact HG
  isplitl [HE]; · iexact HE
  isplitl [HF]; · iexact HF
  isplitl [HZ]; · iexact HZ
  iexact HO

theorem MF_none (n : ℕ) : ⊢ MF (F := F) d n n := by
  unfold MF; rw [fam_empty _ (Nat.le_refl n)] ; exact .rfl

/-- The block three before has left; its place takes the block of the batch after next. -/
theorem next_start {α : Type} {Q : α → sProp 𝕄} {b x a : ℕ}
    {sp' : Space} {s' : Shape} {e' : EltTy} {offw : Fin 3 → ℕ} {inbw : ∀ a, offw a + S1x256x1536.size a ≤ S22x8960x1536.size a} {zw : S1x256x1536.Squeezes S256x1536} {semw : DmaSem sig}
    {srcw : Memref sig .tc sp' s' e'} {hsrcw : srcw.view.WordExact} {hdstw : ((pc oM offw S1x256x1536.size inbw).squeeze S256x1536 zw).view.WordExact}
    {o₁ o₂ o₃ : Fin 3 → ℕ} {sg se : DmaSem sig} {inb₁ inb₂ z₁ z₂ hsrc hdst hsem inb₁' inb₂' z₁' z₂' hsrc' hdst' hsem'}
    {k : PUnit → Prog (TpuEff nD τ sig (Elt F) Λ₀ .tc) α}
    (hb : b < 20) (hx : x < 6) (hxa : x < a) (ha : a ≤ 35)
    (hsw : semw = ocell x) (h₁ : o₁ = Ooff (35 * (b + 2) + x)) (h₂ : o₂ = Moff (35 * (b + 2) + x)) (h₃ : o₃ = Soff x) (hsg : sg = gcell x) (hse : se = ecell x) :
    S11 d gX eX qX sX b x a
      ⊢ iprop((S11 d gX eX qX sX b (x + 1) a -∗ WP d (k ⟨⟩) Q)
        -∗ WP d (.op (.waitDma2 semw srcw ((pc oM offw S1x256x1536.size inbw).squeeze S256x1536 zw) hsrcw hdstw) fun _ =>
            .op (.enqueueDma ((pc gM o₁ S1x256x1536.size inb₁).squeeze S256x1536 z₁)
              (.here ((pc mM o₂ S1x256x1536.size inb₂).squeeze S256x1536 z₂)) (.dma sg) hsrc hdst hsem) fun _ =>
            .op (.enqueueDma ((pc eM o₁ S1x256x1536.size inb₁').squeeze S256x1536 z₁')
              (.here ((pc stM o₃ S1x256x1536.size inb₂').squeeze S256x1536 z₂')) (.dma se) hsrc' hdst' hsem') k) Q) := by
  unfold S11
  rw [show min (b + 2) 22 = b + 2 by omega]
  iintro ⟨HG, HE, HF, HZ, HO⟩ Hk
  ihave HM := MF_none (d := d) (35 * b + x + 70)
  iapply (o_wait (EV := EV gX eX qX sX) (w := 35 * b + x) (a := 35 * b + a) (lo := 35 * b + x + 70) (by omega) (by omega) (by omega)
      (hsw.trans (ocell_mod (by omega)))) $$ [HZ HM HO]
  · isplitl [HZ]; · iexact HZ
    isplitl [HM]; · iexact HM
    iexact HO
  iintro ⟨HZ, HM, HO⟩
  have e : MF (F := F) d (35 * b + x + 70) (35 * b + x + 1 + 70) = MF d (35 * (b + 2) + x) (35 * (b + 2) + (x + 1)) := by
    congr 1 <;> omega
  ihave HM := (eqE e) $$ HM
  iapply (g_start (b := b + 2) (w := 0) (x := x) (hi := 35 * (b + 2) + (x + 1)) (by omega) (by omega) (by omega) (by omega) (by omega) h₁ h₂ hsg) $$ [HG HM]
  · isplitl [HG]; · iexact HG
    iexact HM
  iintro ⟨HG, HM⟩
  iapply (e_start (b := b + 2) (w := 0) (x := x) (hi := 6) (by omega) (by omega) (by omega) (by omega) (by omega) h₁ h₃ hse) $$ [HE HF]
  · isplitl [HE]; · iexact HE
    iexact HF
  iintro ⟨HE, HF⟩
  iapply Hk
  isplitl [HG]; · iexact HG
  isplitl [HE]; · iexact HE
  isplitl [HF]; · iexact HF
  isplitl [HZ]; · iexact HZ
  iexact HO

theorem t11_step {i : grid0.Coords} {b : ℕ} (hi : (i 0).val = b) {v1693 v1708 v1715}
    (hS : v1693 = PSc gX eX qX sX b) (hQ : v1708 = QNS gX eX qX sX b) (hF : v1715 = QNF gX eX qX sX b) (t : Fin k0_t11_loop.trips) (acc : Unit) :
    T11 d gX eX qX sX b t.val
      ⊢ WP d (k0_t11_body i gM hg eM he a3 h3 a4 h4 oM ho a6 h6 a7 h7 a8 h8 a9 h9 a10 h10 mM hm stM hst bqM hbq p1M hp1 pbM hpb poM hpo pcM hpc cc0_scratch7 cc0_scratch8 cc0_scratch9 v1693 v1708 v1715 t acc) (fun _ => T11 d gX eX qX sX b (t.val + 1)) := by
  have hb : b < 22 := hi ▸ off102_eq' i
  have ht : t.val < 35 := lt_of_lt_of_eq t.isLt t11_trips
  simp only [k0_t11_body, Prog.bind_lift, Prog.bind_op, Prog.pure_eq_ret, Prog.bind_ret]
  unfold T11
  have hoff : k0_off94 i t = Moff (35 * b + t.val) := (k0_off94_eq i t).trans (moff_at ht (by rw [hi]) (by simp))
  have hev : k0_pay426 v1693 v1708 v1715 (PCF gX eX qX sX (35 * b + t.val)) (sumV gX eX (35 * b + t.val)) = EV gX eX qX sX (35 * b + t.val) := by
    unfold EV; rw [show (35 * b + t.val) / 35 = b by omega, hS, hQ, hF]
  unfold RS
  rw [fam_head (fun n => mPc d n (sumV gX eX n)) (show 35 * b + t.val < 35 * b + 35 by omega)]
  iintro ⟨⟨HM, HR⟩, HP, HC, HS⟩
  iapply (cn_read (M := pcM) (c := t.val) ht ((k0_off93_eq t).trans (coff_of (by omega)))) $$ HC
  iintro HC
  iapply (wp_ld (M := mM) (Moff_inb _) hoff) $$ HM
  iintro HM
  iapply (wp_ld (M := mM) (Moff_inb _) hoff) $$ HM
  iintro HM
  iapply (wp_st (M := mM) (Moff_inb _) hoff) $$ HM
  iintro HM
  rw [hev]
  have hone : mPc d (35 * b + t.val) (EV gX eX qX sX (35 * b + t.val)) ⊢ fam (fun n => mPc d n (EV gX eX qX sX n)) (35 * b + (t.val + 1 - 1)) (35 * b + (t.val + 1)) := by
    rw [fam_head _ (show 35 * b + (t.val + 1 - 1) < 35 * b + (t.val + 1) by omega), fam_empty _ (show 35 * b + (t.val + 1) ≤ 35 * b + (t.val + 1 - 1) + 1 by omega)]
    rw [show t.val + 1 - 1 = t.val by omega]
    iintro H; isplitl; · iexact H
    iempintro
  ihave HM := hone $$ HM
  by_cases h24 : k0_cond24 i t = 1#1
  · have h := (cond24_iff i t).mp h24
    have h23 := (cond23_iff t).mpr (by omega)
    rw [hi] at h
    simp only [dif_pos h24, dif_pos h23]
    have e₁ : fam (fun n => mPc d n (EV gX eX qX sX n)) (35 * b + (t.val - 1)) (35 * b + t.val) = fam (fun n => mPc d n (EV gX eX qX sX n)) (35 * b + (t.val - 1)) (35 * b + (t.val - 1) + 1) := by
      congr 1; omega
    have e₂ : S11 d gX eX qX sX b (xo b t.val) (t.val - 1) = S11 d gX eX qX sX b (t.val - 3) (t.val - 1) := by
      unfold xo; rw [if_pos (by omega), show min (t.val - 3) 6 = t.val - 3 by omega]
    have e₃ : S11 d gX eX qX sX b (t.val - 3 + 1) (t.val - 1 + 1) = S11 d gX eX qX sX b (xo b (t.val + 1)) (t.val + 1 - 1) := by
      unfold xo; rw [if_pos (by omega), show min (t.val + 1 - 3) 6 = t.val - 3 + 1 by omega, show t.val - 1 + 1 = t.val + 1 - 1 by omega]
    ihave HP := (eqE e₁) $$ HP
    ihave HS := (eqE e₂) $$ HS
    iapply (back_start (b := b) (x := t.val - 3) (c := t.val - 1) hb (by omega) (by omega)
      ((off97_eq i t (by omega)).trans (moff_at (by omega) (by rw [hi]) rfl)) ((off96_eq i t (by omega)).trans (ooff_at (by omega) (by rw [hi]; omega) rfl))
      ((ocell_eq ((off95_eq t (by omega)).trans (one_of (by omega)))).trans (ocell_mod (c := t.val - 1) (by omega)))) $$ [HS HP]
    · isplitl [HS]; · iexact HS
      iexact HP
    iintro HS
    iapply (next_start (b := b) (x := t.val - 3) (a := t.val - 1 + 1) (by omega) (by omega) (by omega) (by omega)
      (ocell_eq ((off98_eq t (by omega)).trans (one_of (by omega))))
      ((off102_eq i t (by omega)).trans (ooff_at (by omega) (by rw [hi]; omega) rfl))
      ((off100_eq i t (by omega)).trans (moff_at (by omega) (by rw [hi]; omega) rfl))
      ((off103_eq t (by omega)).trans (soff_of (by omega)))
      (gcell_eq ((off101_eq t (by omega)).trans (one_of (by omega)))) (ecell_eq ((off101_eq t (by omega)).trans (one_of (by omega))))) $$ HS
    iintro HS
    ihave HS := (eqE e₃) $$ HS
    iapply wp_done
    isplitl [HR]; · iexact HR
    isplitl [HM]; · iexact HM
    isplitl [HC]; · iexact HC
    iexact HS
  · have h := mt (cond24_iff i t).mpr h24
    rw [hi] at h
    have ex : xo b (t.val + 1) = xo b t.val := by
      unfold xo; split
      · omega
      · rfl
    simp only [dif_neg h24]
    by_cases h23 : k0_cond23 t = 1#1
    · have h' := (cond23_iff t).mp h23
      simp only [dif_pos h23]
      have e₁ : fam (fun n => mPc d n (EV gX eX qX sX n)) (35 * b + (t.val - 1)) (35 * b + t.val) = fam (fun n => mPc d n (EV gX eX qX sX n)) (35 * b + (t.val - 1)) (35 * b + (t.val - 1) + 1) := by
        congr 1; omega
      have e₃ : S11 d gX eX qX sX b (xo b t.val) (t.val - 1 + 1) = S11 d gX eX qX sX b (xo b (t.val + 1)) (t.val + 1 - 1) := by
        rw [ex, show t.val - 1 + 1 = t.val + 1 - 1 by omega]
      ihave HP := (eqE e₁) $$ HP
      iapply (back_start (b := b) (x := xo b t.val) (c := t.val - 1) hb (by omega) (by unfold xo; split <;> omega)
        ((off97_eq i t (by omega)).trans (moff_at (by omega) (by rw [hi]) rfl)) ((off96_eq i t (by omega)).trans (ooff_at (by omega) (by rw [hi]; omega) rfl))
        ((ocell_eq ((off95_eq t (by omega)).trans (one_of (by omega)))).trans (ocell_mod (c := t.val - 1) (by omega)))) $$ [HS HP]
      · isplitl [HS]; · iexact HS
        iexact HP
      iintro HS
      ihave HS := (eqE e₃) $$ HS
      iapply wp_done
      isplitl [HR]; · iexact HR
      isplitl [HM]; · iexact HM
      isplitl [HC]; · iexact HC
      iexact HS
    · have h' := mt (cond23_iff t).mpr h23
      simp only [dif_neg h23]
      have e₃ : S11 d gX eX qX sX b (xo b t.val) (t.val - 1) = S11 d gX eX qX sX b (xo b (t.val + 1)) (t.val + 1 - 1) := by
        rw [ex, show t.val - 1 = t.val + 1 - 1 by omega]
      ihave HS := (eqE e₃) $$ HS
      iapply wp_done
      isplitl [HR]; · iexact HR
      isplitl [HM]; · iexact HM
      isplitl [HC]; · iexact HC
      iexact HS

end Back

end Cert.Kernel.Hand
-- ==== Proof.KernelLoop8.lean ====
/-
  The prelude of the first point: the first batch is brought in and its product taken, and the second batch begun.
-/
module

public import proofs.«01_k».proof.Proof.KernelLoop7

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Rules
variable {d : Dev nD} {α : Type}

theorem wp_loop {w : ℕ} {L : Scf.Loop w} {hok : L.OK} {σ β : Type} {init : σ} {body : Fin L.trips → σ → Prog (TpuEff nD τ sig (Elt F) Λ₀ .tc) σ}
    (I : ℕ → σ → sProp 𝕄) (n : ℕ) (hn : L.trips = n) (hbody : ∀ (k : Fin L.trips) (acc : σ), I k.val acc ⊢ WP d (body k acc) (fun r => I (k.val + 1) r))
    {kk : σ → Prog (TpuEff nD τ sig (Elt F) Λ₀ .tc) β} {Q : β → sProp 𝕄} :
    I 0 init ⊢ iprop((∀ acc, I n acc -∗ WP d (kk acc) Q) -∗ WP d (Scf.Loop.for L hok init body >>= kk) Q) := by
  subst hn
  exact Scf.wp_for_bind frame _ _ _ _ _ hok init body I hbody

/-- A read of a block of a buffer held whole. -/
theorem wp_lds {Q : α → sProp 𝕄} {cs : CoreSpace} {s : Shape} {e : EltTy} {M : Memref sig .tc cs s e} {r : Rect s}
    {hl : M.view.LoadsAt r.toLoadRect} {k : (r.toLoadRect.shape.Idx → Elt F e) → Prog (TpuEff nD τ sig (Elt F) Λ₀ .tc) α} {X : Vec F s e} :
    owns (d : Thread nD τ) M fullShare X
      ⊢ iprop((owns (d : Thread nD τ) M fullShare X -∗ WP d (k (fun x => X (r.emb x))) Q)
        -∗ WP d (.op (.load M r.toLoadRect hl) k) Q) := by
  unfold owns
  iintro ⟨%f, %hf, H⟩ Hk
  iapply (wp_load_rect Variants.none (d : Thread nD τ) none Set.univ (m := M) (r := r) (q := fullShare) (f := f) (k := k)
    (S := M.view.set) (View.set_slice_subset _ _)) $$ H
  iintro H
  have hf' : (M.access r).read (Elt F) f = fun x => X (r.emb x) := by rw [← hf]; rfl
  rw [hf']
  iapply Hk
  iexists f
  isplitr
  · ipureintro; exact hf
  iexact H

end Rules

section Prelude
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem fam_rot {Φ : ℕ → sProp 𝕄} (h : ∀ i j, i % 6 = j % 6 → Φ i = Φ j) : fam Φ 35 41 = fam Φ 0 6 := by
  rw [fam_head Φ (show 35 < 41 by omega), fam_last Φ (show 0 ≤ 5 by omega), h 35 5 rfl]
  have : fam Φ (0 + 36) (5 + 36) = fam Φ 0 5 := by
    rw [fam_shift]; exact fam_congr fun i _ _ => h _ _ (by omega)
  rw [← this]

theorem SF_rot : SF (F := F) d 35 41 = SF d 0 6 := by
  unfold SF; exact fam_rot fun i j h => by simp only [sPc_mod h]
theorem GI_rot (b : ℕ) : GI d gX (35 * b) 35 35 ⊢ GI d gX (35 * (b + 1)) 0 0 := by
  unfold GI
  rw [fam_rot (Φ := gS0 d) (fun i j h => by unfold gS0; rw [gcell_mod h]), show 35 * b + 35 = 35 * (b + 1) + 0 by omega]
theorem EI_rot (b : ℕ) : EI d eX (35 * b) 35 35 ⊢ EI d eX (35 * (b + 1)) 0 0 := by
  unfold EI
  rw [fam_rot (Φ := eS0 d) (fun i j h => by unfold eS0; rw [ecell_mod h]), show 35 * b + 35 = 35 * (b + 1) + 0 by omega]

variable (d gX eX) in
/-- Batch `b` begun: `xg` and `xe` transfers of its two streams in flight. -/
def SA (b xg xe hi : ℕ) : sProp 𝕄 :=
  iprop(GI d gX (35 * b) 0 xg ∗ EI d eX (35 * b) 0 xe ∗ MF d (35 * b + xg) hi ∗ SF d xe 6)

theorem sa_g {α : Type} {Q : α → sProp 𝕄} {b xe x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 6) (hhi : 35 * b + x < hi)
    (h₁ : off₁ = Ooff (35 * b + x)) (h₂ : off₂ = Moff (35 * b + x)) (hs : sem = gcell x) :
    SA d gX eX b x xe hi
      ⊢ iprop((SA d gX eX b (x + 1) xe hi -∗ WP d (k ⟨⟩) Q)
        -∗ WP d (.op (.enqueueDma ((pc gM off₁ S1x256x1536.size inb₁).squeeze S256x1536 z₁)
            (.here ((pc mM off₂ S1x256x1536.size inb₂).squeeze S256x1536 z₂)) (.dma sem) hsrc hdst hsem) k) Q) := by
  unfold SA
  iintro ⟨HG, HE, HM, HS⟩ Hk
  iapply (g_start (b := b) (w := 0) (x := x) (hi := hi) hb (by omega) (by omega) (by omega) hhi h₁ h₂ hs) $$ [HG HM]
  · isplitl [HG]; · iexact HG
    iexact HM
  iintro ⟨HG, HM⟩
  iapply Hk
  isplitl [HG]; · iexact HG
  isplitl [HE]; · iexact HE
  isplitl [HM]; · iexact HM
  iexact HS

theorem sa_e {α : Type} {Q : α → sProp 𝕄} {b xg x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 6)
    (h₁ : off₁ = Ooff (35 * b + x)) (h₂ : off₂ = Soff x) (hs : sem = ecell x) :
    SA d gX eX b xg x hi
      ⊢ iprop((SA d gX eX b xg (x + 1) hi -∗ WP d (k ⟨⟩) Q)
        -∗ WP d (.op (.enqueueDma ((pc eM off₁ S1x256x1536.size inb₁).squeeze S256x1536 z₁)
            (.here ((pc stM off₂ S1x256x1536.size inb₂).squeeze S256x1536 z₂)) (.dma sem) hsrc hdst hsem) k) Q) := by
  unfold SA
  iintro ⟨HG, HE, HM, HS⟩ Hk
  iapply (e_start (b := b) (w := 0) (x := x) (hi := 6) hb (by omega) (by omega) (by omega) hx h₁ h₂ hs) $$ [HE HS]
  · isplitl [HE]; · iexact HE
    iexact HS
  iintro ⟨HE, HS⟩
  iapply Hk
  isplitl [HG]; · iexact HG
  isplitl [HE]; · iexact HE
  isplitl [HM]; · iexact HM
  iexact HS

/-- What the first product leaves of the first batch. -/
abbrev fstOff_inb : ∀ a, (![0, 0] : Fin 2 → ℕ) a + S16x22.size a ≤ S16x22.size a := by decide
abbrev wPc (M : Memref sig .tc .vmem S16x22 .f32) (v : Vec F S16x22 .f32) : sProp 𝕄 := owns (d : Thread nD τ) (pc M ![0, 0] S16x22.size fstOff_inb) fullShare v

theorem part9_ok {i : grid0.Coords} (k0_h1 : k0_cond1 i = 1#1) :
    iprop(owns (d : Thread nD τ) a3 fullShare qX ∗ wPc (d := d) a4 sX ∗ (∃ v, bqPc d v) ∗ SA d gX eX 0 0 0 70 ∗ PN d gX eX qX sX 0 0 ∗ OW (d : Thread nD τ))
      ⊢ WP d (k0_part9 i gM hg eM he a3 h3 a4 h4 oM ho a6 h6 a7 h7 a8 h8 a9 h9 a10 h10 mM hm stM hst bqM hbq p1M hp1 pbM hpb poM hpo pcM hpc cc0_scratch7 cc0_scratch8 cc0_scratch9 k0_h1) (fun _ => iprop(owns (d : Thread nD τ) a3 fullShare qX ∗ wPc (d := d) a4 sX
        ∗ SA d gX eX 1 6 5 70 ∗ NX d gX eX 0 35 ∗ PN d gX eX qX sX 0 35 ∗ BQR d qX 0 ∗ OW (d : Thread nD τ))) := by
  simp only [k0_part9_eq_skeleton, k0_part9_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    Prog.bind_lift, Prog.bind_op, Prog.pure_eq_ret, Prog.bind_ret, Prog.bind_assoc]
  iintro ⟨H3, H4, ⟨%v, HB⟩, HA, HP, HO⟩
  iapply (wp_lds (M := a3)) $$ H3
  iintro H3
  iapply (wp_ld (M := bqM) bqOff_inb rfl) $$ HB
  iintro HB
  iapply (wp_st (M := bqM) bqOff_inb rfl) $$ HB
  iintro HB
  iapply (wp_ld (M := a4) fstOff_inb rfl) $$ H4
  iintro H4
  iapply (sa_g (b := 0) (xe := 0) (x := 0) (hi := 70) (by decide) (by decide) (by decide) (by decide +kernel) (by decide +kernel) (gcell_eq (by decide +kernel))) $$ HA
  iintro HA
  iapply (sa_e (b := 0) (xg := 1) (x := 0) (hi := 70) (by decide) (by decide) (by decide +kernel) (by decide +kernel) (ecell_eq (by decide +kernel))) $$ HA
  iintro HA
  iapply (sa_g (b := 0) (xe := 1) (x := 1) (hi := 70) (by decide) (by decide) (by decide) (by decide +kernel) (by decide +kernel) (gcell_eq (by decide +kernel))) $$ HA
  iintro HA
  iapply (sa_e (b := 0) (xg := 2) (x := 1) (hi := 70) (by decide) (by decide) (by decide +kernel) (by decide +kernel) (ecell_eq (by decide +kernel))) $$ HA
  iintro HA
  iapply (sa_g (b := 0) (xe := 2) (x := 2) (hi := 70) (by decide) (by decide) (by decide) (by decide +kernel) (by decide +kernel) (gcell_eq (by decide +kernel))) $$ HA
  iintro HA
  iapply (sa_e (b := 0) (xg := 3) (x := 2) (hi := 70) (by decide) (by decide) (by decide +kernel) (by decide +kernel) (ecell_eq (by decide +kernel))) $$ HA
  iintro HA
  iapply (sa_g (b := 0) (xe := 3) (x := 3) (hi := 70) (by decide) (by decide) (by decide) (by decide +kernel) (by decide +kernel) (gcell_eq (by decide +kernel))) $$ HA
  iintro HA
  iapply (sa_e (b := 0) (xg := 4) (x := 3) (hi := 70) (by decide) (by decide) (by decide +kernel) (by decide +kernel) (ecell_eq (by decide +kernel))) $$ HA
  iintro HA
  iapply (sa_g (b := 0) (xe := 4) (x := 4) (hi := 70) (by decide) (by decide) (by decide) (by decide +kernel) (by decide +kernel) (gcell_eq (by decide +kernel))) $$ HA
  iintro HA
  iapply (sa_e (b := 0) (xg := 5) (x := 4) (hi := 70) (by decide) (by decide) (by decide +kernel) (by decide +kernel) (ecell_eq (by decide +kernel))) $$ HA
  iintro HA
  iapply (sa_g (b := 0) (xe := 5) (x := 5) (hi := 70) (by decide) (by decide) (by decide) (by decide +kernel) (by decide +kernel) (gcell_eq (by decide +kernel))) $$ HA
  iintro HA
  iapply (sa_e (b := 0) (xg := 6) (x := 5) (hi := 70) (by decide) (by decide) (by decide +kernel) (by decide +kernel) (ecell_eq (by decide +kernel))) $$ HA
  iintro HA
  iapply (wp_loop (fun u _ => FI d gX eX qX sX u) 35 t1_trips (fun t acc => t1_step hg he ho hm hst hbq hp1 hpb hpo hpc h3 h4 h6 h7 h8 h9 h10 k0_h1 t acc)) $$ [HA HP HB HO]
  · unfold FI SA NX
    rw [show min (0 + 6) 35 = 6 by omega]
    icases HA with ⟨HG, HE, HM, HS⟩
    isplitl [HG]; · iexact HG
    isplitl [HE]; · iexact HE
    isplitl [HM]; · iexact HM
    isplitl [HS]; · iexact HS
    isplitr; · rw [fam_empty _ (Nat.le_refl (35 * 0 + 0))]; iempintro
    isplitl [HP]; · iexact HP
    isplitr [HO]
    · unfold BQR; iexists (k0_pay2 (qblk qX 0))
      isplitl [HB]; · iexact HB
      ipureintro; intro _; rfl
    iexact HO
  iintro %acc HF
  have e : FI d gX eX qX sX 35 ⊢ iprop(SA d gX eX 1 0 0 70 ∗ NX d gX eX 0 35 ∗ PN d gX eX qX sX 0 35 ∗ BQR d qX 0 ∗ OW (d : Thread nD τ)) := by
    unfold FI SA
    rw [show min (35 + 6) 35 = 35 by omega, SF_rot]
    iintro ⟨HG, HE, HM, HS, HN, HP, HB, HO⟩
    isplitl [HG HE HM HS]
    · isplitl [HG]; · iapply (GI_rot (gX := gX) 0); iexact HG
      isplitl [HE]; · iapply (EI_rot (eX := eX) 0); iexact HE
      isplitl [HM]; · iexact HM
      iexact HS
    isplitl [HN]; · iexact HN
    isplitl [HP]; · iexact HP
    isplitl [HB]; · iexact HB
    iexact HO
  icases e $$ HF with ⟨HA, HN, HP, HB, HO⟩
  iapply (sa_g (b := 1) (xe := 0) (x := 0) (hi := 70) (by decide) (by decide) (by decide) (by decide +kernel) (by decide +kernel) (gcell_eq (by decide +kernel))) $$ HA
  iintro HA
  iapply (sa_e (b := 1) (xg := 1) (x := 0) (hi := 70) (by decide) (by decide) (by decide +kernel) (by decide +kernel) (ecell_eq (by decide +kernel))) $$ HA
  iintro HA
  iapply (sa_g (b := 1) (xe := 1) (x := 1) (hi := 70) (by decide) (by decide) (by decide) (by decide +kernel) (by decide +kernel) (gcell_eq (by decide +kernel))) $$ HA
  iintro HA
  iapply (sa_e (b := 1) (xg := 2) (x := 1) (hi := 70) (by decide) (by decide) (by decide +kernel) (by decide +kernel) (ecell_eq (by decide +kernel))) $$ HA
  iintro HA
  iapply (sa_g (b := 1) (xe := 2) (x := 2) (hi := 70) (by decide) (by decide) (by decide) (by decide +kernel) (by decide +kernel) (gcell_eq (by decide +kernel))) $$ HA
  iintro HA
  iapply (sa_e (b := 1) (xg := 3) (x := 2) (hi := 70) (by decide) (by decide) (by decide +kernel) (by decide +kernel) (ecell_eq (by decide +kernel))) $$ HA
  iintro HA
  iapply (sa_g (b := 1) (xe := 3) (x := 3) (hi := 70) (by decide) (by decide) (by decide) (by decide +kernel) (by decide +kernel) (gcell_eq (by decide +kernel))) $$ HA
  iintro HA
  iapply (sa_e (b := 1) (xg := 4) (x := 3) (hi := 70) (by decide) (by decide) (by decide +kernel) (by decide +kernel) (ecell_eq (by decide +kernel))) $$ HA
  iintro HA
  iapply (sa_g (b := 1) (xe := 4) (x := 4) (hi := 70) (by decide) (by decide) (by decide) (by decide +kernel) (by decide +kernel) (gcell_eq (by decide +kernel))) $$ HA
  iintro HA
  iapply (sa_e (b := 1) (xg := 5) (x := 4) (hi := 70) (by decide) (by decide) (by decide +kernel) (by decide +kernel) (ecell_eq (by decide +kernel))) $$ HA
  iintro HA
  iapply (sa_g (b := 1) (xe := 5) (x := 5) (hi := 70) (by decide) (by decide) (by decide) (by decide +kernel) (by decide +kernel) (gcell_eq (by decide +kernel))) $$ HA
  iintro HA
  iapply wp_done
  isplitl [H3]; · iexact H3
  isplitl [H4]; · iexact H4
  isplitl [HA]; · iexact HA
  isplitl [HN]; · iexact HN
  isplitl [HP]; · iexact HP
  isplitl [HB]; · iexact HB
  iexact HO

end Prelude

end Cert.Kernel.Hand
-- ==== Proof.KernelLoop9.lean ====
/-
  The parts of the body between its loops: what each leaves, given what it finds.
-/
module

public import proofs.«01_k».proof.Proof.KernelLoop8

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Parts
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

/-- A buffer of chunks, and a window of chunks, of whatever contents. -/
def CE (d : Dev nD) {e : EltTy} (M : Memref sig .tc .vmem S35x16x256 e) : sProp 𝕄 := fam (fun c => iprop(∃ v, cPc (F := F) d M c v)) 0 35
def LE (d : Dev nD) {e : EltTy} (M : Memref sig .tc .vmem S1x16x8960 e) : sProp 𝕄 := fam (fun c => iprop(∃ v, lPc (F := F) d M c v)) 0 35

theorem cn_start {e : EltTy} {M : Memref sig .tc .vmem S35x16x256 e} (V : ℕ → Vec F S1x16x256 e) : CE d M ⊢ CN d M V 0 := by
  unfold CE CN; rw [fam_empty (fun c => cPc d M c (V c)) (Nat.le_refl 0)]
  iintro H; isplitr; · iempintro
  iexact H
theorem cn_end {e : EltTy} {M : Memref sig .tc .vmem S35x16x256 e} {V : ℕ → Vec F S1x16x256 e} : CN d M V 35 ⊢ CE d M := by
  unfold CE CN
  iintro ⟨H, -⟩
  iapply (fam_mono (Φ := fun c => cPc d M c (V c)) (fun c _ _ => by iintro H; iexists V c; iexact H))
  iexact H
theorem wn_start {e : EltTy} {M : Memref sig .tc .vmem S1x16x8960 e} (V : ℕ → Vec F S1x16x256 e) : LE d M ⊢ WN d M V 0 := by
  unfold LE WN; rw [fam_empty (fun c => lPc d M c (V c)) (Nat.le_refl 0)]
  iintro H; isplitr; · iempintro
  iexact H

theorem nx_rs {b : ℕ} (hb : b < 22) : NX d gX eX (35 * b) (35 * b + 35) ⊢ RS d gX eX (35 * b) (35 * b + 35) := by
  unfold NX RS
  refine fam_mono fun n h h' => ?_
  iintro ⟨%v, H, %hv⟩
  rw [hv (by omega)]; iexact H
theorem pn_cp {b : ℕ} (hb : b < 22) : PN d gX eX qX sX (35 * b) 35 ⊢ CP1 d gX eX qX sX b := by
  unfold PN CP1 CN
  iintro ⟨H, H'⟩
  isplitl [H]
  · iapply (fam_mono (Φ := fun c => iprop(∃ v, cPc d p1M c v ∗ ⌜35 * b + c < 770 → v = P1 gX eX qX sX (35 * b + c)⌝)) (fun n h h' => by
      iintro ⟨%v, H, %hv⟩
      rw [hv (by omega)]; iexact H))
    iexact H
  iexact H'
theorem pn_start (N : ℕ) : CE d p1M ⊢ PN d gX eX qX sX N 0 := by
  unfold CE PN; rw [fam_empty (fun c => iprop(∃ v, cPc d p1M c v ∗ ⌜N + c < 770 → v = P1 gX eX qX sX (N + c)⌝)) (Nat.le_refl 0)]
  iintro H; isplitr; · iempintro
  iexact H

theorem qblk_at {b : ℕ} {o : Fin 3 → ℕ} {inb} (h : o = ![min b 21, 0, 0]) :
    (fun x => qX ((Rect.unit (s := S22x16x1536) o S1x16x1536.size inb).emb x)) = qblk qX b := by subst h; rfl

variable (d gX eX qX sX) in
/-- Batch `b` resident with its first product, the batch after it on its way. -/
def ST (b : ℕ) : sProp 𝕄 :=
  iprop(RS d gX eX (35 * b) (35 * b + 35) ∗ CP1 d gX eX qX sX b ∗ HS d gX eX qX sX b 0 0 ∗ SF d (xs b 0 0) 6 ∗ (∃ v, bqPc d v) ∗ OW (d : Thread nD τ))

variable (d gX eX qX sX) in
/-- Nothing begun. -/
def S0 : sProp 𝕄 :=
  iprop((∃ v, bqPc d v) ∗ SA d gX eX 0 0 0 70 ∗ CE d p1M ∗ OS d (EV gX eX qX sX) 0 0 ∗ OW (d : Thread nD τ))

variable (d gX eX qX sX) in
/-- Everything written. -/
def SZ : sProp 𝕄 :=
  iprop(GI d gX (35 * 22) 0 0 ∗ EI d eX (35 * 22) 0 0 ∗ SF d 0 6 ∗ OS d (EV gX eX qX sX) 770 770 ∗ MF d 770 840 ∗ CE d p1M ∗ (∃ v, bqPc d v) ∗ OW (d : Thread nD τ))

variable (d gX eX qX sX) in
/-- What stands between the points, before point `t`. -/
def ENT (t : ℕ) : sProp 𝕄 := if t = 0 then S0 d gX eX qX sX else if t < 22 then ST d gX eX qX sX t else SZ d gX eX qX sX

variable (d qX sX) in
/-- The two windows that are read. -/
def IN (a3 : Memref sig .tc .vmem S22x16x1536 .i8) (a4 : Memref sig .tc .vmem S16x22 .f32) : sProp 𝕄 :=
  iprop(owns (d : Thread nD τ) a3 fullShare qX ∗ wPc (d := d) a4 sX)

variable (gX eX qX sX) in
/-- What the first part returns. -/
def r28 (b : ℕ) : (Σ' (arg0 : BitVec 32) (v0 : BitVec 32) (v1 : BitVec 32) (v6 : BitVec 1) (v7 : BitVec 32) (v11 : FVec F S16x16 .f32) (v12 : IVec S16x128 32) (v13 : IVec S16x128 32) (v16 : FVec F S16x128 .f32) (v19 : FVec F S16x128 .f32) (v22 : FVec F S16x128 .f32) (v25 : FVec F S16x128 .f32) (v28 : FVec F S16x128 .f32) (v31 : FVec F S16x128 .f32) (v34 : FVec F S16x128 .f32) (v37 : FVec F S16x128 .f32), FVec F S16x128 .f32) :=
  ⟨BitVec.ofNat 32 b, Scalar.remsi (BitVec.ofNat 32 b) 2#32, Scalar.subi 1#32 (Scalar.remsi (BitVec.ofNat 32 b) 2#32),
    Scalar.cmpi .slt (Scalar.addi (BitVec.ofNat 32 b) 1#32) 22#32, Scalar.minsi (Scalar.addi (BitVec.ofNat 32 b) 1#32) 21#32,
    G1 gX eX qX sX b, iota .tc S16x128 32 [0] iota_S16x128_d0_w32, iota .tc S16x128 32 [1] iota_S16x128_d1_w32,
    k0_pay31 (G1 gX eX qX sX b), k0_pay32 (G1 gX eX qX sX b), k0_pay33 (G1 gX eX qX sX b), k0_pay34 (G1 gX eX qX sX b), k0_pay35 (G1 gX eX qX sX b),
    k0_pay36 (G1 gX eX qX sX b), k0_pay37 (G1 gX eX qX sX b), k0_pay38 (G1 gX eX qX sX b), k0_pay39 (G1 gX eX qX sX b)⟩

/-- The rest of the first part, once the batch is resident. -/
theorem part28_tail {i : grid0.Coords} {b : ℕ} {β : Type} {Q : β → sProp 𝕄} {kk : FVec F S16x16 .f32 → Prog (TpuEff nD τ sig (Elt F) Λ₀ .tc) β} :
    iprop(CP1 d gX eX qX sX b ∗ LE d a6)
      ⊢ iprop((iprop(CP1 d gX eX qX sX b ∗ WN d a6 (fun c => k0_pay28 (P1 gX eX qX sX (35 * b + c))) 35) -∗ WP d (kk (G1 gX eX qX sX b)) Q)
        -∗ WP d (Scf.Loop.for k0_t2_loop k0_t2_ok ⟨⟩ (k0_t2_body i gM hg eM he a3 h3 a4 h4 oM ho a6 h6 a7 h7 a8 h8 a9 h9 a10 h10 mM hm stM hst bqM hbq p1M hp1 pbM hpb poM hpo pcM hpc cc0_scratch7 cc0_scratch8 cc0_scratch9) >>= fun _ =>
          Scf.Loop.for k0_t3_loop k0_t3_ok (k0_pay29 (F := F)) (k0_t3_body i gM hg eM he a3 h3 a4 h4 oM ho a6 h6 a7 h7 a8 h8 a9 h9 a10 h10 mM hm stM hst bqM hbq p1M hp1 pbM hpb poM hpo pcM hpc cc0_scratch7 cc0_scratch8 cc0_scratch9) >>= kk) Q) := by
  iintro ⟨HP, HW⟩ Hk
  ihave HW := (wn_start (fun c => k0_pay28 (P1 gX eX qX sX (35 * b + c)))) $$ HW
  iapply (wp_loop (fun u _ => iprop(CP1 d gX eX qX sX b ∗ WN d a6 (fun c => k0_pay28 (P1 gX eX qX sX (35 * b + c))) u)) 35 t2_trips
    (fun t acc => t2_step hg he ho hm hst hbq hp1 hpb hpo hpc h3 h4 h6 h7 h8 h9 h10 t acc)) $$ [HP HW]
  · isplitl [HP]; · iexact HP
    iexact HW
  iintro %acc ⟨HP, HW⟩
  iapply (wp_loop (fun u acc => iprop(⌜acc = foldN (fun c a => k0_pay30 a (P1 gX eX qX sX (35 * b + c))) k0_pay29 u⌝ ∗ CP1 d gX eX qX sX b)) 35 t3_trips
    (fun t acc => t3_step hg he ho hm hst hbq hp1 hpb hpo hpc h3 h4 h6 h7 h8 h9 h10 t acc)) $$ [HP]
  · isplitr; · ipureintro; rfl
    iexact HP
  iintro %acc ⟨%h, HP⟩
  rw [h]
  iapply Hk
  isplitl [HP]; · iexact HP
  iexact HW

theorem part28_ok {i : grid0.Coords} {b : ℕ} (hi : (i 0).val = b) :
    iprop(IN d qX sX a3 a4 ∗ ENT d gX eX qX sX b ∗ LE d a6)
      ⊢ WP d (k0_part28 i gM hg eM he a3 h3 a4 h4 oM ho a6 h6 a7 h7 a8 h8 a9 h9 a10 h10 mM hm stM hst bqM hbq p1M hp1 pbM hpb poM hpo pcM hpc cc0_scratch7 cc0_scratch8 cc0_scratch9) (fun r => iprop(⌜r = r28 gX eX qX sX b⌝ ∗ IN d qX sX a3 a4 ∗ ST d gX eX qX sX b ∗ WN d a6 (fun c => k0_pay28 (P1 gX eX qX sX (35 * b + c))) 35)) := by
  have hb : b < 22 := hi ▸ off102_eq' i
  simp only [k0_part28_eq_skeleton, k0_part28_skel, Prog.bind_lift, Prog.bind_op, Prog.pure_eq_ret, Prog.bind_ret, Prog.bind_assoc]
  by_cases h1 : k0_cond1 i = 1#1
  · have hb0 : b = 0 := hi ▸ (cond1_iff i).mp h1
    subst hb0
    rw [dif_pos h1]
    unfold ENT IN S0
    rw [if_pos rfl]
    iintro ⟨⟨H3, H4⟩, ⟨HB, HA, HP, HZ, HO⟩, HW⟩
    ihave HP := (pn_start (gX := gX) (eX := eX) (qX := qX) (sX := sX) 0) $$ HP
    iapply (wp_part (part9_ok hg he ho hm hst hbq hp1 hpb hpo hpc h3 h4 h6 h7 h8 h9 h10 h1)) $$ [H3 H4 HB HA HP HO]
    · isplitl [H3]; · iexact H3
      isplitl [H4]; · iexact H4
      isplitl [HB]; · iexact HB
      isplitl [HA]; · iexact HA
      isplitl [HP]; · iexact HP
      iexact HO
    iintro %r ⟨H3, H4, HA, HN, HP, HB, HO⟩
    iapply (sa_e (b := 1) (xg := 6) (x := 5) (hi := 70) (by decide) (by decide) (by decide +kernel) (by decide +kernel) (ecell_eq (by decide +kernel))) $$ HA
    iintro HA
    ihave HP := (pn_cp (b := 0) (by omega)) $$ HP
    ihave HN := (nx_rs (b := 0) (by omega)) $$ HN
    iapply (part28_tail hg he ho hm hst hbq hp1 hpb hpo hpc h3 h4 h6 h7 h8 h9 h10 (b := 0)) $$ [HP HW]
    · isplitl [HP]; · iexact HP
      iexact HW
    iintro ⟨HP, HW⟩
    iapply wp_done
    isplitr; · ipureintro; unfold r28; rw [hi]
    isplitl [H3 H4]
    · isplitl [H3]; · iexact H3
      iexact H4
    isplitr [HW]
    · unfold ST HS H1 SA
      rw [if_pos (by omega)]
      icases HA with ⟨HG, HE, HM, HS⟩
      isplitl [HN]; · iexact HN
      isplitl [HP]; · iexact HP
      isplitl [HG HE HM HZ]
      · isplitl [HG]; · iexact HG
        isplitl [HE]; · iexact HE
        isplitl [HM]; · iexact HM
        iexact HZ
      isplitl [HS]; · iexact HS
      isplitl [HB]
      · unfold BQR; icases HB with ⟨%v, HB, -⟩; iexists v; iexact HB
      iexact HO
    iexact HW
  · have hb0 : b ≠ 0 := fun h => h1 ((cond1_iff i).mpr (hi.trans h))
    rw [dif_neg h1]
    unfold ENT
    rw [if_neg hb0, if_pos hb]
    unfold ST
    iintro ⟨HI, ⟨HR, HP, HS⟩, HW⟩
    iapply (part28_tail hg he ho hm hst hbq hp1 hpb hpo hpc h3 h4 h6 h7 h8 h9 h10 (b := b)) $$ [HP HW]
    · isplitl [HP]; · iexact HP
      iexact HW
    iintro ⟨HP, HW⟩
    iapply wp_done
    isplitr; · ipureintro; unfold r28; rw [hi]
    isplitl [HI]; · iexact HI
    isplitr [HW]
    · isplitl [HR]; · iexact HR
      isplitl [HP]; · iexact HP
      iexact HS
    iexact HW

theorem part43_ok {i : grid0.Coords} {b : ℕ} (hi : (i 0).val = b) {v0 v1 v7 arg0 : BitVec 32} {v6 : BitVec 1} {v825 v827 v830}
    (hv : (v825, v827, v830) = ch1 (G1 gX eX qX sX b)) (h7' : v7 = BitVec.ofNat 32 (min (b + 1) 21)) :
    iprop(IN d qX sX a3 a4 ∗ ST d gX eX qX sX b ∗ CE d poM ∗ CE d pbM)
      ⊢ WP d (k0_part43 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830)
        (fun r => iprop(⌜r = ⟨QS sX (b + 1), G2 gX eX qX sX b, io, iota .tc S16x128 32 [1] iota_S16x128_d1_w32⟩⌝ ∗ IN d qX sX a3 a4
          ∗ HB d gX eX qX sX b 28 ∗ RS d gX eX (35 * b) (35 * b + 35) ∗ CE d poM ∗ CN d pbM (fun c => PB gX eX qX sX (35 * b + c)) 35)) := by
  have hb : b < 22 := hi ▸ off102_eq' i
  have hq : ∀ sX' : Vec F S16x22 .f32, k0_pay212 v7 sX' = QS sX' (b + 1) := fun _ => by unfold QS; rw [h7']
  simp only [k0_part43_eq_skeleton, k0_part43_skel, Prog.bind_lift, Prog.bind_op, Prog.pure_eq_ret, Prog.bind_ret, Prog.bind_assoc]
  unfold ST IN
  iintro ⟨⟨H3, H4⟩, ⟨HR, HP, HZ, HF, ⟨%v, HB⟩, HO⟩, HPO, HPB⟩
  ihave HPO := (cn_start (fun c => PO gX eX qX sX (35 * b + c))) $$ HPO
  ihave HPB := (cn_start (fun c => PB gX eX qX sX (35 * b + c))) $$ HPB
  iapply (wp_loop (fun u _ => iprop(CP1 d gX eX qX sX b ∗ CN d poM (fun c => PO gX eX qX sX (35 * b + c)) u)) 35 t4_trips
    (fun t acc => t4_step hg he ho hm hst hbq hp1 hpb hpo hpc h3 h4 h6 h7 h8 h9 h10 hv t acc)) $$ [HP HPO]
  · isplitl [HP]; · iexact HP
    iexact HPO
  iintro %acc ⟨HP, HPO⟩
  ihave HP := (cn_end (M := p1M)) $$ HP
  ihave HP := (pn_start (gX := gX) (eX := eX) (qX := qX) (sX := sX) (35 * (b + 1))) $$ HP
  iapply (wp_lds (M := a3)) $$ H3
  iintro H3
  iapply (wp_ld (M := bqM) bqOff_inb rfl) $$ HB
  iintro HB
  iapply (wp_st (M := bqM) bqOff_inb rfl) $$ HB
  iintro HB
  iapply (wp_ld (M := a4) fstOff_inb rfl) $$ H4
  iintro H4
  iapply (wp_loop (fun u acc => T5 d gX eX qX sX b u acc) 7 t5_trips
    (fun t acc => t5_step hg he ho hm hst hbq hp1 hpb hpo hpc h3 h4 h6 h7 h8 h9 h10 hi (fun _ => hq _) t acc)) $$ [HR HP HZ HF HB HO HPO]
  · unfold T5 HB NX BQR
    isplitr; · ipureintro; rfl
    isplitr [HR HPO]
    · isplitl [HZ]; · iexact HZ
      isplitl [HF]; · iexact HF
      isplitr; · rw [fam_empty _ (show 35 * (b + 1) + 2 * 0 ≤ 35 * (b + 1) by omega)]; iempintro
      isplitl [HP]; · iexact HP
      isplitl [HB]
      · iexists k0_pay211 (fun x => qX ((Rect.unit (s := S22x16x1536) (k0_off18 i) S1x16x1536.size (k0_off18_inb i)).emb x))
        isplitl [HB]; · iexact HB
        ipureintro; intro _; exact congrArg k0_pay211 (qblk_at ((k0_off18_eq i).trans (by rw [hi])))
      iexact HO
    isplitl [HR]; · iexact HR
    iexact HPO
  iintro %acc HT
  unfold T5
  icases HT with ⟨%hacc, HH, HR, HPO⟩
  iapply (wp_loop (fun u _ => T6 d gX eX qX sX b u) 7 t6_trips
    (fun t acc => t6_step hg he ho hm hst hbq hp1 hpb hpo hpc h3 h4 h6 h7 h8 h9 h10 hi hacc (fun _ => hq _) t acc)) $$ [HR HH HPB]
  · unfold T6
    isplitl [HH]; · iexact HH
    isplitl [HR]; · iexact HR
    iexact HPB
  iintro %acc' HT
  unfold T6
  icases HT with ⟨HH, HR, HPB⟩
  iapply (wp_loop (fun u acc => iprop(⌜acc = foldN (fun c a => k0_pay219 a (PB gX eX qX sX (35 * b + c))) k0_pay218 u⌝ ∗ CN d pbM (fun c => PB gX eX qX sX (35 * b + c)) 35)) 35 t7_trips
    (fun t acc => t7_step hg he ho hm hst hbq hp1 hpb hpo hpc h3 h4 h6 h7 h8 h9 h10 t acc)) $$ [HPB]
  · isplitr; · ipureintro; rfl
    iexact HPB
  iintro %acc'' ⟨%h'', HPB⟩
  iapply wp_done
  ihave HPO := (cn_end (M := poM)) $$ HPO
  isplitr; · ipureintro; rw [h'', hq]; rfl
  isplitl [H3 H4]
  · isplitl [H3]; · iexact H3
    iexact H4
  isplitl [HH]; · iexact HH
  isplitl [HR]; · iexact HR
  isplitl [HPO]; · iexact HPO
  iexact HPB

theorem part58_ok {i : grid0.Coords} {b : ℕ} {v860} (h860 : v860 = io) {v1633 v1641 v1649 v1651 v1653 v1654}
    (hv : (v1633, v1641, v1649, v1651, v1653, v1654) = C2 gX eX qX sX b) :
    iprop(CN d pbM (fun c => PB gX eX qX sX (35 * b + c)) 35 ∗ CE d pcM ∗ LE d a7)
      ⊢ WP d (k0_part58 i gM hg eM he a3 h3 a4 h4 oM ho a6 h6 a7 h7 a8 h8 a9 h9 a10 h10 mM hm stM hst bqM hbq p1M hp1 pbM hpb poM hpo pcM hpc cc0_scratch7 cc0_scratch8 cc0_scratch9 v860 v1633 v1641 v1649 v1651 v1653 v1654)
        (fun r => iprop(⌜r = ⟨PSc gX eX qX sX b, k0_pay415, 0#32⟩⌝ ∗ CE d pbM ∗ CN d pcM (fun c => PCF gX eX qX sX (35 * b + c)) 35
          ∗ WN d a7 (fun c => PCI gX eX qX sX (35 * b + c)) 35)) := by
  simp only [k0_part58_eq_skeleton, k0_part58_skel, Prog.bind_lift, Prog.bind_op, Prog.pure_eq_ret, Prog.bind_ret, Prog.bind_assoc]
  iintro ⟨HPB, HPC, HW⟩
  ihave HPC := (cn_start (fun c => PCF gX eX qX sX (35 * b + c))) $$ HPC
  ihave HW := (wn_start (fun c => PCI gX eX qX sX (35 * b + c))) $$ HW
  iapply (wp_loop (fun u acc => iprop(⌜acc = foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 u⌝ ∗ C8 d gX eX qX sX b u)) 35 t8_trips
    (fun t acc => t8_step hg he ho hm hst hbq hp1 hpb hpo hpc h3 h4 h6 h7 h8 h9 h10 h860 hv t acc)) $$ [HPB]
  · isplitr; · ipureintro; rfl
    unfold C8 CN
    rw [fam_empty (fun c => cPc d pbM c (PX gX eX qX sX (35 * b + c))) (Nat.le_refl 0)]
    icases HPB with ⟨HPB, -⟩
    isplitr; · iempintro
    iexact HPB
  iintro %acc ⟨%hacc, HC⟩
  have e : C8 d gX eX qX sX b 35 ⊢ CN d pbM (fun c => PX gX eX qX sX (35 * b + c)) 35 := by
    unfold C8 CN
    rw [fam_empty (fun c => cPc d pbM c (PB gX eX qX sX (35 * b + c))) (Nat.le_refl 35), fam_empty (fun c => iprop(∃ v, cPc d pbM c v)) (Nat.le_refl 35)]
  ihave HC := e $$ HC
  iapply (wp_loop (fun u _ => iprop(CN d pbM (fun c => PX gX eX qX sX (35 * b + c)) 35 ∗ CN d pcM (fun c => PCF gX eX qX sX (35 * b + c)) u ∗ WN d a7 (fun c => PCI gX eX qX sX (35 * b + c)) u)) 35 t9_trips
    (fun t acc => t9_step hg he ho hm hst hbq hp1 hpb hpo hpc h3 h4 h6 h7 h8 h9 h10 hacc t acc)) $$ [HC HPC HW]
  · isplitl [HC]; · iexact HC
    isplitl [HPC]; · iexact HPC
    iexact HW
  iintro %acc' ⟨HC, HPC, HW⟩
  iapply wp_done
  ihave HC := (cn_end (M := pbM)) $$ HC
  isplitr; · ipureintro; rw [hacc]; rfl
  isplitl [HC]; · iexact HC
  isplitl [HPC]; · iexact HPC
  iexact HW

abbrev qncOff_inb : ∀ a, (![0, 0, 0] : Fin 3 → ℕ) a + S1x16x1536.size a ≤ S1x16x1536.size a := by decide
abbrev nPc (M : Memref sig .tc .vmem S1x16x1536 .i8) (v : Vec F S1x16x1536 .i8) : sProp 𝕄 := owns (d : Thread nD τ) (pc M ![0, 0, 0] S1x16x1536.size qncOff_inb) fullShare v

theorem cond22_iff : ∀ i : grid0.Coords, Scalar.cmpi .ne (Scalar.extui (Scalar.cmpi .eq (BitVec.ofNat 32 (i 0).val) 0#32)) 0#32 = 1#1 ↔ (i 0).val = 0 := by decide +kernel

theorem part59_ok {i : grid0.Coords} {b : ℕ} (hi : (i 0).val = b) {v0 v1 arg0 c : BitVec 32} {v6 : BitVec 1} {v851 v1693 v1695} (h0 : arg0 = BitVec.ofNat 32 b)
    (hq : v851 = QS sX (b + 1)) (hS : v1693 = PSc gX eX qX sX b) (h1695 : v1695 = k0_pay415) :
    iprop(HB d gX eX qX sX b 28 ∗ RS d gX eX (35 * b) (35 * b + 35) ∗ CN d pcM (fun c => PCF gX eX qX sX (35 * b + c)) 35 ∗ (∃ v, nPc (d := d) a9 v)
        ∗ (∃ v, wPc (d := d) a8 v ∗ ⌜0 < b → v = PSO gX eX qX sX b⌝) ∗ (∃ v, wPc (d := d) a10 v ∗ ⌜0 < b → v = QNO gX eX qX sX b⌝))
      ⊢ WP d (k0_part59 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v851 v1693 v1695 c)
        (fun r => iprop(⌜r = ⟨QNS gX eX qX sX b, QNF gX eX qX sX b, k0_pay424 (BitVec.ofNat 32 b)⟩⌝ ∗ HB d gX eX qX sX b 35 ∗ RS d gX eX (35 * b) (35 * b + 35)
          ∗ CN d pcM (fun c => PCF gX eX qX sX (35 * b + c)) 35 ∗ nPc (d := d) a9 (QNC gX eX qX sX b) ∗ wPc (d := d) a8 (PSO gX eX qX sX (b + 1))
          ∗ wPc (d := d) a10 (QNO gX eX qX sX b))) := by
  have hb : b < 22 := hi ▸ off102_eq' i
  simp only [k0_part59_eq_skeleton, k0_part59_skel, Prog.bind_lift, Prog.bind_op, Prog.pure_eq_ret, Prog.bind_ret, Prog.bind_assoc]
  iintro ⟨HH, HR, HPC, ⟨%u9, H9⟩, ⟨%u8, H8, %e8⟩, ⟨%u10, H10, %e10⟩⟩
  iapply (wp_loop (fun u acc => T10 d gX eX qX sX b u acc) 7 t10_trips
    (fun t acc => t10_step hg he ho hm hst hbq hp1 hpb hpo hpc h3 h4 h6 h7 h8 h9 h10 hi (fun _ => hq) t acc)) $$ [HH HR HPC]
  · unfold T10
    isplitr; · ipureintro; rw [h1695]; rfl
    isplitl [HH]; · iexact HH
    isplitl [HR]; · iexact HR
    iexact HPC
  iintro %acc HT
  unfold T10
  icases HT with ⟨%hacc, HH, HR, HPC⟩
  have hQN : acc = QN gX eX qX sX b := hacc
  subst hS hQN
  iapply (wp_ld (M := a9) qncOff_inb rfl) $$ H9
  iintro H9
  iapply (wp_st (M := a9) qncOff_inb rfl) $$ H9
  iintro H9
  subst h0
  by_cases hz : b = 0
  · have h22 := (cond22_iff i).mpr (hi.trans hz)
    rw [hi] at h22
    simp only [dif_pos h22]
    iapply (wp_ld (M := a8) fstOff_inb rfl) $$ H8
    iintro H8
    iapply (wp_st (M := a8) fstOff_inb rfl) $$ H8
    iintro H8
    iapply (wp_ld (M := a10) fstOff_inb rfl) $$ H10
    iintro H10
    iapply (wp_st (M := a10) fstOff_inb rfl) $$ H10
    iintro H10
    iapply (wp_ld (M := a8) fstOff_inb rfl) $$ H8
    iintro H8
    iapply (wp_ld (M := a8) fstOff_inb rfl) $$ H8
    iintro H8
    iapply (wp_st (M := a8) fstOff_inb rfl) $$ H8
    iintro H8
    iapply wp_done
    subst hz
    isplitr; · ipureintro; rfl
    isplitl [HH]; · iexact HH
    isplitl [HR]; · iexact HR
    isplitl [HPC]; · iexact HPC
    isplitl [H9]; · iexact H9
    isplitl [H8]; · iexact H8
    iexact H10
  · have h22 := mt (cond22_iff i).mp (fun h => hz (hi.symm.trans h))
    rw [hi] at h22
    simp only [dif_neg h22]
    obtain rfl := e8 (by omega)
    obtain rfl := e10 (by omega)
    iapply (wp_ld (M := a8) fstOff_inb rfl) $$ H8
    iintro H8
    iapply (wp_ld (M := a8) fstOff_inb rfl) $$ H8
    iintro H8
    iapply (wp_st (M := a8) fstOff_inb rfl) $$ H8
    iintro H8
    iapply wp_done
    isplitr; · ipureintro; rfl
    isplitl [HH]; · iexact HH
    isplitl [HR]; · iexact HR
    isplitl [HPC]; · iexact HPC
    isplitl [H9]; · iexact H9
    isplitl [H8]; · iexact H8
    iexact H10

end Parts

end Cert.Kernel.Hand
-- ==== Proof.KernelLoop10.lean ====
/-
  The body of the kernel at one point, whole.
-/
module

public import proofs.«01_k».proof.Proof.KernelLoop9

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

variable (d gX eX qX sX) in
/-- The batch after: its blocks summed, its product taken (past the last batch: whatever they hold). -/
def NB1 (b : ℕ) : sProp 𝕄 :=
  iprop(NX d gX eX (35 * (b + 1)) (35 * (b + 1) + 35) ∗ PN d gX eX qX sX (35 * (b + 1)) 35 ∗ BQR d qX (b + 1))

theorem MF_of_eq {a b : ℕ} (h : b ≤ a) : ⊢ MF (F := F) d a b := by
  unfold MF; rw [fam_empty _ h]; exact .rfl

/-- After the batch's products the write-back begins. -/
theorem back_begin {b : ℕ} (hb : b < 22) :
    iprop(HB d gX eX qX sX b 35 ∗ RS d gX eX (35 * b) (35 * b + 35) ∗ CN d pcM (fun c => PCF gX eX qX sX (35 * b + c)) 35)
      ⊢ iprop(T11 d gX eX qX sX b 0 ∗ NB1 d gX eX qX sX b) := by
  have hS : iprop(HS d gX eX qX sX b 35 35 ∗ SF d (xs b 35 0) (35 + 6) ∗ OW (d : Thread nD τ)) ⊢ S11 d gX eX qX sX b (xo b 0) (0 - 1) := by
    have hx : xo b 0 = 0 := by unfold xo; split <;> rfl
    have hxs : xs b 35 0 = 35 := by unfold xs; split <;> rfl
    rw [hx, hxs, show 35 + 6 = 41 from rfl, SF_rot]
    unfold HS S11
    by_cases h : b < 21
    · rw [if_pos h, show min (b + 2) 22 = b + 1 + 1 by omega, show min (35 + 6) 35 = 35 by omega]
      unfold H1
      have hw : wo b 35 = 35 * b + 0 := by unfold wo; split <;> omega
      rw [hw]
      iintro ⟨⟨HG, HE, -, HZ⟩, HF, HO⟩
      isplitl [HG]; · iapply (GI_rot (gX := gX) (b + 1)); iexact HG
      isplitl [HE]; · iapply (EI_rot (eX := eX) (b + 1)); iexact HE
      isplitl [HF]; · iexact HF
      isplitl [HZ]; · iexact HZ
      iexact HO
    · obtain rfl : b = 21 := by omega
      rw [if_neg h]
      unfold H2
      iintro ⟨⟨HG, HE, HZ⟩, HF, HO⟩
      isplitl [HG]; · iexact HG
      isplitl [HE]; · iexact HE
      isplitl [HF]; · iexact HF
      isplitl [HZ]; · iexact HZ
      iexact HO
  unfold HB T11 NB1
  rw [fam_empty _ (show 35 * b + 0 ≤ 35 * b + (0 - 1) by omega)]
  iintro ⟨⟨HZ, HF, HN, HP, HB, HO⟩, HR, HPC⟩
  ihave HS := hS $$ [HZ HF HO]
  · isplitl [HZ]; · iexact HZ
    isplitl [HF]; · iexact HF
    iexact HO
  isplitl [HR HPC HS]
  · isplitl [HR]; · iexact HR
    isplitr; · iempintro
    isplitl [HPC]; · iexact HPC
    iexact HS
  isplitl [HN]; · iexact HN
  isplitl [HP]; · iexact HP
  iexact HB

/-- A batch written back but for its flights: the next batch is resident. -/
theorem next_ready {b : ℕ} (hb : b < 21) :
    iprop(S11 d gX eX qX sX b (xo b 35) 35 ∗ NB1 d gX eX qX sX b) ⊢ ST d gX eX qX sX (b + 1) := by
  unfold S11 NB1 ST BQR
  iintro ⟨⟨HG, HE, HF, HZ, HO⟩, HN, HP, ⟨%v, HB, -⟩⟩
  ihave HN := (nx_rs (by omega)) $$ HN
  ihave HP := (pn_cp (by omega)) $$ HP
  isplitl [HN]; · iexact HN
  isplitl [HP]; · iexact HP
  by_cases h : b < 20
  · have hx : xo b 35 = 6 := by unfold xo; rw [if_pos h]; rfl
    have hxs : xs (b + 1) 0 0 = 6 := by unfold xs; rw [if_pos (by omega)]; rfl
    unfold HS
    rw [hxs, if_pos (show b + 1 < 21 by omega), hx, show min (b + 2) 22 = b + 1 + 1 by omega, show min (0 + 6) 35 = 6 by omega]
    unfold H1
    have hw : wo (b + 1) 6 = 35 * b + 6 := by unfold wo; rw [if_neg (by omega)]; omega
    rw [hw, show 35 * b + 35 = 35 * (b + 1) by omega]
    ihave HM := (MF_of_eq (d := d) (a := 35 * (b + 1 + 1) + 6) (b := 35 * b + 6 + 70) (by omega))
    isplitl [HG HE HM HZ]
    · isplitl [HG]; · iexact HG
      isplitl [HE]; · iexact HE
      isplitl [HM]; · iexact HM
      iexact HZ
    isplitl [HF]; · iexact HF
    isplitl [HB]; · iexists v; iexact HB
    iexact HO
  · obtain rfl : b = 20 := by omega
    have hx : xo 20 35 = 0 := rfl
    have hxs : xs (20 + 1) 0 0 = 0 := rfl
    unfold HS
    rw [hxs, if_neg (show ¬ 20 + 1 < 21 by omega), hx]
    unfold H2
    isplitl [HG HE HZ]
    · isplitl [HG]; · iexact HG
      isplitl [HE]; · iexact HE
      iexact HZ
    isplitl [HF]; · iexact HF
    isplitl [HB]; · iexists v; iexact HB
    iexact HO

variable (d gX eX qX sX) in
def FW (j : ℕ) : sProp 𝕄 := iprop(OS d (EV gX eX qX sX) (735 + j) 770 ∗ MF d 805 (805 + j) ∗ OW (d : Thread nD τ))

/-- One of the last waits. -/
theorem last_out {α : Type} {Q : α → sProp 𝕄} {j : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α} {G : sProp 𝕄} (hj : j < 35) (hs : sem = ocell j)
    (h : iprop(FW d gX eX qX sX (j + 1) ∗ G) ⊢ WP d (k ⟨⟩) Q) :
    iprop(FW d gX eX qX sX j ∗ G) ⊢ WP d (.op (.waitDma2 sem srcw ((pc oM offw S1x256x1536.size inbw).squeeze S256x1536 zw) hsrc hdst) k) Q := by
  iintro ⟨H, HG⟩
  unfold FW
  icases H with ⟨HZ, HM, HO⟩
  iapply (o_wait (EV := EV gX eX qX sX) (w := 735 + j) (a := 770) (lo := 805) (by omega) (by omega) (by omega) (hs.trans (ocell_mod (by omega)))) $$ [HZ HM HO]
  · isplitl [HZ]; · iexact HZ
    isplitl [HM]
    · rw [show 735 + j + 70 = 805 + j by omega]; iexact HM
    iexact HO
  iintro ⟨HZ, HM, HO⟩
  iapply h
  isplitr [HG]
  · unfold FW
    isplitl [HZ]; · iexact HZ
    isplitl [HM]
    · rw [show 805 + (j + 1) = 735 + j + 1 + 70 by omega]; iexact HM
    iexact HO
  iexact HG

theorem all_out : iprop(FW d gX eX qX sX 35 ∗ GI d gX (35 * 22) 0 0 ∗ EI d eX (35 * 22) 0 0 ∗ SF d 0 6 ∗ NB1 d gX eX qX sX 21) ⊢ SZ d gX eX qX sX := by
  unfold FW NB1 SZ
  have e : iprop(NX d gX eX (35 * (21 + 1)) (35 * (21 + 1) + 35) ∗ MF d 805 (805 + 35)) ⊢ MF d 770 840 := by
    unfold MF NX
    rw [fam_split (fun n => iprop(∃ v, mPc d n v)) (show 770 ≤ 805 by omega) (show 805 ≤ 840 by omega)]
    iintro ⟨HN, HM⟩
    isplitl [HN]
    · iapply (fam_mono (Φ := fun n => iprop(∃ v, mPc d n v ∗ ⌜n < 770 → v = sumV gX eX n⌝)) (fun n _ _ => by
        iintro ⟨%v, H, -⟩; iexists v; iexact H))
      iexact HN
    iexact HM
  iintro ⟨⟨HZ, HM, HO⟩, HG, HE, HF, HN, HP, HB⟩
  ihave HM := e $$ [HN HM]
  · isplitl [HN]; · iexact HN
    iexact HM
  unfold BQR PN CE
  icases HB with ⟨%v, HB, -⟩
  icases HP with ⟨HP, -⟩
  isplitl [HG]; · iexact HG
  isplitl [HE]; · iexact HE
  isplitl [HF]; · iexact HF
  isplitl [HZ]; · iexact HZ
  isplitl [HM]; · iexact HM
  isplitl [HP]
  · iapply (fam_mono (Φ := fun c => iprop(∃ v, cPc d p1M c v ∗ ⌜35 * (21 + 1) + c < 770 → v = P1 gX eX qX sX (35 * (21 + 1) + c)⌝)) (fun n _ _ => by
      iintro ⟨%v, H, -⟩; iexists v; iexact H))
    iexact HP
  isplitl [HB]; · iexists v; iexact HB
  iexact HO

variable (d gX eX qX sX) in
/-- What the body finds, and what it leaves. -/
def PRE (b : ℕ) (a3 : Memref sig .tc .vmem S22x16x1536 .i8) (a4 : Memref sig .tc .vmem S16x22 .f32) (a6 : Memref sig .tc .vmem S1x16x8960 .f32) (a7 : Memref sig .tc .vmem S1x16x8960 .i8)
    (a8 : Memref sig .tc .vmem S16x22 .f32) (a9 : Memref sig .tc .vmem S1x16x1536 .i8) (a10 : Memref sig .tc .vmem S16x22 .f32) : sProp 𝕄 :=
  iprop(IN d qX sX a3 a4 ∗ ENT d gX eX qX sX b ∗ CE d poM ∗ CE d pbM ∗ CE d pcM ∗ LE d a6 ∗ LE d a7 ∗ (∃ v, nPc (d := d) a9 v)
        ∗ (∃ v, wPc (d := d) a8 v ∗ ⌜0 < b → v = PSO gX eX qX sX b⌝) ∗ (∃ v, wPc (d := d) a10 v ∗ ⌜0 < b → v = QNO gX eX qX sX b⌝))
variable (d gX eX qX sX) in
def POST (b : ℕ) (a3 : Memref sig .tc .vmem S22x16x1536 .i8) (a4 : Memref sig .tc .vmem S16x22 .f32) (a6 : Memref sig .tc .vmem S1x16x8960 .f32) (a7 : Memref sig .tc .vmem S1x16x8960 .i8)
    (a8 : Memref sig .tc .vmem S16x22 .f32) (a9 : Memref sig .tc .vmem S1x16x1536 .i8) (a10 : Memref sig .tc .vmem S16x22 .f32) : sProp 𝕄 :=
  iprop(IN d qX sX a3 a4 ∗ ENT d gX eX qX sX (b + 1) ∗ CE d poM ∗ CE d pbM ∗ CE d pcM ∗ WN d a6 (fun c => k0_pay28 (P1 gX eX qX sX (35 * b + c))) 35
    ∗ WN d a7 (fun c => PCI gX eX qX sX (35 * b + c)) 35 ∗ nPc (d := d) a9 (QNC gX eX qX sX b) ∗ wPc (d := d) a8 (PSO gX eX qX sX (b + 1)) ∗ wPc (d := d) a10 (QNO gX eX qX sX (b + 1)))

variable (d gX eX qX sX) in
/-- What the body has when only the last block's transfer has not begun. -/
def MID (b : ℕ) (a3 : Memref sig .tc .vmem S22x16x1536 .i8) (a4 : Memref sig .tc .vmem S16x22 .f32) (a6 : Memref sig .tc .vmem S1x16x8960 .f32) (a7 : Memref sig .tc .vmem S1x16x8960 .i8)
    (a8 : Memref sig .tc .vmem S16x22 .f32) (a9 : Memref sig .tc .vmem S1x16x1536 .i8) (a10 : Memref sig .tc .vmem S16x22 .f32) : sProp 𝕄 :=
  iprop((IN d qX sX a3 a4 ∗ CE d poM ∗ CE d pbM ∗ CE d pcM ∗ WN d a6 (fun c => k0_pay28 (P1 gX eX qX sX (35 * b + c))) 35
    ∗ WN d a7 (fun c => PCI gX eX qX sX (35 * b + c)) 35 ∗ nPc (d := d) a9 (QNC gX eX qX sX b) ∗ wPc (d := d) a8 (PSO gX eX qX sX (b + 1)) ∗ wPc (d := d) a10 (QNO gX eX qX sX (b + 1)))
    ∗ fam (fun n => mPc d n (EV gX eX qX sX n)) (35 * b + 34) (35 * b + 34 + 1) ∗ S11 d gX eX qX sX b (xo b 35) 34 ∗ NB1 d gX eX qX sX b)

theorem v7_eq : ∀ b : Fin 22, Scalar.minsi (Scalar.addi (BitVec.ofNat 32 b.val) 1#32) 21#32 = BitVec.ofNat 32 (min (b.val + 1) 21) := by decide +kernel

theorem part60_ok {i : grid0.Coords} {b : ℕ} (hi : (i 0).val = b) :
    PRE d gX eX qX sX b a3 a4 a6 a7 a8 a9 a10 ⊢ WP d (k0_part60 i gM hg eM he a3 h3 a4 h4 oM ho a6 h6 a7 h7 a8 h8 a9 h9 a10 h10 mM hm stM hst bqM hbq p1M hp1 pbM hpb poM hpo pcM hpc cc0_scratch7 cc0_scratch8 cc0_scratch9) (fun _ => MID d gX eX qX sX b a3 a4 a6 a7 a8 a9 a10) := by
  have hb : b < 22 := hi ▸ off102_eq' i
  rw [k0_part60_eq_skeleton]
  unfold k0_part60_skel PRE
  iintro ⟨HI, HT, HPO, HPB, HPC, H6, H7, H9, H8, H10⟩
  iapply (wp_part (part28_ok hg he ho hm hst hbq hp1 hpb hpo hpc h3 h4 h6 h7 h8 h9 h10 hi)) $$ [HI HT H6]
  · isplitl [HI]; · iexact HI
    isplitl [HT]; · iexact HT
    iexact H6
  iintro %r ⟨%hr, HI, HT, H6⟩
  subst hr
  simp only [r28, k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel, k0_part40_eq_skeleton, k0_part40_skel,
    k0_part41_eq_skeleton, k0_part41_skel, k0_part42_eq_skeleton, k0_part42_skel, Prog.pure_eq_ret, Prog.bind_ret]
  iapply (wp_part (part43_ok (gX := gX) (eX := eX) (qX := qX) (sX := sX) hg he ho hm hst hbq hp1 hpb hpo hpc h3 h4 h6 h7 h8 h9 h10 hi rfl (v7_eq ⟨b, hb⟩))) $$ [HI HT HPO HPB]
  · isplitl [HI]; · iexact HI
    isplitl [HT]; · iexact HT
    isplitl [HPO]; · iexact HPO
    iexact HPB
  iintro %r ⟨%hr, HI, HH, HR, HPO, HPB⟩
  subst hr
  simp only [k0_part44_eq_skeleton, k0_part44_skel, k0_part45_eq_skeleton, k0_part45_skel, k0_part46_eq_skeleton, k0_part46_skel, k0_part47_eq_skeleton, k0_part47_skel,
    k0_part48_eq_skeleton, k0_part48_skel, k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel, k0_part55_eq_skeleton, k0_part55_skel,
    k0_part56_eq_skeleton, k0_part56_skel, k0_part57_eq_skeleton, k0_part57_skel, Prog.pure_eq_ret, Prog.bind_ret]
  iapply (wp_part (part58_ok (gX := gX) (eX := eX) (qX := qX) (sX := sX) (b := b) hg he ho hm hst hbq hp1 hpb hpo hpc h3 h4 h6 h7 h8 h9 h10 rfl rfl)) $$ [HPB HPC H7]
  · isplitl [HPB]; · iexact HPB
    isplitl [HPC]; · iexact HPC
    iexact H7
  iintro %r ⟨%hr, HPB, HPC, H7⟩
  subst hr
  simp only []
  iapply (wp_part (part59_ok hg he ho hm hst hbq hp1 hpb hpo hpc h3 h4 h6 h7 h8 h9 h10 hi rfl rfl rfl rfl)) $$ [HH HR HPC H9 H8 H10]
  · isplitl [HH]; · iexact HH
    isplitl [HR]; · iexact HR
    isplitl [HPC]; · iexact HPC
    isplitl [H9]; · iexact H9
    isplitl [H8]; · iexact H8
    iexact H10
  iintro %r ⟨%hr, HH, HR, HPC, H9, H8, H10⟩
  subst hr
  simp only [Prog.bind_lift, Prog.bind_op, Prog.pure_eq_ret, Prog.bind_ret]
  iapply (wp_ld (M := a10) fstOff_inb rfl) $$ H10
  iintro H10
  iapply (wp_ld (M := a10) fstOff_inb rfl) $$ H10
  iintro H10
  iapply (wp_st (M := a10) fstOff_inb rfl) $$ H10
  iintro H10
  icases (back_begin hb) $$ [HH HR HPC] with ⟨HT, HN⟩
  · isplitl [HH]; · iexact HH
    isplitl [HR]; · iexact HR
    iexact HPC
  iapply (wp_loop (fun u _ => T11 d gX eX qX sX b u) 35 t11_trips
    (fun t acc => t11_step hg he ho hm hst hbq hp1 hpb hpo hpc h3 h4 h6 h7 h8 h9 h10 hi rfl rfl rfl t acc)) $$ HT
  iintro %acc HT
  iapply wp_done
  unfold T11 MID
  icases HT with ⟨-, HM, HPC, HS⟩
  ihave HPC := (cn_end (M := pcM)) $$ HPC
  isplitr [HM HS HN]
  · isplitl [HI]; · iexact HI
    isplitl [HPO]; · iexact HPO
    isplitl [HPB]; · iexact HPB
    isplitl [HPC]; · iexact HPC
    isplitl [H6]; · iexact H6
    isplitl [H7]; · iexact H7
    isplitl [H9]; · iexact H9
    isplitl [H8]; · iexact H8
    iexact H10
  isplitl [HM]; · iexact HM
  isplitl [HS]; · iexact HS
  iexact HN

theorem body_ok {i : grid0.Coords} {b : ℕ} (hi : (i 0).val = b) :
    PRE d gX eX qX sX b a3 a4 a6 a7 a8 a9 a10
      ⊢ WP d (cc0_powersgd i gM hg eM he a3 h3 a4 h4 oM ho a6 h6 a7 h7 a8 h8 a9 h9 a10 h10 mM hm stM hst bqM hbq p1M hp1 pbM hpb poM hpo pcM hpc cc0_scratch7 cc0_scratch8 cc0_scratch9) (fun _ => POST d gX eX qX sX b a3 a4 a6 a7 a8 a9 a10) := by
  have hb : b < 22 := hi ▸ off102_eq' i
  rw [cc0_powersgd_eq_skeleton]
  unfold cc0_powersgd_skel
  iintro HI
  iapply (wp_part (part60_ok hg he ho hm hst hbq hp1 hpb hpo hpc h3 h4 h6 h7 h8 h9 h10 hi)) $$ HI
  iintro %r HM
  unfold MID
  icases HM with ⟨HI, HM, HS, HN⟩
  simp only [Prog.bind_lift, Prog.bind_op, Prog.pure_eq_ret, Prog.bind_ret]
  iapply (back_start (b := b) (x := xo b 35) (c := 34) hb (by omega) (by unfold xo; split <;> omega)
    ((k0_off105_eq i).trans (moff_at (by omega) (by rw [hi]) rfl)) ((k0_off104_eq i).trans (ooff_at (by omega) (by rw [hi]; omega) rfl))
    ((ocell_eq (c := 34) rfl).trans (ocell_mod (by omega)))) $$ [HS HM]
  · isplitl [HS]; · iexact HS
    iexact HM
  iintro HS
  have fin : iprop((IN d qX sX a3 a4 ∗ CE d poM ∗ CE d pbM ∗ CE d pcM ∗ WN d a6 (fun c => k0_pay28 (P1 gX eX qX sX (35 * b + c))) 35
    ∗ WN d a7 (fun c => PCI gX eX qX sX (35 * b + c)) 35 ∗ nPc (d := d) a9 (QNC gX eX qX sX b) ∗ wPc (d := d) a8 (PSO gX eX qX sX (b + 1)) ∗ wPc (d := d) a10 (QNO gX eX qX sX (b + 1)))
      ∗ ENT d gX eX qX sX (b + 1)) ⊢ POST d gX eX qX sX b a3 a4 a6 a7 a8 a9 a10 := by
    unfold POST
    iintro ⟨⟨HI, HK⟩, HE⟩
    isplitl [HI]; · iexact HI
    isplitl [HE]; · iexact HE
    iexact HK
  by_cases h25 : k0_cond25 i = 1#1
  · have h := (cond25_iff i).mp h25
    obtain rfl : b = 21 := hi.symm.trans h
    rw [dif_pos h25]
    simp only [k0_part20_eq_skeleton, k0_part20_skel, k0_part21_eq_skeleton, k0_part21_skel, k0_part22_eq_skeleton, k0_part22_skel, k0_part23_eq_skeleton, k0_part23_skel,
      k0_part24_eq_skeleton, k0_part24_skel, k0_part25_eq_skeleton, k0_part25_skel, k0_part26_eq_skeleton, k0_part26_skel, k0_part27_eq_skeleton, k0_part27_skel,
      Prog.bind_lift, Prog.bind_op, Prog.pure_eq_ret, Prog.bind_ret, Prog.bind_assoc]
    have e : iprop((IN d qX sX a3 a4 ∗ CE d poM ∗ CE d pbM ∗ CE d pcM ∗ WN d a6 (fun c => k0_pay28 (P1 gX eX qX sX (35 * 21 + c))) 35
      ∗ WN d a7 (fun c => PCI gX eX qX sX (35 * 21 + c)) 35 ∗ nPc (d := d) a9 (QNC gX eX qX sX 21) ∗ wPc (d := d) a8 (PSO gX eX qX sX (21 + 1)) ∗ wPc (d := d) a10 (QNO gX eX qX sX (21 + 1)))
        ∗ S11 d gX eX qX sX 21 (xo 21 35) (34 + 1) ∗ NB1 d gX eX qX sX 21)
      ⊢ iprop(FW d gX eX qX sX 0 ∗ (IN d qX sX a3 a4 ∗ CE d poM ∗ CE d pbM ∗ CE d pcM ∗ WN d a6 (fun c => k0_pay28 (P1 gX eX qX sX (35 * 21 + c))) 35
        ∗ WN d a7 (fun c => PCI gX eX qX sX (35 * 21 + c)) 35 ∗ nPc (d := d) a9 (QNC gX eX qX sX 21) ∗ wPc (d := d) a8 (PSO gX eX qX sX (21 + 1)) ∗ wPc (d := d) a10 (QNO gX eX qX sX (21 + 1)))
        ∗ GI d gX (35 * 22) 0 0 ∗ EI d eX (35 * 22) 0 0 ∗ SF d 0 6 ∗ NB1 d gX eX qX sX 21) := by
      unfold S11 FW
      rw [show xo 21 35 = 0 from rfl]
      ihave HM := (MF_of_eq (d := d) (a := 805) (b := 805 + 0) (by omega))
      iintro ⟨HI, ⟨HG, HE, HF, HZ, HO⟩, HN⟩
      isplitl [HZ HM HO]
      · isplitl [HZ]; · iexact HZ
        isplitl [HM]; · iexact HM
        iexact HO
      isplitl [HI]; · iexact HI
      isplitl [HG]; · iexact HG
      isplitl [HE]; · iexact HE
      isplitl [HF]; · iexact HF
      iexact HN
    iapply (e.trans ?_) $$ [HI HS HN]
    rotate_left
    · isplitl [HI]; · iexact HI
      isplitl [HS]; · iexact HS
      iexact HN
    iterate 35 refine last_out (by decide) (ocell_eq (by decide)) ?_
    refine BI.BIBase.Entails.trans ?_ (wp_done _)
    iintro ⟨HW, HI, HG, HE, HF, HN⟩
    iapply fin
    isplitl [HI]; · iexact HI
    unfold ENT
    rw [if_neg (by omega), if_neg (by omega)]
    iapply all_out
    isplitl [HW]; · iexact HW
    isplitl [HG]; · iexact HG
    isplitl [HE]; · iexact HE
    isplitl [HF]; · iexact HF
    iexact HN
  · have h : b < 21 := by have := mt (cond25_iff i).mpr h25; omega
    rw [dif_neg h25]
    iapply wp_done
    iapply fin
    isplitl [HI]; · iexact HI
    unfold ENT
    rw [if_neg (by omega), if_pos (by omega)]
    iapply (next_ready h)
    isplitl [HS]; · iexact HS
    iexact HN

end Body

end Cert.Kernel.Hand
-- ==== Proof.Pieces.lean ====
/-
  A memref cut into rectangles that cover it and do not meet: owning it is owning every rectangle.
-/
module

public import proofs.«01_k».proof.Proof.Steps

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section
variable {nD : Nat} {τ : Topo} {sig : RefSig} {Val : EltTy → Type} [∀ e, Nonempty (Val e)]
variable {Ix : Type} [DecidableEq Ix] {Name : Type} [DecidableEq Name] {U : Type} [URA U] {Lvl : Type}

local notation "𝕄" => MT nD τ sig Ix Val Name U Lvl

/-- The `n` rectangles of size `sz` at the offsets `off k` cover the shape, each element once. -/
structure Tiles (s : Shape) (n : ℕ) (off : ℕ → Fin s.rank → ℕ) (sz : Fin s.rank → ℕ) (inb : ∀ k a, off k a + sz a ≤ s.size a) : Prop where
  cov : ∀ x : s.Idx, ∃ k, k < n ∧ ∃ y, (Rect.unit (s := s) (off k) sz (inb k)).emb y = x
  dis : ∀ k k', k < n → k' < n → ∀ y y', (Rect.unit (s := s) (off k) sz (inb k)).emb y = (Rect.unit (s := s) (off k') sz (inb k')).emb y' → k = k'

variable {sp : Space} {s : Shape} {e : EltTy} {n : ℕ} {off : ℕ → Fin s.rank → ℕ} {sz : Fin s.rank → ℕ} {inb : ∀ k a, off k a + sz a ≤ s.size a}

theorem Tiles.union (h : Tiles s n off sz inb) {κ : Kind} (M : Memref sig κ sp s e) :
    (Finset.Ico 0 n).biUnion (fun k => (pc M (off k) sz (inb k)).view.set) = M.view.set := by
  ext i
  simp only [Finset.mem_biUnion, Finset.mem_Ico]
  constructor
  · rintro ⟨k, hk, hi⟩
    exact View.set_slice_subset _ _ hi
  · intro hi
    obtain ⟨x, -, rfl⟩ := Finset.mem_map.mp hi
    obtain ⟨k, hk, y, rfl⟩ := h.cov x
    exact ⟨k, ⟨Nat.zero_le _, hk⟩, View.emb_mem_set (pc M (off k) sz (inb k)).view y⟩

theorem Tiles.disjoint (h : Tiles s n off sz inb) {κ : Kind} (M : Memref sig κ sp s e) :
    ∀ k ∈ Finset.Ico 0 n, ∀ k' ∈ Finset.Ico 0 n, k ≠ k' → Disjoint (pc M (off k) sz (inb k)).view.set (pc M (off k') sz (inb k')).view.set := by
  intro k hk k' hk' hne
  rw [Finset.disjoint_left]
  intro i hi hi'
  obtain ⟨y, -, hy⟩ := Finset.mem_map.mp hi
  obtain ⟨y', -, hy'⟩ := Finset.mem_map.mp hi'
  exact hne (h.dis k k' (Finset.mem_Ico.mp hk).2 (Finset.mem_Ico.mp hk').2 y y' (M.view.emb.injective (hy.trans hy'.symm)))

/-- Owning a memref gives every rectangle at its part of the contents. -/
theorem owns_split (h : Tiles s n off sz inb) (c : Thread nD τ) (M : Memref sig c.2.kind sp s e) (q : PosShare TreeShare) (X : s.Idx → Val e) :
    (owns c M q X : sProp 𝕄) ⊢ fam (fun k => owns c (pc M (off k) sz (inb k)) q (fun y => X ((Rect.unit (s := s) (off k) sz (inb k)).emb y))) 0 n := by
  unfold owns
  iintro ⟨%f, %hf, H⟩
  subst hf
  have e₁ : (M.view.loc c ↦[M.view.set]{q} f : sProp 𝕄)
      = bigSep (Finset.Ico 0 n) fun k => M.view.loc c ↦[(pc M (off k) sz (inb k)).view.set]{q} f := by
    rw [← pointsTo_biUnion (ℓ := M.view.loc c) (Finset.Ico 0 n) (fun k => (pc M (off k) sz (inb k)).view.set) (h.disjoint M)]
    rw [h.union M]
  have e₂ : (M.view.loc c ↦[M.view.set]{q} f : sProp 𝕄) ⊢ bigSep (Finset.Ico 0 n) fun k => M.view.loc c ↦[(pc M (off k) sz (inb k)).view.set]{q} f := by
    rw [e₁]
  have e₃ : ∀ k, (M.view.loc c ↦[(pc M (off k) sz (inb k)).view.set]{q} f : sProp 𝕄)
      ⊢ iprop(∃ g, ⌜(pc M (off k) sz (inb k)).view.read Val g = fun y => M.view.read Val f ((Rect.unit (s := s) (off k) sz (inb k)).emb y)⌝
          ∗ ((pc M (off k) sz (inb k)).view.loc c ↦[(pc M (off k) sz (inb k)).view.set]{q} g)) := fun k => by
    iintro H
    iexists f
    isplitr; · ipureintro; rfl
    iexact H
  have e₄ := e₂.trans (bigSep_mono (s := Finset.Ico 0 n) (fun k _ => e₃ k))
  unfold fam
  iapply e₄ $$ H

/-- Owning every rectangle gives the memref at contents that read back each rectangle's. -/
theorem owns_join (h : Tiles s n off sz inb) (c : Thread nD τ) (M : Memref sig c.2.kind sp s e) (q : PosShare TreeShare)
    (V : (k : ℕ) → (Rect.unit (s := s) (off k) sz (inb k)).shape.Idx → Val e) :
    fam (fun k => owns c (pc M (off k) sz (inb k)) q (V k)) 0 n
      ⊢ (iprop(∃ X, ⌜∀ k, k < n → ∀ y, X ((Rect.unit (s := s) (off k) sz (inb k)).emb y) = V k y⌝ ∗ owns c M q X) : sProp 𝕄) := by
  have hne : Nonempty (Buf Val (M.view.loc c)) := ⟨fun _ => Classical.arbitrary _⟩
  unfold fam owns
  refine (Idealize.SL.BI.bigSep_exists_pi (Finset.Ico 0 n) _).trans ?_
  iintro ⟨%fs, H⟩
  have e₁ : (bigSep (Finset.Ico 0 n) fun k => (iprop(⌜(pc M (off k) sz (inb k)).view.read Val (fs k) = V k⌝
        ∗ ((pc M (off k) sz (inb k)).view.loc c ↦[(pc M (off k) sz (inb k)).view.set]{q} fs k)) : sProp 𝕄))
      ⊢ iprop(⌜∀ k ∈ Finset.Ico 0 n, (pc M (off k) sz (inb k)).view.read Val (fs k) = V k⌝ ∗ bigSep (Finset.Ico 0 n) fun k => (M.view.loc c ↦[(pc M (off k) sz (inb k)).view.set]{q} fs k)) :=
    bigSep_pure_sep _ _ _
  ihave H := e₁ $$ H
  icases H with ⟨%hV, H⟩
  ihave H := (pointsTo_biUnion_join (ℓ := M.view.loc c) (Finset.Ico 0 n) (fun k => (pc M (off k) sz (inb k)).view.set) fs (Classical.choice hne) (h.disjoint M)) $$ H
  icases H with ⟨%g, %hg, H⟩
  rw [h.union M]
  iexists M.view.read Val g
  isplitr
  · ipureintro
    intro k hk y
    have hk' : k ∈ Finset.Ico 0 n := Finset.mem_Ico.mpr ⟨Nat.zero_le _, hk⟩
    rw [← hV k hk']
    exact congrArg _ (hg k hk' _ (View.emb_mem_set (pc M (off k) sz (inb k)).view y))
  iexists g
  isplitr; · ipureintro; rfl
  iexact H

/-- The same with the contents not named. -/
theorem owns_join_exists (h : Tiles s n off sz inb) (c : Thread nD τ) (M : Memref sig c.2.kind sp s e) (q : PosShare TreeShare) :
    fam (fun k => iprop(∃ v, owns c (pc M (off k) sz (inb k)) q v)) 0 n ⊢ (iprop(∃ X, owns c M q X) : sProp 𝕄) := by
  have : ∀ k, Nonempty ((Rect.unit (s := s) (off k) sz (inb k)).shape.Idx → Val e) := fun k => ⟨fun _ => Classical.arbitrary _⟩
  unfold fam
  refine (Idealize.SL.BI.bigSep_exists_pi (Finset.Ico 0 n) _).trans ?_
  iintro ⟨%V, H⟩
  iapply (show bigSep (Finset.Ico 0 n) (fun k => owns c (pc M (off k) sz (inb k)) q (V k)) ⊢ (iprop(∃ X, owns c M q X) : sProp 𝕄) from
    (owns_join h c M q V).trans (by iintro ⟨%X, -, H⟩; iexists X; iexact H)) $$ H

/-- Tiles from the bounds alone. -/
theorem Tiles.of (h₁ : ∀ x : s.Idx, ∃ k, k < n ∧ ∀ a, off k a ≤ (x a).val ∧ (x a).val < off k a + sz a)
    (h₂ : ∀ k k', k < n → k' < n → ∀ x : s.Idx, (∀ a, off k a ≤ (x a).val ∧ (x a).val < off k a + sz a) →
      (∀ a, off k' a ≤ (x a).val ∧ (x a).val < off k' a + sz a) → k = k') : Tiles s n off sz inb where
  cov x := by
    obtain ⟨k, hk, h⟩ := h₁ x
    refine ⟨k, hk, fun a => ⟨(x a).val - off k a, by have := h a; show _ < sz a; omega⟩, ?_⟩
    funext a; apply Fin.ext
    rw [Rect.emb_apply]
    show off k a + 1 * ((x a).val - off k a) = (x a).val
    have := h a; omega
  dis k k' hk hk' y y' e := by
    refine h₂ k k' hk hk' ((Rect.unit (s := s) (off k) sz (inb k)).emb y) (fun a => ?_) (fun a => ?_)
    · rw [Rect.emb_apply]
      have := (y a).isLt
      show off k a ≤ off k a + 1 * (y a).val ∧ off k a + 1 * (y a).val < off k a + sz a
      have h' : (y a).val < sz a := this
      omega
    · rw [e, Rect.emb_apply]
      have h' : (y' a).val < sz a := (y' a).isLt
      show off k' a ≤ off k' a + 1 * (y' a).val ∧ off k' a + 1 * (y' a).val < off k' a + sz a
      omega

/-- The contents whose parts are given. -/
def Tiles.asm (h : Tiles s n off sz inb) {α : Type} (V : (k : ℕ) → (Rect.unit (s := s) (off k) sz (inb k)).shape.Idx → α) : s.Idx → α :=
  fun x => V (h.cov x).choose (h.cov x).choose_spec.2.choose

theorem Tiles.same (h : Tiles s n off sz inb) {α : Type} (V : (k : ℕ) → (Rect.unit (s := s) (off k) sz (inb k)).shape.Idx → α)
    {k k' : ℕ} (hk' : k' < n) (hk : k < n) (y' y) (e : (Rect.unit (s := s) (off k') sz (inb k')).emb y' = (Rect.unit (s := s) (off k) sz (inb k)).emb y) :
    V k' y' = V k y := by
  have hkk : k' = k := h.dis k' k hk' hk y' y e
  subst hkk
  rw [(Rect.unit (s := s) (off k') sz (inb k')).emb.injective e]

theorem Tiles.asm_emb (h : Tiles s n off sz inb) {α : Type} (V : (k : ℕ) → (Rect.unit (s := s) (off k) sz (inb k)).shape.Idx → α)
    {k : ℕ} (hk : k < n) (y) : h.asm V ((Rect.unit (s := s) (off k) sz (inb k)).emb y) = V k y := by
  have e := (h.cov ((Rect.unit (s := s) (off k) sz (inb k)).emb y)).choose_spec.2.choose_spec
  exact h.same V (h.cov _).choose_spec.1 hk _ y e

/-- The contents are told by their parts. -/
theorem Tiles.ext (h : Tiles s n off sz inb) {α : Type} {X Y : s.Idx → α}
    (e : ∀ k, k < n → ∀ y, X ((Rect.unit (s := s) (off k) sz (inb k)).emb y) = Y ((Rect.unit (s := s) (off k) sz (inb k)).emb y)) : X = Y := by
  funext x
  obtain ⟨k, hk, y, rfl⟩ := h.cov x
  exact e k hk y

theorem owns_asm (h : Tiles s n off sz inb) (c : Thread nD τ) (M : Memref sig c.2.kind sp s e) (q : PosShare TreeShare)
    (V : (k : ℕ) → (Rect.unit (s := s) (off k) sz (inb k)).shape.Idx → Val e) :
    fam (fun k => owns c (pc M (off k) sz (inb k)) q (V k)) 0 n ⊢ (owns c M q (h.asm V) : sProp 𝕄) := by
  refine (owns_join h c M q V).trans ?_
  iintro ⟨%X, %hX, H⟩
  have : X = h.asm V := h.ext fun k hk y => (hX k hk y).trans (h.asm_emb V hk y).symm
  subst this
  iexact H

/-- A rectangle of the whole shape is the memref. -/
theorem owns_full {off : Fin s.rank → ℕ} {inb : ∀ a, off a + s.size a ≤ s.size a} (c : Thread nD τ) (M : Memref sig c.2.kind sp s e) (q : PosShare TreeShare)
    (X : s.Idx → Val e) : (owns c (pc M off s.size inb) q X : sProp 𝕄) = owns c M q X := by
  have he : ∀ y : s.Idx, (Rect.unit (s := s) off s.size inb).emb y = y := fun y => by
    funext a; apply Fin.ext; rw [Rect.emb_apply]
    show off a + 1 * (y a).val = (y a).val
    have := inb a; omega
  have hs : (pc M off s.size inb).view.set = M.view.set := by
    unfold View.set
    ext i
    simp only [Finset.mem_map, Finset.mem_univ, true_and]
    constructor
    · rintro ⟨y, hy⟩; exact ⟨y, by rw [← hy]; exact congrArg M.view.emb (he y).symm⟩
    · rintro ⟨y, hy⟩; exact ⟨y, by rw [← hy]; exact congrArg M.view.emb (he y)⟩
  have hr : ∀ f, (pc M off s.size inb).view.read Val f = M.view.read Val f := fun f => by
    funext y; exact congrArg (M.view.read Val f) (he y)
  unfold owns
  rw [hs]
  simp only [hr]

end

/-- Every kind of element has a value. -/
theorem elt_nonempty (F : FTy → Type) [FloatOps F] : ∀ e, Nonempty (Elt F e) := fun e => by
  cases e <;> first | exact ⟨(0 : BitVec _)⟩ | exact ⟨FloatOps.ofBits _ 0⟩ | exact ⟨_⟩

end Cert.Steps
-- ==== Proof.KernelSplit.lean ====
/-
  The kernel's buffers, whole and in pieces.
-/
module

public import proofs.«01_k».proof.Proof.KernelLoop10
public import proofs.«01_k».proof.Proof.Pieces

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The tilings -/

theorem tilesO : Tiles S22x8960x1536 770 Ooff S1x256x1536.size Ooff_inb := Tiles.of
  (fun x => by
    have h0 : (x 0).val < 22 := (x 0).isLt
    have h1 : (x 1).val < 8960 := (x 1).isLt
    have h2 : (x 2).val < 1536 := (x 2).isLt
    refine ⟨35 * (x 0).val + (x 1).val / 256, by omega, fun a => ?_⟩
    fin_cases a <;> simp [Ooff] <;> omega)
  (fun k k' hk hk' x h h' => by
    have := h 0; have := h 1; have := h' 0; have := h' 1
    simp [Ooff] at *; omega)

theorem tilesM : Tiles S2x8960x1536 70 Moff S1x256x1536.size Moff_inb := Tiles.of
  (fun x => by
    have h0 : (x 0).val < 2 := (x 0).isLt
    have h1 : (x 1).val < 8960 := (x 1).isLt
    have h2 : (x 2).val < 1536 := (x 2).isLt
    refine ⟨35 * (x 0).val + (x 1).val / 256, by omega, fun a => ?_⟩
    fin_cases a <;> simp [Moff] <;> omega)
  (fun k k' hk hk' x h h' => by
    have := h 0; have := h 1; have := h' 0; have := h' 1
    simp [Moff] at *; omega)

theorem tilesS : Tiles S6x256x1536 6 Soff S1x256x1536.size Soff_inb := Tiles.of
  (fun x => by
    have h0 : (x 0).val < 6 := (x 0).isLt
    have h1 : (x 1).val < 256 := (x 1).isLt
    have h2 : (x 2).val < 1536 := (x 2).isLt
    refine ⟨(x 0).val, by omega, fun a => ?_⟩
    fin_cases a <;> simp [Soff] <;> omega)
  (fun k k' hk hk' x h h' => by
    have := h 0; have := h' 0
    simp [Soff] at *; omega)

theorem tilesC : Tiles S35x16x256 35 Coff S1x16x256.size Coff_inb := Tiles.of
  (fun x => by
    have h0 : (x 0).val < 35 := (x 0).isLt
    have h1 : (x 1).val < 16 := (x 1).isLt
    have h2 : (x 2).val < 256 := (x 2).isLt
    refine ⟨(x 0).val, by omega, fun a => ?_⟩
    fin_cases a <;> simp [Coff] <;> omega)
  (fun k k' hk hk' x h h' => by
    have := h 0; have := h' 0
    simp [Coff] at *; omega)

theorem tilesL : Tiles S1x16x8960 35 Loff S1x16x256.size Loff_inb := Tiles.of
  (fun x => by
    have h0 : (x 0).val < 1 := (x 0).isLt
    have h1 : (x 1).val < 16 := (x 1).isLt
    have h2 : (x 2).val < 8960 := (x 2).isLt
    refine ⟨(x 2).val / 256, by omega, fun a => ?_⟩
    fin_cases a <;> simp [Loff] <;> omega)
  (fun k k' hk hk' x h h' => by
    have := h 2; have := h' 2
    simp [Loff] at *; omega)

/-! ## The buffers at contents that do not matter -/

variable (d : Dev nD)

/-- A family of pieces, each at some contents, from the whole. -/
theorem to_pieces {sp : Space} {s : Shape} {e : EltTy} {n : ℕ} {off : ℕ → Fin s.rank → ℕ} {sz : Fin s.rank → ℕ} {inb : ∀ k a, off k a + sz a ≤ s.size a}
    (h : Tiles s n off sz inb) (M : Memref sig .tc sp s e) :
    (iprop(∃ X, owns (d : Thread nD τ) M fullShare X) : sProp 𝕄) ⊢ fam (fun k => iprop(∃ v, owns (d : Thread nD τ) (pc M (off k) sz (inb k)) fullShare v)) 0 n := by
  have : ∀ e, Nonempty (Elt F e) := elt_nonempty F
  iintro ⟨%X, H⟩
  have e := (owns_split h (d : Thread nD τ) M fullShare X).trans (fam_mono (Ψ := fun k => (iprop(∃ v, owns (d : Thread nD τ) (pc M (off k) sz (inb k)) fullShare v) : sProp 𝕄)) fun k _ _ => by
    iintro H; iexists _; iexact H)
  iapply e $$ H

theorem of_pieces {sp : Space} {s : Shape} {e : EltTy} {n : ℕ} {off : ℕ → Fin s.rank → ℕ} {sz : Fin s.rank → ℕ} {inb : ∀ k a, off k a + sz a ≤ s.size a}
    (h : Tiles s n off sz inb) (M : Memref sig .tc sp s e) :
    fam (fun k => iprop(∃ v, owns (d : Thread nD τ) (pc M (off k) sz (inb k)) fullShare v)) 0 n ⊢ (iprop(∃ X, owns (d : Thread nD τ) M fullShare X) : sProp 𝕄) := by
  have : ∀ e, Nonempty (Elt F e) := elt_nonempty F
  exact owns_join_exists h (d : Thread nD τ) M fullShare

/-! ## The cells -/

/-- The body's own cells: six and six for the two input streams, thirty-five for the output stream. -/
abbrev osem0 : Fin 47 → SemLoc sig := fun j =>
  .dma (if j.val < 6 then gcell j.val else if j.val < 12 then ecell (j.val - 6) else ocell (j.val - 12))
theorem ownSemFacts0 : Pipeline.OwnSemFacts spec0 osem0 := by decide

theorem own_eq : (Pipeline.ownSems0 (Ix := Unit) (Name := ℕ) (U := Pipeline.UD sig nD τ) (Lvl := ℕ) (Val := Elt F) (τ := τ) osem0 d : sProp 𝕄)
    = iprop(fam (gS0 (F := F) d) 0 6 ∗ fam (eS0 (F := F) d) 0 6 ∗ fam (oS0 (F := F) d) 0 35) := by
  unfold Pipeline.ownSems0
  rw [Ring.bigSep_fin_eq_range 47 _ (fun t => semVal ((d : Thread nD τ), .dma (if t < 6 then gcell t else if t < 12 then ecell (t - 6) else ocell (t - 12))) 0) (fun t h => rfl)]
  have e : (bigSep (Finset.range 47) (fun t => semVal ((d : Thread nD τ), .dma (if t < 6 then gcell t else if t < 12 then ecell (t - 6) else ocell (t - 12))) 0) : sProp 𝕄)
      = fam (fun t => semVal ((d : Thread nD τ), .dma (if t < 6 then gcell t else if t < 12 then ecell (t - 6) else ocell (t - 12))) 0) 0 47 := by
    unfold fam; rw [Finset.range_eq_Ico]
  rw [e, fam_split _ (show 0 ≤ 6 by omega) (show 6 ≤ 47 by omega), fam_split _ (show 6 ≤ 12 by omega) (show 12 ≤ 47 by omega)]
  have e₁ : fam (fun t => (semVal ((d : Thread nD τ), .dma (if t < 6 then gcell t else if t < 12 then ecell (t - 6) else ocell (t - 12))) 0 : sProp 𝕄)) 0 6 = fam (gS0 (F := F) d) 0 6 :=
    fam_congr fun i _ h => by rw [if_pos h]
  have e₂ : fam (fun t => (semVal ((d : Thread nD τ), .dma (if t < 6 then gcell t else if t < 12 then ecell (t - 6) else ocell (t - 12))) 0 : sProp 𝕄)) 6 12 = fam (eS0 (F := F) d) 0 6 := by
    rw [show fam _ 6 12 = fam _ (0 + 6) (6 + 6) from rfl, fam_shift]
    exact fam_congr fun i _ h => by rw [if_neg (by omega), if_pos (by omega), Nat.add_sub_cancel]
  have e₃ : fam (fun t => (semVal ((d : Thread nD τ), .dma (if t < 6 then gcell t else if t < 12 then ecell (t - 6) else ocell (t - 12))) 0 : sProp 𝕄)) 12 47 = fam (oS0 (F := F) d) 0 35 := by
    rw [show fam _ 12 47 = fam _ (0 + 12) (35 + 12) from rfl, fam_shift]
    exact fam_congr fun i _ h => by rw [if_neg (by omega), if_neg (by omega), Nat.add_sub_cancel]
  rw [e₁, e₂, e₃]

end Cert.Kernel.Hand
-- ==== Proof.KernelFrame.lean ====
/-
  The kernel's run: what stands between two points of the grid, the body's obligation at every point, and what the run leaves.
-/
module

public import proofs.«01_k».proof.Proof.KernelSplit
public import Idealize.ShloMosaic.Lib.Pipeline.FrameBody
public import Idealize.ShloMosaic.Lib.Ring
public import Idealize.ShloMosaic.Lib.Tactic

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What stands between the points, without what is owed -/

section Between
variable (d : Dev nD) (gX eX : Vec F S22x8960x1536 .bf16) (qX : Vec F S22x16x1536 .i8) (sX : Vec F S16x22 .f32)

def S0F : sProp 𝕄 := iprop((∃ v, bqPc d v) ∗ SA d gX eX 0 0 0 70 ∗ CE d p1M ∗ OS d (EV gX eX qX sX) 0 0)
def STF (b : ℕ) : sProp 𝕄 :=
  iprop(RS d gX eX (35 * b) (35 * b + 35) ∗ CP1 d gX eX qX sX b ∗ HS d gX eX qX sX b 0 0 ∗ SF d (xs b 0 0) 6 ∗ (∃ v, bqPc d v))
def SZF : sProp 𝕄 :=
  iprop(GI d gX (35 * 22) 0 0 ∗ EI d eX (35 * 22) 0 0 ∗ SF d 0 6 ∗ OS d (EV gX eX qX sX) 770 770 ∗ MF d 770 840 ∗ CE d p1M ∗ (∃ v, bqPc d v))
def ENTF (t : ℕ) : sProp 𝕄 := if t = 0 then S0F d gX eX qX sX else if t < 22 then STF d gX eX qX sX t else SZF d gX eX qX sX

theorem ent_in (t : ℕ) : iprop(ENTF d gX eX qX sX t ∗ OW (d : Thread nD τ)) ⊢ ENT d gX eX qX sX t := by
  unfold ENTF ENT
  split
  · unfold S0F S0
    iintro ⟨⟨H1, H2, H3, H4⟩, H⟩
    isplitl [H1]; · iexact H1
    isplitl [H2]; · iexact H2
    isplitl [H3]; · iexact H3
    isplitl [H4]; · iexact H4
    iexact H
  split
  · unfold STF ST
    iintro ⟨⟨H1, H2, H3, H4, H5⟩, H⟩
    isplitl [H1]; · iexact H1
    isplitl [H2]; · iexact H2
    isplitl [H3]; · iexact H3
    isplitl [H4]; · iexact H4
    isplitl [H5]; · iexact H5
    iexact H
  · unfold SZF SZ
    iintro ⟨⟨H1, H2, H3, H4, H5, H6, H7⟩, H⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H

theorem ent_out (t : ℕ) : ENT d gX eX qX sX t ⊢ iprop(ENTF d gX eX qX sX t ∗ OW (d : Thread nD τ)) := by
  unfold ENTF ENT
  split
  · unfold S0F S0
    iintro ⟨H1, H2, H3, H4, H⟩
    isplitr [H]
    · isplitl [H1]; · iexact H1
      isplitl [H2]; · iexact H2
      isplitl [H3]; · iexact H3
      iexact H4
    iexact H
  split
  · unfold STF ST
    iintro ⟨H1, H2, H3, H4, H5, H⟩
    isplitr [H]
    · isplitl [H1]; · iexact H1
      isplitl [H2]; · iexact H2
      isplitl [H3]; · iexact H3
      isplitl [H4]; · iexact H4
      iexact H5
    iexact H
  · unfold SZF SZ
    iintro ⟨H1, H2, H3, H4, H5, H6, H7, H⟩
    isplitr [H]
    · isplitl [H1]; · iexact H1
      isplitl [H2]; · iexact H2
      isplitl [H3]; · iexact H3
      isplitl [H4]; · iexact H4
      isplitl [H5]; · iexact H5
      isplitl [H6]; · iexact H6
      iexact H7
    iexact H

/-- The invariant before point `t`. -/
def PHI (t : ℕ) : sProp 𝕄 := iprop(ENTF d gX eX qX sX t ∗ CE d poM ∗ CE d pbM ∗ CE d pcM)

/-- The array of new errors. -/
def OUT : Vec F S22x8960x1536 .bf16 := tilesO.asm fun n => EV gX eX qX sX n

end Between

/-! ## The programs around the region -/

variable (m : (ℓ : Loc nD τ sig) → Buf (Elt F) ℓ) (ρ : Dev nD → PrngReg)

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

abbrev gXm (c : Dev nD) : Vec F S22x8960x1536 .bf16 := V m c main_arg0
abbrev eXm (c : Dev nD) : Vec F S22x8960x1536 .bf16 := V m c main_arg1
abbrev qXm (c : Dev nD) : Vec F S22x16x1536 .i8 := V m c main_v0
abbrev sXm (c : Dev nD) : Vec F S16x22 .f32 := V m c main_v1

theorem iblk0_eq (c : Dev nD) (t : Fin cfg0.N) : iblk m c 0 t = qXm m c := by
  unfold iblk
  funext x
  show V m c main_v0 _ = V m c main_v0 _
  congr 1
  funext a; apply Fin.ext
  show ((win0 0).rect t).off a + ((win0 0).rect t).stride a * (x a).val = (x a).val
  have h₁ : ((win0 0).rect t).off a = 0 := by fin_cases a <;> rfl
  have h₂ : ((win0 0).rect t).stride a = 1 := by fin_cases a <;> rfl
  rw [h₁, h₂, Nat.zero_add, Nat.one_mul]
theorem iblk1_eq (c : Dev nD) (t : Fin cfg0.N) : iblk m c 1 t = sXm m c := by
  unfold iblk
  funext x
  show V m c main_v1 _ = V m c main_v1 _
  congr 1
  funext a; apply Fin.ext
  show ((win0 1).rect t).off a + ((win0 1).rect t).stride a * (x a).val = (x a).val
  have h₁ : ((win0 1).rect t).off a = 0 := by fin_cases a <;> rfl
  have h₂ : ((win0 1).rect t).stride a = 1 := by fin_cases a <;> rfl
  rw [h₁, h₂, Nat.zero_add, Nat.one_mul]

/-- The array left in memory that the body writes. -/
def H0 : Finset (Ref sig .tc) := {main_arg0, main_arg1}
def R0 : Finset (Ref sig .tc) := {main_v2_0}
theorem H0_sub : H0 ⊆ Pipeline.restRefs sig spec0 := by decide
theorem R0_sub : R0 ⊆ Pipeline.restRefs sig spec0 \ H0 := by decide

/-- What the body leaves in the two windows written chunk by chunk. -/
def P1W (c : Dev nD) (t : ℕ) : Vec F S1x16x8960 .f32 := tilesL.asm fun k => k0_pay28 (P1 (gXm m c) (eXm m c) (qXm m c) (sXm m c) (35 * t + k))
def PCW (c : Dev nD) (t : ℕ) : Vec F S1x16x8960 .i8 := tilesL.asm fun k => PCI (gXm m c) (eXm m c) (qXm m c) (sXm m c) (35 * t + k)

/-- The region's proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => P1W m c t.val
    | ⟨3, _⟩ => PCW m c t.val
    | ⟨4, _⟩ => PSO (gXm m c) (eXm m c) (qXm m c) (sXm m c) (t.val + 1)
    | ⟨5, _⟩ => QNC (gXm m c) (eXm m c) (qXm m c) (sXm m c) t.val
    | ⟨6, _⟩ => QNO (gXm m c) (eXm m c) (qXm m c) (sXm m c) (t.val + 1)
  Φ t := PHI c (gXm m c) (eXm m c) (qXm m c) (sXm m c) t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = P1W m c t.val := by dsimp only [dats]
theorem after0_3 (c : Dev nD) (t : Fin cfg0.N) : (dats m 0 c).after 3 t = PCW m c t.val := by dsimp only [dats]
theorem after0_4 (c : Dev nD) (t : Fin cfg0.N) : (dats m 0 c).after 4 t = PSO (gXm m c) (eXm m c) (qXm m c) (sXm m c) (t.val + 1) := by dsimp only [dats]
theorem after0_5 (c : Dev nD) (t : Fin cfg0.N) : (dats m 0 c).after 5 t = QNC (gXm m c) (eXm m c) (qXm m c) (sXm m c) t.val := by dsimp only [dats]
theorem after0_6 (c : Dev nD) (t : Fin cfg0.N) : (dats m 0 c).after 6 t = QNO (gXm m c) (eXm m c) (qXm m c) (sXm m c) (t.val + 1) := by dsimp only [dats]

theorem before0_0 (c : Dev nD) (t : Fin cfg0.N) (x) : (dats m 0 c).before 0 t x = qXm m c := by
  rw [← iblk0_eq m c t]
  exact ((dats m 0 c).before_in_eq_fetched 0 rfl (fun _ => rfl) (fun _ _ _ => rfl) (fun t => by rw [after0_0]; unfold Dat.blockOf iblk; rw [A_eq]; try rfl) t x).trans
    (by unfold Dat.fetched Dat.blockOf iblk; rw [A_eq]; try rfl)
theorem before0_1 (c : Dev nD) (t : Fin cfg0.N) (x) : (dats m 0 c).before 1 t x = sXm m c := by
  rw [← iblk1_eq m c t]
  exact ((dats m 0 c).before_in_eq_fetched 1 rfl (fun _ => rfl) (fun _ _ _ => rfl) (fun t => by rw [after0_1]; unfold Dat.blockOf iblk; rw [A_eq]; try rfl) t x).trans
    (by unfold Dat.fetched Dat.blockOf iblk; rw [A_eq]; try rfl)
theorem before0_4 (c : Dev nD) (t : Fin cfg0.N) (x) (h : 0 < t.val) : (dats m 0 c).before 4 t x = PSO (gXm m c) (eXm m c) (qXm m c) (sXm m c) t.val := by
  have hlt : t.val < 22 := lt_of_lt_of_eq t.isLt N_0
  have hfl : (cfg0.win 4).flush ⟨t.val - 1, Nat.lt_of_le_of_lt (Nat.sub_le _ _) t.isLt⟩ = false := by
    rw [Bool.eq_false_iff]; intro h'; have := (flush0_4 _).mp h'; dsimp only at this; omega
  rw [(dats m 0 c).before_out_kept 4 rfl t (by omega) hfl (fun _ => rfl) (fun _ _ => rfl) x, after0_4]
  dsimp only
  rw [Nat.sub_add_cancel h]
theorem before0_6 (c : Dev nD) (t : Fin cfg0.N) (x) (h : 0 < t.val) : (dats m 0 c).before 6 t x = QNO (gXm m c) (eXm m c) (qXm m c) (sXm m c) t.val := by
  have hlt : t.val < 22 := lt_of_lt_of_eq t.isLt N_0
  have hfl : (cfg0.win 6).flush ⟨t.val - 1, Nat.lt_of_le_of_lt (Nat.sub_le _ _) t.isLt⟩ = false := by
    rw [Bool.eq_false_iff]; intro h'; have := (flush0_6 _).mp h'; dsimp only at this; omega
  rw [(dats m 0 c).before_out_kept 6 rfl t (by omega) hfl (fun _ => rfl) (fun _ _ => rfl) x, after0_6]
  dsimp only
  rw [Nat.sub_add_cancel h]

theorem coords_val : ∀ t : Fin grid0.N, (grid0.coords t 0).val = t.val := by decide

/-! ## One point -/

section Point
variable (c : Dev nD) (t : Fin cfg0.N)

def bodyPre : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
def bodyPost : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

theorem w_in (a : Memref sig .tc .vmem S16x22 .f32) (v) : (owns (c : Thread nD τ) a fullShare v : sProp 𝕄) ⊢ wPc (d := c) a v :=
  eqE (owns_full (off := ![0, 0]) (inb := fstOff_inb) (c : Thread nD τ) a fullShare v).symm
theorem w_out (a : Memref sig .tc .vmem S16x22 .f32) (v) : wPc (d := c) a v ⊢ (owns (c : Thread nD τ) a fullShare v : sProp 𝕄) :=
  eqE (owns_full (off := ![0, 0]) (inb := fstOff_inb) (c : Thread nD τ) a fullShare v)
theorem n_in (a : Memref sig .tc .vmem S1x16x1536 .i8) (v) : (owns (c : Thread nD τ) a fullShare v : sProp 𝕄) ⊢ nPc (d := c) a v :=
  eqE (owns_full (off := ![0, 0, 0]) (inb := qncOff_inb) (c : Thread nD τ) a fullShare v).symm
theorem n_out (a : Memref sig .tc .vmem S1x16x1536 .i8) (v) : nPc (d := c) a v ⊢ (owns (c : Thread nD τ) a fullShare v : sProp 𝕄) :=
  eqE (owns_full (off := ![0, 0, 0]) (inb := qncOff_inb) (c : Thread nD τ) a fullShare v)
theorem l_in {e : EltTy} (a : Memref sig .tc .vmem S1x16x8960 e) (v) : (owns (c : Thread nD τ) a fullShare v : sProp 𝕄) ⊢ LE c a := by
  have h : (owns (c : Thread nD τ) a fullShare v : sProp 𝕄) ⊢ iprop(∃ X, owns (c : Thread nD τ) a fullShare X) := by iintro H; iexists v; iexact H
  exact h.trans (to_pieces c tilesL a)
theorem l_out {e : EltTy} (a : Memref sig .tc .vmem S1x16x8960 e) (V : ℕ → Vec F S1x16x256 e) : WN c a V 35 ⊢ (owns (c : Thread nD τ) a fullShare (tilesL.asm V) : sProp 𝕄) := by
  have : ∀ e, Nonempty (Elt F e) := elt_nonempty F
  have h : WN c a V 35 ⊢ fam (fun k => lPc c a k (V k)) 0 35 := by unfold WN; iintro ⟨H, -⟩; iexact H
  exact h.trans (owns_asm tilesL (c : Thread nD τ) a fullShare V)

/-- The body's obligation over any seven staging memrefs. -/
theorem point {b : ℕ} {i : grid0.Coords} (hi : (i 0).val = b) {gX eX : Vec F S22x8960x1536 .bf16} {qX : Vec F S22x16x1536 .i8} {sX : Vec F S16x22 .f32}
    (a3 : Memref sig .tc .vmem S22x16x1536 .i8) (h3 : a3.IsWhole) (a4 : Memref sig .tc .vmem S16x22 .f32) (h4 : a4.IsWhole)
    (a6 : Memref sig .tc .vmem S1x16x8960 .f32) (h6 : a6.IsWhole) (a7 : Memref sig .tc .vmem S1x16x8960 .i8) (h7 : a7.IsWhole)
    (a8 : Memref sig .tc .vmem S16x22 .f32) (h8 : a8.IsWhole) (a9 : Memref sig .tc .vmem S1x16x1536 .i8) (h9 : a9.IsWhole)
    (a10 : Memref sig .tc .vmem S16x22 .f32) (h10 : a10.IsWhole) (w6 w7 w8 w9 w10) (h8v : 0 < b → w8 = PSO gX eX qX sX b) (h10v : 0 < b → w10 = QNO gX eX qX sX b) :
    iprop(PHI c gX eX qX sX b ∗ OW (c : Thread nD τ) ∗ owns (c : Thread nD τ) a3 fullShare qX ∗ owns (c : Thread nD τ) a4 fullShare sX
        ∗ owns (c : Thread nD τ) a6 fullShare w6 ∗ owns (c : Thread nD τ) a7 fullShare w7 ∗ owns (c : Thread nD τ) a8 fullShare w8
        ∗ owns (c : Thread nD τ) a9 fullShare w9 ∗ owns (c : Thread nD τ) a10 fullShare w10)
      ⊢ WP c (cc0_powersgd i gM (Memref.isWhole_whole _) eM (Memref.isWhole_whole _) a3 h3 a4 h4 oM (Memref.isWhole_whole _) a6 h6 a7 h7 a8 h8 a9 h9 a10 h10
          mM (Memref.isWhole_whole _) stM (Memref.isWhole_whole _) bqM (Memref.isWhole_whole _) p1M (Memref.isWhole_whole _) pbM (Memref.isWhole_whole _)
          poM (Memref.isWhole_whole _) pcM (Memref.isWhole_whole _) cc0_scratch7 cc0_scratch8 cc0_scratch9)
        (fun _ => iprop(PHI c gX eX qX sX (b + 1) ∗ OW (c : Thread nD τ) ∗ owns (c : Thread nD τ) a3 fullShare qX ∗ owns (c : Thread nD τ) a4 fullShare sX
          ∗ owns (c : Thread nD τ) a6 fullShare (tilesL.asm fun k => k0_pay28 (P1 gX eX qX sX (35 * b + k)))
          ∗ owns (c : Thread nD τ) a7 fullShare (tilesL.asm fun k => PCI gX eX qX sX (35 * b + k))
          ∗ owns (c : Thread nD τ) a8 fullShare (PSO gX eX qX sX (b + 1))
          ∗ owns (c : Thread nD τ) a9 fullShare (QNC gX eX qX sX b) ∗ owns (c : Thread nD τ) a10 fullShare (QNO gX eX qX sX (b + 1)))) := by
  have : ∀ e, Nonempty (Elt F e) := elt_nonempty F
  have hpre : iprop(PHI c gX eX qX sX b ∗ OW (c : Thread nD τ) ∗ owns (c : Thread nD τ) a3 fullShare qX ∗ owns (c : Thread nD τ) a4 fullShare sX
        ∗ owns (c : Thread nD τ) a6 fullShare w6 ∗ owns (c : Thread nD τ) a7 fullShare w7 ∗ owns (c : Thread nD τ) a8 fullShare w8
        ∗ owns (c : Thread nD τ) a9 fullShare w9 ∗ owns (c : Thread nD τ) a10 fullShare w10) ⊢ PRE c gX eX qX sX b a3 a4 a6 a7 a8 a9 a10 := by
    unfold PRE IN PHI
    iintro ⟨⟨HE, HCo, HCb, HCc⟩, HO, H3, H4, H6, H7, H8, H9, H10⟩
    isplitl [H3 H4]
    · isplitl [H3]; · iexact H3
      iapply (w_in c a4 sX) $$ H4
    isplitl [HE HO]
    · iapply (ent_in c gX eX qX sX b); isplitl [HE]; · iexact HE
      iexact HO
    isplitl [HCo]; · iexact HCo
    isplitl [HCb]; · iexact HCb
    isplitl [HCc]; · iexact HCc
    isplitl [H6]
    · iapply (l_in c a6 w6) $$ H6
    isplitl [H7]
    · iapply (l_in c a7 w7) $$ H7
    isplitl [H9]
    · iexists w9; iapply (n_in c a9 w9) $$ H9
    isplitl [H8]
    · iexists w8; isplitl [H8]; · iapply (w_in c a8 w8) $$ H8
      ipureintro; exact h8v
    iexists w10; isplitl [H10]; · iapply (w_in c a10 w10) $$ H10
    ipureintro; exact h10v
  refine hpre.trans ((body_ok (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) h3 h4 h6 h7 h8 h9 h10 hi).trans (wp_mono frame _ Set.univ fun _ => ?_))
  unfold POST IN PHI
  iintro ⟨⟨H3, H4⟩, HE, HCo, HCb, HCc, H6, H7, H9, H8, H10⟩
  ihave HEO := (ent_out c gX eX qX sX (b + 1)) $$ HE
  icases HEO with ⟨HE, HO⟩
  isplitl [HE HCo HCb HCc]
  · isplitl [HE]; · iexact HE
    isplitl [HCo]; · iexact HCo
    isplitl [HCb]; · iexact HCb
    iexact HCc
  isplitl [HO]; · iexact HO
  isplitl [H3]; · iexact H3
  isplitl [H4]
  · rw [← owns_full (off := ![0, 0]) (inb := fstOff_inb) (c : Thread nD τ) a4 fullShare sX]; iexact H4
  isplitl [H6]; · iapply (l_out c a6 _) $$ H6
  isplitl [H7]; · iapply (l_out c a7 _) $$ H7
  isplitl [H8]; · iapply (w_out c a8 _) $$ H8
  isplitl [H9]; · iapply (n_out c a9 _) $$ H9
  iapply (w_out c a10 _) $$ H10

end Point

end Cert.Kernel.Hand
-- ==== Proof.KernelRun.lean ====
/-
  The run of the kernel from launch to end.
-/
module

public import proofs.«01_k».proof.Proof.KernelFrame
public import Idealize.ShloMosaic.Lib.Pipeline.FrameBody
public import Idealize.ShloMosaic.Lib.Ring
public import Idealize.ShloMosaic.Lib.Tactic

@[expose] public section

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = PHI c (gXm m c) (eXm m c) (qXm m c) (sXm m c) t.val from rfl]
  unfold Dat.owesAt Pipeline.owesWithin
  rw [show (dats m 0 c).owed t.castSucc = 0 from rfl]
  simp only [before0_0, before0_1]
  iintro ⟨HP, ⟨%W, -, HW⟩, ⟨%x0, H0⟩, ⟨%x1, H1⟩, ⟨%x2, H2⟩, ⟨%x3, H3⟩, ⟨%x4, H4⟩, ⟨%x5, H5⟩, ⟨%x6, H6⟩⟩
  have hw : WP c (bodyAt0 (F := F) t) (fun _ => iprop(PHI c (gXm m c) (eXm m c) (qXm m c) (sXm m c) (t.val + 1) ∗ OW (c : Thread nD τ)
        ∗ owns (c : Thread nD τ) (win0_0.stage (cfg0.slots t 0)) fullShare (qXm m c)
        ∗ owns (c : Thread nD τ) (win0_1.stage (cfg0.slots t 1)) fullShare (sXm m c)
        ∗ owns (c : Thread nD τ) (win0_2.stage (cfg0.slots t 2)) fullShare (P1W m c t.val)
        ∗ owns (c : Thread nD τ) (win0_3.stage (cfg0.slots t 3)) fullShare (PCW m c t.val)
        ∗ owns (c : Thread nD τ) (win0_4.stage (cfg0.slots t 4)) fullShare (PSO (gXm m c) (eXm m c) (qXm m c) (sXm m c) (t.val + 1))
        ∗ owns (c : Thread nD τ) (win0_5.stage (cfg0.slots t 5)) fullShare (QNC (gXm m c) (eXm m c) (qXm m c) (sXm m c) t.val)
        ∗ owns (c : Thread nD τ) (win0_6.stage (cfg0.slots t 6)) fullShare (QNO (gXm m c) (eXm m c) (qXm m c) (sXm m c) (t.val + 1))))
      ⊢ wp frame (wpE (defs₀ (F := F)) Variants.none c none) Set.univ (bodyAt0 t) (fun _ => bodyPost m c t) := by
    refine wp_mono frame _ Set.univ fun _ => ?_
    unfold bodyPost
    rw [show (dats m 0 c).Φ t.succ = PHI c (gXm m c) (eXm m c) (qXm m c) (sXm m c) (t.val + 1) from rfl]
    unfold Dat.owesAt Pipeline.owesWithin
    rw [show (dats m 0 c).owed t.succ = 0 from rfl, after0_0, after0_1, after0_2, after0_3, after0_4, after0_5, after0_6, iblk0_eq, iblk1_eq]
    unfold OW
    iintro ⟨HP, ⟨%W', HW'⟩, H0, H1, H2, H3, H4, H5, H6⟩
    isplitl [HP]; · iexact HP
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  iapply hw
  iapply (point c (coords_val t) _ (hstage0_0 ((cfg0.slots t 0).cast nbuf0_0)) _ _ _ _ _ _ _ _ _ _ _ _
    ((dats m 0 c).before 2 t x2) ((dats m 0 c).before 3 t x3) ((dats m 0 c).before 4 t x4) ((dats m 0 c).before 5 t x5) ((dats m 0 c).before 6 t x6)
    (fun h => before0_4 m c t x4 h) (fun h => before0_6 m c t x6 h))
  isplitl [HP]; · iexact HP
  isplitl [HW]; · unfold OW; iexists W; iexact HW
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the region and out of it -/

/-- What a buffer left in memory holds at the end. -/
def Gm (c : Dev nD) (b : Ref sig .tc) : Buf (Elt F) ((c : Thread nD τ).loc b) :=
  if h : b = main_v2_0 then h ▸ (OUT (gXm m c) (eXm m c) (qXm m c) (sXm m c) : Buf (Elt F) ((c : Thread nD τ).loc main_v2_0)) else V m c b

theorem Gm_out (c : Dev nD) : Gm m c main_v2_0 = OUT (gXm m c) (eXm m c) (qXm m c) (sXm m c) := by
  unfold Gm; rw [dif_pos rfl]

theorem hb_eq (c : Dev nD) : (bigSep H0 (fun b => ((c : Thread nD τ).loc b) ↦{fullShare} V m c b) : sProp 𝕄)
    = iprop(owns (c : Thread nD τ) gM fullShare (gXm m c) ∗ owns (c : Thread nD τ) eM fullShare (eXm m c)) := by
  rw [owns_whole, owns_whole]
  unfold H0; rw [BI.bigSep_eq_bigSepL_of_eq [main_arg0, main_arg1] (by decide) (by decide)]; rfl
theorem rb_eq (c : Dev nD) (G : (c : Dev nD) → (b : Ref sig .tc) → Buf (Elt F) ((c : Thread nD τ).loc b)) :
    (bigSep R0 (fun b => ((c : Thread nD τ).loc b) ↦{fullShare} G c b) : sProp 𝕄)
    = owns (c : Thread nD τ) oM fullShare (G c main_v2_0) := by
  rw [owns_whole]
  unfold R0; rw [BI.bigSep_eq_bigSepL_of_eq [main_v2_0] (by decide) (by decide)]; rfl

/-- A buffer of the body's own at some contents. -/
abbrev sb (c : Dev nD) {sp : Space} {s : Shape} {e : EltTy} (M : Memref sig .tc sp s e) : sProp 𝕄 := iprop(∃ X, owns (c : Thread nD τ) M fullShare X)

theorem sc_eq (c : Dev nD) : (Pipeline.scopedRest (Ix := Unit) (Name := ℕ) (U := Pipeline.UD sig nD τ) (Lvl := ℕ) (Val := Elt F) spec0 c : sProp 𝕄)
    = iprop(sb c mM ∗ sb c stM ∗ sb c bqM ∗ sb c p1M ∗ sb c pbM ∗ sb c poM ∗ sb c pcM) := by
  rw [scopedRest0_eq]
  unfold sb
  simp only [owns_whole]
  rfl

theorem bq_in (c : Dev nD) : sb (F := F) c bqM ⊢ iprop(∃ v, bqPc c v) := by
  iintro ⟨%X, H⟩; iexists X
  iapply (eqE (owns_full (off := ![0, 0]) (inb := bqOff_inb) (c : Thread nD τ) bqM fullShare X).symm) $$ H
theorem bq_out (c : Dev nD) : iprop(∃ v, bqPc (F := F) c v) ⊢ sb (F := F) c bqM := by
  iintro ⟨%X, H⟩; iexists X
  iapply (eqE (owns_full (off := ![0, 0]) (inb := bqOff_inb) (c : Thread nD τ) bqM fullShare X)) $$ H

theorem g_in (c : Dev nD) (X : Vec F S22x8960x1536 .bf16) : (owns (c : Thread nD τ) gM fullShare X : sProp 𝕄) ⊢ fam (gH c X) 0 770 := by
  have : ∀ e, Nonempty (Elt F e) := elt_nonempty F
  exact owns_split tilesO (c : Thread nD τ) gM fullShare X
theorem e_in (c : Dev nD) (X : Vec F S22x8960x1536 .bf16) : (owns (c : Thread nD τ) eM fullShare X : sProp 𝕄) ⊢ fam (eH c X) 0 770 := by
  have : ∀ e, Nonempty (Elt F e) := elt_nonempty F
  exact owns_split tilesO (c : Thread nD τ) eM fullShare X
theorem asm_blk (X : Vec F S22x8960x1536 .bf16) : tilesO.asm (blk X) = X :=
  tilesO.ext fun k hk y => tilesO.asm_emb (blk X) hk y
theorem g_out (c : Dev nD) (X : Vec F S22x8960x1536 .bf16) : fam (gH c X) 0 770 ⊢ (owns (c : Thread nD τ) gM fullShare X : sProp 𝕄) := by
  have : ∀ e, Nonempty (Elt F e) := elt_nonempty F
  have h := owns_asm tilesO (c : Thread nD τ) gM fullShare (blk X) (Ix := Unit) (Name := ℕ) (U := Pipeline.UD sig nD τ) (Lvl := ℕ)
  rw [asm_blk] at h
  exact h
theorem e_out (c : Dev nD) (X : Vec F S22x8960x1536 .bf16) : fam (eH c X) 0 770 ⊢ (owns (c : Thread nD τ) eM fullShare X : sProp 𝕄) := by
  have : ∀ e, Nonempty (Elt F e) := elt_nonempty F
  have h := owns_asm tilesO (c : Thread nD τ) eM fullShare (blk X) (Ix := Unit) (Name := ℕ) (U := Pipeline.UD sig nD τ) (Lvl := ℕ)
  rw [asm_blk] at h
  exact h
theorem o_in (c : Dev nD) (X : Vec F S22x8960x1536 .bf16) : (owns (c : Thread nD τ) oM fullShare X : sProp 𝕄) ⊢ fam (fun n => iprop(∃ v, oPc c n v)) 0 770 := by
  have h : (owns (c : Thread nD τ) oM fullShare X : sProp 𝕄) ⊢ iprop(∃ X, owns (c : Thread nD τ) oM fullShare X) := by iintro H; iexists X; iexact H
  exact h.trans (to_pieces c tilesO oM)
theorem o_out (c : Dev nD) (W : ℕ → Vec F S1x256x1536 .bf16) : fam (fun n => oPc c n (W n)) 0 770 ⊢ (owns (c : Thread nD τ) oM fullShare (tilesO.asm W) : sProp 𝕄) := by
  have : ∀ e, Nonempty (Elt F e) := elt_nonempty F
  exact owns_asm tilesO (c : Thread nD τ) oM fullShare W
theorem m_out (c : Dev nD) : MF (F := F) c 770 840 ⊢ sb c mM := by
  have h : MF (F := F) c 770 840 = MF c 0 70 := by
    unfold MF
    rw [show fam _ 770 840 = fam _ (0 + 770) (70 + 770) from rfl, fam_shift]
    exact fam_congr fun i _ _ => by simp only [mPc_mod (show (i + 770) / 35 % 2 = i / 35 % 2 by omega) (show (i + 770) % 35 = i % 35 by omega)]
  rw [h]
  exact of_pieces c tilesM mM
theorem os_out (c : Dev nD) : fam (oS0 (F := F) c) 770 (770 + 35) = fam (oS0 (F := F) c) 0 35 := by
  rw [show fam _ 770 (770 + 35) = fam _ (0 + 770) (35 + 770) from rfl, fam_shift]
  exact fam_congr fun i _ _ => by unfold oS0; rw [ocell_mod (show (i + 770) % 35 = i % 35 by omega)]

theorem c_out (c : Dev nD) {e : EltTy} (M : Memref sig .tc .vmem S35x16x256 e) : CE (F := F) c M ⊢ sb c M := of_pieces c tilesC M
theorem s_out (c : Dev nD) : SF (F := F) c 0 6 ⊢ sb c stM := of_pieces c tilesS stM

theorem h_in (c : Dev nD) : Pipeline.ΦDRV osem0 spec0 H0 R0 (V m) (V m) c ⊢ PHI c (gXm m c) (eXm m c) (qXm m c) (sXm m c) 0 := by
  unfold Pipeline.ΦDRV
  rw [sc_eq, own_eq, hb_eq, rb_eq]
  unfold PHI ENTF
  rw [if_pos rfl]
  unfold S0F SA GI EI MF SF OS
  rw [fam_empty (gFl c (gXm m c)) (show 35 * 0 + 0 ≤ 35 * 0 + 0 by omega), fam_empty (gH c (gXm m c)) (show 35 * 0 + 0 ≤ 0 by omega),
    fam_empty (eFl c (eXm m c)) (show 35 * 0 + 0 ≤ 35 * 0 + 0 by omega), fam_empty (eH c (eXm m c)) (show 35 * 0 + 0 ≤ 0 by omega),
    fam_empty (oFl c _) (show 0 ≤ 0 by omega), fam_empty _ (show 0 ≤ 0 by omega)]
  iintro ⟨⟨Hm, Hst, Hbq, Hp1, Hpb, Hpo, Hpc⟩, ⟨Hgs, Hes, Hos⟩, ⟨Hg, He⟩, Ho⟩
  isplitr [Hpo Hpb Hpc]
  · isplitl [Hbq]; · iapply (bq_in c) $$ Hbq
    isplitl [Hm Hst Hg He Hgs Hes]
    · isplitl [Hg Hgs]
      · isplitr; · iempintro
        isplitr; · iempintro
        isplitl [Hg]; · iapply (g_in c _) $$ Hg
        iexact Hgs
      isplitl [He Hes]
      · isplitr; · iempintro
        isplitr; · iempintro
        isplitl [He]; · iapply (e_in c _) $$ He
        iexact Hes
      isplitl [Hm]; · iapply (to_pieces c tilesM mM) $$ Hm
      iapply (to_pieces c tilesS stM) $$ Hst
    isplitl [Hp1]; · unfold CE; iapply (to_pieces c tilesC p1M) $$ Hp1
    isplitr; · iempintro
    isplitr; · iempintro
    isplitl [Hos]; · iexact Hos
    iapply (o_in c _) $$ Ho
  unfold CE
  isplitl [Hpo]; · iapply (to_pieces c tilesC poM) $$ Hpo
  isplitl [Hpb]; · iapply (to_pieces c tilesC pbM) $$ Hpb
  iapply (to_pieces c tilesC pcM) $$ Hpc

theorem h_out (c : Dev nD) : PHI c (gXm m c) (eXm m c) (qXm m c) (sXm m c) 22 ⊢ Pipeline.ΦDRV osem0 spec0 H0 R0 (V m) (Gm m) c := by
  unfold Pipeline.ΦDRV
  rw [sc_eq, own_eq, hb_eq, rb_eq, Gm_out]
  unfold PHI ENTF
  rw [if_neg (by omega), if_neg (by omega)]
  unfold SZF GI EI OS
  rw [show 35 * 22 + 0 = 770 from rfl, os_out]
  iintro ⟨⟨⟨-, Hg, -, Hgs⟩, ⟨-, He, -, Hes⟩, Hst, ⟨-, Ho, Hos, -⟩, Hm, Hp1, Hbq⟩, Hpo, Hpb, Hpc⟩
  isplitl [Hst Hm Hp1 Hbq Hpo Hpb Hpc]
  · isplitl [Hm]; · iapply (m_out c) $$ Hm
    isplitl [Hst]; · iapply (s_out c) $$ Hst
    isplitl [Hbq]; · iapply (bq_out c) $$ Hbq
    isplitl [Hp1]; · iapply (c_out c p1M) $$ Hp1
    isplitl [Hpb]; · iapply (c_out c pbM) $$ Hpb
    isplitl [Hpo]; · iapply (c_out c poM) $$ Hpo
    iapply (c_out c pcM) $$ Hpc
  isplitl [Hgs Hes Hos]
  · isplitl [Hgs]; · iexact Hgs
    isplitl [Hes]; · iexact Hes
    iexact Hos
  isplitl [Hg He]
  · isplitl [Hg]; · iapply (g_out c _) $$ Hg
    iapply (e_out c _) $$ He
  iapply (o_out c _) $$ Ho

/-! ## The run and the frame -/

/-- What memory holds after the region, before the host's last operations. -/
abbrev VZ (c : Dev nD) : Valuation τ sig (Elt F) :=
  Pipeline.withArrays spec0 c (Pipeline.withR (V0 m c) R0 c (Gm m c)) fun w => (dats m 0 c).arrAt w cfg0.N

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (VZ m c) (Proc.devRef .tc b))
    ∧ r.2.sem = (fun _ => 0)) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gm m)
    (hmain := hmainD m Variants.none) (hA := A_eq m) (hin := fun c => h_in m c) (hout := fun c => h_out m c)

/-- A buffer that no host operation after the region writes, that is no array of the region, and that the body does not write, ends as the region found it. -/
theorem VZ_keep (c : Dev nD) (b : Ref sig .tc) (h₁ : ∀ w, Pipeline.arrRef spec0 w ≠ b) (h₂ : b ∉ R0) : VZ m c (Proc.devRef .tc b) = V m c b := by
  unfold VZ
  rw [Pipeline.withArrays_of_ne _ c _ _ b h₁, Pipeline.withR_of_not_mem _ _ _ _ b h₂]

/-- The host's last operations write five references and no other. -/
theorem tail_keep (W : Valuation τ sig (Elt F)) (b : Ref sig .tc) (h₃ : b ≠ main_v3) (h₄ : b ≠ main_v4) (h₅ : b ≠ main_v5) (h₆ : b ≠ main_v6) (h₇ : b ≠ main_v7) :
    StableHlo.after (List.flatten [hostOps1]) W (Proc.devRef .tc b) = W (Proc.devRef .tc b) := by
  refine StableHlo.after_of_forall_not_mem (b := Proc.devRef .tc b) _ _ (List.forall_iff_forall_mem.mp ?_)
  simp only [hostOps1, List.flatten_cons, List.flatten_nil, List.append_nil, List.cons_append,
    List.nil_append, List.Forall, StableHlo.unary_writes, Finset.mem_singleton]
  exact ⟨StableHlo.devRef_ne_of_ne h₃, StableHlo.devRef_ne_of_ne h₄, StableHlo.devRef_ne_of_ne h₅, StableHlo.devRef_ne_of_ne h₆, StableHlo.devRef_ne_of_ne h₇⟩

/-- The frame: the run ends, the arguments are unchanged, and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans
        ((tail_keep _ main_arg0 (by decide) (by decide) (by decide) (by decide) (by decide)).trans ((VZ_keep m c main_arg0 (by decide) (by decide)).trans (V_main_arg0 m c))),
      ((h.1 c).2 main_arg1 (Pipeline.mem_restRefs_of main_arg1 (by decide) (by decide))).trans
        ((tail_keep _ main_arg1 (by decide) (by decide) (by decide) (by decide) (by decide)).trans ((VZ_keep m c main_arg1 (by decide) (by decide)).trans (V_main_arg1 m c))),
      ((h.1 c).2 main_arg2 (Pipeline.mem_restRefs_of main_arg2 (by decide) (by decide))).trans
        ((tail_keep _ main_arg2 (by decide) (by decide) (by decide) (by decide) (by decide)).trans ((VZ_keep m c main_arg2 (by decide) (by decide)).trans (V_main_arg2 m c))),
      ((h.1 c).2 main_arg3 (Pipeline.mem_restRefs_of main_arg3 (by decide) (by decide))).trans
        ((tail_keep _ main_arg3 (by decide) (by decide) (by decide) (by decide) (by decide)).trans ((VZ_keep m c main_arg3 (by decide) (by decide)).trans (V_main_arg3 m c)))⟩, h.2⟩)
    (run_main m ρ)

end Cert.Kernel.Hand
-- ==== Proof.KernelIdealRes.lean ====
/-
  The kernel's resources, piece by piece. The blocks of the whole run are numbered `n = 35 * batch + chunk`; every input transfer and every
  output transfer is started and waited in the order of these numbers.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Steps

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The buffers -/

abbrev gM : Memref sig .tc .hbm S22x8960x1536 .bf16 := Memref.whole main_arg0
abbrev eM : Memref sig .tc .hbm S22x8960x1536 .bf16 := Memref.whole main_arg1
abbrev oM : Memref sig .tc .hbm S22x8960x1536 .bf16 := Memref.whole main_v2_0
abbrev mM : Memref sig .tc .vmem S2x8960x1536 .bf16 := Memref.whole cc0_scratch0
abbrev stM : Memref sig .tc .vmem S6x256x1536 .bf16 := Memref.whole cc0_scratch1
abbrev bqM : Memref sig .tc .vmem S16x1536 .bf16 := Memref.whole cc0_scratch2
abbrev p1M : Memref sig .tc .vmem S35x16x256 .f32 := Memref.whole cc0_scratch3
abbrev pbM : Memref sig .tc .vmem S35x16x256 .f32 := Memref.whole cc0_scratch4
abbrev poM : Memref sig .tc .vmem S35x16x256 .bf16 := Memref.whole cc0_scratch5
abbrev pcM : Memref sig .tc .vmem S35x16x256 .bf16 := Memref.whole cc0_scratch6

/-! ## The offsets of block `n` and of chunk `c` -/

/-- Block `n` in an array of all batches. -/
abbrev Ooff (n : ℕ) : Fin 3 → ℕ := ![n / 35 % 22, 256 * (n % 35), 0]
/-- Block `n` in the two slots held on chip. -/
abbrev Moff (n : ℕ) : Fin 3 → ℕ := ![n / 35 % 2, 256 * (n % 35), 0]
/-- Chunk `c`'s staging slot. -/
abbrev Soff (c : ℕ) : Fin 3 → ℕ := ![c % 6, 0, 0]
/-- Chunk `c` of a buffer of chunks. -/
abbrev Coff (c : ℕ) : Fin 3 → ℕ := ![c % 35, 0, 0]

theorem Ooff_inb (n : ℕ) : ∀ a, Ooff n a + S1x256x1536.size a ≤ S22x8960x1536.size a := by
  intro a; fin_cases a <;> simp [Ooff] <;> omega
theorem Moff_inb (n : ℕ) : ∀ a, Moff n a + S1x256x1536.size a ≤ S2x8960x1536.size a := by
  intro a; fin_cases a <;> simp [Moff] <;> omega
theorem Soff_inb (c : ℕ) : ∀ a, Soff c a + S1x256x1536.size a ≤ S6x256x1536.size a := by
  intro a; fin_cases a <;> simp [Soff] <;> omega
theorem Coff_inb (c : ℕ) : ∀ a, Coff c a + S1x16x256.size a ≤ S35x16x256.size a := by
  intro a; fin_cases a <;> simp [Coff] <;> omega

/-- Block `n` of an array of all batches. -/
def blk (X : Vec F S22x8960x1536 .bf16) (n : ℕ) : Vec F S1x256x1536 .bf16 :=
  fun x => X ((Rect.unit (s := S22x8960x1536) (Ooff n) S1x256x1536.size (Ooff_inb n)).emb x)

/-! ## The pieces -/

variable (d : Dev nD)

abbrev gPc (n : ℕ) (v : Vec F S1x256x1536 .bf16) : sProp 𝕄 := owns (d : Thread nD τ) (pc gM (Ooff n) S1x256x1536.size (Ooff_inb n)) fullShare v
abbrev ePc (n : ℕ) (v : Vec F S1x256x1536 .bf16) : sProp 𝕄 := owns (d : Thread nD τ) (pc eM (Ooff n) S1x256x1536.size (Ooff_inb n)) fullShare v
abbrev oPc (n : ℕ) (v : Vec F S1x256x1536 .bf16) : sProp 𝕄 := owns (d : Thread nD τ) (pc oM (Ooff n) S1x256x1536.size (Ooff_inb n)) fullShare v
abbrev mPc (n : ℕ) (v : Vec F S1x256x1536 .bf16) : sProp 𝕄 := owns (d : Thread nD τ) (pc mM (Moff n) S1x256x1536.size (Moff_inb n)) fullShare v
abbrev sPc (c : ℕ) (v : Vec F S1x256x1536 .bf16) : sProp 𝕄 := owns (d : Thread nD τ) (pc stM (Soff c) S1x256x1536.size (Soff_inb c)) fullShare v
/-- A chunk of the four buffers of chunks. -/
abbrev cPc {e : EltTy} (M : Memref sig .tc .vmem S35x16x256 e) (c : ℕ) (v : Vec F S1x16x256 e) : sProp 𝕄 :=
  owns (d : Thread nD τ) (pc M (Coff c) S1x16x256.size (Coff_inb c)) fullShare v

/-! ## The cells -/

theorem g_inb (c : ℕ) : ∀ a, (![c % 6] : Fin 1 → ℕ) a + S1.size a ≤ S6.size a := by
  intro a; fin_cases a; simp; omega
theorem o_inb (c : ℕ) : ∀ a, (![c % 35] : Fin 1 → ℕ) a + S1.size a ≤ S35.size a := by
  intro a; fin_cases a; simp; omega

def gcell (c : ℕ) : DmaSem sig := ((cc0_scratch7.slice (Rect.unit (s := S6) ![c % 6] S1.size (g_inb c))).squeeze S_ squeezes_S1_S_).sem
def ecell (c : ℕ) : DmaSem sig := ((cc0_scratch8.slice (Rect.unit (s := S6) ![c % 6] S1.size (g_inb c))).squeeze S_ squeezes_S1_S_).sem
def ocell (c : ℕ) : DmaSem sig := ((cc0_scratch9.slice (Rect.unit (s := S35) ![c % 35] S1.size (o_inb c))).squeeze S_ squeezes_S1_S_).sem

theorem gcell_eq {off : Fin 1 → ℕ} {inb : ∀ a, off a + S1.size a ≤ S6.size a} {c : ℕ} (h : off = ![c % 6]) :
    ((cc0_scratch7.slice (Rect.unit (s := S6) off S1.size inb)).squeeze S_ squeezes_S1_S_).sem = gcell c := by subst h; rfl
theorem ecell_eq {off : Fin 1 → ℕ} {inb : ∀ a, off a + S1.size a ≤ S6.size a} {c : ℕ} (h : off = ![c % 6]) :
    ((cc0_scratch8.slice (Rect.unit (s := S6) off S1.size inb)).squeeze S_ squeezes_S1_S_).sem = ecell c := by subst h; rfl
theorem ocell_eq {off : Fin 1 → ℕ} {inb : ∀ a, off a + S1.size a ≤ S35.size a} {c : ℕ} (h : off = ![c % 35]) :
    ((cc0_scratch9.slice (Rect.unit (s := S35) off S1.size inb)).squeeze S_ squeezes_S1_S_).sem = ocell c := by subst h; rfl

abbrev gS0 (c : ℕ) : sProp 𝕄 := semVal ((d : Thread nD τ), .dma (gcell c)) 0
abbrev eS0 (c : ℕ) : sProp 𝕄 := semVal ((d : Thread nD τ), .dma (ecell c)) 0
abbrev oS0 (c : ℕ) : sProp 𝕄 := semVal ((d : Thread nD τ), .dma (ocell c)) 0

theorem gcell_mod {c c' : ℕ} (h : c % 6 = c' % 6) : gcell c = gcell c' := by
  unfold gcell; congr 4; simp [h]
theorem ecell_mod {c c' : ℕ} (h : c % 6 = c' % 6) : ecell c = ecell c' := by
  unfold ecell; congr 4; simp [h]
theorem ocell_mod {c c' : ℕ} (h : c % 35 = c' % 35) : ocell c = ocell c' := by
  unfold ocell; congr 4; simp [h]

/-- The credit of one block's transfer. -/
abbrev NB : ℕ := ((pc mM (Moff 0) S1x256x1536.size (Moff_inb 0)).squeeze S256x1536 squeezes_S1x256x1536_S256x1536).view.dmaCredit

theorem NB_pos : 0 < NB := by decide
theorem NB_g (n : ℕ) (c : ℕ) : ((pc mM (Moff n) S1x256x1536.size (Moff_inb n)).squeeze S256x1536 squeezes_S1x256x1536_S256x1536).view.amount (.dma (gcell c)) = NB := rfl
theorem NB_e (n : ℕ) (c : ℕ) : ((pc stM (Soff n) S1x256x1536.size (Soff_inb n)).squeeze S256x1536 squeezes_S1x256x1536_S256x1536).view.amount (.dma (ecell c)) = NB := rfl
theorem NB_o (n : ℕ) (c : ℕ) : ((pc oM (Ooff n) S1x256x1536.size (Ooff_inb n)).squeeze S256x1536 squeezes_S1x256x1536_S256x1536).view.amount (.dma (ocell c)) = NB := rfl

/-! ## Families -/

section Fams
variable (gX eX : Vec F S22x8960x1536 .bf16) (EV : ℕ → Vec F S1x256x1536 .bf16)

/-- The input blocks at home. -/
abbrev gH (n : ℕ) : sProp 𝕄 := gPc d n (blk gX n)
abbrev eH (n : ℕ) : sProp 𝕄 := ePc d n (blk eX n)
/-- The input transfers in flight, by the local chunk number. -/
def gFl (n : ℕ) : sProp 𝕄 := Fl (d : Thread nD τ) (.dma (gcell (n % 35))) NB iprop(mPc d n (blk gX n) ∗ gH d gX n)
def eFl (n : ℕ) : sProp 𝕄 := Fl (d : Thread nD τ) (.dma (ecell (n % 35))) NB iprop(sPc d (n % 35) (blk eX n) ∗ eH d eX n)
/-- The output transfer of block `n` in flight. -/
def oFl (n : ℕ) : sProp 𝕄 := Fl (d : Thread nD τ) (.dma (ocell n)) NB iprop(oPc d n (EV n) ∗ mPc d n (EV n))

/-- The first input stream while batch `N / 35` is brought in: chunks `[w, x)` in flight. -/
def GI (N w x : ℕ) : sProp 𝕄 :=
  iprop(fam (gFl d gX) (N + w) (N + x) ∗ fam (gH d gX) 0 (N + w) ∗ fam (gH d gX) (N + x) 770 ∗ fam (gS0 d) x (w + 6))
def EI (N w x : ℕ) : sProp 𝕄 :=
  iprop(fam (eFl d eX) (N + w) (N + x) ∗ fam (eH d eX) 0 (N + w) ∗ fam (eH d eX) (N + x) 770 ∗ fam (eS0 d) x (w + 6))
/-- The output stream: blocks below `w` written, `[w, a)` in flight, the others not begun. -/
def OS (w a : ℕ) : sProp 𝕄 :=
  iprop(fam (oFl d EV) w a ∗ fam (fun n => oPc d n (EV n)) 0 w ∗ fam (oS0 d) a (w + 35) ∗ fam (fun n => iprop(∃ v, oPc d n v)) a 770)

/-- Slots of the resident buffer whose contents no longer matter. -/
def MF (lo hi : ℕ) : sProp 𝕄 := fam (fun n => iprop(∃ v, mPc (F := F) d n v)) lo hi
/-- Staging slots whose contents no longer matter. -/
def SF (lo hi : ℕ) : sProp 𝕄 := fam (fun n => iprop(∃ v, sPc (F := F) d n v)) lo hi
/-- Blocks landed and not yet added (past the last batch: anything). -/
def MR (lo hi : ℕ) : sProp 𝕄 := fam (fun n => iprop(∃ v, mPc d n v ∗ ⌜n < 770 → v = blk gX n⌝)) lo hi
def SR (N lo hi : ℕ) : sProp 𝕄 := fam (fun c => iprop(∃ v, sPc d c v ∗ ⌜N + c < 770 → v = blk eX (N + c)⌝)) lo hi

end Fams

abbrev WP {α : Type} (p : Prog (TpuEff nD τ sig (Elt F) Λ₀ .tc) α) (Q : α → sProp 𝕄) : sProp 𝕄 :=
  wp frame (WE (defs₀ (F := F)) Variants.none (d : Thread nD τ) none) Set.univ p Q

section Ops
variable {d} {gX eX : Vec F S22x8960x1536 .bf16} {EV : ℕ → Vec F S1x256x1536 .bf16} {α : Type}

theorem g_start {Q : α → sProp 𝕄} {b w x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 35) (hwx : w ≤ x) (hw6 : x < w + 6) (hhi : 35 * b + x < hi)
    (h₁ : off₁ = Ooff (35 * b + x)) (h₂ : off₂ = Moff (35 * b + x)) (hs : sem = gcell x) :
    iprop(GI d gX (35 * b) w x ∗ MF d (35 * b + x) hi)
      ⊢ iprop((iprop(GI d gX (35 * b) w (x + 1) ∗ MF d (35 * b + (x + 1)) hi) -∗ WP d (k ⟨⟩) Q)
        -∗ WP d (.op (.enqueueDma ((pc gM off₁ S1x256x1536.size inb₁).squeeze S256x1536 z₁)
            (.here ((pc mM off₂ S1x256x1536.size inb₂).squeeze S256x1536 z₂)) (.dma sem) hsrc hdst hsem) k) Q) := by
  unfold GI MF
  rw [fam_head (gH d gX) (a := 35 * b + x) (by omega), fam_head (gS0 d) hw6, fam_head _ hhi]
  iintro ⟨⟨HF, HL, ⟨HG, HR⟩, HS, HC⟩, ⟨%v, HM⟩, HMR⟩ Hk
  iapply (wp_dma (M₁ := gM) (M₂ := mM) (Ooff_inb _) h₁ (Moff_inb _) h₂ (sm' := .dma (gcell x)) (by rw [hs]) NB (NB_g _ _) NB_pos) $$ [HG HM HS]
  · isplitl [HG]; · iexact HG
    isplitl [HM]; · iexact HM
    iexact HS
  iintro HF'
  iapply Hk
  rw [show 35 * b + (x + 1) = 35 * b + x + 1 by omega, fam_last (gFl d gX) (by omega : 35 * b + w ≤ 35 * b + x)]
  isplitr [HMR]; swap; · iexact HMR
  isplitl [HF' HF]
  · isplitl [HF']
    · unfold gFl; rw [show (35 * b + x) % 35 = x by omega]; iexact HF'
    iexact HF
  isplitl [HL]; · iexact HL
  isplitl [HR]; · iexact HR
  iexact HC

theorem e_start {Q : α → sProp 𝕄} {b w x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 35) (hwx : w ≤ x) (hw6 : x < w + 6) (hhi : x < hi)
    (h₁ : off₁ = Ooff (35 * b + x)) (h₂ : off₂ = Soff x) (hs : sem = ecell x) :
    iprop(EI d eX (35 * b) w x ∗ SF d x hi)
      ⊢ iprop((iprop(EI d eX (35 * b) w (x + 1) ∗ SF d (x + 1) hi) -∗ WP d (k ⟨⟩) Q)
        -∗ WP d (.op (.enqueueDma ((pc eM off₁ S1x256x1536.size inb₁).squeeze S256x1536 z₁)
            (.here ((pc stM off₂ S1x256x1536.size inb₂).squeeze S256x1536 z₂)) (.dma sem) hsrc hdst hsem) k) Q) := by
  unfold EI SF
  rw [fam_head (eH d eX) (a := 35 * b + x) (by omega), fam_head (eS0 d) hw6, fam_head _ hhi]
  iintro ⟨⟨HF, HL, ⟨HG, HR⟩, HS, HC⟩, ⟨%v, HM⟩, HMR⟩ Hk
  iapply (wp_dma (M₁ := eM) (M₂ := stM) (Ooff_inb _) h₁ (Soff_inb _) h₂ (sm' := .dma (ecell x)) (by rw [hs]) NB (NB_e _ _) NB_pos) $$ [HG HM HS]
  · isplitl [HG]; · iexact HG
    isplitl [HM]; · iexact HM
    iexact HS
  iintro HF'
  iapply Hk
  rw [show 35 * b + (x + 1) = 35 * b + x + 1 by omega, fam_last (eFl d eX) (by omega : 35 * b + w ≤ 35 * b + x)]
  isplitr [HMR]; swap; · iexact HMR
  isplitl [HF' HF]
  · isplitl [HF']
    · unfold eFl; rw [show (35 * b + x) % 35 = x by omega]; iexact HF'
    iexact HF
  isplitl [HL]; · iexact HL
  isplitl [HR]; · iexact HR
  iexact HC

theorem g_wait {Q : α → sProp 𝕄} {b u w x : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hwx : w < x) (hw : w < 35) (hu : u ≤ w) (hx6 : x ≤ w + 6) (hs : sem = gcell w)  :
    iprop(GI d gX (35 * b) w x ∗ MR d gX (35 * b + u) (35 * b + w) ∗ OW (d : Thread nD τ))
      ⊢ iprop((iprop(GI d gX (35 * b) (w + 1) x ∗ MR d gX (35 * b + u) (35 * b + (w + 1)) ∗ OW (d : Thread nD τ)) -∗ WP d (k ⟨⟩) Q)
        -∗ WP d (.op (.waitDma2 sem srcw ((pc mM offw S1x256x1536.size inbw).squeeze S256x1536 zw) hsrc hdst) k) Q) := by
  unfold GI MR
  rw [fam_head (gFl d gX) (a := 35 * b + w) (by omega)]
  iintro ⟨⟨⟨HF, HFs⟩, HL, HR, HC⟩, HM, HO⟩ Hk
  unfold gFl
  iapply (wp_wt (sem' := gcell ((35 * b + w) % 35)) (by rw [hs, show (35 * b + w) % 35 = w by omega]) rfl) $$ [HF HO]
  · isplitl [HF]; · iexact HF
    iexact HO
  iintro ⟨⟨HM', HG⟩, HS, HO⟩
  iapply Hk
  rw [show 35 * b + (w + 1) = 35 * b + w + 1 by omega, fam_last (gH d gX) (by omega : 0 ≤ 35 * b + w),
    show w + 1 + 6 = w + 6 + 1 by omega, fam_last (gS0 d) hx6,
    fam_last _ (by omega : 35 * b + u ≤ 35 * b + w)]
  isplitr [HO HM HM']
  · isplitl [HFs]; · iexact HFs
    isplitl [HG HL]
    · isplitl [HG]; · iexact HG
      iexact HL
    isplitl [HR]; · iexact HR
    isplitl [HS]
    · rw [gcell_mod (show ((35 * b + w) % 35) % 6 = (w + 6) % 6 by omega)]; iexact HS
    iexact HC
  isplitl [HM HM']
  · isplitl [HM']
    · iexists _; isplitl [HM']; · iexact HM'
      ipureintro; intro _; rfl
    iexact HM
  iexact HO

theorem e_wait {Q : α → sProp 𝕄} {b u w x : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hwx : w < x) (hw : w < 35) (hu : u ≤ w) (hx6 : x ≤ w + 6) (hs : sem = ecell w)  :
    iprop(EI d eX (35 * b) w x ∗ SR d eX (35 * b) u w ∗ OW (d : Thread nD τ))
      ⊢ iprop((iprop(EI d eX (35 * b) (w + 1) x ∗ SR d eX (35 * b) u (w + 1) ∗ OW (d : Thread nD τ)) -∗ WP d (k ⟨⟩) Q)
        -∗ WP d (.op (.waitDma2 sem srcw ((pc stM offw S1x256x1536.size inbw).squeeze S256x1536 zw) hsrc hdst) k) Q) := by
  unfold EI SR
  rw [fam_head (eFl d eX) (a := 35 * b + w) (by omega)]
  iintro ⟨⟨⟨HF, HFs⟩, HL, HR, HC⟩, HM, HO⟩ Hk
  unfold eFl
  iapply (wp_wt (sem' := ecell ((35 * b + w) % 35)) (by rw [hs, show (35 * b + w) % 35 = w by omega]) rfl) $$ [HF HO]
  · isplitl [HF]; · iexact HF
    iexact HO
  iintro ⟨⟨HM', HG⟩, HS, HO⟩
  iapply Hk
  rw [show 35 * b + (w + 1) = 35 * b + w + 1 by omega, fam_last (eH d eX) (by omega : 0 ≤ 35 * b + w),
    show w + 1 + 6 = w + 6 + 1 by omega, fam_last (eS0 d) hx6,
    fam_last _ hu]
  isplitr [HO HM HM']
  · isplitl [HFs]; · iexact HFs
    isplitl [HG HL]
    · isplitl [HG]; · iexact HG
      iexact HL
    isplitl [HR]; · iexact HR
    isplitl [HS]
    · rw [ecell_mod (show ((35 * b + w) % 35) % 6 = (w + 6) % 6 by omega)]; iexact HS
    iexact HC
  isplitl [HM HM']
  · isplitl [HM']
    · iexists _
      isplitl [HM']
      · rw [show (35 * b + w) % 35 = w by omega]; iexact HM'
      ipureintro; intro _; rfl
    iexact HM
  iexact HO

theorem mPc_mod {n n' : ℕ} (h : n / 35 % 2 = n' / 35 % 2) (h' : n % 35 = n' % 35) (v : Vec F S1x256x1536 .bf16) :
    mPc d n v = mPc d n' v := by
  have h0 : Moff n = Moff n' := by simp [Moff, h, h']
  have : ∀ (o o' : Fin 3 → ℕ) (i : ∀ a, o a + S1x256x1536.size a ≤ S2x8960x1536.size a) (i' : ∀ a, o' a + S1x256x1536.size a ≤ S2x8960x1536.size a),
      o = o' → (owns (d : Thread nD τ) (pc mM o S1x256x1536.size i) fullShare v : sProp 𝕄) = owns (d : Thread nD τ) (pc mM o' S1x256x1536.size i') fullShare v := by
    intro o o' i i' h; subst h; rfl
  exact this _ _ _ _ h0

theorem sPc_mod {n n' : ℕ} (h : n % 6 = n' % 6) (v : Vec F S1x256x1536 .bf16) :
    sPc d n v = sPc d n' v := by
  have h0 : Soff n = Soff n' := by simp [Soff, h]
  have : ∀ (o o' : Fin 3 → ℕ) (i : ∀ a, o a + S1x256x1536.size a ≤ S6x256x1536.size a) (i' : ∀ a, o' a + S1x256x1536.size a ≤ S6x256x1536.size a),
      o = o' → (owns (d : Thread nD τ) (pc stM o S1x256x1536.size i) fullShare v : sProp 𝕄) = owns (d : Thread nD τ) (pc stM o' S1x256x1536.size i') fullShare v := by
    intro o o' i i' h; subst h; rfl
  exact this _ _ _ _ h0

/-- Waiting for the oldest output transfer frees its slot of the resident buffer. -/
theorem o_wait {Q : α → sProp 𝕄} {w a lo : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hwa : w < a) (ha : a ≤ w + 35) (hlo : lo ≤ w + 70) (hs : sem = ocell w)  :
    iprop(OS d EV w a ∗ MF d lo (w + 70) ∗ OW (d : Thread nD τ))
      ⊢ iprop((iprop(OS d EV (w + 1) a ∗ MF d lo (w + 1 + 70) ∗ OW (d : Thread nD τ)) -∗ WP d (k ⟨⟩) Q)
        -∗ WP d (.op (.waitDma2 sem srcw ((pc oM offw S1x256x1536.size inbw).squeeze S256x1536 zw) hsrc hdst) k) Q) := by
  unfold OS MF
  rw [fam_head (oFl d EV) hwa]
  iintro ⟨⟨⟨HF, HFs⟩, HL, HC, HR⟩, HM, HO⟩ Hk
  unfold oFl
  iapply (wp_wt (sem' := ocell w) hs rfl) $$ [HF HO]
  · isplitl [HF]; · iexact HF
    iexact HO
  iintro ⟨⟨HG, HM'⟩, HS, HO⟩
  iapply Hk
  rw [fam_last _ (by omega : 0 ≤ w), show w + 1 + 35 = w + 35 + 1 by omega, fam_last (oS0 d) ha, show w + 1 + 70 = w + 70 + 1 by omega, fam_last _ hlo]
  isplitr [HO HM HM']
  · isplitl [HFs]; · iexact HFs
    isplitl [HG HL]
    · isplitl [HG]; · iexact HG
      iexact HL
    isplitl [HS HC]
    · isplitl [HS]
      · rw [ocell_mod (show w % 35 = (w + 35) % 35 by omega)]; iexact HS
      iexact HC
    iexact HR
  isplitl [HM HM']
  · isplitl [HM']
    · iexists _; rw [mPc_mod (n := w + 70) (n' := w) (by omega) (by omega)]; iexact HM'
    iexact HM
  iexact HO

theorem o_start {Q : α → sProp 𝕄} {w a : ℕ} {off₁ off₂ : Fin 3 → ℕ} {sem : DmaSem sig} {inb₁ inb₂ z₁ z₂ hsrc hdst hsem}
    {k : PUnit → Prog (TpuEff nD τ sig (Elt F) Λ₀ .tc) α}
    (hwa : w ≤ a) (ha : a < 770) (ha' : a < w + 35)
    (h₁ : off₁ = Moff a) (h₂ : off₂ = Ooff a) (hs : sem = ocell a) :
    iprop(OS d EV w a ∗ mPc d a (EV a))
      ⊢ iprop((OS d EV w (a + 1) -∗ WP d (k ⟨⟩) Q)
        -∗ WP d (.op (.enqueueDma ((pc mM off₁ S1x256x1536.size inb₁).squeeze S256x1536 z₁)
            (.here ((pc oM off₂ S1x256x1536.size inb₂).squeeze S256x1536 z₂)) (.dma sem) hsrc hdst hsem) k) Q) := by
  unfold OS
  rw [fam_head (oS0 d) ha', fam_head _ ha]
  iintro ⟨⟨HF, HL, ⟨HS, HC⟩, ⟨%v, HO⟩, HR⟩, HM⟩ Hk
  iapply (wp_dma (M₁ := mM) (M₂ := oM) (Moff_inb _) h₁ (Ooff_inb _) h₂ (sm' := .dma (ocell a)) (by rw [hs]) NB (NB_o _ _) NB_pos) $$ [HO HM HS]
  · isplitl [HM]; · iexact HM
    isplitl [HO]; · iexact HO
    iexact HS
  iintro HF'
  iapply Hk
  rw [fam_last (oFl d EV) hwa]
  isplitl [HF' HF]
  · isplitl [HF']
    · unfold oFl; iexact HF'
    iexact HF
  isplitl [HL]; · iexact HL
  isplitl [HC]; · iexact HC
  iexact HR

end Ops

end Cert.KernelIdeal.Hand
-- ==== Proof.KernelIdealVals.lean ====
/-
  What the kernel leaves in its buffers, value by value: every definition is one the program computes, read at the batch and the chunk.
-/
module

public import proofs.«01_k».proof.Proof.Gen.KernelIdeal.Skeleton
public import proofs.«01_k».proof.Proof.KernelIdealRes

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL.Sem

variable {F : FTy → Type} [FloatOps F]

/-- The first factor's inverse as the kernel computes it from the Gram matrix, before its last step. -/
def ch1 (v11 : FVec F S16x16 .f32) : FVec F S1x128 .f32 × IVec S16x128 1 × FVec F S16x128 .f32 :=
  let v12 : IVec S16x128 32 := iota .tc S16x128 32 [0] iota_S16x128_d0_w32
  let v13 : IVec S16x128 32 := iota .tc S16x128 32 [1] iota_S16x128_d1_w32
  let v16 := k0_pay31 v11
  let v19 := k0_pay32 v11
  let v22 := k0_pay33 v11
  let v25 := k0_pay34 v11
  let v28 := k0_pay35 v11
  let v31 := k0_pay36 v11
  let v34 := k0_pay37 v11
  let v37 := k0_pay38 v11
  let v40 := k0_pay39 v11
  let v43 := k0_pay40 v11
  let v46 := k0_pay41 v11
  let v49 := k0_pay42 v11
  let v52 := k0_pay43 v11
  let v55 := k0_pay44 v11
  let v58 := k0_pay45 v11
  let v61 := k0_pay46 v11
  let v73 := k0_pay48 v12 v16
  let v83 := k0_pay49 v12 v13 v16
  let v87 := k0_pay50 v12 v16 v19
  let v91 := k0_pay51 v12 v16 v22
  let v95 := k0_pay52 v12 v16 v25
  let v99 := k0_pay53 v28 v73
  let v103 := k0_pay54 v31 v73
  let v107 := k0_pay55 v34 v73
  let v111 := k0_pay56 v37 v73
  let v115 := k0_pay57 v40 v73
  let v119 := k0_pay58 v43 v73
  let v123 := k0_pay59 v46 v73
  let v127 := k0_pay60 v49 v73
  let v131 := k0_pay61 v52 v73
  let v135 := k0_pay62 v55 v73
  let v139 := k0_pay63 v58 v73
  let v143 := k0_pay64 v61 v73
  let v151 := k0_pay66 v12 v87
  let v153 := k0_pay67 v83 v87
  let v161 := k0_pay68 v12 v83 v151 v153
  let v165 := k0_pay69 v91 v151
  let v169 := k0_pay70 v95 v151
  let v173 := k0_pay71 v99 v151
  let v177 := k0_pay72 v103 v151
  let v181 := k0_pay73 v107 v151
  let v185 := k0_pay74 v111 v151
  let v189 := k0_pay75 v115 v151
  let v193 := k0_pay76 v119 v151
  let v197 := k0_pay77 v123 v151
  let v201 := k0_pay78 v127 v151
  let v205 := k0_pay79 v131 v151
  let v209 := k0_pay80 v135 v151
  let v212 := k0_pay81 v151
  let v213 := k0_pay82 v139 v212
  let v217 := k0_pay83 v143 v151
  let v225 := k0_pay85 v12 v165
  let v235 := k0_pay86 v12 v161 v165
  let v239 := k0_pay87 v12 v165 v169
  let v243 := k0_pay88 v12 v165 v173
  let v247 := k0_pay89 v12 v165 v177
  let v251 := k0_pay90 v12 v165 v181
  let v255 := k0_pay91 v12 v165 v185
  let v259 := k0_pay92 v12 v165 v189
  let v263 := k0_pay93 v12 v165 v193
  let v267 := k0_pay94 v12 v165 v197
  let v269 := k0_pay95 v12 v165
  let v271 := k0_pay96 v201 v225 v269
  let v275 := k0_pay97 v205 v225
  let v279 := k0_pay98 v209 v225
  let v283 := k0_pay99 v213 v225
  let v287 := k0_pay100 v217 v225
  let v295 := k0_pay102 v12 v239
  let v305 := k0_pay103 v12 v235 v239
  let v309 := k0_pay104 v12 v239 v243
  let v313 := k0_pay105 v12 v239 v247
  let v317 := k0_pay106 v12 v239 v251
  let v321 := k0_pay107 v12 v239 v255
  let v325 := k0_pay108 v12 v239 v259
  let v326 := k0_pay109 v12 v239
  let v329 := k0_pay110 v263 v295 v326
  let v333 := k0_pay111 v267 v295
  let v337 := k0_pay112 v271 v295
  let v341 := k0_pay113 v275 v295
  let v345 := k0_pay114 v279 v295
  let v349 := k0_pay115 v283 v295
  let v353 := k0_pay116 v287 v295
  let v361 := k0_pay118 v12 v309
  let v371 := k0_pay119 v12 v305 v309
  let v375 := k0_pay120 v12 v309 v313
  let v379 := k0_pay121 v12 v309 v317
  let v383 := k0_pay122 v12 v309 v321
  let v387 := k0_pay123 v325 v361
  let v391 := k0_pay124 v329 v361
  let v395 := k0_pay125 v333 v361
  let v399 := k0_pay126 v337 v361
  let v403 := k0_pay127 v341 v361
  let v407 := k0_pay128 v345 v361
  let v411 := k0_pay129 v349 v361
  let v415 := k0_pay130 v353 v361
  let v423 := k0_pay132 v12 v375
  let v433 := k0_pay133 v12 v371 v375
  let v437 := k0_pay134 v12 v375 v379
  let v440 := k0_pay135 v12 v375
  let v445 := k0_pay136 v387 v423
  let v449 := k0_pay137 v391 v423
  let v453 := k0_pay138 v395 v423
  let v457 := k0_pay139 v399 v423
  let v461 := k0_pay140 v403 v423
  let v465 := k0_pay141 v407 v423
  let v469 := k0_pay142 v411 v423
  let v473 := k0_pay143 v415 v423
  let v481 := k0_pay145 v12 v437
  let v491 := k0_pay146 v12 v433 v437
  let v495 := k0_pay147 v12 v383 v437 v440
  let v497 := k0_pay148 v12 v437
  let v507 := k0_pay149 v453 v481
  let v511 := k0_pay150 v457 v481
  let v515 := k0_pay151 v461 v481
  let v519 := k0_pay152 v465 v481
  let v523 := k0_pay153 v469 v481
  let v527 := k0_pay154 v473 v481
  let v535 := k0_pay156 v12 v495
  let v545 := k0_pay157 v12 v491 v495
  let v549 := k0_pay158 v12 v445 v481 v495 v497
  let v553 := k0_pay159 v12 v449 v481 v495
  let v554 := k0_pay160 v12 v495
  let v569 := k0_pay161 v519 v535
  let v573 := k0_pay162 v523 v535
  let v577 := k0_pay163 v527 v535
  let v585 := k0_pay165 v12 v549
  let v595 := k0_pay166 v12 v545 v549
  let v599 := k0_pay167 v12 v549 v553
  let v603 := k0_pay168 v12 v507 v535 v549 v554
  let v607 := k0_pay169 v12 v511 v535 v549
  let v611 := k0_pay170 v12 v515 v535 v549
  let v641 := k0_pay173 v12 v595 v599
  let v645 := k0_pay174 v12 v599 v603
  let v649 := k0_pay175 v12 v599 v607
  let v653 := k0_pay176 v12 v599 v611
  let v657 := k0_pay177 v12 v569 v585 v599
  let v661 := k0_pay178 v12 v573 v585 v599
  let v665 := k0_pay179 v12 v577 v585 v599
  let v667 := k0_pay180 v12 v599 v603
  let c10_i32 := 10#32
  let v691 := k0_pay183 v12 v645 v653 v667 c10_i32
  let v695 := k0_pay184 v12 v645 v657 v667 c10_i32
  let v699 := k0_pay185 v12 v645 v661 v667 c10_i32
  let v703 := k0_pay186 v12 v645 v665 v667 c10_i32
  let v711 := k0_pay188 v12 v645 v649 v667 c10_i32
  let v721 := k0_pay189 v12 v641 v645 v649 v667 c10_i32
  let v722 := k0_pay190 v12 v645 v649 v667 c10_i32
  let v755 := k0_pay194 v12 v691 v711 v721 v722
  let v763 := k0_pay196 v12 v691 v699 v711 v722
  let v767 := k0_pay197 v12 v691 v703 v711 v722
  let v775 := k0_pay199 v12 v691 v695 v711 v722
  let v777 := k0_pay200 v12 v691 v695 v711 v721 v722
  let v825 := k0_pay207 v12 v755 v763 v767 v775 v777
  let v827 := k0_pay208 v12
  let v830 := k0_pay209 v12 v755 v763 v767 v775 v777
  (v825, v827, v830)

/-- The second factor's inverse, likewise. -/
def ch2 (v859 : FVec F S16x16 .f32) :
    FVec F S16x128 .f32 × FVec F S16x128 .f32 × FVec F S16x128 .f32 × FVec F S1x128 .f32 × IVec S16x128 1 × FVec F S16x128 .f32 :=
  let v860 : IVec S16x128 32 := iota .tc S16x128 32 [0] iota_S16x128_d0_w32
  let v861 : IVec S16x128 32 := iota .tc S16x128 32 [1] iota_S16x128_d1_w32
  let v864 := k0_pay220 v859
  let v867 := k0_pay221 v859
  let v870 := k0_pay222 v859
  let v873 := k0_pay223 v859
  let v876 := k0_pay224 v859
  let v879 := k0_pay225 v859
  let v882 := k0_pay226 v859
  let v885 := k0_pay227 v859
  let v888 := k0_pay228 v859
  let v891 := k0_pay229 v859
  let v894 := k0_pay230 v859
  let v897 := k0_pay231 v859
  let v900 := k0_pay232 v859
  let v903 := k0_pay233 v859
  let v906 := k0_pay234 v859
  let v909 := k0_pay235 v859
  let v913 := k0_pay236 (F := F) v860 v861
  let v915 := k0_pay237 v859
  let v917 := k0_pay238 v860
  let v918 := k0_pay239 v859
  let v921 := k0_pay240 v864 v917 v918
  let v931 := k0_pay241 v860 v864 v913 v915 v917 v918
  let v935 := k0_pay242 v864 v867 v917 v918
  let v939 := k0_pay243 v864 v870 v917 v918
  let v943 := k0_pay244 v864 v873 v917 v918
  let v947 := k0_pay245 v864 v876 v917 v918
  let v951 := k0_pay246 v864 v879 v917 v918
  let v955 := k0_pay247 v864 v882 v917 v918
  let v959 := k0_pay248 v864 v885 v917 v918
  let v963 := k0_pay249 v864 v888 v917 v918
  let v967 := k0_pay250 v864 v891 v917 v918
  let v971 := k0_pay251 v864 v894 v917 v918
  let v975 := k0_pay252 v864 v897 v917 v918
  let v976 := k0_pay253 v864 v917 v918
  let v979 := k0_pay254 v900 v921 v976
  let v983 := k0_pay255 v903 v921
  let v987 := k0_pay256 v906 v921
  let v991 := k0_pay257 v909 v921
  let v999 := k0_pay259 v860 v935
  let v1009 := k0_pay260 v860 v931 v935
  let v1013 := k0_pay261 v860 v935 v939
  let v1017 := k0_pay262 v860 v935 v943
  let v1021 := k0_pay263 v860 v935 v947
  let v1025 := k0_pay264 v860 v935 v951
  let v1029 := k0_pay265 v860 v935 v955
  let v1033 := k0_pay266 v860 v935 v959
  let v1037 := k0_pay267 v963 v999
  let v1041 := k0_pay268 v967 v999
  let v1045 := k0_pay269 v971 v999
  let v1049 := k0_pay270 v975 v999
  let v1053 := k0_pay271 v979 v999
  let v1057 := k0_pay272 v983 v999
  let v1061 := k0_pay273 v987 v999
  let v1065 := k0_pay274 v991 v999
  let v1073 := k0_pay276 v860 v1013
  let v1083 := k0_pay277 v860 v1009 v1013
  let v1087 := k0_pay278 v860 v1013 v1017
  let v1090 := k0_pay279 v860 v1013
  let v1091 := k0_pay280 v1021 v1090
  let v1095 := k0_pay281 v1025 v1073
  let v1099 := k0_pay282 v1029 v1073
  let v1103 := k0_pay283 v1033 v1073
  let v1107 := k0_pay284 v1037 v1073
  let v1111 := k0_pay285 v1041 v1073
  let v1115 := k0_pay286 v1045 v1073
  let v1119 := k0_pay287 v1049 v1073
  let v1123 := k0_pay288 v1053 v1073
  let v1127 := k0_pay289 v1057 v1073
  let v1131 := k0_pay290 v1061 v1073
  let v1135 := k0_pay291 v1065 v1073
  let v1143 := k0_pay293 v860 v1087
  let v1145 := k0_pay294 v1083 v1087
  let v1147 := k0_pay295 v860
  let v1153 := k0_pay296 v1083 v1143 v1145 v1147
  let v1157 := k0_pay297 v1091 v1143
  let v1161 := k0_pay298 v1095 v1143
  let v1165 := k0_pay299 v1099 v1143
  let v1169 := k0_pay300 v1103 v1143
  let v1173 := k0_pay301 v1107 v1143
  let v1177 := k0_pay302 v1111 v1143
  let v1181 := k0_pay303 v1115 v1143
  let v1185 := k0_pay304 v1119 v1143
  let v1189 := k0_pay305 v1123 v1143
  let v1193 := k0_pay306 v1127 v1143
  let v1197 := k0_pay307 v1131 v1143
  let v1201 := k0_pay308 v1135 v1143
  let v1203 := k0_pay309 v1091 v1143
  let v1205 := k0_pay310 v860
  let v1206 := k0_pay311 v1091 v1143
  let v1219 := k0_pay313 v860 v1153 v1157 v1203 v1205 v1206
  let v1223 := k0_pay314 v1157 v1161 v1205 v1206
  let v1227 := k0_pay315 v1157 v1165 v1205 v1206
  let v1231 := k0_pay316 v1157 v1169 v1205 v1206
  let v1235 := k0_pay317 v1157 v1173 v1205 v1206
  let v1239 := k0_pay318 v1157 v1177 v1205 v1206
  let v1243 := k0_pay319 v1157 v1181 v1205 v1206
  let v1247 := k0_pay320 v1157 v1185 v1205 v1206
  let v1251 := k0_pay321 v1157 v1189 v1205 v1206
  let v1255 := k0_pay322 v1157 v1193 v1205 v1206
  let v1259 := k0_pay323 v1157 v1197 v1205 v1206
  let v1263 := k0_pay324 v1157 v1201 v1205 v1206
  let v1264 := k0_pay325 v1157 v1161 v1205 v1206
  let v1281 := k0_pay328 v860 v1219 v1223 v1264
  let v1285 := k0_pay329 v860 v1223 v1227 v1264
  let v1289 := k0_pay330 v860 v1223 v1231 v1264
  let v1293 := k0_pay331 v860 v1223 v1235 v1264
  let v1297 := k0_pay332 v860 v1223 v1239 v1264
  let v1301 := k0_pay333 v860 v1223 v1243 v1264
  let v1305 := k0_pay334 v860 v1223 v1247 v1264
  let v1309 := k0_pay335 v860 v1223 v1251 v1264
  let v1313 := k0_pay336 v860 v1223 v1255 v1264
  let v1317 := k0_pay337 v860 v1223 v1259 v1264
  let v1321 := k0_pay338 v860 v1223 v1263 v1264
  let v1339 := k0_pay341 v860 v1281 v1285
  let v1343 := k0_pay342 v860 v1285 v1289
  let v1347 := k0_pay343 v860 v1285 v1293
  let v1351 := k0_pay344 v860 v1285 v1297
  let v1355 := k0_pay345 v860 v1285 v1301
  let v1359 := k0_pay346 v860 v1285 v1305
  let v1363 := k0_pay347 v860 v1285 v1309
  let v1367 := k0_pay348 v860 v1285 v1313
  let v1371 := k0_pay349 v860 v1285 v1317
  let v1375 := k0_pay350 v860 v1285 v1321
  let v1377 := k0_pay351 v860 v1285 v1289
  let c7_i32_94 := 7#32
  let v1393 := k0_pay353 v860 v1339 v1343 v1377 c7_i32_94
  let v1401 := k0_pay355 v860 v1343 v1351 v1377 c7_i32_94
  let v1405 := k0_pay356 v860 v1343 v1355 v1377 c7_i32_94
  let v1409 := k0_pay357 v860 v1343 v1359 v1377 c7_i32_94
  let v1413 := k0_pay358 v860 v1343 v1363 v1377 c7_i32_94
  let v1417 := k0_pay359 v860 v1343 v1367 v1377 c7_i32_94
  let v1421 := k0_pay360 v860 v1343 v1371 v1377 c7_i32_94
  let v1425 := k0_pay361 v860 v1343 v1375 v1377 c7_i32_94
  let v1427 := k0_pay362 v860 v1343 v1347 v1377 c7_i32_94
  let v1433 := k0_pay363 v860 v1343 v1347 v1377 c7_i32_94
  let v1451 := k0_pay365 v1405 v1433
  let v1455 := k0_pay366 v1409 v1433
  let v1459 := k0_pay367 v1413 v1433
  let v1463 := k0_pay368 v1417 v1433
  let v1467 := k0_pay369 v1421 v1433
  let v1471 := k0_pay370 v1425 v1433
  let v1479 := k0_pay372 v860 v1401 v1433
  let v1489 := k0_pay373 v860 v1393 v1401 v1427 v1433
  let v1509 := k0_pay375 v1467 v1479
  let v1513 := k0_pay376 v1471 v1479
  let v1521 := k0_pay378 v860 v1451 v1479
  let v1531 := k0_pay379 v860 v1451 v1479 v1489
  let v1535 := k0_pay380 v860 v1451 v1455 v1479
  let v1539 := k0_pay381 v860 v1451 v1459 v1479
  let v1543 := k0_pay382 v860 v1451 v1463 v1479
  let v1546 := k0_pay383 v860 v1451 v1479
  let v1577 := k0_pay388 v860 v1535 v1543
  let v1581 := k0_pay389 v860 v1509 v1535 v1546
  let v1585 := k0_pay390 v860 v1513 v1521 v1535
  let v1593 := k0_pay392 v860 v1535 v1539
  let v1595 := k0_pay393 v860 v1531 v1535 v1539
  let v1597 := k0_pay394 v860
  let v1600 := k0_pay395 v860 v1531 v1535 v1539
  let v1633 := k0_pay399 v860 v1577 v1593 v1595 v1597 v1600
  let v1641 := k0_pay401 v860 v1577 v1585 v1593
  let v1649 := k0_pay403 v860 v1577 v1581 v1593
  let v1651 := k0_pay404 v860 v1577 v1581 v1593 v1595 v1597 v1600
  let v1653 := k0_pay405 v860
  let v1654 := k0_pay406 v860 v1577 v1581 v1593 v1595 v1597 v1600
  (v1633, v1641, v1649, v1651, v1653, v1654)

/-- A fold over the first `n` chunks. -/
def foldN {α : Type} (f : ℕ → α → α) (a : α) : ℕ → α
  | 0 => a
  | n + 1 => f n (foldN f a n)

section Vals
variable (gX eX : Vec F S22x8960x1536 .bf16) (qX : Vec F S22x16x1536 .i8) (sX : Vec F S16x22 .f32)

theorem Qoff_inb (b : ℕ) : ∀ a, (![min b 21, 0, 0] : Fin 3 → ℕ) a + S1x16x1536.size a ≤ S22x16x1536.size a := by
  intro a; fin_cases a <;> simp <;> omega

/-- Batch `b` of the codes. -/
def qblk (b : ℕ) : Vec F S1x16x1536 .i8 :=
  fun x => qX ((Rect.unit (s := S22x16x1536) ![min b 21, 0, 0] S1x16x1536.size (Qoff_inb b)).emb x)

/-- The codes of batch `b` as floats, and its scales as a column. -/
def BQ (b : ℕ) : FVec F S16x1536 .bf16 := k0_pay211 (qblk qX b)
def QS (b : ℕ) : FVec F S16x1 .f32 := k0_pay212 (BitVec.ofNat 32 (min b 21)) sX

/-- The sum of block `n`. -/
def sumV (n : ℕ) : Vec F S1x256x1536 .bf16 := k0_pay4 (k0_pay1 (blk gX n) (blk eX n))
/-- The first product of block `n`. -/
def P1 (n : ℕ) : Vec F S1x16x256 .f32 := k0_pay5 (QS sX (n / 35)) (k0_pay1 (blk gX n) (blk eX n)) (BQ qX (n / 35))
/-- The Gram matrix of batch `b`'s first product. -/
def G1 (b : ℕ) : FVec F S16x16 .f32 := foldN (fun c a => k0_pay30 a (P1 gX eX qX sX (35 * b + c))) k0_pay29 35
def PO (n : ℕ) : Vec F S1x16x256 .bf16 :=
  k0_pay210 (ch1 (G1 gX eX qX sX (n / 35))).1 (ch1 (G1 gX eX qX sX (n / 35))).2.1 (ch1 (G1 gX eX qX sX (n / 35))).2.2 (P1 gX eX qX sX n)
/-- The second product, transposed. -/
def Q1 (b : ℕ) : FVec F S16x1536 .f32 := foldN (fun c a => k0_pay12 a (PO gX eX qX sX (35 * b + c)) (sumV gX eX (35 * b + c))) k0_pay213 35
/-- The third product of block `n`. -/
def PB (n : ℕ) : Vec F S1x16x256 .f32 := k0_pay20 (k0_pay215 (Q1 gX eX qX sX (n / 35))) (sumV gX eX n)
def G2 (b : ℕ) : FVec F S16x16 .f32 := foldN (fun c a => k0_pay219 a (PB gX eX qX sX (35 * b + c))) k0_pay218 35
/-- The rows' iota. -/
abbrev io : IVec S16x128 32 := iota .tc S16x128 32 [0] iota_S16x128_d0_w32
abbrev C2 (b : ℕ) := ch2 (G2 gX eX qX sX b)
def PX (n : ℕ) : Vec F S1x16x256 .f32 :=
  k0_pay409 io (C2 gX eX qX sX (n / 35)).1 (C2 gX eX qX sX (n / 35)).2.1 (C2 gX eX qX sX (n / 35)).2.2.1
    (C2 gX eX qX sX (n / 35)).2.2.2.1 (C2 gX eX qX sX (n / 35)).2.2.2.2.1 (C2 gX eX qX sX (n / 35)).2.2.2.2.2 (PB gX eX qX sX n)
/-- The largest magnitudes, folded over the chunks. -/
def MX (b : ℕ) : FVec F S16x256 .f32 :=
  foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 35
def PCF (n : ℕ) : Vec F S1x16x256 .bf16 := k0_pay413 (MX gX eX qX sX (n / 35)) (PX gX eX qX sX n)
def PCI (n : ℕ) : Vec F S1x16x256 .i8 := k0_pay414 (MX gX eX qX sX (n / 35)) (PX gX eX qX sX n)
/-- The scales of the third product's codes. -/
def PSc (b : ℕ) : FVec F S16x1 .f32 := k0_pay411 (MX gX eX qX sX b)
def QN (b : ℕ) : FVec F S16x1536 .f32 := foldN (fun c a => k0_pay12 a (PCF gX eX qX sX (35 * b + c)) (sumV gX eX (35 * b + c))) k0_pay415 35
def QNS (b : ℕ) : FVec F S16x1 .f32 := k0_pay418 (PSc gX eX qX sX b) (QN gX eX qX sX b)
def QNF (b : ℕ) : FVec F S16x1536 .f32 := k0_pay419 (PSc gX eX qX sX b) (QN gX eX qX sX b)
def QNC (b : ℕ) : Vec F S1x16x1536 .i8 := k0_pay420 (PSc gX eX qX sX b) (QN gX eX qX sX b)
/-- The two columns of scales, as they stand after `n` batches. -/
def PSO (n : ℕ) : Vec F S16x22 .f32 := foldN (fun b a => k0_pay423 (BitVec.ofNat 32 b) (PSc gX eX qX sX b) a) k0_pay421 n
def QNO (n : ℕ) : Vec F S16x22 .f32 := foldN (fun b a => k0_pay425 (QNS gX eX qX sX b) (k0_pay424 (BitVec.ofNat 32 b)) a) k0_pay422 n
/-- The new error of block `n`. -/
def EV (n : ℕ) : Vec F S1x256x1536 .bf16 :=
  k0_pay426 (PSc gX eX qX sX (n / 35)) (QNS gX eX qX sX (n / 35)) (QNF gX eX qX sX (n / 35)) (PCF gX eX qX sX n) (sumV gX eX n)

end Vals

/-! ## The payloads that are printed more than once -/

theorem pay2_eq : k0_pay2 (F := F) = k0_pay211 := rfl
theorem pay3_eq (s : Vec F S16x22 .f32) : k0_pay3 s = k0_pay212 0#32 s := rfl
theorem pay7_eq (v w : Vec F S1x256x1536 .bf16) : k0_pay7 v w = k0_pay4 (k0_pay1 v w) := rfl
theorem pay8_eq (q : FVec F S16x1 .f32) (v w : Vec F S1x256x1536 .bf16) (u : Vec F S16x1536 .bf16) : k0_pay8 q v w u = k0_pay5 q (k0_pay1 v w) u := rfl
theorem pay10_eq (v w : Vec F S1x256x1536 .bf16) : k0_pay10 v w = k0_pay4 (k0_pay1 v w) := rfl
theorem pay11_eq (q : FVec F S16x1 .f32) (v w : Vec F S1x256x1536 .bf16) (u : Vec F S16x1536 .bf16) : k0_pay11 q v w u = k0_pay5 q (k0_pay1 v w) u := rfl
theorem pay15_eq (v w : Vec F S1x256x1536 .bf16) : k0_pay15 v w = k0_pay4 (k0_pay1 v w) := rfl
theorem pay16_eq (q : FVec F S16x1 .f32) (v w : Vec F S1x256x1536 .bf16) (u : Vec F S16x1536 .bf16) : k0_pay16 q v w u = k0_pay5 q (k0_pay1 v w) u := rfl
theorem pay18_eq (v w : Vec F S1x256x1536 .bf16) : k0_pay18 v w = k0_pay4 (k0_pay1 v w) := rfl
theorem pay19_eq (q : FVec F S16x1 .f32) (v w : Vec F S1x256x1536 .bf16) (u : Vec F S16x1536 .bf16) : k0_pay19 q v w u = k0_pay5 q (k0_pay1 v w) u := rfl
theorem pay25_eq (v w : Vec F S1x256x1536 .bf16) : k0_pay25 v w = k0_pay4 (k0_pay1 v w) := rfl
theorem pay26_eq (q : FVec F S16x1 .f32) (v w : Vec F S1x256x1536 .bf16) (u : Vec F S16x1536 .bf16) : k0_pay26 q v w u = k0_pay5 q (k0_pay1 v w) u := rfl
theorem pay13_eq (a : FVec F S16x1536 .f32) (p₁ : Vec F S1x16x256 .bf16) (m₁ : Vec F S1x256x1536 .bf16) (p₂ : Vec F S1x16x256 .bf16) (m₂ : Vec F S1x256x1536 .bf16)
    (p₃ : Vec F S1x16x256 .bf16) (m₃ : Vec F S1x256x1536 .bf16) : k0_pay13 a p₁ m₁ p₂ m₂ p₃ m₃ = k0_pay12 (k0_pay12 (k0_pay12 a p₁ m₁) p₂ m₂) p₃ m₃ := rfl
theorem pay214_eq (a : FVec F S16x1536 .f32) (p₁ : Vec F S1x16x256 .bf16) (m₁ : Vec F S1x256x1536 .bf16) : k0_pay214 a p₁ m₁ = k0_pay12 a p₁ m₁ := rfl
theorem pay27_eq (a : FVec F S16x1536 .f32) (p₁ : Vec F S1x16x256 .bf16) (m₁ : Vec F S1x256x1536 .bf16) (p₂ : Vec F S1x16x256 .bf16) (m₂ : Vec F S1x256x1536 .bf16)
    (p₃ : Vec F S1x16x256 .bf16) (m₃ : Vec F S1x256x1536 .bf16) : k0_pay27 a p₁ m₁ p₂ m₂ p₃ m₃ = k0_pay12 (k0_pay12 (k0_pay12 a p₁ m₁) p₂ m₂) p₃ m₃ := rfl
theorem pay416_eq (a : FVec F S16x1536 .f32) (p₁ : Vec F S1x16x256 .bf16) (m₁ : Vec F S1x256x1536 .bf16) (p₂ : Vec F S1x16x256 .bf16) (m₂ : Vec F S1x256x1536 .bf16) :
    k0_pay416 a p₁ m₁ p₂ m₂ = k0_pay12 (k0_pay12 a p₁ m₁) p₂ m₂ := rfl
theorem pay21_eq : k0_pay21 (F := F) = k0_pay20 := rfl
theorem pay22_eq : k0_pay22 (F := F) = k0_pay20 := rfl
theorem pay216_eq (q : FVec F S16x1536 .bf16) (m : Vec F S1x256x1536 .bf16) : k0_pay216 (k0_pay23 q m) = k0_pay20 q m := rfl
theorem pay217_eq (q : FVec F S16x1536 .f32) (m : Vec F S1x256x1536 .bf16) : k0_pay217 q m = k0_pay20 (k0_pay215 q) m := rfl

/-! ## The conditions, by the batch -/

theorem cond1_iff : ∀ i : grid0.Coords, k0_cond1 i = 1#1 ↔ (i 0).val = 0 := by decide +kernel
theorem cond2_iff : ∀ t : Fin k0_t1_loop.trips, k0_cond2 t = 1#1 ↔ t.val + 6 < 35 := by decide +kernel
theorem cond3_iff : ∀ i : grid0.Coords, k0_cond3 i = 1#1 ↔ (i 0).val + 1 < 22 := by decide +kernel
theorem cond4_iff : ∀ i : grid0.Coords, k0_cond4 i = 1#1 ↔ ¬ (i 0).val + 1 < 22 := by decide +kernel
theorem cond5_iff : ∀ i : grid0.Coords, k0_cond5 i = 1#1 ↔ (i 0).val + 1 < 22 := by decide +kernel
theorem cond6_iff : ∀ t : Fin k0_t5_loop.trips, k0_cond6 t = 1#1 ↔ True := by decide +kernel
theorem cond7_iff : ∀ i : grid0.Coords, k0_cond7 i = 1#1 ↔ 0 < (i 0).val := by decide +kernel
theorem cond8_iff : ∀ t : Fin k0_t5_loop.trips, k0_cond8 t = 1#1 ↔ True := by decide +kernel
theorem cond9_iff : ∀ i : grid0.Coords, k0_cond9 i = 1#1 ↔ 0 < (i 0).val := by decide +kernel
theorem cond10_iff : ∀ i : grid0.Coords, k0_cond10 i = 1#1 ↔ (i 0).val + 1 < 22 := by decide +kernel
theorem cond11_iff : ∀ i : grid0.Coords, k0_cond11 i = 1#1 ↔ ¬ (i 0).val + 1 < 22 := by decide +kernel
theorem cond12_iff : ∀ i : grid0.Coords, k0_cond12 i = 1#1 ↔ (i 0).val + 1 < 22 := by decide +kernel
theorem cond13_iff : ∀ t : Fin k0_t6_loop.trips, k0_cond13 t = 1#1 ↔ True := by decide +kernel
theorem cond14_iff : ∀ i : grid0.Coords, k0_cond14 i = 1#1 ↔ 0 < (i 0).val := by decide +kernel
theorem cond15_iff : ∀ t : Fin k0_t6_loop.trips, k0_cond15 t = 1#1 ↔ True := by decide +kernel
theorem cond16_iff : ∀ i : grid0.Coords, k0_cond16 i = 1#1 ↔ 0 < (i 0).val := by decide +kernel
theorem cond17_iff : ∀ i : grid0.Coords, k0_cond17 i = 1#1 ↔ (i 0).val + 1 < 22 := by decide +kernel
theorem cond18_iff : ∀ i : grid0.Coords, k0_cond18 i = 1#1 ↔ ¬ (i 0).val + 1 < 22 := by decide +kernel
theorem cond19_iff : ∀ i : grid0.Coords, k0_cond19 i = 1#1 ↔ (i 0).val + 1 < 22 := by decide +kernel
theorem cond20_iff : ∀ t : Fin k0_t10_loop.trips, k0_cond20 t = 1#1 ↔ t.val = 0 := by decide +kernel
theorem cond21_iff : ∀ i : grid0.Coords, k0_cond21 i = 1#1 ↔ 0 < (i 0).val := by decide +kernel
theorem cond23_iff : ∀ t : Fin k0_t11_loop.trips, k0_cond23 t = 1#1 ↔ 0 < t.val := by decide +kernel
theorem cond24_iff : ∀ (i : grid0.Coords) (t : Fin k0_t11_loop.trips), k0_cond24 i t = 1#1 ↔ (3 ≤ t.val ∧ t.val < 9 ∧ (i 0).val + 2 < 22) := by decide +kernel
theorem cond25_iff : ∀ i : grid0.Coords, k0_cond25 i = 1#1 ↔ (i 0).val = 21 := by decide +kernel

/-! ## Offsets that hold under a condition -/

theorem off28a_eq : ∀ (t : Fin k0_t5_loop.trips) (r : Fin 2), k0_off28 t 2#32 (BitVec.ofNat 32 r.val) = ![2 * t.val + r.val, 0, 0] := by decide +kernel
theorem off28b_eq : ∀ (t : Fin k0_t5_loop.trips) (r : Fin 5), k0_off28 t 5#32 (BitVec.ofNat 32 r.val) = ![5 * t.val + r.val, 0, 0] := by decide +kernel
theorem off95_eq : ∀ (t : Fin k0_t11_loop.trips), 0 < t.val → k0_off95 t = ![t.val - 1] := by decide +kernel
theorem off96_eq : ∀ (i : grid0.Coords) (t : Fin k0_t11_loop.trips), 0 < t.val → k0_off96 i t = ![(i 0).val, 256 * (t.val - 1), 0] := by decide +kernel
theorem off97_eq : ∀ (i : grid0.Coords) (t : Fin k0_t11_loop.trips), 0 < t.val → k0_off97 i t = ![(i 0).val % 2, 256 * (t.val - 1), 0] := by decide +kernel
theorem off98_eq : ∀ (t : Fin k0_t11_loop.trips), 3 ≤ t.val → k0_off98 t = ![t.val - 3] := by decide +kernel
theorem off100_eq : ∀ (i : grid0.Coords) (t : Fin k0_t11_loop.trips), 3 ≤ t.val → k0_off100 i t = ![(i 0).val % 2, 256 * (t.val - 3), 0] := by decide +kernel
theorem off101_eq : ∀ (t : Fin k0_t11_loop.trips), 3 ≤ t.val → k0_off101 t = ![(t.val - 3) % 6] := by decide +kernel
theorem off102_eq : ∀ (i : grid0.Coords) (t : Fin k0_t11_loop.trips), 3 ≤ t.val → k0_off102 i t = ![(i 0).val + 2, 256 * (t.val - 3), 0] := by decide +kernel
theorem off103_eq : ∀ (t : Fin k0_t11_loop.trips), 3 ≤ t.val → k0_off103 t = ![(t.val - 3) % 6, 0, 0] := by decide +kernel
theorem off102_eq' : ∀ (i : grid0.Coords), (i 0).val < 22 := by decide +kernel

end Cert.KernelIdeal.Hand
-- ==== Proof.KernelIdealOps.lean ====
/-
  The steps the passes share: the first product of one block, and the reads of the resident block and of a chunk.
-/
module

public import proofs.«01_k».proof.Proof.KernelIdealVals

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Defs
variable (d : Dev nD)
variable (gX eX : Vec F S22x8960x1536 .bf16) (qX : Vec F S22x16x1536 .i8) (sX : Vec F S16x22 .f32)

/-- Blocks added. -/
def NX (lo hi : ℕ) : sProp 𝕄 := fam (fun n => iprop(∃ v, mPc d n v ∗ ⌜n < 770 → v = sumV gX eX n⌝)) lo hi
/-- The resident batch's blocks, known. -/
def RS (lo hi : ℕ) : sProp 𝕄 := fam (fun n => mPc d n (sumV gX eX n)) lo hi
/-- The first product's chunks of the batch beginning at block `N`: those below `u` computed. -/
def PN (N u : ℕ) : sProp 𝕄 :=
  iprop(fam (fun c => iprop(∃ v, cPc d p1M c v ∗ ⌜N + c < 770 → v = P1 gX eX qX sX (N + c)⌝)) 0 u ∗ fam (fun c => iprop(∃ v, cPc d p1M c v)) u 35)
/-- A buffer of chunks, its chunks below `u` known. -/
def CN {e : EltTy} (M : Memref sig .tc .vmem S35x16x256 e) (V : ℕ → Vec F S1x16x256 e) (u : ℕ) : sProp 𝕄 :=
  iprop(fam (fun c => cPc d M c (V c)) 0 u ∗ fam (fun c => iprop(∃ v, cPc d M c v)) u 35)

abbrev bqOff_inb : ∀ a, (![0, 0] : Fin 2 → ℕ) a + S16x1536.size a ≤ S16x1536.size a := inb_S16x1536_S16x1536_0_0
abbrev bqPc (v : Vec F S16x1536 .bf16) : sProp 𝕄 := owns (d : Thread nD τ) (pc bqM ![0, 0] S16x1536.size bqOff_inb) fullShare v
/-- The codes of batch `b` as floats in their scratch. -/
def BQR (b : ℕ) : sProp 𝕄 := iprop(∃ v, bqPc d v ∗ ⌜b < 22 → v = BQ qX b⌝)

end Defs

section Ops
variable {d : Dev nD} {α : Type}
variable {gX eX : Vec F S22x8960x1536 .bf16} {qX : Vec F S22x16x1536 .i8} {sX : Vec F S16x22 .f32}

/-- The first product of one landed block. -/
theorem first_product {Q : α → sProp 𝕄} {b u hm hs x : ℕ} {o₁ o₂ o₃ o₄ : Fin 3 → ℕ} {i₁ i₂ i₃ i₄ i₅ l₁ l₂ l₃ l₅ x₄ y₄} {o₆ o₇ : Fin 3 → ℕ}
    {i₆ : ∀ a, o₆ a + S1x16x256.size a ≤ S35x16x256.size a} {l₆ : p1M.view.LoadsAt (Rect.unit (s := S35x16x256) o₆ S1x16x256.size i₆).toLoadRect}
    {i₇ : ∀ a, o₇ a + S1x16x256.size a ≤ S35x16x256.size a} {x₇}
    {y₇ : (Finset.univ : Finset (Rect.unit (s := S35x16x256) o₇ S1x16x256.size i₇).shape.Idx) = Finset.univ
      ∨ ∀ a, (Rect.unit (s := S35x16x256) o₇ S1x16x256.size i₇).stride a = 1}
    {w : Vec F S1x256x1536 .bf16 → Vec F S1x256x1536 .bf16 → Vec F S1x256x1536 .bf16}
    {z : Vec F S1x256x1536 .bf16 → Vec F S1x256x1536 .bf16 → Vec F S16x1536 .bf16 → Vec F S1x16x256 .f32}
    {k : PUnit → Prog (TpuEff nD τ sig (Elt F) Λ₀ .tc) α}
    (hu : u < 35) (hhm : 35 * b + u < hm) (hhs : u < hs) (hx : x ≤ u + 6)
    (h₁ : o₁ = Moff (35 * b + u)) (h₂ : o₂ = Soff u) (h₃ : o₃ = Moff (35 * b + u)) (h₄ : o₄ = Moff (35 * b + u))
    (h₆ : o₆ = Coff u) (h₇ : o₇ = Coff u)
    (hw : ∀ v v', w v v' = k0_pay4 (k0_pay1 v v')) {qs : FVec F S16x1 .f32} (hqs : b < 22 → qs = QS sX b)
    (hz : ∀ v v' t, z v v' t = k0_pay5 qs (k0_pay1 v v') t) :
    iprop(MR d gX (35 * b + u) hm ∗ SR d eX (35 * b) u hs ∗ NX d gX eX (35 * b) (35 * b + u) ∗ PN d gX eX qX sX (35 * b) u ∗ SF d x (u + 6) ∗ BQR d qX b)
      ⊢ iprop((iprop(MR d gX (35 * b + (u + 1)) hm ∗ SR d eX (35 * b) (u + 1) hs ∗ NX d gX eX (35 * b) (35 * b + (u + 1))
            ∗ PN d gX eX qX sX (35 * b) (u + 1) ∗ SF d x (u + 1 + 6) ∗ BQR d qX b) -∗ WP d (k ⟨⟩) Q)
        -∗ WP d (.op (.load mM (Rect.unit (s := S2x8960x1536) o₁ S1x256x1536.size i₁).toLoadRect l₁) fun v =>
          .op (.load stM (Rect.unit (s := S6x256x1536) o₂ S1x256x1536.size i₂).toLoadRect l₂) fun v' =>
          .op (.load mM (Rect.unit (s := S2x8960x1536) o₃ S1x256x1536.size i₃).toLoadRect l₃) fun _ =>
          .op (.store mM (Rect.unit (s := S2x8960x1536) o₄ S1x256x1536.size i₄) (w v v') Finset.univ x₄ y₄) fun _ =>
          .op (.load bqM (Rect.unit (s := S16x1536) ![0, 0] S16x1536.size i₅).toLoadRect l₅) fun t =>
          .op (.load p1M (Rect.unit (s := S35x16x256) o₆ S1x16x256.size i₆).toLoadRect l₆) fun _ =>
          .op (.store p1M (Rect.unit (s := S35x16x256) o₇ S1x16x256.size i₇) (z v v' t) Finset.univ x₇ y₇) k) Q) := by
  unfold MR SR NX PN SF BQR
  rw [fam_head _ hhm, fam_head _ hhs, fam_head (fun c => iprop(∃ v, cPc d p1M c v)) hu]
  iintro ⟨⟨⟨%v, HM, %hv⟩, HMs⟩, ⟨⟨%v', HS, %hv'⟩, HSs⟩, HN, ⟨HP, ⟨%p, HC⟩, HPs⟩, HF, ⟨%t, HB, %ht⟩⟩ Hk
  iapply (wp_ld (M := mM) (Moff_inb _) h₁) $$ HM
  iintro HM
  iapply (wp_ld (M := stM) (Soff_inb _) h₂) $$ HS
  iintro HS
  iapply (wp_ld (M := mM) (Moff_inb _) h₃) $$ HM
  iintro HM
  iapply (wp_st (M := mM) (Moff_inb _) h₄) $$ HM
  iintro HM
  iapply (wp_ld (M := bqM) bqOff_inb rfl) $$ HB
  iintro HB
  iapply (wp_ld (M := p1M) (Coff_inb _) h₆) $$ HC
  iintro HC
  iapply (wp_st (M := p1M) (Coff_inb _) h₇) $$ HC
  iintro HC
  iapply Hk
  rw [show 35 * b + (u + 1) = 35 * b + u + 1 by omega, fam_last _ (by omega : 35 * b ≤ 35 * b + u), fam_last _ (by omega : 0 ≤ u),
    show u + 1 + 6 = u + 6 + 1 by omega, fam_last _ hx]
  isplitl [HMs]; · iexact HMs
  isplitl [HSs]; · iexact HSs
  isplitl [HN HM]
  · isplitl [HM]
    · iexists _; isplitl [HM]; · iexact HM
      ipureintro; intro hn; rw [hw, hv hn, hv' hn]; rfl
    iexact HN
  isplitl [HP HC HPs]
  · isplitl [HP HC]
    · isplitl [HC]
      · iexists _; isplitl [HC]; · iexact HC
        ipureintro; intro hn; rw [hz, hv hn, hv' hn, ht (by omega), hqs (by omega)]
        unfold P1
        rw [show (35 * b + u) / 35 = b by omega]
      iexact HP
    iexact HPs
  isplitl [HF HS]
  · isplitl [HS]
    · iexists _; rw [sPc_mod (n := u + 6) (n' := u) (by omega)]; iexact HS
    iexact HF
  iexists _; isplitl [HB]; · iexact HB
  ipureintro; exact ht

/-- A read of a known block of the resident batch. -/
theorem rs_read {Q : α → sProp 𝕄} {lo hi n : ℕ} {o : Fin 3 → ℕ} {i l} {k : Vec F S1x256x1536 .bf16 → Prog (TpuEff nD τ sig (Elt F) Λ₀ .tc) α}
    (h₁ : lo ≤ n) (h₂ : n < hi) (h : o = Moff n) :
    RS d gX eX lo hi ⊢ iprop((RS d gX eX lo hi -∗ WP d (k (sumV gX eX n)) Q)
        -∗ WP d (.op (.load mM (Rect.unit (s := S2x8960x1536) o S1x256x1536.size i).toLoadRect l) k) Q) := by
  unfold RS
  iintro H Hk
  icases (fam_focus _ h₁ h₂) $$ H with ⟨H, Hb⟩
  iapply (wp_ld (M := mM) (Moff_inb _) h) $$ H
  iintro H
  iapply Hk
  iapply Hb; iexact H

/-- A read of a known chunk. -/
theorem cn_read {Q : α → sProp 𝕄} {e : EltTy} {M : Memref sig .tc .vmem S35x16x256 e} {V : ℕ → Vec F S1x16x256 e} {u c : ℕ} {o : Fin 3 → ℕ} {i l}
    {k : Vec F S1x16x256 e → Prog (TpuEff nD τ sig (Elt F) Λ₀ .tc) α} (h₁ : c < u) (h : o = Coff c) :
    CN d M V u ⊢ iprop((CN d M V u -∗ WP d (k (V c)) Q)
        -∗ WP d (.op (.load M (Rect.unit (s := S35x16x256) o S1x16x256.size i).toLoadRect l) k) Q) := by
  unfold CN
  iintro ⟨H, H'⟩ Hk
  icases (fam_focus _ (Nat.zero_le c) h₁) $$ H with ⟨H, Hb⟩
  iapply (wp_ld (M := M) (Coff_inb _) h) $$ H
  iintro H
  iapply Hk
  isplitl [Hb H]
  · iapply Hb; iexact H
  iexact H'

/-- The store of the next chunk, after the read the program makes of what is there. -/
theorem cn_write {Q : α → sProp 𝕄} {e : EltTy} {M : Memref sig .tc .vmem S35x16x256 e} {V : ℕ → Vec F S1x16x256 e} {u : ℕ} {o o' : Fin 3 → ℕ} {i i' l x y}
    {w : Vec F S1x16x256 e}
    {k : PUnit → Prog (TpuEff nD τ sig (Elt F) Λ₀ .tc) α} (hu : u < 35) (h : o = Coff u) (h' : o' = Coff u) (hw : w = V u) :
    CN d M V u ⊢ iprop((CN d M V (u + 1) -∗ WP d (k ⟨⟩) Q)
        -∗ WP d (.op (.load M (Rect.unit (s := S35x16x256) o S1x16x256.size i).toLoadRect l) fun _ =>
          .op (.store M (Rect.unit (s := S35x16x256) o' S1x16x256.size i') w Finset.univ x y) k) Q) := by
  unfold CN
  rw [fam_head (fun c => iprop(∃ v, cPc d M c v)) hu]
  iintro ⟨H, ⟨%v, HC⟩, H'⟩ Hk
  iapply (wp_ld (M := M) (Coff_inb _) h) $$ HC
  iintro HC
  iapply (wp_st (M := M) (Coff_inb _) h') $$ HC
  iintro HC
  iapply Hk
  rw [fam_last _ (Nat.zero_le u), hw]
  isplitl [H HC]
  · isplitl [HC]; · iexact HC
    iexact H
  iexact H'

/-- Past the guard: the loops' returns. -/
theorem wp_done {Q : α → sProp 𝕄} (a : α) : Q a ⊢ WP d (.ret a) Q := le_wp_ret _ _ _ a Q

end Ops

end Cert.KernelIdeal.Hand
-- ==== Proof.KernelIdealLoop1.lean ====
/-
  The loop that brings in the first batch.
-/
module

public import proofs.«01_k».proof.Proof.KernelIdealOps

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Fill
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t1_trips : k0_t1_loop.trips = 35 := by decide +kernel

variable (d gX eX qX sX) in
/-- The first batch with `u` chunks added. -/
def FI (u : ℕ) : sProp 𝕄 :=
  iprop(GI d gX (35 * 0) u (min (u + 6) 35) ∗ EI d eX (35 * 0) u (min (u + 6) 35) ∗ MF d (35 * 0 + min (u + 6) 35) 70 ∗ SF d (min (u + 6) 35) (u + 6)
    ∗ NX d gX eX (35 * 0) (35 * 0 + u) ∗ PN d gX eX qX sX (35 * 0) u ∗ BQR d qX 0 ∗ OW (d : Thread nD τ))

theorem MR_nil (a : ℕ) : ⊢ MR d gX a a := by unfold MR; rw [fam_empty _ (Nat.le_refl a)]; exact .rfl
theorem SR_nil (N a : ℕ) : ⊢ SR d eX N a a := by unfold SR; rw [fam_empty _ (Nat.le_refl a)]; exact .rfl

theorem t1_step {i : grid0.Coords} (k0_h1 : k0_cond1 i = 1#1) (t : Fin k0_t1_loop.trips) (acc : Unit) :
    FI d gX eX qX sX t.val ⊢ WP d (k0_t1_body i gM hg eM he a3 h3 a4 h4 oM ho a6 h6 a7 h7 a8 h8 a9 h9 a10 h10 mM hm stM hst bqM hbq p1M hp1 pbM hpb poM hpo pcM hpc cc0_scratch7 cc0_scratch8 cc0_scratch9 k0_h1 (k0_pay3 sX) t acc) (fun _ => FI d gX eX qX sX (t.val + 1)) := by
  have ht : t.val < 35 := lt_of_lt_of_eq t.isLt t1_trips
  simp only [k0_t1_body, k0_part1_eq_skeleton, k0_part1_skel, Prog.bind_lift, Prog.bind_op, Prog.pure_eq_ret, Prog.bind_ret]
  unfold FI
  iintro ⟨HG, HE, HM, HS, HN, HP, HB, HO⟩
  ihave HR := (MR_nil (d := d) (gX := gX) (35 * 0 + t.val))
  ihave HR' := (SR_nil (d := d) (eX := eX) (35 * 0) t.val)
  iapply (g_wait (b := 0) (u := t.val) (w := t.val) (x := min (t.val + 6) 35) (by omega) ht (Nat.le_refl _) (by omega) (gcell_eq (by rw [k0_off3_eq]))) $$ [HG HR HO]
  · isplitl [HG]; · iexact HG
    isplitl [HR]; · iexact HR
    iexact HO
  iintro ⟨HG, HR, HO⟩
  iapply (e_wait (b := 0) (u := t.val) (w := t.val) (x := min (t.val + 6) 35) (by omega) ht (Nat.le_refl _) (by omega) (ecell_eq (by rw [k0_off3_eq]))) $$ [HE HR' HO]
  · isplitl [HE]; · iexact HE
    isplitl [HR']; · iexact HR'
    iexact HO
  iintro ⟨HE, HR', HO⟩
  iapply (first_product (b := 0) (u := t.val) (hm := 35 * 0 + (t.val + 1)) (hs := t.val + 1) (x := min (t.val + 6) 35) (eX := eX) (qs := k0_pay3 sX) ht (by omega) (by omega) (by omega) (by rw [k0_off7_eq]; simp [Moff]; omega)
    (by rw [k0_off8_eq]) (by rw [k0_off7_eq]; simp [Moff]; omega) (by rw [k0_off7_eq]; simp [Moff]; omega) (by rw [k0_off9_eq]; simp [Coff]; omega)
    (by rw [k0_off9_eq]; simp [Coff]; omega) (fun _ _ => rfl) (fun _ => pay3_eq _) (fun _ _ _ => rfl)) $$ [HR HR' HN HP HS HB]
  · isplitl [HR]; · iexact HR
    isplitl [HR']; · iexact HR'
    isplitl [HN]; · iexact HN
    isplitl [HP]; · iexact HP
    isplitl [HS]; · iexact HS
    iexact HB
  iintro ⟨HR, HR', HN, HP, HS, HB⟩
  by_cases h2 : k0_cond2 t = 1#1
  · have h2' := (cond2_iff t).mp h2
    rw [dif_pos h2, show min (t.val + 6) 35 = t.val + 6 by omega, show min (t.val + 1 + 6) 35 = t.val + 6 + 1 by omega]
    iapply (g_start (b := 0) (w := t.val + 1) (x := t.val + 6) (hi := 70) (by omega) h2' (by omega) (by omega) (by omega) (by rw [k0_off12_eq]; simp [Ooff]; omega)
      (by rw [k0_off11_eq]; simp [Moff]; omega) (gcell_eq (by rw [k0_off10_eq]))) $$ [HG HM]
    · isplitl [HG]; · iexact HG
      iexact HM
    iintro ⟨HG, HM⟩
    iapply (e_start (b := 0) (w := t.val + 1) (x := t.val + 6) (hi := t.val + 1 + 6) (by omega) h2' (by omega) (by omega) (by omega) (by rw [k0_off12_eq]; simp [Ooff]; omega)
      (by rw [k0_off13_eq]) (ecell_eq (by rw [k0_off10_eq]))) $$ [HE HS]
    · isplitl [HE]; · iexact HE
      iexact HS
    iintro ⟨HE, HS⟩
    iapply wp_done
    isplitl [HG]; · iexact HG
    isplitl [HE]; · iexact HE
    isplitl [HM]; · iexact HM
    isplitl [HS]; · iexact HS
    isplitl [HN]; · iexact HN
    isplitl [HP]; · iexact HP
    isplitl [HB]; · iexact HB
    iexact HO
  · have h2' := mt (cond2_iff t).mpr h2
    rw [dif_neg h2, show min (t.val + 6) 35 = 35 by omega, show min (t.val + 1 + 6) 35 = 35 by omega]
    iapply wp_done
    isplitl [HG]; · iexact HG
    isplitl [HE]; · iexact HE
    isplitl [HM]; · iexact HM
    isplitl [HS]; · iexact HS
    isplitl [HN]; · iexact HN
    isplitl [HP]; · iexact HP
    isplitl [HB]; · iexact HB
    iexact HO

end Fill

end Cert.KernelIdeal.Hand
-- ==== Proof.KernelIdealLoop2.lean ====
/-
  The streams inside a step: what is owned before each group of host operations, and the start of one pair of input transfers.
-/
module

public import proofs.«01_k».proof.Proof.KernelIdealLoop1

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem moff_of {a c n : ℕ} (h : a = n / 35 % 2) (h' : c = 256 * (n % 35)) : (![a, c, 0] : Fin 3 → ℕ) = Moff n := by subst h; subst h'; rfl
theorem ooff_of {a c n : ℕ} (h : a = n / 35 % 22) (h' : c = 256 * (n % 35)) : (![a, c, 0] : Fin 3 → ℕ) = Ooff n := by subst h; subst h'; rfl
theorem moff_at {a c B u : ℕ} (hu : u < 35) (h : a = B % 2) (h' : c = 256 * u) : (![a, c, 0] : Fin 3 → ℕ) = Moff (35 * B + u) :=
  moff_of (by rw [show (35 * B + u) / 35 = B by omega]; exact h) (by rw [show (35 * B + u) % 35 = u by omega]; exact h')
theorem ooff_at {a c B u : ℕ} (hu : u < 35) (h : a = B % 22) (h' : c = 256 * u) : (![a, c, 0] : Fin 3 → ℕ) = Ooff (35 * B + u) :=
  ooff_of (by rw [show (35 * B + u) / 35 = B by omega]; exact h) (by rw [show (35 * B + u) % 35 = u by omega]; exact h')
theorem soff_of {a c : ℕ} (h : a = c % 6) : (![a, 0, 0] : Fin 3 → ℕ) = Soff c := by subst h; rfl
theorem coff_of {a c : ℕ} (h : a = c % 35) : (![a, 0, 0] : Fin 3 → ℕ) = Coff c := by subst h; rfl
theorem one_of {a b : ℕ} (h : a = b) : (![a] : Fin 1 → ℕ) = ![b] := by subst h; rfl

/-- An equality as an entailment. -/
theorem eqE {A B : sProp 𝕄} (h : A = B) : A ⊢ B := by subst h; exact .rfl

/-- A part of a program, then the rest. -/
theorem wp_part {d : Dev nD} {α β : Type} {p : Prog (TpuEff nD τ sig (Elt F) Λ₀ .tc) α} {k : α → Prog (TpuEff nD τ sig (Elt F) Λ₀ .tc) β} {R : α → sProp 𝕄} {Q : β → sProp 𝕄} {P : sProp 𝕄}
    (h : P ⊢ WP d p R) : P ⊢ iprop((∀ a, R a -∗ WP d (k a) Q) -∗ WP d (p >>= k) Q) := by
  unfold WP
  rw [wp_bind]
  exact h.trans (wp_wand (Fr := frame) _ _)

section Streams
variable (d : Dev nD)
variable (gX eX : Vec F S22x8960x1536 .bf16) (qX : Vec F S22x16x1536 .i8) (sX : Vec F S16x22 .f32)

/-- The output blocks waited for in step `b` once the input stream of the next batch has begun chunk `x - 1`. -/
def wo (b x : ℕ) : ℕ := if b = 0 then 0 else 35 * (b - 1) + x

/-- The streams in step `b < 21` while chunks `[w, x)` of the next batch are on their way. -/
def H1 (b w x : ℕ) : sProp 𝕄 :=
  iprop(GI d gX (35 * (b + 1)) w x ∗ EI d eX (35 * (b + 1)) w x ∗ MF d (35 * (b + 1) + x) (wo b x + 70) ∗ OS d (EV gX eX qX sX) (wo b x) (35 * b))
/-- The streams in the last step, once `w` of the output transfers of the step before are waited for. -/
def H2 (w : ℕ) : sProp 𝕄 :=
  iprop(GI d gX (35 * 22) 0 0 ∗ EI d eX (35 * 22) 0 0 ∗ OS d (EV gX eX qX sX) (700 + w) 735)
/-- The streams in step `b`, `w` chunks of the next batch received, the group begun at `u`. -/
def HS (b u w : ℕ) : sProp 𝕄 := if b < 21 then H1 d gX eX qX sX b w (min (u + 6) 35) else H2 d gX eX qX sX w
/-- The first free staging slot. -/
def xs (b u k : ℕ) : ℕ := if b < 21 then min (u + 6) 35 else u + k
/-- What a step of a pass over the next batch owns of the next batch, `u` chunks added. -/
def HB (b u : ℕ) : sProp 𝕄 :=
  iprop(HS d gX eX qX sX b u u ∗ SF d (xs b u 0) (u + 6) ∗ NX d gX eX (35 * (b + 1)) (35 * (b + 1) + u) ∗ PN d gX eX qX sX (35 * (b + 1)) u ∗ BQR d qX (b + 1) ∗ OW (d : Thread nD τ))

theorem MF_nil (a : ℕ) : ⊢ MF (F := F) d a a := by unfold MF; rw [fam_empty _ (Nat.le_refl a)]; exact .rfl
theorem SF_nil {a b : ℕ} (h : b ≤ a) : ⊢ SF (F := F) d a b := by unfold SF; rw [fam_empty _ h]; exact .rfl
/-- Past the last batch anything counts as received. -/
theorem MF_MR {a b : ℕ} (h : 770 ≤ a) : MF d a b ⊢ MR d gX a b := by
  unfold MF MR
  refine fam_mono fun n h₁ h₂ => ?_
  iintro ⟨%v, H⟩
  iexists v
  isplitl [H]; · iexact H
  ipureintro; intro; omega
theorem SF_SR {N a b : ℕ} (h : 770 ≤ N) : SF d a b ⊢ SR d eX N a b := by
  unfold SF SR
  refine fam_mono fun n h₁ h₂ => ?_
  iintro ⟨%v, H⟩
  iexists v
  isplitl [H]; · iexact H
  ipureintro; intro; omega

/-- Inside a group of host operations: `k` chunks received from `u`, the first `j` of them added. -/
def HM (b u k j : ℕ) : sProp 𝕄 :=
  iprop(HS d gX eX qX sX b u (u + k) ∗ MR d gX (35 * (b + 1) + (u + j)) (35 * (b + 1) + (u + k)) ∗ SR d eX (35 * (b + 1)) (u + j) (u + k)
    ∗ SF d (xs b u k) (u + j + 6) ∗ NX d gX eX (35 * (b + 1)) (35 * (b + 1) + (u + j)) ∗ PN d gX eX qX sX (35 * (b + 1)) (u + j) ∗ BQR d qX (b + 1) ∗ OW (d : Thread nD τ))

theorem SF_split {a b c : ℕ} (h₁ : a ≤ b) (h₂ : b ≤ c) : SF (F := F) d a c ⊢ iprop(SF d a b ∗ SF d b c) := by
  unfold SF; rw [fam_split _ h₁ h₂]

end Streams

section StartPair
variable {d : Dev nD} {α : Type}
variable {gX eX : Vec F S22x8960x1536 .bf16} {qX : Vec F S22x16x1536 .i8} {sX : Vec F S16x22 .f32}

/-- The start of chunk `x` of the next batch: after the first step, first the wait that frees its slot. -/
theorem start_pair {Q : α → sProp 𝕄} {b w x hi : ℕ} {c7 : Prop} [Decidable c7]
    {sp' : Space} {s' : Shape} {e' : EltTy} {offw : Fin 3 → ℕ} {inbw : c7 → ∀ a, offw a + S1x256x1536.size a ≤ S22x8960x1536.size a} {zw : S1x256x1536.Squeezes S256x1536} {semw : c7 → DmaSem sig}
    {srcw : c7 → Memref sig .tc sp' s' e'} {hsrcw : ∀ h, (srcw h).view.WordExact} {hdstw : ∀ h, ((pc oM offw S1x256x1536.size (inbw h)).squeeze S256x1536 zw).view.WordExact}
    {o₁ o₂ o₃ : Fin 3 → ℕ} {sg se : DmaSem sig} {inb₁ inb₂ z₁ z₂ hsrc hdst hsem inb₁' inb₂' z₁' z₂' hsrc' hdst' hsem'}
    {k : PUnit → Prog (TpuEff nD τ sig (Elt F) Λ₀ .tc) α}
    (hc7 : c7 ↔ 0 < b) (hb : b < 21) (hx : x < 35) (hwx : w ≤ x) (hw6 : x < w + 6) (hhi : x < hi)
    (hsw : ∀ h, semw h = ocell x) (h₁ : o₁ = Ooff (35 * (b + 1) + x)) (h₂ : o₂ = Moff (35 * (b + 1) + x)) (h₃ : o₃ = Soff x) (hsg : sg = gcell x) (hse : se = ecell x) :
    iprop(H1 d gX eX qX sX b w x ∗ SF d x hi ∗ OW (d : Thread nD τ))
      ⊢ iprop((iprop(H1 d gX eX qX sX b w (x + 1) ∗ SF d (x + 1) hi ∗ OW (d : Thread nD τ)) -∗ WP d (k ⟨⟩) Q)
        -∗ WP d (if h : c7 then .op (.waitDma2 (semw h) (srcw h) ((pc oM offw S1x256x1536.size (inbw h)).squeeze S256x1536 zw) (hsrcw h) (hdstw h)) fun _ =>
            .op (.enqueueDma ((pc gM o₁ S1x256x1536.size inb₁).squeeze S256x1536 z₁)
              (.here ((pc mM o₂ S1x256x1536.size inb₂).squeeze S256x1536 z₂)) (.dma sg) hsrc hdst hsem) fun _ =>
            .op (.enqueueDma ((pc eM o₁ S1x256x1536.size inb₁').squeeze S256x1536 z₁')
              (.here ((pc stM o₃ S1x256x1536.size inb₂').squeeze S256x1536 z₂')) (.dma se) hsrc' hdst' hsem') k
          else
            .op (.enqueueDma ((pc gM o₁ S1x256x1536.size inb₁).squeeze S256x1536 z₁)
              (.here ((pc mM o₂ S1x256x1536.size inb₂).squeeze S256x1536 z₂)) (.dma sg) hsrc hdst hsem) fun _ =>
            .op (.enqueueDma ((pc eM o₁ S1x256x1536.size inb₁').squeeze S256x1536 z₁')
              (.here ((pc stM o₃ S1x256x1536.size inb₂').squeeze S256x1536 z₂')) (.dma se) hsrc' hdst' hsem') k) Q) := by
  unfold H1
  iintro ⟨⟨HG, HE, HM, HZ⟩, HS, HO⟩ Hk
  by_cases h7 : c7
  · have hb0 := hc7.mp h7
    rw [dif_pos h7, show wo b x = 35 * (b - 1) + x by unfold wo; rw [if_neg (by omega)], show wo b (x + 1) = 35 * (b - 1) + x + 1 by unfold wo; rw [if_neg (by omega)]; omega]
    iapply (o_wait (w := 35 * (b - 1) + x) (a := 35 * b) (lo := 35 * (b + 1) + x) (by omega) (by omega) (by omega)
      ((hsw h7).trans (ocell_mod (by omega)))) $$ [HZ HM HO]
    · isplitl [HZ]; · iexact HZ
      isplitl [HM]; · iexact HM
      iexact HO
    iintro ⟨HZ, HM, HO⟩
    iapply (g_start (b := b + 1) (w := w) (x := x) (hi := 35 * (b - 1) + x + 1 + 70) (by omega) hx hwx hw6 (by omega) h₁ h₂ hsg) $$ [HG HM]
    · isplitl [HG]; · iexact HG
      iexact HM
    iintro ⟨HG, HM⟩
    iapply (e_start (b := b + 1) (w := w) (x := x) (hi := hi) (by omega) hx hwx hw6 hhi h₁ h₃ hse) $$ [HE HS]
    · isplitl [HE]; · iexact HE
      iexact HS
    iintro ⟨HE, HS⟩
    iapply Hk
    isplitl [HG HE HM HZ]
    · isplitl [HG]; · iexact HG
      isplitl [HE]; · iexact HE
      isplitl [HM]; · iexact HM
      iexact HZ
    isplitl [HS]; · iexact HS
    iexact HO
  · have hb0 : b = 0 := by have := mt hc7.mpr h7; omega
    rw [dif_neg h7, show wo b x = 0 by unfold wo; rw [if_pos hb0], show wo b (x + 1) = 0 by unfold wo; rw [if_pos hb0]]
    iapply (g_start (b := b + 1) (w := w) (x := x) (hi := 0 + 70) (by omega) hx hwx hw6 (by omega) h₁ h₂ hsg) $$ [HG HM]
    · isplitl [HG]; · iexact HG
      iexact HM
    iintro ⟨HG, HM⟩
    iapply (e_start (b := b + 1) (w := w) (x := x) (hi := hi) (by omega) hx hwx hw6 hhi h₁ h₃ hse) $$ [HE HS]
    · isplitl [HE]; · iexact HE
      iexact HS
    iintro ⟨HE, HS⟩
    iapply Hk
    isplitl [HG HE HM HZ]
    · isplitl [HG]; · iexact HG
      isplitl [HE]; · iexact HE
      isplitl [HM]; · iexact HM
      iexact HZ
    isplitl [HS]; · iexact HS
    iexact HO

/-- The receipt of chunk `w` of the next batch. -/
theorem wait_pair {Q : α → sProp 𝕄} {b u w x : ℕ} {sg se : DmaSem sig} {sp₁ sp₂ : Space} {s₁ s₂ : Shape} {e₁ e₂ : EltTy} {o₁ o₂ : Fin 3 → ℕ} {inb₁ z₁ inb₂ z₂}
    {src₁ : Memref sig .tc sp₁ s₁ e₁} {src₂ : Memref sig .tc sp₂ s₂ e₂} {h₁ : src₁.view.WordExact} {h₁'} {h₂ : src₂.view.WordExact} {h₂'}
    {k : PUnit → Prog (TpuEff nD τ sig (Elt F) Λ₀ .tc) α}
    (hwx : w < x) (hw : w < 35) (hu : u ≤ w) (hx6 : x ≤ w + 6) (hsg : sg = gcell w) (hse : se = ecell w) :
    iprop(H1 d gX eX qX sX b w x ∗ MR d gX (35 * (b + 1) + u) (35 * (b + 1) + w) ∗ SR d eX (35 * (b + 1)) u w ∗ OW (d : Thread nD τ))
      ⊢ iprop((iprop(H1 d gX eX qX sX b (w + 1) x ∗ MR d gX (35 * (b + 1) + u) (35 * (b + 1) + (w + 1)) ∗ SR d eX (35 * (b + 1)) u (w + 1) ∗ OW (d : Thread nD τ)) -∗ WP d (k ⟨⟩) Q)
        -∗ WP d (.op (.waitDma2 sg src₁ ((pc mM o₁ S1x256x1536.size inb₁).squeeze S256x1536 z₁) h₁ h₁') fun _ =>
          .op (.waitDma2 se src₂ ((pc stM o₂ S1x256x1536.size inb₂).squeeze S256x1536 z₂) h₂ h₂') k) Q) := by
  unfold H1
  iintro ⟨⟨HG, HE, HZ⟩, HR, HR', HO⟩ Hk
  iapply (g_wait (b := b + 1) (u := u) (w := w) (x := x) hwx hw hu hx6 hsg) $$ [HG HR HO]
  · isplitl [HG]; · iexact HG
    isplitl [HR]; · iexact HR
    iexact HO
  iintro ⟨HG, HR, HO⟩
  iapply (e_wait (b := b + 1) (u := u) (w := w) (x := x) hwx hw hu hx6 hse) $$ [HE HR' HO]
  · isplitl [HE]; · iexact HE
    isplitl [HR']; · iexact HR'
    iexact HO
  iintro ⟨HE, HR', HO⟩
  iapply Hk
  isplitl [HG HE HZ]
  · isplitl [HG]; · iexact HG
    isplitl [HE]; · iexact HE
    iexact HZ
  isplitl [HR]; · iexact HR
  isplitl [HR']; · iexact HR'
  iexact HO

/-- In the last step: the wait for an output transfer of the step before. -/
theorem last_wait {Q : α → sProp 𝕄} {u w : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α}
    (hu : u ≤ w) (hw : w < 35) (hs : sem = ocell w) :
    iprop(H2 d gX eX qX sX w ∗ MF d (35 * 22 + u) (35 * 22 + w) ∗ OW (d : Thread nD τ))
      ⊢ iprop((iprop(H2 d gX eX qX sX (w + 1) ∗ MF d (35 * 22 + u) (35 * 22 + (w + 1)) ∗ OW (d : Thread nD τ)) -∗ WP d (k ⟨⟩) Q)
        -∗ WP d (.op (.waitDma2 sem srcw ((pc oM offw S1x256x1536.size inbw).squeeze S256x1536 zw) hsrc hdst) k) Q) := by
  unfold H2
  rw [show 35 * 22 + w = 700 + w + 70 by omega, show 35 * 22 + (w + 1) = 700 + w + 1 + 70 by omega, show 700 + (w + 1) = 700 + w + 1 by omega]
  iintro ⟨⟨HG, HE, HZ⟩, HM, HO⟩ Hk
  iapply (o_wait (w := 700 + w) (a := 735) (lo := 35 * 22 + u) (by omega) (by omega) (by omega) (hs.trans (ocell_mod (by omega)))) $$ [HZ HM HO]
  · isplitl [HZ]; · iexact HZ
    isplitl [HM]; · iexact HM
    iexact HO
  iintro ⟨HZ, HM, HO⟩
  iapply Hk
  isplitl [HG HE HZ]
  · isplitl [HG]; · iexact HG
    isplitl [HE]; · iexact HE
    iexact HZ
  isplitl [HM]; · iexact HM
  iexact HO

end StartPair

end Cert.KernelIdeal.Hand
-- ==== Proof.KernelIdealLoop3.lean ====
/-
  The second pass over the resident batch, with the first fourteen chunks of the next one.
-/
module

public import proofs.«01_k».proof.Proof.KernelIdealLoop2

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section PassB
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t5_trips : k0_t5_loop.trips = 7 := by decide +kernel

theorem part11_ok {i : grid0.Coords} {b : ℕ} (hi : (i 0).val = b) (t : Fin k0_t5_loop.trips) {arg0 c c' v1 : BitVec 32} {v6 : BitVec 1} {v851 : FVec F S16x1 .f32}
    (hq : b + 1 < 22 → v851 = QS sX (b + 1)) :
    HB d gX eX qX sX b (2 * t.val) ⊢ WP d (k0_part11 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v1 v6 v851 c c' t) (fun _ => HM d gX eX qX sX b (2 * t.val) 2 1) := by
  have ht : t.val < 7 := lt_of_lt_of_eq t.isLt t5_trips
  have hb : b < 22 := hi ▸ off102_eq' i
  simp only [k0_part11_eq_skeleton, k0_part11_skel, k0_part10_eq_skeleton, k0_part10_skel, Prog.bind_lift, Prog.bind_op, Prog.pure_eq_ret, Prog.bind_ret]
  have h₁ : k0_off26 i t 0#32 = Moff (35 * (b + 1) + 2 * t.val) := (k0_off26_eq i t 0).trans (moff_at (by omega) (by rw [hi]; omega) (by simp; omega))
  have h₂ : k0_off27 t 0#32 = Soff (2 * t.val) := (k0_off27_eq t 0).trans (soff_of rfl)
  have h₃ : k0_off28 t 2#32 0#32 = Coff (2 * t.val) := (off28a_eq t 0).trans (coff_of (by simp; omega))
  unfold HB HM HS
  by_cases hn : b < 21
  · rw [if_pos hn, if_pos hn, dif_pos ((cond3_iff i).mpr (by omega)), dif_neg (mt (cond4_iff i).mp (by omega)), show xs b (2 * t.val) 0 = 2 * t.val + 6 by unfold xs; rw [if_pos hn]; omega,
      show xs b (2 * t.val) 2 = 2 * t.val + 6 by unfold xs; rw [if_pos hn]; omega, show min (2 * t.val + 6) 35 = 2 * t.val + 6 by omega]
    iintro ⟨HZ, HF, HN, HP, HB, HO⟩
    ihave HR := (MR_nil (d := d) (gX := gX) (35 * (b + 1) + 2 * t.val))
    ihave HR' := (SR_nil (d := d) (eX := eX) (35 * (b + 1)) (2 * t.val))
    iapply (wait_pair (b := b) (u := 2 * t.val) (w := 2 * t.val) (x := 2 * t.val + 6) (by omega) (by omega) (by omega) (by omega)
      (gcell_eq ((k0_off19_eq t 0).trans (one_of rfl))) (ecell_eq ((k0_off19_eq t 0).trans (one_of rfl)))) $$ [HZ HR HR' HO]
    · isplitl [HZ]; · iexact HZ
      isplitl [HR]; · iexact HR
      isplitl [HR']; · iexact HR'
      iexact HO
    iintro ⟨HZ, HR, HR', HO⟩
    iapply (wait_pair (b := b) (u := 2 * t.val) (w := 2 * t.val + 1) (x := 2 * t.val + 6) (by omega) (by omega) (by omega) (by omega)
      (gcell_eq ((k0_off19_eq t 1).trans (one_of rfl))) (ecell_eq ((k0_off19_eq t 1).trans (one_of rfl)))) $$ [HZ HR HR' HO]
    · isplitl [HZ]; · iexact HZ
      isplitl [HR]; · iexact HR
      isplitl [HR']; · iexact HR'
      iexact HO
    iintro ⟨HZ, HR, HR', HO⟩
    iapply (first_product (b := b + 1) (u := 2 * t.val) (hm := 35 * (b + 1) + (2 * t.val + 2)) (hs := 2 * t.val + 2) (x := 2 * t.val + 6) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  · obtain rfl : b = 21 := by omega
    rw [if_neg hn, if_neg hn, dif_neg (mt (cond3_iff i).mp (by omega)), dif_pos ((cond4_iff i).mpr (by omega)), show xs 21 (2 * t.val) 0 = 2 * t.val by rfl,
      show xs 21 (2 * t.val) 2 = 2 * t.val + 2 by rfl]
    iintro ⟨HZ, HF, HN, HP, HB, HO⟩
    ihave HM := (MF_nil (F := F) d (35 * 22 + 2 * t.val))
    iapply (last_wait (u := 2 * t.val) (w := 2 * t.val) (by omega) (by omega) (ocell_eq ((k0_off23_eq t 0).trans (one_of (by simp; omega))))) $$ [HZ HM HO]
    · isplitl [HZ]; · iexact HZ
      isplitl [HM]; · iexact HM
      iexact HO
    iintro ⟨HZ, HM, HO⟩
    iapply (last_wait (u := 2 * t.val) (w := 2 * t.val + 1) (by omega) (by omega) (ocell_eq ((k0_off23_eq t 1).trans (one_of (by simp; omega))))) $$ [HZ HM HO]
    · isplitl [HZ]; · iexact HZ
      isplitl [HM]; · iexact HM
      iexact HO
    iintro ⟨HZ, HM, HO⟩
    ihave HR := (MF_MR (d := d) (gX := gX) (by omega : 770 ≤ 35 * 22 + 2 * t.val)) $$ HM
    icases (SF_split (F := F) d (by omega : 2 * t.val ≤ 2 * t.val + 2) (by omega : 2 * t.val + 2 ≤ 2 * t.val + 6)) $$ HF with ⟨HR', HF⟩
    ihave HR' := (SF_SR (d := d) (eX := eX) (N := 35 * (21 + 1)) (a := 2 * t.val) (b := 2 * t.val + 2) (by omega)) $$ HR'
    iapply (first_product (b := 21 + 1) (u := 2 * t.val) (hm := 35 * (21 + 1) + (2 * t.val + 2)) (hs := 2 * t.val + 2) (x := 2 * t.val + 2) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO

theorem part12_ok {i : grid0.Coords} {b : ℕ} (hi : (i 0).val = b) (t : Fin k0_t5_loop.trips) {v0 v1 w₁ w₂ w₃ : BitVec 32} {v851 : FVec F S16x1 .f32} {acc : FVec F S16x1536 .f32}
    (hq : b + 1 < 22 → v851 = QS sX (b + 1)) :
    iprop(HM d gX eX qX sX b (2 * t.val) 2 1 ∗ RS d gX eX (35 * b) (35 * b + 35) ∗ CN d poM (fun c => PO gX eX qX sX (35 * b + c)) 35)
      ⊢ WP d (k0_part12 i gM hg eM he a3 h3 a4 h4 oM ho a6 h6 a7 h7 a8 h8 a9 h9 a10 h10 mM hm stM hst bqM hbq p1M hp1 pbM hpb poM hpo pcM hpc cc0_scratch7 cc0_scratch8 cc0_scratch9 v0 v1 v851 t acc w₁ w₂ w₃) (fun r => iprop(⌜r.1 = k0_pay12 acc (PO gX eX qX sX (35 * b + 5 * t.val)) (sumV gX eX (35 * b + 5 * t.val))⌝ ∗
        HM d gX eX qX sX b (2 * t.val) 2 2 ∗ RS d gX eX (35 * b) (35 * b + 35) ∗ CN d poM (fun c => PO gX eX qX sX (35 * b + c)) 35)) := by
  have ht : t.val < 7 := lt_of_lt_of_eq t.isLt t5_trips
  have hb : b < 22 := hi ▸ off102_eq' i
  simp only [k0_part12_eq_skeleton, k0_part12_skel, Prog.bind_lift, Prog.bind_op, Prog.pure_eq_ret, Prog.bind_ret]
  have h₁ : k0_off26 i t 1#32 = Moff (35 * (b + 1) + (2 * t.val + 1)) := (k0_off26_eq i t 1).trans (moff_at (by omega) (by rw [hi]; omega) (by simp; omega))
  have h₂ : k0_off27 t 1#32 = Soff (2 * t.val + 1) := (k0_off27_eq t 1).trans (soff_of rfl)
  have h₃ : k0_off28 t 2#32 1#32 = Coff (2 * t.val + 1) := (off28a_eq t 1).trans (coff_of (by simp; omega))
  have hx : xs b (2 * t.val) 2 ≤ 2 * t.val + 1 + 6 := by unfold xs; split <;> omega
  unfold HM
  iintro ⟨⟨HZ, HR, HR', HF, HN, HP, HB, HO⟩, HA, HC⟩
  iapply (first_product (b := b + 1) (u := 2 * t.val + 1) (hm := 35 * (b + 1) + (2 * t.val + 2)) (hs := 2 * t.val + 2) (x := xs b (2 * t.val) 2) (eX := eX) (qs := v851) (by omega) (by omega) (by omega) hx
    h₁ h₂ h₁ h₁ h₃ h₃ (fun _ _ => rfl) hq (fun _ _ _ => rfl)) $$ [HR HR' HN HP HF HB]
  · isplitl [HR]; · iexact HR
    isplitl [HR']; · iexact HR'
    isplitl [HN]; · iexact HN
    isplitl [HP]; · iexact HP
    isplitl [HF]; · iexact HF
    iexact HB
  iintro ⟨HR, HR', HN, HP, HF, HB⟩
  iapply (cn_read (M := poM) (c := 5 * t.val) (by omega) ((off28b_eq t 0).trans (coff_of (by simp; omega)))) $$ HC
  iintro HC
  iapply (rs_read (n := 35 * b + 5 * t.val) (by omega) (by omega) ((k0_off29_eq i t 0).trans (moff_at (by omega) (by rw [hi]) (by simp; omega)))) $$ HA
  iintro HA
  iapply wp_done
  isplitr; · ipureintro; rfl
  isplitr [HA HC]
  · isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  isplitl [HA]; · iexact HA
  iexact HC

theorem part13_ok {i : grid0.Coords} {b : ℕ} (hi : (i 0).val = b) (t : Fin k0_t5_loop.trips) {v0 w₁ w₂ w₃ : BitVec 32} {acc : FVec F S16x1536 .f32} :
    iprop(RS d gX eX (35 * b) (35 * b + 35) ∗ CN d poM (fun c => PO gX eX qX sX (35 * b + c)) 35)
      ⊢ WP d (k0_part13 i gM hg eM he a3 h3 a4 h4 oM ho a6 h6 a7 h7 a8 h8 a9 h9 a10 h10 mM hm stM hst bqM hbq p1M hp1 pbM hpb poM hpo pcM hpc cc0_scratch7 cc0_scratch8 cc0_scratch9 v0 t w₁ acc w₂ w₃) (fun r => iprop(⌜r.1 = k0_pay12 (k0_pay12 (k0_pay12 acc
            (PO gX eX qX sX (35 * b + (5 * t.val + 1))) (sumV gX eX (35 * b + (5 * t.val + 1))))
            (PO gX eX qX sX (35 * b + (5 * t.val + 2))) (sumV gX eX (35 * b + (5 * t.val + 2))))
            (PO gX eX qX sX (35 * b + (5 * t.val + 3))) (sumV gX eX (35 * b + (5 * t.val + 3)))⌝ ∗
        RS d gX eX (35 * b) (35 * b + 35) ∗ CN d poM (fun c => PO gX eX qX sX (35 * b + c)) 35)) := by
  have ht : t.val < 7 := lt_of_lt_of_eq t.isLt t5_trips
  have hb : b < 22 := hi ▸ off102_eq' i
  simp only [k0_part13_eq_skeleton, k0_part13_skel, Prog.bind_lift, Prog.bind_op, Prog.pure_eq_ret, Prog.bind_ret]
  iintro ⟨HA, HC⟩
  iapply (cn_read (M := poM) (c := 5 * t.val + 1) (by omega) ((off28b_eq t 1).trans (coff_of (by simp; omega)))) $$ HC
  iintro HC
  iapply (rs_read (n := 35 * b + (5 * t.val + 1)) (by omega) (by omega) ((k0_off29_eq i t 1).trans (moff_at (by omega) (by rw [hi]) (by simp; omega)))) $$ HA
  iintro HA
  iapply (cn_read (M := poM) (c := 5 * t.val + 2) (by omega) ((off28b_eq t 2).trans (coff_of (by simp; omega)))) $$ HC
  iintro HC
  iapply (rs_read (n := 35 * b + (5 * t.val + 2)) (by omega) (by omega) ((k0_off29_eq i t 2).trans (moff_at (by omega) (by rw [hi]) (by simp; omega)))) $$ HA
  iintro HA
  iapply (cn_read (M := poM) (c := 5 * t.val + 3) (by omega) ((off28b_eq t 3).trans (coff_of (by simp; omega)))) $$ HC
  iintro HC
  iapply (rs_read (n := 35 * b + (5 * t.val + 3)) (by omega) (by omega) ((k0_off29_eq i t 3).trans (moff_at (by omega) (by rw [hi]) (by simp; omega)))) $$ HA
  iintro HA
  iapply wp_done
  isplitr; · ipureintro; exact pay13_eq _ _ _ _ _ _ _
  isplitl [HA]; · iexact HA
  iexact HC

variable (d gX eX qX sX) in
/-- The pass after `t` groups. -/
def T5 (b t : ℕ) (acc : FVec F S16x1536 .f32) : sProp 𝕄 :=
  iprop(⌜acc = foldN (fun c a => k0_pay12 a (PO gX eX qX sX (35 * b + c)) (sumV gX eX (35 * b + c))) k0_pay213 (5 * t)⌝ ∗ HB d gX eX qX sX b (2 * t)
    ∗ RS d gX eX (35 * b) (35 * b + 35) ∗ CN d poM (fun c => PO gX eX qX sX (35 * b + c)) 35)

theorem t5_step {i : grid0.Coords} {b : ℕ} (hi : (i 0).val = b) {arg0 v0 v1 v7 : BitVec 32} {v6 : BitVec 1} {v825 v827 v830} {v846 : Vec F S16x22 .f32}
    (hq : b + 1 < 22 → k0_pay212 v7 v846 = QS sX (b + 1)) (t : Fin k0_t5_loop.trips) (acc : FVec F S16x1536 .f32) :
    T5 d gX eX qX sX b t.val acc ⊢ WP d (k0_t5_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 v846 t acc) (fun r => T5 d gX eX qX sX b (t.val + 1) r) := by
  have ht : t.val < 7 := lt_of_lt_of_eq t.isLt t5_trips
  have hb : b < 22 := hi ▸ off102_eq' i
  unfold k0_t5_body T5
  iintro ⟨%hacc, HH, HA, HC⟩
  iapply (wp_part (part11_ok (v851 := k0_pay212 v7 v846) hg he ho hm hst hbq hp1 hpb hpo hpc h3 h4 h6 h7 h8 h9 h10 hi t hq)) $$ HH
  iintro %r HH
  iapply (wp_part (part12_ok (v851 := k0_pay212 v7 v846) hg he ho hm hst hbq hp1 hpb hpo hpc h3 h4 h6 h7 h8 h9 h10 hi t hq)) $$ [HH HA HC]
  · isplitl [HH]; · iexact HH
    isplitl [HA]; · iexact HA
    iexact HC
  iintro %r₂ ⟨%hr₂, HH, HA, HC⟩
  iapply (wp_part (part13_ok hg he ho hm hst hbq hp1 hpb hpo hpc h3 h4 h6 h7 h8 h9 h10 hi t)) $$ [HA HC]
  · isplitl [HA]; · iexact HA
    iexact HC
  iintro %r₃ ⟨%hr₃, HA, HC⟩
  simp only [Prog.bind_lift, Prog.bind_op, Prog.pure_eq_ret, Prog.bind_ret]
  iapply (cn_read (M := poM) (c := 5 * t.val + 4) (by omega) ((off28b_eq t 4).trans (coff_of (by simp; omega)))) $$ HC
  iintro HC
  iapply (rs_read (n := 35 * b + (5 * t.val + 4)) (by omega) (by omega) ((k0_off29_eq i t 4).trans (moff_at (by omega) (by rw [hi]) (by simp; omega)))) $$ HA
  iintro HA
  have hres : k0_pay214 r₃.1 (PO gX eX qX sX (35 * b + (5 * t.val + 4))) (sumV gX eX (35 * b + (5 * t.val + 4)))
      = foldN (fun c a => k0_pay12 a (PO gX eX qX sX (35 * b + c)) (sumV gX eX (35 * b + c))) k0_pay213 (5 * (t.val + 1)) := by
    rw [hr₃, hr₂, hacc, pay214_eq, show 5 * (t.val + 1) = 5 * t.val + 1 + 1 + 1 + 1 + 1 by omega]
    rfl
  by_cases hn : b < 21
  · rw [dif_pos ((cond5_iff i).mpr (by omega)), dif_pos ((cond6_iff t).mpr trivial)]
    have e : HM d gX eX qX sX b (2 * t.val) 2 2 ⊢ iprop(H1 d gX eX qX sX b (2 * t.val + 2) (2 * t.val + 6) ∗ SF d (2 * t.val + 6) (2 * t.val + 2 + 6)
        ∗ (NX d gX eX (35 * (b + 1)) (35 * (b + 1) + (2 * t.val + 2)) ∗ PN d gX eX qX sX (35 * (b + 1)) (2 * t.val + 2) ∗ BQR d qX (b + 1)) ∗ OW (d : Thread nD τ)) := by
      unfold HM HS
      rw [if_pos hn, show xs b (2 * t.val) 2 = 2 * t.val + 6 by unfold xs; rw [if_pos hn]; omega, show min (2 * t.val + 6) 35 = 2 * t.val + 6 by omega]
      iintro ⟨HZ, HR, HR', HF, HN, HP, HB, HO⟩
      isplitl [HZ]; · iexact HZ
      isplitl [HF]; · iexact HF
      isplitr [HO]
      · isplitl [HN]; · iexact HN
        isplitl [HP]; · iexact HP
        iexact HB
      iexact HO
    icases e $$ HH with ⟨HZ, HF, HK, HO⟩
    iapply (start_pair (b := b) (w := 2 * t.val + 2) (x := 2 * t.val + 6) (hi := 2 * t.val + 2 + 6) ((cond7_iff i).trans (by rw [hi])) hn (by omega) (by omega) (by omega) (by omega)
      (fun _ => ocell_eq ((k0_off30_eq t).trans (one_of (by omega)))) ((k0_off35_eq i t).trans (ooff_at (by omega) (by rw [hi]; omega) (by omega)))
      ((k0_off34_eq i t).trans (moff_at (by omega) (by rw [hi]; omega) (by omega))) ((k0_off36_eq t).trans (soff_of rfl)) (gcell_eq (k0_off33_eq t)) (ecell_eq (k0_off33_eq t))) $$ [HZ HF HO]
    · isplitl [HZ]; · iexact HZ
      isplitl [HF]; · iexact HF
      iexact HO
    iintro ⟨HZ, HF, HO⟩
    rw [dif_pos ((cond8_iff t).mpr trivial)]
    iapply (start_pair (b := b) (w := 2 * t.val + 2) (x := 2 * t.val + 7) (hi := 2 * t.val + 2 + 6) ((cond9_iff i).trans (by rw [hi])) hn (by omega) (by omega) (by omega) (by omega)
      (fun _ => ocell_eq ((k0_off37_eq t).trans (one_of (by omega)))) ((k0_off42_eq i t).trans (ooff_at (by omega) (by rw [hi]; omega) (by omega)))
      ((k0_off41_eq i t).trans (moff_at (by omega) (by rw [hi]; omega) (by omega))) ((k0_off43_eq t).trans (soff_of rfl)) (gcell_eq (k0_off40_eq t)) (ecell_eq (k0_off40_eq t))) $$ [HZ HF HO]
    · isplitl [HZ]; · iexact HZ
      isplitl [HF]; · iexact HF
      iexact HO
    iintro ⟨HZ, HF, HO⟩
    iapply wp_done
    isplitr; · ipureintro; exact hres
    isplitr [HA HC]
    · unfold HB HS
      rw [if_pos hn, show xs b (2 * (t.val + 1)) 0 = 2 * t.val + 7 + 1 by unfold xs; rw [if_pos hn]; omega, show min (2 * (t.val + 1) + 6) 35 = 2 * t.val + 7 + 1 by omega,
        show 2 * (t.val + 1) = 2 * t.val + 2 by omega]
      icases HK with ⟨HN, HP, HB⟩
      isplitl [HZ]; · iexact HZ
      isplitl [HF]; · iexact HF
      isplitl [HN]; · iexact HN
      isplitl [HP]; · iexact HP
      isplitl [HB]; · iexact HB
      iexact HO
    isplitl [HA]; · iexact HA
    iexact HC
  · rw [dif_neg (mt (cond5_iff i).mp (by omega))]
    iapply wp_done
    isplitr; · ipureintro; exact hres
    isplitr [HA HC]
    · unfold HM HB HS
      rw [if_neg hn, if_neg hn, show xs b (2 * (t.val + 1)) 0 = xs b (2 * t.val) 2 by unfold xs; rw [if_neg hn, if_neg hn]; omega, show 2 * (t.val + 1) = 2 * t.val + 2 by omega]
      icases HH with ⟨HZ, HR, HR', HF, HN, HP, HB, HO⟩
      isplitl [HZ]; · iexact HZ
      isplitl [HF]; · iexact HF
      isplitl [HN]; · iexact HN
      isplitl [HP]; · iexact HP
      isplitl [HB]; · iexact HB
      iexact HO
    isplitl [HA]; · iexact HA
    iexact HC

end PassB

end Cert.KernelIdeal.Hand
-- ==== Proof.KernelIdealLoop4.lean ====
/-
  The third pass over the resident batch, with the next fourteen chunks of the next one.
-/
module

public import proofs.«01_k».proof.Proof.KernelIdealLoop3

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section PassC
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t6_trips : k0_t6_loop.trips = 7 := by decide +kernel

/-- The read the program makes of a chunk before its store. -/
theorem cn_peek {α : Type} {Q : α → sProp 𝕄} {e : EltTy} {M : Memref sig .tc .vmem S35x16x256 e} {V : ℕ → Vec F S1x16x256 e} {u : ℕ} {o : Fin 3 → ℕ} {i l}
    {k : Vec F S1x16x256 e → Prog (TpuEff nD τ sig (Elt F) Λ₀ .tc) α} (hu : u < 35) (h : o = Coff u) :
    CN d M V u ⊢ iprop((∀ v, CN d M V u -∗ WP d (k v) Q)
        -∗ WP d (.op (.load M (Rect.unit (s := S35x16x256) o S1x16x256.size i).toLoadRect l) k) Q) := by
  unfold CN
  rw [fam_head (fun c => iprop(∃ v, cPc d M c v)) hu]
  iintro ⟨H, ⟨%v, HC⟩, H'⟩ Hk
  iapply (wp_ld (M := M) (Coff_inb _) h) $$ HC
  iintro HC
  iapply Hk
  isplitl [H]; · iexact H
  isplitl [HC]; · iexists v; iexact HC
  iexact H'

/-- The store of the next chunk. -/
theorem cn_store {α : Type} {Q : α → sProp 𝕄} {e : EltTy} {M : Memref sig .tc .vmem S35x16x256 e} {V : ℕ → Vec F S1x16x256 e} {u : ℕ} {o' : Fin 3 → ℕ} {i' x y}
    {w : Vec F S1x16x256 e}
    {k : PUnit → Prog (TpuEff nD τ sig (Elt F) Λ₀ .tc) α} (hu : u < 35) (h' : o' = Coff u) (hw : w = V u) :
    CN d M V u ⊢ iprop((CN d M V (u + 1) -∗ WP d (k ⟨⟩) Q)
        -∗ WP d (.op (.store M (Rect.unit (s := S35x16x256) o' S1x16x256.size i') w Finset.univ x y) k) Q) := by
  unfold CN
  rw [fam_head (fun c => iprop(∃ v, cPc d M c v)) hu]
  iintro ⟨H, ⟨%v, HC⟩, H'⟩ Hk
  iapply (wp_st (M := M) (Coff_inb _) h') $$ HC
  iintro HC
  iapply Hk
  rw [fam_last _ (Nat.zero_le u), hw]
  isplitl [H HC]
  · isplitl [HC]; · iexact HC
    iexact H
  iexact H'

theorem part15_ok {i : grid0.Coords} {b : ℕ} (hi : (i 0).val = b) (t : Fin k0_t6_loop.trips) {arg0 c c' v1 : BitVec 32} {v6 : BitVec 1} {v851 : FVec F S16x1 .f32}
    (hq : b + 1 < 22 → v851 = QS sX (b + 1)) :
    HB d gX eX qX sX b (14 + 2 * t.val) ⊢ WP d (k0_part15 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v1 v6 v851 c c' t) (fun _ => HM d gX eX qX sX b (14 + 2 * t.val) 2 1) := by
  have ht : t.val < 7 := lt_of_lt_of_eq t.isLt t6_trips
  have hb : b < 22 := hi ▸ off102_eq' i
  simp only [k0_part15_eq_skeleton, k0_part15_skel, k0_part14_eq_skeleton, k0_part14_skel, Prog.bind_lift, Prog.bind_op, Prog.pure_eq_ret, Prog.bind_ret]
  have h₁ : k0_off51 i t 0#32 = Moff (35 * (b + 1) + (14 + 2 * t.val)) := (k0_off51_eq i t 0).trans (moff_at (by omega) (by rw [hi]; omega) (by simp; omega))
  have h₂ : k0_off52 t 0#32 = Soff (14 + 2 * t.val) := (k0_off52_eq t 0).trans (soff_of (by omega))
  have h₃ : k0_off53 t 0#32 = Coff (14 + 2 * t.val) := (k0_off53_eq t 0).trans (coff_of (by simp; omega))
  unfold HB HM HS
  by_cases hn : b < 21
  · rw [if_pos hn, if_pos hn, dif_pos ((cond10_iff i).mpr (by omega)), dif_neg (mt (cond11_iff i).mp (by omega)), show xs b (14 + 2 * t.val) 0 = (14 + 2 * t.val) + 6 by unfold xs; rw [if_pos hn]; omega,
      show xs b (14 + 2 * t.val) 2 = (14 + 2 * t.val) + 6 by unfold xs; rw [if_pos hn]; omega, show min ((14 + 2 * t.val) + 6) 35 = (14 + 2 * t.val) + 6 by omega]
    iintro ⟨HZ, HF, HN, HP, HB, HO⟩
    ihave HR := (MR_nil (d := d) (gX := gX) (35 * (b + 1) + (14 + 2 * t.val)))
    ihave HR' := (SR_nil (d := d) (eX := eX) (35 * (b + 1)) (14 + 2 * t.val))
    iapply (wait_pair (b := b) (u := (14 + 2 * t.val)) (w := (14 + 2 * t.val)) (x := (14 + 2 * t.val) + 6) (by omega) (by omega) (by omega) (by omega)
      (gcell_eq ((k0_off44_eq t 0).trans (one_of (by simp; omega)))) (ecell_eq ((k0_off44_eq t 0).trans (one_of (by simp; omega))))) $$ [HZ HR HR' HO]
    · isplitl [HZ]; · iexact HZ
      isplitl [HR]; · iexact HR
      isplitl [HR']; · iexact HR'
      iexact HO
    iintro ⟨HZ, HR, HR', HO⟩
    iapply (wait_pair (b := b) (u := (14 + 2 * t.val)) (w := (14 + 2 * t.val) + 1) (x := (14 + 2 * t.val) + 6) (by omega) (by omega) (by omega) (by omega)
      (gcell_eq ((k0_off44_eq t 1).trans (one_of (by simp; omega)))) (ecell_eq ((k0_off44_eq t 1).trans (one_of (by simp; omega))))) $$ [HZ HR HR' HO]
    · isplitl [HZ]; · iexact HZ
      isplitl [HR]; · iexact HR
      isplitl [HR']; · iexact HR'
      iexact HO
    iintro ⟨HZ, HR, HR', HO⟩
    iapply (first_product (b := b + 1) (u := (14 + 2 * t.val)) (hm := 35 * (b + 1) + ((14 + 2 * t.val) + 2)) (hs := (14 + 2 * t.val) + 2) (x := (14 + 2 * t.val) + 6) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  · obtain rfl : b = 21 := by omega
    rw [if_neg hn, if_neg hn, dif_neg (mt (cond10_iff i).mp (by omega)), dif_pos ((cond11_iff i).mpr (by omega)), show xs 21 (14 + 2 * t.val) 0 = (14 + 2 * t.val) by rfl,
      show xs 21 (14 + 2 * t.val) 2 = (14 + 2 * t.val) + 2 by rfl]
    iintro ⟨HZ, HF, HN, HP, HB, HO⟩
    ihave HM := (MF_nil (F := F) d (35 * 22 + (14 + 2 * t.val)))
    iapply (last_wait (u := (14 + 2 * t.val)) (w := (14 + 2 * t.val)) (by omega) (by omega) (ocell_eq ((k0_off48_eq t 0).trans (one_of (by simp; omega))))) $$ [HZ HM HO]
    · isplitl [HZ]; · iexact HZ
      isplitl [HM]; · iexact HM
      iexact HO
    iintro ⟨HZ, HM, HO⟩
    iapply (last_wait (u := (14 + 2 * t.val)) (w := (14 + 2 * t.val) + 1) (by omega) (by omega) (ocell_eq ((k0_off48_eq t 1).trans (one_of (by simp; omega))))) $$ [HZ HM HO]
    · isplitl [HZ]; · iexact HZ
      isplitl [HM]; · iexact HM
      iexact HO
    iintro ⟨HZ, HM, HO⟩
    ihave HR := (MF_MR (d := d) (gX := gX) (by omega : 770 ≤ 35 * 22 + (14 + 2 * t.val))) $$ HM
    icases (SF_split (F := F) d (by omega : (14 + 2 * t.val) ≤ (14 + 2 * t.val) + 2) (by omega : (14 + 2 * t.val) + 2 ≤ (14 + 2 * t.val) + 6)) $$ HF with ⟨HR', HF⟩
    ihave HR' := (SF_SR (d := d) (eX := eX) (N := 35 * (21 + 1)) (a := (14 + 2 * t.val)) (b := (14 + 2 * t.val) + 2) (by omega)) $$ HR'
    iapply (first_product (b := 21 + 1) (u := (14 + 2 * t.val)) (hm := 35 * (21 + 1) + ((14 + 2 * t.val) + 2)) (hs := (14 + 2 * t.val) + 2) (x := (14 + 2 * t.val) + 2) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO

theorem part16_ok {i : grid0.Coords} {b : ℕ} (hi : (i 0).val = b) (t : Fin k0_t6_loop.trips) {v0 v1 w₁ w₂ w₃ : BitVec 32} {v851 : FVec F S16x1 .f32} {Qv : FVec F S16x1536 .f32} (hQ : Qv = Q1 gX eX qX sX b)
    (hq : b + 1 < 22 → v851 = QS sX (b + 1)) :
    iprop(HM d gX eX qX sX b (14 + 2 * t.val) 2 1 ∗ RS d gX eX (35 * b) (35 * b + 35) ∗ CN d pbM (fun c => PB gX eX qX sX (35 * b + c)) (5 * t.val))
      ⊢ WP d (k0_part16 i gM hg eM he a3 h3 a4 h4 oM ho a6 h6 a7 h7 a8 h8 a9 h9 a10 h10 mM hm stM hst bqM hbq p1M hp1 pbM hpb poM hpo pcM hpc cc0_scratch7 cc0_scratch8 cc0_scratch9 v0 v1 v851 (k0_pay215 Qv) t w₁ w₂ w₃) (fun _ => iprop(HM d gX eX qX sX b (14 + 2 * t.val) 2 2 ∗ RS d gX eX (35 * b) (35 * b + 35) ∗ CN d pbM (fun c => PB gX eX qX sX (35 * b + c)) (5 * t.val + 1))) := by
  have ht : t.val < 7 := lt_of_lt_of_eq t.isLt t6_trips
  have hb : b < 22 := hi ▸ off102_eq' i
  simp only [k0_part16_eq_skeleton, k0_part16_skel, Prog.bind_lift, Prog.bind_op, Prog.pure_eq_ret, Prog.bind_ret]
  have h₁ : k0_off51 i t 1#32 = Moff (35 * (b + 1) + ((14 + 2 * t.val) + 1)) := (k0_off51_eq i t 1).trans (moff_at (by omega) (by rw [hi]; omega) (by simp; omega))
  have h₂ : k0_off52 t 1#32 = Soff ((14 + 2 * t.val) + 1) := (k0_off52_eq t 1).trans (soff_of (by omega))
  have h₃ : k0_off53 t 1#32 = Coff ((14 + 2 * t.val) + 1) := (k0_off53_eq t 1).trans (coff_of (by simp; omega))
  have hx : xs b (14 + 2 * t.val) 2 ≤ (14 + 2 * t.val) + 1 + 6 := by unfold xs; split <;> omega
  have hPB : ∀ r n, r < 5 → n = 35 * b + (5 * t.val + r) → k0_pay20 (k0_pay215 Qv) (sumV gX eX n) = PB gX eX qX sX n := by
    intro r n hr hn
    unfold PB
    rw [hQ, show n / 35 = b by omega]
  unfold HM
  iintro ⟨⟨HZ, HR, HR', HF, HN, HP, HB, HO⟩, HA, HC⟩
  iapply (first_product (b := b + 1) (u := (14 + 2 * t.val) + 1) (hm := 35 * (b + 1) + ((14 + 2 * t.val) + 2)) (hs := (14 + 2 * t.val) + 2) (x := xs b (14 + 2 * t.val) 2) (eX := eX) (qs := v851) (by omega) (by omega) (by omega) hx
    h₁ h₂ h₁ h₁ h₃ h₃ (fun _ _ => rfl) hq (fun _ _ _ => rfl)) $$ [HR HR' HN HP HF HB]
  · isplitl [HR]; · iexact HR
    isplitl [HR']; · iexact HR'
    isplitl [HN]; · iexact HN
    isplitl [HP]; · iexact HP
    isplitl [HF]; · iexact HF
    iexact HB
  iintro ⟨HR, HR', HN, HP, HF, HB⟩
  iapply (rs_read (n := 35 * b + 5 * t.val) (by omega) (by omega) ((k0_off54_eq i t 0).trans (moff_at (by omega) (by rw [hi]) (by simp; omega)))) $$ HA
  iintro HA
  iapply (cn_write (M := pbM) (V := fun c => PB gX eX qX sX (35 * b + c)) (u := 5 * t.val) (by omega) ((k0_off55_eq t 0).trans (coff_of (by simp; omega))) ((k0_off55_eq t 0).trans (coff_of (by simp; omega))) (hPB 0 _ (by omega) rfl)) $$ HC
  iintro HC
  iapply wp_done
  isplitr [HA HC]
  · isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  isplitl [HA]; · iexact HA
  iexact HC

theorem part17_ok {i : grid0.Coords} {b : ℕ} (hi : (i 0).val = b) (t : Fin k0_t6_loop.trips) {v0 w₁ : BitVec 32} {Qv : FVec F S16x1536 .f32} (hQ : Qv = Q1 gX eX qX sX b) :
    iprop(RS d gX eX (35 * b) (35 * b + 35) ∗ CN d pbM (fun c => PB gX eX qX sX (35 * b + c)) (5 * t.val + 1))
      ⊢ WP d (k0_part17 i gM hg eM he a3 h3 a4 h4 oM ho a6 h6 a7 h7 a8 h8 a9 h9 a10 h10 mM hm stM hst bqM hbq p1M hp1 pbM hpb poM hpo pcM hpc cc0_scratch7 cc0_scratch8 cc0_scratch9 v0 (k0_pay215 Qv) t w₁) (fun r => iprop(⌜r.1 = k0_pay23 (k0_pay215 Qv) (sumV gX eX (35 * b + (5 * t.val + 3)))⌝ ∗
        RS d gX eX (35 * b) (35 * b + 35) ∗ CN d pbM (fun c => PB gX eX qX sX (35 * b + c)) (5 * t.val + 3))) := by
  have ht : t.val < 7 := lt_of_lt_of_eq t.isLt t6_trips
  have hb : b < 22 := hi ▸ off102_eq' i
  simp only [k0_part17_eq_skeleton, k0_part17_skel, Prog.bind_lift, Prog.bind_op, Prog.pure_eq_ret, Prog.bind_ret]
  have hPB : ∀ r n, r < 5 → n = 35 * b + (5 * t.val + r) → k0_pay20 (k0_pay215 Qv) (sumV gX eX n) = PB gX eX qX sX n := by
    intro r n hr hn
    unfold PB
    rw [hQ, show n / 35 = b by omega]
  iintro ⟨HA, HC⟩
  iapply (rs_read (n := 35 * b + (5 * t.val + 1)) (by omega) (by omega) ((k0_off54_eq i t 1).trans (moff_at (by omega) (by rw [hi]) (by simp; omega)))) $$ HA
  iintro HA
  iapply (cn_write (M := pbM) (V := fun c => PB gX eX qX sX (35 * b + c)) (u := 5 * t.val + 1) (by omega) ((k0_off55_eq t 1).trans (coff_of (by simp; omega))) ((k0_off55_eq t 1).trans (coff_of (by simp; omega))) (hPB 1 _ (by omega) rfl)) $$ HC
  iintro HC
  iapply (rs_read (n := 35 * b + (5 * t.val + 2)) (by omega) (by omega) ((k0_off54_eq i t 2).trans (moff_at (by omega) (by rw [hi]) (by simp; omega)))) $$ HA
  iintro HA
  iapply (cn_write (M := pbM) (V := fun c => PB gX eX qX sX (35 * b + c)) (u := 5 * t.val + 2) (by omega) ((k0_off55_eq t 2).trans (coff_of (by simp; omega))) ((k0_off55_eq t 2).trans (coff_of (by simp; omega))) (hPB 2 _ (by omega) rfl)) $$ HC
  iintro HC
  iapply (rs_read (n := 35 * b + (5 * t.val + 3)) (by omega) (by omega) ((k0_off54_eq i t 3).trans (moff_at (by omega) (by rw [hi]) (by simp; omega)))) $$ HA
  iintro HA
  iapply (cn_peek (M := pbM) (u := 5 * t.val + 3) (by omega) ((k0_off55_eq t 3).trans (coff_of (by simp; omega)))) $$ HC
  iintro %v HC
  iapply wp_done
  isplitr; · ipureintro; rfl
  isplitl [HA]; · iexact HA
  iexact HC

variable (d gX eX qX sX) in
/-- The pass after `t` groups. -/
def T6 (b t : ℕ) : sProp 𝕄 :=
  iprop(HB d gX eX qX sX b (14 + 2 * t)
    ∗ RS d gX eX (35 * b) (35 * b + 35) ∗ CN d pbM (fun c => PB gX eX qX sX (35 * b + c)) (5 * t))

theorem t6_step {i : grid0.Coords} {b : ℕ} (hi : (i 0).val = b) {arg0 v0 v1 v7 : BitVec 32} {v6 : BitVec 1} {v825 v827 v830} {v846 : Vec F S16x22 .f32}
    {Qv : FVec F S16x1536 .f32} (hQ : Qv = Q1 gX eX qX sX b)
    (hq : b + 1 < 22 → k0_pay212 v7 v846 = QS sX (b + 1)) (t : Fin k0_t6_loop.trips) (acc : Unit) :
    T6 d gX eX qX sX b t.val ⊢ WP d (k0_t6_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 v846 Qv t acc) (fun r => T6 d gX eX qX sX b (t.val + 1)) := by
  have ht : t.val < 7 := lt_of_lt_of_eq t.isLt t6_trips
  have hb : b < 22 := hi ▸ off102_eq' i
  have hPB : ∀ r n, r < 5 → n = 35 * b + (5 * t.val + r) → k0_pay20 (k0_pay215 Qv) (sumV gX eX n) = PB gX eX qX sX n := by
    intro r n hr hn
    unfold PB
    rw [hQ, show n / 35 = b by omega]
  unfold k0_t6_body T6
  iintro ⟨HH, HA, HC⟩
  iapply (wp_part (part15_ok (v851 := k0_pay212 v7 v846) hg he ho hm hst hbq hp1 hpb hpo hpc h3 h4 h6 h7 h8 h9 h10 hi t hq)) $$ HH
  iintro %r HH
  iapply (wp_part (part16_ok (v851 := k0_pay212 v7 v846) hg he ho hm hst hbq hp1 hpb hpo hpc h3 h4 h6 h7 h8 h9 h10 hi t hQ hq)) $$ [HH HA HC]
  · isplitl [HH]; · iexact HH
    isplitl [HA]; · iexact HA
    iexact HC
  iintro %r₂ ⟨HH, HA, HC⟩
  iapply (wp_part (part17_ok hg he ho hm hst hbq hp1 hpb hpo hpc h3 h4 h6 h7 h8 h9 h10 hi t hQ)) $$ [HA HC]
  · isplitl [HA]; · iexact HA
    iexact HC
  iintro %r₃ ⟨%hr₃, HA, HC⟩
  simp only [Prog.bind_lift, Prog.bind_op, Prog.pure_eq_ret, Prog.bind_ret]
  iapply (cn_store (M := pbM) (V := fun c => PB gX eX qX sX (35 * b + c)) (u := 5 * t.val + 3) (by omega) ((k0_off55_eq t 3).trans (coff_of (by simp; omega))) (by rw [hr₃, pay216_eq]; exact hPB 3 _ (by omega) rfl)) $$ HC
  iintro HC
  iapply (rs_read (n := 35 * b + (5 * t.val + 4)) (by omega) (by omega) ((k0_off54_eq i t 4).trans (moff_at (by omega) (by rw [hi]) (by simp; omega)))) $$ HA
  iintro HA
  iapply (cn_write (M := pbM) (V := fun c => PB gX eX qX sX (35 * b + c)) (u := 5 * t.val + 4) (by omega) ((k0_off55_eq t 4).trans (coff_of (by simp; omega))) ((k0_off55_eq t 4).trans (coff_of (by simp; omega))) ((pay217_eq _ _).trans (hPB 4 _ (by omega) rfl))) $$ HC
  iintro HC
  by_cases hn : b < 21
  · rw [dif_pos ((cond12_iff i).mpr (by omega)), dif_pos ((cond13_iff t).mpr trivial)]
    have e : HM d gX eX qX sX b (14 + 2 * t.val) 2 2 ⊢ iprop(H1 d gX eX qX sX b ((14 + 2 * t.val) + 2) ((14 + 2 * t.val) + 6) ∗ SF d ((14 + 2 * t.val) + 6) ((14 + 2 * t.val) + 2 + 6)
        ∗ (NX d gX eX (35 * (b + 1)) (35 * (b + 1) + ((14 + 2 * t.val) + 2)) ∗ PN d gX eX qX sX (35 * (b + 1)) ((14 + 2 * t.val) + 2) ∗ BQR d qX (b + 1)) ∗ OW (d : Thread nD τ)) := by
      unfold HM HS
      rw [if_pos hn, show xs b (14 + 2 * t.val) 2 = (14 + 2 * t.val) + 6 by unfold xs; rw [if_pos hn]; omega, show min ((14 + 2 * t.val) + 6) 35 = (14 + 2 * t.val) + 6 by omega]
      iintro ⟨HZ, HR, HR', HF, HN, HP, HB, HO⟩
      isplitl [HZ]; · iexact HZ
      isplitl [HF]; · iexact HF
      isplitr [HO]
      · isplitl [HN]; · iexact HN
        isplitl [HP]; · iexact HP
        iexact HB
      iexact HO
    icases e $$ HH with ⟨HZ, HF, HK, HO⟩
    iapply (start_pair (b := b) (w := (14 + 2 * t.val) + 2) (x := (14 + 2 * t.val) + 6) (hi := (14 + 2 * t.val) + 2 + 6) ((cond14_iff i).trans (by rw [hi])) hn (by omega) (by omega) (by omega) (by omega)
      (fun _ => ocell_eq ((k0_off56_eq t).trans (one_of (by omega)))) ((k0_off61_eq i t).trans (ooff_at (by omega) (by rw [hi]; omega) (by omega)))
      ((k0_off60_eq i t).trans (moff_at (by omega) (by rw [hi]; omega) (by omega))) ((k0_off62_eq t).trans (soff_of (by omega))) (gcell_eq ((k0_off59_eq t).trans (one_of (by omega)))) (ecell_eq ((k0_off59_eq t).trans (one_of (by omega))))) $$ [HZ HF HO]
    · isplitl [HZ]; · iexact HZ
      isplitl [HF]; · iexact HF
      iexact HO
    iintro ⟨HZ, HF, HO⟩
    rw [dif_pos ((cond15_iff t).mpr trivial)]
    iapply (start_pair (b := b) (w := (14 + 2 * t.val) + 2) (x := (14 + 2 * t.val) + 7) (hi := (14 + 2 * t.val) + 2 + 6) ((cond16_iff i).trans (by rw [hi])) hn (by omega) (by omega) (by omega) (by omega)
      (fun _ => ocell_eq ((k0_off63_eq t).trans (one_of (by omega)))) ((k0_off68_eq i t).trans (ooff_at (by omega) (by rw [hi]; omega) (by omega)))
      ((k0_off67_eq i t).trans (moff_at (by omega) (by rw [hi]; omega) (by omega))) ((k0_off69_eq t).trans (soff_of (by omega))) (gcell_eq ((k0_off66_eq t).trans (one_of (by omega)))) (ecell_eq ((k0_off66_eq t).trans (one_of (by omega))))) $$ [HZ HF HO]
    · isplitl [HZ]; · iexact HZ
      isplitl [HF]; · iexact HF
      iexact HO
    iintro ⟨HZ, HF, HO⟩
    iapply wp_done
    isplitr [HA HC]
    · unfold HB HS
      rw [if_pos hn, show xs b (14 + 2 * (t.val + 1)) 0 = (14 + 2 * t.val) + 7 + 1 by unfold xs; rw [if_pos hn]; omega, show min ((14 + 2 * (t.val + 1)) + 6) 35 = (14 + 2 * t.val) + 7 + 1 by omega,
        show (14 + 2 * (t.val + 1)) = (14 + 2 * t.val) + 2 by omega]
      icases HK with ⟨HN, HP, HB⟩
      isplitl [HZ]; · iexact HZ
      isplitl [HF]; · iexact HF
      isplitl [HN]; · iexact HN
      isplitl [HP]; · iexact HP
      isplitl [HB]; · iexact HB
      iexact HO
    isplitl [HA]; · iexact HA
    rw [show 5 * (t.val + 1) = 5 * t.val + 4 + 1 by omega]; iexact HC
  · rw [dif_neg (mt (cond12_iff i).mp (by omega))]
    iapply wp_done
    isplitr [HA HC]
    · unfold HM HB HS
      rw [if_neg hn, if_neg hn, show xs b (14 + 2 * (t.val + 1)) 0 = xs b (14 + 2 * t.val) 2 by unfold xs; rw [if_neg hn, if_neg hn]; omega, show (14 + 2 * (t.val + 1)) = (14 + 2 * t.val) + 2 by omega]
      icases HH with ⟨HZ, HR, HR', HF, HN, HP, HB, HO⟩
      isplitl [HZ]; · iexact HZ
      isplitl [HF]; · iexact HF
      isplitl [HN]; · iexact HN
      isplitl [HP]; · iexact HP
      isplitl [HB]; · iexact HB
      iexact HO
    isplitl [HA]; · iexact HA
    rw [show 5 * (t.val + 1) = 5 * t.val + 4 + 1 by omega]; iexact HC

end PassC

end Cert.KernelIdeal.Hand
-- ==== Proof.KernelIdealLoop5.lean ====
/-
  The fourth pass over the resident batch, with the last seven chunks of the next one.
-/
module

public import proofs.«01_k».proof.Proof.KernelIdealLoop4

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section PassD
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem t10_trips : k0_t10_loop.trips = 7 := by decide +kernel

theorem part18_ok {i : grid0.Coords} {b : ℕ} (hi : (i 0).val = b) (t : Fin k0_t10_loop.trips) {arg0 c c' v1 : BitVec 32} {v6 : BitVec 1} {v851 : FVec F S16x1 .f32}
    (hq : b + 1 < 22 → v851 = QS sX (b + 1)) :
    HB d gX eX qX sX b (28 + t.val) ⊢ WP d (k0_part18 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v1 v6 v851 c c' t) (fun _ => HM d gX eX qX sX b (28 + t.val) 1 1) := by
  have ht : t.val < 7 := lt_of_lt_of_eq t.isLt t10_trips
  have hb : b < 22 := hi ▸ off102_eq' i
  simp only [k0_part18_eq_skeleton, k0_part18_skel, Prog.bind_lift, Prog.bind_op, Prog.pure_eq_ret, Prog.bind_ret]
  have h₁ : k0_off81 i t = Moff (35 * (b + 1) + (28 + t.val)) := (k0_off81_eq i t).trans (moff_at (by omega) (by rw [hi]; omega) (by omega))
  have h₂ : k0_off82 t = Soff (28 + t.val) := (k0_off82_eq t).trans (soff_of (by omega))
  have h₃ : k0_off83 t = Coff (28 + t.val) := (k0_off83_eq t).trans (coff_of (by omega))
  unfold HB HM HS
  by_cases hn : b < 21
  · rw [if_pos hn, if_pos hn, dif_pos ((cond17_iff i).mpr (by omega)), dif_neg (mt (cond18_iff i).mp (by omega)), show xs b (28 + t.val) 0 = min (28 + t.val + 6) 35 by unfold xs; rw [if_pos hn],
      show xs b (28 + t.val) 1 = min (28 + t.val + 6) 35 by unfold xs; rw [if_pos hn]]
    iintro ⟨HZ, HF, HN, HP, HB, HO⟩
    ihave HR := (MR_nil (d := d) (gX := gX) (35 * (b + 1) + (28 + t.val)))
    ihave HR' := (SR_nil (d := d) (eX := eX) (35 * (b + 1)) (28 + t.val))
    iapply (wait_pair (b := b) (u := (28 + t.val)) (w := (28 + t.val)) (x := min (28 + t.val + 6) 35) (by omega) (by omega) (by omega) (by omega)
      (gcell_eq ((k0_off74_eq t).trans (one_of (by omega)))) (ecell_eq ((k0_off74_eq t).trans (one_of (by omega))))) $$ [HZ HR HR' HO]
    · isplitl [HZ]; · iexact HZ
      isplitl [HR]; · iexact HR
      isplitl [HR']; · iexact HR'
      iexact HO
    iintro ⟨HZ, HR, HR', HO⟩
    iapply (first_product (b := b + 1) (u := (28 + t.val)) (hm := 35 * (b + 1) + ((28 + t.val) + 1)) (hs := (28 + t.val) + 1) (x := min (28 + t.val + 6) 35) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO
  · obtain rfl : b = 21 := by omega
    rw [if_neg hn, if_neg hn, dif_neg (mt (cond17_iff i).mp (by omega)), dif_pos ((cond18_iff i).mpr (by omega)), show xs 21 (28 + t.val) 0 = (28 + t.val) by rfl,
      show xs 21 (28 + t.val) 1 = (28 + t.val) + 1 by rfl]
    iintro ⟨HZ, HF, HN, HP, HB, HO⟩
    ihave HM := (MF_nil (F := F) d (35 * 22 + (28 + t.val)))
    iapply (last_wait (u := (28 + t.val)) (w := (28 + t.val)) (by omega) (by omega) (ocell_eq ((k0_off78_eq t).trans (one_of (by omega))))) $$ [HZ HM HO]
    · isplitl [HZ]; · iexact HZ
      isplitl [HM]; · iexact HM
      iexact HO
    iintro ⟨HZ, HM, HO⟩
    ihave HR := (MF_MR (d := d) (gX := gX) (by omega : 770 ≤ 35 * 22 + (28 + t.val))) $$ HM
    icases (SF_split (F := F) d (by omega : (28 + t.val) ≤ (28 + t.val) + 1) (by omega : (28 + t.val) + 1 ≤ (28 + t.val) + 6)) $$ HF with ⟨HR', HF⟩
    ihave HR' := (SF_SR (d := d) (eX := eX) (N := 35 * (21 + 1)) (a := (28 + t.val)) (b := (28 + t.val) + 1) (by omega)) $$ HR'
    iapply (first_product (b := 21 + 1) (u := (28 + t.val)) (hm := 35 * (21 + 1) + ((28 + t.val) + 1)) (hs := (28 + t.val) + 1) (x := (28 + t.val) + 1) (eX := eX) (qs := v851) (by omega) (by omega) (by omega) (by omega)
      h₁ h₂ h₁ h₁ h₃ h₃ (fun _ _ => rfl) hq (fun _ _ _ => rfl)) $$ [HR HR' HN HP HF HB]
    · isplitl [HR]; · iexact HR
      isplitl [HR']; · iexact HR'
      isplitl [HN]; · iexact HN
      isplitl [HP]; · iexact HP
      isplitl [HF]; · iexact HF
      iexact HB
    iintro ⟨HR, HR', HN, HP, HF, HB⟩
    iapply wp_done
    isplitl [HZ]; · iexact HZ
    isplitl [HR]; · iexact HR
    isplitl [HR']; · iexact HR'
    isplitl [HF]; · iexact HF
    isplitl [HN]; · iexact HN
    isplitl [HP]; · iexact HP
    isplitl [HB]; · iexact HB
    iexact HO

theorem part19_ok {i : grid0.Coords} {b : ℕ} (hi : (i 0).val = b) (t : Fin k0_t10_loop.trips) {v0 w₁ w₂ w₃ : BitVec 32} {acc : FVec F S16x1536 .f32} :
    iprop(RS d gX eX (35 * b) (35 * b + 35) ∗ CN d pcM (fun c => PCF gX eX qX sX (35 * b + c)) 35)
      ⊢ WP d (k0_part19 i gM hg eM he a3 h3 a4 h4 oM ho a6 h6 a7 h7 a8 h8 a9 h9 a10 h10 mM hm stM hst bqM hbq p1M hp1 pbM hpb poM hpo pcM hpc cc0_scratch7 cc0_scratch8 cc0_scratch9 v0 t acc w₁ w₂ w₃) (fun r => iprop(⌜r.1 = (k0_pay12 (k0_pay12 (k0_pay12 acc (PCF gX eX qX sX (35 * b + 5 * t.val)) (sumV gX eX (35 * b + 5 * t.val))) (PCF gX eX qX sX (35 * b + (5 * t.val + 1))) (sumV gX eX (35 * b + (5 * t.val + 1)))) (PCF gX eX qX sX (35 * b + (5 * t.val + 2))) (sumV gX eX (35 * b + (5 * t.val + 2))))⌝ ∗
        RS d gX eX (35 * b) (35 * b + 35) ∗ CN d pcM (fun c => PCF gX eX qX sX (35 * b + c)) 35)) := by
  have ht : t.val < 7 := lt_of_lt_of_eq t.isLt t10_trips
  have hb : b < 22 := hi ▸ off102_eq' i
  simp only [k0_part19_eq_skeleton, k0_part19_skel, Prog.bind_lift, Prog.bind_op, Prog.pure_eq_ret, Prog.bind_ret]
  iintro ⟨HA, HC⟩
  iapply (cn_read (M := pcM) (c := 5 * t.val) (by omega) ((k0_off84_eq t 0).trans (coff_of (by simp; omega)))) $$ HC
  iintro HC
  iapply (rs_read (n := 35 * b + 5 * t.val) (by omega) (by omega) ((k0_off85_eq i t 0).trans (moff_at (by omega) (by rw [hi]) (by simp; omega)))) $$ HA
  iintro HA
  iapply (cn_read (M := pcM) (c := (5 * t.val + 1)) (by omega) ((k0_off84_eq t 1).trans (coff_of (by simp; omega)))) $$ HC
  iintro HC
  iapply (rs_read (n := 35 * b + (5 * t.val + 1)) (by omega) (by omega) ((k0_off85_eq i t 1).trans (moff_at (by omega) (by rw [hi]) (by simp; omega)))) $$ HA
  iintro HA
  iapply (cn_read (M := pcM) (c := (5 * t.val + 2)) (by omega) ((k0_off84_eq t 2).trans (coff_of (by simp; omega)))) $$ HC
  iintro HC
  iapply (rs_read (n := 35 * b + (5 * t.val + 2)) (by omega) (by omega) ((k0_off85_eq i t 2).trans (moff_at (by omega) (by rw [hi]) (by simp; omega)))) $$ HA
  iintro HA
  iapply wp_done
  isplitr; · ipureintro; exact pay27_eq _ _ _ _ _ _ _
  isplitl [HA]; · iexact HA
  iexact HC

variable (d gX eX qX sX) in
/-- The pass after `t` groups. -/
def T10 (b t : ℕ) (acc : FVec F S16x1536 .f32) : sProp 𝕄 :=
  iprop(⌜acc = foldN (fun c a => k0_pay12 a (PCF gX eX qX sX (35 * b + c)) (sumV gX eX (35 * b + c))) k0_pay415 (5 * t)⌝ ∗ HB d gX eX qX sX b (28 + t)
    ∗ RS d gX eX (35 * b) (35 * b + 35) ∗ CN d pcM (fun c => PCF gX eX qX sX (35 * b + c)) 35)

theorem t10_step {i : grid0.Coords} {b : ℕ} (hi : (i 0).val = b) {arg0 v0 v1 c : BitVec 32} {v6 : BitVec 1} {v851 v1693 : FVec F S16x1 .f32} {v1695}
    (hq : b + 1 < 22 → v851 = QS sX (b + 1)) (t : Fin k0_t10_loop.trips) (acc : FVec F S16x1536 .f32) :
    T10 d gX eX qX sX b t.val acc ⊢ WP d (k0_t10_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v851 v1693 v1695 c t acc) (fun r => T10 d gX eX qX sX b (t.val + 1) r) := by
  have ht : t.val < 7 := lt_of_lt_of_eq t.isLt t10_trips
  have hb : b < 22 := hi ▸ off102_eq' i
  unfold k0_t10_body T10
  iintro ⟨%hacc, HH, HA, HC⟩
  iapply (wp_part (part18_ok hg he ho hm hst hbq hp1 hpb hpo hpc h3 h4 h6 h7 h8 h9 h10 hi t hq)) $$ HH
  iintro %r HH
  iapply (wp_part (part19_ok hg he ho hm hst hbq hp1 hpb hpo hpc h3 h4 h6 h7 h8 h9 h10 hi t)) $$ [HA HC]
  · isplitl [HA]; · iexact HA
    iexact HC
  iintro %r₃ ⟨%hr₃, HA, HC⟩
  simp only [Prog.bind_lift, Prog.bind_op, Prog.pure_eq_ret, Prog.bind_ret]
  iapply (cn_read (M := pcM) (c := (5 * t.val + 3)) (by omega) ((k0_off84_eq t 3).trans (coff_of (by simp; omega)))) $$ HC
  iintro HC
  iapply (rs_read (n := 35 * b + (5 * t.val + 3)) (by omega) (by omega) ((k0_off85_eq i t 3).trans (moff_at (by omega) (by rw [hi]) (by simp; omega)))) $$ HA
  iintro HA
  iapply (cn_read (M := pcM) (c := (5 * t.val + 4)) (by omega) ((k0_off84_eq t 4).trans (coff_of (by simp; omega)))) $$ HC
  iintro HC
  iapply (rs_read (n := 35 * b + (5 * t.val + 4)) (by omega) (by omega) ((k0_off85_eq i t 4).trans (moff_at (by omega) (by rw [hi]) (by simp; omega)))) $$ HA
  iintro HA
  have hres : k0_pay416 r₃.1 (PCF gX eX qX sX (35 * b + (5 * t.val + 3))) (sumV gX eX (35 * b + (5 * t.val + 3))) (PCF gX eX qX sX (35 * b + (5 * t.val + 4))) (sumV gX eX (35 * b + (5 * t.val + 4)))
      = foldN (fun c a => k0_pay12 a (PCF gX eX qX sX (35 * b + c)) (sumV gX eX (35 * b + c))) k0_pay415 (5 * (t.val + 1)) := by
    rw [hr₃, hacc, pay416_eq, show 5 * (t.val + 1) = 5 * t.val + 1 + 1 + 1 + 1 + 1 by omega]
    rfl
  have e : HM d gX eX qX sX b (28 + t.val) 1 1 ⊢ iprop(HS d gX eX qX sX b (28 + t.val) (28 + t.val + 1) ∗ SF d (xs b (28 + t.val) 1) (28 + t.val + 1 + 6)
      ∗ (NX d gX eX (35 * (b + 1)) (35 * (b + 1) + (28 + t.val + 1)) ∗ PN d gX eX qX sX (35 * (b + 1)) (28 + t.val + 1) ∗ BQR d qX (b + 1)) ∗ OW (d : Thread nD τ)) := by
    unfold HM
    iintro ⟨HZ, HR, HR', HF, HN, HP, HB, HO⟩
    isplitl [HZ]; · iexact HZ
    isplitl [HF]; · iexact HF
    isplitr [HO]
    · isplitl [HN]; · iexact HN
      isplitl [HP]; · iexact HP
      iexact HB
    iexact HO
  have fin : ∀ x, x = xs b (28 + (t.val + 1)) 0 → iprop(HS d gX eX qX sX b (28 + (t.val + 1)) (28 + (t.val + 1)) ∗ SF d x (28 + t.val + 1 + 6)
      ∗ (NX d gX eX (35 * (b + 1)) (35 * (b + 1) + (28 + t.val + 1)) ∗ PN d gX eX qX sX (35 * (b + 1)) (28 + t.val + 1) ∗ BQR d qX (b + 1)) ∗ OW (d : Thread nD τ))
      ⊢ HB d gX eX qX sX b (28 + (t.val + 1)) := by
    intro x hx
    unfold HB
    rw [← hx, show 28 + t.val + 1 = 28 + (t.val + 1) by omega]
    iintro ⟨HZ, HF, ⟨HN, HP, HB⟩, HO⟩
    isplitl [HZ]; · iexact HZ
    isplitl [HF]; · iexact HF
    isplitl [HN]; · iexact HN
    isplitl [HP]; · iexact HP
    isplitl [HB]; · iexact HB
    iexact HO
  icases e $$ HH with ⟨HZ, HF, HK, HO⟩
  by_cases hn : b < 21
  · rw [dif_pos ((cond19_iff i).mpr (by omega))]
    by_cases h0 : t.val = 0
    · rw [dif_pos ((cond20_iff t).mpr h0)]
      have e₁ : HS d gX eX qX sX b (28 + t.val) (28 + t.val + 1) = H1 d gX eX qX sX b (28 + t.val + 1) 34 := by
        unfold HS; rw [if_pos hn, h0] <;> rfl
      have e₂ : xs b (28 + t.val) 1 = 34 := by unfold xs; rw [if_pos hn, h0] <;> rfl
      have e₃ : H1 d gX eX qX sX b (28 + t.val + 1) (34 + 1) = HS d gX eX qX sX b (28 + (t.val + 1)) (28 + (t.val + 1)) := by
        unfold HS; rw [if_pos hn, h0] <;> rfl
      ihave HZ := (eqE e₁) $$ HZ
      rw [e₂]
      iapply (start_pair (b := b) (w := 28 + t.val + 1) (x := 34) (hi := 28 + t.val + 1 + 6) ((cond21_iff i).trans (by rw [hi])) hn (by omega) (by omega) (by omega) (by omega)
        (fun _ => ocell_eq ((k0_off86_eq t).trans (one_of (by omega)))) ((k0_off91_eq i t).trans (ooff_at (by omega) (by rw [hi]; omega) (by omega)))
        ((k0_off90_eq i t).trans (moff_at (by omega) (by rw [hi]; omega) (by omega))) ((k0_off92_eq t).trans (soff_of (by omega)))
        (gcell_eq ((k0_off89_eq t).trans (one_of (by omega)))) (ecell_eq ((k0_off89_eq t).trans (one_of (by omega))))) $$ [HZ HF HO]
      · isplitl [HZ]; · iexact HZ
        isplitl [HF]; · iexact HF
        iexact HO
      iintro ⟨HZ, HF, HO⟩
      ihave HZ := (eqE e₃) $$ HZ
      iapply wp_done
      isplitr; · ipureintro; exact hres
      isplitr [HA HC]
      · iapply (fin (34 + 1) (by unfold xs; rw [if_pos hn, h0] <;> rfl))
        isplitl [HZ]; · iexact HZ
        isplitl [HF]; · iexact HF
        isplitl [HK]; · iexact HK
        iexact HO
      isplitl [HA]; · iexact HA
      iexact HC
    · rw [dif_neg (mt (cond20_iff t).mp h0)]
      have e₁ : HS d gX eX qX sX b (28 + t.val) (28 + t.val + 1) = HS d gX eX qX sX b (28 + (t.val + 1)) (28 + (t.val + 1)) := by
        unfold HS; rw [if_pos hn, if_pos hn, show min (28 + t.val + 6) 35 = min (28 + (t.val + 1) + 6) 35 by omega, show 28 + t.val + 1 = 28 + (t.val + 1) by omega]
      ihave HZ := (eqE e₁) $$ HZ
      iapply wp_done
      isplitr; · ipureintro; exact hres
      isplitr [HA HC]
      · iapply (fin (xs b (28 + t.val) 1) (by unfold xs; rw [if_pos hn, if_pos hn]; omega))
        isplitl [HZ]; · iexact HZ
        isplitl [HF]; · iexact HF
        isplitl [HK]; · iexact HK
        iexact HO
      isplitl [HA]; · iexact HA
      iexact HC
  · rw [dif_neg (mt (cond19_iff i).mp (by omega))]
    have e₁ : HS d gX eX qX sX b (28 + t.val) (28 + t.val + 1) = HS d gX eX qX sX b (28 + (t.val + 1)) (28 + (t.val + 1)) := by
      unfold HS; rw [if_neg hn, if_neg hn, show 28 + t.val + 1 = 28 + (t.val + 1) by omega]
    ihave HZ := (eqE e₁) $$ HZ
    iapply wp_done
    isplitr; · ipureintro; exact hres
    isplitr [HA HC]
    · iapply (fin (xs b (28 + t.val) 1) (by unfold xs; rw [if_neg hn, if_neg hn]; omega))
      isplitl [HZ]; · iexact HZ
      isplitl [HF]; · iexact HF
      isplitl [HK]; · iexact HK
      iexact HO
    isplitl [HA]; · iexact HA
    iexact HC

end PassD

end Cert.KernelIdeal.Hand
-- ==== Proof.KernelIdealLoop6.lean ====
/-
  The loops over chunks alone: the export of the first product, the Gram matrices, the orthogonal factors and the codes.
-/
module

public import proofs.«01_k».proof.Proof.KernelIdealLoop5

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Window
variable (d : Dev nD)

/-- Chunk `c` of a window of a product. -/
abbrev Loff (c : ℕ) : Fin 3 → ℕ := ![0, 0, 256 * (c % 35)]
theorem Loff_inb (c : ℕ) : ∀ a, Loff c a + S1x16x256.size a ≤ S1x16x8960.size a := by
  intro a; fin_cases a <;> simp [Loff]; omega
abbrev lPc {e : EltTy} (M : Memref sig .tc .vmem S1x16x8960 e) (c : ℕ) (v : Vec F S1x16x256 e) : sProp 𝕄 :=
  owns (d : Thread nD τ) (pc M (Loff c) S1x16x256.size (Loff_inb c)) fullShare v
/-- A window, its chunks below `u` known. -/
def WN {e : EltTy} (M : Memref sig .tc .vmem S1x16x8960 e) (V : ℕ → Vec F S1x16x256 e) (u : ℕ) : sProp 𝕄 :=
  iprop(fam (fun c => lPc d M c (V c)) 0 u ∗ fam (fun c => iprop(∃ v, lPc d M c v)) u 35)

theorem loff_of {a c : ℕ} (hc : c < 35) (h : a = 256 * c) : (![0, 0, a] : Fin 3 → ℕ) = Loff c := by
  subst h; unfold Loff; rw [Nat.mod_eq_of_lt hc]

end Window

section Chunks
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem wn_write {α : Type} {Q : α → sProp 𝕄} {e : EltTy} {M : Memref sig .tc .vmem S1x16x8960 e} {V : ℕ → Vec F S1x16x256 e} {u : ℕ} {o o' : Fin 3 → ℕ} {i i' l x y}
    {w : Vec F S1x16x256 e}
    {k : PUnit → Prog (TpuEff nD τ sig (Elt F) Λ₀ .tc) α} (hu : u < 35) (h : o = Loff u) (h' : o' = Loff u) (hw : w = V u) :
    WN d M V u ⊢ iprop((WN d M V (u + 1) -∗ WP d (k ⟨⟩) Q)
        -∗ WP d (.op (.load M (Rect.unit (s := S1x16x8960) o S1x16x256.size i).toLoadRect l) fun _ =>
          .op (.store M (Rect.unit (s := S1x16x8960) o' S1x16x256.size i') w Finset.univ x y) k) Q) := by
  unfold WN
  rw [fam_head (fun c => iprop(∃ v, lPc d M c v)) hu]
  iintro ⟨H, ⟨%v, HC⟩, H'⟩ Hk
  iapply (wp_ld (M := M) (Loff_inb _) h) $$ HC
  iintro HC
  iapply (wp_st (M := M) (Loff_inb _) h') $$ HC
  iintro HC
  iapply Hk
  rw [fam_last _ (Nat.zero_le u), hw]
  isplitl [H HC]
  · isplitl [HC]; · iexact HC
    iexact H
  iexact H'

theorem t2_trips : k0_t2_loop.trips = 35 := by decide +kernel
theorem t3_trips : k0_t3_loop.trips = 35 := by decide +kernel
theorem t4_trips : k0_t4_loop.trips = 35 := by decide +kernel
theorem t7_trips : k0_t7_loop.trips = 35 := by decide +kernel
theorem t8_trips : k0_t8_loop.trips = 35 := by decide +kernel
theorem t9_trips : k0_t9_loop.trips = 35 := by decide +kernel

variable (d gX eX qX sX) in
abbrev CP1 (b : ℕ) : sProp 𝕄 := CN d p1M (fun c => P1 gX eX qX sX (35 * b + c)) 35

theorem t2_step {i : grid0.Coords} {b : ℕ} (t : Fin k0_t2_loop.trips) (acc : Unit) :
    iprop(CP1 d gX eX qX sX b ∗ WN d a6 (fun c => k0_pay28 (P1 gX eX qX sX (35 * b + c))) t.val)
      ⊢ WP d (k0_t2_body i gM hg eM he a3 h3 a4 h4 oM ho a6 h6 a7 h7 a8 h8 a9 h9 a10 h10 mM hm stM hst bqM hbq p1M hp1 pbM hpb poM hpo pcM hpc cc0_scratch7 cc0_scratch8 cc0_scratch9 t acc) (fun _ => iprop(CP1 d gX eX qX sX b ∗ WN d a6 (fun c => k0_pay28 (P1 gX eX qX sX (35 * b + c))) (t.val + 1))) := by
  have ht : t.val < 35 := lt_of_lt_of_eq t.isLt t2_trips
  simp only [k0_t2_body, Prog.bind_lift, Prog.bind_op, Prog.pure_eq_ret, Prog.bind_ret]
  iintro ⟨HC, HW⟩
  iapply (cn_read (M := p1M) (c := t.val) ht ((k0_off14_eq t).trans (coff_of (by omega)))) $$ HC
  iintro HC
  iapply (wn_write (M := a6) (V := fun c => k0_pay28 (P1 gX eX qX sX (35 * b + c))) (u := t.val) ht ((k0_off15_eq t).trans (loff_of ht rfl)) ((k0_off15_eq t).trans (loff_of ht rfl)) rfl) $$ HW
  iintro HW
  iapply wp_done
  isplitl [HC]; · iexact HC
  iexact HW

theorem t3_step {i : grid0.Coords} {b : ℕ} (t : Fin k0_t3_loop.trips) (acc : FVec F S16x16 .f32) :
    iprop(⌜acc = foldN (fun c a => k0_pay30 a (P1 gX eX qX sX (35 * b + c))) k0_pay29 t.val⌝ ∗ CP1 d gX eX qX sX b)
      ⊢ WP d (k0_t3_body i gM hg eM he a3 h3 a4 h4 oM ho a6 h6 a7 h7 a8 h8 a9 h9 a10 h10 mM hm stM hst bqM hbq p1M hp1 pbM hpb poM hpo pcM hpc cc0_scratch7 cc0_scratch8 cc0_scratch9 t acc) (fun r => iprop(⌜r = foldN (fun c a => k0_pay30 a (P1 gX eX qX sX (35 * b + c))) k0_pay29 (t.val + 1)⌝ ∗ CP1 d gX eX qX sX b)) := by
  have ht : t.val < 35 := lt_of_lt_of_eq t.isLt t3_trips
  simp only [k0_t3_body, Prog.bind_lift, Prog.bind_op, Prog.pure_eq_ret, Prog.bind_ret]
  iintro ⟨%hacc, HC⟩
  iapply (cn_read (M := p1M) (c := t.val) ht ((k0_off16_eq t).trans (coff_of (by omega)))) $$ HC
  iintro HC
  iapply wp_done
  isplitr; · ipureintro; rw [hacc]; rfl
  iexact HC

theorem t4_step {i : grid0.Coords} {b : ℕ} {v0 v1 v7 arg0 : BitVec 32} {v6 : BitVec 1} {v825 v827 v830} (hv : (v825, v827, v830) = ch1 (G1 gX eX qX sX b))
    (t : Fin k0_t4_loop.trips) (acc : Unit) :
    iprop(CP1 d gX eX qX sX b ∗ CN d poM (fun c => PO gX eX qX sX (35 * b + c)) t.val)
      ⊢ WP d (k0_t4_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 t acc) (fun _ => iprop(CP1 d gX eX qX sX b ∗ CN d poM (fun c => PO gX eX qX sX (35 * b + c)) (t.val + 1))) := by
  have ht : t.val < 35 := lt_of_lt_of_eq t.isLt t4_trips
  simp only [k0_t4_body, Prog.bind_lift, Prog.bind_op, Prog.pure_eq_ret, Prog.bind_ret]
  iintro ⟨HC, HW⟩
  iapply (cn_read (M := p1M) (c := t.val) ht ((k0_off17_eq t).trans (coff_of (by omega)))) $$ HC
  iintro HC
  iapply (cn_write (M := poM) (V := fun c => PO gX eX qX sX (35 * b + c)) (u := t.val) ht ((k0_off17_eq t).trans (coff_of (by omega))) ((k0_off17_eq t).trans (coff_of (by omega)))
    (by unfold PO; rw [show (35 * b + t.val) / 35 = b by omega, ← hv])) $$ HW
  iintro HW
  iapply wp_done
  isplitl [HC]; · iexact HC
  iexact HW

theorem t7_step {i : grid0.Coords} {b : ℕ} {v0 v1 v7 arg0 : BitVec 32} {v6 : BitVec 1} {v825 v827 v830} (t : Fin k0_t7_loop.trips) (acc : FVec F S16x16 .f32) :
    iprop(⌜acc = foldN (fun c a => k0_pay219 a (PB gX eX qX sX (35 * b + c))) k0_pay218 t.val⌝ ∗ CN d pbM (fun c => PB gX eX qX sX (35 * b + c)) 35)
      ⊢ WP d (k0_t7_body i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830 t acc)
        (fun r => iprop(⌜r = foldN (fun c a => k0_pay219 a (PB gX eX qX sX (35 * b + c))) k0_pay218 (t.val + 1)⌝ ∗ CN d pbM (fun c => PB gX eX qX sX (35 * b + c)) 35)) := by
  have ht : t.val < 35 := lt_of_lt_of_eq t.isLt t7_trips
  simp only [k0_t7_body, Prog.bind_lift, Prog.bind_op, Prog.pure_eq_ret, Prog.bind_ret]
  iintro ⟨%hacc, HC⟩
  iapply (cn_read (M := pbM) (c := t.val) ht ((k0_off70_eq t).trans (coff_of (by omega)))) $$ HC
  iintro HC
  iapply wp_done
  isplitr; · ipureintro; rw [hacc]; rfl
  iexact HC

variable (d gX eX qX sX) in
/-- The third product, its first `t` chunks replaced by those of the orthogonal factor. -/
def C8 (b t : ℕ) : sProp 𝕄 :=
  iprop(fam (fun c => cPc d pbM c (PX gX eX qX sX (35 * b + c))) 0 t ∗ fam (fun c => cPc d pbM c (PB gX eX qX sX (35 * b + c))) t 35)

theorem t8_step {i : grid0.Coords} {b : ℕ} {v860} (h860 : v860 = io) {v1633 v1641 v1649 v1651 v1653 v1654}
    (hv : (v1633, v1641, v1649, v1651, v1653, v1654) = C2 gX eX qX sX b)
    (t : Fin k0_t8_loop.trips) (acc : FVec F S16x256 .f32) :
    iprop(⌜acc = foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 t.val⌝ ∗ C8 d gX eX qX sX b t.val)
      ⊢ WP d (k0_t8_body i gM hg eM he a3 h3 a4 h4 oM ho a6 h6 a7 h7 a8 h8 a9 h9 a10 h10 mM hm stM hst bqM hbq p1M hp1 pbM hpb poM hpo pcM hpc cc0_scratch7 cc0_scratch8 cc0_scratch9 v860 v1633 v1641 v1649 v1651 v1653 v1654 t acc)
        (fun r => iprop(⌜r = foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 (t.val + 1)⌝ ∗ C8 d gX eX qX sX b (t.val + 1))) := by
  have ht : t.val < 35 := lt_of_lt_of_eq t.isLt t8_trips
  simp only [k0_t8_body, Prog.bind_lift, Prog.bind_op, Prog.pure_eq_ret, Prog.bind_ret]
  unfold C8
  rw [fam_head (fun c => cPc d pbM c (PB gX eX qX sX (35 * b + c))) ht]
  iintro ⟨%hacc, HA, HC, HB⟩
  have hoff : k0_off71 t = Coff t.val := (k0_off71_eq t).trans (coff_of (by omega))
  iapply (wp_ld (M := pbM) (Coff_inb _) hoff) $$ HC
  iintro HC
  iapply (wp_ld (M := pbM) (Coff_inb _) hoff) $$ HC
  iintro HC
  iapply (wp_st (M := pbM) (Coff_inb _) hoff) $$ HC
  iintro HC
  iapply wp_done
  isplitr
  · ipureintro; rw [hacc, ← hv, h860]; rfl
  rw [fam_last _ (Nat.zero_le t.val)]
  isplitl [HC HA]
  · isplitl [HC]
    · unfold PX; rw [show (35 * b + t.val) / 35 = b by omega, ← hv, h860]; iexact HC
    iexact HA
  iexact HB

theorem t9_step {i : grid0.Coords} {b : ℕ} {v860 v1633 v1641 v1649 v1651 v1653 v1654} {v1685} (hM : v1685 = MX gX eX qX sX b)
    (t : Fin k0_t9_loop.trips) (acc : Unit) :
    iprop(CN d pbM (fun c => PX gX eX qX sX (35 * b + c)) 35 ∗ CN d pcM (fun c => PCF gX eX qX sX (35 * b + c)) t.val ∗ WN d a7 (fun c => PCI gX eX qX sX (35 * b + c)) t.val)
      ⊢ WP d (k0_t9_body i gM hg eM he a3 h3 a4 h4 oM ho a6 h6 a7 h7 a8 h8 a9 h9 a10 h10 mM hm stM hst bqM hbq p1M hp1 pbM hpb poM hpo pcM hpc cc0_scratch7 cc0_scratch8 cc0_scratch9 v860 v1633 v1641 v1649 v1651 v1653 v1654 v1685 t acc)
        (fun _ => iprop(CN d pbM (fun c => PX gX eX qX sX (35 * b + c)) 35 ∗ CN d pcM (fun c => PCF gX eX qX sX (35 * b + c)) (t.val + 1) ∗ WN d a7 (fun c => PCI gX eX qX sX (35 * b + c)) (t.val + 1))) := by
  have ht : t.val < 35 := lt_of_lt_of_eq t.isLt t9_trips
  simp only [k0_t9_body, Prog.bind_lift, Prog.bind_op, Prog.pure_eq_ret, Prog.bind_ret]
  iintro ⟨HC, HA, HW⟩
  iapply (cn_read (M := pbM) (c := t.val) ht ((k0_off72_eq t).trans (coff_of (by omega)))) $$ HC
  iintro HC
  iapply (cn_write (M := pcM) (V := fun c => PCF gX eX qX sX (35 * b + c)) (u := t.val) ht ((k0_off72_eq t).trans (coff_of (by omega))) ((k0_off72_eq t).trans (coff_of (by omega)))
    (by unfold PCF; rw [show (35 * b + t.val) / 35 = b by omega, ← hM])) $$ HA
  iintro HA
  iapply (wn_write (M := a7) (V := fun c => PCI gX eX qX sX (35 * b + c)) (u := t.val) ht ((k0_off73_eq t).trans (loff_of ht rfl)) ((k0_off73_eq t).trans (loff_of ht rfl))
    (by unfold PCI; rw [show (35 * b + t.val) / 35 = b by omega, ← hM])) $$ HW
  iintro HW
  iapply wp_done
  isplitl [HC]; · iexact HC
  isplitl [HA]; · iexact HA
  iexact HW

end Chunks

end Cert.KernelIdeal.Hand
-- ==== Proof.KernelIdealLoop7.lean ====
/-
  The loop that writes the new error back and begins the batch after next.
-/
module

public import proofs.«01_k».proof.Proof.KernelIdealLoop6

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Back
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

/-- The copies of the batch after next that have begun before step `t` of the loop. -/
def xo (b t : ℕ) : ℕ := if b < 20 then min (t - 3) 6 else 0

variable (d gX eX qX sX) in
def S11 (b x a : ℕ) : sProp 𝕄 :=
  iprop(GI d gX (35 * min (b + 2) 22) 0 x ∗ EI d eX (35 * min (b + 2) 22) 0 x ∗ SF d x 6 ∗ OS d (EV gX eX qX sX) (35 * b + x) (35 * b + a) ∗ OW (d : Thread nD τ))

variable (d gX eX qX sX) in
def T11 (b t : ℕ) : sProp 𝕄 :=
  iprop(RS d gX eX (35 * b + t) (35 * b + 35) ∗ fam (fun n => mPc d n (EV gX eX qX sX n)) (35 * b + (t - 1)) (35 * b + t)
    ∗ CN d pcM (fun c => PCF gX eX qX sX (35 * b + c)) 35 ∗ S11 d gX eX qX sX b (xo b t) (t - 1))

theorem t11_trips : k0_t11_loop.trips = 35 := by decide +kernel

/-- The block before the present one leaves for the result. -/
theorem back_start {α : Type} {Q : α → sProp 𝕄} {b x c : ℕ} {off₁ off₂ : Fin 3 → ℕ} {sem : DmaSem sig} {inb₁ inb₂ z₁ z₂ hsrc hdst hsem}
    {k : PUnit → Prog (TpuEff nD τ sig (Elt F) Λ₀ .tc) α} (hb : b < 22) (hc : c < 35) (hx : x ≤ c)
    (h₁ : off₁ = Moff (35 * b + c)) (h₂ : off₂ = Ooff (35 * b + c)) (hs : sem = ocell (35 * b + c)) :
    iprop(S11 d gX eX qX sX b x c ∗ fam (fun n => mPc d n (EV gX eX qX sX n)) (35 * b + c) (35 * b + c + 1))
      ⊢ iprop((S11 d gX eX qX sX b x (c + 1) -∗ WP d (k ⟨⟩) Q)
        -∗ WP d (.op (.enqueueDma ((pc mM off₁ S1x256x1536.size inb₁).squeeze S256x1536 z₁)
            (.here ((pc oM off₂ S1x256x1536.size inb₂).squeeze S256x1536 z₂)) (.dma sem) hsrc hdst hsem) k) Q) := by
  unfold S11
  rw [fam_head (fun n => mPc d n (EV gX eX qX sX n)) (Nat.lt_succ_self (35 * b + c))]
  iintro ⟨⟨HG, HE, HF, HZ, HO⟩, HM, -⟩ Hk
  iapply (o_start (EV := EV gX eX qX sX) (w := 35 * b + x) (a := 35 * b + c) (by omega) (by omega) (by omega) h₁ h₂ hs) $$ [HZ HM]
  · isplitl [HZ]; · iexact HZ
    iexact HM
  iintro HZ
  iapply Hk
  isplitl [HG]; · iexact HG
  isplitl [HE]; · iexact HE
  isplitl [HF]; · iexact HF
  isplitl [HZ]; · iexact HZ
  iexact HO

theorem MF_none (n : ℕ) : ⊢ MF (F := F) d n n := by
  unfold MF; rw [fam_empty _ (Nat.le_refl n)] ; exact .rfl

/-- The block three before has left; its place takes the block of the batch after next. -/
theorem next_start {α : Type} {Q : α → sProp 𝕄} {b x a : ℕ}
    {sp' : Space} {s' : Shape} {e' : EltTy} {offw : Fin 3 → ℕ} {inbw : ∀ a, offw a + S1x256x1536.size a ≤ S22x8960x1536.size a} {zw : S1x256x1536.Squeezes S256x1536} {semw : DmaSem sig}
    {srcw : Memref sig .tc sp' s' e'} {hsrcw : srcw.view.WordExact} {hdstw : ((pc oM offw S1x256x1536.size inbw).squeeze S256x1536 zw).view.WordExact}
    {o₁ o₂ o₃ : Fin 3 → ℕ} {sg se : DmaSem sig} {inb₁ inb₂ z₁ z₂ hsrc hdst hsem inb₁' inb₂' z₁' z₂' hsrc' hdst' hsem'}
    {k : PUnit → Prog (TpuEff nD τ sig (Elt F) Λ₀ .tc) α}
    (hb : b < 20) (hx : x < 6) (hxa : x < a) (ha : a ≤ 35)
    (hsw : semw = ocell x) (h₁ : o₁ = Ooff (35 * (b + 2) + x)) (h₂ : o₂ = Moff (35 * (b + 2) + x)) (h₃ : o₃ = Soff x) (hsg : sg = gcell x) (hse : se = ecell x) :
    S11 d gX eX qX sX b x a
      ⊢ iprop((S11 d gX eX qX sX b (x + 1) a -∗ WP d (k ⟨⟩) Q)
        -∗ WP d (.op (.waitDma2 semw srcw ((pc oM offw S1x256x1536.size inbw).squeeze S256x1536 zw) hsrcw hdstw) fun _ =>
            .op (.enqueueDma ((pc gM o₁ S1x256x1536.size inb₁).squeeze S256x1536 z₁)
              (.here ((pc mM o₂ S1x256x1536.size inb₂).squeeze S256x1536 z₂)) (.dma sg) hsrc hdst hsem) fun _ =>
            .op (.enqueueDma ((pc eM o₁ S1x256x1536.size inb₁').squeeze S256x1536 z₁')
              (.here ((pc stM o₃ S1x256x1536.size inb₂').squeeze S256x1536 z₂')) (.dma se) hsrc' hdst' hsem') k) Q) := by
  unfold S11
  rw [show min (b + 2) 22 = b + 2 by omega]
  iintro ⟨HG, HE, HF, HZ, HO⟩ Hk
  ihave HM := MF_none (d := d) (35 * b + x + 70)
  iapply (o_wait (EV := EV gX eX qX sX) (w := 35 * b + x) (a := 35 * b + a) (lo := 35 * b + x + 70) (by omega) (by omega) (by omega)
      (hsw.trans (ocell_mod (by omega)))) $$ [HZ HM HO]
  · isplitl [HZ]; · iexact HZ
    isplitl [HM]; · iexact HM
    iexact HO
  iintro ⟨HZ, HM, HO⟩
  have e : MF (F := F) d (35 * b + x + 70) (35 * b + x + 1 + 70) = MF d (35 * (b + 2) + x) (35 * (b + 2) + (x + 1)) := by
    congr 1 <;> omega
  ihave HM := (eqE e) $$ HM
  iapply (g_start (b := b + 2) (w := 0) (x := x) (hi := 35 * (b + 2) + (x + 1)) (by omega) (by omega) (by omega) (by omega) (by omega) h₁ h₂ hsg) $$ [HG HM]
  · isplitl [HG]; · iexact HG
    iexact HM
  iintro ⟨HG, HM⟩
  iapply (e_start (b := b + 2) (w := 0) (x := x) (hi := 6) (by omega) (by omega) (by omega) (by omega) (by omega) h₁ h₃ hse) $$ [HE HF]
  · isplitl [HE]; · iexact HE
    iexact HF
  iintro ⟨HE, HF⟩
  iapply Hk
  isplitl [HG]; · iexact HG
  isplitl [HE]; · iexact HE
  isplitl [HF]; · iexact HF
  isplitl [HZ]; · iexact HZ
  iexact HO

theorem t11_step {i : grid0.Coords} {b : ℕ} (hi : (i 0).val = b) {v1693 v1708 v1715}
    (hS : v1693 = PSc gX eX qX sX b) (hQ : v1708 = QNS gX eX qX sX b) (hF : v1715 = QNF gX eX qX sX b) (t : Fin k0_t11_loop.trips) (acc : Unit) :
    T11 d gX eX qX sX b t.val
      ⊢ WP d (k0_t11_body i gM hg eM he a3 h3 a4 h4 oM ho a6 h6 a7 h7 a8 h8 a9 h9 a10 h10 mM hm stM hst bqM hbq p1M hp1 pbM hpb poM hpo pcM hpc cc0_scratch7 cc0_scratch8 cc0_scratch9 v1693 v1708 v1715 t acc) (fun _ => T11 d gX eX qX sX b (t.val + 1)) := by
  have hb : b < 22 := hi ▸ off102_eq' i
  have ht : t.val < 35 := lt_of_lt_of_eq t.isLt t11_trips
  simp only [k0_t11_body, Prog.bind_lift, Prog.bind_op, Prog.pure_eq_ret, Prog.bind_ret]
  unfold T11
  have hoff : k0_off94 i t = Moff (35 * b + t.val) := (k0_off94_eq i t).trans (moff_at ht (by rw [hi]) (by simp))
  have hev : k0_pay426 v1693 v1708 v1715 (PCF gX eX qX sX (35 * b + t.val)) (sumV gX eX (35 * b + t.val)) = EV gX eX qX sX (35 * b + t.val) := by
    unfold EV; rw [show (35 * b + t.val) / 35 = b by omega, hS, hQ, hF]
  unfold RS
  rw [fam_head (fun n => mPc d n (sumV gX eX n)) (show 35 * b + t.val < 35 * b + 35 by omega)]
  iintro ⟨⟨HM, HR⟩, HP, HC, HS⟩
  iapply (cn_read (M := pcM) (c := t.val) ht ((k0_off93_eq t).trans (coff_of (by omega)))) $$ HC
  iintro HC
  iapply (wp_ld (M := mM) (Moff_inb _) hoff) $$ HM
  iintro HM
  iapply (wp_ld (M := mM) (Moff_inb _) hoff) $$ HM
  iintro HM
  iapply (wp_st (M := mM) (Moff_inb _) hoff) $$ HM
  iintro HM
  rw [hev]
  have hone : mPc d (35 * b + t.val) (EV gX eX qX sX (35 * b + t.val)) ⊢ fam (fun n => mPc d n (EV gX eX qX sX n)) (35 * b + (t.val + 1 - 1)) (35 * b + (t.val + 1)) := by
    rw [fam_head _ (show 35 * b + (t.val + 1 - 1) < 35 * b + (t.val + 1) by omega), fam_empty _ (show 35 * b + (t.val + 1) ≤ 35 * b + (t.val + 1 - 1) + 1 by omega)]
    rw [show t.val + 1 - 1 = t.val by omega]
    iintro H; isplitl; · iexact H
    iempintro
  ihave HM := hone $$ HM
  by_cases h24 : k0_cond24 i t = 1#1
  · have h := (cond24_iff i t).mp h24
    have h23 := (cond23_iff t).mpr (by omega)
    rw [hi] at h
    simp only [dif_pos h24, dif_pos h23]
    have e₁ : fam (fun n => mPc d n (EV gX eX qX sX n)) (35 * b + (t.val - 1)) (35 * b + t.val) = fam (fun n => mPc d n (EV gX eX qX sX n)) (35 * b + (t.val - 1)) (35 * b + (t.val - 1) + 1) := by
      congr 1; omega
    have e₂ : S11 d gX eX qX sX b (xo b t.val) (t.val - 1) = S11 d gX eX qX sX b (t.val - 3) (t.val - 1) := by
      unfold xo; rw [if_pos (by omega), show min (t.val - 3) 6 = t.val - 3 by omega]
    have e₃ : S11 d gX eX qX sX b (t.val - 3 + 1) (t.val - 1 + 1) = S11 d gX eX qX sX b (xo b (t.val + 1)) (t.val + 1 - 1) := by
      unfold xo; rw [if_pos (by omega), show min (t.val + 1 - 3) 6 = t.val - 3 + 1 by omega, show t.val - 1 + 1 = t.val + 1 - 1 by omega]
    ihave HP := (eqE e₁) $$ HP
    ihave HS := (eqE e₂) $$ HS
    iapply (back_start (b := b) (x := t.val - 3) (c := t.val - 1) hb (by omega) (by omega)
      ((off97_eq i t (by omega)).trans (moff_at (by omega) (by rw [hi]) rfl)) ((off96_eq i t (by omega)).trans (ooff_at (by omega) (by rw [hi]; omega) rfl))
      ((ocell_eq ((off95_eq t (by omega)).trans (one_of (by omega)))).trans (ocell_mod (c := t.val - 1) (by omega)))) $$ [HS HP]
    · isplitl [HS]; · iexact HS
      iexact HP
    iintro HS
    iapply (next_start (b := b) (x := t.val - 3) (a := t.val - 1 + 1) (by omega) (by omega) (by omega) (by omega)
      (ocell_eq ((off98_eq t (by omega)).trans (one_of (by omega))))
      ((off102_eq i t (by omega)).trans (ooff_at (by omega) (by rw [hi]; omega) rfl))
      ((off100_eq i t (by omega)).trans (moff_at (by omega) (by rw [hi]; omega) rfl))
      ((off103_eq t (by omega)).trans (soff_of (by omega)))
      (gcell_eq ((off101_eq t (by omega)).trans (one_of (by omega)))) (ecell_eq ((off101_eq t (by omega)).trans (one_of (by omega))))) $$ HS
    iintro HS
    ihave HS := (eqE e₃) $$ HS
    iapply wp_done
    isplitl [HR]; · iexact HR
    isplitl [HM]; · iexact HM
    isplitl [HC]; · iexact HC
    iexact HS
  · have h := mt (cond24_iff i t).mpr h24
    rw [hi] at h
    have ex : xo b (t.val + 1) = xo b t.val := by
      unfold xo; split
      · omega
      · rfl
    simp only [dif_neg h24]
    by_cases h23 : k0_cond23 t = 1#1
    · have h' := (cond23_iff t).mp h23
      simp only [dif_pos h23]
      have e₁ : fam (fun n => mPc d n (EV gX eX qX sX n)) (35 * b + (t.val - 1)) (35 * b + t.val) = fam (fun n => mPc d n (EV gX eX qX sX n)) (35 * b + (t.val - 1)) (35 * b + (t.val - 1) + 1) := by
        congr 1; omega
      have e₃ : S11 d gX eX qX sX b (xo b t.val) (t.val - 1 + 1) = S11 d gX eX qX sX b (xo b (t.val + 1)) (t.val + 1 - 1) := by
        rw [ex, show t.val - 1 + 1 = t.val + 1 - 1 by omega]
      ihave HP := (eqE e₁) $$ HP
      iapply (back_start (b := b) (x := xo b t.val) (c := t.val - 1) hb (by omega) (by unfold xo; split <;> omega)
        ((off97_eq i t (by omega)).trans (moff_at (by omega) (by rw [hi]) rfl)) ((off96_eq i t (by omega)).trans (ooff_at (by omega) (by rw [hi]; omega) rfl))
        ((ocell_eq ((off95_eq t (by omega)).trans (one_of (by omega)))).trans (ocell_mod (c := t.val - 1) (by omega)))) $$ [HS HP]
      · isplitl [HS]; · iexact HS
        iexact HP
      iintro HS
      ihave HS := (eqE e₃) $$ HS
      iapply wp_done
      isplitl [HR]; · iexact HR
      isplitl [HM]; · iexact HM
      isplitl [HC]; · iexact HC
      iexact HS
    · have h' := mt (cond23_iff t).mpr h23
      simp only [dif_neg h23]
      have e₃ : S11 d gX eX qX sX b (xo b t.val) (t.val - 1) = S11 d gX eX qX sX b (xo b (t.val + 1)) (t.val + 1 - 1) := by
        rw [ex, show t.val - 1 = t.val + 1 - 1 by omega]
      ihave HS := (eqE e₃) $$ HS
      iapply wp_done
      isplitl [HR]; · iexact HR
      isplitl [HM]; · iexact HM
      isplitl [HC]; · iexact HC
      iexact HS

end Back

end Cert.KernelIdeal.Hand
-- ==== Proof.KernelIdealLoop8.lean ====
/-
  The prelude of the first point: the first batch is brought in and its product taken, and the second batch begun.
-/
module

public import proofs.«01_k».proof.Proof.KernelIdealLoop7

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Rules
variable {d : Dev nD} {α : Type}

theorem wp_loop {w : ℕ} {L : Scf.Loop w} {hok : L.OK} {σ β : Type} {init : σ} {body : Fin L.trips → σ → Prog (TpuEff nD τ sig (Elt F) Λ₀ .tc) σ}
    (I : ℕ → σ → sProp 𝕄) (n : ℕ) (hn : L.trips = n) (hbody : ∀ (k : Fin L.trips) (acc : σ), I k.val acc ⊢ WP d (body k acc) (fun r => I (k.val + 1) r))
    {kk : σ → Prog (TpuEff nD τ sig (Elt F) Λ₀ .tc) β} {Q : β → sProp 𝕄} :
    I 0 init ⊢ iprop((∀ acc, I n acc -∗ WP d (kk acc) Q) -∗ WP d (Scf.Loop.for L hok init body >>= kk) Q) := by
  subst hn
  exact Scf.wp_for_bind frame _ _ _ _ _ hok init body I hbody

/-- A read of a block of a buffer held whole. -/
theorem wp_lds {Q : α → sProp 𝕄} {cs : CoreSpace} {s : Shape} {e : EltTy} {M : Memref sig .tc cs s e} {r : Rect s}
    {hl : M.view.LoadsAt r.toLoadRect} {k : (r.toLoadRect.shape.Idx → Elt F e) → Prog (TpuEff nD τ sig (Elt F) Λ₀ .tc) α} {X : Vec F s e} :
    owns (d : Thread nD τ) M fullShare X
      ⊢ iprop((owns (d : Thread nD τ) M fullShare X -∗ WP d (k (fun x => X (r.emb x))) Q)
        -∗ WP d (.op (.load M r.toLoadRect hl) k) Q) := by
  unfold owns
  iintro ⟨%f, %hf, H⟩ Hk
  iapply (wp_load_rect Variants.none (d : Thread nD τ) none Set.univ (m := M) (r := r) (q := fullShare) (f := f) (k := k)
    (S := M.view.set) (View.set_slice_subset _ _)) $$ H
  iintro H
  have hf' : (M.access r).read (Elt F) f = fun x => X (r.emb x) := by rw [← hf]; rfl
  rw [hf']
  iapply Hk
  iexists f
  isplitr
  · ipureintro; exact hf
  iexact H

end Rules

section Prelude
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

theorem fam_rot {Φ : ℕ → sProp 𝕄} (h : ∀ i j, i % 6 = j % 6 → Φ i = Φ j) : fam Φ 35 41 = fam Φ 0 6 := by
  rw [fam_head Φ (show 35 < 41 by omega), fam_last Φ (show 0 ≤ 5 by omega), h 35 5 rfl]
  have : fam Φ (0 + 36) (5 + 36) = fam Φ 0 5 := by
    rw [fam_shift]; exact fam_congr fun i _ _ => h _ _ (by omega)
  rw [← this]

theorem SF_rot : SF (F := F) d 35 41 = SF d 0 6 := by
  unfold SF; exact fam_rot fun i j h => by simp only [sPc_mod h]
theorem GI_rot (b : ℕ) : GI d gX (35 * b) 35 35 ⊢ GI d gX (35 * (b + 1)) 0 0 := by
  unfold GI
  rw [fam_rot (Φ := gS0 d) (fun i j h => by unfold gS0; rw [gcell_mod h]), show 35 * b + 35 = 35 * (b + 1) + 0 by omega]
theorem EI_rot (b : ℕ) : EI d eX (35 * b) 35 35 ⊢ EI d eX (35 * (b + 1)) 0 0 := by
  unfold EI
  rw [fam_rot (Φ := eS0 d) (fun i j h => by unfold eS0; rw [ecell_mod h]), show 35 * b + 35 = 35 * (b + 1) + 0 by omega]

variable (d gX eX) in
/-- Batch `b` begun: `xg` and `xe` transfers of its two streams in flight. -/
def SA (b xg xe hi : ℕ) : sProp 𝕄 :=
  iprop(GI d gX (35 * b) 0 xg ∗ EI d eX (35 * b) 0 xe ∗ MF d (35 * b + xg) hi ∗ SF d xe 6)

theorem sa_g {α : Type} {Q : α → sProp 𝕄} {b xe x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 6) (hhi : 35 * b + x < hi)
    (h₁ : off₁ = Ooff (35 * b + x)) (h₂ : off₂ = Moff (35 * b + x)) (hs : sem = gcell x) :
    SA d gX eX b x xe hi
      ⊢ iprop((SA d gX eX b (x + 1) xe hi -∗ WP d (k ⟨⟩) Q)
        -∗ WP d (.op (.enqueueDma ((pc gM off₁ S1x256x1536.size inb₁).squeeze S256x1536 z₁)
            (.here ((pc mM off₂ S1x256x1536.size inb₂).squeeze S256x1536 z₂)) (.dma sem) hsrc hdst hsem) k) Q) := by
  unfold SA
  iintro ⟨HG, HE, HM, HS⟩ Hk
  iapply (g_start (b := b) (w := 0) (x := x) (hi := hi) hb (by omega) (by omega) (by omega) hhi h₁ h₂ hs) $$ [HG HM]
  · isplitl [HG]; · iexact HG
    iexact HM
  iintro ⟨HG, HM⟩
  iapply Hk
  isplitl [HG]; · iexact HG
  isplitl [HE]; · iexact HE
  isplitl [HM]; · iexact HM
  iexact HS

theorem sa_e {α : Type} {Q : α → sProp 𝕄} {b xg x hi : ℕ} {off₁ off₂ : Fin 3 → ℕ} {sem : DmaSem sig} {inb₁ inb₂ z₁ z₂ hsrc hdst hsem}
    {k : PUnit → Prog (TpuEff nD τ sig (Elt F) Λ₀ .tc) α}
    (hb : b < 22) (hx : x < 6)
    (h₁ : off₁ = Ooff (35 * b + x)) (h₂ : off₂ = Soff x) (hs : sem = ecell x) :
    SA d gX eX b xg x hi
      ⊢ iprop((SA d gX eX b xg (x + 1) hi -∗ WP d (k ⟨⟩) Q)
        -∗ WP d (.op (.enqueueDma ((pc eM off₁ S1x256x1536.size inb₁).squeeze S256x1536 z₁)
            (.here ((pc stM off₂ S1x256x1536.size inb₂).squeeze S256x1536 z₂)) (.dma sem) hsrc hdst hsem) k) Q) := by
  unfold SA
  iintro ⟨HG, HE, HM, HS⟩ Hk
  iapply (e_start (b := b) (w := 0) (x := x) (hi := 6) hb (by omega) (by omega) (by omega) hx h₁ h₂ hs) $$ [HE HS]
  · isplitl [HE]; · iexact HE
    iexact HS
  iintro ⟨HE, HS⟩
  iapply Hk
  isplitl [HG]; · iexact HG
  isplitl [HE]; · iexact HE
  isplitl [HM]; · iexact HM
  iexact HS

/-- What the first product leaves of the first batch. -/
abbrev fstOff_inb : ∀ a, (![0, 0] : Fin 2 → ℕ) a + S16x22.size a ≤ S16x22.size a := by decide
abbrev wPc (M : Memref sig .tc .vmem S16x22 .f32) (v : Vec F S16x22 .f32) : sProp 𝕄 := owns (d : Thread nD τ) (pc M ![0, 0] S16x22.size fstOff_inb) fullShare v

theorem part9_ok {i : grid0.Coords} (k0_h1 : k0_cond1 i = 1#1) :
    iprop(owns (d : Thread nD τ) a3 fullShare qX ∗ wPc (d := d) a4 sX ∗ (∃ v, bqPc d v) ∗ SA d gX eX 0 0 0 70 ∗ PN d gX eX qX sX 0 0 ∗ OW (d : Thread nD τ))
      ⊢ WP d (k0_part9 i gM hg eM he a3 h3 a4 h4 oM ho a6 h6 a7 h7 a8 h8 a9 h9 a10 h10 mM hm stM hst bqM hbq p1M hp1 pbM hpb poM hpo pcM hpc cc0_scratch7 cc0_scratch8 cc0_scratch9 k0_h1) (fun _ => iprop(owns (d : Thread nD τ) a3 fullShare qX ∗ wPc (d := d) a4 sX
        ∗ SA d gX eX 1 6 5 70 ∗ NX d gX eX 0 35 ∗ PN d gX eX qX sX 0 35 ∗ BQR d qX 0 ∗ OW (d : Thread nD τ))) := by
  simp only [k0_part9_eq_skeleton, k0_part9_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    Prog.bind_lift, Prog.bind_op, Prog.pure_eq_ret, Prog.bind_ret, Prog.bind_assoc]
  iintro ⟨H3, H4, ⟨%v, HB⟩, HA, HP, HO⟩
  iapply (wp_lds (M := a3)) $$ H3
  iintro H3
  iapply (wp_ld (M := bqM) bqOff_inb rfl) $$ HB
  iintro HB
  iapply (wp_st (M := bqM) bqOff_inb rfl) $$ HB
  iintro HB
  iapply (wp_ld (M := a4) fstOff_inb rfl) $$ H4
  iintro H4
  iapply (sa_g (b := 0) (xe := 0) (x := 0) (hi := 70) (by decide) (by decide) (by decide) (by decide +kernel) (by decide +kernel) (gcell_eq (by decide +kernel))) $$ HA
  iintro HA
  iapply (sa_e (b := 0) (xg := 1) (x := 0) (hi := 70) (by decide) (by decide) (by decide +kernel) (by decide +kernel) (ecell_eq (by decide +kernel))) $$ HA
  iintro HA
  iapply (sa_g (b := 0) (xe := 1) (x := 1) (hi := 70) (by decide) (by decide) (by decide) (by decide +kernel) (by decide +kernel) (gcell_eq (by decide +kernel))) $$ HA
  iintro HA
  iapply (sa_e (b := 0) (xg := 2) (x := 1) (hi := 70) (by decide) (by decide) (by decide +kernel) (by decide +kernel) (ecell_eq (by decide +kernel))) $$ HA
  iintro HA
  iapply (sa_g (b := 0) (xe := 2) (x := 2) (hi := 70) (by decide) (by decide) (by decide) (by decide +kernel) (by decide +kernel) (gcell_eq (by decide +kernel))) $$ HA
  iintro HA
  iapply (sa_e (b := 0) (xg := 3) (x := 2) (hi := 70) (by decide) (by decide) (by decide +kernel) (by decide +kernel) (ecell_eq (by decide +kernel))) $$ HA
  iintro HA
  iapply (sa_g (b := 0) (xe := 3) (x := 3) (hi := 70) (by decide) (by decide) (by decide) (by decide +kernel) (by decide +kernel) (gcell_eq (by decide +kernel))) $$ HA
  iintro HA
  iapply (sa_e (b := 0) (xg := 4) (x := 3) (hi := 70) (by decide) (by decide) (by decide +kernel) (by decide +kernel) (ecell_eq (by decide +kernel))) $$ HA
  iintro HA
  iapply (sa_g (b := 0) (xe := 4) (x := 4) (hi := 70) (by decide) (by decide) (by decide) (by decide +kernel) (by decide +kernel) (gcell_eq (by decide +kernel))) $$ HA
  iintro HA
  iapply (sa_e (b := 0) (xg := 5) (x := 4) (hi := 70) (by decide) (by decide) (by decide +kernel) (by decide +kernel) (ecell_eq (by decide +kernel))) $$ HA
  iintro HA
  iapply (sa_g (b := 0) (xe := 5) (x := 5) (hi := 70) (by decide) (by decide) (by decide) (by decide +kernel) (by decide +kernel) (gcell_eq (by decide +kernel))) $$ HA
  iintro HA
  iapply (sa_e (b := 0) (xg := 6) (x := 5) (hi := 70) (by decide) (by decide) (by decide +kernel) (by decide +kernel) (ecell_eq (by decide +kernel))) $$ HA
  iintro HA
  iapply (wp_loop (fun u _ => FI d gX eX qX sX u) 35 t1_trips (fun t acc => t1_step hg he ho hm hst hbq hp1 hpb hpo hpc h3 h4 h6 h7 h8 h9 h10 k0_h1 t acc)) $$ [HA HP HB HO]
  · unfold FI SA NX
    rw [show min (0 + 6) 35 = 6 by omega]
    icases HA with ⟨HG, HE, HM, HS⟩
    isplitl [HG]; · iexact HG
    isplitl [HE]; · iexact HE
    isplitl [HM]; · iexact HM
    isplitl [HS]; · iexact HS
    isplitr; · rw [fam_empty _ (Nat.le_refl (35 * 0 + 0))]; iempintro
    isplitl [HP]; · iexact HP
    isplitr [HO]
    · unfold BQR; iexists (k0_pay2 (qblk qX 0))
      isplitl [HB]; · iexact HB
      ipureintro; intro _; rfl
    iexact HO
  iintro %acc HF
  have e : FI d gX eX qX sX 35 ⊢ iprop(SA d gX eX 1 0 0 70 ∗ NX d gX eX 0 35 ∗ PN d gX eX qX sX 0 35 ∗ BQR d qX 0 ∗ OW (d : Thread nD τ)) := by
    unfold FI SA
    rw [show min (35 + 6) 35 = 35 by omega, SF_rot]
    iintro ⟨HG, HE, HM, HS, HN, HP, HB, HO⟩
    isplitl [HG HE HM HS]
    · isplitl [HG]; · iapply (GI_rot (gX := gX) 0); iexact HG
      isplitl [HE]; · iapply (EI_rot (eX := eX) 0); iexact HE
      isplitl [HM]; · iexact HM
      iexact HS
    isplitl [HN]; · iexact HN
    isplitl [HP]; · iexact HP
    isplitl [HB]; · iexact HB
    iexact HO
  icases e $$ HF with ⟨HA, HN, HP, HB, HO⟩
  iapply (sa_g (b := 1) (xe := 0) (x := 0) (hi := 70) (by decide) (by decide) (by decide) (by decide +kernel) (by decide +kernel) (gcell_eq (by decide +kernel))) $$ HA
  iintro HA
  iapply (sa_e (b := 1) (xg := 1) (x := 0) (hi := 70) (by decide) (by decide) (by decide +kernel) (by decide +kernel) (ecell_eq (by decide +kernel))) $$ HA
  iintro HA
  iapply (sa_g (b := 1) (xe := 1) (x := 1) (hi := 70) (by decide) (by decide) (by decide) (by decide +kernel) (by decide +kernel) (gcell_eq (by decide +kernel))) $$ HA
  iintro HA
  iapply (sa_e (b := 1) (xg := 2) (x := 1) (hi := 70) (by decide) (by decide) (by decide +kernel) (by decide +kernel) (ecell_eq (by decide +kernel))) $$ HA
  iintro HA
  iapply (sa_g (b := 1) (xe := 2) (x := 2) (hi := 70) (by decide) (by decide) (by decide) (by decide +kernel) (by decide +kernel) (gcell_eq (by decide +kernel))) $$ HA
  iintro HA
  iapply (sa_e (b := 1) (xg := 3) (x := 2) (hi := 70) (by decide) (by decide) (by decide +kernel) (by decide +kernel) (ecell_eq (by decide +kernel))) $$ HA
  iintro HA
  iapply (sa_g (b := 1) (xe := 3) (x := 3) (hi := 70) (by decide) (by decide) (by decide) (by decide +kernel) (by decide +kernel) (gcell_eq (by decide +kernel))) $$ HA
  iintro HA
  iapply (sa_e (b := 1) (xg := 4) (x := 3) (hi := 70) (by decide) (by decide) (by decide +kernel) (by decide +kernel) (ecell_eq (by decide +kernel))) $$ HA
  iintro HA
  iapply (sa_g (b := 1) (xe := 4) (x := 4) (hi := 70) (by decide) (by decide) (by decide) (by decide +kernel) (by decide +kernel) (gcell_eq (by decide +kernel))) $$ HA
  iintro HA
  iapply (sa_e (b := 1) (xg := 5) (x := 4) (hi := 70) (by decide) (by decide) (by decide +kernel) (by decide +kernel) (ecell_eq (by decide +kernel))) $$ HA
  iintro HA
  iapply (sa_g (b := 1) (xe := 5) (x := 5) (hi := 70) (by decide) (by decide) (by decide) (by decide +kernel) (by decide +kernel) (gcell_eq (by decide +kernel))) $$ HA
  iintro HA
  iapply wp_done
  isplitl [H3]; · iexact H3
  isplitl [H4]; · iexact H4
  isplitl [HA]; · iexact HA
  isplitl [HN]; · iexact HN
  isplitl [HP]; · iexact HP
  isplitl [HB]; · iexact HB
  iexact HO

end Prelude

end Cert.KernelIdeal.Hand
-- ==== Proof.KernelIdealLoop9.lean ====
/-
  The parts of the body between its loops: what each leaves, given what it finds.
-/
module

public import proofs.«01_k».proof.Proof.KernelIdealLoop8

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Parts
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

/-- A buffer of chunks, and a window of chunks, of whatever contents. -/
def CE (d : Dev nD) {e : EltTy} (M : Memref sig .tc .vmem S35x16x256 e) : sProp 𝕄 := fam (fun c => iprop(∃ v, cPc (F := F) d M c v)) 0 35
def LE (d : Dev nD) {e : EltTy} (M : Memref sig .tc .vmem S1x16x8960 e) : sProp 𝕄 := fam (fun c => iprop(∃ v, lPc (F := F) d M c v)) 0 35

theorem cn_start {e : EltTy} {M : Memref sig .tc .vmem S35x16x256 e} (V : ℕ → Vec F S1x16x256 e) : CE d M ⊢ CN d M V 0 := by
  unfold CE CN; rw [fam_empty (fun c => cPc d M c (V c)) (Nat.le_refl 0)]
  iintro H; isplitr; · iempintro
  iexact H
theorem cn_end {e : EltTy} {M : Memref sig .tc .vmem S35x16x256 e} {V : ℕ → Vec F S1x16x256 e} : CN d M V 35 ⊢ CE d M := by
  unfold CE CN
  iintro ⟨H, -⟩
  iapply (fam_mono (Φ := fun c => cPc d M c (V c)) (fun c _ _ => by iintro H; iexists V c; iexact H))
  iexact H
theorem wn_start {e : EltTy} {M : Memref sig .tc .vmem S1x16x8960 e} (V : ℕ → Vec F S1x16x256 e) : LE d M ⊢ WN d M V 0 := by
  unfold LE WN; rw [fam_empty (fun c => lPc d M c (V c)) (Nat.le_refl 0)]
  iintro H; isplitr; · iempintro
  iexact H

theorem nx_rs {b : ℕ} (hb : b < 22) : NX d gX eX (35 * b) (35 * b + 35) ⊢ RS d gX eX (35 * b) (35 * b + 35) := by
  unfold NX RS
  refine fam_mono fun n h h' => ?_
  iintro ⟨%v, H, %hv⟩
  rw [hv (by omega)]; iexact H
theorem pn_cp {b : ℕ} (hb : b < 22) : PN d gX eX qX sX (35 * b) 35 ⊢ CP1 d gX eX qX sX b := by
  unfold PN CP1 CN
  iintro ⟨H, H'⟩
  isplitl [H]
  · iapply (fam_mono (Φ := fun c => iprop(∃ v, cPc d p1M c v ∗ ⌜35 * b + c < 770 → v = P1 gX eX qX sX (35 * b + c)⌝)) (fun n h h' => by
      iintro ⟨%v, H, %hv⟩
      rw [hv (by omega)]; iexact H))
    iexact H
  iexact H'
theorem pn_start (N : ℕ) : CE d p1M ⊢ PN d gX eX qX sX N 0 := by
  unfold CE PN; rw [fam_empty (fun c => iprop(∃ v, cPc d p1M c v ∗ ⌜N + c < 770 → v = P1 gX eX qX sX (N + c)⌝)) (Nat.le_refl 0)]
  iintro H; isplitr; · iempintro
  iexact H

theorem qblk_at {b : ℕ} {o : Fin 3 → ℕ} {inb} (h : o = ![min b 21, 0, 0]) :
    (fun x => qX ((Rect.unit (s := S22x16x1536) o S1x16x1536.size inb).emb x)) = qblk qX b := by subst h; rfl

variable (d gX eX qX sX) in
/-- Batch `b` resident with its first product, the batch after it on its way. -/
def ST (b : ℕ) : sProp 𝕄 :=
  iprop(RS d gX eX (35 * b) (35 * b + 35) ∗ CP1 d gX eX qX sX b ∗ HS d gX eX qX sX b 0 0 ∗ SF d (xs b 0 0) 6 ∗ (∃ v, bqPc d v) ∗ OW (d : Thread nD τ))

variable (d gX eX qX sX) in
/-- Nothing begun. -/
def S0 : sProp 𝕄 :=
  iprop((∃ v, bqPc d v) ∗ SA d gX eX 0 0 0 70 ∗ CE d p1M ∗ OS d (EV gX eX qX sX) 0 0 ∗ OW (d : Thread nD τ))

variable (d gX eX qX sX) in
/-- Everything written. -/
def SZ : sProp 𝕄 :=
  iprop(GI d gX (35 * 22) 0 0 ∗ EI d eX (35 * 22) 0 0 ∗ SF d 0 6 ∗ OS d (EV gX eX qX sX) 770 770 ∗ MF d 770 840 ∗ CE d p1M ∗ (∃ v, bqPc d v) ∗ OW (d : Thread nD τ))

variable (d gX eX qX sX) in
/-- What stands between the points, before point `t`. -/
def ENT (t : ℕ) : sProp 𝕄 := if t = 0 then S0 d gX eX qX sX else if t < 22 then ST d gX eX qX sX t else SZ d gX eX qX sX

variable (d qX sX) in
/-- The two windows that are read. -/
def IN (a3 : Memref sig .tc .vmem S22x16x1536 .i8) (a4 : Memref sig .tc .vmem S16x22 .f32) : sProp 𝕄 :=
  iprop(owns (d : Thread nD τ) a3 fullShare qX ∗ wPc (d := d) a4 sX)

variable (gX eX qX sX) in
/-- What the first part returns. -/
def r28 (b : ℕ) : (Σ' (arg0 : BitVec 32) (v0 : BitVec 32) (v1 : BitVec 32) (v6 : BitVec 1) (v7 : BitVec 32) (v11 : FVec F S16x16 .f32) (v12 : IVec S16x128 32) (v13 : IVec S16x128 32) (v16 : FVec F S16x128 .f32) (v19 : FVec F S16x128 .f32) (v22 : FVec F S16x128 .f32) (v25 : FVec F S16x128 .f32) (v28 : FVec F S16x128 .f32) (v31 : FVec F S16x128 .f32) (v34 : FVec F S16x128 .f32) (v37 : FVec F S16x128 .f32), FVec F S16x128 .f32) :=
  ⟨BitVec.ofNat 32 b, Scalar.remsi (BitVec.ofNat 32 b) 2#32, Scalar.subi 1#32 (Scalar.remsi (BitVec.ofNat 32 b) 2#32),
    Scalar.cmpi .slt (Scalar.addi (BitVec.ofNat 32 b) 1#32) 22#32, Scalar.minsi (Scalar.addi (BitVec.ofNat 32 b) 1#32) 21#32,
    G1 gX eX qX sX b, iota .tc S16x128 32 [0] iota_S16x128_d0_w32, iota .tc S16x128 32 [1] iota_S16x128_d1_w32,
    k0_pay31 (G1 gX eX qX sX b), k0_pay32 (G1 gX eX qX sX b), k0_pay33 (G1 gX eX qX sX b), k0_pay34 (G1 gX eX qX sX b), k0_pay35 (G1 gX eX qX sX b),
    k0_pay36 (G1 gX eX qX sX b), k0_pay37 (G1 gX eX qX sX b), k0_pay38 (G1 gX eX qX sX b), k0_pay39 (G1 gX eX qX sX b)⟩

/-- The rest of the first part, once the batch is resident. -/
theorem part28_tail {i : grid0.Coords} {b : ℕ} {β : Type} {Q : β → sProp 𝕄} {kk : FVec F S16x16 .f32 → Prog (TpuEff nD τ sig (Elt F) Λ₀ .tc) β} :
    iprop(CP1 d gX eX qX sX b ∗ LE d a6)
      ⊢ iprop((iprop(CP1 d gX eX qX sX b ∗ WN d a6 (fun c => k0_pay28 (P1 gX eX qX sX (35 * b + c))) 35) -∗ WP d (kk (G1 gX eX qX sX b)) Q)
        -∗ WP d (Scf.Loop.for k0_t2_loop k0_t2_ok ⟨⟩ (k0_t2_body i gM hg eM he a3 h3 a4 h4 oM ho a6 h6 a7 h7 a8 h8 a9 h9 a10 h10 mM hm stM hst bqM hbq p1M hp1 pbM hpb poM hpo pcM hpc cc0_scratch7 cc0_scratch8 cc0_scratch9) >>= fun _ =>
          Scf.Loop.for k0_t3_loop k0_t3_ok (k0_pay29 (F := F)) (k0_t3_body i gM hg eM he a3 h3 a4 h4 oM ho a6 h6 a7 h7 a8 h8 a9 h9 a10 h10 mM hm stM hst bqM hbq p1M hp1 pbM hpb poM hpo pcM hpc cc0_scratch7 cc0_scratch8 cc0_scratch9) >>= kk) Q) := by
  iintro ⟨HP, HW⟩ Hk
  ihave HW := (wn_start (fun c => k0_pay28 (P1 gX eX qX sX (35 * b + c)))) $$ HW
  iapply (wp_loop (fun u _ => iprop(CP1 d gX eX qX sX b ∗ WN d a6 (fun c => k0_pay28 (P1 gX eX qX sX (35 * b + c))) u)) 35 t2_trips
    (fun t acc => t2_step hg he ho hm hst hbq hp1 hpb hpo hpc h3 h4 h6 h7 h8 h9 h10 t acc)) $$ [HP HW]
  · isplitl [HP]; · iexact HP
    iexact HW
  iintro %acc ⟨HP, HW⟩
  iapply (wp_loop (fun u acc => iprop(⌜acc = foldN (fun c a => k0_pay30 a (P1 gX eX qX sX (35 * b + c))) k0_pay29 u⌝ ∗ CP1 d gX eX qX sX b)) 35 t3_trips
    (fun t acc => t3_step hg he ho hm hst hbq hp1 hpb hpo hpc h3 h4 h6 h7 h8 h9 h10 t acc)) $$ [HP]
  · isplitr; · ipureintro; rfl
    iexact HP
  iintro %acc ⟨%h, HP⟩
  rw [h]
  iapply Hk
  isplitl [HP]; · iexact HP
  iexact HW

theorem part28_ok {i : grid0.Coords} {b : ℕ} (hi : (i 0).val = b) :
    iprop(IN d qX sX a3 a4 ∗ ENT d gX eX qX sX b ∗ LE d a6)
      ⊢ WP d (k0_part28 i gM hg eM he a3 h3 a4 h4 oM ho a6 h6 a7 h7 a8 h8 a9 h9 a10 h10 mM hm stM hst bqM hbq p1M hp1 pbM hpb poM hpo pcM hpc cc0_scratch7 cc0_scratch8 cc0_scratch9) (fun r => iprop(⌜r = r28 gX eX qX sX b⌝ ∗ IN d qX sX a3 a4 ∗ ST d gX eX qX sX b ∗ WN d a6 (fun c => k0_pay28 (P1 gX eX qX sX (35 * b + c))) 35)) := by
  have hb : b < 22 := hi ▸ off102_eq' i
  simp only [k0_part28_eq_skeleton, k0_part28_skel, Prog.bind_lift, Prog.bind_op, Prog.pure_eq_ret, Prog.bind_ret, Prog.bind_assoc]
  by_cases h1 : k0_cond1 i = 1#1
  · have hb0 : b = 0 := hi ▸ (cond1_iff i).mp h1
    subst hb0
    rw [dif_pos h1]
    unfold ENT IN S0
    rw [if_pos rfl]
    iintro ⟨⟨H3, H4⟩, ⟨HB, HA, HP, HZ, HO⟩, HW⟩
    ihave HP := (pn_start (gX := gX) (eX := eX) (qX := qX) (sX := sX) 0) $$ HP
    iapply (wp_part (part9_ok hg he ho hm hst hbq hp1 hpb hpo hpc h3 h4 h6 h7 h8 h9 h10 h1)) $$ [H3 H4 HB HA HP HO]
    · isplitl [H3]; · iexact H3
      isplitl [H4]; · iexact H4
      isplitl [HB]; · iexact HB
      isplitl [HA]; · iexact HA
      isplitl [HP]; · iexact HP
      iexact HO
    iintro %r ⟨H3, H4, HA, HN, HP, HB, HO⟩
    iapply (sa_e (b := 1) (xg := 6) (x := 5) (hi := 70) (by decide) (by decide) (by decide +kernel) (by decide +kernel) (ecell_eq (by decide +kernel))) $$ HA
    iintro HA
    ihave HP := (pn_cp (b := 0) (by omega)) $$ HP
    ihave HN := (nx_rs (b := 0) (by omega)) $$ HN
    iapply (part28_tail hg he ho hm hst hbq hp1 hpb hpo hpc h3 h4 h6 h7 h8 h9 h10 (b := 0)) $$ [HP HW]
    · isplitl [HP]; · iexact HP
      iexact HW
    iintro ⟨HP, HW⟩
    iapply wp_done
    isplitr; · ipureintro; unfold r28; rw [hi]
    isplitl [H3 H4]
    · isplitl [H3]; · iexact H3
      iexact H4
    isplitr [HW]
    · unfold ST HS H1 SA
      rw [if_pos (by omega)]
      icases HA with ⟨HG, HE, HM, HS⟩
      isplitl [HN]; · iexact HN
      isplitl [HP]; · iexact HP
      isplitl [HG HE HM HZ]
      · isplitl [HG]; · iexact HG
        isplitl [HE]; · iexact HE
        isplitl [HM]; · iexact HM
        iexact HZ
      isplitl [HS]; · iexact HS
      isplitl [HB]
      · unfold BQR; icases HB with ⟨%v, HB, -⟩; iexists v; iexact HB
      iexact HO
    iexact HW
  · have hb0 : b ≠ 0 := fun h => h1 ((cond1_iff i).mpr (hi.trans h))
    rw [dif_neg h1]
    unfold ENT
    rw [if_neg hb0, if_pos hb]
    unfold ST
    iintro ⟨HI, ⟨HR, HP, HS⟩, HW⟩
    iapply (part28_tail hg he ho hm hst hbq hp1 hpb hpo hpc h3 h4 h6 h7 h8 h9 h10 (b := b)) $$ [HP HW]
    · isplitl [HP]; · iexact HP
      iexact HW
    iintro ⟨HP, HW⟩
    iapply wp_done
    isplitr; · ipureintro; unfold r28; rw [hi]
    isplitl [HI]; · iexact HI
    isplitr [HW]
    · isplitl [HR]; · iexact HR
      isplitl [HP]; · iexact HP
      iexact HS
    iexact HW

theorem part43_ok {i : grid0.Coords} {b : ℕ} (hi : (i 0).val = b) {v0 v1 v7 arg0 : BitVec 32} {v6 : BitVec 1} {v825 v827 v830}
    (hv : (v825, v827, v830) = ch1 (G1 gX eX qX sX b)) (h7' : v7 = BitVec.ofNat 32 (min (b + 1) 21)) :
    iprop(IN d qX sX a3 a4 ∗ ST d gX eX qX sX b ∗ CE d poM ∗ CE d pbM)
      ⊢ WP d (k0_part43 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v7 v825 v827 v830)
        (fun r => iprop(⌜r = ⟨QS sX (b + 1), G2 gX eX qX sX b, io, iota .tc S16x128 32 [1] iota_S16x128_d1_w32⟩⌝ ∗ IN d qX sX a3 a4
          ∗ HB d gX eX qX sX b 28 ∗ RS d gX eX (35 * b) (35 * b + 35) ∗ CE d poM ∗ CN d pbM (fun c => PB gX eX qX sX (35 * b + c)) 35)) := by
  have hb : b < 22 := hi ▸ off102_eq' i
  have hq : ∀ sX' : Vec F S16x22 .f32, k0_pay212 v7 sX' = QS sX' (b + 1) := fun _ => by unfold QS; rw [h7']
  simp only [k0_part43_eq_skeleton, k0_part43_skel, Prog.bind_lift, Prog.bind_op, Prog.pure_eq_ret, Prog.bind_ret, Prog.bind_assoc]
  unfold ST IN
  iintro ⟨⟨H3, H4⟩, ⟨HR, HP, HZ, HF, ⟨%v, HB⟩, HO⟩, HPO, HPB⟩
  ihave HPO := (cn_start (fun c => PO gX eX qX sX (35 * b + c))) $$ HPO
  ihave HPB := (cn_start (fun c => PB gX eX qX sX (35 * b + c))) $$ HPB
  iapply (wp_loop (fun u _ => iprop(CP1 d gX eX qX sX b ∗ CN d poM (fun c => PO gX eX qX sX (35 * b + c)) u)) 35 t4_trips
    (fun t acc => t4_step hg he ho hm hst hbq hp1 hpb hpo hpc h3 h4 h6 h7 h8 h9 h10 hv t acc)) $$ [HP HPO]
  · isplitl [HP]; · iexact HP
    iexact HPO
  iintro %acc ⟨HP, HPO⟩
  ihave HP := (cn_end (M := p1M)) $$ HP
  ihave HP := (pn_start (gX := gX) (eX := eX) (qX := qX) (sX := sX) (35 * (b + 1))) $$ HP
  iapply (wp_lds (M := a3)) $$ H3
  iintro H3
  iapply (wp_ld (M := bqM) bqOff_inb rfl) $$ HB
  iintro HB
  iapply (wp_st (M := bqM) bqOff_inb rfl) $$ HB
  iintro HB
  iapply (wp_ld (M := a4) fstOff_inb rfl) $$ H4
  iintro H4
  iapply (wp_loop (fun u acc => T5 d gX eX qX sX b u acc) 7 t5_trips
    (fun t acc => t5_step hg he ho hm hst hbq hp1 hpb hpo hpc h3 h4 h6 h7 h8 h9 h10 hi (fun _ => hq _) t acc)) $$ [HR HP HZ HF HB HO HPO]
  · unfold T5 HB NX BQR
    isplitr; · ipureintro; rfl
    isplitr [HR HPO]
    · isplitl [HZ]; · iexact HZ
      isplitl [HF]; · iexact HF
      isplitr; · rw [fam_empty _ (show 35 * (b + 1) + 2 * 0 ≤ 35 * (b + 1) by omega)]; iempintro
      isplitl [HP]; · iexact HP
      isplitl [HB]
      · iexists k0_pay211 (fun x => qX ((Rect.unit (s := S22x16x1536) (k0_off18 i) S1x16x1536.size (k0_off18_inb i)).emb x))
        isplitl [HB]; · iexact HB
        ipureintro; intro _; exact congrArg k0_pay211 (qblk_at ((k0_off18_eq i).trans (by rw [hi])))
      iexact HO
    isplitl [HR]; · iexact HR
    iexact HPO
  iintro %acc HT
  unfold T5
  icases HT with ⟨%hacc, HH, HR, HPO⟩
  iapply (wp_loop (fun u _ => T6 d gX eX qX sX b u) 7 t6_trips
    (fun t acc => t6_step hg he ho hm hst hbq hp1 hpb hpo hpc h3 h4 h6 h7 h8 h9 h10 hi hacc (fun _ => hq _) t acc)) $$ [HR HH HPB]
  · unfold T6
    isplitl [HH]; · iexact HH
    isplitl [HR]; · iexact HR
    iexact HPB
  iintro %acc' HT
  unfold T6
  icases HT with ⟨HH, HR, HPB⟩
  iapply (wp_loop (fun u acc => iprop(⌜acc = foldN (fun c a => k0_pay219 a (PB gX eX qX sX (35 * b + c))) k0_pay218 u⌝ ∗ CN d pbM (fun c => PB gX eX qX sX (35 * b + c)) 35)) 35 t7_trips
    (fun t acc => t7_step hg he ho hm hst hbq hp1 hpb hpo hpc h3 h4 h6 h7 h8 h9 h10 t acc)) $$ [HPB]
  · isplitr; · ipureintro; rfl
    iexact HPB
  iintro %acc'' ⟨%h'', HPB⟩
  iapply wp_done
  ihave HPO := (cn_end (M := poM)) $$ HPO
  isplitr; · ipureintro; rw [h'', hq]; rfl
  isplitl [H3 H4]
  · isplitl [H3]; · iexact H3
    iexact H4
  isplitl [HH]; · iexact HH
  isplitl [HR]; · iexact HR
  isplitl [HPO]; · iexact HPO
  iexact HPB

theorem part58_ok {i : grid0.Coords} {b : ℕ} {v860} (h860 : v860 = io) {v1633 v1641 v1649 v1651 v1653 v1654}
    (hv : (v1633, v1641, v1649, v1651, v1653, v1654) = C2 gX eX qX sX b) :
    iprop(CN d pbM (fun c => PB gX eX qX sX (35 * b + c)) 35 ∗ CE d pcM ∗ LE d a7)
      ⊢ WP d (k0_part58 i gM hg eM he a3 h3 a4 h4 oM ho a6 h6 a7 h7 a8 h8 a9 h9 a10 h10 mM hm stM hst bqM hbq p1M hp1 pbM hpb poM hpo pcM hpc cc0_scratch7 cc0_scratch8 cc0_scratch9 v860 v1633 v1641 v1649 v1651 v1653 v1654)
        (fun r => iprop(⌜r = ⟨PSc gX eX qX sX b, k0_pay415, 0#32⟩⌝ ∗ CE d pbM ∗ CN d pcM (fun c => PCF gX eX qX sX (35 * b + c)) 35
          ∗ WN d a7 (fun c => PCI gX eX qX sX (35 * b + c)) 35)) := by
  simp only [k0_part58_eq_skeleton, k0_part58_skel, Prog.bind_lift, Prog.bind_op, Prog.pure_eq_ret, Prog.bind_ret, Prog.bind_assoc]
  iintro ⟨HPB, HPC, HW⟩
  ihave HPC := (cn_start (fun c => PCF gX eX qX sX (35 * b + c))) $$ HPC
  ihave HW := (wn_start (fun c => PCI gX eX qX sX (35 * b + c))) $$ HW
  iapply (wp_loop (fun u acc => iprop(⌜acc = foldN (fun c a => k0_pay410 io (C2 gX eX qX sX b).1 (C2 gX eX qX sX b).2.1 (C2 gX eX qX sX b).2.2.1
    (C2 gX eX qX sX b).2.2.2.1 (C2 gX eX qX sX b).2.2.2.2.1 (C2 gX eX qX sX b).2.2.2.2.2 a (PB gX eX qX sX (35 * b + c))) k0_pay407 u⌝ ∗ C8 d gX eX qX sX b u)) 35 t8_trips
    (fun t acc => t8_step hg he ho hm hst hbq hp1 hpb hpo hpc h3 h4 h6 h7 h8 h9 h10 h860 hv t acc)) $$ [HPB]
  · isplitr; · ipureintro; rfl
    unfold C8 CN
    rw [fam_empty (fun c => cPc d pbM c (PX gX eX qX sX (35 * b + c))) (Nat.le_refl 0)]
    icases HPB with ⟨HPB, -⟩
    isplitr; · iempintro
    iexact HPB
  iintro %acc ⟨%hacc, HC⟩
  have e : C8 d gX eX qX sX b 35 ⊢ CN d pbM (fun c => PX gX eX qX sX (35 * b + c)) 35 := by
    unfold C8 CN
    rw [fam_empty (fun c => cPc d pbM c (PB gX eX qX sX (35 * b + c))) (Nat.le_refl 35), fam_empty (fun c => iprop(∃ v, cPc d pbM c v)) (Nat.le_refl 35)]
  ihave HC := e $$ HC
  iapply (wp_loop (fun u _ => iprop(CN d pbM (fun c => PX gX eX qX sX (35 * b + c)) 35 ∗ CN d pcM (fun c => PCF gX eX qX sX (35 * b + c)) u ∗ WN d a7 (fun c => PCI gX eX qX sX (35 * b + c)) u)) 35 t9_trips
    (fun t acc => t9_step hg he ho hm hst hbq hp1 hpb hpo hpc h3 h4 h6 h7 h8 h9 h10 hacc t acc)) $$ [HC HPC HW]
  · isplitl [HC]; · iexact HC
    isplitl [HPC]; · iexact HPC
    iexact HW
  iintro %acc' ⟨HC, HPC, HW⟩
  iapply wp_done
  ihave HC := (cn_end (M := pbM)) $$ HC
  isplitr; · ipureintro; rw [hacc]; rfl
  isplitl [HC]; · iexact HC
  isplitl [HPC]; · iexact HPC
  iexact HW

abbrev qncOff_inb : ∀ a, (![0, 0, 0] : Fin 3 → ℕ) a + S1x16x1536.size a ≤ S1x16x1536.size a := by decide
abbrev nPc (M : Memref sig .tc .vmem S1x16x1536 .i8) (v : Vec F S1x16x1536 .i8) : sProp 𝕄 := owns (d : Thread nD τ) (pc M ![0, 0, 0] S1x16x1536.size qncOff_inb) fullShare v

theorem cond22_iff : ∀ i : grid0.Coords, Scalar.cmpi .ne (Scalar.extui (Scalar.cmpi .eq (BitVec.ofNat 32 (i 0).val) 0#32)) 0#32 = 1#1 ↔ (i 0).val = 0 := by decide +kernel

theorem part59_ok {i : grid0.Coords} {b : ℕ} (hi : (i 0).val = b) {v0 v1 arg0 c : BitVec 32} {v6 : BitVec 1} {v851 v1693 v1695} (h0 : arg0 = BitVec.ofNat 32 b)
    (hq : v851 = QS sX (b + 1)) (hS : v1693 = PSc gX eX qX sX b) (h1695 : v1695 = k0_pay415) :
    iprop(HB d gX eX qX sX b 28 ∗ RS d gX eX (35 * b) (35 * b + 35) ∗ CN d pcM (fun c => PCF gX eX qX sX (35 * b + c)) 35 ∗ (∃ v, nPc (d := d) a9 v)
        ∗ (∃ v, wPc (d := d) a8 v ∗ ⌜0 < b → v = PSO gX eX qX sX b⌝) ∗ (∃ v, wPc (d := d) a10 v ∗ ⌜0 < b → v = QNO gX eX qX sX b⌝))
      ⊢ WP d (k0_part59 i gM hg eM he a3 h3 a4 h4 oM ho a6 h6 a7 h7 a8 h8 a9 h9 a10 h10 mM hm stM hst bqM hbq p1M hp1 pbM hpb poM hpo pcM hpc cc0_scratch7 cc0_scratch8 cc0_scratch9 arg0 v0 v1 v6 v851 v1693 v1695 c)
        (fun r => iprop(⌜r = ⟨QNS gX eX qX sX b, QNF gX eX qX sX b, k0_pay424 (BitVec.ofNat 32 b)⟩⌝ ∗ HB d gX eX qX sX b 35 ∗ RS d gX eX (35 * b) (35 * b + 35)
          ∗ CN d pcM (fun c => PCF gX eX qX sX (35 * b + c)) 35 ∗ nPc (d := d) a9 (QNC gX eX qX sX b) ∗ wPc (d := d) a8 (PSO gX eX qX sX (b + 1))
          ∗ wPc (d := d) a10 (QNO gX eX qX sX b))) := by
  have hb : b < 22 := hi ▸ off102_eq' i
  simp only [k0_part59_eq_skeleton, k0_part59_skel, Prog.bind_lift, Prog.bind_op, Prog.pure_eq_ret, Prog.bind_ret, Prog.bind_assoc]
  iintro ⟨HH, HR, HPC, ⟨%u9, H9⟩, ⟨%u8, H8, %e8⟩, ⟨%u10, H10, %e10⟩⟩
  iapply (wp_loop (fun u acc => T10 d gX eX qX sX b u acc) 7 t10_trips
    (fun t acc => t10_step hg he ho hm hst hbq hp1 hpb hpo hpc h3 h4 h6 h7 h8 h9 h10 hi (fun _ => hq) t acc)) $$ [HH HR HPC]
  · unfold T10
    isplitr; · ipureintro; rw [h1695]; rfl
    isplitl [HH]; · iexact HH
    isplitl [HR]; · iexact HR
    iexact HPC
  iintro %acc HT
  unfold T10
  icases HT with ⟨%hacc, HH, HR, HPC⟩
  have hQN : acc = QN gX eX qX sX b := hacc
  subst hS hQN
  iapply (wp_ld (M := a9) qncOff_inb rfl) $$ H9
  iintro H9
  iapply (wp_st (M := a9) qncOff_inb rfl) $$ H9
  iintro H9
  subst h0
  by_cases hz : b = 0
  · have h22 := (cond22_iff i).mpr (hi.trans hz)
    rw [hi] at h22
    simp only [dif_pos h22]
    iapply (wp_ld (M := a8) fstOff_inb rfl) $$ H8
    iintro H8
    iapply (wp_st (M := a8) fstOff_inb rfl) $$ H8
    iintro H8
    iapply (wp_ld (M := a10) fstOff_inb rfl) $$ H10
    iintro H10
    iapply (wp_st (M := a10) fstOff_inb rfl) $$ H10
    iintro H10
    iapply (wp_ld (M := a8) fstOff_inb rfl) $$ H8
    iintro H8
    iapply (wp_ld (M := a8) fstOff_inb rfl) $$ H8
    iintro H8
    iapply (wp_st (M := a8) fstOff_inb rfl) $$ H8
    iintro H8
    iapply wp_done
    subst hz
    isplitr; · ipureintro; rfl
    isplitl [HH]; · iexact HH
    isplitl [HR]; · iexact HR
    isplitl [HPC]; · iexact HPC
    isplitl [H9]; · iexact H9
    isplitl [H8]; · iexact H8
    iexact H10
  · have h22 := mt (cond22_iff i).mp (fun h => hz (hi.symm.trans h))
    rw [hi] at h22
    simp only [dif_neg h22]
    obtain rfl := e8 (by omega)
    obtain rfl := e10 (by omega)
    iapply (wp_ld (M := a8) fstOff_inb rfl) $$ H8
    iintro H8
    iapply (wp_ld (M := a8) fstOff_inb rfl) $$ H8
    iintro H8
    iapply (wp_st (M := a8) fstOff_inb rfl) $$ H8
    iintro H8
    iapply wp_done
    isplitr; · ipureintro; rfl
    isplitl [HH]; · iexact HH
    isplitl [HR]; · iexact HR
    isplitl [HPC]; · iexact HPC
    isplitl [H9]; · iexact H9
    isplitl [H8]; · iexact H8
    iexact H10

end Parts

end Cert.KernelIdeal.Hand
-- ==== Proof.KernelIdealLoop10.lean ====
/-
  The body of the kernel at one point, whole.
-/
module

public import proofs.«01_k».proof.Proof.KernelIdealLoop9

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body
variable {d : Dev nD}
variable {gX eX : Vec F S22x8960x1536 .bf16} {qX : Vec F S22x16x1536 .i8} {sX : Vec F S16x22 .f32}
variable (hg : gM.IsWhole) (he : eM.IsWhole) (ho : oM.IsWhole) (hm : mM.IsWhole) (hst : stM.IsWhole) (hbq : bqM.IsWhole) (hp1 : p1M.IsWhole) (hpb : pbM.IsWhole)
  (hpo : poM.IsWhole) (hpc : pcM.IsWhole) {a3 : Memref sig .tc .vmem S22x16x1536 .i8} (h3 : a3.IsWhole) {a4 : Memref sig .tc .vmem S16x22 .f32} (h4 : a4.IsWhole)
  {a6 : Memref sig .tc .vmem S1x16x8960 .f32} (h6 : a6.IsWhole) {a7 : Memref sig .tc .vmem S1x16x8960 .i8} (h7 : a7.IsWhole)
  {a8 : Memref sig .tc .vmem S16x22 .f32} (h8 : a8.IsWhole) {a9 : Memref sig .tc .vmem S1x16x1536 .i8} (h9 : a9.IsWhole)
  {a10 : Memref sig .tc .vmem S16x22 .f32} (h10 : a10.IsWhole)

variable (d gX eX qX sX) in
/-- The batch after: its blocks summed, its product taken (past the last batch: whatever they hold). -/
def NB1 (b : ℕ) : sProp 𝕄 :=
  iprop(NX d gX eX (35 * (b + 1)) (35 * (b + 1) + 35) ∗ PN d gX eX qX sX (35 * (b + 1)) 35 ∗ BQR d qX (b + 1))

theorem MF_of_eq {a b : ℕ} (h : b ≤ a) : ⊢ MF (F := F) d a b := by
  unfold MF; rw [fam_empty _ h]; exact .rfl

/-- After the batch's products the write-back begins. -/
theorem back_begin {b : ℕ} (hb : b < 22) :
    iprop(HB d gX eX qX sX b 35 ∗ RS d gX eX (35 * b) (35 * b + 35) ∗ CN d pcM (fun c => PCF gX eX qX sX (35 * b + c)) 35)
      ⊢ iprop(T11 d gX eX qX sX b 0 ∗ NB1 d gX eX qX sX b) := by
  have hS : iprop(HS d gX eX qX sX b 35 35 ∗ SF d (xs b 35 0) (35 + 6) ∗ OW (d : Thread nD τ)) ⊢ S11 d gX eX qX sX b (xo b 0) (0 - 1) := by
    have hx : xo b 0 = 0 := by unfold xo; split <;> rfl
    have hxs : xs b 35 0 = 35 := by unfold xs; split <;> rfl
    rw [hx, hxs, show 35 + 6 = 41 from rfl, SF_rot]
    unfold HS S11
    by_cases h : b < 21
    · rw [if_pos h, show min (b + 2) 22 = b + 1 + 1 by omega, show min (35 + 6) 35 = 35 by omega]
      unfold H1
      have hw : wo b 35 = 35 * b + 0 := by unfold wo; split <;> omega
      rw [hw]
      iintro ⟨⟨HG, HE, -, HZ⟩, HF, HO⟩
      isplitl [HG]; · iapply (GI_rot (gX := gX) (b + 1)); iexact HG
      isplitl [HE]; · iapply (EI_rot (eX := eX) (b + 1)); iexact HE
      isplitl [HF]; · iexact HF
      isplitl [HZ]; · iexact HZ
      iexact HO
    · obtain rfl : b = 21 := by omega
      rw [if_neg h]
      unfold H2
      iintro ⟨⟨HG, HE, HZ⟩, HF, HO⟩
      isplitl [HG]; · iexact HG
      isplitl [HE]; · iexact HE
      isplitl [HF]; · iexact HF
      isplitl [HZ]; · iexact HZ
      iexact HO
  unfold HB T11 NB1
  rw [fam_empty _ (show 35 * b + 0 ≤ 35 * b + (0 - 1) by omega)]
  iintro ⟨⟨HZ, HF, HN, HP, HB, HO⟩, HR, HPC⟩
  ihave HS := hS $$ [HZ HF HO]
  · isplitl [HZ]; · iexact HZ
    isplitl [HF]; · iexact HF
    iexact HO
  isplitl [HR HPC HS]
  · isplitl [HR]; · iexact HR
    isplitr; · iempintro
    isplitl [HPC]; · iexact HPC
    iexact HS
  isplitl [HN]; · iexact HN
  isplitl [HP]; · iexact HP
  iexact HB

/-- A batch written back but for its flights: the next batch is resident. -/
theorem next_ready {b : ℕ} (hb : b < 21) :
    iprop(S11 d gX eX qX sX b (xo b 35) 35 ∗ NB1 d gX eX qX sX b) ⊢ ST d gX eX qX sX (b + 1) := by
  unfold S11 NB1 ST BQR
  iintro ⟨⟨HG, HE, HF, HZ, HO⟩, HN, HP, ⟨%v, HB, -⟩⟩
  ihave HN := (nx_rs (by omega)) $$ HN
  ihave HP := (pn_cp (by omega)) $$ HP
  isplitl [HN]; · iexact HN
  isplitl [HP]; · iexact HP
  by_cases h : b < 20
  · have hx : xo b 35 = 6 := by unfold xo; rw [if_pos h]; rfl
    have hxs : xs (b + 1) 0 0 = 6 := by unfold xs; rw [if_pos (by omega)]; rfl
    unfold HS
    rw [hxs, if_pos (show b + 1 < 21 by omega), hx, show min (b + 2) 22 = b + 1 + 1 by omega, show min (0 + 6) 35 = 6 by omega]
    unfold H1
    have hw : wo (b + 1) 6 = 35 * b + 6 := by unfold wo; rw [if_neg (by omega)]; omega
    rw [hw, show 35 * b + 35 = 35 * (b + 1) by omega]
    ihave HM := (MF_of_eq (d := d) (a := 35 * (b + 1 + 1) + 6) (b := 35 * b + 6 + 70) (by omega))
    isplitl [HG HE HM HZ]
    · isplitl [HG]; · iexact HG
      isplitl [HE]; · iexact HE
      isplitl [HM]; · iexact HM
      iexact HZ
    isplitl [HF]; · iexact HF
    isplitl [HB]; · iexists v; iexact HB
    iexact HO
  · obtain rfl : b = 20 := by omega
    have hx : xo 20 35 = 0 := rfl
    have hxs : xs (20 + 1) 0 0 = 0 := rfl
    unfold HS
    rw [hxs, if_neg (show ¬ 20 + 1 < 21 by omega), hx]
    unfold H2
    isplitl [HG HE HZ]
    · isplitl [HG]; · iexact HG
      isplitl [HE]; · iexact HE
      iexact HZ
    isplitl [HF]; · iexact HF
    isplitl [HB]; · iexists v; iexact HB
    iexact HO

variable (d gX eX qX sX) in
def FW (j : ℕ) : sProp 𝕄 := iprop(OS d (EV gX eX qX sX) (735 + j) 770 ∗ MF d 805 (805 + j) ∗ OW (d : Thread nD τ))

/-- One of the last waits. -/
theorem last_out {α : Type} {Q : α → sProp 𝕄} {j : ℕ} {sem : DmaSem sig} {sp' : Space} {s' : Shape} {e' : EltTy} {offw : Fin 3 → ℕ} {inbw zw}
    {srcw : Memref sig .tc sp' s' e'} {hsrc : srcw.view.WordExact} {hdst}
    {k : PUnit → Prog (TpuEff nD τ sig (Elt F) Λ₀ .tc) α} {G : sProp 𝕄} (hj : j < 35) (hs : sem = ocell j)
    (h : iprop(FW d gX eX qX sX (j + 1) ∗ G) ⊢ WP d (k ⟨⟩) Q) :
    iprop(FW d gX eX qX sX j ∗ G) ⊢ WP d (.op (.waitDma2 sem srcw ((pc oM offw S1x256x1536.size inbw).squeeze S256x1536 zw) hsrc hdst) k) Q := by
  iintro ⟨H, HG⟩
  unfold FW
  icases H with ⟨HZ, HM, HO⟩
  iapply (o_wait (EV := EV gX eX qX sX) (w := 735 + j) (a := 770) (lo := 805) (by omega) (by omega) (by omega) (hs.trans (ocell_mod (by omega)))) $$ [HZ HM HO]
  · isplitl [HZ]; · iexact HZ
    isplitl [HM]
    · rw [show 735 + j + 70 = 805 + j by omega]; iexact HM
    iexact HO
  iintro ⟨HZ, HM, HO⟩
  iapply h
  isplitr [HG]
  · unfold FW
    isplitl [HZ]; · iexact HZ
    isplitl [HM]
    · rw [show 805 + (j + 1) = 735 + j + 1 + 70 by omega]; iexact HM
    iexact HO
  iexact HG

theorem all_out : iprop(FW d gX eX qX sX 35 ∗ GI d gX (35 * 22) 0 0 ∗ EI d eX (35 * 22) 0 0 ∗ SF d 0 6 ∗ NB1 d gX eX qX sX 21) ⊢ SZ d gX eX qX sX := by
  unfold FW NB1 SZ
  have e : iprop(NX d gX eX (35 * (21 + 1)) (35 * (21 + 1) + 35) ∗ MF d 805 (805 + 35)) ⊢ MF d 770 840 := by
    unfold MF NX
    rw [fam_split (fun n => iprop(∃ v, mPc d n v)) (show 770 ≤ 805 by omega) (show 805 ≤ 840 by omega)]
    iintro ⟨HN, HM⟩
    isplitl [HN]
    · iapply (fam_mono (Φ := fun n => iprop(∃ v, mPc d n v ∗ ⌜n < 770 → v = sumV gX eX n⌝)) (fun n _ _ => by
        iintro ⟨%v, H, -⟩; iexists v; iexact H))
      iexact HN
    iexact HM
  iintro ⟨⟨HZ, HM, HO⟩, HG, HE, HF, HN, HP, HB⟩
  ihave HM := e $$ [HN HM]
  · isplitl [HN]; · iexact HN
    iexact HM
  unfold BQR PN CE
  icases HB with ⟨%v, HB, -⟩
  icases HP with ⟨HP, -⟩
  isplitl [HG]; · iexact HG
  isplitl [HE]; · iexact HE
  isplitl [HF]; · iexact HF
  isplitl [HZ]; · iexact HZ
  isplitl [HM]; · iexact HM
  isplitl [HP]
  · iapply (fam_mono (Φ := fun c => iprop(∃ v, cPc d p1M c v ∗ ⌜35 * (21 + 1) + c < 770 → v = P1 gX eX qX sX (35 * (21 + 1) + c)⌝)) (fun n _ _ => by
      iintro ⟨%v, H, -⟩; iexists v; iexact H))
    iexact HP
  isplitl [HB]; · iexists v; iexact HB
  iexact HO

variable (d gX eX qX sX) in
/-- What the body finds, and what it leaves. -/
def PRE (b : ℕ) (a3 : Memref sig .tc .vmem S22x16x1536 .i8) (a4 : Memref sig .tc .vmem S16x22 .f32) (a6 : Memref sig .tc .vmem S1x16x8960 .f32) (a7 : Memref sig .tc .vmem S1x16x8960 .i8)
    (a8 : Memref sig .tc .vmem S16x22 .f32) (a9 : Memref sig .tc .vmem S1x16x1536 .i8) (a10 : Memref sig .tc .vmem S16x22 .f32) : sProp 𝕄 :=
  iprop(IN d qX sX a3 a4 ∗ ENT d gX eX qX sX b ∗ CE d poM ∗ CE d pbM ∗ CE d pcM ∗ LE d a6 ∗ LE d a7 ∗ (∃ v, nPc (d := d) a9 v)
        ∗ (∃ v, wPc (d := d) a8 v ∗ ⌜0 < b → v = PSO gX eX qX sX b⌝) ∗ (∃ v, wPc (d := d) a10 v ∗ ⌜0 < b → v = QNO gX eX qX sX b⌝))
variable (d gX eX qX sX) in
def POST (b : ℕ) (a3 : Memref sig .tc .vmem S22x16x1536 .i8) (a4 : Memref sig .tc .vmem S16x22 .f32) (a6 : Memref sig .tc .vmem S1x16x8960 .f32) (a7 : Memref sig .tc .vmem S1x16x8960 .i8)
    (a8 : Memref sig .tc .vmem S16x22 .f32) (a9 : Memref sig .tc .vmem S1x16x1536 .i8) (a10 : Memref sig .tc .vmem S16x22 .f32) : sProp 𝕄 :=
  iprop(IN d qX sX a3 a4 ∗ ENT d gX eX qX sX (b + 1) ∗ CE d poM ∗ CE d pbM ∗ CE d pcM ∗ WN d a6 (fun c => k0_pay28 (P1 gX eX qX sX (35 * b + c))) 35
    ∗ WN d a7 (fun c => PCI gX eX qX sX (35 * b + c)) 35 ∗ nPc (d := d) a9 (QNC gX eX qX sX b) ∗ wPc (d := d) a8 (PSO gX eX qX sX (b + 1)) ∗ wPc (d := d) a10 (QNO gX eX qX sX (b + 1)))

variable (d gX eX qX sX) in
/-- What the body has when only the last block's transfer has not begun. -/
def MID (b : ℕ) (a3 : Memref sig .tc .vmem S22x16x1536 .i8) (a4 : Memref sig .tc .vmem S16x22 .f32) (a6 : Memref sig .tc .vmem S1x16x8960 .f32) (a7 : Memref sig .tc .vmem S1x16x8960 .i8)
    (a8 : Memref sig .tc .vmem S16x22 .f32) (a9 : Memref sig .tc .vmem S1x16x1536 .i8) (a10 : Memref sig .tc .vmem S16x22 .f32) : sProp 𝕄 :=
  iprop((IN d qX sX a3 a4 ∗ CE d poM ∗ CE d pbM ∗ CE d pcM ∗ WN d a6 (fun c => k0_pay28 (P1 gX eX qX sX (35 * b + c))) 35
    ∗ WN d a7 (fun c => PCI gX eX qX sX (35 * b + c)) 35 ∗ nPc (d := d) a9 (QNC gX eX qX sX b) ∗ wPc (d := d) a8 (PSO gX eX qX sX (b + 1)) ∗ wPc (d := d) a10 (QNO gX eX qX sX (b + 1)))
    ∗ fam (fun n => mPc d n (EV gX eX qX sX n)) (35 * b + 34) (35 * b + 34 + 1) ∗ S11 d gX eX qX sX b (xo b 35) 34 ∗ NB1 d gX eX qX sX b)

theorem v7_eq : ∀ b : Fin 22, Scalar.minsi (Scalar.addi (BitVec.ofNat 32 b.val) 1#32) 21#32 = BitVec.ofNat 32 (min (b.val + 1) 21) := by decide +kernel

theorem part60_ok {i : grid0.Coords} {b : ℕ} (hi : (i 0).val = b) :
    PRE d gX eX qX sX b a3 a4 a6 a7 a8 a9 a10 ⊢ WP d (k0_part60 i gM hg eM he a3 h3 a4 h4 oM ho a6 h6 a7 h7 a8 h8 a9 h9 a10 h10 mM hm stM hst bqM hbq p1M hp1 pbM hpb poM hpo pcM hpc cc0_scratch7 cc0_scratch8 cc0_scratch9) (fun _ => MID d gX eX qX sX b a3 a4 a6 a7 a8 a9 a10) := by
  have hb : b < 22 := hi ▸ off102_eq' i
  rw [k0_part60_eq_skeleton]
  unfold k0_part60_skel PRE
  iintro ⟨HI, HT, HPO, HPB, HPC, H6, H7, H9, H8, H10⟩
  iapply (wp_part (part28_ok hg he ho hm hst hbq hp1 hpb hpo hpc h3 h4 h6 h7 h8 h9 h10 hi)) $$ [HI HT H6]
  · isplitl [HI]; · iexact HI
    isplitl [HT]; · iexact HT
    iexact H6
  iintro %r ⟨%hr, HI, HT, H6⟩
  subst hr
  simp only [r28, k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel, k0_part40_eq_skeleton, k0_part40_skel,
    k0_part41_eq_skeleton, k0_part41_skel, k0_part42_eq_skeleton, k0_part42_skel, Prog.pure_eq_ret, Prog.bind_ret]
  iapply (wp_part (part43_ok (gX := gX) (eX := eX) (qX := qX) (sX := sX) hg he ho hm hst hbq hp1 hpb hpo hpc h3 h4 h6 h7 h8 h9 h10 hi rfl (v7_eq ⟨b, hb⟩))) $$ [HI HT HPO HPB]
  · isplitl [HI]; · iexact HI
    isplitl [HT]; · iexact HT
    isplitl [HPO]; · iexact HPO
    iexact HPB
  iintro %r ⟨%hr, HI, HH, HR, HPO, HPB⟩
  subst hr
  simp only [k0_part44_eq_skeleton, k0_part44_skel, k0_part45_eq_skeleton, k0_part45_skel, k0_part46_eq_skeleton, k0_part46_skel, k0_part47_eq_skeleton, k0_part47_skel,
    k0_part48_eq_skeleton, k0_part48_skel, k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel, k0_part55_eq_skeleton, k0_part55_skel,
    k0_part56_eq_skeleton, k0_part56_skel, k0_part57_eq_skeleton, k0_part57_skel, Prog.pure_eq_ret, Prog.bind_ret]
  iapply (wp_part (part58_ok (gX := gX) (eX := eX) (qX := qX) (sX := sX) (b := b) hg he ho hm hst hbq hp1 hpb hpo hpc h3 h4 h6 h7 h8 h9 h10 rfl rfl)) $$ [HPB HPC H7]
  · isplitl [HPB]; · iexact HPB
    isplitl [HPC]; · iexact HPC
    iexact H7
  iintro %r ⟨%hr, HPB, HPC, H7⟩
  subst hr
  simp only []
  iapply (wp_part (part59_ok hg he ho hm hst hbq hp1 hpb hpo hpc h3 h4 h6 h7 h8 h9 h10 hi rfl rfl rfl rfl)) $$ [HH HR HPC H9 H8 H10]
  · isplitl [HH]; · iexact HH
    isplitl [HR]; · iexact HR
    isplitl [HPC]; · iexact HPC
    isplitl [H9]; · iexact H9
    isplitl [H8]; · iexact H8
    iexact H10
  iintro %r ⟨%hr, HH, HR, HPC, H9, H8, H10⟩
  subst hr
  simp only [Prog.bind_lift, Prog.bind_op, Prog.pure_eq_ret, Prog.bind_ret]
  iapply (wp_ld (M := a10) fstOff_inb rfl) $$ H10
  iintro H10
  iapply (wp_ld (M := a10) fstOff_inb rfl) $$ H10
  iintro H10
  iapply (wp_st (M := a10) fstOff_inb rfl) $$ H10
  iintro H10
  icases (back_begin hb) $$ [HH HR HPC] with ⟨HT, HN⟩
  · isplitl [HH]; · iexact HH
    isplitl [HR]; · iexact HR
    iexact HPC
  iapply (wp_loop (fun u _ => T11 d gX eX qX sX b u) 35 t11_trips
    (fun t acc => t11_step hg he ho hm hst hbq hp1 hpb hpo hpc h3 h4 h6 h7 h8 h9 h10 hi rfl rfl rfl t acc)) $$ HT
  iintro %acc HT
  iapply wp_done
  unfold T11 MID
  icases HT with ⟨-, HM, HPC, HS⟩
  ihave HPC := (cn_end (M := pcM)) $$ HPC
  isplitr [HM HS HN]
  · isplitl [HI]; · iexact HI
    isplitl [HPO]; · iexact HPO
    isplitl [HPB]; · iexact HPB
    isplitl [HPC]; · iexact HPC
    isplitl [H6]; · iexact H6
    isplitl [H7]; · iexact H7
    isplitl [H9]; · iexact H9
    isplitl [H8]; · iexact H8
    iexact H10
  isplitl [HM]; · iexact HM
  isplitl [HS]; · iexact HS
  iexact HN

theorem body_ok {i : grid0.Coords} {b : ℕ} (hi : (i 0).val = b) :
    PRE d gX eX qX sX b a3 a4 a6 a7 a8 a9 a10
      ⊢ WP d (cc0_powersgd i gM hg eM he a3 h3 a4 h4 oM ho a6 h6 a7 h7 a8 h8 a9 h9 a10 h10 mM hm stM hst bqM hbq p1M hp1 pbM hpb poM hpo pcM hpc cc0_scratch7 cc0_scratch8 cc0_scratch9) (fun _ => POST d gX eX qX sX b a3 a4 a6 a7 a8 a9 a10) := by
  have hb : b < 22 := hi ▸ off102_eq' i
  rw [cc0_powersgd_eq_skeleton]
  unfold cc0_powersgd_skel
  iintro HI
  iapply (wp_part (part60_ok hg he ho hm hst hbq hp1 hpb hpo hpc h3 h4 h6 h7 h8 h9 h10 hi)) $$ HI
  iintro %r HM
  unfold MID
  icases HM with ⟨HI, HM, HS, HN⟩
  simp only [Prog.bind_lift, Prog.bind_op, Prog.pure_eq_ret, Prog.bind_ret]
  iapply (back_start (b := b) (x := xo b 35) (c := 34) hb (by omega) (by unfold xo; split <;> omega)
    ((k0_off105_eq i).trans (moff_at (by omega) (by rw [hi]) rfl)) ((k0_off104_eq i).trans (ooff_at (by omega) (by rw [hi]; omega) rfl))
    ((ocell_eq (c := 34) rfl).trans (ocell_mod (by omega)))) $$ [HS HM]
  · isplitl [HS]; · iexact HS
    iexact HM
  iintro HS
  have fin : iprop((IN d qX sX a3 a4 ∗ CE d poM ∗ CE d pbM ∗ CE d pcM ∗ WN d a6 (fun c => k0_pay28 (P1 gX eX qX sX (35 * b + c))) 35
    ∗ WN d a7 (fun c => PCI gX eX qX sX (35 * b + c)) 35 ∗ nPc (d := d) a9 (QNC gX eX qX sX b) ∗ wPc (d := d) a8 (PSO gX eX qX sX (b + 1)) ∗ wPc (d := d) a10 (QNO gX eX qX sX (b + 1)))
      ∗ ENT d gX eX qX sX (b + 1)) ⊢ POST d gX eX qX sX b a3 a4 a6 a7 a8 a9 a10 := by
    unfold POST
    iintro ⟨⟨HI, HK⟩, HE⟩
    isplitl [HI]; · iexact HI
    isplitl [HE]; · iexact HE
    iexact HK
  by_cases h25 : k0_cond25 i = 1#1
  · have h := (cond25_iff i).mp h25
    obtain rfl : b = 21 := hi.symm.trans h
    rw [dif_pos h25]
    simp only [k0_part20_eq_skeleton, k0_part20_skel, k0_part21_eq_skeleton, k0_part21_skel, k0_part22_eq_skeleton, k0_part22_skel, k0_part23_eq_skeleton, k0_part23_skel,
      k0_part24_eq_skeleton, k0_part24_skel, k0_part25_eq_skeleton, k0_part25_skel, k0_part26_eq_skeleton, k0_part26_skel, k0_part27_eq_skeleton, k0_part27_skel,
      Prog.bind_lift, Prog.bind_op, Prog.pure_eq_ret, Prog.bind_ret, Prog.bind_assoc]
    have e : iprop((IN d qX sX a3 a4 ∗ CE d poM ∗ CE d pbM ∗ CE d pcM ∗ WN d a6 (fun c => k0_pay28 (P1 gX eX qX sX (35 * 21 + c))) 35
      ∗ WN d a7 (fun c => PCI gX eX qX sX (35 * 21 + c)) 35 ∗ nPc (d := d) a9 (QNC gX eX qX sX 21) ∗ wPc (d := d) a8 (PSO gX eX qX sX (21 + 1)) ∗ wPc (d := d) a10 (QNO gX eX qX sX (21 + 1)))
        ∗ S11 d gX eX qX sX 21 (xo 21 35) (34 + 1) ∗ NB1 d gX eX qX sX 21)
      ⊢ iprop(FW d gX eX qX sX 0 ∗ (IN d qX sX a3 a4 ∗ CE d poM ∗ CE d pbM ∗ CE d pcM ∗ WN d a6 (fun c => k0_pay28 (P1 gX eX qX sX (35 * 21 + c))) 35
        ∗ WN d a7 (fun c => PCI gX eX qX sX (35 * 21 + c)) 35 ∗ nPc (d := d) a9 (QNC gX eX qX sX 21) ∗ wPc (d := d) a8 (PSO gX eX qX sX (21 + 1)) ∗ wPc (d := d) a10 (QNO gX eX qX sX (21 + 1)))
        ∗ GI d gX (35 * 22) 0 0 ∗ EI d eX (35 * 22) 0 0 ∗ SF d 0 6 ∗ NB1 d gX eX qX sX 21) := by
      unfold S11 FW
      rw [show xo 21 35 = 0 from rfl]
      ihave HM := (MF_of_eq (d := d) (a := 805) (b := 805 + 0) (by omega))
      iintro ⟨HI, ⟨HG, HE, HF, HZ, HO⟩, HN⟩
      isplitl [HZ HM HO]
      · isplitl [HZ]; · iexact HZ
        isplitl [HM]; · iexact HM
        iexact HO
      isplitl [HI]; · iexact HI
      isplitl [HG]; · iexact HG
      isplitl [HE]; · iexact HE
      isplitl [HF]; · iexact HF
      iexact HN
    iapply (e.trans ?_) $$ [HI HS HN]
    rotate_left
    · isplitl [HI]; · iexact HI
      isplitl [HS]; · iexact HS
      iexact HN
    iterate 35 refine last_out (by decide) (ocell_eq (by decide)) ?_
    refine BI.BIBase.Entails.trans ?_ (wp_done _)
    iintro ⟨HW, HI, HG, HE, HF, HN⟩
    iapply fin
    isplitl [HI]; · iexact HI
    unfold ENT
    rw [if_neg (by omega), if_neg (by omega)]
    iapply all_out
    isplitl [HW]; · iexact HW
    isplitl [HG]; · iexact HG
    isplitl [HE]; · iexact HE
    isplitl [HF]; · iexact HF
    iexact HN
  · have h : b < 21 := by have := mt (cond25_iff i).mpr h25; omega
    rw [dif_neg h25]
    iapply wp_done
    iapply fin
    isplitl [HI]; · iexact HI
    unfold ENT
    rw [if_neg (by omega), if_pos (by omega)]
    iapply (next_ready h)
    isplitl [HS]; · iexact HS
    iexact HN

end Body

end Cert.KernelIdeal.Hand
-- ==== Proof.KernelIdealSplit.lean ====
/-
  The kernel's buffers, whole and in pieces.
-/
module

public import proofs.«01_k».proof.Proof.KernelIdealLoop10
public import proofs.«01_k».proof.Proof.Pieces

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The tilings -/

theorem tilesO : Tiles S22x8960x1536 770 Ooff S1x256x1536.size Ooff_inb := Tiles.of
  (fun x => by
    have h0 : (x 0).val < 22 := (x 0).isLt
    have h1 : (x 1).val < 8960 := (x 1).isLt
    have h2 : (x 2).val < 1536 := (x 2).isLt
    refine ⟨35 * (x 0).val + (x 1).val / 256, by omega, fun a => ?_⟩
    fin_cases a <;> simp [Ooff] <;> omega)
  (fun k k' hk hk' x h h' => by
    have := h 0; have := h 1; have := h' 0; have := h' 1
    simp [Ooff] at *; omega)

theorem tilesM : Tiles S2x8960x1536 70 Moff S1x256x1536.size Moff_inb := Tiles.of
  (fun x => by
    have h0 : (x 0).val < 2 := (x 0).isLt
    have h1 : (x 1).val < 8960 := (x 1).isLt
    have h2 : (x 2).val < 1536 := (x 2).isLt
    refine ⟨35 * (x 0).val + (x 1).val / 256, by omega, fun a => ?_⟩
    fin_cases a <;> simp [Moff] <;> omega)
  (fun k k' hk hk' x h h' => by
    have := h 0; have := h 1; have := h' 0; have := h' 1
    simp [Moff] at *; omega)

theorem tilesS : Tiles S6x256x1536 6 Soff S1x256x1536.size Soff_inb := Tiles.of
  (fun x => by
    have h0 : (x 0).val < 6 := (x 0).isLt
    have h1 : (x 1).val < 256 := (x 1).isLt
    have h2 : (x 2).val < 1536 := (x 2).isLt
    refine ⟨(x 0).val, by omega, fun a => ?_⟩
    fin_cases a <;> simp [Soff] <;> omega)
  (fun k k' hk hk' x h h' => by
    have := h 0; have := h' 0
    simp [Soff] at *; omega)

theorem tilesC : Tiles S35x16x256 35 Coff S1x16x256.size Coff_inb := Tiles.of
  (fun x => by
    have h0 : (x 0).val < 35 := (x 0).isLt
    have h1 : (x 1).val < 16 := (x 1).isLt
    have h2 : (x 2).val < 256 := (x 2).isLt
    refine ⟨(x 0).val, by omega, fun a => ?_⟩
    fin_cases a <;> simp [Coff] <;> omega)
  (fun k k' hk hk' x h h' => by
    have := h 0; have := h' 0
    simp [Coff] at *; omega)

theorem tilesL : Tiles S1x16x8960 35 Loff S1x16x256.size Loff_inb := Tiles.of
  (fun x => by
    have h0 : (x 0).val < 1 := (x 0).isLt
    have h1 : (x 1).val < 16 := (x 1).isLt
    have h2 : (x 2).val < 8960 := (x 2).isLt
    refine ⟨(x 2).val / 256, by omega, fun a => ?_⟩
    fin_cases a <;> simp [Loff] <;> omega)
  (fun k k' hk hk' x h h' => by
    have := h 2; have := h' 2
    simp [Loff] at *; omega)

/-! ## The buffers at contents that do not matter -/

variable (d : Dev nD)

/-- A family of pieces, each at some contents, from the whole. -/
theorem to_pieces {sp : Space} {s : Shape} {e : EltTy} {n : ℕ} {off : ℕ → Fin s.rank → ℕ} {sz : Fin s.rank → ℕ} {inb : ∀ k a, off k a + sz a ≤ s.size a}
    (h : Tiles s n off sz inb) (M : Memref sig .tc sp s e) :
    (iprop(∃ X, owns (d : Thread nD τ) M fullShare X) : sProp 𝕄) ⊢ fam (fun k => iprop(∃ v, owns (d : Thread nD τ) (pc M (off k) sz (inb k)) fullShare v)) 0 n := by
  have : ∀ e, Nonempty (Elt F e) := elt_nonempty F
  iintro ⟨%X, H⟩
  have e := (owns_split h (d : Thread nD τ) M fullShare X).trans (fam_mono (Ψ := fun k => (iprop(∃ v, owns (d : Thread nD τ) (pc M (off k) sz (inb k)) fullShare v) : sProp 𝕄)) fun k _ _ => by
    iintro H; iexists _; iexact H)
  iapply e $$ H

theorem of_pieces {sp : Space} {s : Shape} {e : EltTy} {n : ℕ} {off : ℕ → Fin s.rank → ℕ} {sz : Fin s.rank → ℕ} {inb : ∀ k a, off k a + sz a ≤ s.size a}
    (h : Tiles s n off sz inb) (M : Memref sig .tc sp s e) :
    fam (fun k => iprop(∃ v, owns (d : Thread nD τ) (pc M (off k) sz (inb k)) fullShare v)) 0 n ⊢ (iprop(∃ X, owns (d : Thread nD τ) M fullShare X) : sProp 𝕄) := by
  have : ∀ e, Nonempty (Elt F e) := elt_nonempty F
  exact owns_join_exists h (d : Thread nD τ) M fullShare

/-! ## The cells -/

/-- The body's own cells: six and six for the two input streams, thirty-five for the output stream. -/
abbrev osem0 : Fin 47 → SemLoc sig := fun j =>
  .dma (if j.val < 6 then gcell j.val else if j.val < 12 then ecell (j.val - 6) else ocell (j.val - 12))
theorem ownSemFacts0 : Pipeline.OwnSemFacts spec0 osem0 := by decide

theorem own_eq : (Pipeline.ownSems0 (Ix := Unit) (Name := ℕ) (U := Pipeline.UD sig nD τ) (Lvl := ℕ) (Val := Elt F) (τ := τ) osem0 d : sProp 𝕄)
    = iprop(fam (gS0 (F := F) d) 0 6 ∗ fam (eS0 (F := F) d) 0 6 ∗ fam (oS0 (F := F) d) 0 35) := by
  unfold Pipeline.ownSems0
  rw [Ring.bigSep_fin_eq_range 47 _ (fun t => semVal ((d : Thread nD τ), .dma (if t < 6 then gcell t else if t < 12 then ecell (t - 6) else ocell (t - 12))) 0) (fun t h => rfl)]
  have e : (bigSep (Finset.range 47) (fun t => semVal ((d : Thread nD τ), .dma (if t < 6 then gcell t else if t < 12 then ecell (t - 6) else ocell (t - 12))) 0) : sProp 𝕄)
      = fam (fun t => semVal ((d : Thread nD τ), .dma (if t < 6 then gcell t else if t < 12 then ecell (t - 6) else ocell (t - 12))) 0) 0 47 := by
    unfold fam; rw [Finset.range_eq_Ico]
  rw [e, fam_split _ (show 0 ≤ 6 by omega) (show 6 ≤ 47 by omega), fam_split _ (show 6 ≤ 12 by omega) (show 12 ≤ 47 by omega)]
  have e₁ : fam (fun t => (semVal ((d : Thread nD τ), .dma (if t < 6 then gcell t else if t < 12 then ecell (t - 6) else ocell (t - 12))) 0 : sProp 𝕄)) 0 6 = fam (gS0 (F := F) d) 0 6 :=
    fam_congr fun i _ h => by rw [if_pos h]
  have e₂ : fam (fun t => (semVal ((d : Thread nD τ), .dma (if t < 6 then gcell t else if t < 12 then ecell (t - 6) else ocell (t - 12))) 0 : sProp 𝕄)) 6 12 = fam (eS0 (F := F) d) 0 6 := by
    rw [show fam _ 6 12 = fam _ (0 + 6) (6 + 6) from rfl, fam_shift]
    exact fam_congr fun i _ h => by rw [if_neg (by omega), if_pos (by omega), Nat.add_sub_cancel]
  have e₃ : fam (fun t => (semVal ((d : Thread nD τ), .dma (if t < 6 then gcell t else if t < 12 then ecell (t - 6) else ocell (t - 12))) 0 : sProp 𝕄)) 12 47 = fam (oS0 (F := F) d) 0 35 := by
    rw [show fam _ 12 47 = fam _ (0 + 12) (35 + 12) from rfl, fam_shift]
    exact fam_congr fun i _ h => by rw [if_neg (by omega), if_neg (by omega), Nat.add_sub_cancel]
  rw [e₁, e₂, e₃]

end Cert.KernelIdeal.Hand
-- ==== Proof.KernelIdealFrame.lean ====
/-
  The kernel's run: what stands between two points of the grid, the body's obligation at every point, and what the run leaves.
-/
module

public import proofs.«01_k».proof.Proof.KernelIdealSplit
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What stands between the points, without what is owed -/

section Between
variable (d : Dev nD) (gX eX : Vec F S22x8960x1536 .bf16) (qX : Vec F S22x16x1536 .i8) (sX : Vec F S16x22 .f32)

def S0F : sProp 𝕄 := iprop((∃ v, bqPc d v) ∗ SA d gX eX 0 0 0 70 ∗ CE d p1M ∗ OS d (EV gX eX qX sX) 0 0)
def STF (b : ℕ) : sProp 𝕄 :=
  iprop(RS d gX eX (35 * b) (35 * b + 35) ∗ CP1 d gX eX qX sX b ∗ HS d gX eX qX sX b 0 0 ∗ SF d (xs b 0 0) 6 ∗ (∃ v, bqPc d v))
def SZF : sProp 𝕄 :=
  iprop(GI d gX (35 * 22) 0 0 ∗ EI d eX (35 * 22) 0 0 ∗ SF d 0 6 ∗ OS d (EV gX eX qX sX) 770 770 ∗ MF d 770 840 ∗ CE d p1M ∗ (∃ v, bqPc d v))
def ENTF (t : ℕ) : sProp 𝕄 := if t = 0 then S0F d gX eX qX sX else if t < 22 then STF d gX eX qX sX t else SZF d gX eX qX sX

theorem ent_in (t : ℕ) : iprop(ENTF d gX eX qX sX t ∗ OW (d : Thread nD τ)) ⊢ ENT d gX eX qX sX t := by
  unfold ENTF ENT
  split
  · unfold S0F S0
    iintro ⟨⟨H1, H2, H3, H4⟩, H⟩
    isplitl [H1]; · iexact H1
    isplitl [H2]; · iexact H2
    isplitl [H3]; · iexact H3
    isplitl [H4]; · iexact H4
    iexact H
  split
  · unfold STF ST
    iintro ⟨⟨H1, H2, H3, H4, H5⟩, H⟩
    isplitl [H1]; · iexact H1
    isplitl [H2]; · iexact H2
    isplitl [H3]; · iexact H3
    isplitl [H4]; · iexact H4
    isplitl [H5]; · iexact H5
    iexact H
  · unfold SZF SZ
    iintro ⟨⟨H1, H2, H3, H4, H5, H6, H7⟩, H⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H

theorem ent_out (t : ℕ) : ENT d gX eX qX sX t ⊢ iprop(ENTF d gX eX qX sX t ∗ OW (d : Thread nD τ)) := by
  unfold ENTF ENT
  split
  · unfold S0F S0
    iintro ⟨H1, H2, H3, H4, H⟩
    isplitr [H]
    · isplitl [H1]; · iexact H1
      isplitl [H2]; · iexact H2
      isplitl [H3]; · iexact H3
      iexact H4
    iexact H
  split
  · unfold STF ST
    iintro ⟨H1, H2, H3, H4, H5, H⟩
    isplitr [H]
    · isplitl [H1]; · iexact H1
      isplitl [H2]; · iexact H2
      isplitl [H3]; · iexact H3
      isplitl [H4]; · iexact H4
      iexact H5
    iexact H
  · unfold SZF SZ
    iintro ⟨H1, H2, H3, H4, H5, H6, H7, H⟩
    isplitr [H]
    · isplitl [H1]; · iexact H1
      isplitl [H2]; · iexact H2
      isplitl [H3]; · iexact H3
      isplitl [H4]; · iexact H4
      isplitl [H5]; · iexact H5
      isplitl [H6]; · iexact H6
      iexact H7
    iexact H

/-- The invariant before point `t`. -/
def PHI (t : ℕ) : sProp 𝕄 := iprop(ENTF d gX eX qX sX t ∗ CE d poM ∗ CE d pbM ∗ CE d pcM)

/-- The array of new errors. -/
def OUT : Vec F S22x8960x1536 .bf16 := tilesO.asm fun n => EV gX eX qX sX n

end Between

/-! ## The programs around the region -/

variable (m : (ℓ : Loc nD τ sig) → Buf (Elt F) ℓ) (ρ : Dev nD → PrngReg)

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

abbrev gXm (c : Dev nD) : Vec F S22x8960x1536 .bf16 := V m c main_arg0
abbrev eXm (c : Dev nD) : Vec F S22x8960x1536 .bf16 := V m c main_arg1
abbrev qXm (c : Dev nD) : Vec F S22x16x1536 .i8 := V m c main_v0
abbrev sXm (c : Dev nD) : Vec F S16x22 .f32 := V m c main_v1

theorem iblk0_eq (c : Dev nD) (t : Fin cfg0.N) : iblk m c 0 t = qXm m c := by
  unfold iblk
  funext x
  show V m c main_v0 _ = V m c main_v0 _
  congr 1
  funext a; apply Fin.ext
  show ((win0 0).rect t).off a + ((win0 0).rect t).stride a * (x a).val = (x a).val
  have h₁ : ((win0 0).rect t).off a = 0 := by fin_cases a <;> rfl
  have h₂ : ((win0 0).rect t).stride a = 1 := by fin_cases a <;> rfl
  rw [h₁, h₂, Nat.zero_add, Nat.one_mul]
theorem iblk1_eq (c : Dev nD) (t : Fin cfg0.N) : iblk m c 1 t = sXm m c := by
  unfold iblk
  funext x
  show V m c main_v1 _ = V m c main_v1 _
  congr 1
  funext a; apply Fin.ext
  show ((win0 1).rect t).off a + ((win0 1).rect t).stride a * (x a).val = (x a).val
  have h₁ : ((win0 1).rect t).off a = 0 := by fin_cases a <;> rfl
  have h₂ : ((win0 1).rect t).stride a = 1 := by fin_cases a <;> rfl
  rw [h₁, h₂, Nat.zero_add, Nat.one_mul]

/-- The array left in memory that the body writes. -/
def H0 : Finset (Ref sig .tc) := {main_arg0, main_arg1}
def R0 : Finset (Ref sig .tc) := {main_v2_0}
theorem H0_sub : H0 ⊆ Pipeline.restRefs sig spec0 := by decide
theorem R0_sub : R0 ⊆ Pipeline.restRefs sig spec0 \ H0 := by decide

/-- What the body leaves in the two windows written chunk by chunk. -/
def P1W (c : Dev nD) (t : ℕ) : Vec F S1x16x8960 .f32 := tilesL.asm fun k => k0_pay28 (P1 (gXm m c) (eXm m c) (qXm m c) (sXm m c) (35 * t + k))
def PCW (c : Dev nD) (t : ℕ) : Vec F S1x16x8960 .i8 := tilesL.asm fun k => PCI (gXm m c) (eXm m c) (qXm m c) (sXm m c) (35 * t + k)

/-- The region's proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => P1W m c t.val
    | ⟨3, _⟩ => PCW m c t.val
    | ⟨4, _⟩ => PSO (gXm m c) (eXm m c) (qXm m c) (sXm m c) (t.val + 1)
    | ⟨5, _⟩ => QNC (gXm m c) (eXm m c) (qXm m c) (sXm m c) t.val
    | ⟨6, _⟩ => QNO (gXm m c) (eXm m c) (qXm m c) (sXm m c) (t.val + 1)
  Φ t := PHI c (gXm m c) (eXm m c) (qXm m c) (sXm m c) t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = P1W m c t.val := by dsimp only [dats]
theorem after0_3 (c : Dev nD) (t : Fin cfg0.N) : (dats m 0 c).after 3 t = PCW m c t.val := by dsimp only [dats]
theorem after0_4 (c : Dev nD) (t : Fin cfg0.N) : (dats m 0 c).after 4 t = PSO (gXm m c) (eXm m c) (qXm m c) (sXm m c) (t.val + 1) := by dsimp only [dats]
theorem after0_5 (c : Dev nD) (t : Fin cfg0.N) : (dats m 0 c).after 5 t = QNC (gXm m c) (eXm m c) (qXm m c) (sXm m c) t.val := by dsimp only [dats]
theorem after0_6 (c : Dev nD) (t : Fin cfg0.N) : (dats m 0 c).after 6 t = QNO (gXm m c) (eXm m c) (qXm m c) (sXm m c) (t.val + 1) := by dsimp only [dats]

theorem before0_0 (c : Dev nD) (t : Fin cfg0.N) (x) : (dats m 0 c).before 0 t x = qXm m c := by
  rw [← iblk0_eq m c t]
  exact ((dats m 0 c).before_in_eq_fetched 0 rfl (fun _ => rfl) (fun _ _ _ => rfl) (fun t => by rw [after0_0]; unfold Dat.blockOf iblk; rw [A_eq]; try rfl) t x).trans
    (by unfold Dat.fetched Dat.blockOf iblk; rw [A_eq]; try rfl)
theorem before0_1 (c : Dev nD) (t : Fin cfg0.N) (x) : (dats m 0 c).before 1 t x = sXm m c := by
  rw [← iblk1_eq m c t]
  exact ((dats m 0 c).before_in_eq_fetched 1 rfl (fun _ => rfl) (fun _ _ _ => rfl) (fun t => by rw [after0_1]; unfold Dat.blockOf iblk; rw [A_eq]; try rfl) t x).trans
    (by unfold Dat.fetched Dat.blockOf iblk; rw [A_eq]; try rfl)
theorem before0_4 (c : Dev nD) (t : Fin cfg0.N) (x) (h : 0 < t.val) : (dats m 0 c).before 4 t x = PSO (gXm m c) (eXm m c) (qXm m c) (sXm m c) t.val := by
  have hlt : t.val < 22 := lt_of_lt_of_eq t.isLt N_0
  have hfl : (cfg0.win 4).flush ⟨t.val - 1, Nat.lt_of_le_of_lt (Nat.sub_le _ _) t.isLt⟩ = false := by
    rw [Bool.eq_false_iff]; intro h'; have := (flush0_4 _).mp h'; dsimp only at this; omega
  rw [(dats m 0 c).before_out_kept 4 rfl t (by omega) hfl (fun _ => rfl) (fun _ _ => rfl) x, after0_4]
  dsimp only
  rw [Nat.sub_add_cancel h]
theorem before0_6 (c : Dev nD) (t : Fin cfg0.N) (x) (h : 0 < t.val) : (dats m 0 c).before 6 t x = QNO (gXm m c) (eXm m c) (qXm m c) (sXm m c) t.val := by
  have hlt : t.val < 22 := lt_of_lt_of_eq t.isLt N_0
  have hfl : (cfg0.win 6).flush ⟨t.val - 1, Nat.lt_of_le_of_lt (Nat.sub_le _ _) t.isLt⟩ = false := by
    rw [Bool.eq_false_iff]; intro h'; have := (flush0_6 _).mp h'; dsimp only at this; omega
  rw [(dats m 0 c).before_out_kept 6 rfl t (by omega) hfl (fun _ => rfl) (fun _ _ => rfl) x, after0_6]
  dsimp only
  rw [Nat.sub_add_cancel h]

theorem coords_val : ∀ t : Fin grid0.N, (grid0.coords t 0).val = t.val := by decide

/-! ## One point -/

section Point
variable (c : Dev nD) (t : Fin cfg0.N)

def bodyPre : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
def bodyPost : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

theorem w_in (a : Memref sig .tc .vmem S16x22 .f32) (v) : (owns (c : Thread nD τ) a fullShare v : sProp 𝕄) ⊢ wPc (d := c) a v :=
  eqE (owns_full (off := ![0, 0]) (inb := fstOff_inb) (c : Thread nD τ) a fullShare v).symm
theorem w_out (a : Memref sig .tc .vmem S16x22 .f32) (v) : wPc (d := c) a v ⊢ (owns (c : Thread nD τ) a fullShare v : sProp 𝕄) :=
  eqE (owns_full (off := ![0, 0]) (inb := fstOff_inb) (c : Thread nD τ) a fullShare v)
theorem n_in (a : Memref sig .tc .vmem S1x16x1536 .i8) (v) : (owns (c : Thread nD τ) a fullShare v : sProp 𝕄) ⊢ nPc (d := c) a v :=
  eqE (owns_full (off := ![0, 0, 0]) (inb := qncOff_inb) (c : Thread nD τ) a fullShare v).symm
theorem n_out (a : Memref sig .tc .vmem S1x16x1536 .i8) (v) : nPc (d := c) a v ⊢ (owns (c : Thread nD τ) a fullShare v : sProp 𝕄) :=
  eqE (owns_full (off := ![0, 0, 0]) (inb := qncOff_inb) (c : Thread nD τ) a fullShare v)
theorem l_in {e : EltTy} (a : Memref sig .tc .vmem S1x16x8960 e) (v) : (owns (c : Thread nD τ) a fullShare v : sProp 𝕄) ⊢ LE c a := by
  have h : (owns (c : Thread nD τ) a fullShare v : sProp 𝕄) ⊢ iprop(∃ X, owns (c : Thread nD τ) a fullShare X) := by iintro H; iexists v; iexact H
  exact h.trans (to_pieces c tilesL a)
theorem l_out {e : EltTy} (a : Memref sig .tc .vmem S1x16x8960 e) (V : ℕ → Vec F S1x16x256 e) : WN c a V 35 ⊢ (owns (c : Thread nD τ) a fullShare (tilesL.asm V) : sProp 𝕄) := by
  have : ∀ e, Nonempty (Elt F e) := elt_nonempty F
  have h : WN c a V 35 ⊢ fam (fun k => lPc c a k (V k)) 0 35 := by unfold WN; iintro ⟨H, -⟩; iexact H
  exact h.trans (owns_asm tilesL (c : Thread nD τ) a fullShare V)

/-- The body's obligation over any seven staging memrefs. -/
theorem point {b : ℕ} {i : grid0.Coords} (hi : (i 0).val = b) {gX eX : Vec F S22x8960x1536 .bf16} {qX : Vec F S22x16x1536 .i8} {sX : Vec F S16x22 .f32}
    (a3 : Memref sig .tc .vmem S22x16x1536 .i8) (h3 : a3.IsWhole) (a4 : Memref sig .tc .vmem S16x22 .f32) (h4 : a4.IsWhole)
    (a6 : Memref sig .tc .vmem S1x16x8960 .f32) (h6 : a6.IsWhole) (a7 : Memref sig .tc .vmem S1x16x8960 .i8) (h7 : a7.IsWhole)
    (a8 : Memref sig .tc .vmem S16x22 .f32) (h8 : a8.IsWhole) (a9 : Memref sig .tc .vmem S1x16x1536 .i8) (h9 : a9.IsWhole)
    (a10 : Memref sig .tc .vmem S16x22 .f32) (h10 : a10.IsWhole) (w6 w7 w8 w9 w10) (h8v : 0 < b → w8 = PSO gX eX qX sX b) (h10v : 0 < b → w10 = QNO gX eX qX sX b) :
    iprop(PHI c gX eX qX sX b ∗ OW (c : Thread nD τ) ∗ owns (c : Thread nD τ) a3 fullShare qX ∗ owns (c : Thread nD τ) a4 fullShare sX
        ∗ owns (c : Thread nD τ) a6 fullShare w6 ∗ owns (c : Thread nD τ) a7 fullShare w7 ∗ owns (c : Thread nD τ) a8 fullShare w8
        ∗ owns (c : Thread nD τ) a9 fullShare w9 ∗ owns (c : Thread nD τ) a10 fullShare w10)
      ⊢ WP c (cc0_powersgd i gM (Memref.isWhole_whole _) eM (Memref.isWhole_whole _) a3 h3 a4 h4 oM (Memref.isWhole_whole _) a6 h6 a7 h7 a8 h8 a9 h9 a10 h10
          mM (Memref.isWhole_whole _) stM (Memref.isWhole_whole _) bqM (Memref.isWhole_whole _) p1M (Memref.isWhole_whole _) pbM (Memref.isWhole_whole _)
          poM (Memref.isWhole_whole _) pcM (Memref.isWhole_whole _) cc0_scratch7 cc0_scratch8 cc0_scratch9)
        (fun _ => iprop(PHI c gX eX qX sX (b + 1) ∗ OW (c : Thread nD τ) ∗ owns (c : Thread nD τ) a3 fullShare qX ∗ owns (c : Thread nD τ) a4 fullShare sX
          ∗ owns (c : Thread nD τ) a6 fullShare (tilesL.asm fun k => k0_pay28 (P1 gX eX qX sX (35 * b + k)))
          ∗ owns (c : Thread nD τ) a7 fullShare (tilesL.asm fun k => PCI gX eX qX sX (35 * b + k))
          ∗ owns (c : Thread nD τ) a8 fullShare (PSO gX eX qX sX (b + 1))
          ∗ owns (c : Thread nD τ) a9 fullShare (QNC gX eX qX sX b) ∗ owns (c : Thread nD τ) a10 fullShare (QNO gX eX qX sX (b + 1)))) := by
  have : ∀ e, Nonempty (Elt F e) := elt_nonempty F
  have hpre : iprop(PHI c gX eX qX sX b ∗ OW (c : Thread nD τ) ∗ owns (c : Thread nD τ) a3 fullShare qX ∗ owns (c : Thread nD τ) a4 fullShare sX
        ∗ owns (c : Thread nD τ) a6 fullShare w6 ∗ owns (c : Thread nD τ) a7 fullShare w7 ∗ owns (c : Thread nD τ) a8 fullShare w8
        ∗ owns (c : Thread nD τ) a9 fullShare w9 ∗ owns (c : Thread nD τ) a10 fullShare w10) ⊢ PRE c gX eX qX sX b a3 a4 a6 a7 a8 a9 a10 := by
    unfold PRE IN PHI
    iintro ⟨⟨HE, HCo, HCb, HCc⟩, HO, H3, H4, H6, H7, H8, H9, H10⟩
    isplitl [H3 H4]
    · isplitl [H3]; · iexact H3
      iapply (w_in c a4 sX) $$ H4
    isplitl [HE HO]
    · iapply (ent_in c gX eX qX sX b); isplitl [HE]; · iexact HE
      iexact HO
    isplitl [HCo]; · iexact HCo
    isplitl [HCb]; · iexact HCb
    isplitl [HCc]; · iexact HCc
    isplitl [H6]
    · iapply (l_in c a6 w6) $$ H6
    isplitl [H7]
    · iapply (l_in c a7 w7) $$ H7
    isplitl [H9]
    · iexists w9; iapply (n_in c a9 w9) $$ H9
    isplitl [H8]
    · iexists w8; isplitl [H8]; · iapply (w_in c a8 w8) $$ H8
      ipureintro; exact h8v
    iexists w10; isplitl [H10]; · iapply (w_in c a10 w10) $$ H10
    ipureintro; exact h10v
  refine hpre.trans ((body_ok (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) h3 h4 h6 h7 h8 h9 h10 hi).trans (wp_mono frame _ Set.univ fun _ => ?_))
  unfold POST IN PHI
  iintro ⟨⟨H3, H4⟩, HE, HCo, HCb, HCc, H6, H7, H9, H8, H10⟩
  ihave HEO := (ent_out c gX eX qX sX (b + 1)) $$ HE
  icases HEO with ⟨HE, HO⟩
  isplitl [HE HCo HCb HCc]
  · isplitl [HE]; · iexact HE
    isplitl [HCo]; · iexact HCo
    isplitl [HCb]; · iexact HCb
    iexact HCc
  isplitl [HO]; · iexact HO
  isplitl [H3]; · iexact H3
  isplitl [H4]
  · rw [← owns_full (off := ![0, 0]) (inb := fstOff_inb) (c : Thread nD τ) a4 fullShare sX]; iexact H4
  isplitl [H6]; · iapply (l_out c a6 _) $$ H6
  isplitl [H7]; · iapply (l_out c a7 _) $$ H7
  isplitl [H8]; · iapply (w_out c a8 _) $$ H8
  isplitl [H9]; · iapply (n_out c a9 _) $$ H9
  iapply (w_out c a10 _) $$ H10

end Point

end Cert.KernelIdeal.Hand
-- ==== Proof.KernelIdealRun.lean ====
/-
  The run of the kernel from launch to end.
-/
module

public import proofs.«01_k».proof.Proof.KernelIdealFrame
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = PHI c (gXm m c) (eXm m c) (qXm m c) (sXm m c) t.val from rfl]
  unfold Dat.owesAt Pipeline.owesWithin
  rw [show (dats m 0 c).owed t.castSucc = 0 from rfl]
  simp only [before0_0, before0_1]
  iintro ⟨HP, ⟨%W, -, HW⟩, ⟨%x0, H0⟩, ⟨%x1, H1⟩, ⟨%x2, H2⟩, ⟨%x3, H3⟩, ⟨%x4, H4⟩, ⟨%x5, H5⟩, ⟨%x6, H6⟩⟩
  have hw : WP c (bodyAt0 (F := F) t) (fun _ => iprop(PHI c (gXm m c) (eXm m c) (qXm m c) (sXm m c) (t.val + 1) ∗ OW (c : Thread nD τ)
        ∗ owns (c : Thread nD τ) (win0_0.stage (cfg0.slots t 0)) fullShare (qXm m c)
        ∗ owns (c : Thread nD τ) (win0_1.stage (cfg0.slots t 1)) fullShare (sXm m c)
        ∗ owns (c : Thread nD τ) (win0_2.stage (cfg0.slots t 2)) fullShare (P1W m c t.val)
        ∗ owns (c : Thread nD τ) (win0_3.stage (cfg0.slots t 3)) fullShare (PCW m c t.val)
        ∗ owns (c : Thread nD τ) (win0_4.stage (cfg0.slots t 4)) fullShare (PSO (gXm m c) (eXm m c) (qXm m c) (sXm m c) (t.val + 1))
        ∗ owns (c : Thread nD τ) (win0_5.stage (cfg0.slots t 5)) fullShare (QNC (gXm m c) (eXm m c) (qXm m c) (sXm m c) t.val)
        ∗ owns (c : Thread nD τ) (win0_6.stage (cfg0.slots t 6)) fullShare (QNO (gXm m c) (eXm m c) (qXm m c) (sXm m c) (t.val + 1))))
      ⊢ wp frame (wpE (defs₀ (F := F)) Variants.none c none) Set.univ (bodyAt0 t) (fun _ => bodyPost m c t) := by
    refine wp_mono frame _ Set.univ fun _ => ?_
    unfold bodyPost
    rw [show (dats m 0 c).Φ t.succ = PHI c (gXm m c) (eXm m c) (qXm m c) (sXm m c) (t.val + 1) from rfl]
    unfold Dat.owesAt Pipeline.owesWithin
    rw [show (dats m 0 c).owed t.succ = 0 from rfl, after0_0, after0_1, after0_2, after0_3, after0_4, after0_5, after0_6, iblk0_eq, iblk1_eq]
    unfold OW
    iintro ⟨HP, ⟨%W', HW'⟩, H0, H1, H2, H3, H4, H5, H6⟩
    isplitl [HP]; · iexact HP
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  iapply hw
  iapply (point c (coords_val t) _ (hstage0_0 ((cfg0.slots t 0).cast nbuf0_0)) _ _ _ _ _ _ _ _ _ _ _ _
    ((dats m 0 c).before 2 t x2) ((dats m 0 c).before 3 t x3) ((dats m 0 c).before 4 t x4) ((dats m 0 c).before 5 t x5) ((dats m 0 c).before 6 t x6)
    (fun h => before0_4 m c t x4 h) (fun h => before0_6 m c t x6 h))
  isplitl [HP]; · iexact HP
  isplitl [HW]; · unfold OW; iexists W; iexact HW
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the region and out of it -/

/-- What a buffer left in memory holds at the end. -/
def Gm (c : Dev nD) (b : Ref sig .tc) : Buf (Elt F) ((c : Thread nD τ).loc b) :=
  if h : b = main_v2_0 then h ▸ (OUT (gXm m c) (eXm m c) (qXm m c) (sXm m c) : Buf (Elt F) ((c : Thread nD τ).loc main_v2_0)) else V m c b

theorem Gm_out (c : Dev nD) : Gm m c main_v2_0 = OUT (gXm m c) (eXm m c) (qXm m c) (sXm m c) := by
  unfold Gm; rw [dif_pos rfl]

theorem hb_eq (c : Dev nD) : (bigSep H0 (fun b => ((c : Thread nD τ).loc b) ↦{fullShare} V m c b) : sProp 𝕄)
    = iprop(owns (c : Thread nD τ) gM fullShare (gXm m c) ∗ owns (c : Thread nD τ) eM fullShare (eXm m c)) := by
  rw [owns_whole, owns_whole]
  unfold H0; rw [BI.bigSep_eq_bigSepL_of_eq [main_arg0, main_arg1] (by decide) (by decide)]; rfl
theorem rb_eq (c : Dev nD) (G : (c : Dev nD) → (b : Ref sig .tc) → Buf (Elt F) ((c : Thread nD τ).loc b)) :
    (bigSep R0 (fun b => ((c : Thread nD τ).loc b) ↦{fullShare} G c b) : sProp 𝕄)
    = owns (c : Thread nD τ) oM fullShare (G c main_v2_0) := by
  rw [owns_whole]
  unfold R0; rw [BI.bigSep_eq_bigSepL_of_eq [main_v2_0] (by decide) (by decide)]; rfl

/-- A buffer of the body's own at some contents. -/
abbrev sb (c : Dev nD) {sp : Space} {s : Shape} {e : EltTy} (M : Memref sig .tc sp s e) : sProp 𝕄 := iprop(∃ X, owns (c : Thread nD τ) M fullShare X)

theorem sc_eq (c : Dev nD) : (Pipeline.scopedRest (Ix := Unit) (Name := ℕ) (U := Pipeline.UD sig nD τ) (Lvl := ℕ) (Val := Elt F) spec0 c : sProp 𝕄)
    = iprop(sb c mM ∗ sb c stM ∗ sb c bqM ∗ sb c p1M ∗ sb c pbM ∗ sb c poM ∗ sb c pcM) := by
  rw [scopedRest0_eq]
  unfold sb
  simp only [owns_whole]
  rfl

theorem bq_in (c : Dev nD) : sb (F := F) c bqM ⊢ iprop(∃ v, bqPc c v) := by
  iintro ⟨%X, H⟩; iexists X
  iapply (eqE (owns_full (off := ![0, 0]) (inb := bqOff_inb) (c : Thread nD τ) bqM fullShare X).symm) $$ H
theorem bq_out (c : Dev nD) : iprop(∃ v, bqPc (F := F) c v) ⊢ sb (F := F) c bqM := by
  iintro ⟨%X, H⟩; iexists X
  iapply (eqE (owns_full (off := ![0, 0]) (inb := bqOff_inb) (c : Thread nD τ) bqM fullShare X)) $$ H

theorem g_in (c : Dev nD) (X : Vec F S22x8960x1536 .bf16) : (owns (c : Thread nD τ) gM fullShare X : sProp 𝕄) ⊢ fam (gH c X) 0 770 := by
  have : ∀ e, Nonempty (Elt F e) := elt_nonempty F
  exact owns_split tilesO (c : Thread nD τ) gM fullShare X
theorem e_in (c : Dev nD) (X : Vec F S22x8960x1536 .bf16) : (owns (c : Thread nD τ) eM fullShare X : sProp 𝕄) ⊢ fam (eH c X) 0 770 := by
  have : ∀ e, Nonempty (Elt F e) := elt_nonempty F
  exact owns_split tilesO (c : Thread nD τ) eM fullShare X
theorem asm_blk (X : Vec F S22x8960x1536 .bf16) : tilesO.asm (blk X) = X :=
  tilesO.ext fun k hk y => tilesO.asm_emb (blk X) hk y
theorem g_out (c : Dev nD) (X : Vec F S22x8960x1536 .bf16) : fam (gH c X) 0 770 ⊢ (owns (c : Thread nD τ) gM fullShare X : sProp 𝕄) := by
  have : ∀ e, Nonempty (Elt F e) := elt_nonempty F
  have h := owns_asm tilesO (c : Thread nD τ) gM fullShare (blk X) (Ix := Unit) (Name := ℕ) (U := Pipeline.UD sig nD τ) (Lvl := ℕ)
  rw [asm_blk] at h
  exact h
theorem e_out (c : Dev nD) (X : Vec F S22x8960x1536 .bf16) : fam (eH c X) 0 770 ⊢ (owns (c : Thread nD τ) eM fullShare X : sProp 𝕄) := by
  have : ∀ e, Nonempty (Elt F e) := elt_nonempty F
  have h := owns_asm tilesO (c : Thread nD τ) eM fullShare (blk X) (Ix := Unit) (Name := ℕ) (U := Pipeline.UD sig nD τ) (Lvl := ℕ)
  rw [asm_blk] at h
  exact h
theorem o_in (c : Dev nD) (X : Vec F S22x8960x1536 .bf16) : (owns (c : Thread nD τ) oM fullShare X : sProp 𝕄) ⊢ fam (fun n => iprop(∃ v, oPc c n v)) 0 770 := by
  have h : (owns (c : Thread nD τ) oM fullShare X : sProp 𝕄) ⊢ iprop(∃ X, owns (c : Thread nD τ) oM fullShare X) := by iintro H; iexists X; iexact H
  exact h.trans (to_pieces c tilesO oM)
theorem o_out (c : Dev nD) (W : ℕ → Vec F S1x256x1536 .bf16) : fam (fun n => oPc c n (W n)) 0 770 ⊢ (owns (c : Thread nD τ) oM fullShare (tilesO.asm W) : sProp 𝕄) := by
  have : ∀ e, Nonempty (Elt F e) := elt_nonempty F
  exact owns_asm tilesO (c : Thread nD τ) oM fullShare W
theorem m_out (c : Dev nD) : MF (F := F) c 770 840 ⊢ sb c mM := by
  have h : MF (F := F) c 770 840 = MF c 0 70 := by
    unfold MF
    rw [show fam _ 770 840 = fam _ (0 + 770) (70 + 770) from rfl, fam_shift]
    exact fam_congr fun i _ _ => by simp only [mPc_mod (show (i + 770) / 35 % 2 = i / 35 % 2 by omega) (show (i + 770) % 35 = i % 35 by omega)]
  rw [h]
  exact of_pieces c tilesM mM
theorem os_out (c : Dev nD) : fam (oS0 (F := F) c) 770 (770 + 35) = fam (oS0 (F := F) c) 0 35 := by
  rw [show fam _ 770 (770 + 35) = fam _ (0 + 770) (35 + 770) from rfl, fam_shift]
  exact fam_congr fun i _ _ => by unfold oS0; rw [ocell_mod (show (i + 770) % 35 = i % 35 by omega)]

theorem c_out (c : Dev nD) {e : EltTy} (M : Memref sig .tc .vmem S35x16x256 e) : CE (F := F) c M ⊢ sb c M := of_pieces c tilesC M
theorem s_out (c : Dev nD) : SF (F := F) c 0 6 ⊢ sb c stM := of_pieces c tilesS stM

theorem h_in (c : Dev nD) : Pipeline.ΦDRV osem0 spec0 H0 R0 (V m) (V m) c ⊢ PHI c (gXm m c) (eXm m c) (qXm m c) (sXm m c) 0 := by
  unfold Pipeline.ΦDRV
  rw [sc_eq, own_eq, hb_eq, rb_eq]
  unfold PHI ENTF
  rw [if_pos rfl]
  unfold S0F SA GI EI MF SF OS
  rw [fam_empty (gFl c (gXm m c)) (show 35 * 0 + 0 ≤ 35 * 0 + 0 by omega), fam_empty (gH c (gXm m c)) (show 35 * 0 + 0 ≤ 0 by omega),
    fam_empty (eFl c (eXm m c)) (show 35 * 0 + 0 ≤ 35 * 0 + 0 by omega), fam_empty (eH c (eXm m c)) (show 35 * 0 + 0 ≤ 0 by omega),
    fam_empty (oFl c _) (show 0 ≤ 0 by omega), fam_empty _ (show 0 ≤ 0 by omega)]
  iintro ⟨⟨Hm, Hst, Hbq, Hp1, Hpb, Hpo, Hpc⟩, ⟨Hgs, Hes, Hos⟩, ⟨Hg, He⟩, Ho⟩
  isplitr [Hpo Hpb Hpc]
  · isplitl [Hbq]; · iapply (bq_in c) $$ Hbq
    isplitl [Hm Hst Hg He Hgs Hes]
    · isplitl [Hg Hgs]
      · isplitr; · iempintro
        isplitr; · iempintro
        isplitl [Hg]; · iapply (g_in c _) $$ Hg
        iexact Hgs
      isplitl [He Hes]
      · isplitr; · iempintro
        isplitr; · iempintro
        isplitl [He]; · iapply (e_in c _) $$ He
        iexact Hes
      isplitl [Hm]; · iapply (to_pieces c tilesM mM) $$ Hm
      iapply (to_pieces c tilesS stM) $$ Hst
    isplitl [Hp1]; · unfold CE; iapply (to_pieces c tilesC p1M) $$ Hp1
    isplitr; · iempintro
    isplitr; · iempintro
    isplitl [Hos]; · iexact Hos
    iapply (o_in c _) $$ Ho
  unfold CE
  isplitl [Hpo]; · iapply (to_pieces c tilesC poM) $$ Hpo
  isplitl [Hpb]; · iapply (to_pieces c tilesC pbM) $$ Hpb
  iapply (to_pieces c tilesC pcM) $$ Hpc

theorem h_out (c : Dev nD) : PHI c (gXm m c) (eXm m c) (qXm m c) (sXm m c) 22 ⊢ Pipeline.ΦDRV osem0 spec0 H0 R0 (V m) (Gm m) c := by
  unfold Pipeline.ΦDRV
  rw [sc_eq, own_eq, hb_eq, rb_eq, Gm_out]
  unfold PHI ENTF
  rw [if_neg (by omega), if_neg (by omega)]
  unfold SZF GI EI OS
  rw [show 35 * 22 + 0 = 770 from rfl, os_out]
  iintro ⟨⟨⟨-, Hg, -, Hgs⟩, ⟨-, He, -, Hes⟩, Hst, ⟨-, Ho, Hos, -⟩, Hm, Hp1, Hbq⟩, Hpo, Hpb, Hpc⟩
  isplitl [Hst Hm Hp1 Hbq Hpo Hpb Hpc]
  · isplitl [Hm]; · iapply (m_out c) $$ Hm
    isplitl [Hst]; · iapply (s_out c) $$ Hst
    isplitl [Hbq]; · iapply (bq_out c) $$ Hbq
    isplitl [Hp1]; · iapply (c_out c p1M) $$ Hp1
    isplitl [Hpb]; · iapply (c_out c pbM) $$ Hpb
    isplitl [Hpo]; · iapply (c_out c poM) $$ Hpo
    iapply (c_out c pcM) $$ Hpc
  isplitl [Hgs Hes Hos]
  · isplitl [Hgs]; · iexact Hgs
    isplitl [Hes]; · iexact Hes
    iexact Hos
  isplitl [Hg He]
  · isplitl [Hg]; · iapply (g_out c _) $$ Hg
    iapply (e_out c _) $$ He
  iapply (o_out c _) $$ Ho

/-! ## The run and the frame -/

/-- What memory holds after the region, before the host's last operations. -/
abbrev VZ (c : Dev nD) : Valuation τ sig (Elt F) :=
  Pipeline.withArrays spec0 c (Pipeline.withR (V0 m c) R0 c (Gm m c)) fun w => (dats m 0 c).arrAt w cfg0.N

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (VZ m c) (Proc.devRef .tc b))
    ∧ r.2.sem = (fun _ => 0)) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gm m)
    (hmain := hmainD m Variants.none) (hA := A_eq m) (hin := fun c => h_in m c) (hout := fun c => h_out m c)

/-- A buffer that no host operation after the region writes, that is no array of the region, and that the body does not write, ends as the region found it. -/
theorem VZ_keep (c : Dev nD) (b : Ref sig .tc) (h₁ : ∀ w, Pipeline.arrRef spec0 w ≠ b) (h₂ : b ∉ R0) : VZ m c (Proc.devRef .tc b) = V m c b := by
  unfold VZ
  rw [Pipeline.withArrays_of_ne _ c _ _ b h₁, Pipeline.withR_of_not_mem _ _ _ _ b h₂]

/-- The host's last operations write five references and no other. -/
theorem tail_keep (W : Valuation τ sig (Elt F)) (b : Ref sig .tc) (h₃ : b ≠ main_v3) (h₄ : b ≠ main_v4) (h₅ : b ≠ main_v5) (h₆ : b ≠ main_v6) (h₇ : b ≠ main_v7) :
    StableHlo.after (List.flatten [hostOps1]) W (Proc.devRef .tc b) = W (Proc.devRef .tc b) := by
  refine StableHlo.after_of_forall_not_mem (b := Proc.devRef .tc b) _ _ (List.forall_iff_forall_mem.mp ?_)
  simp only [hostOps1, List.flatten_cons, List.flatten_nil, List.append_nil, List.cons_append,
    List.nil_append, List.Forall, StableHlo.unary_writes, Finset.mem_singleton]
  exact ⟨StableHlo.devRef_ne_of_ne h₃, StableHlo.devRef_ne_of_ne h₄, StableHlo.devRef_ne_of_ne h₅, StableHlo.devRef_ne_of_ne h₆, StableHlo.devRef_ne_of_ne h₇⟩

/-- The arguments are unchanged. -/
theorem args_keep (c : Dev nD) {M : (ℓ : Loc nD τ sig) → Buf (Elt F) ℓ}
    (h : ∀ b ∈ Pipeline.restRefs sig spec0, M ((c.tc : Thread nD τ).loc b) = StableHlo.after (List.flatten [hostOps1]) (VZ m c) (Proc.devRef .tc b)) :
    M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3) :=
    ⟨(h main_arg0 (Pipeline.mem_restRefs_of main_arg0 (by decide) (by decide))).trans
        ((tail_keep _ main_arg0 (by decide) (by decide) (by decide) (by decide) (by decide)).trans ((VZ_keep m c main_arg0 (by decide) (by decide)).trans (V_main_arg0 m c))),
      (h main_arg1 (Pipeline.mem_restRefs_of main_arg1 (by decide) (by decide))).trans
        ((tail_keep _ main_arg1 (by decide) (by decide) (by decide) (by decide) (by decide)).trans ((VZ_keep m c main_arg1 (by decide) (by decide)).trans (V_main_arg1 m c))),
      (h main_arg2 (Pipeline.mem_restRefs_of main_arg2 (by decide) (by decide))).trans
        ((tail_keep _ main_arg2 (by decide) (by decide) (by decide) (by decide) (by decide)).trans ((VZ_keep m c main_arg2 (by decide) (by decide)).trans (V_main_arg2 m c))),
      (h main_arg3 (Pipeline.mem_restRefs_of main_arg3 (by decide) (by decide))).trans
        ((tail_keep _ main_arg3 (by decide) (by decide) (by decide) (by decide) (by decide)).trans ((VZ_keep m c main_arg3 (by decide) (by decide)).trans (V_main_arg3 m c)))⟩

/-- The frame: the run ends, the arguments are unchanged, and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_keep m c (h.1 c).2, h.2⟩)
    (run_main m ρ)

end Cert.KernelIdeal.Hand
-- ==== Proof.RefRun.lean ====
/-
  The reference's run, read: each of its six results as the reference's own operations on the four arguments.
-/
module

public import proofs.«01_k».proof.Proof.Gen.ReferenceIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.ReferenceIdeal.Hand

open Cert.ReferenceIdeal Cert.ReferenceIdeal.Gen Cert.ReferenceIdeal.Value

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

section Values
variable (g e : Vec F S22x8960x1536 .bf16) (q : Vec F S22x1536x16 .i8) (s : Vec F S22x16 .f32)

/-- One elimination step on a Gram matrix and the inverse factor. -/
def elim (j : Fin k0_t1_loop.trips) (a : FVec F S22x16x16 .f32 × FVec F S22x16x16 .f32) :
    FVec F S22x16x16 .f32 × FVec F S22x16x16 .f32 := (k0_pay10 j a.1, k0_pay9 j a.1 a.2)
/-- The inverse Cholesky factor of a Gram matrix. -/
def inv (G : FVec F S22x16x16 .f32) : FVec F S22x16x16 .f32 := (Scf.fold elim (G, k0_pay5)).2
/-- The first inverse factor, the third product, the second inverse factor, and the two rows of scales. -/
def I1 : FVec F S22x16x16 .f32 := inv (k0_pay4 g e q s)
def PV : FVec F S22x8960x16 .f32 := k0_pay11 g e q s (I1 g e q s)
def I2 : FVec F S22x16x16 .f32 := inv (k0_pay12 g e q s (I1 g e q s))
def PS : FVec F S22x16 .f32 := k0_pay20 (PV g e q s) (I2 g e q s)
def QS : FVec F S22x16 .f32 := k0_pay23 (k0_pay2 g e) (PV g e q s) (I2 g e q s)
end Values

variable (m : (ℓ : Loc nD τ sig) → Buf (Elt F) ℓ) (ρ : Dev nD → PrngReg)

theorem out_err (c : Dev nD) (t : Fin cfg0.N) (g e : Vec F S22x8960x1536 .bf16) (q : Vec F S22x1536x16 .i8) (s : Vec F S22x16 .f32) :
    out0_A_4 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) g e q s
      = k0_pay1 (k0_pay2 g e) (PS g e q s) (QS g e q s) (k0_pay24 (k0_pay2 g e) (PV g e q s) (I2 g e q s)) (k0_pay25 (PV g e q s) (I2 g e q s)) := by
  unfold out0_A_4
  rw [View.read_writes_eq_canon _ _ _ (cover0_A_4 c _ _ _ _ _ _ _ _ _ _ _ _ _ _ _ _ _ _ _ _ _ _ _ _)]
  unfold kernelRun0_A
  dsimp only
  rw [View.canon_unit_zero hz3]
  sl_unfold_words
  simp only [View.readAt_eq_ld, (hs0_0 t).read_unread, (hs0_1 t).read_unread, (hs0_2 t).read_unread, (hs0_3 t).read_unread,
    View.ld_unit_zero (S := S22x8960x1536) hz3, View.ld_unit_zero (S := S22x1536x16) hz3, View.ld_unit_zero (S := S22x16) hz2]
  rfl

theorem out_p1 (c : Dev nD) (t : Fin cfg0.N) (g e : Vec F S22x8960x1536 .bf16) (q : Vec F S22x1536x16 .i8) (s : Vec F S22x16 .f32) :
    out0_A_5 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) g e q s
      = k0_pay3 g e q s := by
  unfold out0_A_5
  rw [View.read_writes_eq_canon _ _ _ (cover0_A_5 c _ _ _ _ _ _ _ _ _ _ _ _ _ _ _ _ _ _ _ _ _ _ _ _)]
  unfold kernelRun0_A
  dsimp only
  rw [View.canon_unit_zero hz3]
  sl_unfold_words
  simp only [View.readAt_eq_ld, (hs0_0 t).read_unread, (hs0_1 t).read_unread, (hs0_2 t).read_unread, (hs0_3 t).read_unread,
    View.ld_unit_zero (S := S22x8960x1536) hz3, View.ld_unit_zero (S := S22x1536x16) hz3, View.ld_unit_zero (S := S22x16) hz2]

theorem out_pc (c : Dev nD) (t : Fin cfg0.N) (g e : Vec F S22x8960x1536 .bf16) (q : Vec F S22x1536x16 .i8) (s : Vec F S22x16 .f32) :
    out0_A_6 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) g e q s
      = k0_pay21 (PV g e q s) (I2 g e q s) := by
  unfold out0_A_6
  rw [View.read_writes_eq_canon _ _ _ (cover0_A_6 c _ _ _ _ _ _ _ _ _ _ _ _ _ _ _ _ _ _ _ _ _ _ _ _)]
  unfold kernelRun0_A
  dsimp only
  rw [View.canon_unit_zero hz3]
  sl_unfold_words
  simp only [View.readAt_eq_ld, (hs0_0 t).read_unread, (hs0_1 t).read_unread, (hs0_2 t).read_unread, (hs0_3 t).read_unread,
    View.ld_unit_zero (S := S22x8960x1536) hz3, View.ld_unit_zero (S := S22x1536x16) hz3, View.ld_unit_zero (S := S22x16) hz2]
  rfl

theorem out_ps (c : Dev nD) (t : Fin cfg0.N) (g e : Vec F S22x8960x1536 .bf16) (q : Vec F S22x1536x16 .i8) (s : Vec F S22x16 .f32) :
    out0_A_7 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) g e q s
      = PS g e q s := by
  unfold out0_A_7
  rw [View.read_writes_eq_canon _ _ _ (cover0_A_7 c _ _ _ _ _ _ _ _ _ _ _ _ _ _ _ _ _ _ _ _ _ _ _ _)]
  unfold kernelRun0_A
  dsimp only
  rw [View.canon_unit_zero hz2]
  sl_unfold_words
  simp only [View.readAt_eq_ld, (hs0_0 t).read_unread, (hs0_1 t).read_unread, (hs0_2 t).read_unread, (hs0_3 t).read_unread,
    View.ld_unit_zero (S := S22x8960x1536) hz3, View.ld_unit_zero (S := S22x1536x16) hz3, View.ld_unit_zero (S := S22x16) hz2]
  rfl

theorem out_qc (c : Dev nD) (t : Fin cfg0.N) (g e : Vec F S22x8960x1536 .bf16) (q : Vec F S22x1536x16 .i8) (s : Vec F S22x16 .f32) :
    out0_A_8 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) g e q s
      = k0_pay24 (k0_pay2 g e) (PV g e q s) (I2 g e q s) := by
  unfold out0_A_8
  rw [View.read_writes_eq_canon _ _ _ (cover0_A_8 c _ _ _ _ _ _ _ _ _ _ _ _ _ _ _ _ _ _ _ _ _ _ _ _)]
  unfold kernelRun0_A
  dsimp only
  rw [View.canon_unit_zero hz3]
  sl_unfold_words
  simp only [View.readAt_eq_ld, (hs0_0 t).read_unread, (hs0_1 t).read_unread, (hs0_2 t).read_unread, (hs0_3 t).read_unread,
    View.ld_unit_zero (S := S22x8960x1536) hz3, View.ld_unit_zero (S := S22x1536x16) hz3, View.ld_unit_zero (S := S22x16) hz2]
  rfl

theorem out_qs (c : Dev nD) (t : Fin cfg0.N) (g e : Vec F S22x8960x1536 .bf16) (q : Vec F S22x1536x16 .i8) (s : Vec F S22x16 .f32) :
    out0_A_9 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) g e q s
      = QS g e q s := by
  unfold out0_A_9
  rw [View.read_writes_eq_canon _ _ _ (cover0_A_9 c _ _ _ _ _ _ _ _ _ _ _ _ _ _ _ _ _ _ _ _ _ _ _ _)]
  unfold kernelRun0_A
  dsimp only
  rw [View.canon_unit_zero hz2]
  sl_unfold_words
  simp only [View.readAt_eq_ld, (hs0_0 t).read_unread, (hs0_1 t).read_unread, (hs0_2 t).read_unread, (hs0_3 t).read_unread,
    View.ld_unit_zero (S := S22x8960x1536) hz3, View.ld_unit_zero (S := S22x1536x16) hz3, View.ld_unit_zero (S := S22x16) hz2]
  rfl

theorem iblk0 (c : Dev nD) (t : Fin cfg0.N) : iblk m c 0 t = m ((c : Thread nD τ).loc main_arg0) := by
  obtain rfl := fin_N0 t
  have hz' : (fun a => win0_0.index t0_0 a * main_arg0.ty.shape.size a) = fun _ => 0 := funext fun a => by fin_cases a <;> rfl
  exact Memref.read_access_unit_zero (Elt F) main_arg0 hz' (fun a => by rw [congrFun hz' a]; simp) (m ((c : Thread nD τ).loc main_arg0))

theorem iblk1 (c : Dev nD) (t : Fin cfg0.N) : iblk m c 1 t = m ((c : Thread nD τ).loc main_arg1) := by
  obtain rfl := fin_N0 t
  have hz' : (fun a => win0_1.index t0_0 a * main_arg1.ty.shape.size a) = fun _ => 0 := funext fun a => by fin_cases a <;> rfl
  exact Memref.read_access_unit_zero (Elt F) main_arg1 hz' (fun a => by rw [congrFun hz' a]; simp) (m ((c : Thread nD τ).loc main_arg1))

theorem iblk2 (c : Dev nD) (t : Fin cfg0.N) : iblk m c 2 t = m ((c : Thread nD τ).loc main_arg2) := by
  obtain rfl := fin_N0 t
  have hz' : (fun a => win0_2.index t0_0 a * main_arg2.ty.shape.size a) = fun _ => 0 := funext fun a => by fin_cases a <;> rfl
  exact Memref.read_access_unit_zero (Elt F) main_arg2 hz' (fun a => by rw [congrFun hz' a]; simp) (m ((c : Thread nD τ).loc main_arg2))

theorem iblk3 (c : Dev nD) (t : Fin cfg0.N) : iblk m c 3 t = m ((c : Thread nD τ).loc main_arg3) := by
  obtain rfl := fin_N0 t
  have hz' : (fun a => win0_3.index t0_0 a * main_arg3.ty.shape.size a) = fun _ => 0 := funext fun a => by fin_cases a <;> rfl
  exact Memref.read_access_unit_zero (Elt F) main_arg3 hz' (fun a => by rw [congrFun hz' a]; simp) (m ((c : Thread nD τ).loc main_arg3))

theorem arr_err (c : Dev nD) : (dats m 0 c).arrAt 4 cfg0.N
    = k0_pay1 (k0_pay2 (m ((c : Thread nD τ).loc main_arg0)) (m ((c : Thread nD τ).loc main_arg1))) (PS (m ((c : Thread nD τ).loc main_arg0)) (m ((c : Thread nD τ).loc main_arg1)) (m ((c : Thread nD τ).loc main_arg2)) (m ((c : Thread nD τ).loc main_arg3))) (QS (m ((c : Thread nD τ).loc main_arg0)) (m ((c : Thread nD τ).loc main_arg1)) (m ((c : Thread nD τ).loc main_arg2)) (m ((c : Thread nD τ).loc main_arg3))) (k0_pay24 (k0_pay2 (m ((c : Thread nD τ).loc main_arg0)) (m ((c : Thread nD τ).loc main_arg1))) (PV (m ((c : Thread nD τ).loc main_arg0)) (m ((c : Thread nD τ).loc main_arg1)) (m ((c : Thread nD τ).loc main_arg2)) (m ((c : Thread nD τ).loc main_arg3))) (I2 (m ((c : Thread nD τ).loc main_arg0)) (m ((c : Thread nD τ).loc main_arg1)) (m ((c : Thread nD τ).loc main_arg2)) (m ((c : Thread nD τ).loc main_arg3)))) (k0_pay25 (PV (m ((c : Thread nD τ).loc main_arg0)) (m ((c : Thread nD τ).loc main_arg1)) (m ((c : Thread nD τ).loc main_arg2)) (m ((c : Thread nD τ).loc main_arg3))) (I2 (m ((c : Thread nD τ).loc main_arg0)) (m ((c : Thread nD τ).loc main_arg1)) (m ((c : Thread nD τ).loc main_arg2)) (m ((c : Thread nD τ).loc main_arg3)))) := by
  have hz' : (fun a => win0_4.index t0_0 a * main_v0_0.ty.shape.size a) = fun _ => 0 := funext fun a => by fin_cases a <;> rfl
  refine (dats m 0 c).arrAt_eq_of_cover 4 _ (fun t hf => ?_) fun i => ⟨t0_0, flush0_4 t0_0, ?_⟩
  · rw [flushed4_A, out_err, iblk0, iblk1, iblk2, iblk3]
    obtain rfl := fin_N0 t
    exact (Memref.read_access_unit_zero (Elt F) main_v0_0 hz' (fun a => by rw [congrFun hz' a]; simp) _).symm
  · show i ∈ ((View.whole main_v0_0).slice (win0_4.rect t0_0)).set
    rw [View.set_slice_whole, Rect.mem_set_unit]
    intro a
    have h := (i a).isLt
    fin_cases a
    · show 0 * 22 ≤ (i 0 : Nat) ∧ (i 0 : Nat) < 0 * 22 + 22
      have h : (i 0 : Nat) < 22 := (i 0).isLt
      omega
    · show 0 * 8960 ≤ (i 1 : Nat) ∧ (i 1 : Nat) < 0 * 8960 + 8960
      have h : (i 1 : Nat) < 8960 := (i 1).isLt
      omega
    · show 0 * 1536 ≤ (i 2 : Nat) ∧ (i 2 : Nat) < 0 * 1536 + 1536
      have h : (i 2 : Nat) < 1536 := (i 2).isLt
      omega

theorem arr_p1 (c : Dev nD) : (dats m 0 c).arrAt 5 cfg0.N
    = k0_pay3 (m ((c : Thread nD τ).loc main_arg0)) (m ((c : Thread nD τ).loc main_arg1)) (m ((c : Thread nD τ).loc main_arg2)) (m ((c : Thread nD τ).loc main_arg3)) := by
  have hz' : (fun a => win0_5.index t0_0 a * main_v0_1.ty.shape.size a) = fun _ => 0 := funext fun a => by fin_cases a <;> rfl
  refine (dats m 0 c).arrAt_eq_of_cover 5 _ (fun t hf => ?_) fun i => ⟨t0_0, flush0_5 t0_0, ?_⟩
  · rw [flushed5_A, out_p1, iblk0, iblk1, iblk2, iblk3]
    obtain rfl := fin_N0 t
    exact (Memref.read_access_unit_zero (Elt F) main_v0_1 hz' (fun a => by rw [congrFun hz' a]; simp) _).symm
  · show i ∈ ((View.whole main_v0_1).slice (win0_5.rect t0_0)).set
    rw [View.set_slice_whole, Rect.mem_set_unit]
    intro a
    have h := (i a).isLt
    fin_cases a
    · show 0 * 22 ≤ (i 0 : Nat) ∧ (i 0 : Nat) < 0 * 22 + 22
      have h : (i 0 : Nat) < 22 := (i 0).isLt
      omega
    · show 0 * 8960 ≤ (i 1 : Nat) ∧ (i 1 : Nat) < 0 * 8960 + 8960
      have h : (i 1 : Nat) < 8960 := (i 1).isLt
      omega
    · show 0 * 16 ≤ (i 2 : Nat) ∧ (i 2 : Nat) < 0 * 16 + 16
      have h : (i 2 : Nat) < 16 := (i 2).isLt
      omega

theorem arr_pc (c : Dev nD) : (dats m 0 c).arrAt 6 cfg0.N
    = k0_pay21 (PV (m ((c : Thread nD τ).loc main_arg0)) (m ((c : Thread nD τ).loc main_arg1)) (m ((c : Thread nD τ).loc main_arg2)) (m ((c : Thread nD τ).loc main_arg3))) (I2 (m ((c : Thread nD τ).loc main_arg0)) (m ((c : Thread nD τ).loc main_arg1)) (m ((c : Thread nD τ).loc main_arg2)) (m ((c : Thread nD τ).loc main_arg3))) := by
  have hz' : (fun a => win0_6.index t0_0 a * main_v0_2.ty.shape.size a) = fun _ => 0 := funext fun a => by fin_cases a <;> rfl
  refine (dats m 0 c).arrAt_eq_of_cover 6 _ (fun t hf => ?_) fun i => ⟨t0_0, flush0_6 t0_0, ?_⟩
  · rw [flushed6_A, out_pc, iblk0, iblk1, iblk2, iblk3]
    obtain rfl := fin_N0 t
    exact (Memref.read_access_unit_zero (Elt F) main_v0_2 hz' (fun a => by rw [congrFun hz' a]; simp) _).symm
  · show i ∈ ((View.whole main_v0_2).slice (win0_6.rect t0_0)).set
    rw [View.set_slice_whole, Rect.mem_set_unit]
    intro a
    have h := (i a).isLt
    fin_cases a
    · show 0 * 22 ≤ (i 0 : Nat) ∧ (i 0 : Nat) < 0 * 22 + 22
      have h : (i 0 : Nat) < 22 := (i 0).isLt
      omega
    · show 0 * 8960 ≤ (i 1 : Nat) ∧ (i 1 : Nat) < 0 * 8960 + 8960
      have h : (i 1 : Nat) < 8960 := (i 1).isLt
      omega
    · show 0 * 16 ≤ (i 2 : Nat) ∧ (i 2 : Nat) < 0 * 16 + 16
      have h : (i 2 : Nat) < 16 := (i 2).isLt
      omega

theorem arr_ps (c : Dev nD) : (dats m 0 c).arrAt 7 cfg0.N
    = PS (m ((c : Thread nD τ).loc main_arg0)) (m ((c : Thread nD τ).loc main_arg1)) (m ((c : Thread nD τ).loc main_arg2)) (m ((c : Thread nD τ).loc main_arg3)) := by
  have hz' : (fun a => win0_7.index t0_0 a * main_v0_3.ty.shape.size a) = fun _ => 0 := funext fun a => by fin_cases a <;> rfl
  refine (dats m 0 c).arrAt_eq_of_cover 7 _ (fun t hf => ?_) fun i => ⟨t0_0, flush0_7 t0_0, ?_⟩
  · rw [flushed7_A, out_ps, iblk0, iblk1, iblk2, iblk3]
    obtain rfl := fin_N0 t
    exact (Memref.read_access_unit_zero (Elt F) main_v0_3 hz' (fun a => by rw [congrFun hz' a]; simp) _).symm
  · show i ∈ ((View.whole main_v0_3).slice (win0_7.rect t0_0)).set
    rw [View.set_slice_whole, Rect.mem_set_unit]
    intro a
    have h := (i a).isLt
    fin_cases a
    · show 0 * 22 ≤ (i 0 : Nat) ∧ (i 0 : Nat) < 0 * 22 + 22
      have h : (i 0 : Nat) < 22 := (i 0).isLt
      omega
    · show 0 * 16 ≤ (i 1 : Nat) ∧ (i 1 : Nat) < 0 * 16 + 16
      have h : (i 1 : Nat) < 16 := (i 1).isLt
      omega

theorem arr_qc (c : Dev nD) : (dats m 0 c).arrAt 8 cfg0.N
    = k0_pay24 (k0_pay2 (m ((c : Thread nD τ).loc main_arg0)) (m ((c : Thread nD τ).loc main_arg1))) (PV (m ((c : Thread nD τ).loc main_arg0)) (m ((c : Thread nD τ).loc main_arg1)) (m ((c : Thread nD τ).loc main_arg2)) (m ((c : Thread nD τ).loc main_arg3))) (I2 (m ((c : Thread nD τ).loc main_arg0)) (m ((c : Thread nD τ).loc main_arg1)) (m ((c : Thread nD τ).loc main_arg2)) (m ((c : Thread nD τ).loc main_arg3))) := by
  have hz' : (fun a => win0_8.index t0_0 a * main_v0_4.ty.shape.size a) = fun _ => 0 := funext fun a => by fin_cases a <;> rfl
  refine (dats m 0 c).arrAt_eq_of_cover 8 _ (fun t hf => ?_) fun i => ⟨t0_0, flush0_8 t0_0, ?_⟩
  · rw [flushed8_A, out_qc, iblk0, iblk1, iblk2, iblk3]
    obtain rfl := fin_N0 t
    exact (Memref.read_access_unit_zero (Elt F) main_v0_4 hz' (fun a => by rw [congrFun hz' a]; simp) _).symm
  · show i ∈ ((View.whole main_v0_4).slice (win0_8.rect t0_0)).set
    rw [View.set_slice_whole, Rect.mem_set_unit]
    intro a
    have h := (i a).isLt
    fin_cases a
    · show 0 * 22 ≤ (i 0 : Nat) ∧ (i 0 : Nat) < 0 * 22 + 22
      have h : (i 0 : Nat) < 22 := (i 0).isLt
      omega
    · show 0 * 1536 ≤ (i 1 : Nat) ∧ (i 1 : Nat) < 0 * 1536 + 1536
      have h : (i 1 : Nat) < 1536 := (i 1).isLt
      omega
    · show 0 * 16 ≤ (i 2 : Nat) ∧ (i 2 : Nat) < 0 * 16 + 16
      have h : (i 2 : Nat) < 16 := (i 2).isLt
      omega

theorem arr_qs (c : Dev nD) : (dats m 0 c).arrAt 9 cfg0.N
    = QS (m ((c : Thread nD τ).loc main_arg0)) (m ((c : Thread nD τ).loc main_arg1)) (m ((c : Thread nD τ).loc main_arg2)) (m ((c : Thread nD τ).loc main_arg3)) := by
  have hz' : (fun a => win0_9.index t0_0 a * main_v0_5.ty.shape.size a) = fun _ => 0 := funext fun a => by fin_cases a <;> rfl
  refine (dats m 0 c).arrAt_eq_of_cover 9 _ (fun t hf => ?_) fun i => ⟨t0_0, flush0_9 t0_0, ?_⟩
  · rw [flushed9_A, out_qs, iblk0, iblk1, iblk2, iblk3]
    obtain rfl := fin_N0 t
    exact (Memref.read_access_unit_zero (Elt F) main_v0_5 hz' (fun a => by rw [congrFun hz' a]; simp) _).symm
  · show i ∈ ((View.whole main_v0_5).slice (win0_9.rect t0_0)).set
    rw [View.set_slice_whole, Rect.mem_set_unit]
    intro a
    have h := (i a).isLt
    fin_cases a
    · show 0 * 22 ≤ (i 0 : Nat) ∧ (i 0 : Nat) < 0 * 22 + 22
      have h : (i 0 : Nat) < 22 := (i 0).isLt
      omega
    · show 0 * 16 ≤ (i 1 : Nat) ∧ (i 1 : Nat) < 0 * 16 + 16
      have h : (i 1 : Nat) < 16 := (i 1).isLt
      omega

end Cert.ReferenceIdeal.Hand

end
-- ==== Proof.RefAt.lean ====
/-
  The reference's first product read at an index, over the extended reals.
-/
module

public import proofs.«01_k».proof.Proof.RefRun
public import Idealize.ShloMosaic.Lib.Pointwise

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value

variable (g e : Vec Ideal S22x8960x1536 .bf16) (q : Vec Ideal S22x1536x16 .i8) (s : Vec Ideal S22x16 .f32)

theorem m_at (b : Fin 22) (i : Fin 8960) (d : Fin 1536) : k0_pay2 (F := Ideal) g e (ix3 b i d) = g (ix3 b i d) + e (ix3 b i d) := by
  pointwise [k0_pay2]

theorem p1_at (b : Fin 22) (i : Fin 8960) (r : Fin 16) : k0_pay3 (F := Ideal) g e q s (ix3 b i r)
    = (∑ d : Fin 1536, k0_pay2 (F := Ideal) g e (ix3 b i d) * FloatOps.sitofp (F := Ideal) .bf16 (q (ix3 b d r))) * s (ix2 b r) := by
  pointwise [k0_pay3]

end Cert.ReferenceIdeal.Hand

end
-- ==== Proof.KernelIdealOut.lean ====
/-
  The kernel's run, read: the arguments as the region finds them, and the first product's result as the blocks the body leaves.
-/
module

public import proofs.«01_k».proof.Proof.KernelIdealRun
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen Cert.Steps

variable {F : FTy → Type} [FloatOps F]
variable (m : (ℓ : Loc nD τ sig) → Buf (Elt F) ℓ) (ρ : Dev nD → PrngReg)

/-- A chunked window read at an index. -/
theorem tilesL_at {α : Type} (V : (k : ℕ) → (Rect.unit (s := S1x16x8960) (Loff k) S1x16x256.size (Loff_inb k)).shape.Idx → α)
    (r : Fin 16) (c : Fin 35) (l : Fin 256) (x : S1x16x8960.Idx) (h0 : (x 0).val = 0) (h1 : (x 1).val = r.val) (h2 : (x 2).val = 256 * c.val + l.val) :
    tilesL.asm V x = V c.val (ix3 0 r l) := by
  have e : (Rect.unit (s := S1x16x8960) (Loff c.val) S1x16x256.size (Loff_inb c.val)).emb (ix3 0 r l) = x := by
    funext a
    apply Fin.ext
    show Loff c.val a + 1 * (ix3 0 r l a).val = (x a).val
    fin_cases a
    · show 0 + 1 * 0 = (x 0).val
      omega
    · show 0 + 1 * r.val = (x 1).val
      omega
    · show 256 * (c.val % 35) + 1 * l.val = (x 2).val
      have := c.isLt
      omega
  rw [← e]
  exact tilesL.asm_emb V c.isLt _

/-- The first product's array, over the batches. -/
def P1A (c : Dev nD) : Vec F S22x16x8960 .f32 := fun i => P1W m c (i 0).val (fun a => ⟨![0, (i 1).val, (i 2).val] a, by
  have h1 : (i 1).val < 16 := (i 1).isLt
  have h2 : (i 2).val < 8960 := (i 2).isLt
  fin_cases a
  · exact Nat.zero_lt_one
  · exact h1
  · exact h2⟩)

/-- A block's leading coordinate is the point's number. -/
theorem lead (t : Fin cfg0.N) (y : ℕ) (hy : y < 1) : (BitVec.ofNat 32 (grid0.coords t 0).val).toNat * 1 + 1 * y = t.val := by
  have hc : (grid0.coords t 0).val = t.val := coords_val t
  have ht : t.val < 22 := lt_of_lt_of_eq t.isLt N_0
  rw [hc, BitVec.toNat_ofNat, Nat.mod_eq_of_lt (by omega)]
  omega

theorem arr2 (c : Dev nD) : (dats m 0 c).arrAt 2 cfg0.N = P1A m c := by
  refine (dats m 0 c).arrAt_eq_of_covers 2 _ (by decide +kernel) fun t hf y => ?_
  show (dats m 0 c).after 2 t y = _
  rw [after0_2]
  unfold P1A
  have e0 : ((((cfg0.win 2).blk t).view.emb y) 0).val = t.val := by
    show (BitVec.ofNat 32 (grid0.coords t 0).val).toNat * 1 + 1 * (y 0).val = t.val
    exact lead t _ (y 0).isLt
  rw [e0]
  congr 1
  funext a
  apply Fin.ext
  have hy : (y 0).val < 1 := (y 0).isLt
  fin_cases a
  · show (y 0).val = 0
    omega
  · show (y 1).val = 0 * 16 + 1 * (y 1).val
    omega
  · show (y 2).val = 0 * 8960 + 1 * (y 2).val
    omega

theorem VZ_v2_1 (c : Dev nD) : VZ m c (Proc.devRef .tc main_v2_1) = P1A m c := by
  unfold VZ
  exact (Pipeline.withArrays_arr spec0 (by decide) c _ _ 2).trans (arr2 m c)

theorem flat0 : (List.flatten [hostOps0] : List (HloOp τ sig (Elt F))) = hostOps0 := by simp only [List.flatten_cons, List.flatten_nil, List.append_nil]
theorem flat1 : (List.flatten [hostOps1] : List (HloOp τ sig (Elt F))) = hostOps1 := by simp only [List.flatten_cons, List.flatten_nil, List.append_nil]

theorem v3_eq (c : Dev nD) : StableHlo.after (List.flatten [hostOps1]) (VZ m c) (Proc.devRef .tc main_v3)
    = transpose S22x8960x16 [0, 2, 1] (P1A m c) transposes_S22x16x8960_S22x8960x16_0_2_1 := by
  rw [← VZ_v2_1]
  generalize VZ m c = W
  rw [flat1]
  after_results

theorem v0_eq (c : Dev nD) : qXm m c = transpose S22x16x1536 [0, 2, 1] (m ((c : Thread nD τ).loc main_arg2)) transposes_S22x1536x16_S22x16x1536_0_2_1 := by
  show StableHlo.after (List.flatten [hostOps0]) _ (Proc.devRef .tc main_v0) = _
  rw [flat0]
  after_results
theorem v1_eq (c : Dev nD) : sXm m c = transpose S16x22 [1, 0] (m ((c : Thread nD τ).loc main_arg3)) transposes_S22x16_S16x22_1_0 := by
  show StableHlo.after (List.flatten [hostOps0]) _ (Proc.devRef .tc main_v1) = _
  rw [flat0]
  after_results

end Cert.KernelIdeal.Hand

end
-- ==== Proof.KernelIdealAt.lean ====
/-
  The kernel's operations read at an index, over the extended reals.
-/
module

public import proofs.«01_k».proof.Proof.KernelIdealVals
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen

theorem p1k_at (s : FVec Ideal S16x1 .f32) (M : FVec Ideal S256x1536 .bf16) (q : Vec Ideal S16x1536 .bf16) (r : Fin 16) (l : Fin 256) :
    k0_pay5 (F := Ideal) s M q (ix3 0 r l) = (∑ d : Fin 1536, q (ix2 r d) * M (ix2 l d)) * s (ix2 r 0) := by
  pointwise [k0_pay5]
theorem mk_at (g e : Vec Ideal S1x256x1536 .bf16) (l : Fin 256) (d : Fin 1536) :
    k0_pay1 (F := Ideal) g e (ix2 l d) = g (ix3 0 l d) + e (ix3 0 l d) := by
  pointwise [k0_pay1]
theorem qk_at (q : Vec Ideal S1x16x1536 .i8) (r : Fin 16) (d : Fin 1536) :
    k0_pay211 (F := Ideal) q (ix2 r d) = FloatOps.sitofp (F := Ideal) .bf16 (q (ix3 0 r d)) := by
  pointwise [k0_pay211]
theorem id_at (p : Vec Ideal S1x16x256 .f32) (r : Fin 16) (l : Fin 256) :
    k0_pay28 (F := Ideal) p (ix3 0 r l) = p (ix3 0 r l) := by
  pointwise [k0_pay28]

theorem eq_word (x b : Fin 22) : IntOp.cmpi CmpIPredicate.eq (BitVec.ofNat 32 x.val) (BitVec.ofNat 32 b.val) = BitVec.ofBool (decide (x = b)) := by
  revert x b; decide
theorem sk_at (s : Vec Ideal S16x22 .f32) (b : Fin 22) (r : Fin 16) :
    k0_pay212 (F := Ideal) (BitVec.ofNat 32 b.val) s (ix2 r 0) = s (ix2 r b) := by
  pointwise [k0_pay212]
  rw [Finset.sum_eq_single b]
  · rw [eq_word]; simp [Scalar.select]
  · intro x _ h
    rw [eq_word]; simp [Scalar.select, h]
  · intro h; exact absurd (Finset.mem_univ b) h

end Cert.KernelIdeal.Hand

end
-- ==== Proof.P1Value.lean ====
/-
  The first product: the kernel's chunks hold what the reference computes over whole arrays.
-/
module

public import proofs.«01_k».proof.Proof.KernelIdealOut
public import proofs.«01_k».proof.Proof.KernelIdealAt
public import proofs.«01_k».proof.Proof.RefAt

@[expose] public section

set_option maxRecDepth 16384

noncomputable section

open Idealize.ShloMosaic Idealize.ShloMosaic.TcCoe Idealize.SL.Sem

namespace Cert.KernelIdeal.Hand

open Cert.KernelIdeal Cert.KernelIdeal.Gen Cert.Steps

/-- Row `256 c + l` of the whole array. -/
def rowOf (c : Fin 35) (l : Fin 256) : Fin 8960 := ⟨256 * c.val + l.val, by omega⟩

section Blocks
variable {α : Type} (b : Fin 22) (c : Fin 35)

theorem div_n : (35 * b.val + c.val) / 35 = b.val := by omega

theorem blk_at (X : Vec Ideal S22x8960x1536 .bf16) (l : Fin 256) (d : Fin 1536) :
    blk X (35 * b.val + c.val) (ix3 0 l d) = X (ix3 b (rowOf c l) d) := by
  unfold blk
  congr 1
  funext a
  apply Fin.ext
  show Ooff (35 * b.val + c.val) a + 1 * (ix3 0 l d a).val = (ix3 b (rowOf c l) d a).val
  have hb := b.isLt
  have hc := c.isLt
  fin_cases a
  · show (35 * b.val + c.val) / 35 % 22 + 1 * 0 = b.val
    omega
  · show 256 * ((35 * b.val + c.val) % 35) + 1 * l.val = 256 * c.val + l.val
    omega
  · show 0 + 1 * d.val = d.val
    omega

theorem qb_at (X : Vec Ideal S22x16x1536 .i8) (r : Fin 16) (d : Fin 1536) : qblk X b.val (ix3 0 r d) = X (ix3 b r d) := by
  unfold qblk
  congr 1
  funext a
  apply Fin.ext
  have hb := b.isLt
  fin_cases a
  · show min b.val 21 + 1 * 0 = b.val
    omega
  · show 0 + 1 * r.val = r.val
    omega
  · show 0 + 1 * d.val = d.val
    omega
end Blocks

section Values
variable (g e : Vec Ideal S22x8960x1536 .bf16) (q : Vec Ideal S22x1536x16 .i8) (s : Vec Ideal S22x16 .f32)

/-- The codes and the scales as the kernel is given them. -/
abbrev qT : Vec Ideal S22x16x1536 .i8 := transpose S22x16x1536 [0, 2, 1] q transposes_S22x1536x16_S22x16x1536_0_2_1
abbrev sT : Vec Ideal S16x22 .f32 := transpose S16x22 [1, 0] s transposes_S22x16_S16x22_1_0

theorem qT_at (b : Fin 22) (r : Fin 16) (d : Fin 1536) : qT q (ix3 b r d) = q (ix3 b d r) := by pointwise []
theorem sT_at (b : Fin 22) (r : Fin 16) : sT s (ix2 r b) = s (ix2 b r) := by pointwise []

theorem sum_at (b : Fin 22) (c : Fin 35) (l : Fin 256) (d : Fin 1536) :
    k0_pay1 (F := Ideal) (blk g (35 * b.val + c.val)) (blk e (35 * b.val + c.val)) (ix2 l d)
      = ReferenceIdeal.Gen.k0_pay2 g e (ix3 b (rowOf c l) d) := by
  rw [mk_at, blk_at, blk_at]
  exact (ReferenceIdeal.Hand.m_at g e b (rowOf c l) d).symm

theorem p1_eq (b : Fin 22) (c : Fin 35) (r : Fin 16) (l : Fin 256) :
    P1 g e (qT q) (sT s) (35 * b.val + c.val) (ix3 0 r l)
      = ReferenceIdeal.Gen.k0_pay3 g e q s (ix3 b (rowOf c l) r) := by
  unfold P1 BQ QS
  rw [p1k_at, div_n, Nat.min_eq_left (show b.val ≤ 21 by omega), sk_at, sT_at]
  refine Eq.trans ?_ (ReferenceIdeal.Hand.p1_at g e q s b (rowOf c l) r).symm
  congr 1
  refine Finset.sum_congr rfl fun d _ => ?_
  rw [qk_at, sum_at, qb_at, qT_at]
  exact mul_comm _ _

end Values

variable (m : (ℓ : Loc nD τ sig) → Buf (Elt Ideal) ℓ)

theorem P1A_at (c : Dev nD) (b : Fin 22) (r : Fin 16) (k : Fin 35) (l : Fin 256) :
    P1A m c (ix3 b r (rowOf k l)) = P1 (gXm m c) (eXm m c) (qXm m c) (sXm m c) (35 * b.val + k.val) (ix3 0 r l) := by
  unfold P1A P1W
  refine (tilesL_at _ r k l _ rfl rfl rfl).trans ?_
  exact id_at _ r l

theorem p1_out (c : Dev nD) : transpose S22x8960x16 [0, 2, 1] (P1A m c) transposes_S22x16x8960_S22x8960x16_0_2_1
    = ReferenceIdeal.Gen.k0_pay3 (m ((c : Thread nD τ).loc main_arg0)) (m ((c : Thread nD τ).loc main_arg1))
        (m ((c : Thread nD τ).loc main_arg2)) (m ((c : Thread nD τ).loc main_arg3)) := by
  funext i
  obtain ⟨b, k, r, rfl⟩ : ∃ (b : Fin 22) (k : Fin 8960) (r : Fin 16), i = ix3 b k r := ⟨i 0, i 1, i 2, eq_ix3 i⟩
  obtain ⟨n, l, rfl⟩ : ∃ (n : Fin 35) (l : Fin 256), k = rowOf n l :=
    ⟨⟨k.val / 256, by omega⟩, ⟨k.val % 256, by omega⟩, Fin.ext (by show k.val = 256 * (k.val / 256) + k.val % 256; omega)⟩
  have ht : transpose S22x8960x16 [0, 2, 1] (P1A m c) transposes_S22x16x8960_S22x8960x16_0_2_1 (ix3 b (rowOf n l) r) = P1A m c (ix3 b r (rowOf n l)) := by
    pointwise []
  rw [ht, P1A_at, v0_eq, v1_eq]
  rw [show gXm m c = m ((c : Thread nD τ).loc main_arg0) from V_main_arg0 m c, show eXm m c = m ((c : Thread nD τ).loc main_arg1) from V_main_arg1 m c]
  exact p1_eq _ _ _ _ b n r l

end Cert.KernelIdeal.Hand

end
-- ==== Proof.Folds.lean ====
/-
  The kernel's folds over a batch's 35 chunks, read at an index.
-/
module

public import proofs.«01_k».proof.Proof.P1Value

@[expose] public section

set_option maxRecDepth 16384

noncomputable section

open Idealize.ShloMosaic Idealize.ShloMosaic.TcCoe Idealize.SL.Sem

namespace Cert.KernelIdeal.Hand

open Cert.KernelIdeal Cert.KernelIdeal.Gen

theorem foldN_sum {α : Type} (f : ℕ → α → α) (rd : α → EReal) (t : ℕ → EReal) (h : ∀ c a, rd (f c a) = rd a + t c) (a : α) (h0 : rd a = 0) :
    ∀ n, rd (foldN f a n) = ∑ c ∈ Finset.range n, t c := by
  intro n
  induction n with
  | zero => simpa [foldN] using h0
  | succ n ih => rw [Finset.sum_range_succ, ← ih]; exact h n _

theorem foldN_max {α : Type} (f : ℕ → α → α) (rd : α → EReal) (t : ℕ → EReal) (h : ∀ c a, rd (f c a) = max (rd a) (t c)) (a : α) (z : EReal) :
    ∀ n, rd (foldN f a n) ≤ z ↔ rd a ≤ z ∧ ∀ c, c < n → t c ≤ z := by
  intro n
  induction n with
  | zero => simp [foldN]
  | succ n ih =>
    show rd (f n (foldN f a n)) ≤ z ↔ _
    rw [h, max_le_iff, ih]
    constructor
    · rintro ⟨⟨h1, h2⟩, h3⟩
      refine ⟨h1, fun c hc => ?_⟩
      rcases Nat.lt_succ_iff_lt_or_eq.mp hc with h' | rfl
      · exact h2 c h'
      · exact h3
    · rintro ⟨h1, h2⟩
      exact ⟨⟨h1, fun c hc => h2 c (by omega)⟩, h2 n (by omega)⟩

theorem sum_chunk (f : Fin 8960 → EReal) : ∑ i, f i = ∑ c : Fin 35, ∑ l : Fin 256, f (rowOf c l) := by
  rw [← Fintype.sum_prod_type' (fun c l => f (rowOf c l))]
  refine (Fintype.sum_bijective (fun x : Fin 35 × Fin 256 => rowOf x.1 x.2) ?_ _ _ fun x => rfl).symm
  constructor
  · rintro ⟨c, l⟩ ⟨c', l'⟩ h
    have h : 256 * c.val + l.val = 256 * c'.val + l'.val := congrArg Fin.val h
    have h1 : c = c' := Fin.ext (by omega)
    have h2 : l = l' := Fin.ext (by omega)
    rw [h1, h2]
  · intro k
    exact ⟨(⟨k.val / 256, by omega⟩, ⟨k.val % 256, by omega⟩), Fin.ext (by show 256 * (k.val / 256) + k.val % 256 = k.val; omega)⟩

theorem rowOf_all (k : Fin 8960) : ∃ (c : Fin 35) (l : Fin 256), k = rowOf c l :=
  ⟨⟨k.val / 256, by omega⟩, ⟨k.val % 256, by omega⟩, Fin.ext (by show k.val = 256 * (k.val / 256) + k.val % 256; omega)⟩

theorem sum35 (t : ℕ → EReal) : ∑ c ∈ Finset.range 35, t c = ∑ c : Fin 35, t c.val := (Fin.sum_univ_eq_sum_range t 35).symm

theorem gram_at (a : FVec Ideal S16x16 .f32) (p : Vec Ideal S1x16x256 .f32) (r t : Fin 16) :
    k0_pay30 (F := Ideal) a p (ix2 r t) = a (ix2 r t) + ∑ l : Fin 256, p (ix3 0 r l) * p (ix3 0 t l) := by
  pointwise [k0_pay30]
theorem gram2_at (a : FVec Ideal S16x16 .f32) (p : Vec Ideal S1x16x256 .f32) (r t : Fin 16) :
    k0_pay219 (F := Ideal) a p (ix2 r t) = a (ix2 r t) + ∑ l : Fin 256, p (ix3 0 r l) * p (ix3 0 t l) := by
  pointwise [k0_pay219]
theorem acc_at (a : FVec Ideal S16x1536 .f32) (p : Vec Ideal S1x16x256 .bf16) (M : Vec Ideal S1x256x1536 .bf16) (r : Fin 16) (d : Fin 1536) :
    k0_pay12 (F := Ideal) a p M (ix2 r d) = a (ix2 r d) + ∑ l : Fin 256, p (ix3 0 r l) * M (ix3 0 l d) := by
  pointwise [k0_pay12]
theorem pk_at (q : FVec Ideal S16x1536 .bf16) (M : Vec Ideal S1x256x1536 .bf16) (r : Fin 16) (l : Fin 256) :
    k0_pay20 (F := Ideal) q M (ix3 0 r l) = ∑ d : Fin 1536, q (ix2 r d) * M (ix3 0 l d) := by
  pointwise [k0_pay20]
theorem sumk_at (M : FVec Ideal S256x1536 .bf16) (l : Fin 256) (d : Fin 1536) : k0_pay4 (F := Ideal) M (ix3 0 l d) = M (ix2 l d) := by
  pointwise [k0_pay4]
theorem trunc_at (o : FVec Ideal S16x256 .f32) (r : Fin 16) (l : Fin 256) :
    shapeCast S1x16x256 (truncf .bf16 o bitsLt_bf16_f32) shapeCasts_S16x256_S1x16x256 (ix3 0 r l) = o (ix2 r l) := by
  pointwise []
theorem px_at (o : FVec Ideal S16x256 .f32) (r : Fin 16) (l : Fin 256) :
    shapeCast S1x16x256 o shapeCasts_S16x256_S1x16x256 (ix3 0 r l) = o (ix2 r l) := by
  pointwise []
theorem mx_at (a o : FVec Ideal S16x256 .f32) (r : Fin 16) (l : Fin 256) :
    maximumf a (absf o) (ix2 r l) = max (a (ix2 r l)) (max (o (ix2 r l)) (-o (ix2 r l))) := by
  pointwise []
  rfl

/-- A scale: the largest magnitude over 127, or one where that is zero. -/
def scaleOf (a : EReal) : EReal := if a = 0 then 1 else Ideal.div a (Ideal.ofBits .f32 0x42FE0000#32)
/-- The largest of a family, from minus infinity. -/
def top {n : ℕ} (f : Fin n → EReal) : EReal := Finset.univ.fold max (Ideal.ofBits .f32 0xFF800000#32) f
/-- A quotient rounded and clipped to the codes' range. -/
def clip (a : EReal) : EReal := min (Ideal.ofBits .f32 0x42FE0000#32) (max (Ideal.ofBits .f32 0xC2FE0000#32) (Ideal.liftRound Ideal.roundHalfEven a))

theorem scale_at (a : FVec Ideal S16x256 .f32) (r : Fin 16) :
    k0_pay411 (F := Ideal) a (ix2 r 0) = scaleOf (top fun l : Fin 256 => a (ix2 r l)) := by
  unfold scaleOf top
  pointwise [k0_pay411]
theorem code_at (a : FVec Ideal S16x256 .f32) (p : Vec Ideal S1x16x256 .f32) (r : Fin 16) (l : Fin 256) :
    k0_pay412 (F := Ideal) a p (ix2 r l) = clip (Ideal.div (p (ix3 0 r l)) (k0_pay411 (F := Ideal) a (ix2 r 0))) := by
  unfold k0_pay412 clip
  generalize k0_pay411 (F := Ideal) a = y
  pointwise []
theorem int_at (o : FVec Ideal S16x256 .f32) (r : Fin 16) (l : Fin 256) :
    shapeCast S1x16x256 (fptosi 8 o) shapeCasts_S16x256_S1x16x256 (ix3 0 r l) = FloatOps.fptosi (F := Ideal) (φ := .f32) 8 (o (ix2 r l)) := by
  pointwise []

theorem top_le {n : ℕ} (f : Fin n → EReal) (z : EReal) : top f ≤ z ↔ Ideal.ofBits .f32 0xFF800000#32 ≤ z ∧ ∀ i, f i ≤ z := by
  unfold top
  rw [Finset.fold_max_le]
  simp

end Cert.KernelIdeal.Hand

end
-- ==== Proof.RefVals.lean ====
/-
  The reference's products, scales and codes read at an index.
-/
module

public import proofs.«01_k».proof.Proof.RefAt
public import proofs.«01_k».proof.Proof.Folds

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value
open Cert.KernelIdeal.Hand (scaleOf top clip)

section At
variable (g e : Vec Ideal S22x8960x1536 .bf16) (q : Vec Ideal S22x1536x16 .i8) (s : Vec Ideal S22x16 .f32)

theorem g1_at (b : Fin 22) (r t : Fin 16) : k0_pay4 (F := Ideal) g e q s (ix3 b r t)
    = ∑ i : Fin 8960, k0_pay3 (F := Ideal) g e q s (ix3 b i r) * k0_pay3 (F := Ideal) g e q s (ix3 b i t) := by
  pointwise [k0_pay4]

/-- The first factor's orthonormal columns, the second product and the third. -/
def PoR (I : FVec Ideal S22x16x16 .f32) : FVec Ideal S22x8960x16 .f32 := k0_pay19 (F := Ideal) (k0_pay3 (F := Ideal) g e q s) I
def Q1R (I : FVec Ideal S22x16x16 .f32) : FVec Ideal S22x1536x16 .f32 :=
  matmul dot_S22x8960x1536_S22x8960x16_S22x1536x16_1_1_2_2_0_0 none (k0_pay2 (F := Ideal) g e)
    (truncf .bf16 (PoR g e q s I) bitsLt_bf16_f32) (constant S22x1536x16 .f32 0x00000000#32)

theorem o_at (p : FVec Ideal S22x8960x16 .f32) (I : FVec Ideal S22x16x16 .f32) (b : Fin 22) (i : Fin 8960) (r : Fin 16) :
    k0_pay19 (F := Ideal) p I (ix3 b i r) = ∑ t : Fin 16, p (ix3 b i t) * I (ix3 b r t) := by
  pointwise [k0_pay19]

theorem q1_at (I : FVec Ideal S22x16x16 .f32) (b : Fin 22) (d : Fin 1536) (r : Fin 16) :
    Q1R g e q s I (ix3 b d r) = ∑ i : Fin 8960, k0_pay2 (F := Ideal) g e (ix3 b i d) * PoR g e q s I (ix3 b i r) := by
  pointwise [Q1R]

theorem p_at (I : FVec Ideal S22x16x16 .f32) (b : Fin 22) (i : Fin 8960) (r : Fin 16) :
    k0_pay11 (F := Ideal) g e q s I (ix3 b i r) = ∑ d : Fin 1536, k0_pay2 (F := Ideal) g e (ix3 b i d) * Q1R g e q s I (ix3 b d r) := by
  show matmul dot_S22x8960x1536_S22x1536x16_S22x8960x16_2_1_1_2_0_0 none (k0_pay2 (F := Ideal) g e)
    (truncf .bf16 (Q1R g e q s I) bitsLt_bf16_f32) (constant S22x8960x16 .f32 0x00000000#32) (ix3 b i r) = _
  pointwise []

theorem g2_at (I : FVec Ideal S22x16x16 .f32) (b : Fin 22) (r t : Fin 16) : k0_pay12 (F := Ideal) g e q s I (ix3 b r t)
    = ∑ i : Fin 8960, k0_pay11 (F := Ideal) g e q s I (ix3 b i r) * k0_pay11 (F := Ideal) g e q s I (ix3 b i t) := by
  pointwise [k0_pay12]

end At

theorem max_gen {n0 n1 n2 : ℕ} (x : FVec Ideal ⟨3, ![n0, n1, n2]⟩ .f32) (h : (⟨3, ![n0, n1, n2]⟩ : Shape).Reduces [1] ⟨2, ![n0, n2]⟩) (b : Fin n0) (r : Fin n2) :
    multiReduction .maximumf [1] ⟨2, ![n0, n2]⟩ x 0xFF800000#32 h (.inl rfl) rfl (ix2 b r) = top fun k : Fin n1 => x (ix3 b k r) := by
  unfold top
  pointwise []

theorem scale_aux (y : FVec Ideal S22x16 .f32) (b : Fin 22) (r : Fin 16) :
    select (cmpf .oeq y (broadcast S22x16 (Scalar.ofBits .f32 0x00000000#32 : Ideal .f32))) (broadcast S22x16 (Scalar.ofBits .f32 0x3F800000#32 : Ideal .f32))
      (divf y (broadcast S22x16 (Scalar.ofBits .f32 0x42FE0000#32 : Ideal .f32))) (ix2 b r) = scaleOf (y (ix2 b r)) := by
  unfold scaleOf
  pointwise []

theorem code_aux {n : ℕ} (y : FVec Ideal ⟨3, ![22, n, 16]⟩ .f32) (b : Fin 22) (i : Fin n) (r : Fin 16) :
    fptosi 8 (minimumf (broadcast ⟨3, ![22, n, 16]⟩ (Scalar.ofBits .f32 0x42FE0000#32 : Ideal .f32)) (maximumf (broadcast ⟨3, ![22, n, 16]⟩ (Scalar.ofBits .f32 0xC2FE0000#32 : Ideal .f32)) (roundeven y))) (ix3 b i r)
      = FloatOps.fptosi (F := Ideal) (φ := .f32) 8 (clip (y (ix3 b i r))) := by
  unfold clip
  pointwise []

theorem quot_aux (o : FVec Ideal S22x8960x16 .f32) (sc : FVec Ideal S22x16 .f32) (b : Fin 22) (i : Fin 8960) (r : Fin 16) :
    divf o (broadcastTo S22x8960x16 (shapeCast S22x1x16 sc shapeCasts_S22x16_S22x1x16) broadcasts_S22x1x16_S22x8960x16) (ix3 b i r)
      = Ideal.div (o (ix3 b i r)) (sc (ix2 b r)) := by
  pointwise []
theorem quot_aux2 (o : FVec Ideal S22x1536x16 .f32) (sc : FVec Ideal S22x16 .f32) (b : Fin 22) (i : Fin 1536) (r : Fin 16) :
    divf o (broadcastTo S22x1536x16 (shapeCast S22x1x16 sc shapeCasts_S22x16_S22x1x16) broadcasts_S22x1x16_S22x1536x16) (ix3 b i r)
      = Ideal.div (o (ix3 b i r)) (sc (ix2 b r)) := by
  pointwise []
theorem abs_aux {n : ℕ} (x : FVec Ideal ⟨3, ![22, n, 16]⟩ .f32) (b : Fin 22) (i : Fin n) (r : Fin 16) : absf x (ix3 b i r) = max (x (ix3 b i r)) (-x (ix3 b i r)) := by
  pointwise []
  rfl

section Quant
variable (M : FVec Ideal S22x8960x1536 .bf16) (p : FVec Ideal S22x8960x16 .f32) (I : FVec Ideal S22x16x16 .f32)

theorem sc_at (b : Fin 22) (r : Fin 16) : k0_pay20 (F := Ideal) p I (ix2 b r)
    = scaleOf (top fun i : Fin 8960 => max (k0_pay19 (F := Ideal) p I (ix3 b i r)) (-k0_pay19 (F := Ideal) p I (ix3 b i r))) := by
  unfold k0_pay20
  refine (scale_aux _ b r).trans (congrArg scaleOf ?_)
  exact (max_gen _ _ b r).trans (congrArg top (funext fun i => abs_aux _ b i r))

theorem cd_at (b : Fin 22) (i : Fin 8960) (r : Fin 16) : k0_pay21 (F := Ideal) p I (ix3 b i r)
    = FloatOps.fptosi (F := Ideal) (φ := .f32) 8 (clip (Ideal.div (k0_pay19 (F := Ideal) p I (ix3 b i r)) (k0_pay20 (F := Ideal) p I (ix2 b r)))) := by
  unfold k0_pay21
  generalize k0_pay19 (F := Ideal) p I = o
  generalize k0_pay20 (F := Ideal) p I = sc
  exact (code_aux _ b i r).trans (congrArg (fun x => FloatOps.fptosi (F := Ideal) (φ := .f32) 8 (clip x)) (quot_aux o sc b i r))

theorem qn_at (b : Fin 22) (d : Fin 1536) (r : Fin 16) : k0_pay22 (F := Ideal) M p I (ix3 b d r)
    = (∑ i : Fin 8960, M (ix3 b i d) * FloatOps.sitofp (F := Ideal) .bf16 (k0_pay21 (F := Ideal) p I (ix3 b i r))) * k0_pay20 (F := Ideal) p I (ix2 b r) := by
  unfold k0_pay22
  generalize k0_pay21 (F := Ideal) p I = o
  generalize k0_pay20 (F := Ideal) p I = sc
  pointwise []

theorem qs_at (b : Fin 22) (r : Fin 16) : k0_pay23 (F := Ideal) M p I (ix2 b r)
    = scaleOf (top fun i : Fin 1536 => max (k0_pay22 (F := Ideal) M p I (ix3 b i r)) (-k0_pay22 (F := Ideal) M p I (ix3 b i r))) := by
  unfold k0_pay23
  refine (scale_aux _ b r).trans (congrArg scaleOf ?_)
  exact (max_gen _ _ b r).trans (congrArg top (funext fun i => abs_aux _ b i r))

theorem qc_at (b : Fin 22) (i : Fin 1536) (r : Fin 16) : k0_pay24 (F := Ideal) M p I (ix3 b i r)
    = FloatOps.fptosi (F := Ideal) (φ := .f32) 8 (clip (Ideal.div (k0_pay22 (F := Ideal) M p I (ix3 b i r)) (k0_pay23 (F := Ideal) M p I (ix2 b r)))) := by
  unfold k0_pay24
  generalize k0_pay22 (F := Ideal) M p I = o
  generalize k0_pay23 (F := Ideal) M p I = sc
  exact (code_aux _ b i r).trans (congrArg (fun x => FloatOps.fptosi (F := Ideal) (φ := .f32) 8 (clip x)) (quot_aux2 o sc b i r))

theorem pf_at (b : Fin 22) (i : Fin 8960) (r : Fin 16) : k0_pay25 (F := Ideal) p I (ix3 b i r)
    = FloatOps.sitofp (F := Ideal) .bf16 (k0_pay21 (F := Ideal) p I (ix3 b i r)) := by
  unfold k0_pay25
  generalize k0_pay21 (F := Ideal) p I = o
  pointwise []

theorem er_at (ps qs : FVec Ideal S22x16 .f32) (qc : IVec S22x1536x16 8) (pc : FVec Ideal S22x8960x16 .bf16) (b : Fin 22) (i : Fin 8960) (d : Fin 1536) :
    k0_pay1 (F := Ideal) M ps qs qc pc (ix3 b i d) = M (ix3 b i d)
      - ∑ r : Fin 16, (pc (ix3 b i r) * ps (ix2 b r)) * (FloatOps.sitofp (F := Ideal) .bf16 (qc (ix3 b d r)) * qs (ix2 b r)) := by
  pointwise [k0_pay1]
end Quant

end Cert.ReferenceIdeal.Hand

end
-- ==== Proof.KernelIdealChain.lean ====
/-
  The elimination of a 16 by 16 Gram matrix as the kernel runs it, step by step: sixteen columns, each held
  across 128 lanes, and the inverse factor beside them. Both of the kernel's straight-line eliminations are
  this recursion.
-/
module

public import proofs.«01_k».proof.Proof.KernelIdealVals
public import Idealize.ShloMosaic.Lib.Tactic

@[expose] public section

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]

theorem sl_row (k : ℕ) : S16x128.Slices ![min k 15, 0] S1x128 := by
  refine ⟨rfl, fun a => ?_⟩
  fin_cases a
  · show min k 15 + 1 ≤ 16
    omega
  · show 0 + 128 ≤ 128
    omega
theorem sl_col (k : ℕ) : S16x16.Slices ![0, min k 15] S16x1 := by
  refine ⟨rfl, fun a => ?_⟩
  fin_cases a
  · show 0 + 16 ≤ 16
    omega
  · show min k 15 + 1 ≤ 16
    omega

/-- Row `k`. -/
def rowV (k : ℕ) (v : FVec F S16x128 .f32) : FVec F S1x128 .f32 := extractStridedSlice S1x128 ![min k 15, 0] v (sl_row k)
/-- A row, on every row. -/
def down (v : FVec F S1x128 .f32) : FVec F S16x128 .f32 := broadcastTo S16x128 v broadcasts_S1x128_S16x128
/-- The reciprocal root of the pivot. -/
def rsV (j : ℕ) (c : FVec F S16x128 .f32) : FVec F S1x128 .f32 := rsqrt (rowV j c)
/-- The factor's column `j`, below the diagonal. -/
def lowV (j : ℕ) (c : FVec F S16x128 .f32) : FVec F S16x128 .f32 :=
  select (cmpi .sgt io (broadcast S16x128 (BitVec.ofNat 32 j))) (mulf c (down (rsV j c))) (broadcast S16x128 (Scalar.ofBits .f32 0x00000000#32))
/-- Row `j` of the inverse factor. -/
def invV (j : ℕ) (c x : FVec F S16x128 .f32) : FVec F S1x128 .f32 := mulf (rowV j x) (rsV j c)
def xstep (j : ℕ) (c x : FVec F S16x128 .f32) : FVec F S16x128 .f32 :=
  select (cmpi .eq io (broadcast S16x128 (BitVec.ofNat 32 j)))
    (down (shapeCast S1x128 (invV j c x) shapeCasts_S1x128_S1x128)) (subf x (mulf (lowV j c) (down (invV j c x))))
def cstep (j k : ℕ) (c ck : FVec F S16x128 .f32) : FVec F S16x128 .f32 := subf ck (mulf (lowV j c) (down (rowV k (lowV j c))))

/-- Column `k` of the Gram matrix after `n` steps, and the inverse factor after `n` steps. -/
def colN (G : FVec F S16x16 .f32) : ℕ → ℕ → FVec F S16x128 .f32
  | 0, k => broadcastTo S16x128 (shapeCast S16x1 (extractStridedSlice S16x1 ![0, min k 15] G (sl_col k)) shapeCasts_S16x1_S16x1) broadcasts_S16x1_S16x128
  | n + 1, k => cstep n k (colN G n n) (colN G n k)
def invN (G : FVec F S16x16 .f32) : ℕ → FVec F S16x128 .f32
  | 0 => select (cmpi .eq io (iota .tc S16x128 32 [1] iota_S16x128_d1_w32)) (broadcast S16x128 (Scalar.ofBits .f32 0x3F800000#32))
      (broadcast S16x128 (Scalar.ofBits .f32 0x00000000#32))
  | n + 1 => xstep n (colN G n n) (invN G n)

/-- The inverse factor times a chunk of a product's rows. -/
def ortho (X : FVec F S16x128 .f32) (p : Vec F S1x16x256 .f32) : FVec F S16x256 .f32 :=
  matmul dot_S16x16_S16x256_S16x256_1_0_0_1_n_n (some .fp32) (extractStridedSlice S16x16 ![0, 0] X slices_S16x128_o0_0_S16x16)
    (shapeCast S16x256 p shapeCasts_S1x16x256_S16x256) (constant S16x256 .f32 0x00000000#32)

theorem chain1 (G : FVec F S16x16 .f32) (p : Vec F S1x16x256 .f32) :
    k0_pay210 (ch1 G).1 (ch1 G).2.1 (ch1 G).2.2 p
      = shapeCast S1x16x256 (truncf .bf16 (ortho (invN G 16) p) bitsLt_bf16_f32) shapeCasts_S16x256_S1x16x256 := by
  sl_kernel_rfl

theorem chain2 (G : FVec F S16x16 .f32) (p : Vec F S1x16x256 .f32) :
    k0_pay408 io (ch2 G).1 (ch2 G).2.1 (ch2 G).2.2.1 (ch2 G).2.2.2.1 (ch2 G).2.2.2.2.1 (ch2 G).2.2.2.2.2 p = ortho (invN G 16) p := by
  sl_kernel_rfl

end Cert.KernelIdeal.Hand

end
-- ==== Proof.ElimScalar.lean ====
/-
  The elimination of one 16 by 16 Gram matrix on plain entries: the kernel's columns and the reference's
  batched loop are both this recursion.
-/
module

public import proofs.«01_k».proof.Proof.KernelIdealChain
public import proofs.«01_k».proof.Proof.RefAt

@[expose] public section

set_option maxRecDepth 16384

noncomputable section

open Idealize.ShloMosaic Idealize.ShloMosaic.TcCoe Idealize.SL.Sem

namespace Cert.Elim

/-- Index `n`, capped. -/
def ix (n : ℕ) : Fin 16 := ⟨min n 15, by omega⟩
/-- The factor's column `j`, below the diagonal. -/
def low (j : Fin 16) (G : Fin 16 → Fin 16 → EReal) (i : Fin 16) : EReal := if j < i then G i j * Ideal.rsqrt (G j j) else 0
def gstep (j : Fin 16) (G : Fin 16 → Fin 16 → EReal) (i k : Fin 16) : EReal := G i k - low j G i * low j G k
def xstep (j : Fin 16) (G X : Fin 16 → Fin 16 → EReal) (i t : Fin 16) : EReal :=
  if i = j then X j t * Ideal.rsqrt (G j j) else X i t - low j G i * (X j t * Ideal.rsqrt (G j j))
/-- The Gram matrix and the inverse factor after `n` steps. -/
def gN (G : Fin 16 → Fin 16 → EReal) : ℕ → Fin 16 → Fin 16 → EReal
  | 0 => G
  | n + 1 => gstep (ix n) (gN G n)
def xN (G : Fin 16 → Fin 16 → EReal) : ℕ → Fin 16 → Fin 16 → EReal
  | 0 => fun i t => if i = t then Ideal.ofBits .f32 0x3F800000#32 else 0
  | n + 1 => xstep (ix n) (gN G n) (xN G n)

theorem eqw (x j : Fin 16) : IntOp.cmpi CmpIPredicate.eq (BitVec.ofNat 32 x.val) (BitVec.ofNat 32 j.val) = BitVec.ofBool (decide (x = j)) := by
  revert x j; decide
theorem gtw (x j : Fin 16) : IntOp.cmpi CmpIPredicate.sgt (BitVec.ofNat 32 x.val) (BitVec.ofNat 32 j.val) = BitVec.ofBool (decide (j < x)) := by
  revert x j; decide
theorem sel {α : Type} (p : Prop) [Decidable p] (a b : α) : Scalar.select (BitVec.ofBool (decide p)) a b = if p then a else b := by
  by_cases h : p <;> simp [Scalar.select, h]

theorem foldl_rel {α : Type} {N : ℕ} (f : Fin N → α → α) (R : ℕ → α → Prop) (h : ∀ (j : Fin N) a, R j.val a → R (j.val + 1) (f j a))
    (a : α) (h0 : R 0 a) : R N ((List.finRange N).foldl (fun acc k => f k acc) a) := by
  induction N generalizing a with
  | zero => exact h0
  | succ n ih =>
    rw [List.finRange_succ_last, List.foldl_append, List.foldl_map]
    exact h (Fin.last n) _ (ih (fun j => f j.castSucc) (fun j a => h j.castSucc a) a h0)

end Cert.Elim

end
-- ==== Proof.ElimRef.lean ====
/-
  The reference's elimination loop, one batch at a time, as the recursion on entries.
-/
module

public import proofs.«01_k».proof.Proof.ElimScalar

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value Cert.Elim

theorem iv_eq (n : ℕ) : Scf.iv 0#32 1#32 n = BitVec.ofNat 32 n := by simp [Scf.iv]

/-- Batch `b`. -/
def mat (G : FVec Ideal S22x16x16 .f32) (b : Fin 22) (i k : Fin 16) : EReal := G (ix3 b i k)

variable (j : Fin k0_t1_loop.trips) (J : Fin 16) (hJ : j.val = J.val) (G X : FVec Ideal S22x16x16 .f32) (b : Fin 22)
include hJ

theorem elim6 (i : Fin 16) : k0_pay6 (F := Ideal) j G (ix3 b i 0) = mat G b i J := by
  pointwise [k0_pay6]
  simp only [iv_eq, hJ, eqw, sel]
  rw [Finset.sum_ite_eq' Finset.univ J]; simp [mat]
theorem elim7 : k0_pay7 (F := Ideal) j G (ix3 b 0 0) = Ideal.rsqrt (mat G b J J) := by
  rw [← elim6 j J hJ G b J]
  generalize hy : k0_pay6 (F := Ideal) j G = y
  unfold k0_pay7
  rw [hy]
  pointwise []
  simp only [iv_eq, hJ, eqw, sel]
  rw [Finset.sum_ite_eq' Finset.univ J]; simp
theorem elim8 (i : Fin 16) : k0_pay8 (F := Ideal) j G (ix3 b i 0) = low J (mat G b) i := by
  have h6 := elim6 j J hJ G b i
  have h7 := elim7 j J hJ G b
  unfold k0_pay8
  generalize k0_pay6 (F := Ideal) j G = y at *
  generalize k0_pay7 (F := Ideal) j G = z at *
  pointwise []
  simp only [iv_eq, hJ, gtw, sel, low]
  rw [h6, h7]
theorem elim9 (i t : Fin 16) : k0_pay9 (F := Ideal) j G X (ix3 b i t) = xstep J (mat G b) (mat X b) i t := by
  have h8 := elim8 j J hJ G b i
  have h7 := elim7 j J hJ G b
  unfold k0_pay9
  generalize k0_pay8 (F := Ideal) j G = y at *
  generalize k0_pay7 (F := Ideal) j G = z at *
  pointwise []
  simp only [iv_eq, hJ, eqw, sel, xstep]
  rw [h8, h7, Finset.sum_ite_eq' Finset.univ J]; simp [mat]
theorem elim10 (i k : Fin 16) : k0_pay10 (F := Ideal) j G (ix3 b i k) = gstep J (mat G b) i k := by
  have h8 := elim8 j J hJ G b i
  have h8' := elim8 j J hJ G b k
  unfold k0_pay10
  generalize k0_pay8 (F := Ideal) j G = y at *
  pointwise []
  rw [h8, h8']; rfl
omit hJ

theorem eye_at (i t : Fin 16) : k0_pay5 (F := Ideal) (ix3 b i t) = if i = t then Ideal.ofBits .f32 0x3F800000#32 else 0 := by
  pointwise [k0_pay5]
  simp only [eqw, sel]

theorem inv_at (i t : Fin 16) : inv (F := Ideal) G (ix3 b i t) = xN (mat G b) 16 i t := by
  unfold inv
  rw [Scf.fold_eq]
  have := foldl_rel (N := k0_t1_loop.trips) (elim (F := Ideal)) (fun n a => mat a.1 b = gN (mat G b) n ∧ mat a.2 b = xN (mat G b) n)
    (fun j a h => by
      have hj : j.val < 16 := j.isLt
      have hJ : j.val = (ix j.val).val := by show j.val = min j.val 15; omega
      refine ⟨?_, ?_⟩
      · funext i k
        refine (elim10 j _ hJ a.1 b i k).trans ?_
        rw [h.1]; rfl
      · funext i k
        refine (elim9 j _ hJ a.1 a.2 b i k).trans ?_
        rw [h.1, h.2]; rfl)
    (G, k0_pay5) ⟨rfl, funext fun i => funext fun t => eye_at b i t⟩
  exact congrFun (congrFun this.2 i) t

end Cert.ReferenceIdeal.Hand

end
-- ==== Proof.ElimKernel.lean ====
/-
  The kernel's elimination columns as the recursion on entries.
-/
module

public import proofs.«01_k».proof.Proof.ElimScalar

@[expose] public section

set_option maxRecDepth 16384

noncomputable section

open Idealize.ShloMosaic Idealize.ShloMosaic.TcCoe Idealize.SL.Sem

namespace Cert.KernelIdeal.Hand

open Cert.KernelIdeal Cert.KernelIdeal.Gen Cert.Elim

theorem rowV_at (k : ℕ) (v : FVec Ideal S16x128 .f32) (l : Fin 128) : rowV k v (ix2 0 l) = v (ix2 (ix k) l) := by
  unfold rowV extractStridedSlice
  congr 1
  funext a
  apply Fin.ext
  fin_cases a
  · show min k 15 + 0 = min k 15
    omega
  · show 0 + l.val = l.val
    omega
theorem down_at (v : FVec Ideal S1x128 .f32) (i : Fin 16) (l : Fin 128) : down v (ix2 i l) = v (ix2 0 l) := by
  pointwise [down]
theorem rsV_at (j : ℕ) (c : FVec Ideal S16x128 .f32) (l : Fin 128) : rsV j c (ix2 0 l) = Ideal.rsqrt (c (ix2 (ix j) l)) := by
  rw [← rowV_at j c l]; rfl
theorem ofNat_ix (j : ℕ) (hj : j < 16) : BitVec.ofNat 32 j = BitVec.ofNat 32 (ix j).val := by
  congr 1; show j = min j 15; omega

theorem lowV_at (j : ℕ) (hj : j < 16) (c : FVec Ideal S16x128 .f32) (i : Fin 16) (l : Fin 128) :
    lowV j c (ix2 i l) = if ix j < i then c (ix2 i l) * Ideal.rsqrt (c (ix2 (ix j) l)) else 0 := by
  rw [← rsV_at, ← down_at (rsV j c) i l]
  unfold lowV
  rw [ofNat_ix j hj]
  generalize down (rsV j c) = y
  pointwise []
  simp only [gtw, sel]
theorem invV_at (j : ℕ) (c x : FVec Ideal S16x128 .f32) (l : Fin 128) :
    invV j c x (ix2 0 l) = x (ix2 (ix j) l) * Ideal.rsqrt (c (ix2 (ix j) l)) := by
  rw [← rsV_at, ← rowV_at j x l]; rfl
theorem cstep_at (j k : ℕ) (hj : j < 16) (c ck : FVec Ideal S16x128 .f32) (i : Fin 16) (l : Fin 128) :
    Hand.cstep j k c ck (ix2 i l) = ck (ix2 i l) - lowV j c (ix2 i l) * lowV j c (ix2 (ix k) l) := by
  rw [← rowV_at k (lowV j c) l, ← down_at (rowV k (lowV j c)) i l]; rfl
theorem xstep_at (j : ℕ) (hj : j < 16) (c x : FVec Ideal S16x128 .f32) (i : Fin 16) (l : Fin 128) :
    Hand.xstep j c x (ix2 i l) = if i = ix j then invV j c x (ix2 0 l) else x (ix2 i l) - lowV j c (ix2 i l) * invV j c x (ix2 0 l) := by
  unfold Hand.xstep
  rw [ofNat_ix j hj]
  generalize invV j c x = y
  generalize lowV j c = z
  unfold down
  pointwise []
  simp only [eqw, sel]

/-- A Gram matrix's entries. -/
def ent (G : FVec Ideal S16x16 .f32) (i k : Fin 16) : EReal := G (ix2 i k)

theorem ix_val (k : Fin 16) : ix k.val = k := Fin.ext (by show min k.val 15 = k.val; omega)

theorem col0_at (G : FVec Ideal S16x16 .f32) (k : Fin 16) (i : Fin 16) (l : Fin 128) : colN G 0 k.val (ix2 i l) = G (ix2 i k) := by
  have h : extractStridedSlice S16x1 ![0, min k.val 15] G (sl_col k.val) (ix2 i 0) = G (ix2 i k) := by
    unfold extractStridedSlice
    congr 1
    funext a
    apply Fin.ext
    fin_cases a
    · show 0 + i.val = i.val
      omega
    · show min k.val 15 + 0 = k.val
      omega
  unfold colN
  rw [← h]
  generalize extractStridedSlice S16x1 ![0, min k.val 15] G (sl_col k.val) = y
  pointwise []

theorem col_at (G : FVec Ideal S16x16 .f32) (n : ℕ) (hn : n ≤ 16) : ∀ (k i : Fin 16) (l : Fin 128), colN G n k.val (ix2 i l) = gN (ent G) n i k := by
  induction n with
  | zero => exact fun k i l => col0_at G k i l
  | succ n ih =>
    intro k i l
    have hn' : n < 16 := by omega
    have hv : (ix n).val = n := by show min n 15 = n; omega
    have hc : ∀ i, colN G n n (ix2 i l) = gN (ent G) n i (ix n) := fun i => by
      have := ih (by omega) (ix n) i l
      rwa [hv] at this
    show Hand.cstep n k.val (colN G n n) (colN G n k.val) (ix2 i l) = _
    rw [cstep_at n k.val hn', lowV_at n hn', lowV_at n hn', ih (by omega) k i l, hc, hc, hc, ix_val]
    rfl

theorem inv0_at (G : FVec Ideal S16x16 .f32) (i : Fin 16) (t : Fin 16) :
    invN G 0 (ix2 i ⟨t.val, by omega⟩) = if i = t then Ideal.ofBits .f32 0x3F800000#32 else 0 := by
  unfold invN
  pointwise []
  simp only [eqw, sel]

theorem invN_at (G : FVec Ideal S16x16 .f32) (n : ℕ) (hn : n ≤ 16) : ∀ (i t : Fin 16), invN G n (ix2 i ⟨t.val, by omega⟩) = xN (ent G) n i t := by
  induction n with
  | zero => exact fun i t => inv0_at G i t
  | succ n ih =>
    intro i t
    have hn' : n < 16 := by omega
    have hv : (ix n).val = n := by show min n 15 = n; omega
    have hc : ∀ i l, colN G n n (ix2 i l) = gN (ent G) n i (ix n) := fun i l => by
      have := col_at G n (by omega) (ix n) i l
      rwa [hv] at this
    show Hand.xstep n (colN G n n) (invN G n) (ix2 i ⟨t.val, by omega⟩) = _
    rw [xstep_at n hn', invV_at, lowV_at n hn', hc, hc, ih (by omega), ih (by omega)]
    rfl

theorem ortho_at (X : FVec Ideal S16x128 .f32) (p : Vec Ideal S1x16x256 .f32) (r : Fin 16) (l : Fin 256) :
    ortho X p (ix2 r l) = ∑ t : Fin 16, X (ix2 r ⟨t.val, by omega⟩) * p (ix3 0 t l) := by
  pointwise [ortho]

end Cert.KernelIdeal.Hand

end
-- ==== Proof.CodeValue.lean ====
/-
  The kernel's products, scales and codes chunk by chunk hold what the reference computes over whole arrays.
-/
module

public import proofs.«01_k».proof.Proof.RefVals
public import proofs.«01_k».proof.Proof.ElimRef
public import proofs.«01_k».proof.Proof.ElimKernel

@[expose] public section

set_option maxRecDepth 16384

noncomputable section

open Idealize.ShloMosaic Idealize.ShloMosaic.TcCoe Idealize.SL.Sem

namespace Cert.KernelIdeal.Hand

open Cert.KernelIdeal Cert.KernelIdeal.Gen
open Cert.ReferenceIdeal.Hand (mat I1 PV I2 PS Q1R PoR)

section Values
variable (g e : Vec Ideal S22x8960x1536 .bf16) (q : Vec Ideal S22x1536x16 .i8) (s : Vec Ideal S22x16 .f32) (b : Fin 22)

theorem g1_eq : ent (G1 g e (qT q) (sT s) b.val) = mat (ReferenceIdeal.Gen.k0_pay4 g e q s) b := by
  funext r t
  refine (foldN_sum _ (fun a => a (ix2 r t)) (fun c => ∑ l : Fin 256, P1 g e (qT q) (sT s) (35 * b.val + c) (ix3 0 r l) * P1 g e (qT q) (sT s) (35 * b.val + c) (ix3 0 t l))
    (fun c a => gram_at a _ r t) _ (show (k0_pay29 : FVec Ideal S16x16 .f32) (ix2 r t) = 0 from by pointwise [k0_pay29]) 35).trans ?_
  rw [sum35]
  refine Eq.trans ?_ (ReferenceIdeal.Hand.g1_at g e q s b r t).symm
  rw [sum_chunk]
  refine Finset.sum_congr rfl fun c _ => Finset.sum_congr rfl fun l _ => ?_
  rw [p1_eq, p1_eq]

theorem po_eq (c : Fin 35) (r : Fin 16) (l : Fin 256) :
    PO g e (qT q) (sT s) (35 * b.val + c.val) (ix3 0 r l) = PoR g e q s (I1 g e q s) (ix3 b (rowOf c l) r) := by
  unfold PO
  rw [chain1, div_n, trunc_at, ortho_at]
  refine Eq.trans ?_ (ReferenceIdeal.Hand.o_at _ _ b (rowOf c l) r).symm
  refine Finset.sum_congr rfl fun t _ => ?_
  rw [invN_at _ 16 le_rfl, g1_eq, p1_eq, I1, ReferenceIdeal.Hand.inv_at]
  exact mul_comm _ _

theorem sumV_eq (c : Fin 35) (l : Fin 256) (d : Fin 1536) :
    sumV g e (35 * b.val + c.val) (ix3 0 l d) = ReferenceIdeal.Gen.k0_pay2 g e (ix3 b (rowOf c l) d) := by
  unfold sumV
  rw [sumk_at, sum_at]

theorem q1_eq (r : Fin 16) (d : Fin 1536) : Q1 g e (qT q) (sT s) b.val (ix2 r d) = Q1R g e q s (I1 g e q s) (ix3 b d r) := by
  refine (foldN_sum _ (fun a => a (ix2 r d)) (fun c => ∑ l : Fin 256, PO g e (qT q) (sT s) (35 * b.val + c) (ix3 0 r l) * sumV g e (35 * b.val + c) (ix3 0 l d))
    (fun c a => acc_at a _ _ r d) _ (show (k0_pay213 : FVec Ideal S16x1536 .f32) (ix2 r d) = 0 from by pointwise [k0_pay213]) 35).trans ?_
  rw [sum35]
  refine Eq.trans ?_ (ReferenceIdeal.Hand.q1_at g e q s _ b d r).symm
  rw [sum_chunk]
  refine Finset.sum_congr rfl fun c _ => Finset.sum_congr rfl fun l _ => ?_
  rw [po_eq, sumV_eq]
  exact mul_comm _ _

theorem pb_eq (c : Fin 35) (r : Fin 16) (l : Fin 256) :
    PB g e (qT q) (sT s) (35 * b.val + c.val) (ix3 0 r l) = PV g e q s (ix3 b (rowOf c l) r) := by
  unfold PB
  rw [pk_at, div_n]
  refine Eq.trans ?_ (ReferenceIdeal.Hand.p_at g e q s _ b (rowOf c l) r).symm
  refine Finset.sum_congr rfl fun d _ => ?_
  rw [sumV_eq]
  refine Eq.trans ?_ (congrArg (_ * ·) (q1_eq g e q s b r d))
  exact mul_comm _ _

theorem g2_eq : ent (G2 g e (qT q) (sT s) b.val) = mat (ReferenceIdeal.Gen.k0_pay12 g e q s (I1 g e q s)) b := by
  funext r t
  refine (foldN_sum _ (fun a => a (ix2 r t)) (fun c => ∑ l : Fin 256, PB g e (qT q) (sT s) (35 * b.val + c) (ix3 0 r l) * PB g e (qT q) (sT s) (35 * b.val + c) (ix3 0 t l))
    (fun c a => gram2_at a _ r t) _ (show (k0_pay218 : FVec Ideal S16x16 .f32) (ix2 r t) = 0 from by pointwise [k0_pay218]) 35).trans ?_
  rw [sum35]
  refine Eq.trans ?_ (ReferenceIdeal.Hand.g2_at g e q s _ b r t).symm
  rw [sum_chunk]
  refine Finset.sum_congr rfl fun c _ => Finset.sum_congr rfl fun l _ => ?_
  rw [pb_eq, pb_eq]; rfl

/-- The third product's orthonormal columns. -/
def OR : FVec Ideal ReferenceIdeal.S22x8960x16 .f32 := ReferenceIdeal.Gen.k0_pay19 (PV g e q s) (I2 g e q s)

theorem o2_eq (c : Fin 35) (r : Fin 16) (l : Fin 256) :
    ortho (F := Ideal) (invN (G2 g e (qT q) (sT s) b.val) 16) (PB g e (qT q) (sT s) (35 * b.val + c.val)) (ix2 r l)
      = OR g e q s (ix3 b (rowOf c l) r) := by
  rw [ortho_at]
  refine Eq.trans ?_ (ReferenceIdeal.Hand.o_at _ _ b (rowOf c l) r).symm
  refine Finset.sum_congr rfl fun t _ => ?_
  rw [invN_at _ 16 le_rfl, g2_eq, pb_eq, I2, ReferenceIdeal.Hand.inv_at]
  exact mul_comm _ _

theorem px_eq (c : Fin 35) (r : Fin 16) (l : Fin 256) :
    PX g e (qT q) (sT s) (35 * b.val + c.val) (ix3 0 r l) = OR g e q s (ix3 b (rowOf c l) r) := by
  unfold PX
  rw [div_n, k0_pay409]
  refine (px_at _ r l).trans ?_
  rw [C2, chain2]
  exact o2_eq g e q s b c r l

theorem mx_le (r : Fin 16) (l : Fin 256) (z : EReal) : MX g e (qT q) (sT s) b.val (ix2 r l) ≤ z
    ↔ 0 ≤ z ∧ ∀ c : Fin 35, max (OR g e q s (ix3 b (rowOf c l) r)) (-OR g e q s (ix3 b (rowOf c l) r)) ≤ z := by
  have h0 : (k0_pay407 : FVec Ideal S16x256 .f32) (ix2 r l) = 0 := by pointwise [k0_pay407]
  have hm := foldN_max (fun c a => k0_pay410 (F := Ideal) io (C2 g e (qT q) (sT s) b.val).1 (C2 g e (qT q) (sT s) b.val).2.1 (C2 g e (qT q) (sT s) b.val).2.2.1
      (C2 g e (qT q) (sT s) b.val).2.2.2.1 (C2 g e (qT q) (sT s) b.val).2.2.2.2.1 (C2 g e (qT q) (sT s) b.val).2.2.2.2.2 a (PB g e (qT q) (sT s) (35 * b.val + c)))
    (fun a => a (ix2 r l))
    (fun c => max (ortho (F := Ideal) (invN (G2 g e (qT q) (sT s) b.val) 16) (PB g e (qT q) (sT s) (35 * b.val + c)) (ix2 r l))
      (-ortho (F := Ideal) (invN (G2 g e (qT q) (sT s) b.val) 16) (PB g e (qT q) (sT s) (35 * b.val + c)) (ix2 r l)))
    (fun c a => by
      show k0_pay410 (F := Ideal) _ _ _ _ _ _ _ _ _ _ = _
      unfold k0_pay410
      rw [C2, chain2]
      exact mx_at a _ r l) k0_pay407 z 35
  rw [h0] at hm
  refine hm.trans (and_congr_right fun _ => ⟨fun h c => ?_, fun h c hc => ?_⟩)
  · have := h c.val c.isLt
    rwa [o2_eq] at this
  · have := h ⟨c, hc⟩
    rwa [← o2_eq] at this

theorem zero_le_abs (x : EReal) : 0 ≤ max x (-x) := by
  rcases le_total 0 x with h | h
  · exact le_max_of_le_left h
  · exact le_max_of_le_right (by simpa using EReal.neg_le_neg_iff.mpr h)

theorem top_eq (r : Fin 16) : (top fun l : Fin 256 => MX g e (qT q) (sT s) b.val (ix2 r l))
    = top fun i : Fin 8960 => max (OR g e q s (ix3 b i r)) (-OR g e q s (ix3 b i r)) := by
  refine eq_of_forall_ge_iff fun z => ?_
  rw [top_le, top_le]
  refine and_congr_right fun _ => ⟨fun h i => ?_, fun h l => ?_⟩
  · obtain ⟨c, l, rfl⟩ := rowOf_all i
    exact ((mx_le g e q s b r l z).mp (h l)).2 c
  · exact (mx_le g e q s b r l z).mpr ⟨(zero_le_abs _).trans (h (rowOf 0 l)), fun c => h (rowOf c l)⟩

theorem ps_eq (r : Fin 16) : PSc g e (qT q) (sT s) b.val (ix2 r 0) = PS g e q s (ix2 b r) := by
  unfold PSc
  rw [scale_at, top_eq]
  exact (ReferenceIdeal.Hand.sc_at _ _ b r).symm

theorem pf_eq (c : Fin 35) (r : Fin 16) (l : Fin 256) :
    k0_pay412 (F := Ideal) (MX g e (qT q) (sT s) b.val) (PX g e (qT q) (sT s) (35 * b.val + c.val)) (ix2 r l)
      = clip (Ideal.div (OR g e q s (ix3 b (rowOf c l) r)) (PS g e q s (ix2 b r))) := by
  rw [code_at, px_eq, ← ps_eq]; rfl

theorem pc_eq (c : Fin 35) (r : Fin 16) (l : Fin 256) :
    PCI g e (qT q) (sT s) (35 * b.val + c.val) (ix3 0 r l)
      = ReferenceIdeal.Gen.k0_pay21 (PV g e q s) (I2 g e q s) (ix3 b (rowOf c l) r) := by
  unfold PCI
  rw [div_n, k0_pay414]
  refine (int_at _ r l).trans ?_
  rw [pf_eq]
  exact (ReferenceIdeal.Hand.cd_at _ _ b (rowOf c l) r).symm

end Values

end Cert.KernelIdeal.Hand

end
-- ==== Proof.QuantValue.lean ====
/-
  The second factor's codes and scales, the columns of scales over the batches, and the new error: the
  kernel's values are the reference's.
-/
module

public import proofs.«01_k».proof.Proof.CodeValue

@[expose] public section

set_option maxRecDepth 16384

noncomputable section

open Idealize.ShloMosaic Idealize.ShloMosaic.TcCoe Idealize.SL.Sem

namespace Cert.KernelIdeal.Hand

open Cert.KernelIdeal Cert.KernelIdeal.Gen
open Cert.ReferenceIdeal.Hand (I1 PV I2 PS)

theorem lo_val : Ideal.ofBits .f32 0xC2FE0000#32 = ((-127 : ℝ) : EReal) := by
  simp [Ideal.ofBits, Ideal.ieee]
  rw [← EReal.coe_mul]
  norm_num
theorem hi_val : Ideal.ofBits .f32 0x42FE0000#32 = ((127 : ℝ) : EReal) := by
  simp [Ideal.ofBits, Ideal.ieee]
  rw [← EReal.coe_mul]
  norm_num

/-- A clipped code is an integer between -127 and 127. -/
theorem clip_int (a : EReal) : ∃ n : ℤ, -127 ≤ n ∧ n ≤ 127 ∧ clip a = ((n : ℝ) : EReal) := by
  unfold clip
  rw [lo_val, hi_val]
  induction a using EReal.rec with
  | bot =>
    refine ⟨-127, le_rfl, by norm_num, ?_⟩
    show min _ (max _ (⊥ : EReal)) = _
    rw [max_eq_left bot_le, min_eq_right (by exact_mod_cast (by norm_num : (-127 : ℝ) ≤ 127))]
    norm_num
  | top =>
    refine ⟨127, by norm_num, le_rfl, ?_⟩
    show min _ (max _ (⊤ : EReal)) = _
    rw [max_eq_right le_top, min_eq_left le_top]
    norm_num
  | coe x =>
    refine ⟨min 127 (max (-127) (Ideal.roundHalfEven x)), by omega, by omega, ?_⟩
    show min _ (max _ (((Ideal.roundHalfEven x : ℤ) : ℝ) : EReal)) = _
    rw [← EReal.coe_strictMono.monotone.map_max, ← EReal.coe_strictMono.monotone.map_min]
    push_cast
    rfl

/-- A clipped code survives the round trip through an eight bit integer. -/
theorem round_trip (a : EReal) : FloatOps.sitofp (F := Ideal) .bf16 (FloatOps.fptosi (F := Ideal) (φ := .f32) 8 (clip a)) = clip a := by
  obtain ⟨n, h1, h2, h⟩ := clip_int a
  rw [h]
  show (((BitVec.ofInt 8 (Ideal.toIntClamped _ _ ((n : ℝ) : EReal))).toInt : ℝ) : EReal) = _
  rw [Ideal.toIntClamped_coe]
  congr 2
  simp only [Int.floor_intCast, Int.ceil_intCast, ite_self]
  rw [BitVec.toInt_ofInt]
  norm_num
  rw [min_eq_right (by omega), max_eq_right (by omega)]
  simp only [Int.bmod]
  omega

theorem qnk_at (ps : FVec Ideal S16x1 .f32) (x : FVec Ideal S16x1536 .f32) (r : Fin 16) (d : Fin 1536) :
    k0_pay417 (F := Ideal) ps x (ix2 r d) = x (ix2 r d) * ps (ix2 r 0) := by
  pointwise [k0_pay417]
theorem max_lane (x : FVec Ideal S16x1536 .f32) (r : Fin 16) :
    multiReduction .maximumf [1] S16 x 0xFF800000#32 reduces_S16x1536_S16 (.inl rfl) rfl (ix1 r) = top fun d : Fin 1536 => x (ix2 r d) := by
  unfold top
  pointwise []
theorem scale_aux (y : FVec Ideal S16 .f32) (r : Fin 16) :
    select (cmpf .oeq (shapeCast S16x1 y shapeCasts_S16_S16x1) (broadcast S16x1 (Scalar.ofBits .f32 0x00000000#32 : Ideal .f32))) (broadcast S16x1 (Scalar.ofBits .f32 0x3F800000#32 : Ideal .f32))
      (divf (shapeCast S16x1 y shapeCasts_S16_S16x1) (broadcast S16x1 (Scalar.ofBits .f32 0x42FE0000#32 : Ideal .f32))) (ix2 r 0) = scaleOf (y (ix1 r)) := by
  unfold scaleOf
  pointwise []
theorem abs_at (x : FVec Ideal S16x1536 .f32) (r : Fin 16) (d : Fin 1536) : absf x (ix2 r d) = max (x (ix2 r d)) (-x (ix2 r d)) := by
  pointwise []
  rfl
theorem qs_at (ps : FVec Ideal S16x1 .f32) (x : FVec Ideal S16x1536 .f32) (r : Fin 16) :
    k0_pay418 (F := Ideal) ps x (ix2 r 0) = scaleOf (top fun d : Fin 1536 => max (k0_pay417 (F := Ideal) ps x (ix2 r d)) (-k0_pay417 (F := Ideal) ps x (ix2 r d))) := by
  unfold k0_pay418
  refine (scale_aux _ r).trans (congrArg scaleOf ?_)
  exact (max_lane _ r).trans (congrArg top (funext fun d => abs_at _ r d))
theorem qf_at (ps : FVec Ideal S16x1 .f32) (x : FVec Ideal S16x1536 .f32) (r : Fin 16) (d : Fin 1536) :
    k0_pay419 (F := Ideal) ps x (ix2 r d) = clip (Ideal.div (k0_pay417 (F := Ideal) ps x (ix2 r d)) (k0_pay418 (F := Ideal) ps x (ix2 r 0))) := by
  unfold k0_pay419 clip
  generalize k0_pay418 (F := Ideal) ps x = y
  generalize k0_pay417 (F := Ideal) ps x = z
  pointwise []
theorem qi_at (o : FVec Ideal S16x1536 .f32) (r : Fin 16) (d : Fin 1536) :
    shapeCast S1x16x1536 (fptosi 8 o) shapeCasts_S16x1536_S1x16x1536 (ix3 0 r d) = FloatOps.fptosi (F := Ideal) (φ := .f32) 8 (o (ix2 r d)) := by
  pointwise []
theorem col_sel (n : BitVec 32) (p : FVec Ideal S16x1 .f32) (a : Vec Ideal S16x22 .f32) (r : Fin 16) (x : Fin 22) :
    k0_pay423 (F := Ideal) n p a (ix2 r x) = Scalar.select (IntOp.cmpi CmpIPredicate.eq (BitVec.ofNat 32 x.val) n) (p (ix2 r 0)) (a (ix2 r x)) := by
  pointwise [k0_pay423]
theorem col_sel2 (n : BitVec 32) (p : FVec Ideal S16x1 .f32) (a : Vec Ideal S16x22 .f32) (r : Fin 16) (x : Fin 22) :
    k0_pay425 (F := Ideal) p (k0_pay424 n) a (ix2 r x) = Scalar.select (IntOp.cmpi CmpIPredicate.eq (BitVec.ofNat 32 x.val) n) (p (ix2 r 0)) (a (ix2 r x)) := by
  pointwise [k0_pay425, k0_pay424]
theorem ev_at (ps qs : FVec Ideal S16x1 .f32) (qf : FVec Ideal S16x1536 .f32) (pc : Vec Ideal S1x16x256 .bf16) (M : Vec Ideal S1x256x1536 .bf16) (l : Fin 256) (d : Fin 1536) :
    k0_pay426 (F := Ideal) ps qs qf pc M (ix3 0 l d) = M (ix3 0 l d)
      - ∑ r : Fin 16, (pc (ix3 0 r l) * ps (ix2 r 0)) * (qf (ix2 r d) * qs (ix2 r 0)) := by
  pointwise [k0_pay426]

/-- A fold that overwrites one column a batch holds each batch's column. -/
theorem foldN_cols {α : Type} (f : ℕ → α → α) (rd : Fin 22 → α → EReal) (v : ℕ → EReal)
    (h : ∀ (n : Fin 22) a x, rd x (f n.val a) = if x = n then v n.val else rd x a) (a : α) :
    ∀ n, n ≤ 22 → ∀ x : Fin 22, x.val < n → rd x (foldN f a n) = v x.val := by
  intro n
  induction n with
  | zero => intro _ x hx; omega
  | succ n ih =>
    intro hn x hx
    have hs := h ⟨n, by omega⟩ (foldN f a n) x
    refine Eq.trans hs ?_
    by_cases hxn : x = ⟨n, by omega⟩
    · rw [if_pos hxn, hxn]
    · rw [if_neg hxn]
      exact ih (by omega) x (by have : x.val ≠ n := fun h => hxn (Fin.ext h); omega)

section Values
variable (g e : Vec Ideal S22x8960x1536 .bf16) (q : Vec Ideal S22x1536x16 .i8) (s : Vec Ideal S22x16 .f32) (b : Fin 22)

theorem pcf_eq (c : Fin 35) (r : Fin 16) (l : Fin 256) :
    PCF g e (qT q) (sT s) (35 * b.val + c.val) (ix3 0 r l)
      = FloatOps.sitofp (F := Ideal) .bf16 (ReferenceIdeal.Gen.k0_pay21 (PV g e q s) (I2 g e q s) (ix3 b (rowOf c l) r)) := by
  unfold PCF
  rw [div_n, k0_pay413]
  refine (trunc_at _ r l).trans ?_
  rw [pf_eq, ← round_trip]
  exact congrArg _ (ReferenceIdeal.Hand.cd_at _ _ b (rowOf c l) r).symm

theorem qn_eq (r : Fin 16) (d : Fin 1536) :
    k0_pay417 (F := Ideal) (PSc g e (qT q) (sT s) b.val) (QN g e (qT q) (sT s) b.val) (ix2 r d)
      = ReferenceIdeal.Gen.k0_pay22 (ReferenceIdeal.Gen.k0_pay2 g e) (PV g e q s) (I2 g e q s) (ix3 b d r) := by
  have h : QN g e (qT q) (sT s) b.val (ix2 r d) = ∑ i : Fin 8960, ReferenceIdeal.Gen.k0_pay2 g e (ix3 b i d)
      * FloatOps.sitofp (F := Ideal) .bf16 (ReferenceIdeal.Gen.k0_pay21 (PV g e q s) (I2 g e q s) (ix3 b i r)) := by
    refine (foldN_sum _ (fun a => a (ix2 r d)) (fun c => ∑ l : Fin 256, PCF g e (qT q) (sT s) (35 * b.val + c) (ix3 0 r l) * sumV g e (35 * b.val + c) (ix3 0 l d))
      (fun c a => acc_at a _ _ r d) _ (show (k0_pay415 : FVec Ideal S16x1536 .f32) (ix2 r d) = 0 from by pointwise [k0_pay415]) 35).trans ?_
    rw [sum35, sum_chunk]
    refine Finset.sum_congr rfl fun c _ => Finset.sum_congr rfl fun l _ => ?_
    rw [pcf_eq, sumV_eq]
    exact mul_comm _ _
  rw [qnk_at, h, ps_eq]
  exact (ReferenceIdeal.Hand.qn_at _ _ _ b d r).symm

theorem qs_eq (r : Fin 16) : QNS g e (qT q) (sT s) b.val (ix2 r 0) = ReferenceIdeal.Hand.QS g e q s (ix2 b r) := by
  unfold QNS
  rw [qs_at]
  refine Eq.trans ?_ (ReferenceIdeal.Hand.qs_at _ _ _ b r).symm
  congr 2
  funext d
  rw [qn_eq]

theorem qf_eq (r : Fin 16) (d : Fin 1536) : QNF g e (qT q) (sT s) b.val (ix2 r d)
    = clip (Ideal.div (ReferenceIdeal.Gen.k0_pay22 (ReferenceIdeal.Gen.k0_pay2 g e) (PV g e q s) (I2 g e q s) (ix3 b d r))
        (ReferenceIdeal.Hand.QS g e q s (ix2 b r))) := by
  unfold QNF
  rw [qf_at, qn_eq, ← qs_eq]; rfl

theorem qc_eq (r : Fin 16) (d : Fin 1536) : QNC g e (qT q) (sT s) b.val (ix3 0 r d)
    = ReferenceIdeal.Gen.k0_pay24 (ReferenceIdeal.Gen.k0_pay2 g e) (PV g e q s) (I2 g e q s) (ix3 b d r) := by
  unfold QNC k0_pay420
  refine (qi_at _ r d).trans ?_
  refine Eq.trans ?_ (ReferenceIdeal.Hand.qc_at _ _ _ b d r).symm
  exact congrArg _ (qf_eq g e q s b r d)

theorem pso_eq (r : Fin 16) : PSO g e (qT q) (sT s) 22 (ix2 r b) = PS g e q s (ix2 b r) := by
  rw [← ps_eq]
  refine foldN_cols (α := Vec Ideal S16x22 .f32) _ (fun x a => a (ix2 r x)) (fun n => PSc g e (qT q) (sT s) n (ix2 r 0)) (fun n a x => ?_) _ 22 le_rfl b b.isLt
  refine (col_sel _ _ _ r x).trans ?_
  rw [eq_word, Cert.Elim.sel]

theorem qno_eq (r : Fin 16) : QNO g e (qT q) (sT s) 22 (ix2 r b) = ReferenceIdeal.Hand.QS g e q s (ix2 b r) := by
  rw [← qs_eq]
  refine foldN_cols (α := Vec Ideal S16x22 .f32) _ (fun x a => a (ix2 r x)) (fun n => QNS g e (qT q) (sT s) n (ix2 r 0)) (fun n a x => ?_) _ 22 le_rfl b b.isLt
  refine (col_sel2 _ _ _ r x).trans ?_
  rw [eq_word, Cert.Elim.sel]

theorem ev_eq (c : Fin 35) (l : Fin 256) (d : Fin 1536) : EV g e (qT q) (sT s) (35 * b.val + c.val) (ix3 0 l d)
    = ReferenceIdeal.Gen.k0_pay1 (ReferenceIdeal.Gen.k0_pay2 g e) (PS g e q s) (ReferenceIdeal.Hand.QS g e q s)
        (ReferenceIdeal.Gen.k0_pay24 (ReferenceIdeal.Gen.k0_pay2 g e) (PV g e q s) (I2 g e q s))
        (ReferenceIdeal.Gen.k0_pay25 (PV g e q s) (I2 g e q s)) (ix3 b (rowOf c l) d) := by
  unfold EV
  rw [ev_at, div_n, sumV_eq]
  refine Eq.trans ?_ (ReferenceIdeal.Hand.er_at _ _ _ _ _ b (rowOf c l) d).symm
  refine congrArg (_ - ·) (Finset.sum_congr rfl fun r _ => ?_)
  rw [pcf_eq, ps_eq, qs_eq, qf_eq, ReferenceIdeal.Hand.pf_at, ReferenceIdeal.Hand.qc_at, round_trip]
  rfl

end Values

end Cert.KernelIdeal.Hand

end
-- ==== Proof.KernelIdealOutAll.lean ====
/-
  The kernel's run, read: all six results as the blocks the body leaves.
-/
module

public import proofs.«01_k».proof.Proof.KernelIdealOut

@[expose] public section

set_option maxRecDepth 16384

noncomputable section

open Idealize.ShloMosaic Idealize.ShloMosaic.TcCoe Idealize.SL.Sem

namespace Cert.KernelIdeal.Hand

open Cert.KernelIdeal Cert.KernelIdeal.Gen Cert.Steps

variable {F : FTy → Type} [FloatOps F]
variable (m : (ℓ : Loc nD τ sig) → Buf (Elt F) ℓ) (ρ : Dev nD → PrngReg)

/-- The third product's codes over the batches. -/
def PCA (c : Dev nD) : Vec F S22x16x8960 .i8 := fun i => PCW m c (i 0).val (fun a => ⟨![0, (i 1).val, (i 2).val] a, by
  have h1 : (i 1).val < 16 := (i 1).isLt
  have h2 : (i 2).val < 8960 := (i 2).isLt
  fin_cases a
  · exact Nat.zero_lt_one
  · exact h1
  · exact h2⟩)
/-- The second factor's codes over the batches. -/
def QCA (c : Dev nD) : Vec F S22x16x1536 .i8 := fun i => QNC (gXm m c) (eXm m c) (qXm m c) (sXm m c) (i 0).val (ix3 0 ⟨(i 1).val, (i 1).isLt⟩ ⟨(i 2).val, (i 2).isLt⟩)

theorem arr3 (c : Dev nD) : (dats m 0 c).arrAt 3 cfg0.N = PCA m c := by
  refine (dats m 0 c).arrAt_eq_of_covers 3 _ (by decide +kernel) fun t hf y => ?_
  show (dats m 0 c).after 3 t y = _
  rw [after0_3]
  unfold PCA
  have e0 : ((((cfg0.win 3).blk t).view.emb y) 0).val = t.val := by
    show (BitVec.ofNat 32 (grid0.coords t 0).val).toNat * 1 + 1 * (y 0).val = t.val
    exact lead t _ (y 0).isLt
  rw [e0]
  congr 1
  funext a
  apply Fin.ext
  have hy : (y 0).val < 1 := (y 0).isLt
  fin_cases a
  · show (y 0).val = 0
    omega
  · show (y 1).val = 0 * 16 + 1 * (y 1).val
    omega
  · show (y 2).val = 0 * 8960 + 1 * (y 2).val
    omega

theorem arr5 (c : Dev nD) : (dats m 0 c).arrAt 5 cfg0.N = QCA m c := by
  refine (dats m 0 c).arrAt_eq_of_covers 5 _ (by decide +kernel) fun t hf y => ?_
  show (dats m 0 c).after 5 t y = _
  rw [after0_5]
  unfold QCA
  have e0 : ((((cfg0.win 5).blk t).view.emb y) 0).val = t.val := by
    show (BitVec.ofNat 32 (grid0.coords t 0).val).toNat * 1 + 1 * (y 0).val = t.val
    exact lead t _ (y 0).isLt
  rw [e0]
  congr 1
  funext a
  apply Fin.ext
  have hy : (y 0).val < 1 := (y 0).isLt
  fin_cases a
  · show (y 0).val = 0
    omega
  · show (y 1).val = 0 * 16 + 1 * (y 1).val
    omega
  · show (y 2).val = 0 * 1536 + 1 * (y 2).val
    omega

theorem arr4 (c : Dev nD) : (dats m 0 c).arrAt 4 cfg0.N = PSO (gXm m c) (eXm m c) (qXm m c) (sXm m c) 22 := by
  refine (dats m 0 c).arrAt_eq_of_covers 4 _ (by decide +kernel) fun t hf y => ?_
  have ht := (flush0_4 _).mp hf
  show (dats m 0 c).after 4 t y = _
  have hlt : t.val < 22 := lt_of_lt_of_eq t.isLt N_0
  rw [after0_4, show t.val + 1 = 22 by omega]
  congr 1
  funext a
  apply Fin.ext
  fin_cases a
  · show (y 0).val = 0 * 16 + 1 * (y 0).val
    omega
  · show (y 1).val = 0 * 22 + 1 * (y 1).val
    omega

theorem arr6 (c : Dev nD) : (dats m 0 c).arrAt 6 cfg0.N = QNO (gXm m c) (eXm m c) (qXm m c) (sXm m c) 22 := by
  refine (dats m 0 c).arrAt_eq_of_covers 6 _ (by decide +kernel) fun t hf y => ?_
  have ht := (flush0_6 _).mp hf
  show (dats m 0 c).after 6 t y = _
  have hlt : t.val < 22 := lt_of_lt_of_eq t.isLt N_0
  rw [after0_6, show t.val + 1 = 22 by omega]
  congr 1
  funext a
  apply Fin.ext
  fin_cases a
  · show (y 0).val = 0 * 16 + 1 * (y 0).val
    omega
  · show (y 1).val = 0 * 22 + 1 * (y 1).val
    omega

theorem VZ_v2_2 (c : Dev nD) : VZ m c (Proc.devRef .tc main_v2_2) = PCA m c := by
  unfold VZ
  exact (Pipeline.withArrays_arr spec0 (by decide) c _ _ 3).trans (arr3 m c)
theorem VZ_v2_3 (c : Dev nD) : VZ m c (Proc.devRef .tc main_v2_3) = PSO (gXm m c) (eXm m c) (qXm m c) (sXm m c) 22 := by
  unfold VZ
  exact (Pipeline.withArrays_arr spec0 (by decide) c _ _ 4).trans (arr4 m c)
theorem VZ_v2_4 (c : Dev nD) : VZ m c (Proc.devRef .tc main_v2_4) = QCA m c := by
  unfold VZ
  exact (Pipeline.withArrays_arr spec0 (by decide) c _ _ 5).trans (arr5 m c)
theorem VZ_v2_5 (c : Dev nD) : VZ m c (Proc.devRef .tc main_v2_5) = QNO (gXm m c) (eXm m c) (qXm m c) (sXm m c) 22 := by
  unfold VZ
  exact (Pipeline.withArrays_arr spec0 (by decide) c _ _ 6).trans (arr6 m c)
theorem VZ_v2_0 (c : Dev nD) : VZ m c (Proc.devRef .tc main_v2_0) = OUT (gXm m c) (eXm m c) (qXm m c) (sXm m c) := by
  unfold VZ
  rw [Pipeline.withArrays_of_ne _ c _ _ main_v2_0 (by decide), Pipeline.withR_of_mem _ _ _ _ main_v2_0 (by decide)]
  exact Gm_out m c

theorem out4_eq (c : Dev nD) : StableHlo.after (List.flatten [hostOps1]) (VZ m c) (Proc.devRef .tc main_v4)
    = transpose S22x8960x16 [0, 2, 1] (PCA m c) transposes_S22x16x8960_S22x8960x16_0_2_1 := by
  rw [← VZ_v2_2]
  generalize VZ m c = W
  rw [flat1]
  after_results
theorem out5_eq (c : Dev nD) : StableHlo.after (List.flatten [hostOps1]) (VZ m c) (Proc.devRef .tc main_v5)
    = transpose S22x16 [1, 0] (PSO (gXm m c) (eXm m c) (qXm m c) (sXm m c) 22) transposes_S16x22_S22x16_1_0 := by
  rw [← VZ_v2_3]
  generalize VZ m c = W
  rw [flat1]
  after_results
theorem out6_eq (c : Dev nD) : StableHlo.after (List.flatten [hostOps1]) (VZ m c) (Proc.devRef .tc main_v6)
    = transpose S22x1536x16 [0, 2, 1] (QCA m c) transposes_S22x16x1536_S22x1536x16_0_2_1 := by
  rw [← VZ_v2_4]
  generalize VZ m c = W
  rw [flat1]
  after_results
theorem out7_eq (c : Dev nD) : StableHlo.after (List.flatten [hostOps1]) (VZ m c) (Proc.devRef .tc main_v7)
    = transpose S22x16 [1, 0] (QNO (gXm m c) (eXm m c) (qXm m c) (sXm m c) 22) transposes_S16x22_S22x16_1_0 := by
  rw [← VZ_v2_5]
  generalize VZ m c = W
  rw [flat1]
  after_results

/-- The run, read: the six results, and the arguments unchanged. -/
theorem run_all : θ_run defs (onTc (τ := τ) (main (F := F))) ⟨m, fun _ => 0, ρ⟩ (fun r => ∀ c : Dev nD,
      r.2.mem ((c.tc : Thread nD τ).loc main_v2_0) = OUT (gXm m c) (eXm m c) (qXm m c) (sXm m c)
      ∧ r.2.mem ((c.tc : Thread nD τ).loc main_v3) = transpose S22x8960x16 [0, 2, 1] (P1A m c) transposes_S22x16x8960_S22x8960x16_0_2_1
      ∧ r.2.mem ((c.tc : Thread nD τ).loc main_v4) = transpose S22x8960x16 [0, 2, 1] (PCA m c) transposes_S22x16x8960_S22x8960x16_0_2_1
      ∧ r.2.mem ((c.tc : Thread nD τ).loc main_v5) = transpose S22x16 [1, 0] (PSO (gXm m c) (eXm m c) (qXm m c) (sXm m c) 22) transposes_S16x22_S22x16_1_0
      ∧ r.2.mem ((c.tc : Thread nD τ).loc main_v6) = transpose S22x1536x16 [0, 2, 1] (QCA m c) transposes_S22x16x1536_S22x1536x16_0_2_1
      ∧ r.2.mem ((c.tc : Thread nD τ).loc main_v7) = transpose S22x16 [1, 0] (QNO (gXm m c) (eXm m c) (qXm m c) (sXm m c) 22) transposes_S16x22_S22x16_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v2_0 (Pipeline.mem_restRefs_of main_v2_0 (by decide) (by decide))).trans
        ((tail_keep _ main_v2_0 (by decide) (by decide) (by decide) (by decide) (by decide)).trans (VZ_v2_0 m c)),
      ((h.1 c).2 main_v3 (Pipeline.mem_restRefs_of main_v3 (by decide) (by decide))).trans (v3_eq m c),
      ((h.1 c).2 main_v4 (Pipeline.mem_restRefs_of main_v4 (by decide) (by decide))).trans (out4_eq m c),
      ((h.1 c).2 main_v5 (Pipeline.mem_restRefs_of main_v5 (by decide) (by decide))).trans (out5_eq m c),
      ((h.1 c).2 main_v6 (Pipeline.mem_restRefs_of main_v6 (by decide) (by decide))).trans (out6_eq m c),
      ((h.1 c).2 main_v7 (Pipeline.mem_restRefs_of main_v7 (by decide) (by decide))).trans (out7_eq m c),
      args_keep m c (h.1 c).2⟩)
    (run_main m ρ)

end Cert.KernelIdeal.Hand

end
-- ==== Proof.AllValue.lean ====
/-
  The kernel's six results are the reference's.
-/
module

public import proofs.«01_k».proof.Proof.QuantValue
public import proofs.«01_k».proof.Proof.KernelIdealOutAll

@[expose] public section

set_option maxRecDepth 16384

noncomputable section

open Idealize.ShloMosaic Idealize.ShloMosaic.TcCoe Idealize.SL.Sem

namespace Cert.KernelIdeal.Hand

open Cert.KernelIdeal Cert.KernelIdeal.Gen Cert.Steps
open Cert.ReferenceIdeal.Hand (I1 PV I2 PS)

/-- The whole array tiled by the blocks, read at an index. -/
theorem tilesO_at {α : Type} (V : (k : ℕ) → (Rect.unit (s := S22x8960x1536) (Ooff k) S1x256x1536.size (Ooff_inb k)).shape.Idx → α)
    (b : Fin 22) (c : Fin 35) (l : Fin 256) (d : Fin 1536) : tilesO.asm V (ix3 b (rowOf c l) d) = V (35 * b.val + c.val) (ix3 0 l d) := by
  have hb := b.isLt
  have hc := c.isLt
  have e : (Rect.unit (s := S22x8960x1536) (Ooff (35 * b.val + c.val)) S1x256x1536.size (Ooff_inb (35 * b.val + c.val))).emb (ix3 0 l d) = ix3 b (rowOf c l) d := by
    funext a
    apply Fin.ext
    show Ooff (35 * b.val + c.val) a + 1 * (ix3 0 l d a).val = (ix3 b (rowOf c l) d a).val
    fin_cases a
    · show (35 * b.val + c.val) / 35 % 22 + 1 * 0 = b.val
      omega
    · show 256 * ((35 * b.val + c.val) % 35) + 1 * l.val = 256 * c.val + l.val
      omega
    · show 0 + 1 * d.val = d.val
      omega
  rw [← e]
  exact tilesO.asm_emb V (by omega) _

variable (m : (ℓ : Loc nD τ sig) → Buf (Elt Ideal) ℓ) (c : Dev nD)

/-- The four arguments. -/
abbrev a0 : Vec Ideal S22x8960x1536 .bf16 := m ((c : Thread nD τ).loc main_arg0)
abbrev a1 : Vec Ideal S22x8960x1536 .bf16 := m ((c : Thread nD τ).loc main_arg1)
abbrev a2 : Vec Ideal S22x1536x16 .i8 := m ((c : Thread nD τ).loc main_arg2)
abbrev a3 : Vec Ideal S22x16 .f32 := m ((c : Thread nD τ).loc main_arg3)

/-- The reference's values on them: the sum, the third product, the second inverse factor, the scales. -/
abbrev mR := ReferenceIdeal.Gen.k0_pay2 (F := Ideal) (a0 m c) (a1 m c)
abbrev pR := PV (a0 m c) (a1 m c) (a2 m c) (a3 m c)
abbrev iR := I2 (a0 m c) (a1 m c) (a2 m c) (a3 m c)
abbrev psR := PS (a0 m c) (a1 m c) (a2 m c) (a3 m c)
abbrev qsR := ReferenceIdeal.Hand.QS (a0 m c) (a1 m c) (a2 m c) (a3 m c)

theorem gX_eq : gXm m c = a0 m c := V_main_arg0 m c
theorem eX_eq : eXm m c = a1 m c := V_main_arg1 m c

theorem err_out : OUT (gXm m c) (eXm m c) (qXm m c) (sXm m c)
    = ReferenceIdeal.Gen.k0_pay1 (F := Ideal) (mR m c) (psR m c) (qsR m c)
        (ReferenceIdeal.Gen.k0_pay24 (F := Ideal) (mR m c) (pR m c) (iR m c))
        (ReferenceIdeal.Gen.k0_pay25 (F := Ideal) (pR m c) (iR m c)) := by
  funext i
  obtain ⟨b, k, d, rfl⟩ : ∃ (b : Fin 22) (k : Fin 8960) (d : Fin 1536), i = ix3 b k d := ⟨i 0, i 1, i 2, eq_ix3 i⟩
  obtain ⟨n, l, rfl⟩ := rowOf_all k
  rw [v0_eq, v1_eq, gX_eq, eX_eq]
  unfold OUT
  exact (tilesO_at _ b n l d).trans (ev_eq _ _ _ _ b n l d)

theorem PCA_at (b : Fin 22) (r : Fin 16) (k : Fin 35) (l : Fin 256) :
    PCA m c (ix3 b r (rowOf k l)) = PCI (F := Ideal) (gXm m c) (eXm m c) (qXm m c) (sXm m c) (35 * b.val + k.val) (ix3 0 r l) := by
  unfold PCA PCW
  exact tilesL_at _ r k l _ rfl rfl rfl

theorem pc_out : transpose S22x8960x16 [0, 2, 1] (PCA m c) transposes_S22x16x8960_S22x8960x16_0_2_1
    = ReferenceIdeal.Gen.k0_pay21 (F := Ideal) (pR m c) (iR m c) := by
  funext i
  obtain ⟨b, k, r, rfl⟩ : ∃ (b : Fin 22) (k : Fin 8960) (r : Fin 16), i = ix3 b k r := ⟨i 0, i 1, i 2, eq_ix3 i⟩
  obtain ⟨n, l, rfl⟩ := rowOf_all k
  have ht : transpose S22x8960x16 [0, 2, 1] (PCA m c) transposes_S22x16x8960_S22x8960x16_0_2_1 (ix3 b (rowOf n l) r) = PCA m c (ix3 b r (rowOf n l)) := by
    pointwise []
  rw [ht, PCA_at, v0_eq, v1_eq, gX_eq, eX_eq]
  exact pc_eq _ _ _ _ b n r l

theorem ps_out : transpose S22x16 [1, 0] (PSO (F := Ideal) (gXm m c) (eXm m c) (qXm m c) (sXm m c) 22) transposes_S16x22_S22x16_1_0
    = psR m c := by
  rw [v0_eq, v1_eq, gX_eq, eX_eq]
  funext i
  obtain ⟨b, r, rfl⟩ : ∃ (b : Fin 22) (r : Fin 16), i = ix2 b r := ⟨i 0, i 1, eq_ix2 i⟩
  unfold psR
  rw [← pso_eq]
  generalize PSO (F := Ideal) _ _ _ _ 22 = y
  pointwise []

theorem qs_out : transpose S22x16 [1, 0] (QNO (F := Ideal) (gXm m c) (eXm m c) (qXm m c) (sXm m c) 22) transposes_S16x22_S22x16_1_0
    = qsR m c := by
  rw [v0_eq, v1_eq, gX_eq, eX_eq]
  funext i
  obtain ⟨b, r, rfl⟩ : ∃ (b : Fin 22) (r : Fin 16), i = ix2 b r := ⟨i 0, i 1, eq_ix2 i⟩
  unfold qsR
  rw [← qno_eq]
  generalize QNO (F := Ideal) _ _ _ _ 22 = y
  pointwise []

theorem qc_out : transpose S22x1536x16 [0, 2, 1] (QCA m c) transposes_S22x16x1536_S22x1536x16_0_2_1
    = ReferenceIdeal.Gen.k0_pay24 (F := Ideal) (mR m c) (pR m c) (iR m c) := by
  funext i
  obtain ⟨b, d, r, rfl⟩ : ∃ (b : Fin 22) (d : Fin 1536) (r : Fin 16), i = ix3 b d r := ⟨i 0, i 1, i 2, eq_ix3 i⟩
  have ht : transpose S22x1536x16 [0, 2, 1] (QCA m c) transposes_S22x16x1536_S22x1536x16_0_2_1 (ix3 b d r) = QCA m c (ix3 b r d) := by
    pointwise []
  rw [ht]
  show QNC (F := Ideal) (gXm m c) (eXm m c) (qXm m c) (sXm m c) b.val (ix3 0 r d) = _
  rw [v0_eq, v1_eq, gX_eq, eX_eq]
  exact qc_eq _ _ _ _ b r d

end Cert.KernelIdeal.Hand

end
-- ==== Proof.lean ====
/-
  The kernel runs, ends with its arguments unchanged and every counter at zero; its ideal program is the kernel over the extended reals;
  and over the extended reals its six results are the reference's.
-/
module

public import proofs.«01_k».proof.Defs
public import proofs.«01_k».proof.Proof.Gen.Kernel
public import proofs.«01_k».proof.Proof.Gen.KernelIdeal
public import proofs.«01_k».proof.Proof.KernelRun
public import proofs.«01_k».proof.Proof.KernelIdealRun
public import proofs.«01_k».proof.Proof.AllValue
public import Idealize.ShloMosaic.Adequacy
public import Idealize.ShloMosaic.Init

@[expose] public section

noncomputable section

namespace Cert.Proof

open Idealize.ShloMosaic Idealize.ShloMosaic.TcCoe Idealize.SL.Sem Cert.Kernel

theorem value : @algebraic_KernelIdeal_ReferenceIdeal Cert.KernelIdeal.Gen.facts Cert.ReferenceIdeal.Gen.facts := by
  intro m g m' g' _ hm
  open Cert.KernelIdeal.Hand in
  refine ⟨fun c => OUT (gXm m c) (eXm m c) (qXm m c) (sXm m c),
    fun c => transpose Cert.KernelIdeal.S22x8960x16 [0, 2, 1] (P1A m c) Cert.KernelIdeal.Gen.transposes_S22x16x8960_S22x8960x16_0_2_1,
    fun c => transpose Cert.KernelIdeal.S22x8960x16 [0, 2, 1] (PCA m c) Cert.KernelIdeal.Gen.transposes_S22x16x8960_S22x8960x16_0_2_1,
    fun c => transpose Cert.KernelIdeal.S22x16 [1, 0] (PSO (gXm m c) (eXm m c) (qXm m c) (sXm m c) 22) Cert.KernelIdeal.Gen.transposes_S16x22_S22x16_1_0,
    fun c => transpose Cert.KernelIdeal.S22x1536x16 [0, 2, 1] (QCA m c) Cert.KernelIdeal.Gen.transposes_S22x16x1536_S22x1536x16_0_2_1,
    fun c => transpose Cert.KernelIdeal.S22x16 [1, 0] (QNO (gXm m c) (eXm m c) (qXm m c) (sXm m c) 22) Cert.KernelIdeal.Gen.transposes_S16x22_S22x16_1_0,
    (θ_run Cert.KernelIdeal.defs _ _).mono (fun r h c => ?_) (Cert.KernelIdeal.Hand.run_all m g), ?_⟩
  · exact h c
  · refine (θ_run Cert.ReferenceIdeal.defs _ _).mono (fun r h c => ?_) (Cert.ReferenceIdeal.Value.run_blocks m' g')
    obtain ⟨h0, h1, h2, h3, h4, h5, ha⟩ := h c
    obtain ⟨e0, e1, e2, e3⟩ := hm c
    refine ⟨h0.trans ((Cert.ReferenceIdeal.Hand.arr_err m' c).trans ?_), h1.trans ((Cert.ReferenceIdeal.Hand.arr_p1 m' c).trans ?_),
      h2.trans ((Cert.ReferenceIdeal.Hand.arr_pc m' c).trans ?_), h3.trans ((Cert.ReferenceIdeal.Hand.arr_ps m' c).trans ?_),
      h4.trans ((Cert.ReferenceIdeal.Hand.arr_qc m' c).trans ?_), h5.trans ((Cert.ReferenceIdeal.Hand.arr_qs m' c).trans ?_), ha⟩
    · rw [e0, e1, e2, e3]; exact (Cert.KernelIdeal.Hand.err_out m c).symm
    · rw [e0, e1, e2, e3]; exact (Cert.KernelIdeal.Hand.p1_out m c).symm
    · rw [e0, e1, e2, e3]; exact (Cert.KernelIdeal.Hand.pc_out m c).symm
    · rw [e0, e1, e2, e3]; exact (Cert.KernelIdeal.Hand.ps_out m c).symm
    · rw [e0, e1, e2, e3]; exact (Cert.KernelIdeal.Hand.qc_out m c).symm
    · rw [e0, e1, e2, e3]; exact (Cert.KernelIdeal.Hand.qs_out m c).symm

theorem claim : Cert.Claim := ⟨Cert.Kernel.Gen.facts, Cert.KernelIdeal.Gen.facts, Cert.ReferenceIdeal.Gen.facts,
  fun m ρ _ => Cert.Kernel.Hand.frame_main m ρ, fun m ρ _ => Cert.KernelIdeal.Hand.frame_main m ρ,
  fun m ρ _ => Cert.ReferenceIdeal.Gen.frame m ρ, trivial, value⟩

end Cert.Proof

end
